-- ==== Defs.lean ====
def Pre_KernelIdeal [hPre_finite_and_nonzero : Cert.Pre_finite_and_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonzero [hPre_finite_and_nonzero : Cert.Pre_finite_and_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_nonzero [hReferenceIdeal : Cert.ReferenceIdeal.Facts] [hPre_finite_and_nonzero : Cert.Pre_finite_and_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v525) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite_and_nonzero : Cert.Pre_finite_and_nonzero.Facts),
    quiescent_KernelIdeal (hKernelIdeal := hKernelIdeal) (hPre_finite_and_nonzero := hPre_finite_and_nonzero)
    ∧ quiescent_ReferenceIdeal (hReferenceIdeal := hReferenceIdeal)
    ∧ quiescent_ReferenceIdeal_pre_finite_and_nonzero (hReferenceIdeal := hReferenceIdeal) (hPre_finite_and_nonzero := hPre_finite_and_nonzero)
    ∧ algebraic_KernelIdeal_ReferenceIdeal (hKernelIdeal := hKernelIdeal) (hReferenceIdeal := hReferenceIdeal) (hPre_finite_and_nonzero := hPre_finite_and_nonzero)
-- ==== Pre_finite_and_nonzero.lean ====
abbrev S4096x4x100 : Shape := ⟨3, ![4096, 4, 100]⟩
abbrev S4096x100 : Shape := ⟨2, ![4096, 100]⟩
abbrev S8x17 : Shape := ⟨2, ![8, 17]⟩
abbrev S_ : Shape := ⟨0, ![]⟩
abbrev S8 : Shape := ⟨1, ![8]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel
  bcast_S_S8x17 : S_.BroadcastsInDim S8x17 (![] : Fin 0 → Fin S8x17.rank)
  reducesTo_S8x17_S_d0_1 : S8x17.ReducesTo [0, 1] S_
  reducesTo_S8x17_S8_d1 : S8x17.ReducesTo [1] S8
  bcast_S_S8 : S_.BroadcastsInDim S8 (![] : Fin 0 → Fin S8.rank)
  reducesTo_S8_S_d0 : S8.ReducesTo [0] S_

variable [Facts]

def fn {F : FTy → Type} [FloatOps F] (main_arg0 : FVec F S4096x4x100 .f32) (main_arg1 : FVec F S4096x100 .f32) (main_arg2 : FVec F S8x17 .f32) : IVec S_ 1 :=
  let main_v0 : FVec F S4096x100 .f32 := Host.absf main_arg1
  let main_cst : FVec F S_ .f32 := constant S_ .f32 0x7F800000#32
  let main_v1 : FVec F S4096x100 .f32 := broadcastInDim S4096x100 ![] bcast_S_S4096x100 main_cst
  let main_v2 : IVec S4096x100 1 := cmpf .olt main_v0 main_v1
  let main_c : IVec S_ 1 := constantI S_ 1 1#1
  let main_v3 : IVec S_ 1 := (fun x v => Host.reduce IntOp.andi x v reducesTo_S4096x100_S_d0_1 h_S_) main_v2 main_c
  let main_v4 : FVec F S8x17 .f32 := Host.absf main_arg2
  let main_cst_0 : FVec F S_ .f32 := constant S_ .f32 0x7F800000#32
  let main_v5 : FVec F S8x17 .f32 := broadcastInDim S8x17 ![] bcast_S_S8x17 main_cst_0
  let main_v6 : IVec S8x17 1 := cmpf .olt main_v4 main_v5
  let main_c_1 : IVec S_ 1 := constantI S_ 1 1#1
  let main_v7 : IVec S_ 1 := (fun x v => Host.reduce IntOp.andi x v reducesTo_S8x17_S_d0_1 h_S_) main_v6 main_c_1
  let main_v8 : IVec S_ 1 := andi main_v3 main_v7
  let main_v9 : FVec F S8x17 .f32 := Host.absf main_arg2
  let main_cst_2 : FVec F S_ .f32 := constant S_ .f32 0x00000000#32
  let main_v10 : FVec F S8 .f32 := (fun x v => Host.reduceAdd x v reducesTo_S8x17_S8_d1 h_S_) main_v9 main_cst_2
  let main_cst_3 : FVec F S_ .f32 := constant S_ .f32 0x00000000#32
  let main_v11 : FVec F S8 .f32 := broadcastInDim S8 ![] bcast_S_S8 main_cst_3
  let main_v12 : IVec S8 1 := cmpf .ogt main_v10 main_v11
  let main_c_4 : IVec S_ 1 := constantI S_ 1 1#1
  let main_v13 : IVec S_ 1 := (fun x v => Host.reduce IntOp.andi x v reducesTo_S8_S_d0 h_S_) main_v12 main_c_4
  let main_v14 : IVec S_ 1 := andi main_v8 main_v13
  main_v14
-- ==== KernelIdeal.lean ====
abbrev S4096x4x100 : Shape := ⟨3, ![4096, 4, 100]⟩
abbrev S4096x100 : Shape := ⟨2, ![4096, 100]⟩
abbrev S8x17 : Shape := ⟨2, ![8, 17]⟩
abbrev S_ : Shape := ⟨0, ![]⟩
abbrev S8 : Shape := ⟨1, ![8]⟩
abbrev S8x1 : Shape := ⟨2, ![8, 1]⟩
abbrev S1x1 : Shape := ⟨2, ![1, 1]⟩
abbrev S1536x4x100 : Shape := ⟨3, ![1536, 4, 100]⟩
abbrev S1536x400 : Shape := ⟨2, ![1536, 400]⟩
abbrev S136 : Shape := ⟨1, ![136]⟩
abbrev S272 : Shape := ⟨1, ![272]⟩
abbrev S16 : Shape := ⟨1, ![16]⟩
abbrev S1536x100 : Shape := ⟨2, ![1536, 100]⟩
abbrev S16896 : Shape := ⟨1, ![16896]⟩
abbrev S16x100 : Shape := ⟨2, ![16, 100]⟩
abbrev S16x400 : Shape := ⟨2, ![16, 400]⟩
abbrev S56x16 : Shape := ⟨2, ![56, 16]⟩
abbrev S176 : Shape := ⟨1, ![176]⟩
abbrev S1x16 : Shape := ⟨2, ![1, 16]⟩
abbrev S2560x100 : Shape := ⟨2, ![2560, 100]⟩
abbrev S100x2560 : Shape := ⟨2, ![100, 2560]⟩
abbrev S2560x4x100 : Shape := ⟨3, ![2560, 4, 100]⟩
abbrev S4x100x2560 : Shape := ⟨3, ![4, 100, 2560]⟩
abbrev S8x16 : Shape := ⟨2, ![8, 16]⟩
abbrev S11x2560 : Shape := ⟨2, ![11, 2560]⟩
abbrev S100x128 : Shape := ⟨2, ![100, 128]⟩
abbrev S4x100x128 : Shape := ⟨3, ![4, 100, 128]⟩
abbrev S11x128 : Shape := ⟨2, ![11, 128]⟩
abbrev S128 : Shape := ⟨1, ![128]⟩
abbrev S1x128 : Shape := ⟨2, ![1, 128]⟩
abbrev S1x100x128 : Shape := ⟨3, ![1, 100, 128]⟩
abbrev S10x128 : Shape := ⟨2, ![10, 128]⟩
abbrev S10x1x128 : Shape := ⟨3, ![10, 1, 128]⟩
abbrev S1x10x128 : Shape := ⟨3, ![1, 10, 128]⟩
abbrev S10x10x128 : Shape := ⟨3, ![10, 10, 128]⟩
abbrev S1536x11 : Shape := ⟨2, ![1536, 11]⟩
abbrev S2560x11 : Shape := ⟨2, ![2560, 11]⟩
abbrev S4096x11 : Shape := ⟨2, ![4096, 11]⟩

abbrev nBuf : Table → Nat
  | .hbm => 40
  | .local .tc .vmem => 6
  | .local .tc .smem => 2
  | .local .scVector .vmem => 6
  | _ => 0

abbrev bufTy : (tb : Table) → Fin (nBuf tb) → BufTy
  | .hbm, ⟨0, _⟩ => ⟨S4096x4x100, .f32⟩
  | .hbm, ⟨1, _⟩ => ⟨S4096x100, .f32⟩
  | .hbm, ⟨2, _⟩ => ⟨S8x17, .f32⟩
  | .hbm, ⟨3, _⟩ => ⟨S8x17, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x17, .f32⟩
  | .hbm, ⟨8, _⟩ => ⟨S8x17, .f32⟩
  | .hbm, ⟨9, _⟩ => ⟨S_, .f32⟩
  | .hbm, ⟨10, _⟩ => ⟨S_, .f32⟩
  | .hbm, ⟨11, _⟩ => ⟨S8x17, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1536x4x100, .f32⟩
  | .hbm, ⟨19, _⟩ => ⟨S1536x400, .f32⟩
  | .hbm, ⟨20, _⟩ => ⟨S136, .f32⟩
  | .hbm, ⟨21, _⟩ => ⟨S136, .f32⟩
  | .hbm, ⟨22, _⟩ => ⟨S272, .f32⟩
  | .hbm, ⟨23, _⟩ => ⟨S16, .f32⟩
  | .hbm, ⟨24, _⟩ => ⟨S1536x100, .f32⟩
  | .hbm, ⟨25, _⟩ => ⟨S16896, .f32⟩
  | .hbm, ⟨26, _⟩ => ⟨S2560x100, .f32⟩
  | .hbm, ⟨27, _⟩ => ⟨S100x2560, .f32⟩
  | .hbm, ⟨28, _⟩ => ⟨S2560x4x100, .f32⟩
  | .hbm, ⟨29, _⟩ => ⟨S4x100x2560, .f32⟩
  | .hbm, ⟨30, _⟩ => ⟨S8x1, .f32⟩
  | .hbm, ⟨31, _⟩ => ⟨S8x16, .f32⟩
  | .hbm, ⟨32, _⟩ => ⟨S8x16, .f32⟩
  | .hbm, ⟨33, _⟩ => ⟨S8x16, .f32⟩
  | .hbm, ⟨34, _⟩ => ⟨S8x17, .f32⟩
  | .hbm, ⟨35, _⟩ => ⟨S1x1, .f32⟩
  | .hbm, ⟨36, _⟩ => ⟨S11x2560, .f32⟩
  | .hbm, ⟨37, _⟩ => ⟨S1536x11, .f32⟩
  | .hbm, ⟨38, _⟩ => ⟨S2560x11, .f32⟩
  | .hbm, ⟨39, _⟩ => ⟨S4096x11, .f32⟩
  | .local .tc .vmem, ⟨0, _⟩ => ⟨S100x128, .f32⟩
  | .local .tc .vmem, ⟨1, _⟩ => ⟨S100x128, .f32⟩
  | .local .tc .vmem, ⟨2, _⟩ => ⟨S4x100x128, .f32⟩
  | .local .tc .vmem, ⟨3, _⟩ => ⟨S4x100x128, .f32⟩
  | .local .tc .vmem, ⟨4, _⟩ => ⟨S11x128, .f32⟩
  | .local .tc .vmem, ⟨5, _⟩ => ⟨S11x128, .f32⟩
  | .local .tc .smem, ⟨0, _⟩ => ⟨S8x17, .f32⟩
  | .local .tc .smem, ⟨1, _⟩ => ⟨S1x1, .f32⟩
  | .local .scVector .vmem, ⟨0, _⟩ => ⟨S16x100, .f32⟩
  | .local .scVector .vmem, ⟨1, _⟩ => ⟨S16x400, .f32⟩
  | .local .scVector .vmem, ⟨2, _⟩ => ⟨S272, .f32⟩
  | .local .scVector .vmem, ⟨3, _⟩ => ⟨S16, .f32⟩
  | .local .scVector .vmem, ⟨4, _⟩ => ⟨S56x16, .f32⟩
  | .local .scVector .vmem, ⟨5, _⟩ => ⟨S176, .f32⟩
  | _, _ => ⟨S4096x4x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v18_scv : Ref sig .scVector := ⟨.hbm, 24, rfl⟩
abbrev main_v13_scv : Ref sig .scVector := ⟨.hbm, 19, rfl⟩
abbrev main_v16_scv : Ref sig .scVector := ⟨.hbm, 22, rfl⟩
abbrev main_v17_scv : Ref sig .scVector := ⟨.hbm, 23, rfl⟩
abbrev main_v19_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg2_0 : Ref sig .tc := ⟨.smem, 0, rfl⟩
abbrev cc1_stg3_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c3_i32 : BitVec 32 := 3#32
  let v5 : BitVec 32 := Scalar.addi c0_i32_0 c3_i32
  let c1_i32 : BitVec 32 := 1#32
  ⟨c0_i32_0, v5, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_2 : BitVec 32 := 3#32
  let v6 : BitVec 32 := Scalar.muli v1 c3_i32_2
  let c0_i32_0 : BitVec 32 := 0#32
  let c1_i32 : BitVec 32 := 1#32
  let arg13 : BitVec 32 := Scf.iv c0_i32_0 c1_i32 k0_t1
  let v7 : BitVec 32 := Scalar.addi v6 arg13
  let c16_i32 : BitVec 32 := 16#32
  let v8 : BitVec 32 := Scalar.muli v7 c16_i32
  let c0_i32_2632_r2 : BitVec 32 := 0#32
  ![v8.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_2 : BitVec 32 := 3#32
  let v6 : BitVec 32 := Scalar.muli v1 c3_i32_2
  let c0_i32_0 : BitVec 32 := 0#32
  let c1_i32 : BitVec 32 := 1#32
  let arg13 : BitVec 32 := Scf.iv c0_i32_0 c1_i32 k0_t1
  let v7 : BitVec 32 := Scalar.addi v6 arg13
  let c16_i32_3 : BitVec 32 := 16#32
  let v9 : BitVec 32 := Scalar.muli v7 c16_i32_3
  let c0_i32_2632_r3 : BitVec 32 := 0#32
  ![v9.toNat, 0]

def k0_chk1 (v3 : IVec S16 32) (v10 : IVec S16 32) : Prop :=
  (∀ a x, ((![v3, v10] : Fin 2 → IVec S16 32) a x).toNat < S16x100.size a)
theorem k0_idx1_inb : ∀ (v3 : IVec S16 32) (v10 : IVec S16 32) (k0_hw1 : k0_chk1 v3 v10), ∀ a x, ((![v3, v10] : Fin 2 → IVec S16 32) a x).toNat < S16x100.size a := fun v3 v10 k0_hw1 => k0_hw1

def k0_chk2 (v3 : IVec S16 32) (v12 : IVec S16 32) : Prop :=
  (∀ a x, ((![v3, v12] : Fin 2 → IVec S16 32) a x).toNat < S16x100.size a)
theorem k0_idx2_inb : ∀ (v3 : IVec S16 32) (v12 : IVec S16 32) (k0_hw2 : k0_chk2 v3 v12), ∀ a x, ((![v3, v12] : Fin 2 → IVec S16 32) a x).toNat < S16x100.size a := fun v3 v12 k0_hw2 => k0_hw2

def k0_chk3 (v3 : IVec S16 32) (v15 : IVec S16 32) : Prop :=
  (∀ a x, ((![v3, v15] : Fin 2 → IVec S16 32) a x).toNat < S16x100.size a)
theorem k0_idx3_inb : ∀ (v3 : IVec S16 32) (v15 : IVec S16 32) (k0_hw3 : k0_chk3 v3 v15), ∀ a x, ((![v3, v15] : Fin 2 → IVec S16 32) a x).toNat < S16x100.size a := fun v3 v15 k0_hw3 => k0_hw3

def k0_chk4 (v3 : IVec S16 32) (v18 : IVec S16 32) : Prop :=
  (∀ a x, ((![v3, v18] : Fin 2 → IVec S16 32) a x).toNat < S16x100.size a)
theorem k0_idx4_inb : ∀ (v3 : IVec S16 32) (v18 : IVec S16 32) (k0_hw4 : k0_chk4 v3 v18), ∀ a x, ((![v3, v18] : Fin 2 → IVec S16 32) a x).toNat < S16x100.size a := fun v3 v18 k0_hw4 => k0_hw4

def k0_chk5 (v3 : IVec S16 32) (v21 : IVec S16 32) : Prop :=
  (∀ a x, ((![v3, v21] : Fin 2 → IVec S16 32) a x).toNat < S16x100.size a)
theorem k0_idx5_inb : ∀ (v3 : IVec S16 32) (v21 : IVec S16 32) (k0_hw5 : k0_chk5 v3 v21), ∀ a x, ((![v3, v21] : Fin 2 → IVec S16 32) a x).toNat < S16x100.size a := fun v3 v21 k0_hw5 => k0_hw5

def k0_chk6 (v3 : IVec S16 32) (v24 : IVec S16 32) : Prop :=
  (∀ a x, ((![v3, v24] : Fin 2 → IVec S16 32) a x).toNat < S16x100.size a)
theorem k0_idx6_inb : ∀ (v3 : IVec S16 32) (v24 : IVec S16 32) (k0_hw6 : k0_chk6 v3 v24), ∀ a x, ((![v3, v24] : Fin 2 → IVec S16 32) a x).toNat < S16x100.size a := fun v3 v24 k0_hw6 => k0_hw6

def k0_chk7 (v3 : IVec S16 32) (v27 : IVec S16 32) : Prop :=
  (∀ a x, ((![v3, v27] : Fin 2 → IVec S16 32) a x).toNat < S16x100.size a)
theorem k0_idx7_inb : ∀ (v3 : IVec S16 32) (v27 : IVec S16 32) (k0_hw7 : k0_chk7 v3 v27), ∀ a x, ((![v3, v27] : Fin 2 → IVec S16 32) a x).toNat < S16x100.size a := fun v3 v27 k0_hw7 => k0_hw7

def k0_chk8 (v3 : IVec S16 32) (v30 : IVec S16 32) : Prop :=
  (∀ a x, ((![v3, v30] : Fin 2 → IVec S16 32) a x).toNat < S16x100.size a)
theorem k0_idx8_inb : ∀ (v3 : IVec S16 32) (v30 : IVec S16 32) (k0_hw8 : k0_chk8 v3 v30), ∀ a x, ((![v3, v30] : Fin 2 → IVec S16 32) a x).toNat < S16x100.size a := fun v3 v30 k0_hw8 => k0_hw8

def k0_chk9 (v3 : IVec S16 32) (v33 : IVec S16 32) : Prop :=
  (∀ a x, ((![v3, v33] : Fin 2 → IVec S16 32) a x).toNat < S16x100.size a)
theorem k0_idx9_inb : ∀ (v3 : IVec S16 32) (v33 : IVec S16 32) (k0_hw9 : k0_chk9 v3 v33), ∀ a x, ((![v3, v33] : Fin 2 → IVec S16 32) a x).toNat < S16x100.size a := fun v3 v33 k0_hw9 => k0_hw9

def k0_chk10 (v3 : IVec S16 32) (v36 : IVec S16 32) : Prop :=
  (∀ a x, ((![v3, v36] : Fin 2 → IVec S16 32) a x).toNat < S16x100.size a)
theorem k0_idx10_inb : ∀ (v3 : IVec S16 32) (v36 : IVec S16 32) (k0_hw10 : k0_chk10 v3 v36), ∀ a x, ((![v3, v36] : Fin 2 → IVec S16 32) a x).toNat < S16x100.size a := fun v3 v36 k0_hw10 => k0_hw10

def k0_chk11 (v3 : IVec S16 32) (v39 : IVec S16 32) : Prop :=
  (∀ a x, ((![v3, v39] : Fin 2 → IVec S16 32) a x).toNat < S16x100.size a)
theorem k0_idx11_inb : ∀ (v3 : IVec S16 32) (v39 : IVec S16 32) (k0_hw11 : k0_chk11 v3 v39), ∀ a x, ((![v3, v39] : Fin 2 → IVec S16 32) a x).toNat < S16x100.size a := fun v3 v39 k0_hw11 => k0_hw11

def k0_chk12 (v3 : IVec S16 32) (v41 : IVec S16 32) : Prop :=
  (∀ a x, ((![v3, v41] : Fin 2 → IVec S16 32) a x).toNat < S16x100.size a)
theorem k0_idx12_inb : ∀ (v3 : IVec S16 32) (v41 : IVec S16 32) (k0_hw12 : k0_chk12 v3 v41), ∀ a x, ((![v3, v41] : Fin 2 → IVec S16 32) a x).toNat < S16x100.size a := fun v3 v41 k0_hw12 => k0_hw12

def k0_chk13 (v3 : IVec S16 32) (v44 : IVec S16 32) : Prop :=
  (∀ a x, ((![v3, v44] : Fin 2 → IVec S16 32) a x).toNat < S16x100.size a)
theorem k0_idx13_inb : ∀ (v3 : IVec S16 32) (v44 : IVec S16 32) (k0_hw13 : k0_chk13 v3 v44), ∀ a x, ((![v3, v44] : Fin 2 → IVec S16 32) a x).toNat < S16x100.size a := fun v3 v44 k0_hw13 => k0_hw13

def k0_chk14 (v3 : IVec S16 32) (v47 : IVec S16 32) : Prop :=
  (∀ a x, ((![v3, v47] : Fin 2 → IVec S16 32) a x).toNat < S16x100.size a)
theorem k0_idx14_inb : ∀ (v3 : IVec S16 32) (v47 : IVec S16 32) (k0_hw14 : k0_chk14 v3 v47), ∀ a x, ((![v3, v47] : Fin 2 → IVec S16 32) a x).toNat < S16x100.size a := fun v3 v47 k0_hw14 => k0_hw14

def k0_chk15 (v3 : IVec S16 32) (v50 : IVec S16 32) : Prop :=
  (∀ a x, ((![v3, v50] : Fin 2 → IVec S16 32) a x).toNat < S16x100.size a)
theorem k0_idx15_inb : ∀ (v3 : IVec S16 32) (v50 : IVec S16 32) (k0_hw15 : k0_chk15 v3 v50), ∀ a x, ((![v3, v50] : Fin 2 → IVec S16 32) a x).toNat < S16x100.size a := fun v3 v50 k0_hw15 => k0_hw15

def k0_chk16 (v3 : IVec S16 32) (v53 : IVec S16 32) : Prop :=
  (∀ a x, ((![v3, v53] : Fin 2 → IVec S16 32) a x).toNat < S16x100.size a)
theorem k0_idx16_inb : ∀ (v3 : IVec S16 32) (v53 : IVec S16 32) (k0_hw16 : k0_chk16 v3 v53), ∀ a x, ((![v3, v53] : Fin 2 → IVec S16 32) a x).toNat < S16x100.size a := fun v3 v53 k0_hw16 => k0_hw16

def k0_chk17 (v3 : IVec S16 32) (v56 : IVec S16 32) : Prop :=
  (∀ a x, ((![v3, v56] : Fin 2 → IVec S16 32) a x).toNat < S16x100.size a)
theorem k0_idx17_inb : ∀ (v3 : IVec S16 32) (v56 : IVec S16 32) (k0_hw17 : k0_chk17 v3 v56), ∀ a x, ((![v3, v56] : Fin 2 → IVec S16 32) a x).toNat < S16x100.size a := fun v3 v56 k0_hw17 => k0_hw17

def k0_chk18 (v3 : IVec S16 32) (v59 : IVec S16 32) : Prop :=
  (∀ a x, ((![v3, v59] : Fin 2 → IVec S16 32) a x).toNat < S16x100.size a)
theorem k0_idx18_inb : ∀ (v3 : IVec S16 32) (v59 : IVec S16 32) (k0_hw18 : k0_chk18 v3 v59), ∀ a x, ((![v3, v59] : Fin 2 → IVec S16 32) a x).toNat < S16x100.size a := fun v3 v59 k0_hw18 => k0_hw18

def k0_chk19 (v3 : IVec S16 32) (v62 : IVec S16 32) : Prop :=
  (∀ a x, ((![v3, v62] : Fin 2 → IVec S16 32) a x).toNat < S16x100.size a)
theorem k0_idx19_inb : ∀ (v3 : IVec S16 32) (v62 : IVec S16 32) (k0_hw19 : k0_chk19 v3 v62), ∀ a x, ((![v3, v62] : Fin 2 → IVec S16 32) a x).toNat < S16x100.size a := fun v3 v62 k0_hw19 => k0_hw19

def k0_chk20 (v3 : IVec S16 32) (v65 : IVec S16 32) : Prop :=
  (∀ a x, ((![v3, v65] : Fin 2 → IVec S16 32) a x).toNat < S16x100.size a)
theorem k0_idx20_inb : ∀ (v3 : IVec S16 32) (v65 : IVec S16 32) (k0_hw20 : k0_chk20 v3 v65), ∀ a x, ((![v3, v65] : Fin 2 → IVec S16 32) a x).toNat < S16x100.size a := fun v3 v65 k0_hw20 => k0_hw20

def k0_chk21 (v3 : IVec S16 32) (v68 : IVec S16 32) : Prop :=
  (∀ a x, ((![v3, v68] : Fin 2 → IVec S16 32) a x).toNat < S16x100.size a)
theorem k0_idx21_inb : ∀ (v3 : IVec S16 32) (v68 : IVec S16 32) (k0_hw21 : k0_chk21 v3 v68), ∀ a x, ((![v3, v68] : Fin 2 → IVec S16 32) a x).toNat < S16x100.size a := fun v3 v68 k0_hw21 => k0_hw21

def k0_chk22 (v3 : IVec S16 32) (v70 : IVec S16 32) : Prop :=
  (∀ a x, ((![v3, v70] : Fin 2 → IVec S16 32) a x).toNat < S16x100.size a)
theorem k0_idx22_inb : ∀ (v3 : IVec S16 32) (v70 : IVec S16 32) (k0_hw22 : k0_chk22 v3 v70), ∀ a x, ((![v3, v70] : Fin 2 → IVec S16 32) a x).toNat < S16x100.size a := fun v3 v70 k0_hw22 => k0_hw22

def k0_chk23 (v3 : IVec S16 32) (v73 : IVec S16 32) : Prop :=
  (∀ a x, ((![v3, v73] : Fin 2 → IVec S16 32) a x).toNat < S16x100.size a)
theorem k0_idx23_inb : ∀ (v3 : IVec S16 32) (v73 : IVec S16 32) (k0_hw23 : k0_chk23 v3 v73), ∀ a x, ((![v3, v73] : Fin 2 → IVec S16 32) a x).toNat < S16x100.size a := fun v3 v73 k0_hw23 => k0_hw23

def k0_chk24 (v3 : IVec S16 32) (v76 : IVec S16 32) : Prop :=
  (∀ a x, ((![v3, v76] : Fin 2 → IVec S16 32) a x).toNat < S16x100.size a)
theorem k0_idx24_inb : ∀ (v3 : IVec S16 32) (v76 : IVec S16 32) (k0_hw24 : k0_chk24 v3 v76), ∀ a x, ((![v3, v76] : Fin 2 → IVec S16 32) a x).toNat < S16x100.size a := fun v3 v76 k0_hw24 => k0_hw24

def k0_chk25 (v3 : IVec S16 32) (v79 : IVec S16 32) : Prop :=
  (∀ a x, ((![v3, v79] : Fin 2 → IVec S16 32) a x).toNat < S16x100.size a)
theorem k0_idx25_inb : ∀ (v3 : IVec S16 32) (v79 : IVec S16 32) (k0_hw25 : k0_chk25 v3 v79), ∀ a x, ((![v3, v79] : Fin 2 → IVec S16 32) a x).toNat < S16x100.size a := fun v3 v79 k0_hw25 => k0_hw25

def k0_chk26 (v3 : IVec S16 32) (v82 : IVec S16 32) : Prop :=
  (∀ a x, ((![v3, v82] : Fin 2 → IVec S16 32) a x).toNat < S16x100.size a)
theorem k0_idx26_inb : ∀ (v3 : IVec S16 32) (v82 : IVec S16 32) (k0_hw26 : k0_chk26 v3 v82), ∀ a x, ((![v3, v82] : Fin 2 → IVec S16 32) a x).toNat < S16x100.size a := fun v3 v82 k0_hw26 => k0_hw26

def k0_chk27 (v3 : IVec S16 32) (v85 : IVec S16 32) : Prop :=
  (∀ a x, ((![v3, v85] : Fin 2 → IVec S16 32) a x).toNat < S16x100.size a)
theorem k0_idx27_inb : ∀ (v3 : IVec S16 32) (v85 : IVec S16 32) (k0_hw27 : k0_chk27 v3 v85), ∀ a x, ((![v3, v85] : Fin 2 → IVec S16 32) a x).toNat < S16x100.size a := fun v3 v85 k0_hw27 => k0_hw27

def k0_chk28 (v3 : IVec S16 32) (v88 : IVec S16 32) : Prop :=
  (∀ a x, ((![v3, v88] : Fin 2 → IVec S16 32) a x).toNat < S16x100.size a)
theorem k0_idx28_inb : ∀ (v3 : IVec S16 32) (v88 : IVec S16 32) (k0_hw28 : k0_chk28 v3 v88), ∀ a x, ((![v3, v88] : Fin 2 → IVec S16 32) a x).toNat < S16x100.size a := fun v3 v88 k0_hw28 => k0_hw28

def k0_chk29 (v3 : IVec S16 32) (v91 : IVec S16 32) : Prop :=
  (∀ a x, ((![v3, v91] : Fin 2 → IVec S16 32) a x).toNat < S16x100.size a)
theorem k0_idx29_inb : ∀ (v3 : IVec S16 32) (v91 : IVec S16 32) (k0_hw29 : k0_chk29 v3 v91), ∀ a x, ((![v3, v91] : Fin 2 → IVec S16 32) a x).toNat < S16x100.size a := fun v3 v91 k0_hw29 => k0_hw29

def k0_chk30 (v3 : IVec S16 32) (v94 : IVec S16 32) : Prop :=
  (∀ a x, ((![v3, v94] : Fin 2 → IVec S16 32) a x).toNat < S16x100.size a)
theorem k0_idx30_inb : ∀ (v3 : IVec S16 32) (v94 : IVec S16 32) (k0_hw30 : k0_chk30 v3 v94), ∀ a x, ((![v3, v94] : Fin 2 → IVec S16 32) a x).toNat < S16x100.size a := fun v3 v94 k0_hw30 => k0_hw30

def k0_chk31 (v3 : IVec S16 32) (v97 : IVec S16 32) : Prop :=
  (∀ a x, ((![v3, v97] : Fin 2 → IVec S16 32) a x).toNat < S16x100.size a)
theorem k0_idx31_inb : ∀ (v3 : IVec S16 32) (v97 : IVec S16 32) (k0_hw31 : k0_chk31 v3 v97), ∀ a x, ((![v3, v97] : Fin 2 → IVec S16 32) a x).toNat < S16x100.size a := fun v3 v97 k0_hw31 => k0_hw31

def k0_chk32 (v3 : IVec S16 32) (v99 : IVec S16 32) : Prop :=
  (∀ a x, ((![v3, v99] : Fin 2 → IVec S16 32) a x).toNat < S16x100.size a)
theorem k0_idx32_inb : ∀ (v3 : IVec S16 32) (v99 : IVec S16 32) (k0_hw32 : k0_chk32 v3 v99), ∀ a x, ((![v3, v99] : Fin 2 → IVec S16 32) a x).toNat < S16x100.size a := fun v3 v99 k0_hw32 => k0_hw32

def k0_chk33 (v3 : IVec S16 32) (v102 : IVec S16 32) : Prop :=
  (∀ a x, ((![v3, v102] : Fin 2 → IVec S16 32) a x).toNat < S16x100.size a)
theorem k0_idx33_inb : ∀ (v3 : IVec S16 32) (v102 : IVec S16 32) (k0_hw33 : k0_chk33 v3 v102), ∀ a x, ((![v3, v102] : Fin 2 → IVec S16 32) a x).toNat < S16x100.size a := fun v3 v102 k0_hw33 => k0_hw33

def k0_chk34 (v3 : IVec S16 32) (v105 : IVec S16 32) : Prop :=
  (∀ a x, ((![v3, v105] : Fin 2 → IVec S16 32) a x).toNat < S16x100.size a)
theorem k0_idx34_inb : ∀ (v3 : IVec S16 32) (v105 : IVec S16 32) (k0_hw34 : k0_chk34 v3 v105), ∀ a x, ((![v3, v105] : Fin 2 → IVec S16 32) a x).toNat < S16x100.size a := fun v3 v105 k0_hw34 => k0_hw34

def k0_chk35 (v3 : IVec S16 32) (v108 : IVec S16 32) : Prop :=
  (∀ a x, ((![v3, v108] : Fin 2 → IVec S16 32) a x).toNat < S16x100.size a)
theorem k0_idx35_inb : ∀ (v3 : IVec S16 32) (v108 : IVec S16 32) (k0_hw35 : k0_chk35 v3 v108), ∀ a x, ((![v3, v108] : Fin 2 → IVec S16 32) a x).toNat < S16x100.size a := fun v3 v108 k0_hw35 => k0_hw35

def k0_chk36 (v3 : IVec S16 32) (v111 : IVec S16 32) : Prop :=
  (∀ a x, ((![v3, v111] : Fin 2 → IVec S16 32) a x).toNat < S16x100.size a)
theorem k0_idx36_inb : ∀ (v3 : IVec S16 32) (v111 : IVec S16 32) (k0_hw36 : k0_chk36 v3 v111), ∀ a x, ((![v3, v111] : Fin 2 → IVec S16 32) a x).toNat < S16x100.size a := fun v3 v111 k0_hw36 => k0_hw36

def k0_chk37 (v3 : IVec S16 32) (v114 : IVec S16 32) : Prop :=
  (∀ a x, ((![v3, v114] : Fin 2 → IVec S16 32) a x).toNat < S16x100.size a)
theorem k0_idx37_inb : ∀ (v3 : IVec S16 32) (v114 : IVec S16 32) (k0_hw37 : k0_chk37 v3 v114), ∀ a x, ((![v3, v114] : Fin 2 → IVec S16 32) a x).toNat < S16x100.size a := fun v3 v114 k0_hw37 => k0_hw37

def k0_chk38 (v3 : IVec S16 32) (v117 : IVec S16 32) : Prop :=
  (∀ a x, ((![v3, v117] : Fin 2 → IVec S16 32) a x).toNat < S16x100.size a)
theorem k0_idx38_inb : ∀ (v3 : IVec S16 32) (v117 : IVec S16 32) (k0_hw38 : k0_chk38 v3 v117), ∀ a x, ((![v3, v117] : Fin 2 → IVec S16 32) a x).toNat < S16x100.size a := fun v3 v117 k0_hw38 => k0_hw38

def k0_chk39 (v3 : IVec S16 32) (v120 : IVec S16 32) : Prop :=
  (∀ a x, ((![v3, v120] : Fin 2 → IVec S16 32) a x).toNat < S16x100.size a)
theorem k0_idx39_inb : ∀ (v3 : IVec S16 32) (v120 : IVec S16 32) (k0_hw39 : k0_chk39 v3 v120), ∀ a x, ((![v3, v120] : Fin 2 → IVec S16 32) a x).toNat < S16x100.size a := fun v3 v120 k0_hw39 => k0_hw39

def k0_chk40 (v3 : IVec S16 32) (v123 : IVec S16 32) : Prop :=
  (∀ a x, ((![v3, v123] : Fin 2 → IVec S16 32) a x).toNat < S16x100.size a)
theorem k0_idx40_inb : ∀ (v3 : IVec S16 32) (v123 : IVec S16 32) (k0_hw40 : k0_chk40 v3 v123), ∀ a x, ((![v3, v123] : Fin 2 → IVec S16 32) a x).toNat < S16x100.size a := fun v3 v123 k0_hw40 => k0_hw40

def k0_chk41 (v3 : IVec S16 32) (v126 : IVec S16 32) : Prop :=
  (∀ a x, ((![v3, v126] : Fin 2 → IVec S16 32) a x).toNat < S16x100.size a)
theorem k0_idx41_inb : ∀ (v3 : IVec S16 32) (v126 : IVec S16 32) (k0_hw41 : k0_chk41 v3 v126), ∀ a x, ((![v3, v126] : Fin 2 → IVec S16 32) a x).toNat < S16x100.size a := fun v3 v126 k0_hw41 => k0_hw41

def k0_chk42 (v3 : IVec S16 32) (v128 : IVec S16 32) : Prop :=
  (∀ a x, ((![v3, v128] : Fin 2 → IVec S16 32) a x).toNat < S16x100.size a)
theorem k0_idx42_inb : ∀ (v3 : IVec S16 32) (v128 : IVec S16 32) (k0_hw42 : k0_chk42 v3 v128), ∀ a x, ((![v3, v128] : Fin 2 → IVec S16 32) a x).toNat < S16x100.size a := fun v3 v128 k0_hw42 => k0_hw42

def k0_chk43 (v3 : IVec S16 32) (v131 : IVec S16 32) : Prop :=
  (∀ a x, ((![v3, v131] : Fin 2 → IVec S16 32) a x).toNat < S16x100.size a)
theorem k0_idx43_inb : ∀ (v3 : IVec S16 32) (v131 : IVec S16 32) (k0_hw43 : k0_chk43 v3 v131), ∀ a x, ((![v3, v131] : Fin 2 → IVec S16 32) a x).toNat < S16x100.size a := fun v3 v131 k0_hw43 => k0_hw43

def k0_chk44 (v3 : IVec S16 32) (v134 : IVec S16 32) : Prop :=
  (∀ a x, ((![v3, v134] : Fin 2 → IVec S16 32) a x).toNat < S16x100.size a)
theorem k0_idx44_inb : ∀ (v3 : IVec S16 32) (v134 : IVec S16 32) (k0_hw44 : k0_chk44 v3 v134), ∀ a x, ((![v3, v134] : Fin 2 → IVec S16 32) a x).toNat < S16x100.size a := fun v3 v134 k0_hw44 => k0_hw44

def k0_chk45 (v3 : IVec S16 32) (v137 : IVec S16 32) : Prop :=
  (∀ a x, ((![v3, v137] : Fin 2 → IVec S16 32) a x).toNat < S16x100.size a)
theorem k0_idx45_inb : ∀ (v3 : IVec S16 32) (v137 : IVec S16 32) (k0_hw45 : k0_chk45 v3 v137), ∀ a x, ((![v3, v137] : Fin 2 → IVec S16 32) a x).toNat < S16x100.size a := fun v3 v137 k0_hw45 => k0_hw45

def k0_chk46 (v3 : IVec S16 32) (v140 : IVec S16 32) : Prop :=
  (∀ a x, ((![v3, v140] : Fin 2 → IVec S16 32) a x).toNat < S16x100.size a)
theorem k0_idx46_inb : ∀ (v3 : IVec S16 32) (v140 : IVec S16 32) (k0_hw46 : k0_chk46 v3 v140), ∀ a x, ((![v3, v140] : Fin 2 → IVec S16 32) a x).toNat < S16x100.size a := fun v3 v140 k0_hw46 => k0_hw46

def k0_chk47 (v3 : IVec S16 32) (v143 : IVec S16 32) : Prop :=
  (∀ a x, ((![v3, v143] : Fin 2 → IVec S16 32) a x).toNat < S16x100.size a)
theorem k0_idx47_inb : ∀ (v3 : IVec S16 32) (v143 : IVec S16 32) (k0_hw47 : k0_chk47 v3 v143), ∀ a x, ((![v3, v143] : Fin 2 → IVec S16 32) a x).toNat < S16x100.size a := fun v3 v143 k0_hw47 => k0_hw47

def k0_chk48 (v3 : IVec S16 32) (v146 : IVec S16 32) : Prop :=
  (∀ a x, ((![v3, v146] : Fin 2 → IVec S16 32) a x).toNat < S16x100.size a)
theorem k0_idx48_inb : ∀ (v3 : IVec S16 32) (v146 : IVec S16 32) (k0_hw48 : k0_chk48 v3 v146), ∀ a x, ((![v3, v146] : Fin 2 → IVec S16 32) a x).toNat < S16x100.size a := fun v3 v146 k0_hw48 => k0_hw48

def k0_chk49 (v3 : IVec S16 32) (v149 : IVec S16 32) : Prop :=
  (∀ a x, ((![v3, v149] : Fin 2 → IVec S16 32) a x).toNat < S16x100.size a)
theorem k0_idx49_inb : ∀ (v3 : IVec S16 32) (v149 : IVec S16 32) (k0_hw49 : k0_chk49 v3 v149), ∀ a x, ((![v3, v149] : Fin 2 → IVec S16 32) a x).toNat < S16x100.size a := fun v3 v149 k0_hw49 => k0_hw49

def k0_chk50 (v3 : IVec S16 32) (v152 : IVec S16 32) : Prop :=
  (∀ a x, ((![v3, v152] : Fin 2 → IVec S16 32) a x).toNat < S16x100.size a)
theorem k0_idx50_inb : ∀ (v3 : IVec S16 32) (v152 : IVec S16 32) (k0_hw50 : k0_chk50 v3 v152), ∀ a x, ((![v3, v152] : Fin 2 → IVec S16 32) a x).toNat < S16x100.size a := fun v3 v152 k0_hw50 => k0_hw50

def k0_chk51 (v3 : IVec S16 32) (v155 : IVec S16 32) : Prop :=
  (∀ a x, ((![v3, v155] : Fin 2 → IVec S16 32) a x).toNat < S16x100.size a)
theorem k0_idx51_inb : ∀ (v3 : IVec S16 32) (v155 : IVec S16 32) (k0_hw51 : k0_chk51 v3 v155), ∀ a x, ((![v3, v155] : Fin 2 → IVec S16 32) a x).toNat < S16x100.size a := fun v3 v155 k0_hw51 => k0_hw51

def k0_chk52 (v3 : IVec S16 32) (v157 : IVec S16 32) : Prop :=
  (∀ a x, ((![v3, v157] : Fin 2 → IVec S16 32) a x).toNat < S16x100.size a)
theorem k0_idx52_inb : ∀ (v3 : IVec S16 32) (v157 : IVec S16 32) (k0_hw52 : k0_chk52 v3 v157), ∀ a x, ((![v3, v157] : Fin 2 → IVec S16 32) a x).toNat < S16x100.size a := fun v3 v157 k0_hw52 => k0_hw52

def k0_chk53 (v3 : IVec S16 32) (v160 : IVec S16 32) : Prop :=
  (∀ a x, ((![v3, v160] : Fin 2 → IVec S16 32) a x).toNat < S16x100.size a)
theorem k0_idx53_inb : ∀ (v3 : IVec S16 32) (v160 : IVec S16 32) (k0_hw53 : k0_chk53 v3 v160), ∀ a x, ((![v3, v160] : Fin 2 → IVec S16 32) a x).toNat < S16x100.size a := fun v3 v160 k0_hw53 => k0_hw53

def k0_chk54 (v3 : IVec S16 32) (v163 : IVec S16 32) : Prop :=
  (∀ a x, ((![v3, v163] : Fin 2 → IVec S16 32) a x).toNat < S16x100.size a)
theorem k0_idx54_inb : ∀ (v3 : IVec S16 32) (v163 : IVec S16 32) (k0_hw54 : k0_chk54 v3 v163), ∀ a x, ((![v3, v163] : Fin 2 → IVec S16 32) a x).toNat < S16x100.size a := fun v3 v163 k0_hw54 => k0_hw54

def k0_chk55 (v3 : IVec S16 32) (v166 : IVec S16 32) : Prop :=
  (∀ a x, ((![v3, v166] : Fin 2 → IVec S16 32) a x).toNat < S16x100.size a)
theorem k0_idx55_inb : ∀ (v3 : IVec S16 32) (v166 : IVec S16 32) (k0_hw55 : k0_chk55 v3 v166), ∀ a x, ((![v3, v166] : Fin 2 → IVec S16 32) a x).toNat < S16x100.size a := fun v3 v166 k0_hw55 => k0_hw55

def k0_chk56 (v3 : IVec S16 32) (v169 : IVec S16 32) : Prop :=
  (∀ a x, ((![v3, v169] : Fin 2 → IVec S16 32) a x).toNat < S16x100.size a)
theorem k0_idx56_inb : ∀ (v3 : IVec S16 32) (v169 : IVec S16 32) (k0_hw56 : k0_chk56 v3 v169), ∀ a x, ((![v3, v169] : Fin 2 → IVec S16 32) a x).toNat < S16x100.size a := fun v3 v169 k0_hw56 => k0_hw56

def k0_chk57 (v3 : IVec S16 32) (v172 : IVec S16 32) : Prop :=
  (∀ a x, ((![v3, v172] : Fin 2 → IVec S16 32) a x).toNat < S16x100.size a)
theorem k0_idx57_inb : ∀ (v3 : IVec S16 32) (v172 : IVec S16 32) (k0_hw57 : k0_chk57 v3 v172), ∀ a x, ((![v3, v172] : Fin 2 → IVec S16 32) a x).toNat < S16x100.size a := fun v3 v172 k0_hw57 => k0_hw57

def k0_chk58 (v3 : IVec S16 32) (v175 : IVec S16 32) : Prop :=
  (∀ a x, ((![v3, v175] : Fin 2 → IVec S16 32) a x).toNat < S16x100.size a)
theorem k0_idx58_inb : ∀ (v3 : IVec S16 32) (v175 : IVec S16 32) (k0_hw58 : k0_chk58 v3 v175), ∀ a x, ((![v3, v175] : Fin 2 → IVec S16 32) a x).toNat < S16x100.size a := fun v3 v175 k0_hw58 => k0_hw58

def k0_chk59 (v3 : IVec S16 32) (v178 : IVec S16 32) : Prop :=
  (∀ a x, ((![v3, v178] : Fin 2 → IVec S16 32) a x).toNat < S16x100.size a)
theorem k0_idx59_inb : ∀ (v3 : IVec S16 32) (v178 : IVec S16 32) (k0_hw59 : k0_chk59 v3 v178), ∀ a x, ((![v3, v178] : Fin 2 → IVec S16 32) a x).toNat < S16x100.size a := fun v3 v178 k0_hw59 => k0_hw59

def k0_chk60 (v3 : IVec S16 32) (v181 : IVec S16 32) : Prop :=
  (∀ a x, ((![v3, v181] : Fin 2 → IVec S16 32) a x).toNat < S16x100.size a)
theorem k0_idx60_inb : ∀ (v3 : IVec S16 32) (v181 : IVec S16 32) (k0_hw60 : k0_chk60 v3 v181), ∀ a x, ((![v3, v181] : Fin 2 → IVec S16 32) a x).toNat < S16x100.size a := fun v3 v181 k0_hw60 => k0_hw60

def k0_chk61 (v3 : IVec S16 32) (v184 : IVec S16 32) : Prop :=
  (∀ a x, ((![v3, v184] : Fin 2 → IVec S16 32) a x).toNat < S16x100.size a)
theorem k0_idx61_inb : ∀ (v3 : IVec S16 32) (v184 : IVec S16 32) (k0_hw61 : k0_chk61 v3 v184), ∀ a x, ((![v3, v184] : Fin 2 → IVec S16 32) a x).toNat < S16x100.size a := fun v3 v184 k0_hw61 => k0_hw61

def k0_chk62 (v3 : IVec S16 32) (v186 : IVec S16 32) : Prop :=
  (∀ a x, ((![v3, v186] : Fin 2 → IVec S16 32) a x).toNat < S16x100.size a)
theorem k0_idx62_inb : ∀ (v3 : IVec S16 32) (v186 : IVec S16 32) (k0_hw62 : k0_chk62 v3 v186), ∀ a x, ((![v3, v186] : Fin 2 → IVec S16 32) a x).toNat < S16x100.size a := fun v3 v186 k0_hw62 => k0_hw62

def k0_chk63 (v3 : IVec S16 32) (v189 : IVec S16 32) : Prop :=
  (∀ a x, ((![v3, v189] : Fin 2 → IVec S16 32) a x).toNat < S16x100.size a)
theorem k0_idx63_inb : ∀ (v3 : IVec S16 32) (v189 : IVec S16 32) (k0_hw63 : k0_chk63 v3 v189), ∀ a x, ((![v3, v189] : Fin 2 → IVec S16 32) a x).toNat < S16x100.size a := fun v3 v189 k0_hw63 => k0_hw63

def k0_chk64 (v3 : IVec S16 32) (v192 : IVec S16 32) : Prop :=
  (∀ a x, ((![v3, v192] : Fin 2 → IVec S16 32) a x).toNat < S16x100.size a)
theorem k0_idx64_inb : ∀ (v3 : IVec S16 32) (v192 : IVec S16 32) (k0_hw64 : k0_chk64 v3 v192), ∀ a x, ((![v3, v192] : Fin 2 → IVec S16 32) a x).toNat < S16x100.size a := fun v3 v192 k0_hw64 => k0_hw64

def k0_chk65 (v3 : IVec S16 32) (v195 : IVec S16 32) : Prop :=
  (∀ a x, ((![v3, v195] : Fin 2 → IVec S16 32) a x).toNat < S16x100.size a)
theorem k0_idx65_inb : ∀ (v3 : IVec S16 32) (v195 : IVec S16 32) (k0_hw65 : k0_chk65 v3 v195), ∀ a x, ((![v3, v195] : Fin 2 → IVec S16 32) a x).toNat < S16x100.size a := fun v3 v195 k0_hw65 => k0_hw65

def k0_chk66 (v3 : IVec S16 32) (v198 : IVec S16 32) : Prop :=
  (∀ a x, ((![v3, v198] : Fin 2 → IVec S16 32) a x).toNat < S16x100.size a)
theorem k0_idx66_inb : ∀ (v3 : IVec S16 32) (v198 : IVec S16 32) (k0_hw66 : k0_chk66 v3 v198), ∀ a x, ((![v3, v198] : Fin 2 → IVec S16 32) a x).toNat < S16x100.size a := fun v3 v198 k0_hw66 => k0_hw66

def k0_chk67 (v3 : IVec S16 32) (v201 : IVec S16 32) : Prop :=
  (∀ a x, ((![v3, v201] : Fin 2 → IVec S16 32) a x).toNat < S16x100.size a)
theorem k0_idx67_inb : ∀ (v3 : IVec S16 32) (v201 : IVec S16 32) (k0_hw67 : k0_chk67 v3 v201), ∀ a x, ((![v3, v201] : Fin 2 → IVec S16 32) a x).toNat < S16x100.size a := fun v3 v201 k0_hw67 => k0_hw67

def k0_chk68 (v3 : IVec S16 32) (v204 : IVec S16 32) : Prop :=
  (∀ a x, ((![v3, v204] : Fin 2 → IVec S16 32) a x).toNat < S16x100.size a)
theorem k0_idx68_inb : ∀ (v3 : IVec S16 32) (v204 : IVec S16 32) (k0_hw68 : k0_chk68 v3 v204), ∀ a x, ((![v3, v204] : Fin 2 → IVec S16 32) a x).toNat < S16x100.size a := fun v3 v204 k0_hw68 => k0_hw68

def k0_chk69 (v3 : IVec S16 32) (v207 : IVec S16 32) : Prop :=
  (∀ a x, ((![v3, v207] : Fin 2 → IVec S16 32) a x).toNat < S16x100.size a)
theorem k0_idx69_inb : ∀ (v3 : IVec S16 32) (v207 : IVec S16 32) (k0_hw69 : k0_chk69 v3 v207), ∀ a x, ((![v3, v207] : Fin 2 → IVec S16 32) a x).toNat < S16x100.size a := fun v3 v207 k0_hw69 => k0_hw69

def k0_chk70 (v3 : IVec S16 32) (v210 : IVec S16 32) : Prop :=
  (∀ a x, ((![v3, v210] : Fin 2 → IVec S16 32) a x).toNat < S16x100.size a)
theorem k0_idx70_inb : ∀ (v3 : IVec S16 32) (v210 : IVec S16 32) (k0_hw70 : k0_chk70 v3 v210), ∀ a x, ((![v3, v210] : Fin 2 → IVec S16 32) a x).toNat < S16x100.size a := fun v3 v210 k0_hw70 => k0_hw70

def k0_chk71 (v3 : IVec S16 32) (v213 : IVec S16 32) : Prop :=
  (∀ a x, ((![v3, v213] : Fin 2 → IVec S16 32) a x).toNat < S16x100.size a)
theorem k0_idx71_inb : ∀ (v3 : IVec S16 32) (v213 : IVec S16 32) (k0_hw71 : k0_chk71 v3 v213), ∀ a x, ((![v3, v213] : Fin 2 → IVec S16 32) a x).toNat < S16x100.size a := fun v3 v213 k0_hw71 => k0_hw71

def k0_chk72 (v3 : IVec S16 32) (v215 : IVec S16 32) : Prop :=
  (∀ a x, ((![v3, v215] : Fin 2 → IVec S16 32) a x).toNat < S16x100.size a)
theorem k0_idx72_inb : ∀ (v3 : IVec S16 32) (v215 : IVec S16 32) (k0_hw72 : k0_chk72 v3 v215), ∀ a x, ((![v3, v215] : Fin 2 → IVec S16 32) a x).toNat < S16x100.size a := fun v3 v215 k0_hw72 => k0_hw72

def k0_chk73 (v3 : IVec S16 32) (v218 : IVec S16 32) : Prop :=
  (∀ a x, ((![v3, v218] : Fin 2 → IVec S16 32) a x).toNat < S16x100.size a)
theorem k0_idx73_inb : ∀ (v3 : IVec S16 32) (v218 : IVec S16 32) (k0_hw73 : k0_chk73 v3 v218), ∀ a x, ((![v3, v218] : Fin 2 → IVec S16 32) a x).toNat < S16x100.size a := fun v3 v218 k0_hw73 => k0_hw73

def k0_chk74 (v3 : IVec S16 32) (v221 : IVec S16 32) : Prop :=
  (∀ a x, ((![v3, v221] : Fin 2 → IVec S16 32) a x).toNat < S16x100.size a)
theorem k0_idx74_inb : ∀ (v3 : IVec S16 32) (v221 : IVec S16 32) (k0_hw74 : k0_chk74 v3 v221), ∀ a x, ((![v3, v221] : Fin 2 → IVec S16 32) a x).toNat < S16x100.size a := fun v3 v221 k0_hw74 => k0_hw74

def k0_chk75 (v3 : IVec S16 32) (v224 : IVec S16 32) : Prop :=
  (∀ a x, ((![v3, v224] : Fin 2 → IVec S16 32) a x).toNat < S16x100.size a)
theorem k0_idx75_inb : ∀ (v3 : IVec S16 32) (v224 : IVec S16 32) (k0_hw75 : k0_chk75 v3 v224), ∀ a x, ((![v3, v224] : Fin 2 → IVec S16 32) a x).toNat < S16x100.size a := fun v3 v224 k0_hw75 => k0_hw75

def k0_chk76 (v3 : IVec S16 32) (v227 : IVec S16 32) : Prop :=
  (∀ a x, ((![v3, v227] : Fin 2 → IVec S16 32) a x).toNat < S16x100.size a)
theorem k0_idx76_inb : ∀ (v3 : IVec S16 32) (v227 : IVec S16 32) (k0_hw76 : k0_chk76 v3 v227), ∀ a x, ((![v3, v227] : Fin 2 → IVec S16 32) a x).toNat < S16x100.size a := fun v3 v227 k0_hw76 => k0_hw76

def k0_chk77 (v3 : IVec S16 32) (v230 : IVec S16 32) : Prop :=
  (∀ a x, ((![v3, v230] : Fin 2 → IVec S16 32) a x).toNat < S16x100.size a)
theorem k0_idx77_inb : ∀ (v3 : IVec S16 32) (v230 : IVec S16 32) (k0_hw77 : k0_chk77 v3 v230), ∀ a x, ((![v3, v230] : Fin 2 → IVec S16 32) a x).toNat < S16x100.size a := fun v3 v230 k0_hw77 => k0_hw77

def k0_chk78 (v3 : IVec S16 32) (v233 : IVec S16 32) : Prop :=
  (∀ a x, ((![v3, v233] : Fin 2 → IVec S16 32) a x).toNat < S16x100.size a)
theorem k0_idx78_inb : ∀ (v3 : IVec S16 32) (v233 : IVec S16 32) (k0_hw78 : k0_chk78 v3 v233), ∀ a x, ((![v3, v233] : Fin 2 → IVec S16 32) a x).toNat < S16x100.size a := fun v3 v233 k0_hw78 => k0_hw78

def k0_chk79 (v3 : IVec S16 32) (v236 : IVec S16 32) : Prop :=
  (∀ a x, ((![v3, v236] : Fin 2 → IVec S16 32) a x).toNat < S16x100.size a)
theorem k0_idx79_inb : ∀ (v3 : IVec S16 32) (v236 : IVec S16 32) (k0_hw79 : k0_chk79 v3 v236), ∀ a x, ((![v3, v236] : Fin 2 → IVec S16 32) a x).toNat < S16x100.size a := fun v3 v236 k0_hw79 => k0_hw79

def k0_chk80 (v3 : IVec S16 32) (v239 : IVec S16 32) : Prop :=
  (∀ a x, ((![v3, v239] : Fin 2 → IVec S16 32) a x).toNat < S16x100.size a)
theorem k0_idx80_inb : ∀ (v3 : IVec S16 32) (v239 : IVec S16 32) (k0_hw80 : k0_chk80 v3 v239), ∀ a x, ((![v3, v239] : Fin 2 → IVec S16 32) a x).toNat < S16x100.size a := fun v3 v239 k0_hw80 => k0_hw80

def k0_chk81 (v3 : IVec S16 32) (v242 : IVec S16 32) : Prop :=
  (∀ a x, ((![v3, v242] : Fin 2 → IVec S16 32) a x).toNat < S16x100.size a)
theorem k0_idx81_inb : ∀ (v3 : IVec S16 32) (v242 : IVec S16 32) (k0_hw81 : k0_chk81 v3 v242), ∀ a x, ((![v3, v242] : Fin 2 → IVec S16 32) a x).toNat < S16x100.size a := fun v3 v242 k0_hw81 => k0_hw81

def k0_chk82 (v3 : IVec S16 32) (v244 : IVec S16 32) : Prop :=
  (∀ a x, ((![v3, v244] : Fin 2 → IVec S16 32) a x).toNat < S16x100.size a)
theorem k0_idx82_inb : ∀ (v3 : IVec S16 32) (v244 : IVec S16 32) (k0_hw82 : k0_chk82 v3 v244), ∀ a x, ((![v3, v244] : Fin 2 → IVec S16 32) a x).toNat < S16x100.size a := fun v3 v244 k0_hw82 => k0_hw82

def k0_chk83 (v3 : IVec S16 32) (v247 : IVec S16 32) : Prop :=
  (∀ a x, ((![v3, v247] : Fin 2 → IVec S16 32) a x).toNat < S16x100.size a)
theorem k0_idx83_inb : ∀ (v3 : IVec S16 32) (v247 : IVec S16 32) (k0_hw83 : k0_chk83 v3 v247), ∀ a x, ((![v3, v247] : Fin 2 → IVec S16 32) a x).toNat < S16x100.size a := fun v3 v247 k0_hw83 => k0_hw83

def k0_chk84 (v3 : IVec S16 32) (v250 : IVec S16 32) : Prop :=
  (∀ a x, ((![v3, v250] : Fin 2 → IVec S16 32) a x).toNat < S16x100.size a)
theorem k0_idx84_inb : ∀ (v3 : IVec S16 32) (v250 : IVec S16 32) (k0_hw84 : k0_chk84 v3 v250), ∀ a x, ((![v3, v250] : Fin 2 → IVec S16 32) a x).toNat < S16x100.size a := fun v3 v250 k0_hw84 => k0_hw84

def k0_chk85 (v3 : IVec S16 32) (v253 : IVec S16 32) : Prop :=
  (∀ a x, ((![v3, v253] : Fin 2 → IVec S16 32) a x).toNat < S16x100.size a)
theorem k0_idx85_inb : ∀ (v3 : IVec S16 32) (v253 : IVec S16 32) (k0_hw85 : k0_chk85 v3 v253), ∀ a x, ((![v3, v253] : Fin 2 → IVec S16 32) a x).toNat < S16x100.size a := fun v3 v253 k0_hw85 => k0_hw85

def k0_chk86 (v3 : IVec S16 32) (v256 : IVec S16 32) : Prop :=
  (∀ a x, ((![v3, v256] : Fin 2 → IVec S16 32) a x).toNat < S16x100.size a)
theorem k0_idx86_inb : ∀ (v3 : IVec S16 32) (v256 : IVec S16 32) (k0_hw86 : k0_chk86 v3 v256), ∀ a x, ((![v3, v256] : Fin 2 → IVec S16 32) a x).toNat < S16x100.size a := fun v3 v256 k0_hw86 => k0_hw86

def k0_chk87 (v3 : IVec S16 32) (v259 : IVec S16 32) : Prop :=
  (∀ a x, ((![v3, v259] : Fin 2 → IVec S16 32) a x).toNat < S16x100.size a)
theorem k0_idx87_inb : ∀ (v3 : IVec S16 32) (v259 : IVec S16 32) (k0_hw87 : k0_chk87 v3 v259), ∀ a x, ((![v3, v259] : Fin 2 → IVec S16 32) a x).toNat < S16x100.size a := fun v3 v259 k0_hw87 => k0_hw87

def k0_chk88 (v3 : IVec S16 32) (v262 : IVec S16 32) : Prop :=
  (∀ a x, ((![v3, v262] : Fin 2 → IVec S16 32) a x).toNat < S16x100.size a)
theorem k0_idx88_inb : ∀ (v3 : IVec S16 32) (v262 : IVec S16 32) (k0_hw88 : k0_chk88 v3 v262), ∀ a x, ((![v3, v262] : Fin 2 → IVec S16 32) a x).toNat < S16x100.size a := fun v3 v262 k0_hw88 => k0_hw88

def k0_chk89 (v3 : IVec S16 32) (v265 : IVec S16 32) : Prop :=
  (∀ a x, ((![v3, v265] : Fin 2 → IVec S16 32) a x).toNat < S16x100.size a)
theorem k0_idx89_inb : ∀ (v3 : IVec S16 32) (v265 : IVec S16 32) (k0_hw89 : k0_chk89 v3 v265), ∀ a x, ((![v3, v265] : Fin 2 → IVec S16 32) a x).toNat < S16x100.size a := fun v3 v265 k0_hw89 => k0_hw89

def k0_chk90 (v3 : IVec S16 32) (v268 : IVec S16 32) : Prop :=
  (∀ a x, ((![v3, v268] : Fin 2 → IVec S16 32) a x).toNat < S16x100.size a)
theorem k0_idx90_inb : ∀ (v3 : IVec S16 32) (v268 : IVec S16 32) (k0_hw90 : k0_chk90 v3 v268), ∀ a x, ((![v3, v268] : Fin 2 → IVec S16 32) a x).toNat < S16x100.size a := fun v3 v268 k0_hw90 => k0_hw90

def k0_chk91 (v3 : IVec S16 32) (v271 : IVec S16 32) : Prop :=
  (∀ a x, ((![v3, v271] : Fin 2 → IVec S16 32) a x).toNat < S16x100.size a)
theorem k0_idx91_inb : ∀ (v3 : IVec S16 32) (v271 : IVec S16 32) (k0_hw91 : k0_chk91 v3 v271), ∀ a x, ((![v3, v271] : Fin 2 → IVec S16 32) a x).toNat < S16x100.size a := fun v3 v271 k0_hw91 => k0_hw91

def k0_chk92 (v3 : IVec S16 32) (v273 : IVec S16 32) : Prop :=
  (∀ a x, ((![v3, v273] : Fin 2 → IVec S16 32) a x).toNat < S16x100.size a)
theorem k0_idx92_inb : ∀ (v3 : IVec S16 32) (v273 : IVec S16 32) (k0_hw92 : k0_chk92 v3 v273), ∀ a x, ((![v3, v273] : Fin 2 → IVec S16 32) a x).toNat < S16x100.size a := fun v3 v273 k0_hw92 => k0_hw92

def k0_chk93 (v3 : IVec S16 32) (v276 : IVec S16 32) : Prop :=
  (∀ a x, ((![v3, v276] : Fin 2 → IVec S16 32) a x).toNat < S16x100.size a)
theorem k0_idx93_inb : ∀ (v3 : IVec S16 32) (v276 : IVec S16 32) (k0_hw93 : k0_chk93 v3 v276), ∀ a x, ((![v3, v276] : Fin 2 → IVec S16 32) a x).toNat < S16x100.size a := fun v3 v276 k0_hw93 => k0_hw93

def k0_chk94 (v3 : IVec S16 32) (v279 : IVec S16 32) : Prop :=
  (∀ a x, ((![v3, v279] : Fin 2 → IVec S16 32) a x).toNat < S16x100.size a)
theorem k0_idx94_inb : ∀ (v3 : IVec S16 32) (v279 : IVec S16 32) (k0_hw94 : k0_chk94 v3 v279), ∀ a x, ((![v3, v279] : Fin 2 → IVec S16 32) a x).toNat < S16x100.size a := fun v3 v279 k0_hw94 => k0_hw94

def k0_chk95 (v3 : IVec S16 32) (v282 : IVec S16 32) : Prop :=
  (∀ a x, ((![v3, v282] : Fin 2 → IVec S16 32) a x).toNat < S16x100.size a)
theorem k0_idx95_inb : ∀ (v3 : IVec S16 32) (v282 : IVec S16 32) (k0_hw95 : k0_chk95 v3 v282), ∀ a x, ((![v3, v282] : Fin 2 → IVec S16 32) a x).toNat < S16x100.size a := fun v3 v282 k0_hw95 => k0_hw95

def k0_chk96 (v3 : IVec S16 32) (v285 : IVec S16 32) : Prop :=
  (∀ a x, ((![v3, v285] : Fin 2 → IVec S16 32) a x).toNat < S16x100.size a)
theorem k0_idx96_inb : ∀ (v3 : IVec S16 32) (v285 : IVec S16 32) (k0_hw96 : k0_chk96 v3 v285), ∀ a x, ((![v3, v285] : Fin 2 → IVec S16 32) a x).toNat < S16x100.size a := fun v3 v285 k0_hw96 => k0_hw96

def k0_chk97 (v3 : IVec S16 32) (v288 : IVec S16 32) : Prop :=
  (∀ a x, ((![v3, v288] : Fin 2 → IVec S16 32) a x).toNat < S16x100.size a)
theorem k0_idx97_inb : ∀ (v3 : IVec S16 32) (v288 : IVec S16 32) (k0_hw97 : k0_chk97 v3 v288), ∀ a x, ((![v3, v288] : Fin 2 → IVec S16 32) a x).toNat < S16x100.size a := fun v3 v288 k0_hw97 => k0_hw97

def k0_chk98 (v3 : IVec S16 32) (v291 : IVec S16 32) : Prop :=
  (∀ a x, ((![v3, v291] : Fin 2 → IVec S16 32) a x).toNat < S16x100.size a)
theorem k0_idx98_inb : ∀ (v3 : IVec S16 32) (v291 : IVec S16 32) (k0_hw98 : k0_chk98 v3 v291), ∀ a x, ((![v3, v291] : Fin 2 → IVec S16 32) a x).toNat < S16x100.size a := fun v3 v291 k0_hw98 => k0_hw98

def k0_chk99 (v3 : IVec S16 32) (v294 : IVec S16 32) : Prop :=
  (∀ a x, ((![v3, v294] : Fin 2 → IVec S16 32) a x).toNat < S16x100.size a)
theorem k0_idx99_inb : ∀ (v3 : IVec S16 32) (v294 : IVec S16 32) (k0_hw99 : k0_chk99 v3 v294), ∀ a x, ((![v3, v294] : Fin 2 → IVec S16 32) a x).toNat < S16x100.size a := fun v3 v294 k0_hw99 => k0_hw99

def k0_chk100 (v3 : IVec S16 32) (v297 : IVec S16 32) : Prop :=
  (∀ a x, ((![v3, v297] : Fin 2 → IVec S16 32) a x).toNat < S16x100.size a)
theorem k0_idx100_inb : ∀ (v3 : IVec S16 32) (v297 : IVec S16 32) (k0_hw100 : k0_chk100 v3 v297), ∀ a x, ((![v3, v297] : Fin 2 → IVec S16 32) a x).toNat < S16x100.size a := fun v3 v297 k0_hw100 => k0_hw100

def k0_chk101 (v3 : IVec S16 32) (v342 : IVec S16 32) : Prop :=
  (∀ a x, ((![v3, v342] : Fin 2 → IVec S16 32) a x).toNat < S16x100.size a)
theorem k0_idx101_inb : ∀ (v3 : IVec S16 32) (v342 : IVec S16 32) (k0_hw101 : k0_chk101 v3 v342), ∀ a x, ((![v3, v342] : Fin 2 → IVec S16 32) a x).toNat < S16x100.size a := fun v3 v342 k0_hw101 => k0_hw101

def k0_chk102 (v3 : IVec S16 32) (v349 : IVec S16 32) : Prop :=
  (∀ a x, ((![v3, v349] : Fin 2 → IVec S16 32) a x).toNat < S16x100.size a)
theorem k0_idx102_inb : ∀ (v3 : IVec S16 32) (v349 : IVec S16 32) (k0_hw102 : k0_chk102 v3 v349), ∀ a x, ((![v3, v349] : Fin 2 → IVec S16 32) a x).toNat < S16x100.size a := fun v3 v349 k0_hw102 => k0_hw102

def k0_chk103 (v3 : IVec S16 32) (v356 : IVec S16 32) : Prop :=
  (∀ a x, ((![v3, v356] : Fin 2 → IVec S16 32) a x).toNat < S16x100.size a)
theorem k0_idx103_inb : ∀ (v3 : IVec S16 32) (v356 : IVec S16 32) (k0_hw103 : k0_chk103 v3 v356), ∀ a x, ((![v3, v356] : Fin 2 → IVec S16 32) a x).toNat < S16x100.size a := fun v3 v356 k0_hw103 => k0_hw103

def k0_chk104 (v3 : IVec S16 32) (v363 : IVec S16 32) : Prop :=
  (∀ a x, ((![v3, v363] : Fin 2 → IVec S16 32) a x).toNat < S16x100.size a)
theorem k0_idx104_inb : ∀ (v3 : IVec S16 32) (v363 : IVec S16 32) (k0_hw104 : k0_chk104 v3 v363), ∀ a x, ((![v3, v363] : Fin 2 → IVec S16 32) a x).toNat < S16x100.size a := fun v3 v363 k0_hw104 => k0_hw104

def k0_chk105 (v3 : IVec S16 32) (v370 : IVec S16 32) : Prop :=
  (∀ a x, ((![v3, v370] : Fin 2 → IVec S16 32) a x).toNat < S16x100.size a)
theorem k0_idx105_inb : ∀ (v3 : IVec S16 32) (v370 : IVec S16 32) (k0_hw105 : k0_chk105 v3 v370), ∀ a x, ((![v3, v370] : Fin 2 → IVec S16 32) a x).toNat < S16x100.size a := fun v3 v370 k0_hw105 => k0_hw105

def k0_chk106 (v3 : IVec S16 32) (v377 : IVec S16 32) : Prop :=
  (∀ a x, ((![v3, v377] : Fin 2 → IVec S16 32) a x).toNat < S16x100.size a)
theorem k0_idx106_inb : ∀ (v3 : IVec S16 32) (v377 : IVec S16 32) (k0_hw106 : k0_chk106 v3 v377), ∀ a x, ((![v3, v377] : Fin 2 → IVec S16 32) a x).toNat < S16x100.size a := fun v3 v377 k0_hw106 => k0_hw106

def k0_chk107 (v3 : IVec S16 32) (v384 : IVec S16 32) : Prop :=
  (∀ a x, ((![v3, v384] : Fin 2 → IVec S16 32) a x).toNat < S16x100.size a)
theorem k0_idx107_inb : ∀ (v3 : IVec S16 32) (v384 : IVec S16 32) (k0_hw107 : k0_chk107 v3 v384), ∀ a x, ((![v3, v384] : Fin 2 → IVec S16 32) a x).toNat < S16x100.size a := fun v3 v384 k0_hw107 => k0_hw107

def k0_chk108 (v3 : IVec S16 32) (v391 : IVec S16 32) : Prop :=
  (∀ a x, ((![v3, v391] : Fin 2 → IVec S16 32) a x).toNat < S16x100.size a)
theorem k0_idx108_inb : ∀ (v3 : IVec S16 32) (v391 : IVec S16 32) (k0_hw108 : k0_chk108 v3 v391), ∀ a x, ((![v3, v391] : Fin 2 → IVec S16 32) a x).toNat < S16x100.size a := fun v3 v391 k0_hw108 => k0_hw108

def k0_chk109 (v3 : IVec S16 32) (v398 : IVec S16 32) : Prop :=
  (∀ a x, ((![v3, v398] : Fin 2 → IVec S16 32) a x).toNat < S16x100.size a)
theorem k0_idx109_inb : ∀ (v3 : IVec S16 32) (v398 : IVec S16 32) (k0_hw109 : k0_chk109 v3 v398), ∀ a x, ((![v3, v398] : Fin 2 → IVec S16 32) a x).toNat < S16x100.size a := fun v3 v398 k0_hw109 => k0_hw109

def k0_chk110 (v3 : IVec S16 32) (v405 : IVec S16 32) : Prop :=
  (∀ a x, ((![v3, v405] : Fin 2 → IVec S16 32) a x).toNat < S16x100.size a)
theorem k0_idx110_inb : ∀ (v3 : IVec S16 32) (v405 : IVec S16 32) (k0_hw110 : k0_chk110 v3 v405), ∀ a x, ((![v3, v405] : Fin 2 → IVec S16 32) a x).toNat < S16x100.size a := fun v3 v405 k0_hw110 => k0_hw110

def k0_chk112 (v3 : IVec S16 32) (v533 : IVec S16 32) : Prop :=
  (∀ a x, ((![v3, v533] : Fin 2 → IVec S16 32) a x).toNat < S16x100.size a)
theorem k0_idx112_inb : ∀ (v3 : IVec S16 32) (v533 : IVec S16 32) (k0_hw112 : k0_chk112 v3 v533), ∀ a x, ((![v3, v533] : Fin 2 → IVec S16 32) a x).toNat < S16x100.size a := fun v3 v533 k0_hw112 => k0_hw112

def k0_chk113 (v3 : IVec S16 32) (v540 : IVec S16 32) : Prop :=
  (∀ a x, ((![v3, v540] : Fin 2 → IVec S16 32) a x).toNat < S16x100.size a)
theorem k0_idx113_inb : ∀ (v3 : IVec S16 32) (v540 : IVec S16 32) (k0_hw113 : k0_chk113 v3 v540), ∀ a x, ((![v3, v540] : Fin 2 → IVec S16 32) a x).toNat < S16x100.size a := fun v3 v540 k0_hw113 => k0_hw113

def k0_chk114 (v3 : IVec S16 32) (v547 : IVec S16 32) : Prop :=
  (∀ a x, ((![v3, v547] : Fin 2 → IVec S16 32) a x).toNat < S16x100.size a)
theorem k0_idx114_inb : ∀ (v3 : IVec S16 32) (v547 : IVec S16 32) (k0_hw114 : k0_chk114 v3 v547), ∀ a x, ((![v3, v547] : Fin 2 → IVec S16 32) a x).toNat < S16x100.size a := fun v3 v547 k0_hw114 => k0_hw114

def k0_chk115 (v3 : IVec S16 32) (v554 : IVec S16 32) : Prop :=
  (∀ a x, ((![v3, v554] : Fin 2 → IVec S16 32) a x).toNat < S16x100.size a)
theorem k0_idx115_inb : ∀ (v3 : IVec S16 32) (v554 : IVec S16 32) (k0_hw115 : k0_chk115 v3 v554), ∀ a x, ((![v3, v554] : Fin 2 → IVec S16 32) a x).toNat < S16x100.size a := fun v3 v554 k0_hw115 => k0_hw115

def k0_chk116 (v3 : IVec S16 32) (v561 : IVec S16 32) : Prop :=
  (∀ a x, ((![v3, v561] : Fin 2 → IVec S16 32) a x).toNat < S16x100.size a)
theorem k0_idx116_inb : ∀ (v3 : IVec S16 32) (v561 : IVec S16 32) (k0_hw116 : k0_chk116 v3 v561), ∀ a x, ((![v3, v561] : Fin 2 → IVec S16 32) a x).toNat < S16x100.size a := fun v3 v561 k0_hw116 => k0_hw116

def k0_chk117 (v3 : IVec S16 32) (v568 : IVec S16 32) : Prop :=
  (∀ a x, ((![v3, v568] : Fin 2 → IVec S16 32) a x).toNat < S16x100.size a)
theorem k0_idx117_inb : ∀ (v3 : IVec S16 32) (v568 : IVec S16 32) (k0_hw117 : k0_chk117 v3 v568), ∀ a x, ((![v3, v568] : Fin 2 → IVec S16 32) a x).toNat < S16x100.size a := fun v3 v568 k0_hw117 => k0_hw117

def k0_chk118 (v3 : IVec S16 32) (v575 : IVec S16 32) : Prop :=
  (∀ a x, ((![v3, v575] : Fin 2 → IVec S16 32) a x).toNat < S16x100.size a)
theorem k0_idx118_inb : ∀ (v3 : IVec S16 32) (v575 : IVec S16 32) (k0_hw118 : k0_chk118 v3 v575), ∀ a x, ((![v3, v575] : Fin 2 → IVec S16 32) a x).toNat < S16x100.size a := fun v3 v575 k0_hw118 => k0_hw118

def k0_chk119 (v3 : IVec S16 32) (v582 : IVec S16 32) : Prop :=
  (∀ a x, ((![v3, v582] : Fin 2 → IVec S16 32) a x).toNat < S16x100.size a)
theorem k0_idx119_inb : ∀ (v3 : IVec S16 32) (v582 : IVec S16 32) (k0_hw119 : k0_chk119 v3 v582), ∀ a x, ((![v3, v582] : Fin 2 → IVec S16 32) a x).toNat < S16x100.size a := fun v3 v582 k0_hw119 => k0_hw119

def k0_chk120 (v3 : IVec S16 32) (v589 : IVec S16 32) : Prop :=
  (∀ a x, ((![v3, v589] : Fin 2 → IVec S16 32) a x).toNat < S16x100.size a)
theorem k0_idx120_inb : ∀ (v3 : IVec S16 32) (v589 : IVec S16 32) (k0_hw120 : k0_chk120 v3 v589), ∀ a x, ((![v3, v589] : Fin 2 → IVec S16 32) a x).toNat < S16x100.size a := fun v3 v589 k0_hw120 => k0_hw120

def k0_chk121 (v3 : IVec S16 32) (v596 : IVec S16 32) : Prop :=
  (∀ a x, ((![v3, v596] : Fin 2 → IVec S16 32) a x).toNat < S16x100.size a)
theorem k0_idx121_inb : ∀ (v3 : IVec S16 32) (v596 : IVec S16 32) (k0_hw121 : k0_chk121 v3 v596), ∀ a x, ((![v3, v596] : Fin 2 → IVec S16 32) a x).toNat < S16x100.size a := fun v3 v596 k0_hw121 => k0_hw121

def k0_chk123 (v3 : IVec S16 32) (v724 : IVec S16 32) : Prop :=
  (∀ a x, ((![v3, v724] : Fin 2 → IVec S16 32) a x).toNat < S16x100.size a)
theorem k0_idx123_inb : ∀ (v3 : IVec S16 32) (v724 : IVec S16 32) (k0_hw123 : k0_chk123 v3 v724), ∀ a x, ((![v3, v724] : Fin 2 → IVec S16 32) a x).toNat < S16x100.size a := fun v3 v724 k0_hw123 => k0_hw123

def k0_chk124 (v3 : IVec S16 32) (v731 : IVec S16 32) : Prop :=
  (∀ a x, ((![v3, v731] : Fin 2 → IVec S16 32) a x).toNat < S16x100.size a)
theorem k0_idx124_inb : ∀ (v3 : IVec S16 32) (v731 : IVec S16 32) (k0_hw124 : k0_chk124 v3 v731), ∀ a x, ((![v3, v731] : Fin 2 → IVec S16 32) a x).toNat < S16x100.size a := fun v3 v731 k0_hw124 => k0_hw124

def k0_chk125 (v3 : IVec S16 32) (v738 : IVec S16 32) : Prop :=
  (∀ a x, ((![v3, v738] : Fin 2 → IVec S16 32) a x).toNat < S16x100.size a)
theorem k0_idx125_inb : ∀ (v3 : IVec S16 32) (v738 : IVec S16 32) (k0_hw125 : k0_chk125 v3 v738), ∀ a x, ((![v3, v738] : Fin 2 → IVec S16 32) a x).toNat < S16x100.size a := fun v3 v738 k0_hw125 => k0_hw125

def k0_chk126 (v3 : IVec S16 32) (v745 : IVec S16 32) : Prop :=
  (∀ a x, ((![v3, v745] : Fin 2 → IVec S16 32) a x).toNat < S16x100.size a)
theorem k0_idx126_inb : ∀ (v3 : IVec S16 32) (v745 : IVec S16 32) (k0_hw126 : k0_chk126 v3 v745), ∀ a x, ((![v3, v745] : Fin 2 → IVec S16 32) a x).toNat < S16x100.size a := fun v3 v745 k0_hw126 => k0_hw126

def k0_chk127 (v3 : IVec S16 32) (v752 : IVec S16 32) : Prop :=
  (∀ a x, ((![v3, v752] : Fin 2 → IVec S16 32) a x).toNat < S16x100.size a)
theorem k0_idx127_inb : ∀ (v3 : IVec S16 32) (v752 : IVec S16 32) (k0_hw127 : k0_chk127 v3 v752), ∀ a x, ((![v3, v752] : Fin 2 → IVec S16 32) a x).toNat < S16x100.size a := fun v3 v752 k0_hw127 => k0_hw127

def k0_chk128 (v3 : IVec S16 32) (v759 : IVec S16 32) : Prop :=
  (∀ a x, ((![v3, v759] : Fin 2 → IVec S16 32) a x).toNat < S16x100.size a)
theorem k0_idx128_inb : ∀ (v3 : IVec S16 32) (v759 : IVec S16 32) (k0_hw128 : k0_chk128 v3 v759), ∀ a x, ((![v3, v759] : Fin 2 → IVec S16 32) a x).toNat < S16x100.size a := fun v3 v759 k0_hw128 => k0_hw128

def k0_chk129 (v3 : IVec S16 32) (v766 : IVec S16 32) : Prop :=
  (∀ a x, ((![v3, v766] : Fin 2 → IVec S16 32) a x).toNat < S16x100.size a)
theorem k0_idx129_inb : ∀ (v3 : IVec S16 32) (v766 : IVec S16 32) (k0_hw129 : k0_chk129 v3 v766), ∀ a x, ((![v3, v766] : Fin 2 → IVec S16 32) a x).toNat < S16x100.size a := fun v3 v766 k0_hw129 => k0_hw129

def k0_chk130 (v3 : IVec S16 32) (v773 : IVec S16 32) : Prop :=
  (∀ a x, ((![v3, v773] : Fin 2 → IVec S16 32) a x).toNat < S16x100.size a)
theorem k0_idx130_inb : ∀ (v3 : IVec S16 32) (v773 : IVec S16 32) (k0_hw130 : k0_chk130 v3 v773), ∀ a x, ((![v3, v773] : Fin 2 → IVec S16 32) a x).toNat < S16x100.size a := fun v3 v773 k0_hw130 => k0_hw130

def k0_chk131 (v3 : IVec S16 32) (v780 : IVec S16 32) : Prop :=
  (∀ a x, ((![v3, v780] : Fin 2 → IVec S16 32) a x).toNat < S16x100.size a)
theorem k0_idx131_inb : ∀ (v3 : IVec S16 32) (v780 : IVec S16 32) (k0_hw131 : k0_chk131 v3 v780), ∀ a x, ((![v3, v780] : Fin 2 → IVec S16 32) a x).toNat < S16x100.size a := fun v3 v780 k0_hw131 => k0_hw131

def k0_chk132 (v3 : IVec S16 32) (v787 : IVec S16 32) : Prop :=
  (∀ a x, ((![v3, v787] : Fin 2 → IVec S16 32) a x).toNat < S16x100.size a)
theorem k0_idx132_inb : ∀ (v3 : IVec S16 32) (v787 : IVec S16 32) (k0_hw132 : k0_chk132 v3 v787), ∀ a x, ((![v3, v787] : Fin 2 → IVec S16 32) a x).toNat < S16x100.size a := fun v3 v787 k0_hw132 => k0_hw132

def k0_chk134 (v3 : IVec S16 32) (v915 : IVec S16 32) : Prop :=
  (∀ a x, ((![v3, v915] : Fin 2 → IVec S16 32) a x).toNat < S16x100.size a)
theorem k0_idx134_inb : ∀ (v3 : IVec S16 32) (v915 : IVec S16 32) (k0_hw134 : k0_chk134 v3 v915), ∀ a x, ((![v3, v915] : Fin 2 → IVec S16 32) a x).toNat < S16x100.size a := fun v3 v915 k0_hw134 => k0_hw134

def k0_chk135 (v3 : IVec S16 32) (v922 : IVec S16 32) : Prop :=
  (∀ a x, ((![v3, v922] : Fin 2 → IVec S16 32) a x).toNat < S16x100.size a)
theorem k0_idx135_inb : ∀ (v3 : IVec S16 32) (v922 : IVec S16 32) (k0_hw135 : k0_chk135 v3 v922), ∀ a x, ((![v3, v922] : Fin 2 → IVec S16 32) a x).toNat < S16x100.size a := fun v3 v922 k0_hw135 => k0_hw135

def k0_chk136 (v3 : IVec S16 32) (v929 : IVec S16 32) : Prop :=
  (∀ a x, ((![v3, v929] : Fin 2 → IVec S16 32) a x).toNat < S16x100.size a)
theorem k0_idx136_inb : ∀ (v3 : IVec S16 32) (v929 : IVec S16 32) (k0_hw136 : k0_chk136 v3 v929), ∀ a x, ((![v3, v929] : Fin 2 → IVec S16 32) a x).toNat < S16x100.size a := fun v3 v929 k0_hw136 => k0_hw136

def k0_chk137 (v3 : IVec S16 32) (v936 : IVec S16 32) : Prop :=
  (∀ a x, ((![v3, v936] : Fin 2 → IVec S16 32) a x).toNat < S16x100.size a)
theorem k0_idx137_inb : ∀ (v3 : IVec S16 32) (v936 : IVec S16 32) (k0_hw137 : k0_chk137 v3 v936), ∀ a x, ((![v3, v936] : Fin 2 → IVec S16 32) a x).toNat < S16x100.size a := fun v3 v936 k0_hw137 => k0_hw137

def k0_chk138 (v3 : IVec S16 32) (v943 : IVec S16 32) : Prop :=
  (∀ a x, ((![v3, v943] : Fin 2 → IVec S16 32) a x).toNat < S16x100.size a)
theorem k0_idx138_inb : ∀ (v3 : IVec S16 32) (v943 : IVec S16 32) (k0_hw138 : k0_chk138 v3 v943), ∀ a x, ((![v3, v943] : Fin 2 → IVec S16 32) a x).toNat < S16x100.size a := fun v3 v943 k0_hw138 => k0_hw138

def k0_chk139 (v3 : IVec S16 32) (v950 : IVec S16 32) : Prop :=
  (∀ a x, ((![v3, v950] : Fin 2 → IVec S16 32) a x).toNat < S16x100.size a)
theorem k0_idx139_inb : ∀ (v3 : IVec S16 32) (v950 : IVec S16 32) (k0_hw139 : k0_chk139 v3 v950), ∀ a x, ((![v3, v950] : Fin 2 → IVec S16 32) a x).toNat < S16x100.size a := fun v3 v950 k0_hw139 => k0_hw139

def k0_chk140 (v3 : IVec S16 32) (v957 : IVec S16 32) : Prop :=
  (∀ a x, ((![v3, v957] : Fin 2 → IVec S16 32) a x).toNat < S16x100.size a)
theorem k0_idx140_inb : ∀ (v3 : IVec S16 32) (v957 : IVec S16 32) (k0_hw140 : k0_chk140 v3 v957), ∀ a x, ((![v3, v957] : Fin 2 → IVec S16 32) a x).toNat < S16x100.size a := fun v3 v957 k0_hw140 => k0_hw140

def k0_chk141 (v3 : IVec S16 32) (v964 : IVec S16 32) : Prop :=
  (∀ a x, ((![v3, v964] : Fin 2 → IVec S16 32) a x).toNat < S16x100.size a)
theorem k0_idx141_inb : ∀ (v3 : IVec S16 32) (v964 : IVec S16 32) (k0_hw141 : k0_chk141 v3 v964), ∀ a x, ((![v3, v964] : Fin 2 → IVec S16 32) a x).toNat < S16x100.size a := fun v3 v964 k0_hw141 => k0_hw141

def k0_chk142 (v3 : IVec S16 32) (v971 : IVec S16 32) : Prop :=
  (∀ a x, ((![v3, v971] : Fin 2 → IVec S16 32) a x).toNat < S16x100.size a)
theorem k0_idx142_inb : ∀ (v3 : IVec S16 32) (v971 : IVec S16 32) (k0_hw142 : k0_chk142 v3 v971), ∀ a x, ((![v3, v971] : Fin 2 → IVec S16 32) a x).toNat < S16x100.size a := fun v3 v971 k0_hw142 => k0_hw142

def k0_chk143 (v3 : IVec S16 32) (v978 : IVec S16 32) : Prop :=
  (∀ a x, ((![v3, v978] : Fin 2 → IVec S16 32) a x).toNat < S16x100.size a)
theorem k0_idx143_inb : ∀ (v3 : IVec S16 32) (v978 : IVec S16 32) (k0_hw143 : k0_chk143 v3 v978), ∀ a x, ((![v3, v978] : Fin 2 → IVec S16 32) a x).toNat < S16x100.size a := fun v3 v978 k0_hw143 => k0_hw143

def k0_chk145 (v3 : IVec S16 32) (v1106 : IVec S16 32) : Prop :=
  (∀ a x, ((![v3, v1106] : Fin 2 → IVec S16 32) a x).toNat < S16x100.size a)
theorem k0_idx145_inb : ∀ (v3 : IVec S16 32) (v1106 : IVec S16 32) (k0_hw145 : k0_chk145 v3 v1106), ∀ a x, ((![v3, v1106] : Fin 2 → IVec S16 32) a x).toNat < S16x100.size a := fun v3 v1106 k0_hw145 => k0_hw145

def k0_chk146 (v3 : IVec S16 32) (v1113 : IVec S16 32) : Prop :=
  (∀ a x, ((![v3, v1113] : Fin 2 → IVec S16 32) a x).toNat < S16x100.size a)
theorem k0_idx146_inb : ∀ (v3 : IVec S16 32) (v1113 : IVec S16 32) (k0_hw146 : k0_chk146 v3 v1113), ∀ a x, ((![v3, v1113] : Fin 2 → IVec S16 32) a x).toNat < S16x100.size a := fun v3 v1113 k0_hw146 => k0_hw146

def k0_chk147 (v3 : IVec S16 32) (v1120 : IVec S16 32) : Prop :=
  (∀ a x, ((![v3, v1120] : Fin 2 → IVec S16 32) a x).toNat < S16x100.size a)
theorem k0_idx147_inb : ∀ (v3 : IVec S16 32) (v1120 : IVec S16 32) (k0_hw147 : k0_chk147 v3 v1120), ∀ a x, ((![v3, v1120] : Fin 2 → IVec S16 32) a x).toNat < S16x100.size a := fun v3 v1120 k0_hw147 => k0_hw147

def k0_chk148 (v3 : IVec S16 32) (v1127 : IVec S16 32) : Prop :=
  (∀ a x, ((![v3, v1127] : Fin 2 → IVec S16 32) a x).toNat < S16x100.size a)
theorem k0_idx148_inb : ∀ (v3 : IVec S16 32) (v1127 : IVec S16 32) (k0_hw148 : k0_chk148 v3 v1127), ∀ a x, ((![v3, v1127] : Fin 2 → IVec S16 32) a x).toNat < S16x100.size a := fun v3 v1127 k0_hw148 => k0_hw148

def k0_chk149 (v3 : IVec S16 32) (v1134 : IVec S16 32) : Prop :=
  (∀ a x, ((![v3, v1134] : Fin 2 → IVec S16 32) a x).toNat < S16x100.size a)
theorem k0_idx149_inb : ∀ (v3 : IVec S16 32) (v1134 : IVec S16 32) (k0_hw149 : k0_chk149 v3 v1134), ∀ a x, ((![v3, v1134] : Fin 2 → IVec S16 32) a x).toNat < S16x100.size a := fun v3 v1134 k0_hw149 => k0_hw149

def k0_chk150 (v3 : IVec S16 32) (v1141 : IVec S16 32) : Prop :=
  (∀ a x, ((![v3, v1141] : Fin 2 → IVec S16 32) a x).toNat < S16x100.size a)
theorem k0_idx150_inb : ∀ (v3 : IVec S16 32) (v1141 : IVec S16 32) (k0_hw150 : k0_chk150 v3 v1141), ∀ a x, ((![v3, v1141] : Fin 2 → IVec S16 32) a x).toNat < S16x100.size a := fun v3 v1141 k0_hw150 => k0_hw150

def k0_chk151 (v3 : IVec S16 32) (v1148 : IVec S16 32) : Prop :=
  (∀ a x, ((![v3, v1148] : Fin 2 → IVec S16 32) a x).toNat < S16x100.size a)
theorem k0_idx151_inb : ∀ (v3 : IVec S16 32) (v1148 : IVec S16 32) (k0_hw151 : k0_chk151 v3 v1148), ∀ a x, ((![v3, v1148] : Fin 2 → IVec S16 32) a x).toNat < S16x100.size a := fun v3 v1148 k0_hw151 => k0_hw151

def k0_chk152 (v3 : IVec S16 32) (v1155 : IVec S16 32) : Prop :=
  (∀ a x, ((![v3, v1155] : Fin 2 → IVec S16 32) a x).toNat < S16x100.size a)
theorem k0_idx152_inb : ∀ (v3 : IVec S16 32) (v1155 : IVec S16 32) (k0_hw152 : k0_chk152 v3 v1155), ∀ a x, ((![v3, v1155] : Fin 2 → IVec S16 32) a x).toNat < S16x100.size a := fun v3 v1155 k0_hw152 => k0_hw152

def k0_chk153 (v3 : IVec S16 32) (v1162 : IVec S16 32) : Prop :=
  (∀ a x, ((![v3, v1162] : Fin 2 → IVec S16 32) a x).toNat < S16x100.size a)
theorem k0_idx153_inb : ∀ (v3 : IVec S16 32) (v1162 : IVec S16 32) (k0_hw153 : k0_chk153 v3 v1162), ∀ a x, ((![v3, v1162] : Fin 2 → IVec S16 32) a x).toNat < S16x100.size a := fun v3 v1162 k0_hw153 => k0_hw153

def k0_chk154 (v3 : IVec S16 32) (v1169 : IVec S16 32) : Prop :=
  (∀ a x, ((![v3, v1169] : Fin 2 → IVec S16 32) a x).toNat < S16x100.size a)
theorem k0_idx154_inb : ∀ (v3 : IVec S16 32) (v1169 : IVec S16 32) (k0_hw154 : k0_chk154 v3 v1169), ∀ a x, ((![v3, v1169] : Fin 2 → IVec S16 32) a x).toNat < S16x100.size a := fun v3 v1169 k0_hw154 => k0_hw154

def k0_chk156 (v3 : IVec S16 32) (v1297 : IVec S16 32) : Prop :=
  (∀ a x, ((![v3, v1297] : Fin 2 → IVec S16 32) a x).toNat < S16x100.size a)
theorem k0_idx156_inb : ∀ (v3 : IVec S16 32) (v1297 : IVec S16 32) (k0_hw156 : k0_chk156 v3 v1297), ∀ a x, ((![v3, v1297] : Fin 2 → IVec S16 32) a x).toNat < S16x100.size a := fun v3 v1297 k0_hw156 => k0_hw156

def k0_chk157 (v3 : IVec S16 32) (v1304 : IVec S16 32) : Prop :=
  (∀ a x, ((![v3, v1304] : Fin 2 → IVec S16 32) a x).toNat < S16x100.size a)
theorem k0_idx157_inb : ∀ (v3 : IVec S16 32) (v1304 : IVec S16 32) (k0_hw157 : k0_chk157 v3 v1304), ∀ a x, ((![v3, v1304] : Fin 2 → IVec S16 32) a x).toNat < S16x100.size a := fun v3 v1304 k0_hw157 => k0_hw157

def k0_chk158 (v3 : IVec S16 32) (v1311 : IVec S16 32) : Prop :=
  (∀ a x, ((![v3, v1311] : Fin 2 → IVec S16 32) a x).toNat < S16x100.size a)
theorem k0_idx158_inb : ∀ (v3 : IVec S16 32) (v1311 : IVec S16 32) (k0_hw158 : k0_chk158 v3 v1311), ∀ a x, ((![v3, v1311] : Fin 2 → IVec S16 32) a x).toNat < S16x100.size a := fun v3 v1311 k0_hw158 => k0_hw158

def k0_chk159 (v3 : IVec S16 32) (v1318 : IVec S16 32) : Prop :=
  (∀ a x, ((![v3, v1318] : Fin 2 → IVec S16 32) a x).toNat < S16x100.size a)
theorem k0_idx159_inb : ∀ (v3 : IVec S16 32) (v1318 : IVec S16 32) (k0_hw159 : k0_chk159 v3 v1318), ∀ a x, ((![v3, v1318] : Fin 2 → IVec S16 32) a x).toNat < S16x100.size a := fun v3 v1318 k0_hw159 => k0_hw159

def k0_chk160 (v3 : IVec S16 32) (v1325 : IVec S16 32) : Prop :=
  (∀ a x, ((![v3, v1325] : Fin 2 → IVec S16 32) a x).toNat < S16x100.size a)
theorem k0_idx160_inb : ∀ (v3 : IVec S16 32) (v1325 : IVec S16 32) (k0_hw160 : k0_chk160 v3 v1325), ∀ a x, ((![v3, v1325] : Fin 2 → IVec S16 32) a x).toNat < S16x100.size a := fun v3 v1325 k0_hw160 => k0_hw160

def k0_chk161 (v3 : IVec S16 32) (v1332 : IVec S16 32) : Prop :=
  (∀ a x, ((![v3, v1332] : Fin 2 → IVec S16 32) a x).toNat < S16x100.size a)
theorem k0_idx161_inb : ∀ (v3 : IVec S16 32) (v1332 : IVec S16 32) (k0_hw161 : k0_chk161 v3 v1332), ∀ a x, ((![v3, v1332] : Fin 2 → IVec S16 32) a x).toNat < S16x100.size a := fun v3 v1332 k0_hw161 => k0_hw161

def k0_chk162 (v3 : IVec S16 32) (v1339 : IVec S16 32) : Prop :=
  (∀ a x, ((![v3, v1339] : Fin 2 → IVec S16 32) a x).toNat < S16x100.size a)
theorem k0_idx162_inb : ∀ (v3 : IVec S16 32) (v1339 : IVec S16 32) (k0_hw162 : k0_chk162 v3 v1339), ∀ a x, ((![v3, v1339] : Fin 2 → IVec S16 32) a x).toNat < S16x100.size a := fun v3 v1339 k0_hw162 => k0_hw162

def k0_chk163 (v3 : IVec S16 32) (v1346 : IVec S16 32) : Prop :=
  (∀ a x, ((![v3, v1346] : Fin 2 → IVec S16 32) a x).toNat < S16x100.size a)
theorem k0_idx163_inb : ∀ (v3 : IVec S16 32) (v1346 : IVec S16 32) (k0_hw163 : k0_chk163 v3 v1346), ∀ a x, ((![v3, v1346] : Fin 2 → IVec S16 32) a x).toNat < S16x100.size a := fun v3 v1346 k0_hw163 => k0_hw163

def k0_chk164 (v3 : IVec S16 32) (v1353 : IVec S16 32) : Prop :=
  (∀ a x, ((![v3, v1353] : Fin 2 → IVec S16 32) a x).toNat < S16x100.size a)
theorem k0_idx164_inb : ∀ (v3 : IVec S16 32) (v1353 : IVec S16 32) (k0_hw164 : k0_chk164 v3 v1353), ∀ a x, ((![v3, v1353] : Fin 2 → IVec S16 32) a x).toNat < S16x100.size a := fun v3 v1353 k0_hw164 => k0_hw164

def k0_chk165 (v3 : IVec S16 32) (v1360 : IVec S16 32) : Prop :=
  (∀ a x, ((![v3, v1360] : Fin 2 → IVec S16 32) a x).toNat < S16x100.size a)
theorem k0_idx165_inb : ∀ (v3 : IVec S16 32) (v1360 : IVec S16 32) (k0_hw165 : k0_chk165 v3 v1360), ∀ a x, ((![v3, v1360] : Fin 2 → IVec S16 32) a x).toNat < S16x100.size a := fun v3 v1360 k0_hw165 => k0_hw165

def k0_chk167 (v3 : IVec S16 32) (v1488 : IVec S16 32) : Prop :=
  (∀ a x, ((![v3, v1488] : Fin 2 → IVec S16 32) a x).toNat < S16x100.size a)
theorem k0_idx167_inb : ∀ (v3 : IVec S16 32) (v1488 : IVec S16 32) (k0_hw167 : k0_chk167 v3 v1488), ∀ a x, ((![v3, v1488] : Fin 2 → IVec S16 32) a x).toNat < S16x100.size a := fun v3 v1488 k0_hw167 => k0_hw167

def k0_chk168 (v3 : IVec S16 32) (v1495 : IVec S16 32) : Prop :=
  (∀ a x, ((![v3, v1495] : Fin 2 → IVec S16 32) a x).toNat < S16x100.size a)
theorem k0_idx168_inb : ∀ (v3 : IVec S16 32) (v1495 : IVec S16 32) (k0_hw168 : k0_chk168 v3 v1495), ∀ a x, ((![v3, v1495] : Fin 2 → IVec S16 32) a x).toNat < S16x100.size a := fun v3 v1495 k0_hw168 => k0_hw168

def k0_chk169 (v3 : IVec S16 32) (v1502 : IVec S16 32) : Prop :=
  (∀ a x, ((![v3, v1502] : Fin 2 → IVec S16 32) a x).toNat < S16x100.size a)
theorem k0_idx169_inb : ∀ (v3 : IVec S16 32) (v1502 : IVec S16 32) (k0_hw169 : k0_chk169 v3 v1502), ∀ a x, ((![v3, v1502] : Fin 2 → IVec S16 32) a x).toNat < S16x100.size a := fun v3 v1502 k0_hw169 => k0_hw169

def k0_chk170 (v3 : IVec S16 32) (v1509 : IVec S16 32) : Prop :=
  (∀ a x, ((![v3, v1509] : Fin 2 → IVec S16 32) a x).toNat < S16x100.size a)
theorem k0_idx170_inb : ∀ (v3 : IVec S16 32) (v1509 : IVec S16 32) (k0_hw170 : k0_chk170 v3 v1509), ∀ a x, ((![v3, v1509] : Fin 2 → IVec S16 32) a x).toNat < S16x100.size a := fun v3 v1509 k0_hw170 => k0_hw170

def k0_chk171 (v3 : IVec S16 32) (v1516 : IVec S16 32) : Prop :=
  (∀ a x, ((![v3, v1516] : Fin 2 → IVec S16 32) a x).toNat < S16x100.size a)
theorem k0_idx171_inb : ∀ (v3 : IVec S16 32) (v1516 : IVec S16 32) (k0_hw171 : k0_chk171 v3 v1516), ∀ a x, ((![v3, v1516] : Fin 2 → IVec S16 32) a x).toNat < S16x100.size a := fun v3 v1516 k0_hw171 => k0_hw171

def k0_chk172 (v3 : IVec S16 32) (v1523 : IVec S16 32) : Prop :=
  (∀ a x, ((![v3, v1523] : Fin 2 → IVec S16 32) a x).toNat < S16x100.size a)
theorem k0_idx172_inb : ∀ (v3 : IVec S16 32) (v1523 : IVec S16 32) (k0_hw172 : k0_chk172 v3 v1523), ∀ a x, ((![v3, v1523] : Fin 2 → IVec S16 32) a x).toNat < S16x100.size a := fun v3 v1523 k0_hw172 => k0_hw172

def k0_chk173 (v3 : IVec S16 32) (v1530 : IVec S16 32) : Prop :=
  (∀ a x, ((![v3, v1530] : Fin 2 → IVec S16 32) a x).toNat < S16x100.size a)
theorem k0_idx173_inb : ∀ (v3 : IVec S16 32) (v1530 : IVec S16 32) (k0_hw173 : k0_chk173 v3 v1530), ∀ a x, ((![v3, v1530] : Fin 2 → IVec S16 32) a x).toNat < S16x100.size a := fun v3 v1530 k0_hw173 => k0_hw173

def k0_chk174 (v3 : IVec S16 32) (v1537 : IVec S16 32) : Prop :=
  (∀ a x, ((![v3, v1537] : Fin 2 → IVec S16 32) a x).toNat < S16x100.size a)
theorem k0_idx174_inb : ∀ (v3 : IVec S16 32) (v1537 : IVec S16 32) (k0_hw174 : k0_chk174 v3 v1537), ∀ a x, ((![v3, v1537] : Fin 2 → IVec S16 32) a x).toNat < S16x100.size a := fun v3 v1537 k0_hw174 => k0_hw174

def k0_chk175 (v3 : IVec S16 32) (v1544 : IVec S16 32) : Prop :=
  (∀ a x, ((![v3, v1544] : Fin 2 → IVec S16 32) a x).toNat < S16x100.size a)
theorem k0_idx175_inb : ∀ (v3 : IVec S16 32) (v1544 : IVec S16 32) (k0_hw175 : k0_chk175 v3 v1544), ∀ a x, ((![v3, v1544] : Fin 2 → IVec S16 32) a x).toNat < S16x100.size a := fun v3 v1544 k0_hw175 => k0_hw175

def k0_chk176 (v3 : IVec S16 32) (v1551 : IVec S16 32) : Prop :=
  (∀ a x, ((![v3, v1551] : Fin 2 → IVec S16 32) a x).toNat < S16x100.size a)
theorem k0_idx176_inb : ∀ (v3 : IVec S16 32) (v1551 : IVec S16 32) (k0_hw176 : k0_chk176 v3 v1551), ∀ a x, ((![v3, v1551] : Fin 2 → IVec S16 32) a x).toNat < S16x100.size a := fun v3 v1551 k0_hw176 => k0_hw176

def k0_chk178 (v3 : IVec S16 32) (v1679 : IVec S16 32) : Prop :=
  (∀ a x, ((![v3, v1679] : Fin 2 → IVec S16 32) a x).toNat < S16x100.size a)
theorem k0_idx178_inb : ∀ (v3 : IVec S16 32) (v1679 : IVec S16 32) (k0_hw178 : k0_chk178 v3 v1679), ∀ a x, ((![v3, v1679] : Fin 2 → IVec S16 32) a x).toNat < S16x100.size a := fun v3 v1679 k0_hw178 => k0_hw178

def k0_chk179 (v3 : IVec S16 32) (v1686 : IVec S16 32) : Prop :=
  (∀ a x, ((![v3, v1686] : Fin 2 → IVec S16 32) a x).toNat < S16x100.size a)
theorem k0_idx179_inb : ∀ (v3 : IVec S16 32) (v1686 : IVec S16 32) (k0_hw179 : k0_chk179 v3 v1686), ∀ a x, ((![v3, v1686] : Fin 2 → IVec S16 32) a x).toNat < S16x100.size a := fun v3 v1686 k0_hw179 => k0_hw179

def k0_chk180 (v3 : IVec S16 32) (v1693 : IVec S16 32) : Prop :=
  (∀ a x, ((![v3, v1693] : Fin 2 → IVec S16 32) a x).toNat < S16x100.size a)
theorem k0_idx180_inb : ∀ (v3 : IVec S16 32) (v1693 : IVec S16 32) (k0_hw180 : k0_chk180 v3 v1693), ∀ a x, ((![v3, v1693] : Fin 2 → IVec S16 32) a x).toNat < S16x100.size a := fun v3 v1693 k0_hw180 => k0_hw180

def k0_chk181 (v3 : IVec S16 32) (v1700 : IVec S16 32) : Prop :=
  (∀ a x, ((![v3, v1700] : Fin 2 → IVec S16 32) a x).toNat < S16x100.size a)
theorem k0_idx181_inb : ∀ (v3 : IVec S16 32) (v1700 : IVec S16 32) (k0_hw181 : k0_chk181 v3 v1700), ∀ a x, ((![v3, v1700] : Fin 2 → IVec S16 32) a x).toNat < S16x100.size a := fun v3 v1700 k0_hw181 => k0_hw181

def k0_chk182 (v3 : IVec S16 32) (v1707 : IVec S16 32) : Prop :=
  (∀ a x, ((![v3, v1707] : Fin 2 → IVec S16 32) a x).toNat < S16x100.size a)
theorem k0_idx182_inb : ∀ (v3 : IVec S16 32) (v1707 : IVec S16 32) (k0_hw182 : k0_chk182 v3 v1707), ∀ a x, ((![v3, v1707] : Fin 2 → IVec S16 32) a x).toNat < S16x100.size a := fun v3 v1707 k0_hw182 => k0_hw182

def k0_chk183 (v3 : IVec S16 32) (v1714 : IVec S16 32) : Prop :=
  (∀ a x, ((![v3, v1714] : Fin 2 → IVec S16 32) a x).toNat < S16x100.size a)
theorem k0_idx183_inb : ∀ (v3 : IVec S16 32) (v1714 : IVec S16 32) (k0_hw183 : k0_chk183 v3 v1714), ∀ a x, ((![v3, v1714] : Fin 2 → IVec S16 32) a x).toNat < S16x100.size a := fun v3 v1714 k0_hw183 => k0_hw183

def k0_chk184 (v3 : IVec S16 32) (v1721 : IVec S16 32) : Prop :=
  (∀ a x, ((![v3, v1721] : Fin 2 → IVec S16 32) a x).toNat < S16x100.size a)
theorem k0_idx184_inb : ∀ (v3 : IVec S16 32) (v1721 : IVec S16 32) (k0_hw184 : k0_chk184 v3 v1721), ∀ a x, ((![v3, v1721] : Fin 2 → IVec S16 32) a x).toNat < S16x100.size a := fun v3 v1721 k0_hw184 => k0_hw184

def k0_chk185 (v3 : IVec S16 32) (v1728 : IVec S16 32) : Prop :=
  (∀ a x, ((![v3, v1728] : Fin 2 → IVec S16 32) a x).toNat < S16x100.size a)
theorem k0_idx185_inb : ∀ (v3 : IVec S16 32) (v1728 : IVec S16 32) (k0_hw185 : k0_chk185 v3 v1728), ∀ a x, ((![v3, v1728] : Fin 2 → IVec S16 32) a x).toNat < S16x100.size a := fun v3 v1728 k0_hw185 => k0_hw185

def k0_chk186 (v3 : IVec S16 32) (v1735 : IVec S16 32) : Prop :=
  (∀ a x, ((![v3, v1735] : Fin 2 → IVec S16 32) a x).toNat < S16x100.size a)
theorem k0_idx186_inb : ∀ (v3 : IVec S16 32) (v1735 : IVec S16 32) (k0_hw186 : k0_chk186 v3 v1735), ∀ a x, ((![v3, v1735] : Fin 2 → IVec S16 32) a x).toNat < S16x100.size a := fun v3 v1735 k0_hw186 => k0_hw186

def k0_chk187 (v3 : IVec S16 32) (v1742 : IVec S16 32) : Prop :=
  (∀ a x, ((![v3, v1742] : Fin 2 → IVec S16 32) a x).toNat < S16x100.size a)
theorem k0_idx187_inb : ∀ (v3 : IVec S16 32) (v1742 : IVec S16 32) (k0_hw187 : k0_chk187 v3 v1742), ∀ a x, ((![v3, v1742] : Fin 2 → IVec S16 32) a x).toNat < S16x100.size a := fun v3 v1742 k0_hw187 => k0_hw187

def k0_chk189 (v3 : IVec S16 32) (v1870 : IVec S16 32) : Prop :=
  (∀ a x, ((![v3, v1870] : Fin 2 → IVec S16 32) a x).toNat < S16x100.size a)
theorem k0_idx189_inb : ∀ (v3 : IVec S16 32) (v1870 : IVec S16 32) (k0_hw189 : k0_chk189 v3 v1870), ∀ a x, ((![v3, v1870] : Fin 2 → IVec S16 32) a x).toNat < S16x100.size a := fun v3 v1870 k0_hw189 => k0_hw189

def k0_chk190 (v3 : IVec S16 32) (v1877 : IVec S16 32) : Prop :=
  (∀ a x, ((![v3, v1877] : Fin 2 → IVec S16 32) a x).toNat < S16x100.size a)
theorem k0_idx190_inb : ∀ (v3 : IVec S16 32) (v1877 : IVec S16 32) (k0_hw190 : k0_chk190 v3 v1877), ∀ a x, ((![v3, v1877] : Fin 2 → IVec S16 32) a x).toNat < S16x100.size a := fun v3 v1877 k0_hw190 => k0_hw190

def k0_chk191 (v3 : IVec S16 32) (v1884 : IVec S16 32) : Prop :=
  (∀ a x, ((![v3, v1884] : Fin 2 → IVec S16 32) a x).toNat < S16x100.size a)
theorem k0_idx191_inb : ∀ (v3 : IVec S16 32) (v1884 : IVec S16 32) (k0_hw191 : k0_chk191 v3 v1884), ∀ a x, ((![v3, v1884] : Fin 2 → IVec S16 32) a x).toNat < S16x100.size a := fun v3 v1884 k0_hw191 => k0_hw191

def k0_chk192 (v3 : IVec S16 32) (v1891 : IVec S16 32) : Prop :=
  (∀ a x, ((![v3, v1891] : Fin 2 → IVec S16 32) a x).toNat < S16x100.size a)
theorem k0_idx192_inb : ∀ (v3 : IVec S16 32) (v1891 : IVec S16 32) (k0_hw192 : k0_chk192 v3 v1891), ∀ a x, ((![v3, v1891] : Fin 2 → IVec S16 32) a x).toNat < S16x100.size a := fun v3 v1891 k0_hw192 => k0_hw192

def k0_chk193 (v3 : IVec S16 32) (v1898 : IVec S16 32) : Prop :=
  (∀ a x, ((![v3, v1898] : Fin 2 → IVec S16 32) a x).toNat < S16x100.size a)
theorem k0_idx193_inb : ∀ (v3 : IVec S16 32) (v1898 : IVec S16 32) (k0_hw193 : k0_chk193 v3 v1898), ∀ a x, ((![v3, v1898] : Fin 2 → IVec S16 32) a x).toNat < S16x100.size a := fun v3 v1898 k0_hw193 => k0_hw193

def k0_chk194 (v3 : IVec S16 32) (v1905 : IVec S16 32) : Prop :=
  (∀ a x, ((![v3, v1905] : Fin 2 → IVec S16 32) a x).toNat < S16x100.size a)
theorem k0_idx194_inb : ∀ (v3 : IVec S16 32) (v1905 : IVec S16 32) (k0_hw194 : k0_chk194 v3 v1905), ∀ a x, ((![v3, v1905] : Fin 2 → IVec S16 32) a x).toNat < S16x100.size a := fun v3 v1905 k0_hw194 => k0_hw194

def k0_chk195 (v3 : IVec S16 32) (v1912 : IVec S16 32) : Prop :=
  (∀ a x, ((![v3, v1912] : Fin 2 → IVec S16 32) a x).toNat < S16x100.size a)
theorem k0_idx195_inb : ∀ (v3 : IVec S16 32) (v1912 : IVec S16 32) (k0_hw195 : k0_chk195 v3 v1912), ∀ a x, ((![v3, v1912] : Fin 2 → IVec S16 32) a x).toNat < S16x100.size a := fun v3 v1912 k0_hw195 => k0_hw195

def k0_chk196 (v3 : IVec S16 32) (v1919 : IVec S16 32) : Prop :=
  (∀ a x, ((![v3, v1919] : Fin 2 → IVec S16 32) a x).toNat < S16x100.size a)
theorem k0_idx196_inb : ∀ (v3 : IVec S16 32) (v1919 : IVec S16 32) (k0_hw196 : k0_chk196 v3 v1919), ∀ a x, ((![v3, v1919] : Fin 2 → IVec S16 32) a x).toNat < S16x100.size a := fun v3 v1919 k0_hw196 => k0_hw196

def k0_chk197 (v3 : IVec S16 32) (v1926 : IVec S16 32) : Prop :=
  (∀ a x, ((![v3, v1926] : Fin 2 → IVec S16 32) a x).toNat < S16x100.size a)
theorem k0_idx197_inb : ∀ (v3 : IVec S16 32) (v1926 : IVec S16 32) (k0_hw197 : k0_chk197 v3 v1926), ∀ a x, ((![v3, v1926] : Fin 2 → IVec S16 32) a x).toNat < S16x100.size a := fun v3 v1926 k0_hw197 => k0_hw197

def k0_chk198 (v3 : IVec S16 32) (v1933 : IVec S16 32) : Prop :=
  (∀ a x, ((![v3, v1933] : Fin 2 → IVec S16 32) a x).toNat < S16x100.size a)
theorem k0_idx198_inb : ∀ (v3 : IVec S16 32) (v1933 : IVec S16 32) (k0_hw198 : k0_chk198 v3 v1933), ∀ a x, ((![v3, v1933] : Fin 2 → IVec S16 32) a x).toNat < S16x100.size a := fun v3 v1933 k0_hw198 => k0_hw198

def k0_chk200 (v3 : IVec S16 32) (v2061 : IVec S16 32) : Prop :=
  (∀ a x, ((![v3, v2061] : Fin 2 → IVec S16 32) a x).toNat < S16x100.size a)
theorem k0_idx200_inb : ∀ (v3 : IVec S16 32) (v2061 : IVec S16 32) (k0_hw200 : k0_chk200 v3 v2061), ∀ a x, ((![v3, v2061] : Fin 2 → IVec S16 32) a x).toNat < S16x100.size a := fun v3 v2061 k0_hw200 => k0_hw200

def k0_chk201 (v3 : IVec S16 32) (v2068 : IVec S16 32) : Prop :=
  (∀ a x, ((![v3, v2068] : Fin 2 → IVec S16 32) a x).toNat < S16x100.size a)
theorem k0_idx201_inb : ∀ (v3 : IVec S16 32) (v2068 : IVec S16 32) (k0_hw201 : k0_chk201 v3 v2068), ∀ a x, ((![v3, v2068] : Fin 2 → IVec S16 32) a x).toNat < S16x100.size a := fun v3 v2068 k0_hw201 => k0_hw201

def k0_chk202 (v3 : IVec S16 32) (v2075 : IVec S16 32) : Prop :=
  (∀ a x, ((![v3, v2075] : Fin 2 → IVec S16 32) a x).toNat < S16x100.size a)
theorem k0_idx202_inb : ∀ (v3 : IVec S16 32) (v2075 : IVec S16 32) (k0_hw202 : k0_chk202 v3 v2075), ∀ a x, ((![v3, v2075] : Fin 2 → IVec S16 32) a x).toNat < S16x100.size a := fun v3 v2075 k0_hw202 => k0_hw202

def k0_chk203 (v3 : IVec S16 32) (v2082 : IVec S16 32) : Prop :=
  (∀ a x, ((![v3, v2082] : Fin 2 → IVec S16 32) a x).toNat < S16x100.size a)
theorem k0_idx203_inb : ∀ (v3 : IVec S16 32) (v2082 : IVec S16 32) (k0_hw203 : k0_chk203 v3 v2082), ∀ a x, ((![v3, v2082] : Fin 2 → IVec S16 32) a x).toNat < S16x100.size a := fun v3 v2082 k0_hw203 => k0_hw203

def k0_chk204 (v3 : IVec S16 32) (v2089 : IVec S16 32) : Prop :=
  (∀ a x, ((![v3, v2089] : Fin 2 → IVec S16 32) a x).toNat < S16x100.size a)
theorem k0_idx204_inb : ∀ (v3 : IVec S16 32) (v2089 : IVec S16 32) (k0_hw204 : k0_chk204 v3 v2089), ∀ a x, ((![v3, v2089] : Fin 2 → IVec S16 32) a x).toNat < S16x100.size a := fun v3 v2089 k0_hw204 => k0_hw204

def k0_chk205 (v3 : IVec S16 32) (v2096 : IVec S16 32) : Prop :=
  (∀ a x, ((![v3, v2096] : Fin 2 → IVec S16 32) a x).toNat < S16x100.size a)
theorem k0_idx205_inb : ∀ (v3 : IVec S16 32) (v2096 : IVec S16 32) (k0_hw205 : k0_chk205 v3 v2096), ∀ a x, ((![v3, v2096] : Fin 2 → IVec S16 32) a x).toNat < S16x100.size a := fun v3 v2096 k0_hw205 => k0_hw205

def k0_chk206 (v3 : IVec S16 32) (v2103 : IVec S16 32) : Prop :=
  (∀ a x, ((![v3, v2103] : Fin 2 → IVec S16 32) a x).toNat < S16x100.size a)
theorem k0_idx206_inb : ∀ (v3 : IVec S16 32) (v2103 : IVec S16 32) (k0_hw206 : k0_chk206 v3 v2103), ∀ a x, ((![v3, v2103] : Fin 2 → IVec S16 32) a x).toNat < S16x100.size a := fun v3 v2103 k0_hw206 => k0_hw206

def k0_chk207 (v3 : IVec S16 32) (v2110 : IVec S16 32) : Prop :=
  (∀ a x, ((![v3, v2110] : Fin 2 → IVec S16 32) a x).toNat < S16x100.size a)
theorem k0_idx207_inb : ∀ (v3 : IVec S16 32) (v2110 : IVec S16 32) (k0_hw207 : k0_chk207 v3 v2110), ∀ a x, ((![v3, v2110] : Fin 2 → IVec S16 32) a x).toNat < S16x100.size a := fun v3 v2110 k0_hw207 => k0_hw207

def k0_chk208 (v3 : IVec S16 32) (v2117 : IVec S16 32) : Prop :=
  (∀ a x, ((![v3, v2117] : Fin 2 → IVec S16 32) a x).toNat < S16x100.size a)
theorem k0_idx208_inb : ∀ (v3 : IVec S16 32) (v2117 : IVec S16 32) (k0_hw208 : k0_chk208 v3 v2117), ∀ a x, ((![v3, v2117] : Fin 2 → IVec S16 32) a x).toNat < S16x100.size a := fun v3 v2117 k0_hw208 => k0_hw208

def k0_chk209 (v3 : IVec S16 32) (v2124 : IVec S16 32) : Prop :=
  (∀ a x, ((![v3, v2124] : Fin 2 → IVec S16 32) a x).toNat < S16x100.size a)
theorem k0_idx209_inb : ∀ (v3 : IVec S16 32) (v2124 : IVec S16 32) (k0_hw209 : k0_chk209 v3 v2124), ∀ a x, ((![v3, v2124] : Fin 2 → IVec S16 32) a x).toNat < S16x100.size a := fun v3 v2124 k0_hw209 => k0_hw209

def k0_chk111 (v3 : IVec S16 32) (v410 : IVec S16 32) : Prop :=
  (∀ a x, ((![v3, v410] : Fin 2 → IVec S16 32) a x).toNat < S16x100.size a) ∧
  (∀ a x, ((![v3, v410] : Fin 2 → IVec S16 32) a x).toNat < S16x400.size a)
theorem k0_idx111_inb : ∀ (v3 : IVec S16 32) (v410 : IVec S16 32) (k0_hw111 : k0_chk111 v3 v410), ∀ a x, ((![v3, v410] : Fin 2 → IVec S16 32) a x).toNat < S16x100.size a := fun v3 v410 k0_hw111 => k0_hw111.1
theorem k0_idx211_inb : ∀ (v3 : IVec S16 32) (v410 : IVec S16 32) (k0_hw111 : k0_chk111 v3 v410), ∀ a x, ((![v3, v410] : Fin 2 → IVec S16 32) a x).toNat < S16x400.size a := fun v3 v410 k0_hw111 => k0_hw111.2

def k0_chk211 (v3 : IVec S16 32) (v2212 : IVec S16 32) : Prop :=
  (∀ a x, ((![v3, v2212] : Fin 2 → IVec S16 32) a x).toNat < S16x400.size a)
theorem k0_idx212_inb : ∀ (v3 : IVec S16 32) (v2212 : IVec S16 32) (k0_hw211 : k0_chk211 v3 v2212), ∀ a x, ((![v3, v2212] : Fin 2 → IVec S16 32) a x).toNat < S16x400.size a := fun v3 v2212 k0_hw211 => k0_hw211

def k0_chk212 (v3 : IVec S16 32) (v2215 : IVec S16 32) : Prop :=
  (∀ a x, ((![v3, v2215] : Fin 2 → IVec S16 32) a x).toNat < S16x400.size a)
theorem k0_idx213_inb : ∀ (v3 : IVec S16 32) (v2215 : IVec S16 32) (k0_hw212 : k0_chk212 v3 v2215), ∀ a x, ((![v3, v2215] : Fin 2 → IVec S16 32) a x).toNat < S16x400.size a := fun v3 v2215 k0_hw212 => k0_hw212

def k0_chk213 (v3 : IVec S16 32) (v2218 : IVec S16 32) : Prop :=
  (∀ a x, ((![v3, v2218] : Fin 2 → IVec S16 32) a x).toNat < S16x400.size a)
theorem k0_idx214_inb : ∀ (v3 : IVec S16 32) (v2218 : IVec S16 32) (k0_hw213 : k0_chk213 v3 v2218), ∀ a x, ((![v3, v2218] : Fin 2 → IVec S16 32) a x).toNat < S16x400.size a := fun v3 v2218 k0_hw213 => k0_hw213

def k0_chk122 (v3 : IVec S16 32) (v601 : IVec S16 32) : Prop :=
  (∀ a x, ((![v3, v601] : Fin 2 → IVec S16 32) a x).toNat < S16x100.size a) ∧
  (∀ a x, ((![v3, v601] : Fin 2 → IVec S16 32) a x).toNat < S16x400.size a)
theorem k0_idx122_inb : ∀ (v3 : IVec S16 32) (v601 : IVec S16 32) (k0_hw122 : k0_chk122 v3 v601), ∀ a x, ((![v3, v601] : Fin 2 → IVec S16 32) a x).toNat < S16x100.size a := fun v3 v601 k0_hw122 => k0_hw122.1
theorem k0_idx215_inb : ∀ (v3 : IVec S16 32) (v601 : IVec S16 32) (k0_hw122 : k0_chk122 v3 v601), ∀ a x, ((![v3, v601] : Fin 2 → IVec S16 32) a x).toNat < S16x400.size a := fun v3 v601 k0_hw122 => k0_hw122.2

def k0_chk214 (v3 : IVec S16 32) (v2241 : IVec S16 32) : Prop :=
  (∀ a x, ((![v3, v2241] : Fin 2 → IVec S16 32) a x).toNat < S16x400.size a)
theorem k0_idx216_inb : ∀ (v3 : IVec S16 32) (v2241 : IVec S16 32) (k0_hw214 : k0_chk214 v3 v2241), ∀ a x, ((![v3, v2241] : Fin 2 → IVec S16 32) a x).toNat < S16x400.size a := fun v3 v2241 k0_hw214 => k0_hw214

def k0_chk215 (v3 : IVec S16 32) (v2244 : IVec S16 32) : Prop :=
  (∀ a x, ((![v3, v2244] : Fin 2 → IVec S16 32) a x).toNat < S16x400.size a)
theorem k0_idx217_inb : ∀ (v3 : IVec S16 32) (v2244 : IVec S16 32) (k0_hw215 : k0_chk215 v3 v2244), ∀ a x, ((![v3, v2244] : Fin 2 → IVec S16 32) a x).toNat < S16x400.size a := fun v3 v2244 k0_hw215 => k0_hw215

def k0_chk216 (v3 : IVec S16 32) (v2247 : IVec S16 32) : Prop :=
  (∀ a x, ((![v3, v2247] : Fin 2 → IVec S16 32) a x).toNat < S16x400.size a)
theorem k0_idx218_inb : ∀ (v3 : IVec S16 32) (v2247 : IVec S16 32) (k0_hw216 : k0_chk216 v3 v2247), ∀ a x, ((![v3, v2247] : Fin 2 → IVec S16 32) a x).toNat < S16x400.size a := fun v3 v2247 k0_hw216 => k0_hw216

def k0_chk133 (v3 : IVec S16 32) (v792 : IVec S16 32) : Prop :=
  (∀ a x, ((![v3, v792] : Fin 2 → IVec S16 32) a x).toNat < S16x100.size a) ∧
  (∀ a x, ((![v3, v792] : Fin 2 → IVec S16 32) a x).toNat < S16x400.size a)
theorem k0_idx133_inb : ∀ (v3 : IVec S16 32) (v792 : IVec S16 32) (k0_hw133 : k0_chk133 v3 v792), ∀ a x, ((![v3, v792] : Fin 2 → IVec S16 32) a x).toNat < S16x100.size a := fun v3 v792 k0_hw133 => k0_hw133.1
theorem k0_idx219_inb : ∀ (v3 : IVec S16 32) (v792 : IVec S16 32) (k0_hw133 : k0_chk133 v3 v792), ∀ a x, ((![v3, v792] : Fin 2 → IVec S16 32) a x).toNat < S16x400.size a := fun v3 v792 k0_hw133 => k0_hw133.2

def k0_chk217 (v3 : IVec S16 32) (v2270 : IVec S16 32) : Prop :=
  (∀ a x, ((![v3, v2270] : Fin 2 → IVec S16 32) a x).toNat < S16x400.size a)
theorem k0_idx220_inb : ∀ (v3 : IVec S16 32) (v2270 : IVec S16 32) (k0_hw217 : k0_chk217 v3 v2270), ∀ a x, ((![v3, v2270] : Fin 2 → IVec S16 32) a x).toNat < S16x400.size a := fun v3 v2270 k0_hw217 => k0_hw217

def k0_chk218 (v3 : IVec S16 32) (v2273 : IVec S16 32) : Prop :=
  (∀ a x, ((![v3, v2273] : Fin 2 → IVec S16 32) a x).toNat < S16x400.size a)
theorem k0_idx221_inb : ∀ (v3 : IVec S16 32) (v2273 : IVec S16 32) (k0_hw218 : k0_chk218 v3 v2273), ∀ a x, ((![v3, v2273] : Fin 2 → IVec S16 32) a x).toNat < S16x400.size a := fun v3 v2273 k0_hw218 => k0_hw218

def k0_chk219 (v3 : IVec S16 32) (v2276 : IVec S16 32) : Prop :=
  (∀ a x, ((![v3, v2276] : Fin 2 → IVec S16 32) a x).toNat < S16x400.size a)
theorem k0_idx222_inb : ∀ (v3 : IVec S16 32) (v2276 : IVec S16 32) (k0_hw219 : k0_chk219 v3 v2276), ∀ a x, ((![v3, v2276] : Fin 2 → IVec S16 32) a x).toNat < S16x400.size a := fun v3 v2276 k0_hw219 => k0_hw219

def k0_chk144 (v3 : IVec S16 32) (v983 : IVec S16 32) : Prop :=
  (∀ a x, ((![v3, v983] : Fin 2 → IVec S16 32) a x).toNat < S16x100.size a) ∧
  (∀ a x, ((![v3, v983] : Fin 2 → IVec S16 32) a x).toNat < S16x400.size a)
theorem k0_idx144_inb : ∀ (v3 : IVec S16 32) (v983 : IVec S16 32) (k0_hw144 : k0_chk144 v3 v983), ∀ a x, ((![v3, v983] : Fin 2 → IVec S16 32) a x).toNat < S16x100.size a := fun v3 v983 k0_hw144 => k0_hw144.1
theorem k0_idx223_inb : ∀ (v3 : IVec S16 32) (v983 : IVec S16 32) (k0_hw144 : k0_chk144 v3 v983), ∀ a x, ((![v3, v983] : Fin 2 → IVec S16 32) a x).toNat < S16x400.size a := fun v3 v983 k0_hw144 => k0_hw144.2

def k0_chk220 (v3 : IVec S16 32) (v2299 : IVec S16 32) : Prop :=
  (∀ a x, ((![v3, v2299] : Fin 2 → IVec S16 32) a x).toNat < S16x400.size a)
theorem k0_idx224_inb : ∀ (v3 : IVec S16 32) (v2299 : IVec S16 32) (k0_hw220 : k0_chk220 v3 v2299), ∀ a x, ((![v3, v2299] : Fin 2 → IVec S16 32) a x).toNat < S16x400.size a := fun v3 v2299 k0_hw220 => k0_hw220

def k0_chk221 (v3 : IVec S16 32) (v2302 : IVec S16 32) : Prop :=
  (∀ a x, ((![v3, v2302] : Fin 2 → IVec S16 32) a x).toNat < S16x400.size a)
theorem k0_idx225_inb : ∀ (v3 : IVec S16 32) (v2302 : IVec S16 32) (k0_hw221 : k0_chk221 v3 v2302), ∀ a x, ((![v3, v2302] : Fin 2 → IVec S16 32) a x).toNat < S16x400.size a := fun v3 v2302 k0_hw221 => k0_hw221

def k0_chk222 (v3 : IVec S16 32) (v2305 : IVec S16 32) : Prop :=
  (∀ a x, ((![v3, v2305] : Fin 2 → IVec S16 32) a x).toNat < S16x400.size a)
theorem k0_idx226_inb : ∀ (v3 : IVec S16 32) (v2305 : IVec S16 32) (k0_hw222 : k0_chk222 v3 v2305), ∀ a x, ((![v3, v2305] : Fin 2 → IVec S16 32) a x).toNat < S16x400.size a := fun v3 v2305 k0_hw222 => k0_hw222

def k0_chk155 (v3 : IVec S16 32) (v1174 : IVec S16 32) : Prop :=
  (∀ a x, ((![v3, v1174] : Fin 2 → IVec S16 32) a x).toNat < S16x100.size a) ∧
  (∀ a x, ((![v3, v1174] : Fin 2 → IVec S16 32) a x).toNat < S16x400.size a)
theorem k0_idx155_inb : ∀ (v3 : IVec S16 32) (v1174 : IVec S16 32) (k0_hw155 : k0_chk155 v3 v1174), ∀ a x, ((![v3, v1174] : Fin 2 → IVec S16 32) a x).toNat < S16x100.size a := fun v3 v1174 k0_hw155 => k0_hw155.1
theorem k0_idx227_inb : ∀ (v3 : IVec S16 32) (v1174 : IVec S16 32) (k0_hw155 : k0_chk155 v3 v1174), ∀ a x, ((![v3, v1174] : Fin 2 → IVec S16 32) a x).toNat < S16x400.size a := fun v3 v1174 k0_hw155 => k0_hw155.2

def k0_chk223 (v3 : IVec S16 32) (v2328 : IVec S16 32) : Prop :=
  (∀ a x, ((![v3, v2328] : Fin 2 → IVec S16 32) a x).toNat < S16x400.size a)
theorem k0_idx228_inb : ∀ (v3 : IVec S16 32) (v2328 : IVec S16 32) (k0_hw223 : k0_chk223 v3 v2328), ∀ a x, ((![v3, v2328] : Fin 2 → IVec S16 32) a x).toNat < S16x400.size a := fun v3 v2328 k0_hw223 => k0_hw223

def k0_chk224 (v3 : IVec S16 32) (v2331 : IVec S16 32) : Prop :=
  (∀ a x, ((![v3, v2331] : Fin 2 → IVec S16 32) a x).toNat < S16x400.size a)
theorem k0_idx229_inb : ∀ (v3 : IVec S16 32) (v2331 : IVec S16 32) (k0_hw224 : k0_chk224 v3 v2331), ∀ a x, ((![v3, v2331] : Fin 2 → IVec S16 32) a x).toNat < S16x400.size a := fun v3 v2331 k0_hw224 => k0_hw224

def k0_chk225 (v3 : IVec S16 32) (v2334 : IVec S16 32) : Prop :=
  (∀ a x, ((![v3, v2334] : Fin 2 → IVec S16 32) a x).toNat < S16x400.size a)
theorem k0_idx230_inb : ∀ (v3 : IVec S16 32) (v2334 : IVec S16 32) (k0_hw225 : k0_chk225 v3 v2334), ∀ a x, ((![v3, v2334] : Fin 2 → IVec S16 32) a x).toNat < S16x400.size a := fun v3 v2334 k0_hw225 => k0_hw225

def k0_chk166 (v3 : IVec S16 32) (v1365 : IVec S16 32) : Prop :=
  (∀ a x, ((![v3, v1365] : Fin 2 → IVec S16 32) a x).toNat < S16x100.size a) ∧
  (∀ a x, ((![v3, v1365] : Fin 2 → IVec S16 32) a x).toNat < S16x400.size a)
theorem k0_idx166_inb : ∀ (v3 : IVec S16 32) (v1365 : IVec S16 32) (k0_hw166 : k0_chk166 v3 v1365), ∀ a x, ((![v3, v1365] : Fin 2 → IVec S16 32) a x).toNat < S16x100.size a := fun v3 v1365 k0_hw166 => k0_hw166.1
theorem k0_idx231_inb : ∀ (v3 : IVec S16 32) (v1365 : IVec S16 32) (k0_hw166 : k0_chk166 v3 v1365), ∀ a x, ((![v3, v1365] : Fin 2 → IVec S16 32) a x).toNat < S16x400.size a := fun v3 v1365 k0_hw166 => k0_hw166.2

def k0_chk226 (v3 : IVec S16 32) (v2357 : IVec S16 32) : Prop :=
  (∀ a x, ((![v3, v2357] : Fin 2 → IVec S16 32) a x).toNat < S16x400.size a)
theorem k0_idx232_inb : ∀ (v3 : IVec S16 32) (v2357 : IVec S16 32) (k0_hw226 : k0_chk226 v3 v2357), ∀ a x, ((![v3, v2357] : Fin 2 → IVec S16 32) a x).toNat < S16x400.size a := fun v3 v2357 k0_hw226 => k0_hw226

def k0_chk227 (v3 : IVec S16 32) (v2360 : IVec S16 32) : Prop :=
  (∀ a x, ((![v3, v2360] : Fin 2 → IVec S16 32) a x).toNat < S16x400.size a)
theorem k0_idx233_inb : ∀ (v3 : IVec S16 32) (v2360 : IVec S16 32) (k0_hw227 : k0_chk227 v3 v2360), ∀ a x, ((![v3, v2360] : Fin 2 → IVec S16 32) a x).toNat < S16x400.size a := fun v3 v2360 k0_hw227 => k0_hw227

def k0_chk228 (v3 : IVec S16 32) (v2363 : IVec S16 32) : Prop :=
  (∀ a x, ((![v3, v2363] : Fin 2 → IVec S16 32) a x).toNat < S16x400.size a)
theorem k0_idx234_inb : ∀ (v3 : IVec S16 32) (v2363 : IVec S16 32) (k0_hw228 : k0_chk228 v3 v2363), ∀ a x, ((![v3, v2363] : Fin 2 → IVec S16 32) a x).toNat < S16x400.size a := fun v3 v2363 k0_hw228 => k0_hw228

def k0_chk177 (v3 : IVec S16 32) (v1556 : IVec S16 32) : Prop :=
  (∀ a x, ((![v3, v1556] : Fin 2 → IVec S16 32) a x).toNat < S16x100.size a) ∧
  (∀ a x, ((![v3, v1556] : Fin 2 → IVec S16 32) a x).toNat < S16x400.size a)
theorem k0_idx177_inb : ∀ (v3 : IVec S16 32) (v1556 : IVec S16 32) (k0_hw177 : k0_chk177 v3 v1556), ∀ a x, ((![v3, v1556] : Fin 2 → IVec S16 32) a x).toNat < S16x100.size a := fun v3 v1556 k0_hw177 => k0_hw177.1
theorem k0_idx235_inb : ∀ (v3 : IVec S16 32) (v1556 : IVec S16 32) (k0_hw177 : k0_chk177 v3 v1556), ∀ a x, ((![v3, v1556] : Fin 2 → IVec S16 32) a x).toNat < S16x400.size a := fun v3 v1556 k0_hw177 => k0_hw177.2

def k0_chk229 (v3 : IVec S16 32) (v2386 : IVec S16 32) : Prop :=
  (∀ a x, ((![v3, v2386] : Fin 2 → IVec S16 32) a x).toNat < S16x400.size a)
theorem k0_idx236_inb : ∀ (v3 : IVec S16 32) (v2386 : IVec S16 32) (k0_hw229 : k0_chk229 v3 v2386), ∀ a x, ((![v3, v2386] : Fin 2 → IVec S16 32) a x).toNat < S16x400.size a := fun v3 v2386 k0_hw229 => k0_hw229

def k0_chk230 (v3 : IVec S16 32) (v2389 : IVec S16 32) : Prop :=
  (∀ a x, ((![v3, v2389] : Fin 2 → IVec S16 32) a x).toNat < S16x400.size a)
theorem k0_idx237_inb : ∀ (v3 : IVec S16 32) (v2389 : IVec S16 32) (k0_hw230 : k0_chk230 v3 v2389), ∀ a x, ((![v3, v2389] : Fin 2 → IVec S16 32) a x).toNat < S16x400.size a := fun v3 v2389 k0_hw230 => k0_hw230

def k0_chk231 (v3 : IVec S16 32) (v2392 : IVec S16 32) : Prop :=
  (∀ a x, ((![v3, v2392] : Fin 2 → IVec S16 32) a x).toNat < S16x400.size a)
theorem k0_idx238_inb : ∀ (v3 : IVec S16 32) (v2392 : IVec S16 32) (k0_hw231 : k0_chk231 v3 v2392), ∀ a x, ((![v3, v2392] : Fin 2 → IVec S16 32) a x).toNat < S16x400.size a := fun v3 v2392 k0_hw231 => k0_hw231

def k0_chk188 (v3 : IVec S16 32) (v1747 : IVec S16 32) : Prop :=
  (∀ a x, ((![v3, v1747] : Fin 2 → IVec S16 32) a x).toNat < S16x100.size a) ∧
  (∀ a x, ((![v3, v1747] : Fin 2 → IVec S16 32) a x).toNat < S16x400.size a)
theorem k0_idx188_inb : ∀ (v3 : IVec S16 32) (v1747 : IVec S16 32) (k0_hw188 : k0_chk188 v3 v1747), ∀ a x, ((![v3, v1747] : Fin 2 → IVec S16 32) a x).toNat < S16x100.size a := fun v3 v1747 k0_hw188 => k0_hw188.1
theorem k0_idx239_inb : ∀ (v3 : IVec S16 32) (v1747 : IVec S16 32) (k0_hw188 : k0_chk188 v3 v1747), ∀ a x, ((![v3, v1747] : Fin 2 → IVec S16 32) a x).toNat < S16x400.size a := fun v3 v1747 k0_hw188 => k0_hw188.2

def k0_chk232 (v3 : IVec S16 32) (v2415 : IVec S16 32) : Prop :=
  (∀ a x, ((![v3, v2415] : Fin 2 → IVec S16 32) a x).toNat < S16x400.size a)
theorem k0_idx240_inb : ∀ (v3 : IVec S16 32) (v2415 : IVec S16 32) (k0_hw232 : k0_chk232 v3 v2415), ∀ a x, ((![v3, v2415] : Fin 2 → IVec S16 32) a x).toNat < S16x400.size a := fun v3 v2415 k0_hw232 => k0_hw232

def k0_chk233 (v3 : IVec S16 32) (v2418 : IVec S16 32) : Prop :=
  (∀ a x, ((![v3, v2418] : Fin 2 → IVec S16 32) a x).toNat < S16x400.size a)
theorem k0_idx241_inb : ∀ (v3 : IVec S16 32) (v2418 : IVec S16 32) (k0_hw233 : k0_chk233 v3 v2418), ∀ a x, ((![v3, v2418] : Fin 2 → IVec S16 32) a x).toNat < S16x400.size a := fun v3 v2418 k0_hw233 => k0_hw233

def k0_chk234 (v3 : IVec S16 32) (v2421 : IVec S16 32) : Prop :=
  (∀ a x, ((![v3, v2421] : Fin 2 → IVec S16 32) a x).toNat < S16x400.size a)
theorem k0_idx242_inb : ∀ (v3 : IVec S16 32) (v2421 : IVec S16 32) (k0_hw234 : k0_chk234 v3 v2421), ∀ a x, ((![v3, v2421] : Fin 2 → IVec S16 32) a x).toNat < S16x400.size a := fun v3 v2421 k0_hw234 => k0_hw234

def k0_chk199 (v3 : IVec S16 32) (v1938 : IVec S16 32) : Prop :=
  (∀ a x, ((![v3, v1938] : Fin 2 → IVec S16 32) a x).toNat < S16x100.size a) ∧
  (∀ a x, ((![v3, v1938] : Fin 2 → IVec S16 32) a x).toNat < S16x400.size a)
theorem k0_idx199_inb : ∀ (v3 : IVec S16 32) (v1938 : IVec S16 32) (k0_hw199 : k0_chk199 v3 v1938), ∀ a x, ((![v3, v1938] : Fin 2 → IVec S16 32) a x).toNat < S16x100.size a := fun v3 v1938 k0_hw199 => k0_hw199.1
theorem k0_idx243_inb : ∀ (v3 : IVec S16 32) (v1938 : IVec S16 32) (k0_hw199 : k0_chk199 v3 v1938), ∀ a x, ((![v3, v1938] : Fin 2 → IVec S16 32) a x).toNat < S16x400.size a := fun v3 v1938 k0_hw199 => k0_hw199.2

def k0_chk235 (v3 : IVec S16 32) (v2444 : IVec S16 32) : Prop :=
  (∀ a x, ((![v3, v2444] : Fin 2 → IVec S16 32) a x).toNat < S16x400.size a)
theorem k0_idx244_inb : ∀ (v3 : IVec S16 32) (v2444 : IVec S16 32) (k0_hw235 : k0_chk235 v3 v2444), ∀ a x, ((![v3, v2444] : Fin 2 → IVec S16 32) a x).toNat < S16x400.size a := fun v3 v2444 k0_hw235 => k0_hw235

def k0_chk236 (v3 : IVec S16 32) (v2447 : IVec S16 32) : Prop :=
  (∀ a x, ((![v3, v2447] : Fin 2 → IVec S16 32) a x).toNat < S16x400.size a)
theorem k0_idx245_inb : ∀ (v3 : IVec S16 32) (v2447 : IVec S16 32) (k0_hw236 : k0_chk236 v3 v2447), ∀ a x, ((![v3, v2447] : Fin 2 → IVec S16 32) a x).toNat < S16x400.size a := fun v3 v2447 k0_hw236 => k0_hw236

def k0_chk237 (v3 : IVec S16 32) (v2450 : IVec S16 32) : Prop :=
  (∀ a x, ((![v3, v2450] : Fin 2 → IVec S16 32) a x).toNat < S16x400.size a)
theorem k0_idx246_inb : ∀ (v3 : IVec S16 32) (v2450 : IVec S16 32) (k0_hw237 : k0_chk237 v3 v2450), ∀ a x, ((![v3, v2450] : Fin 2 → IVec S16 32) a x).toNat < S16x400.size a := fun v3 v2450 k0_hw237 => k0_hw237

def k0_chk210 (v3 : IVec S16 32) (v2129 : IVec S16 32) : Prop :=
  (∀ a x, ((![v3, v2129] : Fin 2 → IVec S16 32) a x).toNat < S16x100.size a) ∧
  (∀ a x, ((![v3, v2129] : Fin 2 → IVec S16 32) a x).toNat < S16x400.size a)
theorem k0_idx210_inb : ∀ (v3 : IVec S16 32) (v2129 : IVec S16 32) (k0_hw210 : k0_chk210 v3 v2129), ∀ a x, ((![v3, v2129] : Fin 2 → IVec S16 32) a x).toNat < S16x100.size a := fun v3 v2129 k0_hw210 => k0_hw210.1
theorem k0_idx247_inb : ∀ (v3 : IVec S16 32) (v2129 : IVec S16 32) (k0_hw210 : k0_chk210 v3 v2129), ∀ a x, ((![v3, v2129] : Fin 2 → IVec S16 32) a x).toNat < S16x400.size a := fun v3 v2129 k0_hw210 => k0_hw210.2

def k0_chk238 (v3 : IVec S16 32) (v2473 : IVec S16 32) : Prop :=
  (∀ a x, ((![v3, v2473] : Fin 2 → IVec S16 32) a x).toNat < S16x400.size a)
theorem k0_idx248_inb : ∀ (v3 : IVec S16 32) (v2473 : IVec S16 32) (k0_hw238 : k0_chk238 v3 v2473), ∀ a x, ((![v3, v2473] : Fin 2 → IVec S16 32) a x).toNat < S16x400.size a := fun v3 v2473 k0_hw238 => k0_hw238

def k0_chk239 (v3 : IVec S16 32) (v2476 : IVec S16 32) : Prop :=
  (∀ a x, ((![v3, v2476] : Fin 2 → IVec S16 32) a x).toNat < S16x400.size a)
theorem k0_idx249_inb : ∀ (v3 : IVec S16 32) (v2476 : IVec S16 32) (k0_hw239 : k0_chk239 v3 v2476), ∀ a x, ((![v3, v2476] : Fin 2 → IVec S16 32) a x).toNat < S16x400.size a := fun v3 v2476 k0_hw239 => k0_hw239

def k0_chk240 (v3 : IVec S16 32) (v2479 : IVec S16 32) : Prop :=
  (∀ a x, ((![v3, v2479] : Fin 2 → IVec S16 32) a x).toNat < S16x400.size a)
theorem k0_idx250_inb : ∀ (v3 : IVec S16 32) (v2479 : IVec S16 32) (k0_hw240 : k0_chk240 v3 v2479), ∀ a x, ((![v3, v2479] : Fin 2 → IVec S16 32) a x).toNat < S16x400.size a := fun v3 v2479 k0_hw240 => k0_hw240

def k0_chk241 (v2538 : IVec S16 32) : Prop :=
  (∀ a x, ((![v2538] : Fin 1 → IVec S16 32) a x).toNat < S272.size a)
theorem k0_idx251_inb : ∀ (v2538 : IVec S16 32) (k0_hw241 : k0_chk241 v2538), ∀ a x, ((![v2538] : Fin 1 → IVec S16 32) a x).toNat < S272.size a := fun v2538 k0_hw241 => k0_hw241

def k0_chk242 (v2546 : IVec S16 32) : Prop :=
  (∀ a x, ((![v2546] : Fin 1 → IVec S16 32) a x).toNat < S272.size a)
theorem k0_idx252_inb : ∀ (v2546 : IVec S16 32) (k0_hw242 : k0_chk242 v2546), ∀ a x, ((![v2546] : Fin 1 → IVec S16 32) a x).toNat < S272.size a := fun v2546 k0_hw242 => k0_hw242

def k0_chk243 (v2558 : IVec S16 32) : Prop :=
  (∀ a x, ((![v2558] : Fin 1 → IVec S16 32) a x).toNat < S272.size a)
theorem k0_idx253_inb : ∀ (v2558 : IVec S16 32) (k0_hw243 : k0_chk243 v2558), ∀ a x, ((![v2558] : Fin 1 → IVec S16 32) a x).toNat < S272.size a := fun v2558 k0_hw243 => k0_hw243

def k0_chk244 (v2566 : IVec S16 32) : Prop :=
  (∀ a x, ((![v2566] : Fin 1 → IVec S16 32) a x).toNat < S272.size a)
theorem k0_idx254_inb : ∀ (v2566 : IVec S16 32) (k0_hw244 : k0_chk244 v2566), ∀ a x, ((![v2566] : Fin 1 → IVec S16 32) a x).toNat < S272.size a := fun v2566 k0_hw244 => k0_hw244

def k0_chk245 (v2573 : IVec S16 32) : Prop :=
  (∀ a x, ((![v2573] : Fin 1 → IVec S16 32) a x).toNat < S272.size a)
theorem k0_idx255_inb : ∀ (v2573 : IVec S16 32) (k0_hw245 : k0_chk245 v2573), ∀ a x, ((![v2573] : Fin 1 → IVec S16 32) a x).toNat < S272.size a := fun v2573 k0_hw245 => k0_hw245

def k0_chk246 (v2581 : IVec S16 32) : Prop :=
  (∀ a x, ((![v2581] : Fin 1 → IVec S16 32) a x).toNat < S272.size a)
theorem k0_idx256_inb : ∀ (v2581 : IVec S16 32) (k0_hw246 : k0_chk246 v2581), ∀ a x, ((![v2581] : Fin 1 → IVec S16 32) a x).toNat < S272.size a := fun v2581 k0_hw246 => k0_hw246

def k0_chk247 (v2597 : IVec S16 32) : Prop :=
  (∀ a x, ((![v2597] : Fin 1 → IVec S16 32) a x).toNat < S272.size a)
theorem k0_idx257_inb : ∀ (v2597 : IVec S16 32) (k0_hw247 : k0_chk247 v2597), ∀ a x, ((![v2597] : Fin 1 → IVec S16 32) a x).toNat < S272.size a := fun v2597 k0_hw247 => k0_hw247

def k0_chk248 (v2605 : IVec S16 32) : Prop :=
  (∀ a x, ((![v2605] : Fin 1 → IVec S16 32) a x).toNat < S272.size a)
theorem k0_idx258_inb : ∀ (v2605 : IVec S16 32) (k0_hw248 : k0_chk248 v2605), ∀ a x, ((![v2605] : Fin 1 → IVec S16 32) a x).toNat < S272.size a := fun v2605 k0_hw248 => k0_hw248

def k0_chk249 (v2644 : IVec S16 32) : Prop :=
  (∀ a x, ((![v2644] : Fin 1 → IVec S16 32) a x).toNat < S272.size a)
theorem k0_idx259_inb : ∀ (v2644 : IVec S16 32) (k0_hw249 : k0_chk249 v2644), ∀ a x, ((![v2644] : Fin 1 → IVec S16 32) a x).toNat < S272.size a := fun v2644 k0_hw249 => k0_hw249

def k0_chk250 (v2652 : IVec S16 32) : Prop :=
  (∀ a x, ((![v2652] : Fin 1 → IVec S16 32) a x).toNat < S272.size a)
theorem k0_idx260_inb : ∀ (v2652 : IVec S16 32) (k0_hw250 : k0_chk250 v2652), ∀ a x, ((![v2652] : Fin 1 → IVec S16 32) a x).toNat < S272.size a := fun v2652 k0_hw250 => k0_hw250

def k0_chk251 (v2664 : IVec S16 32) : Prop :=
  (∀ a x, ((![v2664] : Fin 1 → IVec S16 32) a x).toNat < S272.size a)
theorem k0_idx261_inb : ∀ (v2664 : IVec S16 32) (k0_hw251 : k0_chk251 v2664), ∀ a x, ((![v2664] : Fin 1 → IVec S16 32) a x).toNat < S272.size a := fun v2664 k0_hw251 => k0_hw251

def k0_chk252 (v2672 : IVec S16 32) : Prop :=
  (∀ a x, ((![v2672] : Fin 1 → IVec S16 32) a x).toNat < S272.size a)
theorem k0_idx262_inb : ∀ (v2672 : IVec S16 32) (k0_hw252 : k0_chk252 v2672), ∀ a x, ((![v2672] : Fin 1 → IVec S16 32) a x).toNat < S272.size a := fun v2672 k0_hw252 => k0_hw252

def k0_chk253 (v2679 : IVec S16 32) : Prop :=
  (∀ a x, ((![v2679] : Fin 1 → IVec S16 32) a x).toNat < S272.size a)
theorem k0_idx263_inb : ∀ (v2679 : IVec S16 32) (k0_hw253 : k0_chk253 v2679), ∀ a x, ((![v2679] : Fin 1 → IVec S16 32) a x).toNat < S272.size a := fun v2679 k0_hw253 => k0_hw253

def k0_chk254 (v2687 : IVec S16 32) : Prop :=
  (∀ a x, ((![v2687] : Fin 1 → IVec S16 32) a x).toNat < S272.size a)
theorem k0_idx264_inb : ∀ (v2687 : IVec S16 32) (k0_hw254 : k0_chk254 v2687), ∀ a x, ((![v2687] : Fin 1 → IVec S16 32) a x).toNat < S272.size a := fun v2687 k0_hw254 => k0_hw254

def k0_chk255 (v2703 : IVec S16 32) : Prop :=
  (∀ a x, ((![v2703] : Fin 1 → IVec S16 32) a x).toNat < S272.size a)
theorem k0_idx265_inb : ∀ (v2703 : IVec S16 32) (k0_hw255 : k0_chk255 v2703), ∀ a x, ((![v2703] : Fin 1 → IVec S16 32) a x).toNat < S272.size a := fun v2703 k0_hw255 => k0_hw255

def k0_chk256 (v2711 : IVec S16 32) : Prop :=
  (∀ a x, ((![v2711] : Fin 1 → IVec S16 32) a x).toNat < S272.size a)
theorem k0_idx266_inb : ∀ (v2711 : IVec S16 32) (k0_hw256 : k0_chk256 v2711), ∀ a x, ((![v2711] : Fin 1 → IVec S16 32) a x).toNat < S272.size a := fun v2711 k0_hw256 => k0_hw256

def k0_chk257 (v2752 : IVec S16 32) : Prop :=
  (∀ a x, ((![v2752] : Fin 1 → IVec S16 32) a x).toNat < S272.size a)
theorem k0_idx267_inb : ∀ (v2752 : IVec S16 32) (k0_hw257 : k0_chk257 v2752), ∀ a x, ((![v2752] : Fin 1 → IVec S16 32) a x).toNat < S272.size a := fun v2752 k0_hw257 => k0_hw257

def k0_chk258 (v2760 : IVec S16 32) : Prop :=
  (∀ a x, ((![v2760] : Fin 1 → IVec S16 32) a x).toNat < S272.size a)
theorem k0_idx268_inb : ∀ (v2760 : IVec S16 32) (k0_hw258 : k0_chk258 v2760), ∀ a x, ((![v2760] : Fin 1 → IVec S16 32) a x).toNat < S272.size a := fun v2760 k0_hw258 => k0_hw258

def k0_chk259 (v2772 : IVec S16 32) : Prop :=
  (∀ a x, ((![v2772] : Fin 1 → IVec S16 32) a x).toNat < S272.size a)
theorem k0_idx269_inb : ∀ (v2772 : IVec S16 32) (k0_hw259 : k0_chk259 v2772), ∀ a x, ((![v2772] : Fin 1 → IVec S16 32) a x).toNat < S272.size a := fun v2772 k0_hw259 => k0_hw259

def k0_chk260 (v2780 : IVec S16 32) : Prop :=
  (∀ a x, ((![v2780] : Fin 1 → IVec S16 32) a x).toNat < S272.size a)
theorem k0_idx270_inb : ∀ (v2780 : IVec S16 32) (k0_hw260 : k0_chk260 v2780), ∀ a x, ((![v2780] : Fin 1 → IVec S16 32) a x).toNat < S272.size a := fun v2780 k0_hw260 => k0_hw260

def k0_chk261 (v2787 : IVec S16 32) : Prop :=
  (∀ a x, ((![v2787] : Fin 1 → IVec S16 32) a x).toNat < S272.size a)
theorem k0_idx271_inb : ∀ (v2787 : IVec S16 32) (k0_hw261 : k0_chk261 v2787), ∀ a x, ((![v2787] : Fin 1 → IVec S16 32) a x).toNat < S272.size a := fun v2787 k0_hw261 => k0_hw261

def k0_chk262 (v2795 : IVec S16 32) : Prop :=
  (∀ a x, ((![v2795] : Fin 1 → IVec S16 32) a x).toNat < S272.size a)
theorem k0_idx272_inb : ∀ (v2795 : IVec S16 32) (k0_hw262 : k0_chk262 v2795), ∀ a x, ((![v2795] : Fin 1 → IVec S16 32) a x).toNat < S272.size a := fun v2795 k0_hw262 => k0_hw262

def k0_chk263 (v2811 : IVec S16 32) : Prop :=
  (∀ a x, ((![v2811] : Fin 1 → IVec S16 32) a x).toNat < S272.size a)
theorem k0_idx273_inb : ∀ (v2811 : IVec S16 32) (k0_hw263 : k0_chk263 v2811), ∀ a x, ((![v2811] : Fin 1 → IVec S16 32) a x).toNat < S272.size a := fun v2811 k0_hw263 => k0_hw263

def k0_chk264 (v2819 : IVec S16 32) : Prop :=
  (∀ a x, ((![v2819] : Fin 1 → IVec S16 32) a x).toNat < S272.size a)
theorem k0_idx274_inb : ∀ (v2819 : IVec S16 32) (k0_hw264 : k0_chk264 v2819), ∀ a x, ((![v2819] : Fin 1 → IVec S16 32) a x).toNat < S272.size a := fun v2819 k0_hw264 => k0_hw264

def k0_chk265 (v2860 : IVec S16 32) : Prop :=
  (∀ a x, ((![v2860] : Fin 1 → IVec S16 32) a x).toNat < S272.size a)
theorem k0_idx275_inb : ∀ (v2860 : IVec S16 32) (k0_hw265 : k0_chk265 v2860), ∀ a x, ((![v2860] : Fin 1 → IVec S16 32) a x).toNat < S272.size a := fun v2860 k0_hw265 => k0_hw265

def k0_chk266 (v2868 : IVec S16 32) : Prop :=
  (∀ a x, ((![v2868] : Fin 1 → IVec S16 32) a x).toNat < S272.size a)
theorem k0_idx276_inb : ∀ (v2868 : IVec S16 32) (k0_hw266 : k0_chk266 v2868), ∀ a x, ((![v2868] : Fin 1 → IVec S16 32) a x).toNat < S272.size a := fun v2868 k0_hw266 => k0_hw266

def k0_chk267 (v2880 : IVec S16 32) : Prop :=
  (∀ a x, ((![v2880] : Fin 1 → IVec S16 32) a x).toNat < S272.size a)
theorem k0_idx277_inb : ∀ (v2880 : IVec S16 32) (k0_hw267 : k0_chk267 v2880), ∀ a x, ((![v2880] : Fin 1 → IVec S16 32) a x).toNat < S272.size a := fun v2880 k0_hw267 => k0_hw267

def k0_chk268 (v2888 : IVec S16 32) : Prop :=
  (∀ a x, ((![v2888] : Fin 1 → IVec S16 32) a x).toNat < S272.size a)
theorem k0_idx278_inb : ∀ (v2888 : IVec S16 32) (k0_hw268 : k0_chk268 v2888), ∀ a x, ((![v2888] : Fin 1 → IVec S16 32) a x).toNat < S272.size a := fun v2888 k0_hw268 => k0_hw268

def k0_chk269 (v2895 : IVec S16 32) : Prop :=
  (∀ a x, ((![v2895] : Fin 1 → IVec S16 32) a x).toNat < S272.size a)
theorem k0_idx279_inb : ∀ (v2895 : IVec S16 32) (k0_hw269 : k0_chk269 v2895), ∀ a x, ((![v2895] : Fin 1 → IVec S16 32) a x).toNat < S272.size a := fun v2895 k0_hw269 => k0_hw269

def k0_chk270 (v2903 : IVec S16 32) : Prop :=
  (∀ a x, ((![v2903] : Fin 1 → IVec S16 32) a x).toNat < S272.size a)
theorem k0_idx280_inb : ∀ (v2903 : IVec S16 32) (k0_hw270 : k0_chk270 v2903), ∀ a x, ((![v2903] : Fin 1 → IVec S16 32) a x).toNat < S272.size a := fun v2903 k0_hw270 => k0_hw270

def k0_chk271 (v2919 : IVec S16 32) : Prop :=
  (∀ a x, ((![v2919] : Fin 1 → IVec S16 32) a x).toNat < S272.size a)
theorem k0_idx281_inb : ∀ (v2919 : IVec S16 32) (k0_hw271 : k0_chk271 v2919), ∀ a x, ((![v2919] : Fin 1 → IVec S16 32) a x).toNat < S272.size a := fun v2919 k0_hw271 => k0_hw271

def k0_chk272 (v2927 : IVec S16 32) : Prop :=
  (∀ a x, ((![v2927] : Fin 1 → IVec S16 32) a x).toNat < S272.size a)
theorem k0_idx282_inb : ∀ (v2927 : IVec S16 32) (k0_hw272 : k0_chk272 v2927), ∀ a x, ((![v2927] : Fin 1 → IVec S16 32) a x).toNat < S272.size a := fun v2927 k0_hw272 => k0_hw272

def k0_chk273 (v2968 : IVec S16 32) : Prop :=
  (∀ a x, ((![v2968] : Fin 1 → IVec S16 32) a x).toNat < S272.size a)
theorem k0_idx283_inb : ∀ (v2968 : IVec S16 32) (k0_hw273 : k0_chk273 v2968), ∀ a x, ((![v2968] : Fin 1 → IVec S16 32) a x).toNat < S272.size a := fun v2968 k0_hw273 => k0_hw273

def k0_chk274 (v2976 : IVec S16 32) : Prop :=
  (∀ a x, ((![v2976] : Fin 1 → IVec S16 32) a x).toNat < S272.size a)
theorem k0_idx284_inb : ∀ (v2976 : IVec S16 32) (k0_hw274 : k0_chk274 v2976), ∀ a x, ((![v2976] : Fin 1 → IVec S16 32) a x).toNat < S272.size a := fun v2976 k0_hw274 => k0_hw274

def k0_chk275 (v2988 : IVec S16 32) : Prop :=
  (∀ a x, ((![v2988] : Fin 1 → IVec S16 32) a x).toNat < S272.size a)
theorem k0_idx285_inb : ∀ (v2988 : IVec S16 32) (k0_hw275 : k0_chk275 v2988), ∀ a x, ((![v2988] : Fin 1 → IVec S16 32) a x).toNat < S272.size a := fun v2988 k0_hw275 => k0_hw275

def k0_chk276 (v2996 : IVec S16 32) : Prop :=
  (∀ a x, ((![v2996] : Fin 1 → IVec S16 32) a x).toNat < S272.size a)
theorem k0_idx286_inb : ∀ (v2996 : IVec S16 32) (k0_hw276 : k0_chk276 v2996), ∀ a x, ((![v2996] : Fin 1 → IVec S16 32) a x).toNat < S272.size a := fun v2996 k0_hw276 => k0_hw276

def k0_chk277 (v3003 : IVec S16 32) : Prop :=
  (∀ a x, ((![v3003] : Fin 1 → IVec S16 32) a x).toNat < S272.size a)
theorem k0_idx287_inb : ∀ (v3003 : IVec S16 32) (k0_hw277 : k0_chk277 v3003), ∀ a x, ((![v3003] : Fin 1 → IVec S16 32) a x).toNat < S272.size a := fun v3003 k0_hw277 => k0_hw277

def k0_chk278 (v3011 : IVec S16 32) : Prop :=
  (∀ a x, ((![v3011] : Fin 1 → IVec S16 32) a x).toNat < S272.size a)
theorem k0_idx288_inb : ∀ (v3011 : IVec S16 32) (k0_hw278 : k0_chk278 v3011), ∀ a x, ((![v3011] : Fin 1 → IVec S16 32) a x).toNat < S272.size a := fun v3011 k0_hw278 => k0_hw278

def k0_chk279 (v3027 : IVec S16 32) : Prop :=
  (∀ a x, ((![v3027] : Fin 1 → IVec S16 32) a x).toNat < S272.size a)
theorem k0_idx289_inb : ∀ (v3027 : IVec S16 32) (k0_hw279 : k0_chk279 v3027), ∀ a x, ((![v3027] : Fin 1 → IVec S16 32) a x).toNat < S272.size a := fun v3027 k0_hw279 => k0_hw279

def k0_chk280 (v3035 : IVec S16 32) : Prop :=
  (∀ a x, ((![v3035] : Fin 1 → IVec S16 32) a x).toNat < S272.size a)
theorem k0_idx290_inb : ∀ (v3035 : IVec S16 32) (k0_hw280 : k0_chk280 v3035), ∀ a x, ((![v3035] : Fin 1 → IVec S16 32) a x).toNat < S272.size a := fun v3035 k0_hw280 => k0_hw280

def k0_chk281 (v3076 : IVec S16 32) : Prop :=
  (∀ a x, ((![v3076] : Fin 1 → IVec S16 32) a x).toNat < S272.size a)
theorem k0_idx291_inb : ∀ (v3076 : IVec S16 32) (k0_hw281 : k0_chk281 v3076), ∀ a x, ((![v3076] : Fin 1 → IVec S16 32) a x).toNat < S272.size a := fun v3076 k0_hw281 => k0_hw281

def k0_chk282 (v3084 : IVec S16 32) : Prop :=
  (∀ a x, ((![v3084] : Fin 1 → IVec S16 32) a x).toNat < S272.size a)
theorem k0_idx292_inb : ∀ (v3084 : IVec S16 32) (k0_hw282 : k0_chk282 v3084), ∀ a x, ((![v3084] : Fin 1 → IVec S16 32) a x).toNat < S272.size a := fun v3084 k0_hw282 => k0_hw282

def k0_chk283 (v3096 : IVec S16 32) : Prop :=
  (∀ a x, ((![v3096] : Fin 1 → IVec S16 32) a x).toNat < S272.size a)
theorem k0_idx293_inb : ∀ (v3096 : IVec S16 32) (k0_hw283 : k0_chk283 v3096), ∀ a x, ((![v3096] : Fin 1 → IVec S16 32) a x).toNat < S272.size a := fun v3096 k0_hw283 => k0_hw283

def k0_chk284 (v3104 : IVec S16 32) : Prop :=
  (∀ a x, ((![v3104] : Fin 1 → IVec S16 32) a x).toNat < S272.size a)
theorem k0_idx294_inb : ∀ (v3104 : IVec S16 32) (k0_hw284 : k0_chk284 v3104), ∀ a x, ((![v3104] : Fin 1 → IVec S16 32) a x).toNat < S272.size a := fun v3104 k0_hw284 => k0_hw284

def k0_chk285 (v3111 : IVec S16 32) : Prop :=
  (∀ a x, ((![v3111] : Fin 1 → IVec S16 32) a x).toNat < S272.size a)
theorem k0_idx295_inb : ∀ (v3111 : IVec S16 32) (k0_hw285 : k0_chk285 v3111), ∀ a x, ((![v3111] : Fin 1 → IVec S16 32) a x).toNat < S272.size a := fun v3111 k0_hw285 => k0_hw285

def k0_chk286 (v3119 : IVec S16 32) : Prop :=
  (∀ a x, ((![v3119] : Fin 1 → IVec S16 32) a x).toNat < S272.size a)
theorem k0_idx296_inb : ∀ (v3119 : IVec S16 32) (k0_hw286 : k0_chk286 v3119), ∀ a x, ((![v3119] : Fin 1 → IVec S16 32) a x).toNat < S272.size a := fun v3119 k0_hw286 => k0_hw286

def k0_chk287 (v3135 : IVec S16 32) : Prop :=
  (∀ a x, ((![v3135] : Fin 1 → IVec S16 32) a x).toNat < S272.size a)
theorem k0_idx297_inb : ∀ (v3135 : IVec S16 32) (k0_hw287 : k0_chk287 v3135), ∀ a x, ((![v3135] : Fin 1 → IVec S16 32) a x).toNat < S272.size a := fun v3135 k0_hw287 => k0_hw287

def k0_chk288 (v3143 : IVec S16 32) : Prop :=
  (∀ a x, ((![v3143] : Fin 1 → IVec S16 32) a x).toNat < S272.size a)
theorem k0_idx298_inb : ∀ (v3143 : IVec S16 32) (k0_hw288 : k0_chk288 v3143), ∀ a x, ((![v3143] : Fin 1 → IVec S16 32) a x).toNat < S272.size a := fun v3143 k0_hw288 => k0_hw288

def k0_chk289 (v3184 : IVec S16 32) : Prop :=
  (∀ a x, ((![v3184] : Fin 1 → IVec S16 32) a x).toNat < S272.size a)
theorem k0_idx299_inb : ∀ (v3184 : IVec S16 32) (k0_hw289 : k0_chk289 v3184), ∀ a x, ((![v3184] : Fin 1 → IVec S16 32) a x).toNat < S272.size a := fun v3184 k0_hw289 => k0_hw289

def k0_chk290 (v3192 : IVec S16 32) : Prop :=
  (∀ a x, ((![v3192] : Fin 1 → IVec S16 32) a x).toNat < S272.size a)
theorem k0_idx300_inb : ∀ (v3192 : IVec S16 32) (k0_hw290 : k0_chk290 v3192), ∀ a x, ((![v3192] : Fin 1 → IVec S16 32) a x).toNat < S272.size a := fun v3192 k0_hw290 => k0_hw290

def k0_chk291 (v3204 : IVec S16 32) : Prop :=
  (∀ a x, ((![v3204] : Fin 1 → IVec S16 32) a x).toNat < S272.size a)
theorem k0_idx301_inb : ∀ (v3204 : IVec S16 32) (k0_hw291 : k0_chk291 v3204), ∀ a x, ((![v3204] : Fin 1 → IVec S16 32) a x).toNat < S272.size a := fun v3204 k0_hw291 => k0_hw291

def k0_chk292 (v3212 : IVec S16 32) : Prop :=
  (∀ a x, ((![v3212] : Fin 1 → IVec S16 32) a x).toNat < S272.size a)
theorem k0_idx302_inb : ∀ (v3212 : IVec S16 32) (k0_hw292 : k0_chk292 v3212), ∀ a x, ((![v3212] : Fin 1 → IVec S16 32) a x).toNat < S272.size a := fun v3212 k0_hw292 => k0_hw292

def k0_chk293 (v3219 : IVec S16 32) : Prop :=
  (∀ a x, ((![v3219] : Fin 1 → IVec S16 32) a x).toNat < S272.size a)
theorem k0_idx303_inb : ∀ (v3219 : IVec S16 32) (k0_hw293 : k0_chk293 v3219), ∀ a x, ((![v3219] : Fin 1 → IVec S16 32) a x).toNat < S272.size a := fun v3219 k0_hw293 => k0_hw293

def k0_chk294 (v3227 : IVec S16 32) : Prop :=
  (∀ a x, ((![v3227] : Fin 1 → IVec S16 32) a x).toNat < S272.size a)
theorem k0_idx304_inb : ∀ (v3227 : IVec S16 32) (k0_hw294 : k0_chk294 v3227), ∀ a x, ((![v3227] : Fin 1 → IVec S16 32) a x).toNat < S272.size a := fun v3227 k0_hw294 => k0_hw294

def k0_chk295 (v3243 : IVec S16 32) : Prop :=
  (∀ a x, ((![v3243] : Fin 1 → IVec S16 32) a x).toNat < S272.size a)
theorem k0_idx305_inb : ∀ (v3243 : IVec S16 32) (k0_hw295 : k0_chk295 v3243), ∀ a x, ((![v3243] : Fin 1 → IVec S16 32) a x).toNat < S272.size a := fun v3243 k0_hw295 => k0_hw295

def k0_chk296 (v3251 : IVec S16 32) : Prop :=
  (∀ a x, ((![v3251] : Fin 1 → IVec S16 32) a x).toNat < S272.size a)
theorem k0_idx306_inb : ∀ (v3251 : IVec S16 32) (k0_hw296 : k0_chk296 v3251), ∀ a x, ((![v3251] : Fin 1 → IVec S16 32) a x).toNat < S272.size a := fun v3251 k0_hw296 => k0_hw296

def k0_chk297 (v3292 : IVec S16 32) : Prop :=
  (∀ a x, ((![v3292] : Fin 1 → IVec S16 32) a x).toNat < S272.size a)
theorem k0_idx307_inb : ∀ (v3292 : IVec S16 32) (k0_hw297 : k0_chk297 v3292), ∀ a x, ((![v3292] : Fin 1 → IVec S16 32) a x).toNat < S272.size a := fun v3292 k0_hw297 => k0_hw297

def k0_chk298 (v3300 : IVec S16 32) : Prop :=
  (∀ a x, ((![v3300] : Fin 1 → IVec S16 32) a x).toNat < S272.size a)
theorem k0_idx308_inb : ∀ (v3300 : IVec S16 32) (k0_hw298 : k0_chk298 v3300), ∀ a x, ((![v3300] : Fin 1 → IVec S16 32) a x).toNat < S272.size a := fun v3300 k0_hw298 => k0_hw298

def k0_chk299 (v3312 : IVec S16 32) : Prop :=
  (∀ a x, ((![v3312] : Fin 1 → IVec S16 32) a x).toNat < S272.size a)
theorem k0_idx309_inb : ∀ (v3312 : IVec S16 32) (k0_hw299 : k0_chk299 v3312), ∀ a x, ((![v3312] : Fin 1 → IVec S16 32) a x).toNat < S272.size a := fun v3312 k0_hw299 => k0_hw299

def k0_chk300 (v3320 : IVec S16 32) : Prop :=
  (∀ a x, ((![v3320] : Fin 1 → IVec S16 32) a x).toNat < S272.size a)
theorem k0_idx310_inb : ∀ (v3320 : IVec S16 32) (k0_hw300 : k0_chk300 v3320), ∀ a x, ((![v3320] : Fin 1 → IVec S16 32) a x).toNat < S272.size a := fun v3320 k0_hw300 => k0_hw300

def k0_chk301 (v3327 : IVec S16 32) : Prop :=
  (∀ a x, ((![v3327] : Fin 1 → IVec S16 32) a x).toNat < S272.size a)
theorem k0_idx311_inb : ∀ (v3327 : IVec S16 32) (k0_hw301 : k0_chk301 v3327), ∀ a x, ((![v3327] : Fin 1 → IVec S16 32) a x).toNat < S272.size a := fun v3327 k0_hw301 => k0_hw301

def k0_chk302 (v3335 : IVec S16 32) : Prop :=
  (∀ a x, ((![v3335] : Fin 1 → IVec S16 32) a x).toNat < S272.size a)
theorem k0_idx312_inb : ∀ (v3335 : IVec S16 32) (k0_hw302 : k0_chk302 v3335), ∀ a x, ((![v3335] : Fin 1 → IVec S16 32) a x).toNat < S272.size a := fun v3335 k0_hw302 => k0_hw302

def k0_chk303 (v3351 : IVec S16 32) : Prop :=
  (∀ a x, ((![v3351] : Fin 1 → IVec S16 32) a x).toNat < S272.size a)
theorem k0_idx313_inb : ∀ (v3351 : IVec S16 32) (k0_hw303 : k0_chk303 v3351), ∀ a x, ((![v3351] : Fin 1 → IVec S16 32) a x).toNat < S272.size a := fun v3351 k0_hw303 => k0_hw303

def k0_chk304 (v3359 : IVec S16 32) : Prop :=
  (∀ a x, ((![v3359] : Fin 1 → IVec S16 32) a x).toNat < S272.size a)
theorem k0_idx314_inb : ∀ (v3359 : IVec S16 32) (k0_hw304 : k0_chk304 v3359), ∀ a x, ((![v3359] : Fin 1 → IVec S16 32) a x).toNat < S272.size a := fun v3359 k0_hw304 => k0_hw304

def k0_chk305 (v3400 : IVec S16 32) : Prop :=
  (∀ a x, ((![v3400] : Fin 1 → IVec S16 32) a x).toNat < S272.size a)
theorem k0_idx315_inb : ∀ (v3400 : IVec S16 32) (k0_hw305 : k0_chk305 v3400), ∀ a x, ((![v3400] : Fin 1 → IVec S16 32) a x).toNat < S272.size a := fun v3400 k0_hw305 => k0_hw305

def k0_chk306 (v3408 : IVec S16 32) : Prop :=
  (∀ a x, ((![v3408] : Fin 1 → IVec S16 32) a x).toNat < S272.size a)
theorem k0_idx316_inb : ∀ (v3408 : IVec S16 32) (k0_hw306 : k0_chk306 v3408), ∀ a x, ((![v3408] : Fin 1 → IVec S16 32) a x).toNat < S272.size a := fun v3408 k0_hw306 => k0_hw306

def k0_chk307 (v3420 : IVec S16 32) : Prop :=
  (∀ a x, ((![v3420] : Fin 1 → IVec S16 32) a x).toNat < S272.size a)
theorem k0_idx317_inb : ∀ (v3420 : IVec S16 32) (k0_hw307 : k0_chk307 v3420), ∀ a x, ((![v3420] : Fin 1 → IVec S16 32) a x).toNat < S272.size a := fun v3420 k0_hw307 => k0_hw307

def k0_chk308 (v3428 : IVec S16 32) : Prop :=
  (∀ a x, ((![v3428] : Fin 1 → IVec S16 32) a x).toNat < S272.size a)
theorem k0_idx318_inb : ∀ (v3428 : IVec S16 32) (k0_hw308 : k0_chk308 v3428), ∀ a x, ((![v3428] : Fin 1 → IVec S16 32) a x).toNat < S272.size a := fun v3428 k0_hw308 => k0_hw308

def k0_chk309 (v3435 : IVec S16 32) : Prop :=
  (∀ a x, ((![v3435] : Fin 1 → IVec S16 32) a x).toNat < S272.size a)
theorem k0_idx319_inb : ∀ (v3435 : IVec S16 32) (k0_hw309 : k0_chk309 v3435), ∀ a x, ((![v3435] : Fin 1 → IVec S16 32) a x).toNat < S272.size a := fun v3435 k0_hw309 => k0_hw309

def k0_chk310 (v3443 : IVec S16 32) : Prop :=
  (∀ a x, ((![v3443] : Fin 1 → IVec S16 32) a x).toNat < S272.size a)
theorem k0_idx320_inb : ∀ (v3443 : IVec S16 32) (k0_hw310 : k0_chk310 v3443), ∀ a x, ((![v3443] : Fin 1 → IVec S16 32) a x).toNat < S272.size a := fun v3443 k0_hw310 => k0_hw310

def k0_chk311 (v3459 : IVec S16 32) : Prop :=
  (∀ a x, ((![v3459] : Fin 1 → IVec S16 32) a x).toNat < S272.size a)
theorem k0_idx321_inb : ∀ (v3459 : IVec S16 32) (k0_hw311 : k0_chk311 v3459), ∀ a x, ((![v3459] : Fin 1 → IVec S16 32) a x).toNat < S272.size a := fun v3459 k0_hw311 => k0_hw311

def k0_chk312 (v3467 : IVec S16 32) : Prop :=
  (∀ a x, ((![v3467] : Fin 1 → IVec S16 32) a x).toNat < S272.size a)
theorem k0_idx322_inb : ∀ (v3467 : IVec S16 32) (k0_hw312 : k0_chk312 v3467), ∀ a x, ((![v3467] : Fin 1 → IVec S16 32) a x).toNat < S272.size a := fun v3467 k0_hw312 => k0_hw312

def k0_chk313 (v3508 : IVec S16 32) : Prop :=
  (∀ a x, ((![v3508] : Fin 1 → IVec S16 32) a x).toNat < S272.size a)
theorem k0_idx323_inb : ∀ (v3508 : IVec S16 32) (k0_hw313 : k0_chk313 v3508), ∀ a x, ((![v3508] : Fin 1 → IVec S16 32) a x).toNat < S272.size a := fun v3508 k0_hw313 => k0_hw313

def k0_chk314 (v3516 : IVec S16 32) : Prop :=
  (∀ a x, ((![v3516] : Fin 1 → IVec S16 32) a x).toNat < S272.size a)
theorem k0_idx324_inb : ∀ (v3516 : IVec S16 32) (k0_hw314 : k0_chk314 v3516), ∀ a x, ((![v3516] : Fin 1 → IVec S16 32) a x).toNat < S272.size a := fun v3516 k0_hw314 => k0_hw314

def k0_chk315 (v3528 : IVec S16 32) : Prop :=
  (∀ a x, ((![v3528] : Fin 1 → IVec S16 32) a x).toNat < S272.size a)
theorem k0_idx325_inb : ∀ (v3528 : IVec S16 32) (k0_hw315 : k0_chk315 v3528), ∀ a x, ((![v3528] : Fin 1 → IVec S16 32) a x).toNat < S272.size a := fun v3528 k0_hw315 => k0_hw315

def k0_chk316 (v3536 : IVec S16 32) : Prop :=
  (∀ a x, ((![v3536] : Fin 1 → IVec S16 32) a x).toNat < S272.size a)
theorem k0_idx326_inb : ∀ (v3536 : IVec S16 32) (k0_hw316 : k0_chk316 v3536), ∀ a x, ((![v3536] : Fin 1 → IVec S16 32) a x).toNat < S272.size a := fun v3536 k0_hw316 => k0_hw316

def k0_chk317 (v3543 : IVec S16 32) : Prop :=
  (∀ a x, ((![v3543] : Fin 1 → IVec S16 32) a x).toNat < S272.size a)
theorem k0_idx327_inb : ∀ (v3543 : IVec S16 32) (k0_hw317 : k0_chk317 v3543), ∀ a x, ((![v3543] : Fin 1 → IVec S16 32) a x).toNat < S272.size a := fun v3543 k0_hw317 => k0_hw317

def k0_chk318 (v3551 : IVec S16 32) : Prop :=
  (∀ a x, ((![v3551] : Fin 1 → IVec S16 32) a x).toNat < S272.size a)
theorem k0_idx328_inb : ∀ (v3551 : IVec S16 32) (k0_hw318 : k0_chk318 v3551), ∀ a x, ((![v3551] : Fin 1 → IVec S16 32) a x).toNat < S272.size a := fun v3551 k0_hw318 => k0_hw318

def k0_chk319 (v3567 : IVec S16 32) : Prop :=
  (∀ a x, ((![v3567] : Fin 1 → IVec S16 32) a x).toNat < S272.size a)
theorem k0_idx329_inb : ∀ (v3567 : IVec S16 32) (k0_hw319 : k0_chk319 v3567), ∀ a x, ((![v3567] : Fin 1 → IVec S16 32) a x).toNat < S272.size a := fun v3567 k0_hw319 => k0_hw319

def k0_chk320 (v3575 : IVec S16 32) : Prop :=
  (∀ a x, ((![v3575] : Fin 1 → IVec S16 32) a x).toNat < S272.size a)
theorem k0_idx330_inb : ∀ (v3575 : IVec S16 32) (k0_hw320 : k0_chk320 v3575), ∀ a x, ((![v3575] : Fin 1 → IVec S16 32) a x).toNat < S272.size a := fun v3575 k0_hw320 => k0_hw320

def k0_chk321 (v3616 : IVec S16 32) : Prop :=
  (∀ a x, ((![v3616] : Fin 1 → IVec S16 32) a x).toNat < S272.size a)
theorem k0_idx331_inb : ∀ (v3616 : IVec S16 32) (k0_hw321 : k0_chk321 v3616), ∀ a x, ((![v3616] : Fin 1 → IVec S16 32) a x).toNat < S272.size a := fun v3616 k0_hw321 => k0_hw321

def k0_chk322 (v3624 : IVec S16 32) : Prop :=
  (∀ a x, ((![v3624] : Fin 1 → IVec S16 32) a x).toNat < S272.size a)
theorem k0_idx332_inb : ∀ (v3624 : IVec S16 32) (k0_hw322 : k0_chk322 v3624), ∀ a x, ((![v3624] : Fin 1 → IVec S16 32) a x).toNat < S272.size a := fun v3624 k0_hw322 => k0_hw322

def k0_chk323 (v3636 : IVec S16 32) : Prop :=
  (∀ a x, ((![v3636] : Fin 1 → IVec S16 32) a x).toNat < S272.size a)
theorem k0_idx333_inb : ∀ (v3636 : IVec S16 32) (k0_hw323 : k0_chk323 v3636), ∀ a x, ((![v3636] : Fin 1 → IVec S16 32) a x).toNat < S272.size a := fun v3636 k0_hw323 => k0_hw323

def k0_chk324 (v3644 : IVec S16 32) : Prop :=
  (∀ a x, ((![v3644] : Fin 1 → IVec S16 32) a x).toNat < S272.size a)
theorem k0_idx334_inb : ∀ (v3644 : IVec S16 32) (k0_hw324 : k0_chk324 v3644), ∀ a x, ((![v3644] : Fin 1 → IVec S16 32) a x).toNat < S272.size a := fun v3644 k0_hw324 => k0_hw324

def k0_chk325 (v3651 : IVec S16 32) : Prop :=
  (∀ a x, ((![v3651] : Fin 1 → IVec S16 32) a x).toNat < S272.size a)
theorem k0_idx335_inb : ∀ (v3651 : IVec S16 32) (k0_hw325 : k0_chk325 v3651), ∀ a x, ((![v3651] : Fin 1 → IVec S16 32) a x).toNat < S272.size a := fun v3651 k0_hw325 => k0_hw325

def k0_chk326 (v3659 : IVec S16 32) : Prop :=
  (∀ a x, ((![v3659] : Fin 1 → IVec S16 32) a x).toNat < S272.size a)
theorem k0_idx336_inb : ∀ (v3659 : IVec S16 32) (k0_hw326 : k0_chk326 v3659), ∀ a x, ((![v3659] : Fin 1 → IVec S16 32) a x).toNat < S272.size a := fun v3659 k0_hw326 => k0_hw326

def k0_chk327 (v3675 : IVec S16 32) : Prop :=
  (∀ a x, ((![v3675] : Fin 1 → IVec S16 32) a x).toNat < S272.size a)
theorem k0_idx337_inb : ∀ (v3675 : IVec S16 32) (k0_hw327 : k0_chk327 v3675), ∀ a x, ((![v3675] : Fin 1 → IVec S16 32) a x).toNat < S272.size a := fun v3675 k0_hw327 => k0_hw327

def k0_chk328 (v3683 : IVec S16 32) : Prop :=
  (∀ a x, ((![v3683] : Fin 1 → IVec S16 32) a x).toNat < S272.size a)
theorem k0_idx338_inb : ∀ (v3683 : IVec S16 32) (k0_hw328 : k0_chk328 v3683), ∀ a x, ((![v3683] : Fin 1 → IVec S16 32) a x).toNat < S272.size a := fun v3683 k0_hw328 => k0_hw328

def k0_chk329 (v3722 : IVec S16 32) : Prop :=
  (∀ a x, ((![v3722] : Fin 1 → IVec S16 32) a x).toNat < S272.size a)
theorem k0_idx339_inb : ∀ (v3722 : IVec S16 32) (k0_hw329 : k0_chk329 v3722), ∀ a x, ((![v3722] : Fin 1 → IVec S16 32) a x).toNat < S272.size a := fun v3722 k0_hw329 => k0_hw329

def k0_chk330 (v3730 : IVec S16 32) : Prop :=
  (∀ a x, ((![v3730] : Fin 1 → IVec S16 32) a x).toNat < S272.size a)
theorem k0_idx340_inb : ∀ (v3730 : IVec S16 32) (k0_hw330 : k0_chk330 v3730), ∀ a x, ((![v3730] : Fin 1 → IVec S16 32) a x).toNat < S272.size a := fun v3730 k0_hw330 => k0_hw330

def k0_chk331 (v3742 : IVec S16 32) : Prop :=
  (∀ a x, ((![v3742] : Fin 1 → IVec S16 32) a x).toNat < S272.size a)
theorem k0_idx341_inb : ∀ (v3742 : IVec S16 32) (k0_hw331 : k0_chk331 v3742), ∀ a x, ((![v3742] : Fin 1 → IVec S16 32) a x).toNat < S272.size a := fun v3742 k0_hw331 => k0_hw331

def k0_chk332 (v3750 : IVec S16 32) : Prop :=
  (∀ a x, ((![v3750] : Fin 1 → IVec S16 32) a x).toNat < S272.size a)
theorem k0_idx342_inb : ∀ (v3750 : IVec S16 32) (k0_hw332 : k0_chk332 v3750), ∀ a x, ((![v3750] : Fin 1 → IVec S16 32) a x).toNat < S272.size a := fun v3750 k0_hw332 => k0_hw332

def k0_chk333 (v3757 : IVec S16 32) : Prop :=
  (∀ a x, ((![v3757] : Fin 1 → IVec S16 32) a x).toNat < S272.size a)
theorem k0_idx343_inb : ∀ (v3757 : IVec S16 32) (k0_hw333 : k0_chk333 v3757), ∀ a x, ((![v3757] : Fin 1 → IVec S16 32) a x).toNat < S272.size a := fun v3757 k0_hw333 => k0_hw333

def k0_chk334 (v3765 : IVec S16 32) : Prop :=
  (∀ a x, ((![v3765] : Fin 1 → IVec S16 32) a x).toNat < S272.size a)
theorem k0_idx344_inb : ∀ (v3765 : IVec S16 32) (k0_hw334 : k0_chk334 v3765), ∀ a x, ((![v3765] : Fin 1 → IVec S16 32) a x).toNat < S272.size a := fun v3765 k0_hw334 => k0_hw334

def k0_chk335 (v3781 : IVec S16 32) : Prop :=
  (∀ a x, ((![v3781] : Fin 1 → IVec S16 32) a x).toNat < S272.size a)
theorem k0_idx345_inb : ∀ (v3781 : IVec S16 32) (k0_hw335 : k0_chk335 v3781), ∀ a x, ((![v3781] : Fin 1 → IVec S16 32) a x).toNat < S272.size a := fun v3781 k0_hw335 => k0_hw335

def k0_chk336 (v3789 : IVec S16 32) : Prop :=
  (∀ a x, ((![v3789] : Fin 1 → IVec S16 32) a x).toNat < S272.size a)
theorem k0_idx346_inb : ∀ (v3789 : IVec S16 32) (k0_hw336 : k0_chk336 v3789), ∀ a x, ((![v3789] : Fin 1 → IVec S16 32) a x).toNat < S272.size a := fun v3789 k0_hw336 => k0_hw336

def k0_chk337 (v3830 : IVec S16 32) : Prop :=
  (∀ a x, ((![v3830] : Fin 1 → IVec S16 32) a x).toNat < S272.size a)
theorem k0_idx347_inb : ∀ (v3830 : IVec S16 32) (k0_hw337 : k0_chk337 v3830), ∀ a x, ((![v3830] : Fin 1 → IVec S16 32) a x).toNat < S272.size a := fun v3830 k0_hw337 => k0_hw337

def k0_chk338 (v3838 : IVec S16 32) : Prop :=
  (∀ a x, ((![v3838] : Fin 1 → IVec S16 32) a x).toNat < S272.size a)
theorem k0_idx348_inb : ∀ (v3838 : IVec S16 32) (k0_hw338 : k0_chk338 v3838), ∀ a x, ((![v3838] : Fin 1 → IVec S16 32) a x).toNat < S272.size a := fun v3838 k0_hw338 => k0_hw338

def k0_chk339 (v3850 : IVec S16 32) : Prop :=
  (∀ a x, ((![v3850] : Fin 1 → IVec S16 32) a x).toNat < S272.size a)
theorem k0_idx349_inb : ∀ (v3850 : IVec S16 32) (k0_hw339 : k0_chk339 v3850), ∀ a x, ((![v3850] : Fin 1 → IVec S16 32) a x).toNat < S272.size a := fun v3850 k0_hw339 => k0_hw339

def k0_chk340 (v3858 : IVec S16 32) : Prop :=
  (∀ a x, ((![v3858] : Fin 1 → IVec S16 32) a x).toNat < S272.size a)
theorem k0_idx350_inb : ∀ (v3858 : IVec S16 32) (k0_hw340 : k0_chk340 v3858), ∀ a x, ((![v3858] : Fin 1 → IVec S16 32) a x).toNat < S272.size a := fun v3858 k0_hw340 => k0_hw340

def k0_chk341 (v3865 : IVec S16 32) : Prop :=
  (∀ a x, ((![v3865] : Fin 1 → IVec S16 32) a x).toNat < S272.size a)
theorem k0_idx351_inb : ∀ (v3865 : IVec S16 32) (k0_hw341 : k0_chk341 v3865), ∀ a x, ((![v3865] : Fin 1 → IVec S16 32) a x).toNat < S272.size a := fun v3865 k0_hw341 => k0_hw341

def k0_chk342 (v3873 : IVec S16 32) : Prop :=
  (∀ a x, ((![v3873] : Fin 1 → IVec S16 32) a x).toNat < S272.size a)
theorem k0_idx352_inb : ∀ (v3873 : IVec S16 32) (k0_hw342 : k0_chk342 v3873), ∀ a x, ((![v3873] : Fin 1 → IVec S16 32) a x).toNat < S272.size a := fun v3873 k0_hw342 => k0_hw342

def k0_chk343 (v3889 : IVec S16 32) : Prop :=
  (∀ a x, ((![v3889] : Fin 1 → IVec S16 32) a x).toNat < S272.size a)
theorem k0_idx353_inb : ∀ (v3889 : IVec S16 32) (k0_hw343 : k0_chk343 v3889), ∀ a x, ((![v3889] : Fin 1 → IVec S16 32) a x).toNat < S272.size a := fun v3889 k0_hw343 => k0_hw343

def k0_chk344 (v3897 : IVec S16 32) : Prop :=
  (∀ a x, ((![v3897] : Fin 1 → IVec S16 32) a x).toNat < S272.size a)
theorem k0_idx354_inb : ∀ (v3897 : IVec S16 32) (k0_hw344 : k0_chk344 v3897), ∀ a x, ((![v3897] : Fin 1 → IVec S16 32) a x).toNat < S272.size a := fun v3897 k0_hw344 => k0_hw344

def k0_chk345 (v3938 : IVec S16 32) : Prop :=
  (∀ a x, ((![v3938] : Fin 1 → IVec S16 32) a x).toNat < S272.size a)
theorem k0_idx355_inb : ∀ (v3938 : IVec S16 32) (k0_hw345 : k0_chk345 v3938), ∀ a x, ((![v3938] : Fin 1 → IVec S16 32) a x).toNat < S272.size a := fun v3938 k0_hw345 => k0_hw345

def k0_chk346 (v3946 : IVec S16 32) : Prop :=
  (∀ a x, ((![v3946] : Fin 1 → IVec S16 32) a x).toNat < S272.size a)
theorem k0_idx356_inb : ∀ (v3946 : IVec S16 32) (k0_hw346 : k0_chk346 v3946), ∀ a x, ((![v3946] : Fin 1 → IVec S16 32) a x).toNat < S272.size a := fun v3946 k0_hw346 => k0_hw346

def k0_chk347 (v3958 : IVec S16 32) : Prop :=
  (∀ a x, ((![v3958] : Fin 1 → IVec S16 32) a x).toNat < S272.size a)
theorem k0_idx357_inb : ∀ (v3958 : IVec S16 32) (k0_hw347 : k0_chk347 v3958), ∀ a x, ((![v3958] : Fin 1 → IVec S16 32) a x).toNat < S272.size a := fun v3958 k0_hw347 => k0_hw347

def k0_chk348 (v3966 : IVec S16 32) : Prop :=
  (∀ a x, ((![v3966] : Fin 1 → IVec S16 32) a x).toNat < S272.size a)
theorem k0_idx358_inb : ∀ (v3966 : IVec S16 32) (k0_hw348 : k0_chk348 v3966), ∀ a x, ((![v3966] : Fin 1 → IVec S16 32) a x).toNat < S272.size a := fun v3966 k0_hw348 => k0_hw348

def k0_chk349 (v3973 : IVec S16 32) : Prop :=
  (∀ a x, ((![v3973] : Fin 1 → IVec S16 32) a x).toNat < S272.size a)
theorem k0_idx359_inb : ∀ (v3973 : IVec S16 32) (k0_hw349 : k0_chk349 v3973), ∀ a x, ((![v3973] : Fin 1 → IVec S16 32) a x).toNat < S272.size a := fun v3973 k0_hw349 => k0_hw349

def k0_chk350 (v3981 : IVec S16 32) : Prop :=
  (∀ a x, ((![v3981] : Fin 1 → IVec S16 32) a x).toNat < S272.size a)
theorem k0_idx360_inb : ∀ (v3981 : IVec S16 32) (k0_hw350 : k0_chk350 v3981), ∀ a x, ((![v3981] : Fin 1 → IVec S16 32) a x).toNat < S272.size a := fun v3981 k0_hw350 => k0_hw350

def k0_chk351 (v3997 : IVec S16 32) : Prop :=
  (∀ a x, ((![v3997] : Fin 1 → IVec S16 32) a x).toNat < S272.size a)
theorem k0_idx361_inb : ∀ (v3997 : IVec S16 32) (k0_hw351 : k0_chk351 v3997), ∀ a x, ((![v3997] : Fin 1 → IVec S16 32) a x).toNat < S272.size a := fun v3997 k0_hw351 => k0_hw351

def k0_chk352 (v4005 : IVec S16 32) : Prop :=
  (∀ a x, ((![v4005] : Fin 1 → IVec S16 32) a x).toNat < S272.size a)
theorem k0_idx362_inb : ∀ (v4005 : IVec S16 32) (k0_hw352 : k0_chk352 v4005), ∀ a x, ((![v4005] : Fin 1 → IVec S16 32) a x).toNat < S272.size a := fun v4005 k0_hw352 => k0_hw352

def k0_chk353 (v4046 : IVec S16 32) : Prop :=
  (∀ a x, ((![v4046] : Fin 1 → IVec S16 32) a x).toNat < S272.size a)
theorem k0_idx363_inb : ∀ (v4046 : IVec S16 32) (k0_hw353 : k0_chk353 v4046), ∀ a x, ((![v4046] : Fin 1 → IVec S16 32) a x).toNat < S272.size a := fun v4046 k0_hw353 => k0_hw353

def k0_chk354 (v4054 : IVec S16 32) : Prop :=
  (∀ a x, ((![v4054] : Fin 1 → IVec S16 32) a x).toNat < S272.size a)
theorem k0_idx364_inb : ∀ (v4054 : IVec S16 32) (k0_hw354 : k0_chk354 v4054), ∀ a x, ((![v4054] : Fin 1 → IVec S16 32) a x).toNat < S272.size a := fun v4054 k0_hw354 => k0_hw354

def k0_chk355 (v4066 : IVec S16 32) : Prop :=
  (∀ a x, ((![v4066] : Fin 1 → IVec S16 32) a x).toNat < S272.size a)
theorem k0_idx365_inb : ∀ (v4066 : IVec S16 32) (k0_hw355 : k0_chk355 v4066), ∀ a x, ((![v4066] : Fin 1 → IVec S16 32) a x).toNat < S272.size a := fun v4066 k0_hw355 => k0_hw355

def k0_chk356 (v4074 : IVec S16 32) : Prop :=
  (∀ a x, ((![v4074] : Fin 1 → IVec S16 32) a x).toNat < S272.size a)
theorem k0_idx366_inb : ∀ (v4074 : IVec S16 32) (k0_hw356 : k0_chk356 v4074), ∀ a x, ((![v4074] : Fin 1 → IVec S16 32) a x).toNat < S272.size a := fun v4074 k0_hw356 => k0_hw356

def k0_chk357 (v4081 : IVec S16 32) : Prop :=
  (∀ a x, ((![v4081] : Fin 1 → IVec S16 32) a x).toNat < S272.size a)
theorem k0_idx367_inb : ∀ (v4081 : IVec S16 32) (k0_hw357 : k0_chk357 v4081), ∀ a x, ((![v4081] : Fin 1 → IVec S16 32) a x).toNat < S272.size a := fun v4081 k0_hw357 => k0_hw357

def k0_chk358 (v4089 : IVec S16 32) : Prop :=
  (∀ a x, ((![v4089] : Fin 1 → IVec S16 32) a x).toNat < S272.size a)
theorem k0_idx368_inb : ∀ (v4089 : IVec S16 32) (k0_hw358 : k0_chk358 v4089), ∀ a x, ((![v4089] : Fin 1 → IVec S16 32) a x).toNat < S272.size a := fun v4089 k0_hw358 => k0_hw358

def k0_chk359 (v4105 : IVec S16 32) : Prop :=
  (∀ a x, ((![v4105] : Fin 1 → IVec S16 32) a x).toNat < S272.size a)
theorem k0_idx369_inb : ∀ (v4105 : IVec S16 32) (k0_hw359 : k0_chk359 v4105), ∀ a x, ((![v4105] : Fin 1 → IVec S16 32) a x).toNat < S272.size a := fun v4105 k0_hw359 => k0_hw359

def k0_chk360 (v4113 : IVec S16 32) : Prop :=
  (∀ a x, ((![v4113] : Fin 1 → IVec S16 32) a x).toNat < S272.size a)
theorem k0_idx370_inb : ∀ (v4113 : IVec S16 32) (k0_hw360 : k0_chk360 v4113), ∀ a x, ((![v4113] : Fin 1 → IVec S16 32) a x).toNat < S272.size a := fun v4113 k0_hw360 => k0_hw360

def k0_chk361 (v4154 : IVec S16 32) : Prop :=
  (∀ a x, ((![v4154] : Fin 1 → IVec S16 32) a x).toNat < S272.size a)
theorem k0_idx371_inb : ∀ (v4154 : IVec S16 32) (k0_hw361 : k0_chk361 v4154), ∀ a x, ((![v4154] : Fin 1 → IVec S16 32) a x).toNat < S272.size a := fun v4154 k0_hw361 => k0_hw361

def k0_chk362 (v4162 : IVec S16 32) : Prop :=
  (∀ a x, ((![v4162] : Fin 1 → IVec S16 32) a x).toNat < S272.size a)
theorem k0_idx372_inb : ∀ (v4162 : IVec S16 32) (k0_hw362 : k0_chk362 v4162), ∀ a x, ((![v4162] : Fin 1 → IVec S16 32) a x).toNat < S272.size a := fun v4162 k0_hw362 => k0_hw362

def k0_chk363 (v4174 : IVec S16 32) : Prop :=
  (∀ a x, ((![v4174] : Fin 1 → IVec S16 32) a x).toNat < S272.size a)
theorem k0_idx373_inb : ∀ (v4174 : IVec S16 32) (k0_hw363 : k0_chk363 v4174), ∀ a x, ((![v4174] : Fin 1 → IVec S16 32) a x).toNat < S272.size a := fun v4174 k0_hw363 => k0_hw363

def k0_chk364 (v4182 : IVec S16 32) : Prop :=
  (∀ a x, ((![v4182] : Fin 1 → IVec S16 32) a x).toNat < S272.size a)
theorem k0_idx374_inb : ∀ (v4182 : IVec S16 32) (k0_hw364 : k0_chk364 v4182), ∀ a x, ((![v4182] : Fin 1 → IVec S16 32) a x).toNat < S272.size a := fun v4182 k0_hw364 => k0_hw364

def k0_chk365 (v4189 : IVec S16 32) : Prop :=
  (∀ a x, ((![v4189] : Fin 1 → IVec S16 32) a x).toNat < S272.size a)
theorem k0_idx375_inb : ∀ (v4189 : IVec S16 32) (k0_hw365 : k0_chk365 v4189), ∀ a x, ((![v4189] : Fin 1 → IVec S16 32) a x).toNat < S272.size a := fun v4189 k0_hw365 => k0_hw365

def k0_chk366 (v4197 : IVec S16 32) : Prop :=
  (∀ a x, ((![v4197] : Fin 1 → IVec S16 32) a x).toNat < S272.size a)
theorem k0_idx376_inb : ∀ (v4197 : IVec S16 32) (k0_hw366 : k0_chk366 v4197), ∀ a x, ((![v4197] : Fin 1 → IVec S16 32) a x).toNat < S272.size a := fun v4197 k0_hw366 => k0_hw366

def k0_chk367 (v4213 : IVec S16 32) : Prop :=
  (∀ a x, ((![v4213] : Fin 1 → IVec S16 32) a x).toNat < S272.size a)
theorem k0_idx377_inb : ∀ (v4213 : IVec S16 32) (k0_hw367 : k0_chk367 v4213), ∀ a x, ((![v4213] : Fin 1 → IVec S16 32) a x).toNat < S272.size a := fun v4213 k0_hw367 => k0_hw367

def k0_chk368 (v4221 : IVec S16 32) : Prop :=
  (∀ a x, ((![v4221] : Fin 1 → IVec S16 32) a x).toNat < S272.size a)
theorem k0_idx378_inb : ∀ (v4221 : IVec S16 32) (k0_hw368 : k0_chk368 v4221), ∀ a x, ((![v4221] : Fin 1 → IVec S16 32) a x).toNat < S272.size a := fun v4221 k0_hw368 => k0_hw368

def k0_chk369 (v4262 : IVec S16 32) : Prop :=
  (∀ a x, ((![v4262] : Fin 1 → IVec S16 32) a x).toNat < S272.size a)
theorem k0_idx379_inb : ∀ (v4262 : IVec S16 32) (k0_hw369 : k0_chk369 v4262), ∀ a x, ((![v4262] : Fin 1 → IVec S16 32) a x).toNat < S272.size a := fun v4262 k0_hw369 => k0_hw369

def k0_chk370 (v4270 : IVec S16 32) : Prop :=
  (∀ a x, ((![v4270] : Fin 1 → IVec S16 32) a x).toNat < S272.size a)
theorem k0_idx380_inb : ∀ (v4270 : IVec S16 32) (k0_hw370 : k0_chk370 v4270), ∀ a x, ((![v4270] : Fin 1 → IVec S16 32) a x).toNat < S272.size a := fun v4270 k0_hw370 => k0_hw370

def k0_chk371 (v4282 : IVec S16 32) : Prop :=
  (∀ a x, ((![v4282] : Fin 1 → IVec S16 32) a x).toNat < S272.size a)
theorem k0_idx381_inb : ∀ (v4282 : IVec S16 32) (k0_hw371 : k0_chk371 v4282), ∀ a x, ((![v4282] : Fin 1 → IVec S16 32) a x).toNat < S272.size a := fun v4282 k0_hw371 => k0_hw371

def k0_chk372 (v4290 : IVec S16 32) : Prop :=
  (∀ a x, ((![v4290] : Fin 1 → IVec S16 32) a x).toNat < S272.size a)
theorem k0_idx382_inb : ∀ (v4290 : IVec S16 32) (k0_hw372 : k0_chk372 v4290), ∀ a x, ((![v4290] : Fin 1 → IVec S16 32) a x).toNat < S272.size a := fun v4290 k0_hw372 => k0_hw372

def k0_chk373 (v4297 : IVec S16 32) : Prop :=
  (∀ a x, ((![v4297] : Fin 1 → IVec S16 32) a x).toNat < S272.size a)
theorem k0_idx383_inb : ∀ (v4297 : IVec S16 32) (k0_hw373 : k0_chk373 v4297), ∀ a x, ((![v4297] : Fin 1 → IVec S16 32) a x).toNat < S272.size a := fun v4297 k0_hw373 => k0_hw373

def k0_chk374 (v4305 : IVec S16 32) : Prop :=
  (∀ a x, ((![v4305] : Fin 1 → IVec S16 32) a x).toNat < S272.size a)
theorem k0_idx384_inb : ∀ (v4305 : IVec S16 32) (k0_hw374 : k0_chk374 v4305), ∀ a x, ((![v4305] : Fin 1 → IVec S16 32) a x).toNat < S272.size a := fun v4305 k0_hw374 => k0_hw374

def k0_chk375 (v4321 : IVec S16 32) : Prop :=
  (∀ a x, ((![v4321] : Fin 1 → IVec S16 32) a x).toNat < S272.size a)
theorem k0_idx385_inb : ∀ (v4321 : IVec S16 32) (k0_hw375 : k0_chk375 v4321), ∀ a x, ((![v4321] : Fin 1 → IVec S16 32) a x).toNat < S272.size a := fun v4321 k0_hw375 => k0_hw375

def k0_chk376 (v4329 : IVec S16 32) : Prop :=
  (∀ a x, ((![v4329] : Fin 1 → IVec S16 32) a x).toNat < S272.size a)
theorem k0_idx386_inb : ∀ (v4329 : IVec S16 32) (k0_hw376 : k0_chk376 v4329), ∀ a x, ((![v4329] : Fin 1 → IVec S16 32) a x).toNat < S272.size a := fun v4329 k0_hw376 => k0_hw376

def k0_chk377 (v4370 : IVec S16 32) : Prop :=
  (∀ a x, ((![v4370] : Fin 1 → IVec S16 32) a x).toNat < S272.size a)
theorem k0_idx387_inb : ∀ (v4370 : IVec S16 32) (k0_hw377 : k0_chk377 v4370), ∀ a x, ((![v4370] : Fin 1 → IVec S16 32) a x).toNat < S272.size a := fun v4370 k0_hw377 => k0_hw377

def k0_chk378 (v4378 : IVec S16 32) : Prop :=
  (∀ a x, ((![v4378] : Fin 1 → IVec S16 32) a x).toNat < S272.size a)
theorem k0_idx388_inb : ∀ (v4378 : IVec S16 32) (k0_hw378 : k0_chk378 v4378), ∀ a x, ((![v4378] : Fin 1 → IVec S16 32) a x).toNat < S272.size a := fun v4378 k0_hw378 => k0_hw378

def k0_chk379 (v4390 : IVec S16 32) : Prop :=
  (∀ a x, ((![v4390] : Fin 1 → IVec S16 32) a x).toNat < S272.size a)
theorem k0_idx389_inb : ∀ (v4390 : IVec S16 32) (k0_hw379 : k0_chk379 v4390), ∀ a x, ((![v4390] : Fin 1 → IVec S16 32) a x).toNat < S272.size a := fun v4390 k0_hw379 => k0_hw379

def k0_chk380 (v4398 : IVec S16 32) : Prop :=
  (∀ a x, ((![v4398] : Fin 1 → IVec S16 32) a x).toNat < S272.size a)
theorem k0_idx390_inb : ∀ (v4398 : IVec S16 32) (k0_hw380 : k0_chk380 v4398), ∀ a x, ((![v4398] : Fin 1 → IVec S16 32) a x).toNat < S272.size a := fun v4398 k0_hw380 => k0_hw380

def k0_chk381 (v4405 : IVec S16 32) : Prop :=
  (∀ a x, ((![v4405] : Fin 1 → IVec S16 32) a x).toNat < S272.size a)
theorem k0_idx391_inb : ∀ (v4405 : IVec S16 32) (k0_hw381 : k0_chk381 v4405), ∀ a x, ((![v4405] : Fin 1 → IVec S16 32) a x).toNat < S272.size a := fun v4405 k0_hw381 => k0_hw381

def k0_chk382 (v4413 : IVec S16 32) : Prop :=
  (∀ a x, ((![v4413] : Fin 1 → IVec S16 32) a x).toNat < S272.size a)
theorem k0_idx392_inb : ∀ (v4413 : IVec S16 32) (k0_hw382 : k0_chk382 v4413), ∀ a x, ((![v4413] : Fin 1 → IVec S16 32) a x).toNat < S272.size a := fun v4413 k0_hw382 => k0_hw382

def k0_chk383 (v4429 : IVec S16 32) : Prop :=
  (∀ a x, ((![v4429] : Fin 1 → IVec S16 32) a x).toNat < S272.size a)
theorem k0_idx393_inb : ∀ (v4429 : IVec S16 32) (k0_hw383 : k0_chk383 v4429), ∀ a x, ((![v4429] : Fin 1 → IVec S16 32) a x).toNat < S272.size a := fun v4429 k0_hw383 => k0_hw383

def k0_chk384 (v4437 : IVec S16 32) : Prop :=
  (∀ a x, ((![v4437] : Fin 1 → IVec S16 32) a x).toNat < S272.size a)
theorem k0_idx394_inb : ∀ (v4437 : IVec S16 32) (k0_hw384 : k0_chk384 v4437), ∀ a x, ((![v4437] : Fin 1 → IVec S16 32) a x).toNat < S272.size a := fun v4437 k0_hw384 => k0_hw384

def k0_chk385 (v4478 : IVec S16 32) : Prop :=
  (∀ a x, ((![v4478] : Fin 1 → IVec S16 32) a x).toNat < S272.size a)
theorem k0_idx395_inb : ∀ (v4478 : IVec S16 32) (k0_hw385 : k0_chk385 v4478), ∀ a x, ((![v4478] : Fin 1 → IVec S16 32) a x).toNat < S272.size a := fun v4478 k0_hw385 => k0_hw385

def k0_chk386 (v4486 : IVec S16 32) : Prop :=
  (∀ a x, ((![v4486] : Fin 1 → IVec S16 32) a x).toNat < S272.size a)
theorem k0_idx396_inb : ∀ (v4486 : IVec S16 32) (k0_hw386 : k0_chk386 v4486), ∀ a x, ((![v4486] : Fin 1 → IVec S16 32) a x).toNat < S272.size a := fun v4486 k0_hw386 => k0_hw386

def k0_chk387 (v4498 : IVec S16 32) : Prop :=
  (∀ a x, ((![v4498] : Fin 1 → IVec S16 32) a x).toNat < S272.size a)
theorem k0_idx397_inb : ∀ (v4498 : IVec S16 32) (k0_hw387 : k0_chk387 v4498), ∀ a x, ((![v4498] : Fin 1 → IVec S16 32) a x).toNat < S272.size a := fun v4498 k0_hw387 => k0_hw387

def k0_chk388 (v4506 : IVec S16 32) : Prop :=
  (∀ a x, ((![v4506] : Fin 1 → IVec S16 32) a x).toNat < S272.size a)
theorem k0_idx398_inb : ∀ (v4506 : IVec S16 32) (k0_hw388 : k0_chk388 v4506), ∀ a x, ((![v4506] : Fin 1 → IVec S16 32) a x).toNat < S272.size a := fun v4506 k0_hw388 => k0_hw388

def k0_chk389 (v4513 : IVec S16 32) : Prop :=
  (∀ a x, ((![v4513] : Fin 1 → IVec S16 32) a x).toNat < S272.size a)
theorem k0_idx399_inb : ∀ (v4513 : IVec S16 32) (k0_hw389 : k0_chk389 v4513), ∀ a x, ((![v4513] : Fin 1 → IVec S16 32) a x).toNat < S272.size a := fun v4513 k0_hw389 => k0_hw389

def k0_chk390 (v4521 : IVec S16 32) : Prop :=
  (∀ a x, ((![v4521] : Fin 1 → IVec S16 32) a x).toNat < S272.size a)
theorem k0_idx400_inb : ∀ (v4521 : IVec S16 32) (k0_hw390 : k0_chk390 v4521), ∀ a x, ((![v4521] : Fin 1 → IVec S16 32) a x).toNat < S272.size a := fun v4521 k0_hw390 => k0_hw390

def k0_chk391 (v4537 : IVec S16 32) : Prop :=
  (∀ a x, ((![v4537] : Fin 1 → IVec S16 32) a x).toNat < S272.size a)
theorem k0_idx401_inb : ∀ (v4537 : IVec S16 32) (k0_hw391 : k0_chk391 v4537), ∀ a x, ((![v4537] : Fin 1 → IVec S16 32) a x).toNat < S272.size a := fun v4537 k0_hw391 => k0_hw391

def k0_chk392 (v4545 : IVec S16 32) : Prop :=
  (∀ a x, ((![v4545] : Fin 1 → IVec S16 32) a x).toNat < S272.size a)
theorem k0_idx402_inb : ∀ (v4545 : IVec S16 32) (k0_hw392 : k0_chk392 v4545), ∀ a x, ((![v4545] : Fin 1 → IVec S16 32) a x).toNat < S272.size a := fun v4545 k0_hw392 => k0_hw392

def k0_chk393 (v4586 : IVec S16 32) : Prop :=
  (∀ a x, ((![v4586] : Fin 1 → IVec S16 32) a x).toNat < S272.size a)
theorem k0_idx403_inb : ∀ (v4586 : IVec S16 32) (k0_hw393 : k0_chk393 v4586), ∀ a x, ((![v4586] : Fin 1 → IVec S16 32) a x).toNat < S272.size a := fun v4586 k0_hw393 => k0_hw393

def k0_chk394 (v4594 : IVec S16 32) : Prop :=
  (∀ a x, ((![v4594] : Fin 1 → IVec S16 32) a x).toNat < S272.size a)
theorem k0_idx404_inb : ∀ (v4594 : IVec S16 32) (k0_hw394 : k0_chk394 v4594), ∀ a x, ((![v4594] : Fin 1 → IVec S16 32) a x).toNat < S272.size a := fun v4594 k0_hw394 => k0_hw394

def k0_chk395 (v4606 : IVec S16 32) : Prop :=
  (∀ a x, ((![v4606] : Fin 1 → IVec S16 32) a x).toNat < S272.size a)
theorem k0_idx405_inb : ∀ (v4606 : IVec S16 32) (k0_hw395 : k0_chk395 v4606), ∀ a x, ((![v4606] : Fin 1 → IVec S16 32) a x).toNat < S272.size a := fun v4606 k0_hw395 => k0_hw395

def k0_chk396 (v4614 : IVec S16 32) : Prop :=
  (∀ a x, ((![v4614] : Fin 1 → IVec S16 32) a x).toNat < S272.size a)
theorem k0_idx406_inb : ∀ (v4614 : IVec S16 32) (k0_hw396 : k0_chk396 v4614), ∀ a x, ((![v4614] : Fin 1 → IVec S16 32) a x).toNat < S272.size a := fun v4614 k0_hw396 => k0_hw396

def k0_chk397 (v4621 : IVec S16 32) : Prop :=
  (∀ a x, ((![v4621] : Fin 1 → IVec S16 32) a x).toNat < S272.size a)
theorem k0_idx407_inb : ∀ (v4621 : IVec S16 32) (k0_hw397 : k0_chk397 v4621), ∀ a x, ((![v4621] : Fin 1 → IVec S16 32) a x).toNat < S272.size a := fun v4621 k0_hw397 => k0_hw397

def k0_chk398 (v4629 : IVec S16 32) : Prop :=
  (∀ a x, ((![v4629] : Fin 1 → IVec S16 32) a x).toNat < S272.size a)
theorem k0_idx408_inb : ∀ (v4629 : IVec S16 32) (k0_hw398 : k0_chk398 v4629), ∀ a x, ((![v4629] : Fin 1 → IVec S16 32) a x).toNat < S272.size a := fun v4629 k0_hw398 => k0_hw398

def k0_chk399 (v4645 : IVec S16 32) : Prop :=
  (∀ a x, ((![v4645] : Fin 1 → IVec S16 32) a x).toNat < S272.size a)
theorem k0_idx409_inb : ∀ (v4645 : IVec S16 32) (k0_hw399 : k0_chk399 v4645), ∀ a x, ((![v4645] : Fin 1 → IVec S16 32) a x).toNat < S272.size a := fun v4645 k0_hw399 => k0_hw399

def k0_chk400 (v4653 : IVec S16 32) : Prop :=
  (∀ a x, ((![v4653] : Fin 1 → IVec S16 32) a x).toNat < S272.size a)
theorem k0_idx410_inb : ∀ (v4653 : IVec S16 32) (k0_hw400 : k0_chk400 v4653), ∀ a x, ((![v4653] : Fin 1 → IVec S16 32) a x).toNat < S272.size a := fun v4653 k0_hw400 => k0_hw400

def k0_chk401 (v4692 : IVec S16 32) : Prop :=
  (∀ a x, ((![v4692] : Fin 1 → IVec S16 32) a x).toNat < S272.size a)
theorem k0_idx411_inb : ∀ (v4692 : IVec S16 32) (k0_hw401 : k0_chk401 v4692), ∀ a x, ((![v4692] : Fin 1 → IVec S16 32) a x).toNat < S272.size a := fun v4692 k0_hw401 => k0_hw401

def k0_chk402 (v4700 : IVec S16 32) : Prop :=
  (∀ a x, ((![v4700] : Fin 1 → IVec S16 32) a x).toNat < S272.size a)
theorem k0_idx412_inb : ∀ (v4700 : IVec S16 32) (k0_hw402 : k0_chk402 v4700), ∀ a x, ((![v4700] : Fin 1 → IVec S16 32) a x).toNat < S272.size a := fun v4700 k0_hw402 => k0_hw402

def k0_chk403 (v4712 : IVec S16 32) : Prop :=
  (∀ a x, ((![v4712] : Fin 1 → IVec S16 32) a x).toNat < S272.size a)
theorem k0_idx413_inb : ∀ (v4712 : IVec S16 32) (k0_hw403 : k0_chk403 v4712), ∀ a x, ((![v4712] : Fin 1 → IVec S16 32) a x).toNat < S272.size a := fun v4712 k0_hw403 => k0_hw403

def k0_chk404 (v4720 : IVec S16 32) : Prop :=
  (∀ a x, ((![v4720] : Fin 1 → IVec S16 32) a x).toNat < S272.size a)
theorem k0_idx414_inb : ∀ (v4720 : IVec S16 32) (k0_hw404 : k0_chk404 v4720), ∀ a x, ((![v4720] : Fin 1 → IVec S16 32) a x).toNat < S272.size a := fun v4720 k0_hw404 => k0_hw404

def k0_chk405 (v4727 : IVec S16 32) : Prop :=
  (∀ a x, ((![v4727] : Fin 1 → IVec S16 32) a x).toNat < S272.size a)
theorem k0_idx415_inb : ∀ (v4727 : IVec S16 32) (k0_hw405 : k0_chk405 v4727), ∀ a x, ((![v4727] : Fin 1 → IVec S16 32) a x).toNat < S272.size a := fun v4727 k0_hw405 => k0_hw405

def k0_chk406 (v4735 : IVec S16 32) : Prop :=
  (∀ a x, ((![v4735] : Fin 1 → IVec S16 32) a x).toNat < S272.size a)
theorem k0_idx416_inb : ∀ (v4735 : IVec S16 32) (k0_hw406 : k0_chk406 v4735), ∀ a x, ((![v4735] : Fin 1 → IVec S16 32) a x).toNat < S272.size a := fun v4735 k0_hw406 => k0_hw406

def k0_chk407 (v4751 : IVec S16 32) : Prop :=
  (∀ a x, ((![v4751] : Fin 1 → IVec S16 32) a x).toNat < S272.size a)
theorem k0_idx417_inb : ∀ (v4751 : IVec S16 32) (k0_hw407 : k0_chk407 v4751), ∀ a x, ((![v4751] : Fin 1 → IVec S16 32) a x).toNat < S272.size a := fun v4751 k0_hw407 => k0_hw407

def k0_chk408 (v4759 : IVec S16 32) : Prop :=
  (∀ a x, ((![v4759] : Fin 1 → IVec S16 32) a x).toNat < S272.size a)
theorem k0_idx418_inb : ∀ (v4759 : IVec S16 32) (k0_hw408 : k0_chk408 v4759), ∀ a x, ((![v4759] : Fin 1 → IVec S16 32) a x).toNat < S272.size a := fun v4759 k0_hw408 => k0_hw408

def k0_chk409 (v4800 : IVec S16 32) : Prop :=
  (∀ a x, ((![v4800] : Fin 1 → IVec S16 32) a x).toNat < S272.size a)
theorem k0_idx419_inb : ∀ (v4800 : IVec S16 32) (k0_hw409 : k0_chk409 v4800), ∀ a x, ((![v4800] : Fin 1 → IVec S16 32) a x).toNat < S272.size a := fun v4800 k0_hw409 => k0_hw409

def k0_chk410 (v4808 : IVec S16 32) : Prop :=
  (∀ a x, ((![v4808] : Fin 1 → IVec S16 32) a x).toNat < S272.size a)
theorem k0_idx420_inb : ∀ (v4808 : IVec S16 32) (k0_hw410 : k0_chk410 v4808), ∀ a x, ((![v4808] : Fin 1 → IVec S16 32) a x).toNat < S272.size a := fun v4808 k0_hw410 => k0_hw410

def k0_chk411 (v4820 : IVec S16 32) : Prop :=
  (∀ a x, ((![v4820] : Fin 1 → IVec S16 32) a x).toNat < S272.size a)
theorem k0_idx421_inb : ∀ (v4820 : IVec S16 32) (k0_hw411 : k0_chk411 v4820), ∀ a x, ((![v4820] : Fin 1 → IVec S16 32) a x).toNat < S272.size a := fun v4820 k0_hw411 => k0_hw411

def k0_chk412 (v4828 : IVec S16 32) : Prop :=
  (∀ a x, ((![v4828] : Fin 1 → IVec S16 32) a x).toNat < S272.size a)
theorem k0_idx422_inb : ∀ (v4828 : IVec S16 32) (k0_hw412 : k0_chk412 v4828), ∀ a x, ((![v4828] : Fin 1 → IVec S16 32) a x).toNat < S272.size a := fun v4828 k0_hw412 => k0_hw412

def k0_chk413 (v4835 : IVec S16 32) : Prop :=
  (∀ a x, ((![v4835] : Fin 1 → IVec S16 32) a x).toNat < S272.size a)
theorem k0_idx423_inb : ∀ (v4835 : IVec S16 32) (k0_hw413 : k0_chk413 v4835), ∀ a x, ((![v4835] : Fin 1 → IVec S16 32) a x).toNat < S272.size a := fun v4835 k0_hw413 => k0_hw413

def k0_chk414 (v4843 : IVec S16 32) : Prop :=
  (∀ a x, ((![v4843] : Fin 1 → IVec S16 32) a x).toNat < S272.size a)
theorem k0_idx424_inb : ∀ (v4843 : IVec S16 32) (k0_hw414 : k0_chk414 v4843), ∀ a x, ((![v4843] : Fin 1 → IVec S16 32) a x).toNat < S272.size a := fun v4843 k0_hw414 => k0_hw414

def k0_chk415 (v4859 : IVec S16 32) : Prop :=
  (∀ a x, ((![v4859] : Fin 1 → IVec S16 32) a x).toNat < S272.size a)
theorem k0_idx425_inb : ∀ (v4859 : IVec S16 32) (k0_hw415 : k0_chk415 v4859), ∀ a x, ((![v4859] : Fin 1 → IVec S16 32) a x).toNat < S272.size a := fun v4859 k0_hw415 => k0_hw415

def k0_chk416 (v4867 : IVec S16 32) : Prop :=
  (∀ a x, ((![v4867] : Fin 1 → IVec S16 32) a x).toNat < S272.size a)
theorem k0_idx426_inb : ∀ (v4867 : IVec S16 32) (k0_hw416 : k0_chk416 v4867), ∀ a x, ((![v4867] : Fin 1 → IVec S16 32) a x).toNat < S272.size a := fun v4867 k0_hw416 => k0_hw416

def k0_chk417 (v4908 : IVec S16 32) : Prop :=
  (∀ a x, ((![v4908] : Fin 1 → IVec S16 32) a x).toNat < S272.size a)
theorem k0_idx427_inb : ∀ (v4908 : IVec S16 32) (k0_hw417 : k0_chk417 v4908), ∀ a x, ((![v4908] : Fin 1 → IVec S16 32) a x).toNat < S272.size a := fun v4908 k0_hw417 => k0_hw417

def k0_chk418 (v4916 : IVec S16 32) : Prop :=
  (∀ a x, ((![v4916] : Fin 1 → IVec S16 32) a x).toNat < S272.size a)
theorem k0_idx428_inb : ∀ (v4916 : IVec S16 32) (k0_hw418 : k0_chk418 v4916), ∀ a x, ((![v4916] : Fin 1 → IVec S16 32) a x).toNat < S272.size a := fun v4916 k0_hw418 => k0_hw418

def k0_chk419 (v4928 : IVec S16 32) : Prop :=
  (∀ a x, ((![v4928] : Fin 1 → IVec S16 32) a x).toNat < S272.size a)
theorem k0_idx429_inb : ∀ (v4928 : IVec S16 32) (k0_hw419 : k0_chk419 v4928), ∀ a x, ((![v4928] : Fin 1 → IVec S16 32) a x).toNat < S272.size a := fun v4928 k0_hw419 => k0_hw419

def k0_chk420 (v4936 : IVec S16 32) : Prop :=
  (∀ a x, ((![v4936] : Fin 1 → IVec S16 32) a x).toNat < S272.size a)
theorem k0_idx430_inb : ∀ (v4936 : IVec S16 32) (k0_hw420 : k0_chk420 v4936), ∀ a x, ((![v4936] : Fin 1 → IVec S16 32) a x).toNat < S272.size a := fun v4936 k0_hw420 => k0_hw420

def k0_chk421 (v4943 : IVec S16 32) : Prop :=
  (∀ a x, ((![v4943] : Fin 1 → IVec S16 32) a x).toNat < S272.size a)
theorem k0_idx431_inb : ∀ (v4943 : IVec S16 32) (k0_hw421 : k0_chk421 v4943), ∀ a x, ((![v4943] : Fin 1 → IVec S16 32) a x).toNat < S272.size a := fun v4943 k0_hw421 => k0_hw421

def k0_chk422 (v4951 : IVec S16 32) : Prop :=
  (∀ a x, ((![v4951] : Fin 1 → IVec S16 32) a x).toNat < S272.size a)
theorem k0_idx432_inb : ∀ (v4951 : IVec S16 32) (k0_hw422 : k0_chk422 v4951), ∀ a x, ((![v4951] : Fin 1 → IVec S16 32) a x).toNat < S272.size a := fun v4951 k0_hw422 => k0_hw422

def k0_chk423 (v4967 : IVec S16 32) : Prop :=
  (∀ a x, ((![v4967] : Fin 1 → IVec S16 32) a x).toNat < S272.size a)
theorem k0_idx433_inb : ∀ (v4967 : IVec S16 32) (k0_hw423 : k0_chk423 v4967), ∀ a x, ((![v4967] : Fin 1 → IVec S16 32) a x).toNat < S272.size a := fun v4967 k0_hw423 => k0_hw423

def k0_chk424 (v4975 : IVec S16 32) : Prop :=
  (∀ a x, ((![v4975] : Fin 1 → IVec S16 32) a x).toNat < S272.size a)
theorem k0_idx434_inb : ∀ (v4975 : IVec S16 32) (k0_hw424 : k0_chk424 v4975), ∀ a x, ((![v4975] : Fin 1 → IVec S16 32) a x).toNat < S272.size a := fun v4975 k0_hw424 => k0_hw424

def k0_chk425 (v5016 : IVec S16 32) : Prop :=
  (∀ a x, ((![v5016] : Fin 1 → IVec S16 32) a x).toNat < S272.size a)
theorem k0_idx435_inb : ∀ (v5016 : IVec S16 32) (k0_hw425 : k0_chk425 v5016), ∀ a x, ((![v5016] : Fin 1 → IVec S16 32) a x).toNat < S272.size a := fun v5016 k0_hw425 => k0_hw425

def k0_chk426 (v5024 : IVec S16 32) : Prop :=
  (∀ a x, ((![v5024] : Fin 1 → IVec S16 32) a x).toNat < S272.size a)
theorem k0_idx436_inb : ∀ (v5024 : IVec S16 32) (k0_hw426 : k0_chk426 v5024), ∀ a x, ((![v5024] : Fin 1 → IVec S16 32) a x).toNat < S272.size a := fun v5024 k0_hw426 => k0_hw426

def k0_chk427 (v5036 : IVec S16 32) : Prop :=
  (∀ a x, ((![v5036] : Fin 1 → IVec S16 32) a x).toNat < S272.size a)
theorem k0_idx437_inb : ∀ (v5036 : IVec S16 32) (k0_hw427 : k0_chk427 v5036), ∀ a x, ((![v5036] : Fin 1 → IVec S16 32) a x).toNat < S272.size a := fun v5036 k0_hw427 => k0_hw427

def k0_chk428 (v5044 : IVec S16 32) : Prop :=
  (∀ a x, ((![v5044] : Fin 1 → IVec S16 32) a x).toNat < S272.size a)
theorem k0_idx438_inb : ∀ (v5044 : IVec S16 32) (k0_hw428 : k0_chk428 v5044), ∀ a x, ((![v5044] : Fin 1 → IVec S16 32) a x).toNat < S272.size a := fun v5044 k0_hw428 => k0_hw428

def k0_chk429 (v5051 : IVec S16 32) : Prop :=
  (∀ a x, ((![v5051] : Fin 1 → IVec S16 32) a x).toNat < S272.size a)
theorem k0_idx439_inb : ∀ (v5051 : IVec S16 32) (k0_hw429 : k0_chk429 v5051), ∀ a x, ((![v5051] : Fin 1 → IVec S16 32) a x).toNat < S272.size a := fun v5051 k0_hw429 => k0_hw429

def k0_chk430 (v5059 : IVec S16 32) : Prop :=
  (∀ a x, ((![v5059] : Fin 1 → IVec S16 32) a x).toNat < S272.size a)
theorem k0_idx440_inb : ∀ (v5059 : IVec S16 32) (k0_hw430 : k0_chk430 v5059), ∀ a x, ((![v5059] : Fin 1 → IVec S16 32) a x).toNat < S272.size a := fun v5059 k0_hw430 => k0_hw430

def k0_chk431 (v5075 : IVec S16 32) : Prop :=
  (∀ a x, ((![v5075] : Fin 1 → IVec S16 32) a x).toNat < S272.size a)
theorem k0_idx441_inb : ∀ (v5075 : IVec S16 32) (k0_hw431 : k0_chk431 v5075), ∀ a x, ((![v5075] : Fin 1 → IVec S16 32) a x).toNat < S272.size a := fun v5075 k0_hw431 => k0_hw431

def k0_chk432 (v5083 : IVec S16 32) : Prop :=
  (∀ a x, ((![v5083] : Fin 1 → IVec S16 32) a x).toNat < S272.size a)
theorem k0_idx442_inb : ∀ (v5083 : IVec S16 32) (k0_hw432 : k0_chk432 v5083), ∀ a x, ((![v5083] : Fin 1 → IVec S16 32) a x).toNat < S272.size a := fun v5083 k0_hw432 => k0_hw432

def k0_chk433 (v5124 : IVec S16 32) : Prop :=
  (∀ a x, ((![v5124] : Fin 1 → IVec S16 32) a x).toNat < S272.size a)
theorem k0_idx443_inb : ∀ (v5124 : IVec S16 32) (k0_hw433 : k0_chk433 v5124), ∀ a x, ((![v5124] : Fin 1 → IVec S16 32) a x).toNat < S272.size a := fun v5124 k0_hw433 => k0_hw433

def k0_chk434 (v5132 : IVec S16 32) : Prop :=
  (∀ a x, ((![v5132] : Fin 1 → IVec S16 32) a x).toNat < S272.size a)
theorem k0_idx444_inb : ∀ (v5132 : IVec S16 32) (k0_hw434 : k0_chk434 v5132), ∀ a x, ((![v5132] : Fin 1 → IVec S16 32) a x).toNat < S272.size a := fun v5132 k0_hw434 => k0_hw434

def k0_chk435 (v5144 : IVec S16 32) : Prop :=
  (∀ a x, ((![v5144] : Fin 1 → IVec S16 32) a x).toNat < S272.size a)
theorem k0_idx445_inb : ∀ (v5144 : IVec S16 32) (k0_hw435 : k0_chk435 v5144), ∀ a x, ((![v5144] : Fin 1 → IVec S16 32) a x).toNat < S272.size a := fun v5144 k0_hw435 => k0_hw435

def k0_chk436 (v5152 : IVec S16 32) : Prop :=
  (∀ a x, ((![v5152] : Fin 1 → IVec S16 32) a x).toNat < S272.size a)
theorem k0_idx446_inb : ∀ (v5152 : IVec S16 32) (k0_hw436 : k0_chk436 v5152), ∀ a x, ((![v5152] : Fin 1 → IVec S16 32) a x).toNat < S272.size a := fun v5152 k0_hw436 => k0_hw436

def k0_chk437 (v5159 : IVec S16 32) : Prop :=
  (∀ a x, ((![v5159] : Fin 1 → IVec S16 32) a x).toNat < S272.size a)
theorem k0_idx447_inb : ∀ (v5159 : IVec S16 32) (k0_hw437 : k0_chk437 v5159), ∀ a x, ((![v5159] : Fin 1 → IVec S16 32) a x).toNat < S272.size a := fun v5159 k0_hw437 => k0_hw437

def k0_chk438 (v5167 : IVec S16 32) : Prop :=
  (∀ a x, ((![v5167] : Fin 1 → IVec S16 32) a x).toNat < S272.size a)
theorem k0_idx448_inb : ∀ (v5167 : IVec S16 32) (k0_hw438 : k0_chk438 v5167), ∀ a x, ((![v5167] : Fin 1 → IVec S16 32) a x).toNat < S272.size a := fun v5167 k0_hw438 => k0_hw438

def k0_chk439 (v5183 : IVec S16 32) : Prop :=
  (∀ a x, ((![v5183] : Fin 1 → IVec S16 32) a x).toNat < S272.size a)
theorem k0_idx449_inb : ∀ (v5183 : IVec S16 32) (k0_hw439 : k0_chk439 v5183), ∀ a x, ((![v5183] : Fin 1 → IVec S16 32) a x).toNat < S272.size a := fun v5183 k0_hw439 => k0_hw439

def k0_chk440 (v5191 : IVec S16 32) : Prop :=
  (∀ a x, ((![v5191] : Fin 1 → IVec S16 32) a x).toNat < S272.size a)
theorem k0_idx450_inb : ∀ (v5191 : IVec S16 32) (k0_hw440 : k0_chk440 v5191), ∀ a x, ((![v5191] : Fin 1 → IVec S16 32) a x).toNat < S272.size a := fun v5191 k0_hw440 => k0_hw440

def k0_chk441 (v5232 : IVec S16 32) : Prop :=
  (∀ a x, ((![v5232] : Fin 1 → IVec S16 32) a x).toNat < S272.size a)
theorem k0_idx451_inb : ∀ (v5232 : IVec S16 32) (k0_hw441 : k0_chk441 v5232), ∀ a x, ((![v5232] : Fin 1 → IVec S16 32) a x).toNat < S272.size a := fun v5232 k0_hw441 => k0_hw441

def k0_chk442 (v5240 : IVec S16 32) : Prop :=
  (∀ a x, ((![v5240] : Fin 1 → IVec S16 32) a x).toNat < S272.size a)
theorem k0_idx452_inb : ∀ (v5240 : IVec S16 32) (k0_hw442 : k0_chk442 v5240), ∀ a x, ((![v5240] : Fin 1 → IVec S16 32) a x).toNat < S272.size a := fun v5240 k0_hw442 => k0_hw442

def k0_chk443 (v5252 : IVec S16 32) : Prop :=
  (∀ a x, ((![v5252] : Fin 1 → IVec S16 32) a x).toNat < S272.size a)
theorem k0_idx453_inb : ∀ (v5252 : IVec S16 32) (k0_hw443 : k0_chk443 v5252), ∀ a x, ((![v5252] : Fin 1 → IVec S16 32) a x).toNat < S272.size a := fun v5252 k0_hw443 => k0_hw443

def k0_chk444 (v5260 : IVec S16 32) : Prop :=
  (∀ a x, ((![v5260] : Fin 1 → IVec S16 32) a x).toNat < S272.size a)
theorem k0_idx454_inb : ∀ (v5260 : IVec S16 32) (k0_hw444 : k0_chk444 v5260), ∀ a x, ((![v5260] : Fin 1 → IVec S16 32) a x).toNat < S272.size a := fun v5260 k0_hw444 => k0_hw444

def k0_chk445 (v5267 : IVec S16 32) : Prop :=
  (∀ a x, ((![v5267] : Fin 1 → IVec S16 32) a x).toNat < S272.size a)
theorem k0_idx455_inb : ∀ (v5267 : IVec S16 32) (k0_hw445 : k0_chk445 v5267), ∀ a x, ((![v5267] : Fin 1 → IVec S16 32) a x).toNat < S272.size a := fun v5267 k0_hw445 => k0_hw445

def k0_chk446 (v5275 : IVec S16 32) : Prop :=
  (∀ a x, ((![v5275] : Fin 1 → IVec S16 32) a x).toNat < S272.size a)
theorem k0_idx456_inb : ∀ (v5275 : IVec S16 32) (k0_hw446 : k0_chk446 v5275), ∀ a x, ((![v5275] : Fin 1 → IVec S16 32) a x).toNat < S272.size a := fun v5275 k0_hw446 => k0_hw446

def k0_chk447 (v5291 : IVec S16 32) : Prop :=
  (∀ a x, ((![v5291] : Fin 1 → IVec S16 32) a x).toNat < S272.size a)
theorem k0_idx457_inb : ∀ (v5291 : IVec S16 32) (k0_hw447 : k0_chk447 v5291), ∀ a x, ((![v5291] : Fin 1 → IVec S16 32) a x).toNat < S272.size a := fun v5291 k0_hw447 => k0_hw447

def k0_chk448 (v5299 : IVec S16 32) : Prop :=
  (∀ a x, ((![v5299] : Fin 1 → IVec S16 32) a x).toNat < S272.size a)
theorem k0_idx458_inb : ∀ (v5299 : IVec S16 32) (k0_hw448 : k0_chk448 v5299), ∀ a x, ((![v5299] : Fin 1 → IVec S16 32) a x).toNat < S272.size a := fun v5299 k0_hw448 => k0_hw448

def k0_chk449 (v5340 : IVec S16 32) : Prop :=
  (∀ a x, ((![v5340] : Fin 1 → IVec S16 32) a x).toNat < S272.size a)
theorem k0_idx459_inb : ∀ (v5340 : IVec S16 32) (k0_hw449 : k0_chk449 v5340), ∀ a x, ((![v5340] : Fin 1 → IVec S16 32) a x).toNat < S272.size a := fun v5340 k0_hw449 => k0_hw449

def k0_chk450 (v5348 : IVec S16 32) : Prop :=
  (∀ a x, ((![v5348] : Fin 1 → IVec S16 32) a x).toNat < S272.size a)
theorem k0_idx460_inb : ∀ (v5348 : IVec S16 32) (k0_hw450 : k0_chk450 v5348), ∀ a x, ((![v5348] : Fin 1 → IVec S16 32) a x).toNat < S272.size a := fun v5348 k0_hw450 => k0_hw450

def k0_chk451 (v5360 : IVec S16 32) : Prop :=
  (∀ a x, ((![v5360] : Fin 1 → IVec S16 32) a x).toNat < S272.size a)
theorem k0_idx461_inb : ∀ (v5360 : IVec S16 32) (k0_hw451 : k0_chk451 v5360), ∀ a x, ((![v5360] : Fin 1 → IVec S16 32) a x).toNat < S272.size a := fun v5360 k0_hw451 => k0_hw451

def k0_chk452 (v5368 : IVec S16 32) : Prop :=
  (∀ a x, ((![v5368] : Fin 1 → IVec S16 32) a x).toNat < S272.size a)
theorem k0_idx462_inb : ∀ (v5368 : IVec S16 32) (k0_hw452 : k0_chk452 v5368), ∀ a x, ((![v5368] : Fin 1 → IVec S16 32) a x).toNat < S272.size a := fun v5368 k0_hw452 => k0_hw452

def k0_chk453 (v5375 : IVec S16 32) : Prop :=
  (∀ a x, ((![v5375] : Fin 1 → IVec S16 32) a x).toNat < S272.size a)
theorem k0_idx463_inb : ∀ (v5375 : IVec S16 32) (k0_hw453 : k0_chk453 v5375), ∀ a x, ((![v5375] : Fin 1 → IVec S16 32) a x).toNat < S272.size a := fun v5375 k0_hw453 => k0_hw453

def k0_chk454 (v5383 : IVec S16 32) : Prop :=
  (∀ a x, ((![v5383] : Fin 1 → IVec S16 32) a x).toNat < S272.size a)
theorem k0_idx464_inb : ∀ (v5383 : IVec S16 32) (k0_hw454 : k0_chk454 v5383), ∀ a x, ((![v5383] : Fin 1 → IVec S16 32) a x).toNat < S272.size a := fun v5383 k0_hw454 => k0_hw454

def k0_chk455 (v5399 : IVec S16 32) : Prop :=
  (∀ a x, ((![v5399] : Fin 1 → IVec S16 32) a x).toNat < S272.size a)
theorem k0_idx465_inb : ∀ (v5399 : IVec S16 32) (k0_hw455 : k0_chk455 v5399), ∀ a x, ((![v5399] : Fin 1 → IVec S16 32) a x).toNat < S272.size a := fun v5399 k0_hw455 => k0_hw455

def k0_chk456 (v5407 : IVec S16 32) : Prop :=
  (∀ a x, ((![v5407] : Fin 1 → IVec S16 32) a x).toNat < S272.size a)
theorem k0_idx466_inb : ∀ (v5407 : IVec S16 32) (k0_hw456 : k0_chk456 v5407), ∀ a x, ((![v5407] : Fin 1 → IVec S16 32) a x).toNat < S272.size a := fun v5407 k0_hw456 => k0_hw456

def k0_chk457 (v5448 : IVec S16 32) : Prop :=
  (∀ a x, ((![v5448] : Fin 1 → IVec S16 32) a x).toNat < S272.size a)
theorem k0_idx467_inb : ∀ (v5448 : IVec S16 32) (k0_hw457 : k0_chk457 v5448), ∀ a x, ((![v5448] : Fin 1 → IVec S16 32) a x).toNat < S272.size a := fun v5448 k0_hw457 => k0_hw457

def k0_chk458 (v5456 : IVec S16 32) : Prop :=
  (∀ a x, ((![v5456] : Fin 1 → IVec S16 32) a x).toNat < S272.size a)
theorem k0_idx468_inb : ∀ (v5456 : IVec S16 32) (k0_hw458 : k0_chk458 v5456), ∀ a x, ((![v5456] : Fin 1 → IVec S16 32) a x).toNat < S272.size a := fun v5456 k0_hw458 => k0_hw458

def k0_chk459 (v5468 : IVec S16 32) : Prop :=
  (∀ a x, ((![v5468] : Fin 1 → IVec S16 32) a x).toNat < S272.size a)
theorem k0_idx469_inb : ∀ (v5468 : IVec S16 32) (k0_hw459 : k0_chk459 v5468), ∀ a x, ((![v5468] : Fin 1 → IVec S16 32) a x).toNat < S272.size a := fun v5468 k0_hw459 => k0_hw459

def k0_chk460 (v5476 : IVec S16 32) : Prop :=
  (∀ a x, ((![v5476] : Fin 1 → IVec S16 32) a x).toNat < S272.size a)
theorem k0_idx470_inb : ∀ (v5476 : IVec S16 32) (k0_hw460 : k0_chk460 v5476), ∀ a x, ((![v5476] : Fin 1 → IVec S16 32) a x).toNat < S272.size a := fun v5476 k0_hw460 => k0_hw460

def k0_chk461 (v5483 : IVec S16 32) : Prop :=
  (∀ a x, ((![v5483] : Fin 1 → IVec S16 32) a x).toNat < S272.size a)
theorem k0_idx471_inb : ∀ (v5483 : IVec S16 32) (k0_hw461 : k0_chk461 v5483), ∀ a x, ((![v5483] : Fin 1 → IVec S16 32) a x).toNat < S272.size a := fun v5483 k0_hw461 => k0_hw461

def k0_chk462 (v5491 : IVec S16 32) : Prop :=
  (∀ a x, ((![v5491] : Fin 1 → IVec S16 32) a x).toNat < S272.size a)
theorem k0_idx472_inb : ∀ (v5491 : IVec S16 32) (k0_hw462 : k0_chk462 v5491), ∀ a x, ((![v5491] : Fin 1 → IVec S16 32) a x).toNat < S272.size a := fun v5491 k0_hw462 => k0_hw462

def k0_chk463 (v5507 : IVec S16 32) : Prop :=
  (∀ a x, ((![v5507] : Fin 1 → IVec S16 32) a x).toNat < S272.size a)
theorem k0_idx473_inb : ∀ (v5507 : IVec S16 32) (k0_hw463 : k0_chk463 v5507), ∀ a x, ((![v5507] : Fin 1 → IVec S16 32) a x).toNat < S272.size a := fun v5507 k0_hw463 => k0_hw463

def k0_chk464 (v5515 : IVec S16 32) : Prop :=
  (∀ a x, ((![v5515] : Fin 1 → IVec S16 32) a x).toNat < S272.size a)
theorem k0_idx474_inb : ∀ (v5515 : IVec S16 32) (k0_hw464 : k0_chk464 v5515), ∀ a x, ((![v5515] : Fin 1 → IVec S16 32) a x).toNat < S272.size a := fun v5515 k0_hw464 => k0_hw464

def k0_chk465 (v5554 : IVec S16 32) : Prop :=
  (∀ a x, ((![v5554] : Fin 1 → IVec S16 32) a x).toNat < S272.size a)
theorem k0_idx475_inb : ∀ (v5554 : IVec S16 32) (k0_hw465 : k0_chk465 v5554), ∀ a x, ((![v5554] : Fin 1 → IVec S16 32) a x).toNat < S272.size a := fun v5554 k0_hw465 => k0_hw465

def k0_chk466 (v5562 : IVec S16 32) : Prop :=
  (∀ a x, ((![v5562] : Fin 1 → IVec S16 32) a x).toNat < S272.size a)
theorem k0_idx476_inb : ∀ (v5562 : IVec S16 32) (k0_hw466 : k0_chk466 v5562), ∀ a x, ((![v5562] : Fin 1 → IVec S16 32) a x).toNat < S272.size a := fun v5562 k0_hw466 => k0_hw466

def k0_chk467 (v5574 : IVec S16 32) : Prop :=
  (∀ a x, ((![v5574] : Fin 1 → IVec S16 32) a x).toNat < S272.size a)
theorem k0_idx477_inb : ∀ (v5574 : IVec S16 32) (k0_hw467 : k0_chk467 v5574), ∀ a x, ((![v5574] : Fin 1 → IVec S16 32) a x).toNat < S272.size a := fun v5574 k0_hw467 => k0_hw467

def k0_chk468 (v5582 : IVec S16 32) : Prop :=
  (∀ a x, ((![v5582] : Fin 1 → IVec S16 32) a x).toNat < S272.size a)
theorem k0_idx478_inb : ∀ (v5582 : IVec S16 32) (k0_hw468 : k0_chk468 v5582), ∀ a x, ((![v5582] : Fin 1 → IVec S16 32) a x).toNat < S272.size a := fun v5582 k0_hw468 => k0_hw468

def k0_chk469 (v5589 : IVec S16 32) : Prop :=
  (∀ a x, ((![v5589] : Fin 1 → IVec S16 32) a x).toNat < S272.size a)
theorem k0_idx479_inb : ∀ (v5589 : IVec S16 32) (k0_hw469 : k0_chk469 v5589), ∀ a x, ((![v5589] : Fin 1 → IVec S16 32) a x).toNat < S272.size a := fun v5589 k0_hw469 => k0_hw469

def k0_chk470 (v5597 : IVec S16 32) : Prop :=
  (∀ a x, ((![v5597] : Fin 1 → IVec S16 32) a x).toNat < S272.size a)
theorem k0_idx480_inb : ∀ (v5597 : IVec S16 32) (k0_hw470 : k0_chk470 v5597), ∀ a x, ((![v5597] : Fin 1 → IVec S16 32) a x).toNat < S272.size a := fun v5597 k0_hw470 => k0_hw470

def k0_chk471 (v5613 : IVec S16 32) : Prop :=
  (∀ a x, ((![v5613] : Fin 1 → IVec S16 32) a x).toNat < S272.size a)
theorem k0_idx481_inb : ∀ (v5613 : IVec S16 32) (k0_hw471 : k0_chk471 v5613), ∀ a x, ((![v5613] : Fin 1 → IVec S16 32) a x).toNat < S272.size a := fun v5613 k0_hw471 => k0_hw471

def k0_chk472 (v5621 : IVec S16 32) : Prop :=
  (∀ a x, ((![v5621] : Fin 1 → IVec S16 32) a x).toNat < S272.size a)
theorem k0_idx482_inb : ∀ (v5621 : IVec S16 32) (k0_hw472 : k0_chk472 v5621), ∀ a x, ((![v5621] : Fin 1 → IVec S16 32) a x).toNat < S272.size a := fun v5621 k0_hw472 => k0_hw472

def k0_chk473 (v5662 : IVec S16 32) : Prop :=
  (∀ a x, ((![v5662] : Fin 1 → IVec S16 32) a x).toNat < S272.size a)
theorem k0_idx483_inb : ∀ (v5662 : IVec S16 32) (k0_hw473 : k0_chk473 v5662), ∀ a x, ((![v5662] : Fin 1 → IVec S16 32) a x).toNat < S272.size a := fun v5662 k0_hw473 => k0_hw473

def k0_chk474 (v5670 : IVec S16 32) : Prop :=
  (∀ a x, ((![v5670] : Fin 1 → IVec S16 32) a x).toNat < S272.size a)
theorem k0_idx484_inb : ∀ (v5670 : IVec S16 32) (k0_hw474 : k0_chk474 v5670), ∀ a x, ((![v5670] : Fin 1 → IVec S16 32) a x).toNat < S272.size a := fun v5670 k0_hw474 => k0_hw474

def k0_chk475 (v5682 : IVec S16 32) : Prop :=
  (∀ a x, ((![v5682] : Fin 1 → IVec S16 32) a x).toNat < S272.size a)
theorem k0_idx485_inb : ∀ (v5682 : IVec S16 32) (k0_hw475 : k0_chk475 v5682), ∀ a x, ((![v5682] : Fin 1 → IVec S16 32) a x).toNat < S272.size a := fun v5682 k0_hw475 => k0_hw475

def k0_chk476 (v5690 : IVec S16 32) : Prop :=
  (∀ a x, ((![v5690] : Fin 1 → IVec S16 32) a x).toNat < S272.size a)
theorem k0_idx486_inb : ∀ (v5690 : IVec S16 32) (k0_hw476 : k0_chk476 v5690), ∀ a x, ((![v5690] : Fin 1 → IVec S16 32) a x).toNat < S272.size a := fun v5690 k0_hw476 => k0_hw476

def k0_chk477 (v5697 : IVec S16 32) : Prop :=
  (∀ a x, ((![v5697] : Fin 1 → IVec S16 32) a x).toNat < S272.size a)
theorem k0_idx487_inb : ∀ (v5697 : IVec S16 32) (k0_hw477 : k0_chk477 v5697), ∀ a x, ((![v5697] : Fin 1 → IVec S16 32) a x).toNat < S272.size a := fun v5697 k0_hw477 => k0_hw477

def k0_chk478 (v5705 : IVec S16 32) : Prop :=
  (∀ a x, ((![v5705] : Fin 1 → IVec S16 32) a x).toNat < S272.size a)
theorem k0_idx488_inb : ∀ (v5705 : IVec S16 32) (k0_hw478 : k0_chk478 v5705), ∀ a x, ((![v5705] : Fin 1 → IVec S16 32) a x).toNat < S272.size a := fun v5705 k0_hw478 => k0_hw478

def k0_chk479 (v5721 : IVec S16 32) : Prop :=
  (∀ a x, ((![v5721] : Fin 1 → IVec S16 32) a x).toNat < S272.size a)
theorem k0_idx489_inb : ∀ (v5721 : IVec S16 32) (k0_hw479 : k0_chk479 v5721), ∀ a x, ((![v5721] : Fin 1 → IVec S16 32) a x).toNat < S272.size a := fun v5721 k0_hw479 => k0_hw479

def k0_chk480 (v5729 : IVec S16 32) : Prop :=
  (∀ a x, ((![v5729] : Fin 1 → IVec S16 32) a x).toNat < S272.size a)
theorem k0_idx490_inb : ∀ (v5729 : IVec S16 32) (k0_hw480 : k0_chk480 v5729), ∀ a x, ((![v5729] : Fin 1 → IVec S16 32) a x).toNat < S272.size a := fun v5729 k0_hw480 => k0_hw480

def k0_chk481 (v5770 : IVec S16 32) : Prop :=
  (∀ a x, ((![v5770] : Fin 1 → IVec S16 32) a x).toNat < S272.size a)
theorem k0_idx491_inb : ∀ (v5770 : IVec S16 32) (k0_hw481 : k0_chk481 v5770), ∀ a x, ((![v5770] : Fin 1 → IVec S16 32) a x).toNat < S272.size a := fun v5770 k0_hw481 => k0_hw481

def k0_chk482 (v5778 : IVec S16 32) : Prop :=
  (∀ a x, ((![v5778] : Fin 1 → IVec S16 32) a x).toNat < S272.size a)
theorem k0_idx492_inb : ∀ (v5778 : IVec S16 32) (k0_hw482 : k0_chk482 v5778), ∀ a x, ((![v5778] : Fin 1 → IVec S16 32) a x).toNat < S272.size a := fun v5778 k0_hw482 => k0_hw482

def k0_chk483 (v5790 : IVec S16 32) : Prop :=
  (∀ a x, ((![v5790] : Fin 1 → IVec S16 32) a x).toNat < S272.size a)
theorem k0_idx493_inb : ∀ (v5790 : IVec S16 32) (k0_hw483 : k0_chk483 v5790), ∀ a x, ((![v5790] : Fin 1 → IVec S16 32) a x).toNat < S272.size a := fun v5790 k0_hw483 => k0_hw483

def k0_chk484 (v5798 : IVec S16 32) : Prop :=
  (∀ a x, ((![v5798] : Fin 1 → IVec S16 32) a x).toNat < S272.size a)
theorem k0_idx494_inb : ∀ (v5798 : IVec S16 32) (k0_hw484 : k0_chk484 v5798), ∀ a x, ((![v5798] : Fin 1 → IVec S16 32) a x).toNat < S272.size a := fun v5798 k0_hw484 => k0_hw484

def k0_chk485 (v5805 : IVec S16 32) : Prop :=
  (∀ a x, ((![v5805] : Fin 1 → IVec S16 32) a x).toNat < S272.size a)
theorem k0_idx495_inb : ∀ (v5805 : IVec S16 32) (k0_hw485 : k0_chk485 v5805), ∀ a x, ((![v5805] : Fin 1 → IVec S16 32) a x).toNat < S272.size a := fun v5805 k0_hw485 => k0_hw485

def k0_chk486 (v5813 : IVec S16 32) : Prop :=
  (∀ a x, ((![v5813] : Fin 1 → IVec S16 32) a x).toNat < S272.size a)
theorem k0_idx496_inb : ∀ (v5813 : IVec S16 32) (k0_hw486 : k0_chk486 v5813), ∀ a x, ((![v5813] : Fin 1 → IVec S16 32) a x).toNat < S272.size a := fun v5813 k0_hw486 => k0_hw486

def k0_chk487 (v5829 : IVec S16 32) : Prop :=
  (∀ a x, ((![v5829] : Fin 1 → IVec S16 32) a x).toNat < S272.size a)
theorem k0_idx497_inb : ∀ (v5829 : IVec S16 32) (k0_hw487 : k0_chk487 v5829), ∀ a x, ((![v5829] : Fin 1 → IVec S16 32) a x).toNat < S272.size a := fun v5829 k0_hw487 => k0_hw487

def k0_chk488 (v5837 : IVec S16 32) : Prop :=
  (∀ a x, ((![v5837] : Fin 1 → IVec S16 32) a x).toNat < S272.size a)
theorem k0_idx498_inb : ∀ (v5837 : IVec S16 32) (k0_hw488 : k0_chk488 v5837), ∀ a x, ((![v5837] : Fin 1 → IVec S16 32) a x).toNat < S272.size a := fun v5837 k0_hw488 => k0_hw488

def k0_chk489 (v5878 : IVec S16 32) : Prop :=
  (∀ a x, ((![v5878] : Fin 1 → IVec S16 32) a x).toNat < S272.size a)
theorem k0_idx499_inb : ∀ (v5878 : IVec S16 32) (k0_hw489 : k0_chk489 v5878), ∀ a x, ((![v5878] : Fin 1 → IVec S16 32) a x).toNat < S272.size a := fun v5878 k0_hw489 => k0_hw489

def k0_chk490 (v5886 : IVec S16 32) : Prop :=
  (∀ a x, ((![v5886] : Fin 1 → IVec S16 32) a x).toNat < S272.size a)
theorem k0_idx500_inb : ∀ (v5886 : IVec S16 32) (k0_hw490 : k0_chk490 v5886), ∀ a x, ((![v5886] : Fin 1 → IVec S16 32) a x).toNat < S272.size a := fun v5886 k0_hw490 => k0_hw490

def k0_chk491 (v5898 : IVec S16 32) : Prop :=
  (∀ a x, ((![v5898] : Fin 1 → IVec S16 32) a x).toNat < S272.size a)
theorem k0_idx501_inb : ∀ (v5898 : IVec S16 32) (k0_hw491 : k0_chk491 v5898), ∀ a x, ((![v5898] : Fin 1 → IVec S16 32) a x).toNat < S272.size a := fun v5898 k0_hw491 => k0_hw491

def k0_chk492 (v5906 : IVec S16 32) : Prop :=
  (∀ a x, ((![v5906] : Fin 1 → IVec S16 32) a x).toNat < S272.size a)
theorem k0_idx502_inb : ∀ (v5906 : IVec S16 32) (k0_hw492 : k0_chk492 v5906), ∀ a x, ((![v5906] : Fin 1 → IVec S16 32) a x).toNat < S272.size a := fun v5906 k0_hw492 => k0_hw492

def k0_chk493 (v5913 : IVec S16 32) : Prop :=
  (∀ a x, ((![v5913] : Fin 1 → IVec S16 32) a x).toNat < S272.size a)
theorem k0_idx503_inb : ∀ (v5913 : IVec S16 32) (k0_hw493 : k0_chk493 v5913), ∀ a x, ((![v5913] : Fin 1 → IVec S16 32) a x).toNat < S272.size a := fun v5913 k0_hw493 => k0_hw493

def k0_chk494 (v5921 : IVec S16 32) : Prop :=
  (∀ a x, ((![v5921] : Fin 1 → IVec S16 32) a x).toNat < S272.size a)
theorem k0_idx504_inb : ∀ (v5921 : IVec S16 32) (k0_hw494 : k0_chk494 v5921), ∀ a x, ((![v5921] : Fin 1 → IVec S16 32) a x).toNat < S272.size a := fun v5921 k0_hw494 => k0_hw494

def k0_chk495 (v5937 : IVec S16 32) : Prop :=
  (∀ a x, ((![v5937] : Fin 1 → IVec S16 32) a x).toNat < S272.size a)
theorem k0_idx505_inb : ∀ (v5937 : IVec S16 32) (k0_hw495 : k0_chk495 v5937), ∀ a x, ((![v5937] : Fin 1 → IVec S16 32) a x).toNat < S272.size a := fun v5937 k0_hw495 => k0_hw495

def k0_chk496 (v5945 : IVec S16 32) : Prop :=
  (∀ a x, ((![v5945] : Fin 1 → IVec S16 32) a x).toNat < S272.size a)
theorem k0_idx506_inb : ∀ (v5945 : IVec S16 32) (k0_hw496 : k0_chk496 v5945), ∀ a x, ((![v5945] : Fin 1 → IVec S16 32) a x).toNat < S272.size a := fun v5945 k0_hw496 => k0_hw496

def k0_chk497 (v5986 : IVec S16 32) : Prop :=
  (∀ a x, ((![v5986] : Fin 1 → IVec S16 32) a x).toNat < S272.size a)
theorem k0_idx507_inb : ∀ (v5986 : IVec S16 32) (k0_hw497 : k0_chk497 v5986), ∀ a x, ((![v5986] : Fin 1 → IVec S16 32) a x).toNat < S272.size a := fun v5986 k0_hw497 => k0_hw497

def k0_chk498 (v5994 : IVec S16 32) : Prop :=
  (∀ a x, ((![v5994] : Fin 1 → IVec S16 32) a x).toNat < S272.size a)
theorem k0_idx508_inb : ∀ (v5994 : IVec S16 32) (k0_hw498 : k0_chk498 v5994), ∀ a x, ((![v5994] : Fin 1 → IVec S16 32) a x).toNat < S272.size a := fun v5994 k0_hw498 => k0_hw498

def k0_chk499 (v6006 : IVec S16 32) : Prop :=
  (∀ a x, ((![v6006] : Fin 1 → IVec S16 32) a x).toNat < S272.size a)
theorem k0_idx509_inb : ∀ (v6006 : IVec S16 32) (k0_hw499 : k0_chk499 v6006), ∀ a x, ((![v6006] : Fin 1 → IVec S16 32) a x).toNat < S272.size a := fun v6006 k0_hw499 => k0_hw499

def k0_chk500 (v6014 : IVec S16 32) : Prop :=
  (∀ a x, ((![v6014] : Fin 1 → IVec S16 32) a x).toNat < S272.size a)
theorem k0_idx510_inb : ∀ (v6014 : IVec S16 32) (k0_hw500 : k0_chk500 v6014), ∀ a x, ((![v6014] : Fin 1 → IVec S16 32) a x).toNat < S272.size a := fun v6014 k0_hw500 => k0_hw500

def k0_chk501 (v6021 : IVec S16 32) : Prop :=
  (∀ a x, ((![v6021] : Fin 1 → IVec S16 32) a x).toNat < S272.size a)
theorem k0_idx511_inb : ∀ (v6021 : IVec S16 32) (k0_hw501 : k0_chk501 v6021), ∀ a x, ((![v6021] : Fin 1 → IVec S16 32) a x).toNat < S272.size a := fun v6021 k0_hw501 => k0_hw501

def k0_chk502 (v6029 : IVec S16 32) : Prop :=
  (∀ a x, ((![v6029] : Fin 1 → IVec S16 32) a x).toNat < S272.size a)
theorem k0_idx512_inb : ∀ (v6029 : IVec S16 32) (k0_hw502 : k0_chk502 v6029), ∀ a x, ((![v6029] : Fin 1 → IVec S16 32) a x).toNat < S272.size a := fun v6029 k0_hw502 => k0_hw502

def k0_chk503 (v6045 : IVec S16 32) : Prop :=
  (∀ a x, ((![v6045] : Fin 1 → IVec S16 32) a x).toNat < S272.size a)
theorem k0_idx513_inb : ∀ (v6045 : IVec S16 32) (k0_hw503 : k0_chk503 v6045), ∀ a x, ((![v6045] : Fin 1 → IVec S16 32) a x).toNat < S272.size a := fun v6045 k0_hw503 => k0_hw503

def k0_chk504 (v6053 : IVec S16 32) : Prop :=
  (∀ a x, ((![v6053] : Fin 1 → IVec S16 32) a x).toNat < S272.size a)
theorem k0_idx514_inb : ∀ (v6053 : IVec S16 32) (k0_hw504 : k0_chk504 v6053), ∀ a x, ((![v6053] : Fin 1 → IVec S16 32) a x).toNat < S272.size a := fun v6053 k0_hw504 => k0_hw504

def k0_chk505 (v6094 : IVec S16 32) : Prop :=
  (∀ a x, ((![v6094] : Fin 1 → IVec S16 32) a x).toNat < S272.size a)
theorem k0_idx515_inb : ∀ (v6094 : IVec S16 32) (k0_hw505 : k0_chk505 v6094), ∀ a x, ((![v6094] : Fin 1 → IVec S16 32) a x).toNat < S272.size a := fun v6094 k0_hw505 => k0_hw505

def k0_chk506 (v6102 : IVec S16 32) : Prop :=
  (∀ a x, ((![v6102] : Fin 1 → IVec S16 32) a x).toNat < S272.size a)
theorem k0_idx516_inb : ∀ (v6102 : IVec S16 32) (k0_hw506 : k0_chk506 v6102), ∀ a x, ((![v6102] : Fin 1 → IVec S16 32) a x).toNat < S272.size a := fun v6102 k0_hw506 => k0_hw506

def k0_chk507 (v6114 : IVec S16 32) : Prop :=
  (∀ a x, ((![v6114] : Fin 1 → IVec S16 32) a x).toNat < S272.size a)
theorem k0_idx517_inb : ∀ (v6114 : IVec S16 32) (k0_hw507 : k0_chk507 v6114), ∀ a x, ((![v6114] : Fin 1 → IVec S16 32) a x).toNat < S272.size a := fun v6114 k0_hw507 => k0_hw507

def k0_chk508 (v6122 : IVec S16 32) : Prop :=
  (∀ a x, ((![v6122] : Fin 1 → IVec S16 32) a x).toNat < S272.size a)
theorem k0_idx518_inb : ∀ (v6122 : IVec S16 32) (k0_hw508 : k0_chk508 v6122), ∀ a x, ((![v6122] : Fin 1 → IVec S16 32) a x).toNat < S272.size a := fun v6122 k0_hw508 => k0_hw508

def k0_chk509 (v6129 : IVec S16 32) : Prop :=
  (∀ a x, ((![v6129] : Fin 1 → IVec S16 32) a x).toNat < S272.size a)
theorem k0_idx519_inb : ∀ (v6129 : IVec S16 32) (k0_hw509 : k0_chk509 v6129), ∀ a x, ((![v6129] : Fin 1 → IVec S16 32) a x).toNat < S272.size a := fun v6129 k0_hw509 => k0_hw509

def k0_chk510 (v6137 : IVec S16 32) : Prop :=
  (∀ a x, ((![v6137] : Fin 1 → IVec S16 32) a x).toNat < S272.size a)
theorem k0_idx520_inb : ∀ (v6137 : IVec S16 32) (k0_hw510 : k0_chk510 v6137), ∀ a x, ((![v6137] : Fin 1 → IVec S16 32) a x).toNat < S272.size a := fun v6137 k0_hw510 => k0_hw510

def k0_chk511 (v6153 : IVec S16 32) : Prop :=
  (∀ a x, ((![v6153] : Fin 1 → IVec S16 32) a x).toNat < S272.size a)
theorem k0_idx521_inb : ∀ (v6153 : IVec S16 32) (k0_hw511 : k0_chk511 v6153), ∀ a x, ((![v6153] : Fin 1 → IVec S16 32) a x).toNat < S272.size a := fun v6153 k0_hw511 => k0_hw511

def k0_chk512 (v6161 : IVec S16 32) : Prop :=
  (∀ a x, ((![v6161] : Fin 1 → IVec S16 32) a x).toNat < S272.size a)
theorem k0_idx522_inb : ∀ (v6161 : IVec S16 32) (k0_hw512 : k0_chk512 v6161), ∀ a x, ((![v6161] : Fin 1 → IVec S16 32) a x).toNat < S272.size a := fun v6161 k0_hw512 => k0_hw512

def k0_chk513 (v6202 : IVec S16 32) : Prop :=
  (∀ a x, ((![v6202] : Fin 1 → IVec S16 32) a x).toNat < S272.size a)
theorem k0_idx523_inb : ∀ (v6202 : IVec S16 32) (k0_hw513 : k0_chk513 v6202), ∀ a x, ((![v6202] : Fin 1 → IVec S16 32) a x).toNat < S272.size a := fun v6202 k0_hw513 => k0_hw513

def k0_chk514 (v6210 : IVec S16 32) : Prop :=
  (∀ a x, ((![v6210] : Fin 1 → IVec S16 32) a x).toNat < S272.size a)
theorem k0_idx524_inb : ∀ (v6210 : IVec S16 32) (k0_hw514 : k0_chk514 v6210), ∀ a x, ((![v6210] : Fin 1 → IVec S16 32) a x).toNat < S272.size a := fun v6210 k0_hw514 => k0_hw514

def k0_chk515 (v6222 : IVec S16 32) : Prop :=
  (∀ a x, ((![v6222] : Fin 1 → IVec S16 32) a x).toNat < S272.size a)
theorem k0_idx525_inb : ∀ (v6222 : IVec S16 32) (k0_hw515 : k0_chk515 v6222), ∀ a x, ((![v6222] : Fin 1 → IVec S16 32) a x).toNat < S272.size a := fun v6222 k0_hw515 => k0_hw515

def k0_chk516 (v6230 : IVec S16 32) : Prop :=
  (∀ a x, ((![v6230] : Fin 1 → IVec S16 32) a x).toNat < S272.size a)
theorem k0_idx526_inb : ∀ (v6230 : IVec S16 32) (k0_hw516 : k0_chk516 v6230), ∀ a x, ((![v6230] : Fin 1 → IVec S16 32) a x).toNat < S272.size a := fun v6230 k0_hw516 => k0_hw516

def k0_chk517 (v6237 : IVec S16 32) : Prop :=
  (∀ a x, ((![v6237] : Fin 1 → IVec S16 32) a x).toNat < S272.size a)
theorem k0_idx527_inb : ∀ (v6237 : IVec S16 32) (k0_hw517 : k0_chk517 v6237), ∀ a x, ((![v6237] : Fin 1 → IVec S16 32) a x).toNat < S272.size a := fun v6237 k0_hw517 => k0_hw517

def k0_chk518 (v6245 : IVec S16 32) : Prop :=
  (∀ a x, ((![v6245] : Fin 1 → IVec S16 32) a x).toNat < S272.size a)
theorem k0_idx528_inb : ∀ (v6245 : IVec S16 32) (k0_hw518 : k0_chk518 v6245), ∀ a x, ((![v6245] : Fin 1 → IVec S16 32) a x).toNat < S272.size a := fun v6245 k0_hw518 => k0_hw518

def k0_chk519 (v6261 : IVec S16 32) : Prop :=
  (∀ a x, ((![v6261] : Fin 1 → IVec S16 32) a x).toNat < S272.size a)
theorem k0_idx529_inb : ∀ (v6261 : IVec S16 32) (k0_hw519 : k0_chk519 v6261), ∀ a x, ((![v6261] : Fin 1 → IVec S16 32) a x).toNat < S272.size a := fun v6261 k0_hw519 => k0_hw519

def k0_chk520 (v6269 : IVec S16 32) : Prop :=
  (∀ a x, ((![v6269] : Fin 1 → IVec S16 32) a x).toNat < S272.size a)
theorem k0_idx530_inb : ∀ (v6269 : IVec S16 32) (k0_hw520 : k0_chk520 v6269), ∀ a x, ((![v6269] : Fin 1 → IVec S16 32) a x).toNat < S272.size a := fun v6269 k0_hw520 => k0_hw520

def k0_chk521 (v6308 : IVec S16 32) : Prop :=
  (∀ a x, ((![v6308] : Fin 1 → IVec S16 32) a x).toNat < S272.size a)
theorem k0_idx531_inb : ∀ (v6308 : IVec S16 32) (k0_hw521 : k0_chk521 v6308), ∀ a x, ((![v6308] : Fin 1 → IVec S16 32) a x).toNat < S272.size a := fun v6308 k0_hw521 => k0_hw521

def k0_chk522 (v6316 : IVec S16 32) : Prop :=
  (∀ a x, ((![v6316] : Fin 1 → IVec S16 32) a x).toNat < S272.size a)
theorem k0_idx532_inb : ∀ (v6316 : IVec S16 32) (k0_hw522 : k0_chk522 v6316), ∀ a x, ((![v6316] : Fin 1 → IVec S16 32) a x).toNat < S272.size a := fun v6316 k0_hw522 => k0_hw522

def k0_chk523 (v6328 : IVec S16 32) : Prop :=
  (∀ a x, ((![v6328] : Fin 1 → IVec S16 32) a x).toNat < S272.size a)
theorem k0_idx533_inb : ∀ (v6328 : IVec S16 32) (k0_hw523 : k0_chk523 v6328), ∀ a x, ((![v6328] : Fin 1 → IVec S16 32) a x).toNat < S272.size a := fun v6328 k0_hw523 => k0_hw523

def k0_chk524 (v6336 : IVec S16 32) : Prop :=
  (∀ a x, ((![v6336] : Fin 1 → IVec S16 32) a x).toNat < S272.size a)
theorem k0_idx534_inb : ∀ (v6336 : IVec S16 32) (k0_hw524 : k0_chk524 v6336), ∀ a x, ((![v6336] : Fin 1 → IVec S16 32) a x).toNat < S272.size a := fun v6336 k0_hw524 => k0_hw524

def k0_chk525 (v6343 : IVec S16 32) : Prop :=
  (∀ a x, ((![v6343] : Fin 1 → IVec S16 32) a x).toNat < S272.size a)
theorem k0_idx535_inb : ∀ (v6343 : IVec S16 32) (k0_hw525 : k0_chk525 v6343), ∀ a x, ((![v6343] : Fin 1 → IVec S16 32) a x).toNat < S272.size a := fun v6343 k0_hw525 => k0_hw525

def k0_chk526 (v6351 : IVec S16 32) : Prop :=
  (∀ a x, ((![v6351] : Fin 1 → IVec S16 32) a x).toNat < S272.size a)
theorem k0_idx536_inb : ∀ (v6351 : IVec S16 32) (k0_hw526 : k0_chk526 v6351), ∀ a x, ((![v6351] : Fin 1 → IVec S16 32) a x).toNat < S272.size a := fun v6351 k0_hw526 => k0_hw526

def k0_chk527 (v6367 : IVec S16 32) : Prop :=
  (∀ a x, ((![v6367] : Fin 1 → IVec S16 32) a x).toNat < S272.size a)
theorem k0_idx537_inb : ∀ (v6367 : IVec S16 32) (k0_hw527 : k0_chk527 v6367), ∀ a x, ((![v6367] : Fin 1 → IVec S16 32) a x).toNat < S272.size a := fun v6367 k0_hw527 => k0_hw527

def k0_chk528 (v6375 : IVec S16 32) : Prop :=
  (∀ a x, ((![v6375] : Fin 1 → IVec S16 32) a x).toNat < S272.size a)
theorem k0_idx538_inb : ∀ (v6375 : IVec S16 32) (k0_hw528 : k0_chk528 v6375), ∀ a x, ((![v6375] : Fin 1 → IVec S16 32) a x).toNat < S272.size a := fun v6375 k0_hw528 => k0_hw528

def k0_chk529 (v6416 : IVec S16 32) : Prop :=
  (∀ a x, ((![v6416] : Fin 1 → IVec S16 32) a x).toNat < S272.size a)
theorem k0_idx539_inb : ∀ (v6416 : IVec S16 32) (k0_hw529 : k0_chk529 v6416), ∀ a x, ((![v6416] : Fin 1 → IVec S16 32) a x).toNat < S272.size a := fun v6416 k0_hw529 => k0_hw529

def k0_chk530 (v6424 : IVec S16 32) : Prop :=
  (∀ a x, ((![v6424] : Fin 1 → IVec S16 32) a x).toNat < S272.size a)
theorem k0_idx540_inb : ∀ (v6424 : IVec S16 32) (k0_hw530 : k0_chk530 v6424), ∀ a x, ((![v6424] : Fin 1 → IVec S16 32) a x).toNat < S272.size a := fun v6424 k0_hw530 => k0_hw530

def k0_chk531 (v6436 : IVec S16 32) : Prop :=
  (∀ a x, ((![v6436] : Fin 1 → IVec S16 32) a x).toNat < S272.size a)
theorem k0_idx541_inb : ∀ (v6436 : IVec S16 32) (k0_hw531 : k0_chk531 v6436), ∀ a x, ((![v6436] : Fin 1 → IVec S16 32) a x).toNat < S272.size a := fun v6436 k0_hw531 => k0_hw531

def k0_chk532 (v6444 : IVec S16 32) : Prop :=
  (∀ a x, ((![v6444] : Fin 1 → IVec S16 32) a x).toNat < S272.size a)
theorem k0_idx542_inb : ∀ (v6444 : IVec S16 32) (k0_hw532 : k0_chk532 v6444), ∀ a x, ((![v6444] : Fin 1 → IVec S16 32) a x).toNat < S272.size a := fun v6444 k0_hw532 => k0_hw532

def k0_chk533 (v6451 : IVec S16 32) : Prop :=
  (∀ a x, ((![v6451] : Fin 1 → IVec S16 32) a x).toNat < S272.size a)
theorem k0_idx543_inb : ∀ (v6451 : IVec S16 32) (k0_hw533 : k0_chk533 v6451), ∀ a x, ((![v6451] : Fin 1 → IVec S16 32) a x).toNat < S272.size a := fun v6451 k0_hw533 => k0_hw533

def k0_chk534 (v6459 : IVec S16 32) : Prop :=
  (∀ a x, ((![v6459] : Fin 1 → IVec S16 32) a x).toNat < S272.size a)
theorem k0_idx544_inb : ∀ (v6459 : IVec S16 32) (k0_hw534 : k0_chk534 v6459), ∀ a x, ((![v6459] : Fin 1 → IVec S16 32) a x).toNat < S272.size a := fun v6459 k0_hw534 => k0_hw534

def k0_chk535 (v6475 : IVec S16 32) : Prop :=
  (∀ a x, ((![v6475] : Fin 1 → IVec S16 32) a x).toNat < S272.size a)
theorem k0_idx545_inb : ∀ (v6475 : IVec S16 32) (k0_hw535 : k0_chk535 v6475), ∀ a x, ((![v6475] : Fin 1 → IVec S16 32) a x).toNat < S272.size a := fun v6475 k0_hw535 => k0_hw535

def k0_chk536 (v6483 : IVec S16 32) : Prop :=
  (∀ a x, ((![v6483] : Fin 1 → IVec S16 32) a x).toNat < S272.size a)
theorem k0_idx546_inb : ∀ (v6483 : IVec S16 32) (k0_hw536 : k0_chk536 v6483), ∀ a x, ((![v6483] : Fin 1 → IVec S16 32) a x).toNat < S272.size a := fun v6483 k0_hw536 => k0_hw536

def k0_chk537 (v6524 : IVec S16 32) : Prop :=
  (∀ a x, ((![v6524] : Fin 1 → IVec S16 32) a x).toNat < S272.size a)
theorem k0_idx547_inb : ∀ (v6524 : IVec S16 32) (k0_hw537 : k0_chk537 v6524), ∀ a x, ((![v6524] : Fin 1 → IVec S16 32) a x).toNat < S272.size a := fun v6524 k0_hw537 => k0_hw537

def k0_chk538 (v6532 : IVec S16 32) : Prop :=
  (∀ a x, ((![v6532] : Fin 1 → IVec S16 32) a x).toNat < S272.size a)
theorem k0_idx548_inb : ∀ (v6532 : IVec S16 32) (k0_hw538 : k0_chk538 v6532), ∀ a x, ((![v6532] : Fin 1 → IVec S16 32) a x).toNat < S272.size a := fun v6532 k0_hw538 => k0_hw538

def k0_chk539 (v6544 : IVec S16 32) : Prop :=
  (∀ a x, ((![v6544] : Fin 1 → IVec S16 32) a x).toNat < S272.size a)
theorem k0_idx549_inb : ∀ (v6544 : IVec S16 32) (k0_hw539 : k0_chk539 v6544), ∀ a x, ((![v6544] : Fin 1 → IVec S16 32) a x).toNat < S272.size a := fun v6544 k0_hw539 => k0_hw539

def k0_chk540 (v6552 : IVec S16 32) : Prop :=
  (∀ a x, ((![v6552] : Fin 1 → IVec S16 32) a x).toNat < S272.size a)
theorem k0_idx550_inb : ∀ (v6552 : IVec S16 32) (k0_hw540 : k0_chk540 v6552), ∀ a x, ((![v6552] : Fin 1 → IVec S16 32) a x).toNat < S272.size a := fun v6552 k0_hw540 => k0_hw540

def k0_chk541 (v6559 : IVec S16 32) : Prop :=
  (∀ a x, ((![v6559] : Fin 1 → IVec S16 32) a x).toNat < S272.size a)
theorem k0_idx551_inb : ∀ (v6559 : IVec S16 32) (k0_hw541 : k0_chk541 v6559), ∀ a x, ((![v6559] : Fin 1 → IVec S16 32) a x).toNat < S272.size a := fun v6559 k0_hw541 => k0_hw541

def k0_chk542 (v6567 : IVec S16 32) : Prop :=
  (∀ a x, ((![v6567] : Fin 1 → IVec S16 32) a x).toNat < S272.size a)
theorem k0_idx552_inb : ∀ (v6567 : IVec S16 32) (k0_hw542 : k0_chk542 v6567), ∀ a x, ((![v6567] : Fin 1 → IVec S16 32) a x).toNat < S272.size a := fun v6567 k0_hw542 => k0_hw542

def k0_chk543 (v6583 : IVec S16 32) : Prop :=
  (∀ a x, ((![v6583] : Fin 1 → IVec S16 32) a x).toNat < S272.size a)
theorem k0_idx553_inb : ∀ (v6583 : IVec S16 32) (k0_hw543 : k0_chk543 v6583), ∀ a x, ((![v6583] : Fin 1 → IVec S16 32) a x).toNat < S272.size a := fun v6583 k0_hw543 => k0_hw543

def k0_chk544 (v6591 : IVec S16 32) : Prop :=
  (∀ a x, ((![v6591] : Fin 1 → IVec S16 32) a x).toNat < S272.size a)
theorem k0_idx554_inb : ∀ (v6591 : IVec S16 32) (k0_hw544 : k0_chk544 v6591), ∀ a x, ((![v6591] : Fin 1 → IVec S16 32) a x).toNat < S272.size a := fun v6591 k0_hw544 => k0_hw544

def k0_chk545 (v6632 : IVec S16 32) : Prop :=
  (∀ a x, ((![v6632] : Fin 1 → IVec S16 32) a x).toNat < S272.size a)
theorem k0_idx555_inb : ∀ (v6632 : IVec S16 32) (k0_hw545 : k0_chk545 v6632), ∀ a x, ((![v6632] : Fin 1 → IVec S16 32) a x).toNat < S272.size a := fun v6632 k0_hw545 => k0_hw545

def k0_chk546 (v6640 : IVec S16 32) : Prop :=
  (∀ a x, ((![v6640] : Fin 1 → IVec S16 32) a x).toNat < S272.size a)
theorem k0_idx556_inb : ∀ (v6640 : IVec S16 32) (k0_hw546 : k0_chk546 v6640), ∀ a x, ((![v6640] : Fin 1 → IVec S16 32) a x).toNat < S272.size a := fun v6640 k0_hw546 => k0_hw546

def k0_chk547 (v6652 : IVec S16 32) : Prop :=
  (∀ a x, ((![v6652] : Fin 1 → IVec S16 32) a x).toNat < S272.size a)
theorem k0_idx557_inb : ∀ (v6652 : IVec S16 32) (k0_hw547 : k0_chk547 v6652), ∀ a x, ((![v6652] : Fin 1 → IVec S16 32) a x).toNat < S272.size a := fun v6652 k0_hw547 => k0_hw547

def k0_chk548 (v6660 : IVec S16 32) : Prop :=
  (∀ a x, ((![v6660] : Fin 1 → IVec S16 32) a x).toNat < S272.size a)
theorem k0_idx558_inb : ∀ (v6660 : IVec S16 32) (k0_hw548 : k0_chk548 v6660), ∀ a x, ((![v6660] : Fin 1 → IVec S16 32) a x).toNat < S272.size a := fun v6660 k0_hw548 => k0_hw548

def k0_chk549 (v6667 : IVec S16 32) : Prop :=
  (∀ a x, ((![v6667] : Fin 1 → IVec S16 32) a x).toNat < S272.size a)
theorem k0_idx559_inb : ∀ (v6667 : IVec S16 32) (k0_hw549 : k0_chk549 v6667), ∀ a x, ((![v6667] : Fin 1 → IVec S16 32) a x).toNat < S272.size a := fun v6667 k0_hw549 => k0_hw549

def k0_chk550 (v6675 : IVec S16 32) : Prop :=
  (∀ a x, ((![v6675] : Fin 1 → IVec S16 32) a x).toNat < S272.size a)
theorem k0_idx560_inb : ∀ (v6675 : IVec S16 32) (k0_hw550 : k0_chk550 v6675), ∀ a x, ((![v6675] : Fin 1 → IVec S16 32) a x).toNat < S272.size a := fun v6675 k0_hw550 => k0_hw550

def k0_chk551 (v6691 : IVec S16 32) : Prop :=
  (∀ a x, ((![v6691] : Fin 1 → IVec S16 32) a x).toNat < S272.size a)
theorem k0_idx561_inb : ∀ (v6691 : IVec S16 32) (k0_hw551 : k0_chk551 v6691), ∀ a x, ((![v6691] : Fin 1 → IVec S16 32) a x).toNat < S272.size a := fun v6691 k0_hw551 => k0_hw551

def k0_chk552 (v6699 : IVec S16 32) : Prop :=
  (∀ a x, ((![v6699] : Fin 1 → IVec S16 32) a x).toNat < S272.size a)
theorem k0_idx562_inb : ∀ (v6699 : IVec S16 32) (k0_hw552 : k0_chk552 v6699), ∀ a x, ((![v6699] : Fin 1 → IVec S16 32) a x).toNat < S272.size a := fun v6699 k0_hw552 => k0_hw552

def k0_chk553 (v6740 : IVec S16 32) : Prop :=
  (∀ a x, ((![v6740] : Fin 1 → IVec S16 32) a x).toNat < S272.size a)
theorem k0_idx563_inb : ∀ (v6740 : IVec S16 32) (k0_hw553 : k0_chk553 v6740), ∀ a x, ((![v6740] : Fin 1 → IVec S16 32) a x).toNat < S272.size a := fun v6740 k0_hw553 => k0_hw553

def k0_chk554 (v6748 : IVec S16 32) : Prop :=
  (∀ a x, ((![v6748] : Fin 1 → IVec S16 32) a x).toNat < S272.size a)
theorem k0_idx564_inb : ∀ (v6748 : IVec S16 32) (k0_hw554 : k0_chk554 v6748), ∀ a x, ((![v6748] : Fin 1 → IVec S16 32) a x).toNat < S272.size a := fun v6748 k0_hw554 => k0_hw554

def k0_chk555 (v6760 : IVec S16 32) : Prop :=
  (∀ a x, ((![v6760] : Fin 1 → IVec S16 32) a x).toNat < S272.size a)
theorem k0_idx565_inb : ∀ (v6760 : IVec S16 32) (k0_hw555 : k0_chk555 v6760), ∀ a x, ((![v6760] : Fin 1 → IVec S16 32) a x).toNat < S272.size a := fun v6760 k0_hw555 => k0_hw555

def k0_chk556 (v6768 : IVec S16 32) : Prop :=
  (∀ a x, ((![v6768] : Fin 1 → IVec S16 32) a x).toNat < S272.size a)
theorem k0_idx566_inb : ∀ (v6768 : IVec S16 32) (k0_hw556 : k0_chk556 v6768), ∀ a x, ((![v6768] : Fin 1 → IVec S16 32) a x).toNat < S272.size a := fun v6768 k0_hw556 => k0_hw556

def k0_chk557 (v6775 : IVec S16 32) : Prop :=
  (∀ a x, ((![v6775] : Fin 1 → IVec S16 32) a x).toNat < S272.size a)
theorem k0_idx567_inb : ∀ (v6775 : IVec S16 32) (k0_hw557 : k0_chk557 v6775), ∀ a x, ((![v6775] : Fin 1 → IVec S16 32) a x).toNat < S272.size a := fun v6775 k0_hw557 => k0_hw557

def k0_chk558 (v6783 : IVec S16 32) : Prop :=
  (∀ a x, ((![v6783] : Fin 1 → IVec S16 32) a x).toNat < S272.size a)
theorem k0_idx568_inb : ∀ (v6783 : IVec S16 32) (k0_hw558 : k0_chk558 v6783), ∀ a x, ((![v6783] : Fin 1 → IVec S16 32) a x).toNat < S272.size a := fun v6783 k0_hw558 => k0_hw558

def k0_chk559 (v6799 : IVec S16 32) : Prop :=
  (∀ a x, ((![v6799] : Fin 1 → IVec S16 32) a x).toNat < S272.size a)
theorem k0_idx569_inb : ∀ (v6799 : IVec S16 32) (k0_hw559 : k0_chk559 v6799), ∀ a x, ((![v6799] : Fin 1 → IVec S16 32) a x).toNat < S272.size a := fun v6799 k0_hw559 => k0_hw559

def k0_chk560 (v6807 : IVec S16 32) : Prop :=
  (∀ a x, ((![v6807] : Fin 1 → IVec S16 32) a x).toNat < S272.size a)
theorem k0_idx570_inb : ∀ (v6807 : IVec S16 32) (k0_hw560 : k0_chk560 v6807), ∀ a x, ((![v6807] : Fin 1 → IVec S16 32) a x).toNat < S272.size a := fun v6807 k0_hw560 => k0_hw560

def k0_chk561 (v6848 : IVec S16 32) : Prop :=
  (∀ a x, ((![v6848] : Fin 1 → IVec S16 32) a x).toNat < S272.size a)
theorem k0_idx571_inb : ∀ (v6848 : IVec S16 32) (k0_hw561 : k0_chk561 v6848), ∀ a x, ((![v6848] : Fin 1 → IVec S16 32) a x).toNat < S272.size a := fun v6848 k0_hw561 => k0_hw561

def k0_chk562 (v6856 : IVec S16 32) : Prop :=
  (∀ a x, ((![v6856] : Fin 1 → IVec S16 32) a x).toNat < S272.size a)
theorem k0_idx572_inb : ∀ (v6856 : IVec S16 32) (k0_hw562 : k0_chk562 v6856), ∀ a x, ((![v6856] : Fin 1 → IVec S16 32) a x).toNat < S272.size a := fun v6856 k0_hw562 => k0_hw562

def k0_chk563 (v6868 : IVec S16 32) : Prop :=
  (∀ a x, ((![v6868] : Fin 1 → IVec S16 32) a x).toNat < S272.size a)
theorem k0_idx573_inb : ∀ (v6868 : IVec S16 32) (k0_hw563 : k0_chk563 v6868), ∀ a x, ((![v6868] : Fin 1 → IVec S16 32) a x).toNat < S272.size a := fun v6868 k0_hw563 => k0_hw563

def k0_chk564 (v6876 : IVec S16 32) : Prop :=
  (∀ a x, ((![v6876] : Fin 1 → IVec S16 32) a x).toNat < S272.size a)
theorem k0_idx574_inb : ∀ (v6876 : IVec S16 32) (k0_hw564 : k0_chk564 v6876), ∀ a x, ((![v6876] : Fin 1 → IVec S16 32) a x).toNat < S272.size a := fun v6876 k0_hw564 => k0_hw564

def k0_chk565 (v6883 : IVec S16 32) : Prop :=
  (∀ a x, ((![v6883] : Fin 1 → IVec S16 32) a x).toNat < S272.size a)
theorem k0_idx575_inb : ∀ (v6883 : IVec S16 32) (k0_hw565 : k0_chk565 v6883), ∀ a x, ((![v6883] : Fin 1 → IVec S16 32) a x).toNat < S272.size a := fun v6883 k0_hw565 => k0_hw565

def k0_chk566 (v6891 : IVec S16 32) : Prop :=
  (∀ a x, ((![v6891] : Fin 1 → IVec S16 32) a x).toNat < S272.size a)
theorem k0_idx576_inb : ∀ (v6891 : IVec S16 32) (k0_hw566 : k0_chk566 v6891), ∀ a x, ((![v6891] : Fin 1 → IVec S16 32) a x).toNat < S272.size a := fun v6891 k0_hw566 => k0_hw566

def k0_chk567 (v6907 : IVec S16 32) : Prop :=
  (∀ a x, ((![v6907] : Fin 1 → IVec S16 32) a x).toNat < S272.size a)
theorem k0_idx577_inb : ∀ (v6907 : IVec S16 32) (k0_hw567 : k0_chk567 v6907), ∀ a x, ((![v6907] : Fin 1 → IVec S16 32) a x).toNat < S272.size a := fun v6907 k0_hw567 => k0_hw567

def k0_chk568 (v6915 : IVec S16 32) : Prop :=
  (∀ a x, ((![v6915] : Fin 1 → IVec S16 32) a x).toNat < S272.size a)
theorem k0_idx578_inb : ∀ (v6915 : IVec S16 32) (k0_hw568 : k0_chk568 v6915), ∀ a x, ((![v6915] : Fin 1 → IVec S16 32) a x).toNat < S272.size a := fun v6915 k0_hw568 => k0_hw568

def k0_chk569 (v6954 : IVec S16 32) : Prop :=
  (∀ a x, ((![v6954] : Fin 1 → IVec S16 32) a x).toNat < S272.size a)
theorem k0_idx579_inb : ∀ (v6954 : IVec S16 32) (k0_hw569 : k0_chk569 v6954), ∀ a x, ((![v6954] : Fin 1 → IVec S16 32) a x).toNat < S272.size a := fun v6954 k0_hw569 => k0_hw569

def k0_chk570 (v6962 : IVec S16 32) : Prop :=
  (∀ a x, ((![v6962] : Fin 1 → IVec S16 32) a x).toNat < S272.size a)
theorem k0_idx580_inb : ∀ (v6962 : IVec S16 32) (k0_hw570 : k0_chk570 v6962), ∀ a x, ((![v6962] : Fin 1 → IVec S16 32) a x).toNat < S272.size a := fun v6962 k0_hw570 => k0_hw570

def k0_chk571 (v6974 : IVec S16 32) : Prop :=
  (∀ a x, ((![v6974] : Fin 1 → IVec S16 32) a x).toNat < S272.size a)
theorem k0_idx581_inb : ∀ (v6974 : IVec S16 32) (k0_hw571 : k0_chk571 v6974), ∀ a x, ((![v6974] : Fin 1 → IVec S16 32) a x).toNat < S272.size a := fun v6974 k0_hw571 => k0_hw571

def k0_chk572 (v6982 : IVec S16 32) : Prop :=
  (∀ a x, ((![v6982] : Fin 1 → IVec S16 32) a x).toNat < S272.size a)
theorem k0_idx582_inb : ∀ (v6982 : IVec S16 32) (k0_hw572 : k0_chk572 v6982), ∀ a x, ((![v6982] : Fin 1 → IVec S16 32) a x).toNat < S272.size a := fun v6982 k0_hw572 => k0_hw572

def k0_chk573 (v6989 : IVec S16 32) : Prop :=
  (∀ a x, ((![v6989] : Fin 1 → IVec S16 32) a x).toNat < S272.size a)
theorem k0_idx583_inb : ∀ (v6989 : IVec S16 32) (k0_hw573 : k0_chk573 v6989), ∀ a x, ((![v6989] : Fin 1 → IVec S16 32) a x).toNat < S272.size a := fun v6989 k0_hw573 => k0_hw573

def k0_chk574 (v6997 : IVec S16 32) : Prop :=
  (∀ a x, ((![v6997] : Fin 1 → IVec S16 32) a x).toNat < S272.size a)
theorem k0_idx584_inb : ∀ (v6997 : IVec S16 32) (k0_hw574 : k0_chk574 v6997), ∀ a x, ((![v6997] : Fin 1 → IVec S16 32) a x).toNat < S272.size a := fun v6997 k0_hw574 => k0_hw574

def k0_chk575 (v7013 : IVec S16 32) : Prop :=
  (∀ a x, ((![v7013] : Fin 1 → IVec S16 32) a x).toNat < S272.size a)
theorem k0_idx585_inb : ∀ (v7013 : IVec S16 32) (k0_hw575 : k0_chk575 v7013), ∀ a x, ((![v7013] : Fin 1 → IVec S16 32) a x).toNat < S272.size a := fun v7013 k0_hw575 => k0_hw575

def k0_chk576 (v7021 : IVec S16 32) : Prop :=
  (∀ a x, ((![v7021] : Fin 1 → IVec S16 32) a x).toNat < S272.size a)
theorem k0_idx586_inb : ∀ (v7021 : IVec S16 32) (k0_hw576 : k0_chk576 v7021), ∀ a x, ((![v7021] : Fin 1 → IVec S16 32) a x).toNat < S272.size a := fun v7021 k0_hw576 => k0_hw576

def k0_chk577 (v7062 : IVec S16 32) : Prop :=
  (∀ a x, ((![v7062] : Fin 1 → IVec S16 32) a x).toNat < S272.size a)
theorem k0_idx587_inb : ∀ (v7062 : IVec S16 32) (k0_hw577 : k0_chk577 v7062), ∀ a x, ((![v7062] : Fin 1 → IVec S16 32) a x).toNat < S272.size a := fun v7062 k0_hw577 => k0_hw577

def k0_chk578 (v7070 : IVec S16 32) : Prop :=
  (∀ a x, ((![v7070] : Fin 1 → IVec S16 32) a x).toNat < S272.size a)
theorem k0_idx588_inb : ∀ (v7070 : IVec S16 32) (k0_hw578 : k0_chk578 v7070), ∀ a x, ((![v7070] : Fin 1 → IVec S16 32) a x).toNat < S272.size a := fun v7070 k0_hw578 => k0_hw578

def k0_chk579 (v7082 : IVec S16 32) : Prop :=
  (∀ a x, ((![v7082] : Fin 1 → IVec S16 32) a x).toNat < S272.size a)
theorem k0_idx589_inb : ∀ (v7082 : IVec S16 32) (k0_hw579 : k0_chk579 v7082), ∀ a x, ((![v7082] : Fin 1 → IVec S16 32) a x).toNat < S272.size a := fun v7082 k0_hw579 => k0_hw579

def k0_chk580 (v7090 : IVec S16 32) : Prop :=
  (∀ a x, ((![v7090] : Fin 1 → IVec S16 32) a x).toNat < S272.size a)
theorem k0_idx590_inb : ∀ (v7090 : IVec S16 32) (k0_hw580 : k0_chk580 v7090), ∀ a x, ((![v7090] : Fin 1 → IVec S16 32) a x).toNat < S272.size a := fun v7090 k0_hw580 => k0_hw580

def k0_chk581 (v7097 : IVec S16 32) : Prop :=
  (∀ a x, ((![v7097] : Fin 1 → IVec S16 32) a x).toNat < S272.size a)
theorem k0_idx591_inb : ∀ (v7097 : IVec S16 32) (k0_hw581 : k0_chk581 v7097), ∀ a x, ((![v7097] : Fin 1 → IVec S16 32) a x).toNat < S272.size a := fun v7097 k0_hw581 => k0_hw581

def k0_chk582 (v7105 : IVec S16 32) : Prop :=
  (∀ a x, ((![v7105] : Fin 1 → IVec S16 32) a x).toNat < S272.size a)
theorem k0_idx592_inb : ∀ (v7105 : IVec S16 32) (k0_hw582 : k0_chk582 v7105), ∀ a x, ((![v7105] : Fin 1 → IVec S16 32) a x).toNat < S272.size a := fun v7105 k0_hw582 => k0_hw582

def k0_chk583 (v7121 : IVec S16 32) : Prop :=
  (∀ a x, ((![v7121] : Fin 1 → IVec S16 32) a x).toNat < S272.size a)
theorem k0_idx593_inb : ∀ (v7121 : IVec S16 32) (k0_hw583 : k0_chk583 v7121), ∀ a x, ((![v7121] : Fin 1 → IVec S16 32) a x).toNat < S272.size a := fun v7121 k0_hw583 => k0_hw583

def k0_chk584 (v7129 : IVec S16 32) : Prop :=
  (∀ a x, ((![v7129] : Fin 1 → IVec S16 32) a x).toNat < S272.size a)
theorem k0_idx594_inb : ∀ (v7129 : IVec S16 32) (k0_hw584 : k0_chk584 v7129), ∀ a x, ((![v7129] : Fin 1 → IVec S16 32) a x).toNat < S272.size a := fun v7129 k0_hw584 => k0_hw584

def k0_chk585 (v7170 : IVec S16 32) : Prop :=
  (∀ a x, ((![v7170] : Fin 1 → IVec S16 32) a x).toNat < S272.size a)
theorem k0_idx595_inb : ∀ (v7170 : IVec S16 32) (k0_hw585 : k0_chk585 v7170), ∀ a x, ((![v7170] : Fin 1 → IVec S16 32) a x).toNat < S272.size a := fun v7170 k0_hw585 => k0_hw585

def k0_chk586 (v7178 : IVec S16 32) : Prop :=
  (∀ a x, ((![v7178] : Fin 1 → IVec S16 32) a x).toNat < S272.size a)
theorem k0_idx596_inb : ∀ (v7178 : IVec S16 32) (k0_hw586 : k0_chk586 v7178), ∀ a x, ((![v7178] : Fin 1 → IVec S16 32) a x).toNat < S272.size a := fun v7178 k0_hw586 => k0_hw586

def k0_chk587 (v7190 : IVec S16 32) : Prop :=
  (∀ a x, ((![v7190] : Fin 1 → IVec S16 32) a x).toNat < S272.size a)
theorem k0_idx597_inb : ∀ (v7190 : IVec S16 32) (k0_hw587 : k0_chk587 v7190), ∀ a x, ((![v7190] : Fin 1 → IVec S16 32) a x).toNat < S272.size a := fun v7190 k0_hw587 => k0_hw587

def k0_chk588 (v7198 : IVec S16 32) : Prop :=
  (∀ a x, ((![v7198] : Fin 1 → IVec S16 32) a x).toNat < S272.size a)
theorem k0_idx598_inb : ∀ (v7198 : IVec S16 32) (k0_hw588 : k0_chk588 v7198), ∀ a x, ((![v7198] : Fin 1 → IVec S16 32) a x).toNat < S272.size a := fun v7198 k0_hw588 => k0_hw588

def k0_chk589 (v7205 : IVec S16 32) : Prop :=
  (∀ a x, ((![v7205] : Fin 1 → IVec S16 32) a x).toNat < S272.size a)
theorem k0_idx599_inb : ∀ (v7205 : IVec S16 32) (k0_hw589 : k0_chk589 v7205), ∀ a x, ((![v7205] : Fin 1 → IVec S16 32) a x).toNat < S272.size a := fun v7205 k0_hw589 => k0_hw589

def k0_chk590 (v7213 : IVec S16 32) : Prop :=
  (∀ a x, ((![v7213] : Fin 1 → IVec S16 32) a x).toNat < S272.size a)
theorem k0_idx600_inb : ∀ (v7213 : IVec S16 32) (k0_hw590 : k0_chk590 v7213), ∀ a x, ((![v7213] : Fin 1 → IVec S16 32) a x).toNat < S272.size a := fun v7213 k0_hw590 => k0_hw590

def k0_chk591 (v7229 : IVec S16 32) : Prop :=
  (∀ a x, ((![v7229] : Fin 1 → IVec S16 32) a x).toNat < S272.size a)
theorem k0_idx601_inb : ∀ (v7229 : IVec S16 32) (k0_hw591 : k0_chk591 v7229), ∀ a x, ((![v7229] : Fin 1 → IVec S16 32) a x).toNat < S272.size a := fun v7229 k0_hw591 => k0_hw591

def k0_chk592 (v7237 : IVec S16 32) : Prop :=
  (∀ a x, ((![v7237] : Fin 1 → IVec S16 32) a x).toNat < S272.size a)
theorem k0_idx602_inb : ∀ (v7237 : IVec S16 32) (k0_hw592 : k0_chk592 v7237), ∀ a x, ((![v7237] : Fin 1 → IVec S16 32) a x).toNat < S272.size a := fun v7237 k0_hw592 => k0_hw592

def k0_chk593 (v7278 : IVec S16 32) : Prop :=
  (∀ a x, ((![v7278] : Fin 1 → IVec S16 32) a x).toNat < S272.size a)
theorem k0_idx603_inb : ∀ (v7278 : IVec S16 32) (k0_hw593 : k0_chk593 v7278), ∀ a x, ((![v7278] : Fin 1 → IVec S16 32) a x).toNat < S272.size a := fun v7278 k0_hw593 => k0_hw593

def k0_chk594 (v7286 : IVec S16 32) : Prop :=
  (∀ a x, ((![v7286] : Fin 1 → IVec S16 32) a x).toNat < S272.size a)
theorem k0_idx604_inb : ∀ (v7286 : IVec S16 32) (k0_hw594 : k0_chk594 v7286), ∀ a x, ((![v7286] : Fin 1 → IVec S16 32) a x).toNat < S272.size a := fun v7286 k0_hw594 => k0_hw594

def k0_chk595 (v7298 : IVec S16 32) : Prop :=
  (∀ a x, ((![v7298] : Fin 1 → IVec S16 32) a x).toNat < S272.size a)
theorem k0_idx605_inb : ∀ (v7298 : IVec S16 32) (k0_hw595 : k0_chk595 v7298), ∀ a x, ((![v7298] : Fin 1 → IVec S16 32) a x).toNat < S272.size a := fun v7298 k0_hw595 => k0_hw595

def k0_chk596 (v7306 : IVec S16 32) : Prop :=
  (∀ a x, ((![v7306] : Fin 1 → IVec S16 32) a x).toNat < S272.size a)
theorem k0_idx606_inb : ∀ (v7306 : IVec S16 32) (k0_hw596 : k0_chk596 v7306), ∀ a x, ((![v7306] : Fin 1 → IVec S16 32) a x).toNat < S272.size a := fun v7306 k0_hw596 => k0_hw596

def k0_chk597 (v7313 : IVec S16 32) : Prop :=
  (∀ a x, ((![v7313] : Fin 1 → IVec S16 32) a x).toNat < S272.size a)
theorem k0_idx607_inb : ∀ (v7313 : IVec S16 32) (k0_hw597 : k0_chk597 v7313), ∀ a x, ((![v7313] : Fin 1 → IVec S16 32) a x).toNat < S272.size a := fun v7313 k0_hw597 => k0_hw597

def k0_chk598 (v7321 : IVec S16 32) : Prop :=
  (∀ a x, ((![v7321] : Fin 1 → IVec S16 32) a x).toNat < S272.size a)
theorem k0_idx608_inb : ∀ (v7321 : IVec S16 32) (k0_hw598 : k0_chk598 v7321), ∀ a x, ((![v7321] : Fin 1 → IVec S16 32) a x).toNat < S272.size a := fun v7321 k0_hw598 => k0_hw598

def k0_chk599 (v7337 : IVec S16 32) : Prop :=
  (∀ a x, ((![v7337] : Fin 1 → IVec S16 32) a x).toNat < S272.size a)
theorem k0_idx609_inb : ∀ (v7337 : IVec S16 32) (k0_hw599 : k0_chk599 v7337), ∀ a x, ((![v7337] : Fin 1 → IVec S16 32) a x).toNat < S272.size a := fun v7337 k0_hw599 => k0_hw599

def k0_chk600 (v7345 : IVec S16 32) : Prop :=
  (∀ a x, ((![v7345] : Fin 1 → IVec S16 32) a x).toNat < S272.size a)
theorem k0_idx610_inb : ∀ (v7345 : IVec S16 32) (k0_hw600 : k0_chk600 v7345), ∀ a x, ((![v7345] : Fin 1 → IVec S16 32) a x).toNat < S272.size a := fun v7345 k0_hw600 => k0_hw600

def k0_chk601 (v7386 : IVec S16 32) : Prop :=
  (∀ a x, ((![v7386] : Fin 1 → IVec S16 32) a x).toNat < S272.size a)
theorem k0_idx611_inb : ∀ (v7386 : IVec S16 32) (k0_hw601 : k0_chk601 v7386), ∀ a x, ((![v7386] : Fin 1 → IVec S16 32) a x).toNat < S272.size a := fun v7386 k0_hw601 => k0_hw601

def k0_chk602 (v7394 : IVec S16 32) : Prop :=
  (∀ a x, ((![v7394] : Fin 1 → IVec S16 32) a x).toNat < S272.size a)
theorem k0_idx612_inb : ∀ (v7394 : IVec S16 32) (k0_hw602 : k0_chk602 v7394), ∀ a x, ((![v7394] : Fin 1 → IVec S16 32) a x).toNat < S272.size a := fun v7394 k0_hw602 => k0_hw602

def k0_chk603 (v7406 : IVec S16 32) : Prop :=
  (∀ a x, ((![v7406] : Fin 1 → IVec S16 32) a x).toNat < S272.size a)
theorem k0_idx613_inb : ∀ (v7406 : IVec S16 32) (k0_hw603 : k0_chk603 v7406), ∀ a x, ((![v7406] : Fin 1 → IVec S16 32) a x).toNat < S272.size a := fun v7406 k0_hw603 => k0_hw603

def k0_chk604 (v7414 : IVec S16 32) : Prop :=
  (∀ a x, ((![v7414] : Fin 1 → IVec S16 32) a x).toNat < S272.size a)
theorem k0_idx614_inb : ∀ (v7414 : IVec S16 32) (k0_hw604 : k0_chk604 v7414), ∀ a x, ((![v7414] : Fin 1 → IVec S16 32) a x).toNat < S272.size a := fun v7414 k0_hw604 => k0_hw604

def k0_chk605 (v7421 : IVec S16 32) : Prop :=
  (∀ a x, ((![v7421] : Fin 1 → IVec S16 32) a x).toNat < S272.size a)
theorem k0_idx615_inb : ∀ (v7421 : IVec S16 32) (k0_hw605 : k0_chk605 v7421), ∀ a x, ((![v7421] : Fin 1 → IVec S16 32) a x).toNat < S272.size a := fun v7421 k0_hw605 => k0_hw605

def k0_chk606 (v7429 : IVec S16 32) : Prop :=
  (∀ a x, ((![v7429] : Fin 1 → IVec S16 32) a x).toNat < S272.size a)
theorem k0_idx616_inb : ∀ (v7429 : IVec S16 32) (k0_hw606 : k0_chk606 v7429), ∀ a x, ((![v7429] : Fin 1 → IVec S16 32) a x).toNat < S272.size a := fun v7429 k0_hw606 => k0_hw606

def k0_chk607 (v7445 : IVec S16 32) : Prop :=
  (∀ a x, ((![v7445] : Fin 1 → IVec S16 32) a x).toNat < S272.size a)
theorem k0_idx617_inb : ∀ (v7445 : IVec S16 32) (k0_hw607 : k0_chk607 v7445), ∀ a x, ((![v7445] : Fin 1 → IVec S16 32) a x).toNat < S272.size a := fun v7445 k0_hw607 => k0_hw607

def k0_chk608 (v7453 : IVec S16 32) : Prop :=
  (∀ a x, ((![v7453] : Fin 1 → IVec S16 32) a x).toNat < S272.size a)
theorem k0_idx618_inb : ∀ (v7453 : IVec S16 32) (k0_hw608 : k0_chk608 v7453), ∀ a x, ((![v7453] : Fin 1 → IVec S16 32) a x).toNat < S272.size a := fun v7453 k0_hw608 => k0_hw608

def k0_chk609 (v7492 : IVec S16 32) : Prop :=
  (∀ a x, ((![v7492] : Fin 1 → IVec S16 32) a x).toNat < S272.size a)
theorem k0_idx619_inb : ∀ (v7492 : IVec S16 32) (k0_hw609 : k0_chk609 v7492), ∀ a x, ((![v7492] : Fin 1 → IVec S16 32) a x).toNat < S272.size a := fun v7492 k0_hw609 => k0_hw609

def k0_chk610 (v7500 : IVec S16 32) : Prop :=
  (∀ a x, ((![v7500] : Fin 1 → IVec S16 32) a x).toNat < S272.size a)
theorem k0_idx620_inb : ∀ (v7500 : IVec S16 32) (k0_hw610 : k0_chk610 v7500), ∀ a x, ((![v7500] : Fin 1 → IVec S16 32) a x).toNat < S272.size a := fun v7500 k0_hw610 => k0_hw610

def k0_chk611 (v7512 : IVec S16 32) : Prop :=
  (∀ a x, ((![v7512] : Fin 1 → IVec S16 32) a x).toNat < S272.size a)
theorem k0_idx621_inb : ∀ (v7512 : IVec S16 32) (k0_hw611 : k0_chk611 v7512), ∀ a x, ((![v7512] : Fin 1 → IVec S16 32) a x).toNat < S272.size a := fun v7512 k0_hw611 => k0_hw611

def k0_chk612 (v7520 : IVec S16 32) : Prop :=
  (∀ a x, ((![v7520] : Fin 1 → IVec S16 32) a x).toNat < S272.size a)
theorem k0_idx622_inb : ∀ (v7520 : IVec S16 32) (k0_hw612 : k0_chk612 v7520), ∀ a x, ((![v7520] : Fin 1 → IVec S16 32) a x).toNat < S272.size a := fun v7520 k0_hw612 => k0_hw612

def k0_chk613 (v7527 : IVec S16 32) : Prop :=
  (∀ a x, ((![v7527] : Fin 1 → IVec S16 32) a x).toNat < S272.size a)
theorem k0_idx623_inb : ∀ (v7527 : IVec S16 32) (k0_hw613 : k0_chk613 v7527), ∀ a x, ((![v7527] : Fin 1 → IVec S16 32) a x).toNat < S272.size a := fun v7527 k0_hw613 => k0_hw613

def k0_chk614 (v7535 : IVec S16 32) : Prop :=
  (∀ a x, ((![v7535] : Fin 1 → IVec S16 32) a x).toNat < S272.size a)
theorem k0_idx624_inb : ∀ (v7535 : IVec S16 32) (k0_hw614 : k0_chk614 v7535), ∀ a x, ((![v7535] : Fin 1 → IVec S16 32) a x).toNat < S272.size a := fun v7535 k0_hw614 => k0_hw614

def k0_chk615 (v7551 : IVec S16 32) : Prop :=
  (∀ a x, ((![v7551] : Fin 1 → IVec S16 32) a x).toNat < S272.size a)
theorem k0_idx625_inb : ∀ (v7551 : IVec S16 32) (k0_hw615 : k0_chk615 v7551), ∀ a x, ((![v7551] : Fin 1 → IVec S16 32) a x).toNat < S272.size a := fun v7551 k0_hw615 => k0_hw615

def k0_chk616 (v7559 : IVec S16 32) : Prop :=
  (∀ a x, ((![v7559] : Fin 1 → IVec S16 32) a x).toNat < S272.size a)
theorem k0_idx626_inb : ∀ (v7559 : IVec S16 32) (k0_hw616 : k0_chk616 v7559), ∀ a x, ((![v7559] : Fin 1 → IVec S16 32) a x).toNat < S272.size a := fun v7559 k0_hw616 => k0_hw616

def k0_chk617 (v7600 : IVec S16 32) : Prop :=
  (∀ a x, ((![v7600] : Fin 1 → IVec S16 32) a x).toNat < S272.size a)
theorem k0_idx627_inb : ∀ (v7600 : IVec S16 32) (k0_hw617 : k0_chk617 v7600), ∀ a x, ((![v7600] : Fin 1 → IVec S16 32) a x).toNat < S272.size a := fun v7600 k0_hw617 => k0_hw617

def k0_chk618 (v7608 : IVec S16 32) : Prop :=
  (∀ a x, ((![v7608] : Fin 1 → IVec S16 32) a x).toNat < S272.size a)
theorem k0_idx628_inb : ∀ (v7608 : IVec S16 32) (k0_hw618 : k0_chk618 v7608), ∀ a x, ((![v7608] : Fin 1 → IVec S16 32) a x).toNat < S272.size a := fun v7608 k0_hw618 => k0_hw618

def k0_chk619 (v7620 : IVec S16 32) : Prop :=
  (∀ a x, ((![v7620] : Fin 1 → IVec S16 32) a x).toNat < S272.size a)
theorem k0_idx629_inb : ∀ (v7620 : IVec S16 32) (k0_hw619 : k0_chk619 v7620), ∀ a x, ((![v7620] : Fin 1 → IVec S16 32) a x).toNat < S272.size a := fun v7620 k0_hw619 => k0_hw619

def k0_chk620 (v7628 : IVec S16 32) : Prop :=
  (∀ a x, ((![v7628] : Fin 1 → IVec S16 32) a x).toNat < S272.size a)
theorem k0_idx630_inb : ∀ (v7628 : IVec S16 32) (k0_hw620 : k0_chk620 v7628), ∀ a x, ((![v7628] : Fin 1 → IVec S16 32) a x).toNat < S272.size a := fun v7628 k0_hw620 => k0_hw620

def k0_chk621 (v7635 : IVec S16 32) : Prop :=
  (∀ a x, ((![v7635] : Fin 1 → IVec S16 32) a x).toNat < S272.size a)
theorem k0_idx631_inb : ∀ (v7635 : IVec S16 32) (k0_hw621 : k0_chk621 v7635), ∀ a x, ((![v7635] : Fin 1 → IVec S16 32) a x).toNat < S272.size a := fun v7635 k0_hw621 => k0_hw621

def k0_chk622 (v7643 : IVec S16 32) : Prop :=
  (∀ a x, ((![v7643] : Fin 1 → IVec S16 32) a x).toNat < S272.size a)
theorem k0_idx632_inb : ∀ (v7643 : IVec S16 32) (k0_hw622 : k0_chk622 v7643), ∀ a x, ((![v7643] : Fin 1 → IVec S16 32) a x).toNat < S272.size a := fun v7643 k0_hw622 => k0_hw622

def k0_chk623 (v7659 : IVec S16 32) : Prop :=
  (∀ a x, ((![v7659] : Fin 1 → IVec S16 32) a x).toNat < S272.size a)
theorem k0_idx633_inb : ∀ (v7659 : IVec S16 32) (k0_hw623 : k0_chk623 v7659), ∀ a x, ((![v7659] : Fin 1 → IVec S16 32) a x).toNat < S272.size a := fun v7659 k0_hw623 => k0_hw623

def k0_chk624 (v7667 : IVec S16 32) : Prop :=
  (∀ a x, ((![v7667] : Fin 1 → IVec S16 32) a x).toNat < S272.size a)
theorem k0_idx634_inb : ∀ (v7667 : IVec S16 32) (k0_hw624 : k0_chk624 v7667), ∀ a x, ((![v7667] : Fin 1 → IVec S16 32) a x).toNat < S272.size a := fun v7667 k0_hw624 => k0_hw624

def k0_chk625 (v7708 : IVec S16 32) : Prop :=
  (∀ a x, ((![v7708] : Fin 1 → IVec S16 32) a x).toNat < S272.size a)
theorem k0_idx635_inb : ∀ (v7708 : IVec S16 32) (k0_hw625 : k0_chk625 v7708), ∀ a x, ((![v7708] : Fin 1 → IVec S16 32) a x).toNat < S272.size a := fun v7708 k0_hw625 => k0_hw625

def k0_chk626 (v7716 : IVec S16 32) : Prop :=
  (∀ a x, ((![v7716] : Fin 1 → IVec S16 32) a x).toNat < S272.size a)
theorem k0_idx636_inb : ∀ (v7716 : IVec S16 32) (k0_hw626 : k0_chk626 v7716), ∀ a x, ((![v7716] : Fin 1 → IVec S16 32) a x).toNat < S272.size a := fun v7716 k0_hw626 => k0_hw626

def k0_chk627 (v7728 : IVec S16 32) : Prop :=
  (∀ a x, ((![v7728] : Fin 1 → IVec S16 32) a x).toNat < S272.size a)
theorem k0_idx637_inb : ∀ (v7728 : IVec S16 32) (k0_hw627 : k0_chk627 v7728), ∀ a x, ((![v7728] : Fin 1 → IVec S16 32) a x).toNat < S272.size a := fun v7728 k0_hw627 => k0_hw627

def k0_chk628 (v7736 : IVec S16 32) : Prop :=
  (∀ a x, ((![v7736] : Fin 1 → IVec S16 32) a x).toNat < S272.size a)
theorem k0_idx638_inb : ∀ (v7736 : IVec S16 32) (k0_hw628 : k0_chk628 v7736), ∀ a x, ((![v7736] : Fin 1 → IVec S16 32) a x).toNat < S272.size a := fun v7736 k0_hw628 => k0_hw628

def k0_chk629 (v7743 : IVec S16 32) : Prop :=
  (∀ a x, ((![v7743] : Fin 1 → IVec S16 32) a x).toNat < S272.size a)
theorem k0_idx639_inb : ∀ (v7743 : IVec S16 32) (k0_hw629 : k0_chk629 v7743), ∀ a x, ((![v7743] : Fin 1 → IVec S16 32) a x).toNat < S272.size a := fun v7743 k0_hw629 => k0_hw629

def k0_chk630 (v7751 : IVec S16 32) : Prop :=
  (∀ a x, ((![v7751] : Fin 1 → IVec S16 32) a x).toNat < S272.size a)
theorem k0_idx640_inb : ∀ (v7751 : IVec S16 32) (k0_hw630 : k0_chk630 v7751), ∀ a x, ((![v7751] : Fin 1 → IVec S16 32) a x).toNat < S272.size a := fun v7751 k0_hw630 => k0_hw630

def k0_chk631 (v7767 : IVec S16 32) : Prop :=
  (∀ a x, ((![v7767] : Fin 1 → IVec S16 32) a x).toNat < S272.size a)
theorem k0_idx641_inb : ∀ (v7767 : IVec S16 32) (k0_hw631 : k0_chk631 v7767), ∀ a x, ((![v7767] : Fin 1 → IVec S16 32) a x).toNat < S272.size a := fun v7767 k0_hw631 => k0_hw631

def k0_chk632 (v7775 : IVec S16 32) : Prop :=
  (∀ a x, ((![v7775] : Fin 1 → IVec S16 32) a x).toNat < S272.size a)
theorem k0_idx642_inb : ∀ (v7775 : IVec S16 32) (k0_hw632 : k0_chk632 v7775), ∀ a x, ((![v7775] : Fin 1 → IVec S16 32) a x).toNat < S272.size a := fun v7775 k0_hw632 => k0_hw632

def k0_chk633 (v7816 : IVec S16 32) : Prop :=
  (∀ a x, ((![v7816] : Fin 1 → IVec S16 32) a x).toNat < S272.size a)
theorem k0_idx643_inb : ∀ (v7816 : IVec S16 32) (k0_hw633 : k0_chk633 v7816), ∀ a x, ((![v7816] : Fin 1 → IVec S16 32) a x).toNat < S272.size a := fun v7816 k0_hw633 => k0_hw633

def k0_chk634 (v7824 : IVec S16 32) : Prop :=
  (∀ a x, ((![v7824] : Fin 1 → IVec S16 32) a x).toNat < S272.size a)
theorem k0_idx644_inb : ∀ (v7824 : IVec S16 32) (k0_hw634 : k0_chk634 v7824), ∀ a x, ((![v7824] : Fin 1 → IVec S16 32) a x).toNat < S272.size a := fun v7824 k0_hw634 => k0_hw634

def k0_chk635 (v7836 : IVec S16 32) : Prop :=
  (∀ a x, ((![v7836] : Fin 1 → IVec S16 32) a x).toNat < S272.size a)
theorem k0_idx645_inb : ∀ (v7836 : IVec S16 32) (k0_hw635 : k0_chk635 v7836), ∀ a x, ((![v7836] : Fin 1 → IVec S16 32) a x).toNat < S272.size a := fun v7836 k0_hw635 => k0_hw635

def k0_chk636 (v7844 : IVec S16 32) : Prop :=
  (∀ a x, ((![v7844] : Fin 1 → IVec S16 32) a x).toNat < S272.size a)
theorem k0_idx646_inb : ∀ (v7844 : IVec S16 32) (k0_hw636 : k0_chk636 v7844), ∀ a x, ((![v7844] : Fin 1 → IVec S16 32) a x).toNat < S272.size a := fun v7844 k0_hw636 => k0_hw636

def k0_chk637 (v7851 : IVec S16 32) : Prop :=
  (∀ a x, ((![v7851] : Fin 1 → IVec S16 32) a x).toNat < S272.size a)
theorem k0_idx647_inb : ∀ (v7851 : IVec S16 32) (k0_hw637 : k0_chk637 v7851), ∀ a x, ((![v7851] : Fin 1 → IVec S16 32) a x).toNat < S272.size a := fun v7851 k0_hw637 => k0_hw637

def k0_chk638 (v7859 : IVec S16 32) : Prop :=
  (∀ a x, ((![v7859] : Fin 1 → IVec S16 32) a x).toNat < S272.size a)
theorem k0_idx648_inb : ∀ (v7859 : IVec S16 32) (k0_hw638 : k0_chk638 v7859), ∀ a x, ((![v7859] : Fin 1 → IVec S16 32) a x).toNat < S272.size a := fun v7859 k0_hw638 => k0_hw638

def k0_chk639 (v7875 : IVec S16 32) : Prop :=
  (∀ a x, ((![v7875] : Fin 1 → IVec S16 32) a x).toNat < S272.size a)
theorem k0_idx649_inb : ∀ (v7875 : IVec S16 32) (k0_hw639 : k0_chk639 v7875), ∀ a x, ((![v7875] : Fin 1 → IVec S16 32) a x).toNat < S272.size a := fun v7875 k0_hw639 => k0_hw639

def k0_chk640 (v7883 : IVec S16 32) : Prop :=
  (∀ a x, ((![v7883] : Fin 1 → IVec S16 32) a x).toNat < S272.size a)
theorem k0_idx650_inb : ∀ (v7883 : IVec S16 32) (k0_hw640 : k0_chk640 v7883), ∀ a x, ((![v7883] : Fin 1 → IVec S16 32) a x).toNat < S272.size a := fun v7883 k0_hw640 => k0_hw640

def k0_chk641 (v7922 : IVec S16 32) : Prop :=
  (∀ a x, ((![v7922] : Fin 1 → IVec S16 32) a x).toNat < S272.size a)
theorem k0_idx651_inb : ∀ (v7922 : IVec S16 32) (k0_hw641 : k0_chk641 v7922), ∀ a x, ((![v7922] : Fin 1 → IVec S16 32) a x).toNat < S272.size a := fun v7922 k0_hw641 => k0_hw641

def k0_chk642 (v7930 : IVec S16 32) : Prop :=
  (∀ a x, ((![v7930] : Fin 1 → IVec S16 32) a x).toNat < S272.size a)
theorem k0_idx652_inb : ∀ (v7930 : IVec S16 32) (k0_hw642 : k0_chk642 v7930), ∀ a x, ((![v7930] : Fin 1 → IVec S16 32) a x).toNat < S272.size a := fun v7930 k0_hw642 => k0_hw642

def k0_chk643 (v7942 : IVec S16 32) : Prop :=
  (∀ a x, ((![v7942] : Fin 1 → IVec S16 32) a x).toNat < S272.size a)
theorem k0_idx653_inb : ∀ (v7942 : IVec S16 32) (k0_hw643 : k0_chk643 v7942), ∀ a x, ((![v7942] : Fin 1 → IVec S16 32) a x).toNat < S272.size a := fun v7942 k0_hw643 => k0_hw643

def k0_chk644 (v7950 : IVec S16 32) : Prop :=
  (∀ a x, ((![v7950] : Fin 1 → IVec S16 32) a x).toNat < S272.size a)
theorem k0_idx654_inb : ∀ (v7950 : IVec S16 32) (k0_hw644 : k0_chk644 v7950), ∀ a x, ((![v7950] : Fin 1 → IVec S16 32) a x).toNat < S272.size a := fun v7950 k0_hw644 => k0_hw644

def k0_chk645 (v7957 : IVec S16 32) : Prop :=
  (∀ a x, ((![v7957] : Fin 1 → IVec S16 32) a x).toNat < S272.size a)
theorem k0_idx655_inb : ∀ (v7957 : IVec S16 32) (k0_hw645 : k0_chk645 v7957), ∀ a x, ((![v7957] : Fin 1 → IVec S16 32) a x).toNat < S272.size a := fun v7957 k0_hw645 => k0_hw645

def k0_chk646 (v7965 : IVec S16 32) : Prop :=
  (∀ a x, ((![v7965] : Fin 1 → IVec S16 32) a x).toNat < S272.size a)
theorem k0_idx656_inb : ∀ (v7965 : IVec S16 32) (k0_hw646 : k0_chk646 v7965), ∀ a x, ((![v7965] : Fin 1 → IVec S16 32) a x).toNat < S272.size a := fun v7965 k0_hw646 => k0_hw646

def k0_chk647 (v7981 : IVec S16 32) : Prop :=
  (∀ a x, ((![v7981] : Fin 1 → IVec S16 32) a x).toNat < S272.size a)
theorem k0_idx657_inb : ∀ (v7981 : IVec S16 32) (k0_hw647 : k0_chk647 v7981), ∀ a x, ((![v7981] : Fin 1 → IVec S16 32) a x).toNat < S272.size a := fun v7981 k0_hw647 => k0_hw647

def k0_chk648 (v7989 : IVec S16 32) : Prop :=
  (∀ a x, ((![v7989] : Fin 1 → IVec S16 32) a x).toNat < S272.size a)
theorem k0_idx658_inb : ∀ (v7989 : IVec S16 32) (k0_hw648 : k0_chk648 v7989), ∀ a x, ((![v7989] : Fin 1 → IVec S16 32) a x).toNat < S272.size a := fun v7989 k0_hw648 => k0_hw648

def k0_chk649 (v8030 : IVec S16 32) : Prop :=
  (∀ a x, ((![v8030] : Fin 1 → IVec S16 32) a x).toNat < S272.size a)
theorem k0_idx659_inb : ∀ (v8030 : IVec S16 32) (k0_hw649 : k0_chk649 v8030), ∀ a x, ((![v8030] : Fin 1 → IVec S16 32) a x).toNat < S272.size a := fun v8030 k0_hw649 => k0_hw649

def k0_chk650 (v8038 : IVec S16 32) : Prop :=
  (∀ a x, ((![v8038] : Fin 1 → IVec S16 32) a x).toNat < S272.size a)
theorem k0_idx660_inb : ∀ (v8038 : IVec S16 32) (k0_hw650 : k0_chk650 v8038), ∀ a x, ((![v8038] : Fin 1 → IVec S16 32) a x).toNat < S272.size a := fun v8038 k0_hw650 => k0_hw650

def k0_chk651 (v8050 : IVec S16 32) : Prop :=
  (∀ a x, ((![v8050] : Fin 1 → IVec S16 32) a x).toNat < S272.size a)
theorem k0_idx661_inb : ∀ (v8050 : IVec S16 32) (k0_hw651 : k0_chk651 v8050), ∀ a x, ((![v8050] : Fin 1 → IVec S16 32) a x).toNat < S272.size a := fun v8050 k0_hw651 => k0_hw651

def k0_chk652 (v8058 : IVec S16 32) : Prop :=
  (∀ a x, ((![v8058] : Fin 1 → IVec S16 32) a x).toNat < S272.size a)
theorem k0_idx662_inb : ∀ (v8058 : IVec S16 32) (k0_hw652 : k0_chk652 v8058), ∀ a x, ((![v8058] : Fin 1 → IVec S16 32) a x).toNat < S272.size a := fun v8058 k0_hw652 => k0_hw652

def k0_chk653 (v8065 : IVec S16 32) : Prop :=
  (∀ a x, ((![v8065] : Fin 1 → IVec S16 32) a x).toNat < S272.size a)
theorem k0_idx663_inb : ∀ (v8065 : IVec S16 32) (k0_hw653 : k0_chk653 v8065), ∀ a x, ((![v8065] : Fin 1 → IVec S16 32) a x).toNat < S272.size a := fun v8065 k0_hw653 => k0_hw653

def k0_chk654 (v8073 : IVec S16 32) : Prop :=
  (∀ a x, ((![v8073] : Fin 1 → IVec S16 32) a x).toNat < S272.size a)
theorem k0_idx664_inb : ∀ (v8073 : IVec S16 32) (k0_hw654 : k0_chk654 v8073), ∀ a x, ((![v8073] : Fin 1 → IVec S16 32) a x).toNat < S272.size a := fun v8073 k0_hw654 => k0_hw654

def k0_chk655 (v8089 : IVec S16 32) : Prop :=
  (∀ a x, ((![v8089] : Fin 1 → IVec S16 32) a x).toNat < S272.size a)
theorem k0_idx665_inb : ∀ (v8089 : IVec S16 32) (k0_hw655 : k0_chk655 v8089), ∀ a x, ((![v8089] : Fin 1 → IVec S16 32) a x).toNat < S272.size a := fun v8089 k0_hw655 => k0_hw655

def k0_chk656 (v8097 : IVec S16 32) : Prop :=
  (∀ a x, ((![v8097] : Fin 1 → IVec S16 32) a x).toNat < S272.size a)
theorem k0_idx666_inb : ∀ (v8097 : IVec S16 32) (k0_hw656 : k0_chk656 v8097), ∀ a x, ((![v8097] : Fin 1 → IVec S16 32) a x).toNat < S272.size a := fun v8097 k0_hw656 => k0_hw656

def k0_chk657 (v8138 : IVec S16 32) : Prop :=
  (∀ a x, ((![v8138] : Fin 1 → IVec S16 32) a x).toNat < S272.size a)
theorem k0_idx667_inb : ∀ (v8138 : IVec S16 32) (k0_hw657 : k0_chk657 v8138), ∀ a x, ((![v8138] : Fin 1 → IVec S16 32) a x).toNat < S272.size a := fun v8138 k0_hw657 => k0_hw657

def k0_chk658 (v8146 : IVec S16 32) : Prop :=
  (∀ a x, ((![v8146] : Fin 1 → IVec S16 32) a x).toNat < S272.size a)
theorem k0_idx668_inb : ∀ (v8146 : IVec S16 32) (k0_hw658 : k0_chk658 v8146), ∀ a x, ((![v8146] : Fin 1 → IVec S16 32) a x).toNat < S272.size a := fun v8146 k0_hw658 => k0_hw658

def k0_chk659 (v8158 : IVec S16 32) : Prop :=
  (∀ a x, ((![v8158] : Fin 1 → IVec S16 32) a x).toNat < S272.size a)
theorem k0_idx669_inb : ∀ (v8158 : IVec S16 32) (k0_hw659 : k0_chk659 v8158), ∀ a x, ((![v8158] : Fin 1 → IVec S16 32) a x).toNat < S272.size a := fun v8158 k0_hw659 => k0_hw659

def k0_chk660 (v8166 : IVec S16 32) : Prop :=
  (∀ a x, ((![v8166] : Fin 1 → IVec S16 32) a x).toNat < S272.size a)
theorem k0_idx670_inb : ∀ (v8166 : IVec S16 32) (k0_hw660 : k0_chk660 v8166), ∀ a x, ((![v8166] : Fin 1 → IVec S16 32) a x).toNat < S272.size a := fun v8166 k0_hw660 => k0_hw660

def k0_chk661 (v8173 : IVec S16 32) : Prop :=
  (∀ a x, ((![v8173] : Fin 1 → IVec S16 32) a x).toNat < S272.size a)
theorem k0_idx671_inb : ∀ (v8173 : IVec S16 32) (k0_hw661 : k0_chk661 v8173), ∀ a x, ((![v8173] : Fin 1 → IVec S16 32) a x).toNat < S272.size a := fun v8173 k0_hw661 => k0_hw661

def k0_chk662 (v8181 : IVec S16 32) : Prop :=
  (∀ a x, ((![v8181] : Fin 1 → IVec S16 32) a x).toNat < S272.size a)
theorem k0_idx672_inb : ∀ (v8181 : IVec S16 32) (k0_hw662 : k0_chk662 v8181), ∀ a x, ((![v8181] : Fin 1 → IVec S16 32) a x).toNat < S272.size a := fun v8181 k0_hw662 => k0_hw662

def k0_chk663 (v8197 : IVec S16 32) : Prop :=
  (∀ a x, ((![v8197] : Fin 1 → IVec S16 32) a x).toNat < S272.size a)
theorem k0_idx673_inb : ∀ (v8197 : IVec S16 32) (k0_hw663 : k0_chk663 v8197), ∀ a x, ((![v8197] : Fin 1 → IVec S16 32) a x).toNat < S272.size a := fun v8197 k0_hw663 => k0_hw663

def k0_chk664 (v8205 : IVec S16 32) : Prop :=
  (∀ a x, ((![v8205] : Fin 1 → IVec S16 32) a x).toNat < S272.size a)
theorem k0_idx674_inb : ∀ (v8205 : IVec S16 32) (k0_hw664 : k0_chk664 v8205), ∀ a x, ((![v8205] : Fin 1 → IVec S16 32) a x).toNat < S272.size a := fun v8205 k0_hw664 => k0_hw664

def k0_chk665 (v8244 : IVec S16 32) : Prop :=
  (∀ a x, ((![v8244] : Fin 1 → IVec S16 32) a x).toNat < S272.size a)
theorem k0_idx675_inb : ∀ (v8244 : IVec S16 32) (k0_hw665 : k0_chk665 v8244), ∀ a x, ((![v8244] : Fin 1 → IVec S16 32) a x).toNat < S272.size a := fun v8244 k0_hw665 => k0_hw665

def k0_chk666 (v8252 : IVec S16 32) : Prop :=
  (∀ a x, ((![v8252] : Fin 1 → IVec S16 32) a x).toNat < S272.size a)
theorem k0_idx676_inb : ∀ (v8252 : IVec S16 32) (k0_hw666 : k0_chk666 v8252), ∀ a x, ((![v8252] : Fin 1 → IVec S16 32) a x).toNat < S272.size a := fun v8252 k0_hw666 => k0_hw666

def k0_chk667 (v8264 : IVec S16 32) : Prop :=
  (∀ a x, ((![v8264] : Fin 1 → IVec S16 32) a x).toNat < S272.size a)
theorem k0_idx677_inb : ∀ (v8264 : IVec S16 32) (k0_hw667 : k0_chk667 v8264), ∀ a x, ((![v8264] : Fin 1 → IVec S16 32) a x).toNat < S272.size a := fun v8264 k0_hw667 => k0_hw667

def k0_chk668 (v8272 : IVec S16 32) : Prop :=
  (∀ a x, ((![v8272] : Fin 1 → IVec S16 32) a x).toNat < S272.size a)
theorem k0_idx678_inb : ∀ (v8272 : IVec S16 32) (k0_hw668 : k0_chk668 v8272), ∀ a x, ((![v8272] : Fin 1 → IVec S16 32) a x).toNat < S272.size a := fun v8272 k0_hw668 => k0_hw668

def k0_chk669 (v8279 : IVec S16 32) : Prop :=
  (∀ a x, ((![v8279] : Fin 1 → IVec S16 32) a x).toNat < S272.size a)
theorem k0_idx679_inb : ∀ (v8279 : IVec S16 32) (k0_hw669 : k0_chk669 v8279), ∀ a x, ((![v8279] : Fin 1 → IVec S16 32) a x).toNat < S272.size a := fun v8279 k0_hw669 => k0_hw669

def k0_chk670 (v8287 : IVec S16 32) : Prop :=
  (∀ a x, ((![v8287] : Fin 1 → IVec S16 32) a x).toNat < S272.size a)
theorem k0_idx680_inb : ∀ (v8287 : IVec S16 32) (k0_hw670 : k0_chk670 v8287), ∀ a x, ((![v8287] : Fin 1 → IVec S16 32) a x).toNat < S272.size a := fun v8287 k0_hw670 => k0_hw670

def k0_chk671 (v8303 : IVec S16 32) : Prop :=
  (∀ a x, ((![v8303] : Fin 1 → IVec S16 32) a x).toNat < S272.size a)
theorem k0_idx681_inb : ∀ (v8303 : IVec S16 32) (k0_hw671 : k0_chk671 v8303), ∀ a x, ((![v8303] : Fin 1 → IVec S16 32) a x).toNat < S272.size a := fun v8303 k0_hw671 => k0_hw671

def k0_chk672 (v8311 : IVec S16 32) : Prop :=
  (∀ a x, ((![v8311] : Fin 1 → IVec S16 32) a x).toNat < S272.size a)
theorem k0_idx682_inb : ∀ (v8311 : IVec S16 32) (k0_hw672 : k0_chk672 v8311), ∀ a x, ((![v8311] : Fin 1 → IVec S16 32) a x).toNat < S272.size a := fun v8311 k0_hw672 => k0_hw672

def k0_chk673 (v8352 : IVec S16 32) : Prop :=
  (∀ a x, ((![v8352] : Fin 1 → IVec S16 32) a x).toNat < S272.size a)
theorem k0_idx683_inb : ∀ (v8352 : IVec S16 32) (k0_hw673 : k0_chk673 v8352), ∀ a x, ((![v8352] : Fin 1 → IVec S16 32) a x).toNat < S272.size a := fun v8352 k0_hw673 => k0_hw673

def k0_chk674 (v8360 : IVec S16 32) : Prop :=
  (∀ a x, ((![v8360] : Fin 1 → IVec S16 32) a x).toNat < S272.size a)
theorem k0_idx684_inb : ∀ (v8360 : IVec S16 32) (k0_hw674 : k0_chk674 v8360), ∀ a x, ((![v8360] : Fin 1 → IVec S16 32) a x).toNat < S272.size a := fun v8360 k0_hw674 => k0_hw674

def k0_chk675 (v8372 : IVec S16 32) : Prop :=
  (∀ a x, ((![v8372] : Fin 1 → IVec S16 32) a x).toNat < S272.size a)
theorem k0_idx685_inb : ∀ (v8372 : IVec S16 32) (k0_hw675 : k0_chk675 v8372), ∀ a x, ((![v8372] : Fin 1 → IVec S16 32) a x).toNat < S272.size a := fun v8372 k0_hw675 => k0_hw675

def k0_chk676 (v8380 : IVec S16 32) : Prop :=
  (∀ a x, ((![v8380] : Fin 1 → IVec S16 32) a x).toNat < S272.size a)
theorem k0_idx686_inb : ∀ (v8380 : IVec S16 32) (k0_hw676 : k0_chk676 v8380), ∀ a x, ((![v8380] : Fin 1 → IVec S16 32) a x).toNat < S272.size a := fun v8380 k0_hw676 => k0_hw676

def k0_chk677 (v8387 : IVec S16 32) : Prop :=
  (∀ a x, ((![v8387] : Fin 1 → IVec S16 32) a x).toNat < S272.size a)
theorem k0_idx687_inb : ∀ (v8387 : IVec S16 32) (k0_hw677 : k0_chk677 v8387), ∀ a x, ((![v8387] : Fin 1 → IVec S16 32) a x).toNat < S272.size a := fun v8387 k0_hw677 => k0_hw677

def k0_chk678 (v8395 : IVec S16 32) : Prop :=
  (∀ a x, ((![v8395] : Fin 1 → IVec S16 32) a x).toNat < S272.size a)
theorem k0_idx688_inb : ∀ (v8395 : IVec S16 32) (k0_hw678 : k0_chk678 v8395), ∀ a x, ((![v8395] : Fin 1 → IVec S16 32) a x).toNat < S272.size a := fun v8395 k0_hw678 => k0_hw678

def k0_chk679 (v8411 : IVec S16 32) : Prop :=
  (∀ a x, ((![v8411] : Fin 1 → IVec S16 32) a x).toNat < S272.size a)
theorem k0_idx689_inb : ∀ (v8411 : IVec S16 32) (k0_hw679 : k0_chk679 v8411), ∀ a x, ((![v8411] : Fin 1 → IVec S16 32) a x).toNat < S272.size a := fun v8411 k0_hw679 => k0_hw679

def k0_chk680 (v8419 : IVec S16 32) : Prop :=
  (∀ a x, ((![v8419] : Fin 1 → IVec S16 32) a x).toNat < S272.size a)
theorem k0_idx690_inb : ∀ (v8419 : IVec S16 32) (k0_hw680 : k0_chk680 v8419), ∀ a x, ((![v8419] : Fin 1 → IVec S16 32) a x).toNat < S272.size a := fun v8419 k0_hw680 => k0_hw680

def k0_chk681 (v8791 : IVec S16 32) : Prop :=
  (∀ a x, ((![v8791] : Fin 1 → IVec S16 32) a x).toNat < S272.size a)
theorem k0_idx691_inb : ∀ (v8791 : IVec S16 32) (k0_hw681 : k0_chk681 v8791), ∀ a x, ((![v8791] : Fin 1 → IVec S16 32) a x).toNat < S272.size a := fun v8791 k0_hw681 => k0_hw681

def k0_chk682 (v8799 : IVec S16 32) : Prop :=
  (∀ a x, ((![v8799] : Fin 1 → IVec S16 32) a x).toNat < S272.size a)
theorem k0_idx692_inb : ∀ (v8799 : IVec S16 32) (k0_hw682 : k0_chk682 v8799), ∀ a x, ((![v8799] : Fin 1 → IVec S16 32) a x).toNat < S272.size a := fun v8799 k0_hw682 => k0_hw682

def k0_chk683 (v8814 : IVec S16 32) : Prop :=
  (∀ a x, ((![v8814] : Fin 1 → IVec S16 32) a x).toNat < S272.size a)
theorem k0_idx693_inb : ∀ (v8814 : IVec S16 32) (k0_hw683 : k0_chk683 v8814), ∀ a x, ((![v8814] : Fin 1 → IVec S16 32) a x).toNat < S272.size a := fun v8814 k0_hw683 => k0_hw683

def k0_chk684 (v8822 : IVec S16 32) : Prop :=
  (∀ a x, ((![v8822] : Fin 1 → IVec S16 32) a x).toNat < S272.size a)
theorem k0_idx694_inb : ∀ (v8822 : IVec S16 32) (k0_hw684 : k0_chk684 v8822), ∀ a x, ((![v8822] : Fin 1 → IVec S16 32) a x).toNat < S272.size a := fun v8822 k0_hw684 => k0_hw684

def k0_chk685 (v8837 : IVec S16 32) : Prop :=
  (∀ a x, ((![v8837] : Fin 1 → IVec S16 32) a x).toNat < S272.size a)
theorem k0_idx695_inb : ∀ (v8837 : IVec S16 32) (k0_hw685 : k0_chk685 v8837), ∀ a x, ((![v8837] : Fin 1 → IVec S16 32) a x).toNat < S272.size a := fun v8837 k0_hw685 => k0_hw685

def k0_chk686 (v8845 : IVec S16 32) : Prop :=
  (∀ a x, ((![v8845] : Fin 1 → IVec S16 32) a x).toNat < S272.size a)
theorem k0_idx696_inb : ∀ (v8845 : IVec S16 32) (k0_hw686 : k0_chk686 v8845), ∀ a x, ((![v8845] : Fin 1 → IVec S16 32) a x).toNat < S272.size a := fun v8845 k0_hw686 => k0_hw686

def k0_chk687 (v8860 : IVec S16 32) : Prop :=
  (∀ a x, ((![v8860] : Fin 1 → IVec S16 32) a x).toNat < S272.size a)
theorem k0_idx697_inb : ∀ (v8860 : IVec S16 32) (k0_hw687 : k0_chk687 v8860), ∀ a x, ((![v8860] : Fin 1 → IVec S16 32) a x).toNat < S272.size a := fun v8860 k0_hw687 => k0_hw687

def k0_chk688 (v8868 : IVec S16 32) : Prop :=
  (∀ a x, ((![v8868] : Fin 1 → IVec S16 32) a x).toNat < S272.size a)
theorem k0_idx698_inb : ∀ (v8868 : IVec S16 32) (k0_hw688 : k0_chk688 v8868), ∀ a x, ((![v8868] : Fin 1 → IVec S16 32) a x).toNat < S272.size a := fun v8868 k0_hw688 => k0_hw688

def k0_chk689 (v8883 : IVec S16 32) : Prop :=
  (∀ a x, ((![v8883] : Fin 1 → IVec S16 32) a x).toNat < S272.size a)
theorem k0_idx699_inb : ∀ (v8883 : IVec S16 32) (k0_hw689 : k0_chk689 v8883), ∀ a x, ((![v8883] : Fin 1 → IVec S16 32) a x).toNat < S272.size a := fun v8883 k0_hw689 => k0_hw689

def k0_chk690 (v8891 : IVec S16 32) : Prop :=
  (∀ a x, ((![v8891] : Fin 1 → IVec S16 32) a x).toNat < S272.size a)
theorem k0_idx700_inb : ∀ (v8891 : IVec S16 32) (k0_hw690 : k0_chk690 v8891), ∀ a x, ((![v8891] : Fin 1 → IVec S16 32) a x).toNat < S272.size a := fun v8891 k0_hw690 => k0_hw690

def k0_chk691 (v8906 : IVec S16 32) : Prop :=
  (∀ a x, ((![v8906] : Fin 1 → IVec S16 32) a x).toNat < S272.size a)
theorem k0_idx701_inb : ∀ (v8906 : IVec S16 32) (k0_hw691 : k0_chk691 v8906), ∀ a x, ((![v8906] : Fin 1 → IVec S16 32) a x).toNat < S272.size a := fun v8906 k0_hw691 => k0_hw691

def k0_chk692 (v8914 : IVec S16 32) : Prop :=
  (∀ a x, ((![v8914] : Fin 1 → IVec S16 32) a x).toNat < S272.size a)
theorem k0_idx702_inb : ∀ (v8914 : IVec S16 32) (k0_hw692 : k0_chk692 v8914), ∀ a x, ((![v8914] : Fin 1 → IVec S16 32) a x).toNat < S272.size a := fun v8914 k0_hw692 => k0_hw692

def k0_chk693 (v8929 : IVec S16 32) : Prop :=
  (∀ a x, ((![v8929] : Fin 1 → IVec S16 32) a x).toNat < S272.size a)
theorem k0_idx703_inb : ∀ (v8929 : IVec S16 32) (k0_hw693 : k0_chk693 v8929), ∀ a x, ((![v8929] : Fin 1 → IVec S16 32) a x).toNat < S272.size a := fun v8929 k0_hw693 => k0_hw693

def k0_chk694 (v8937 : IVec S16 32) : Prop :=
  (∀ a x, ((![v8937] : Fin 1 → IVec S16 32) a x).toNat < S272.size a)
theorem k0_idx704_inb : ∀ (v8937 : IVec S16 32) (k0_hw694 : k0_chk694 v8937), ∀ a x, ((![v8937] : Fin 1 → IVec S16 32) a x).toNat < S272.size a := fun v8937 k0_hw694 => k0_hw694

def k0_chk695 (v8952 : IVec S16 32) : Prop :=
  (∀ a x, ((![v8952] : Fin 1 → IVec S16 32) a x).toNat < S272.size a)
theorem k0_idx705_inb : ∀ (v8952 : IVec S16 32) (k0_hw695 : k0_chk695 v8952), ∀ a x, ((![v8952] : Fin 1 → IVec S16 32) a x).toNat < S272.size a := fun v8952 k0_hw695 => k0_hw695

def k0_chk696 (v8960 : IVec S16 32) : Prop :=
  (∀ a x, ((![v8960] : Fin 1 → IVec S16 32) a x).toNat < S272.size a)
theorem k0_idx706_inb : ∀ (v8960 : IVec S16 32) (k0_hw696 : k0_chk696 v8960), ∀ a x, ((![v8960] : Fin 1 → IVec S16 32) a x).toNat < S272.size a := fun v8960 k0_hw696 => k0_hw696

def k0_chk697 (v8975 : IVec S16 32) : Prop :=
  (∀ a x, ((![v8975] : Fin 1 → IVec S16 32) a x).toNat < S272.size a)
theorem k0_idx707_inb : ∀ (v8975 : IVec S16 32) (k0_hw697 : k0_chk697 v8975), ∀ a x, ((![v8975] : Fin 1 → IVec S16 32) a x).toNat < S272.size a := fun v8975 k0_hw697 => k0_hw697

def k0_chk698 (v8983 : IVec S16 32) : Prop :=
  (∀ a x, ((![v8983] : Fin 1 → IVec S16 32) a x).toNat < S272.size a)
theorem k0_idx708_inb : ∀ (v8983 : IVec S16 32) (k0_hw698 : k0_chk698 v8983), ∀ a x, ((![v8983] : Fin 1 → IVec S16 32) a x).toNat < S272.size a := fun v8983 k0_hw698 => k0_hw698

def k0_chk699 (v8998 : IVec S16 32) : Prop :=
  (∀ a x, ((![v8998] : Fin 1 → IVec S16 32) a x).toNat < S272.size a)
theorem k0_idx709_inb : ∀ (v8998 : IVec S16 32) (k0_hw699 : k0_chk699 v8998), ∀ a x, ((![v8998] : Fin 1 → IVec S16 32) a x).toNat < S272.size a := fun v8998 k0_hw699 => k0_hw699

def k0_chk700 (v9006 : IVec S16 32) : Prop :=
  (∀ a x, ((![v9006] : Fin 1 → IVec S16 32) a x).toNat < S272.size a)
theorem k0_idx710_inb : ∀ (v9006 : IVec S16 32) (k0_hw700 : k0_chk700 v9006), ∀ a x, ((![v9006] : Fin 1 → IVec S16 32) a x).toNat < S272.size a := fun v9006 k0_hw700 => k0_hw700

def k0_chk701 (v9036 : IVec S16 32) : Prop :=
  (∀ a x, ((![v9036] : Fin 1 → IVec S16 32) a x).toNat < S272.size a)
theorem k0_idx711_inb : ∀ (v9036 : IVec S16 32) (k0_hw701 : k0_chk701 v9036), ∀ a x, ((![v9036] : Fin 1 → IVec S16 32) a x).toNat < S272.size a := fun v9036 k0_hw701 => k0_hw701

def k0_chk702 (v9044 : IVec S16 32) : Prop :=
  (∀ a x, ((![v9044] : Fin 1 → IVec S16 32) a x).toNat < S272.size a)
theorem k0_idx712_inb : ∀ (v9044 : IVec S16 32) (k0_hw702 : k0_chk702 v9044), ∀ a x, ((![v9044] : Fin 1 → IVec S16 32) a x).toNat < S272.size a := fun v9044 k0_hw702 => k0_hw702

def k0_chk703 (v9060 : IVec S16 32) : Prop :=
  (∀ a x, ((![v9060] : Fin 1 → IVec S16 32) a x).toNat < S272.size a)
theorem k0_idx713_inb : ∀ (v9060 : IVec S16 32) (k0_hw703 : k0_chk703 v9060), ∀ a x, ((![v9060] : Fin 1 → IVec S16 32) a x).toNat < S272.size a := fun v9060 k0_hw703 => k0_hw703

def k0_chk704 (v9068 : IVec S16 32) : Prop :=
  (∀ a x, ((![v9068] : Fin 1 → IVec S16 32) a x).toNat < S272.size a)
theorem k0_idx714_inb : ∀ (v9068 : IVec S16 32) (k0_hw704 : k0_chk704 v9068), ∀ a x, ((![v9068] : Fin 1 → IVec S16 32) a x).toNat < S272.size a := fun v9068 k0_hw704 => k0_hw704

def k0_chk705 (v9084 : IVec S16 32) : Prop :=
  (∀ a x, ((![v9084] : Fin 1 → IVec S16 32) a x).toNat < S272.size a)
theorem k0_idx715_inb : ∀ (v9084 : IVec S16 32) (k0_hw705 : k0_chk705 v9084), ∀ a x, ((![v9084] : Fin 1 → IVec S16 32) a x).toNat < S272.size a := fun v9084 k0_hw705 => k0_hw705

def k0_chk706 (v9092 : IVec S16 32) : Prop :=
  (∀ a x, ((![v9092] : Fin 1 → IVec S16 32) a x).toNat < S272.size a)
theorem k0_idx716_inb : ∀ (v9092 : IVec S16 32) (k0_hw706 : k0_chk706 v9092), ∀ a x, ((![v9092] : Fin 1 → IVec S16 32) a x).toNat < S272.size a := fun v9092 k0_hw706 => k0_hw706

def k0_chk707 (v9108 : IVec S16 32) : Prop :=
  (∀ a x, ((![v9108] : Fin 1 → IVec S16 32) a x).toNat < S272.size a)
theorem k0_idx717_inb : ∀ (v9108 : IVec S16 32) (k0_hw707 : k0_chk707 v9108), ∀ a x, ((![v9108] : Fin 1 → IVec S16 32) a x).toNat < S272.size a := fun v9108 k0_hw707 => k0_hw707

def k0_chk708 (v9116 : IVec S16 32) : Prop :=
  (∀ a x, ((![v9116] : Fin 1 → IVec S16 32) a x).toNat < S272.size a)
theorem k0_idx718_inb : ∀ (v9116 : IVec S16 32) (k0_hw708 : k0_chk708 v9116), ∀ a x, ((![v9116] : Fin 1 → IVec S16 32) a x).toNat < S272.size a := fun v9116 k0_hw708 => k0_hw708

def k0_chk709 (v9132 : IVec S16 32) : Prop :=
  (∀ a x, ((![v9132] : Fin 1 → IVec S16 32) a x).toNat < S272.size a)
theorem k0_idx719_inb : ∀ (v9132 : IVec S16 32) (k0_hw709 : k0_chk709 v9132), ∀ a x, ((![v9132] : Fin 1 → IVec S16 32) a x).toNat < S272.size a := fun v9132 k0_hw709 => k0_hw709

def k0_chk710 (v9140 : IVec S16 32) : Prop :=
  (∀ a x, ((![v9140] : Fin 1 → IVec S16 32) a x).toNat < S272.size a)
theorem k0_idx720_inb : ∀ (v9140 : IVec S16 32) (k0_hw710 : k0_chk710 v9140), ∀ a x, ((![v9140] : Fin 1 → IVec S16 32) a x).toNat < S272.size a := fun v9140 k0_hw710 => k0_hw710

def k0_chk711 (v9156 : IVec S16 32) : Prop :=
  (∀ a x, ((![v9156] : Fin 1 → IVec S16 32) a x).toNat < S272.size a)
theorem k0_idx721_inb : ∀ (v9156 : IVec S16 32) (k0_hw711 : k0_chk711 v9156), ∀ a x, ((![v9156] : Fin 1 → IVec S16 32) a x).toNat < S272.size a := fun v9156 k0_hw711 => k0_hw711

def k0_chk712 (v9164 : IVec S16 32) : Prop :=
  (∀ a x, ((![v9164] : Fin 1 → IVec S16 32) a x).toNat < S272.size a)
theorem k0_idx722_inb : ∀ (v9164 : IVec S16 32) (k0_hw712 : k0_chk712 v9164), ∀ a x, ((![v9164] : Fin 1 → IVec S16 32) a x).toNat < S272.size a := fun v9164 k0_hw712 => k0_hw712

def k0_chk713 (v9180 : IVec S16 32) : Prop :=
  (∀ a x, ((![v9180] : Fin 1 → IVec S16 32) a x).toNat < S272.size a)
theorem k0_idx723_inb : ∀ (v9180 : IVec S16 32) (k0_hw713 : k0_chk713 v9180), ∀ a x, ((![v9180] : Fin 1 → IVec S16 32) a x).toNat < S272.size a := fun v9180 k0_hw713 => k0_hw713

def k0_chk714 (v9188 : IVec S16 32) : Prop :=
  (∀ a x, ((![v9188] : Fin 1 → IVec S16 32) a x).toNat < S272.size a)
theorem k0_idx724_inb : ∀ (v9188 : IVec S16 32) (k0_hw714 : k0_chk714 v9188), ∀ a x, ((![v9188] : Fin 1 → IVec S16 32) a x).toNat < S272.size a := fun v9188 k0_hw714 => k0_hw714

def k0_chk715 (v9204 : IVec S16 32) : Prop :=
  (∀ a x, ((![v9204] : Fin 1 → IVec S16 32) a x).toNat < S272.size a)
theorem k0_idx725_inb : ∀ (v9204 : IVec S16 32) (k0_hw715 : k0_chk715 v9204), ∀ a x, ((![v9204] : Fin 1 → IVec S16 32) a x).toNat < S272.size a := fun v9204 k0_hw715 => k0_hw715

def k0_chk716 (v9212 : IVec S16 32) : Prop :=
  (∀ a x, ((![v9212] : Fin 1 → IVec S16 32) a x).toNat < S272.size a)
theorem k0_idx726_inb : ∀ (v9212 : IVec S16 32) (k0_hw716 : k0_chk716 v9212), ∀ a x, ((![v9212] : Fin 1 → IVec S16 32) a x).toNat < S272.size a := fun v9212 k0_hw716 => k0_hw716

def k0_chk717 (v9228 : IVec S16 32) : Prop :=
  (∀ a x, ((![v9228] : Fin 1 → IVec S16 32) a x).toNat < S272.size a)
theorem k0_idx727_inb : ∀ (v9228 : IVec S16 32) (k0_hw717 : k0_chk717 v9228), ∀ a x, ((![v9228] : Fin 1 → IVec S16 32) a x).toNat < S272.size a := fun v9228 k0_hw717 => k0_hw717

def k0_chk718 (v9236 : IVec S16 32) : Prop :=
  (∀ a x, ((![v9236] : Fin 1 → IVec S16 32) a x).toNat < S272.size a)
theorem k0_idx728_inb : ∀ (v9236 : IVec S16 32) (k0_hw718 : k0_chk718 v9236), ∀ a x, ((![v9236] : Fin 1 → IVec S16 32) a x).toNat < S272.size a := fun v9236 k0_hw718 => k0_hw718

def k0_chk719 (v9252 : IVec S16 32) : Prop :=
  (∀ a x, ((![v9252] : Fin 1 → IVec S16 32) a x).toNat < S272.size a)
theorem k0_idx729_inb : ∀ (v9252 : IVec S16 32) (k0_hw719 : k0_chk719 v9252), ∀ a x, ((![v9252] : Fin 1 → IVec S16 32) a x).toNat < S272.size a := fun v9252 k0_hw719 => k0_hw719

def k0_chk720 (v9260 : IVec S16 32) : Prop :=
  (∀ a x, ((![v9260] : Fin 1 → IVec S16 32) a x).toNat < S272.size a)
theorem k0_idx730_inb : ∀ (v9260 : IVec S16 32) (k0_hw720 : k0_chk720 v9260), ∀ a x, ((![v9260] : Fin 1 → IVec S16 32) a x).toNat < S272.size a := fun v9260 k0_hw720 => k0_hw720

def k0_chk721 (v9281 : IVec S16 32) : Prop :=
  (∀ a x, ((![v9281] : Fin 1 → IVec S16 32) a x).toNat < S272.size a)
theorem k0_idx731_inb : ∀ (v9281 : IVec S16 32) (k0_hw721 : k0_chk721 v9281), ∀ a x, ((![v9281] : Fin 1 → IVec S16 32) a x).toNat < S272.size a := fun v9281 k0_hw721 => k0_hw721

def k0_chk722 (v9289 : IVec S16 32) : Prop :=
  (∀ a x, ((![v9289] : Fin 1 → IVec S16 32) a x).toNat < S272.size a)
theorem k0_idx732_inb : ∀ (v9289 : IVec S16 32) (k0_hw722 : k0_chk722 v9289), ∀ a x, ((![v9289] : Fin 1 → IVec S16 32) a x).toNat < S272.size a := fun v9289 k0_hw722 => k0_hw722

def k0_chk723 (v9306 : IVec S16 32) : Prop :=
  (∀ a x, ((![v9306] : Fin 1 → IVec S16 32) a x).toNat < S176.size a)
theorem k0_idx733_inb : ∀ (v9306 : IVec S16 32) (k0_hw723 : k0_chk723 v9306), ∀ a x, ((![v9306] : Fin 1 → IVec S16 32) a x).toNat < S176.size a := fun v9306 k0_hw723 => k0_hw723

def k0_chk724 (v9317 : IVec S16 32) : Prop :=
  (∀ a x, ((![v9317] : Fin 1 → IVec S16 32) a x).toNat < S176.size a)
theorem k0_idx734_inb : ∀ (v9317 : IVec S16 32) (k0_hw724 : k0_chk724 v9317), ∀ a x, ((![v9317] : Fin 1 → IVec S16 32) a x).toNat < S176.size a := fun v9317 k0_hw724 => k0_hw724

def k0_chk725 (v9328 : IVec S16 32) : Prop :=
  (∀ a x, ((![v9328] : Fin 1 → IVec S16 32) a x).toNat < S176.size a)
theorem k0_idx735_inb : ∀ (v9328 : IVec S16 32) (k0_hw725 : k0_chk725 v9328), ∀ a x, ((![v9328] : Fin 1 → IVec S16 32) a x).toNat < S176.size a := fun v9328 k0_hw725 => k0_hw725

def k0_chk726 (v9339 : IVec S16 32) : Prop :=
  (∀ a x, ((![v9339] : Fin 1 → IVec S16 32) a x).toNat < S176.size a)
theorem k0_idx736_inb : ∀ (v9339 : IVec S16 32) (k0_hw726 : k0_chk726 v9339), ∀ a x, ((![v9339] : Fin 1 → IVec S16 32) a x).toNat < S176.size a := fun v9339 k0_hw726 => k0_hw726

def k0_chk727 (v9350 : IVec S16 32) : Prop :=
  (∀ a x, ((![v9350] : Fin 1 → IVec S16 32) a x).toNat < S176.size a)
theorem k0_idx737_inb : ∀ (v9350 : IVec S16 32) (k0_hw727 : k0_chk727 v9350), ∀ a x, ((![v9350] : Fin 1 → IVec S16 32) a x).toNat < S176.size a := fun v9350 k0_hw727 => k0_hw727

def k0_chk728 (v9361 : IVec S16 32) : Prop :=
  (∀ a x, ((![v9361] : Fin 1 → IVec S16 32) a x).toNat < S176.size a)
theorem k0_idx738_inb : ∀ (v9361 : IVec S16 32) (k0_hw728 : k0_chk728 v9361), ∀ a x, ((![v9361] : Fin 1 → IVec S16 32) a x).toNat < S176.size a := fun v9361 k0_hw728 => k0_hw728

def k0_chk729 (v9372 : IVec S16 32) : Prop :=
  (∀ a x, ((![v9372] : Fin 1 → IVec S16 32) a x).toNat < S176.size a)
theorem k0_idx739_inb : ∀ (v9372 : IVec S16 32) (k0_hw729 : k0_chk729 v9372), ∀ a x, ((![v9372] : Fin 1 → IVec S16 32) a x).toNat < S176.size a := fun v9372 k0_hw729 => k0_hw729

def k0_chk730 (v9383 : IVec S16 32) : Prop :=
  (∀ a x, ((![v9383] : Fin 1 → IVec S16 32) a x).toNat < S176.size a)
theorem k0_idx740_inb : ∀ (v9383 : IVec S16 32) (k0_hw730 : k0_chk730 v9383), ∀ a x, ((![v9383] : Fin 1 → IVec S16 32) a x).toNat < S176.size a := fun v9383 k0_hw730 => k0_hw730

def k0_chk731 (v9394 : IVec S16 32) : Prop :=
  (∀ a x, ((![v9394] : Fin 1 → IVec S16 32) a x).toNat < S176.size a)
theorem k0_idx741_inb : ∀ (v9394 : IVec S16 32) (k0_hw731 : k0_chk731 v9394), ∀ a x, ((![v9394] : Fin 1 → IVec S16 32) a x).toNat < S176.size a := fun v9394 k0_hw731 => k0_hw731

def k0_chk732 (v9405 : IVec S16 32) : Prop :=
  (∀ a x, ((![v9405] : Fin 1 → IVec S16 32) a x).toNat < S176.size a)
theorem k0_idx742_inb : ∀ (v9405 : IVec S16 32) (k0_hw732 : k0_chk732 v9405), ∀ a x, ((![v9405] : Fin 1 → IVec S16 32) a x).toNat < S176.size a := fun v9405 k0_hw732 => k0_hw732

def k0_chk733 (v9416 : IVec S16 32) : Prop :=
  (∀ a x, ((![v9416] : Fin 1 → IVec S16 32) a x).toNat < S176.size a)
theorem k0_idx743_inb : ∀ (v9416 : IVec S16 32) (k0_hw733 : k0_chk733 v9416), ∀ a x, ((![v9416] : Fin 1 → IVec S16 32) a x).toNat < S176.size a := fun v9416 k0_hw733 => k0_hw733
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_2 : BitVec 32 := 3#32
  let v6 : BitVec 32 := Scalar.muli v1 c3_i32_2
  let c0_i32_0 : BitVec 32 := 0#32
  let c1_i32 : BitVec 32 := 1#32
  let arg13 : BitVec 32 := Scf.iv c0_i32_0 c1_i32 k0_t1
  let v7 : BitVec 32 := Scalar.addi v6 arg13
  let c16_i32_2630 : BitVec 32 := 16#32
  let v9418 : BitVec 32 := Scalar.muli v7 c16_i32_2630
  let c11_i32_2631 : BitVec 32 := 11#32
  let v9419 : BitVec 32 := Scalar.muli v9418 c11_i32_2631
  ![v9419.toNat]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S100x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x100x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S8x17 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S11x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4x100 : Shape := ⟨3, ![4096, 4, 100]⟩
abbrev S4096x100 : Shape := ⟨2, ![4096, 100]⟩
abbrev S8x17 : Shape := ⟨2, ![8, 17]⟩
abbrev S4096x10 : Shape := ⟨2, ![4096, 10]⟩
abbrev S4096x1x10 : Shape := ⟨3, ![4096, 1, 10]⟩
abbrev S_ : Shape := ⟨0, ![]⟩
abbrev S4096x10x1 : Shape := ⟨3, ![4096, 10, 1]⟩
abbrev S1 : Shape := ⟨1, ![1]⟩
abbrev S1x1x1 : Shape := ⟨3, ![1, 1, 1]⟩
abbrev S4096x4x10 : Shape := ⟨3, ![4096, 4, 10]⟩
abbrev S4096x10x10 : Shape := ⟨3, ![4096, 10, 10]⟩
abbrev S4096x2x10 : Shape := ⟨3, ![4096, 2, 10]⟩
abbrev S4096x2x10x1 : Shape := ⟨4, ![4096, 2, 10, 1]⟩
abbrev S4096x2x1x10 : Shape := ⟨4, ![4096, 2, 1, 10]⟩
abbrev S4096x2x10x10 : Shape := ⟨4, ![4096, 2, 10, 10]⟩
abbrev S4096x1x10x10 : Shape := ⟨4, ![4096, 1, 10, 10]⟩
abbrev S1x17 : Shape := ⟨2, ![1, 17]⟩
abbrev S17 : Shape := ⟨1, ![17]⟩
abbrev S4096x10x10x1 : Shape := ⟨4, ![4096, 10, 10, 1]⟩
abbrev S4096x10x1x10 : Shape := ⟨4, ![4096, 10, 1, 10]⟩
abbrev S4096x10x10x10 : Shape := ⟨4, ![4096, 10, 10, 10]⟩
abbrev S4096x10x10x10x1 : Shape := ⟨5, ![4096, 10, 10, 10, 1]⟩
abbrev S4096 : Shape := ⟨1, ![4096]⟩
abbrev S4096x1 : Shape := ⟨2, ![4096, 1]⟩
abbrev S4096x11 : Shape := ⟨2, ![4096, 11]⟩
abbrev S4096x1x1 : Shape := ⟨3, ![4096, 1, 1]⟩
abbrev S4096x1x2 : Shape := ⟨3, ![4096, 1, 2]⟩

abbrev nBuf : Space → Nat
  | .hbm => 907
  | .vmem => 0
  | .smem => 0
  | _ => 0

abbrev hbmTy0_0 (i : Nat) : BufTy := match i % 128 with
  | 0 => ⟨S4096x4x100, .f32⟩
  | 1 => ⟨S4096x100, .f32⟩
  | 2 => ⟨S8x17, .f32⟩
  | 3 => ⟨S4096x10, .f32⟩
  | 4 => ⟨S4096x10, .i32⟩
  | 5 => ⟨S4096x1x10, .i32⟩
  | 6 => ⟨S_, .i32⟩
  | 7 => ⟨S4096x1x10, .i32⟩
  | 8 => ⟨S4096x1x10, .i1⟩
  | 9 => ⟨S_, .i32⟩
  | 10 => ⟨S4096x1x10, .i32⟩
  | 11 => ⟨S4096x1x10, .i32⟩
  | 12 => ⟨S4096x1x10, .i32⟩
  | 13 => ⟨S4096x10x1, .i32⟩
  | 14 => ⟨S1, .i32⟩
  | 15 => ⟨S_, .i32⟩
  | 16 => ⟨S4096x10x1, .i32⟩
  | 17 => ⟨S4096x10x1, .i1⟩
  | 18 => ⟨S1x1x1, .i32⟩
  | 19 => ⟨S4096x10x1, .i32⟩
  | 20 => ⟨S4096x10x1, .i1⟩
  | 21 => ⟨S4096x10x1, .i1⟩
  | 22 => ⟨S_, .i1⟩
  | 23 => ⟨S4096x10, .i1⟩
  | 24 => ⟨S4096x4x10, .f32⟩
  | 25 => ⟨S4096x4x10, .i1⟩
  | 26 => ⟨S_, .f32⟩
  | 27 => ⟨S4096x4x10, .f32⟩
  | 28 => ⟨S4096x4x10, .f32⟩
  | 29 => ⟨S4096x10, .f32⟩
  | 30 => ⟨S4096x10, .f32⟩
  | 31 => ⟨S_, .f32⟩
  | 32 => ⟨S4096x10, .f32⟩
  | 33 => ⟨S4096x10, .f32⟩
  | 34 => ⟨S_, .f32⟩
  | 35 => ⟨S4096x10, .f32⟩
  | 36 => ⟨S4096x10, .f32⟩
  | 37 => ⟨S4096x10x1, .f32⟩
  | 38 => ⟨S4096x1x10, .f32⟩
  | 39 => ⟨S4096x10x10, .f32⟩
  | 40 => ⟨S4096x10x10, .f32⟩
  | 41 => ⟨S4096x10x10, .f32⟩
  | 42 => ⟨S4096x2x10, .f32⟩
  | 43 => ⟨S4096x2x10x1, .f32⟩
  | 44 => ⟨S4096x2x10, .f32⟩
  | 45 => ⟨S4096x2x1x10, .f32⟩
  | 46 => ⟨S4096x2x10x10, .f32⟩
  | 47 => ⟨S4096x2x10x10, .f32⟩
  | 48 => ⟨S4096x2x10x10, .f32⟩
  | 49 => ⟨S4096x2x10, .f32⟩
  | 50 => ⟨S4096x2x10x1, .f32⟩
  | 51 => ⟨S4096x2x10, .f32⟩
  | 52 => ⟨S4096x2x1x10, .f32⟩
  | 53 => ⟨S4096x2x10x10, .f32⟩
  | 54 => ⟨S4096x2x10x10, .f32⟩
  | 55 => ⟨S4096x2x10x10, .f32⟩
  | 56 => ⟨S4096x2x10x10, .f32⟩
  | 57 => ⟨S_, .i32⟩
  | 58 => ⟨S_, .f32⟩
  | 59 => ⟨S4096x2x10x10, .f32⟩
  | 60 => ⟨S4096x2x10x10, .f32⟩
  | 61 => ⟨S4096x1x10x10, .f32⟩
  | 62 => ⟨S4096x10x10, .f32⟩
  | 63 => ⟨S4096x1x10x10, .f32⟩
  | 64 => ⟨S4096x10x10, .f32⟩
  | 65 => ⟨S4096x10x10, .f32⟩
  | 66 => ⟨S4096x1x10, .f32⟩
  | 67 => ⟨S4096x10, .f32⟩
  | 68 => ⟨S4096x1x10, .f32⟩
  | 69 => ⟨S4096x10, .f32⟩
  | 70 => ⟨S4096x10, .f32⟩
  | 71 => ⟨S_, .i32⟩
  | 72 => ⟨S_, .f32⟩
  | 73 => ⟨S4096x10, .f32⟩
  | 74 => ⟨S4096x10, .f32⟩
  | 75 => ⟨S4096x1x10, .f32⟩
  | 76 => ⟨S4096x10, .f32⟩
  | 77 => ⟨S4096x1x10, .f32⟩
  | 78 => ⟨S4096x10, .f32⟩
  | 79 => ⟨S4096x10, .f32⟩
  | 80 => ⟨S_, .i32⟩
  | 81 => ⟨S_, .f32⟩
  | 82 => ⟨S4096x10, .f32⟩
  | 83 => ⟨S4096x10, .f32⟩
  | 84 => ⟨S4096x10, .f32⟩
  | 85 => ⟨S4096x10x1, .f32⟩
  | 86 => ⟨S4096x1x10, .f32⟩
  | 87 => ⟨S4096x10, .f32⟩
  | 88 => ⟨S4096x1x10, .f32⟩
  | 89 => ⟨S4096x10, .f32⟩
  | 90 => ⟨S4096x10, .f32⟩
  | 91 => ⟨S_, .i32⟩
  | 92 => ⟨S_, .f32⟩
  | 93 => ⟨S4096x10, .f32⟩
  | 94 => ⟨S4096x10, .f32⟩
  | 95 => ⟨S4096x1x10, .f32⟩
  | 96 => ⟨S4096x10, .f32⟩
  | 97 => ⟨S4096x1x10, .f32⟩
  | 98 => ⟨S4096x10, .f32⟩
  | 99 => ⟨S4096x10, .f32⟩
  | 100 => ⟨S_, .i32⟩
  | 101 => ⟨S_, .f32⟩
  | 102 => ⟨S4096x10, .f32⟩
  | 103 => ⟨S4096x10, .f32⟩
  | 104 => ⟨S4096x10, .f32⟩
  | 105 => ⟨S4096x1x10, .f32⟩
  | 106 => ⟨S4096x10x10, .f32⟩
  | 107 => ⟨S4096x10x10, .f32⟩
  | 108 => ⟨S4096x10x10, .f32⟩
  | 109 => ⟨S4096x10x10, .f32⟩
  | 110 => ⟨S_, .f32⟩
  | 111 => ⟨S4096x10x10, .f32⟩
  | 112 => ⟨S4096x10x10, .f32⟩
  | 113 => ⟨S4096x10x10, .f32⟩
  | 114 => ⟨S_, .f32⟩
  | 115 => ⟨S4096x10x10, .f32⟩
  | 116 => ⟨S4096x10x10, .f32⟩
  | 117 => ⟨S1x17, .f32⟩
  | 118 => ⟨S17, .f32⟩
  | 119 => ⟨S17, .f32⟩
  | 120 => ⟨S_, .f32⟩
  | 121 => ⟨S_, .f32⟩
  | 122 => ⟨S17, .f32⟩
  | 123 => ⟨S17, .f32⟩
  | 124 => ⟨S_, .f32⟩
  | 125 => ⟨S_, .f32⟩
  | 126 => ⟨S17, .f32⟩
  | 127 => ⟨S_, .f32⟩
  | _ => ⟨S4096x4x100, .f32⟩

abbrev hbmTy0_1 (i : Nat) : BufTy := match i % 128 with
  | 0 => ⟨S4096x10x10, .f32⟩
  | 1 => ⟨S4096x10x10, .f32⟩
  | 2 => ⟨S4096x10x10, .i32⟩
  | 3 => ⟨S_, .f32⟩
  | 4 => ⟨S4096x10x10, .f32⟩
  | 5 => ⟨S4096x10x10, .i1⟩
  | 6 => ⟨S4096x10x10, .f32⟩
  | 7 => ⟨S4096x10x10, .f32⟩
  | 8 => ⟨S4096x10x10, .f32⟩
  | 9 => ⟨S4096x10x10, .f32⟩
  | 10 => ⟨S_, .i32⟩
  | 11 => ⟨S_, .i32⟩
  | 12 => ⟨S_, .i32⟩
  | 13 => ⟨S4096x10x10, .i32⟩
  | 14 => ⟨S4096x10x10, .i32⟩
  | 15 => ⟨S_, .i32⟩
  | 16 => ⟨S4096x10x10, .i32⟩
  | 17 => ⟨S4096x10x10, .i32⟩
  | 18 => ⟨S_, .i32⟩
  | 19 => ⟨S4096x10x10, .i32⟩
  | 20 => ⟨S4096x10x10, .i1⟩
  | 21 => ⟨S_, .i32⟩
  | 22 => ⟨S4096x10x10, .i32⟩
  | 23 => ⟨S4096x10x10, .i32⟩
  | 24 => ⟨S4096x10x10, .i32⟩
  | 25 => ⟨S4096x10x10x1, .i32⟩
  | 26 => ⟨S4096x10x10, .f32⟩
  | 27 => ⟨S_, .i32⟩
  | 28 => ⟨S4096x10x10, .i32⟩
  | 29 => ⟨S4096x10x10, .i32⟩
  | 30 => ⟨S_, .i32⟩
  | 31 => ⟨S_, .i32⟩
  | 32 => ⟨S_, .i32⟩
  | 33 => ⟨S4096x10x10, .i32⟩
  | 34 => ⟨S4096x10x10, .i32⟩
  | 35 => ⟨S_, .i32⟩
  | 36 => ⟨S4096x10x10, .i32⟩
  | 37 => ⟨S4096x10x10, .i32⟩
  | 38 => ⟨S_, .i32⟩
  | 39 => ⟨S4096x10x10, .i32⟩
  | 40 => ⟨S4096x10x10, .i1⟩
  | 41 => ⟨S_, .i32⟩
  | 42 => ⟨S4096x10x10, .i32⟩
  | 43 => ⟨S4096x10x10, .i32⟩
  | 44 => ⟨S4096x10x10, .i32⟩
  | 45 => ⟨S4096x10x10x1, .i32⟩
  | 46 => ⟨S4096x10x10, .f32⟩
  | 47 => ⟨S4096x10x10, .f32⟩
  | 48 => ⟨S4096x10x10, .f32⟩
  | 49 => ⟨S1x17, .f32⟩
  | 50 => ⟨S17, .f32⟩
  | 51 => ⟨S17, .f32⟩
  | 52 => ⟨S_, .f32⟩
  | 53 => ⟨S_, .f32⟩
  | 54 => ⟨S17, .f32⟩
  | 55 => ⟨S17, .f32⟩
  | 56 => ⟨S_, .f32⟩
  | 57 => ⟨S_, .f32⟩
  | 58 => ⟨S17, .f32⟩
  | 59 => ⟨S_, .f32⟩
  | 60 => ⟨S4096x10x10, .f32⟩
  | 61 => ⟨S4096x10x10, .f32⟩
  | 62 => ⟨S4096x10x10, .i32⟩
  | 63 => ⟨S_, .f32⟩
  | 64 => ⟨S4096x10x10, .f32⟩
  | 65 => ⟨S4096x10x10, .i1⟩
  | 66 => ⟨S4096x10x10, .f32⟩
  | 67 => ⟨S4096x10x10, .f32⟩
  | 68 => ⟨S4096x10x10, .f32⟩
  | 69 => ⟨S4096x10x10, .f32⟩
  | 70 => ⟨S_, .i32⟩
  | 71 => ⟨S_, .i32⟩
  | 72 => ⟨S_, .i32⟩
  | 73 => ⟨S4096x10x10, .i32⟩
  | 74 => ⟨S4096x10x10, .i32⟩
  | 75 => ⟨S_, .i32⟩
  | 76 => ⟨S4096x10x10, .i32⟩
  | 77 => ⟨S4096x10x10, .i32⟩
  | 78 => ⟨S_, .i32⟩
  | 79 => ⟨S4096x10x10, .i32⟩
  | 80 => ⟨S4096x10x10, .i1⟩
  | 81 => ⟨S_, .i32⟩
  | 82 => ⟨S4096x10x10, .i32⟩
  | 83 => ⟨S4096x10x10, .i32⟩
  | 84 => ⟨S4096x10x10, .i32⟩
  | 85 => ⟨S4096x10x10x1, .i32⟩
  | 86 => ⟨S4096x10x10, .f32⟩
  | 87 => ⟨S_, .i32⟩
  | 88 => ⟨S4096x10x10, .i32⟩
  | 89 => ⟨S4096x10x10, .i32⟩
  | 90 => ⟨S_, .i32⟩
  | 91 => ⟨S_, .i32⟩
  | 92 => ⟨S_, .i32⟩
  | 93 => ⟨S4096x10x10, .i32⟩
  | 94 => ⟨S4096x10x10, .i32⟩
  | 95 => ⟨S_, .i32⟩
  | 96 => ⟨S4096x10x10, .i32⟩
  | 97 => ⟨S4096x10x10, .i32⟩
  | 98 => ⟨S_, .i32⟩
  | 99 => ⟨S4096x10x10, .i32⟩
  | 100 => ⟨S4096x10x10, .i1⟩
  | 101 => ⟨S_, .i32⟩
  | 102 => ⟨S4096x10x10, .i32⟩
  | 103 => ⟨S4096x10x10, .i32⟩
  | 104 => ⟨S4096x10x10, .i32⟩
  | 105 => ⟨S4096x10x10x1, .i32⟩
  | 106 => ⟨S4096x10x10, .f32⟩
  | 107 => ⟨S4096x10x10, .f32⟩
  | 108 => ⟨S4096x10x10, .f32⟩
  | 109 => ⟨S4096x10x10, .f32⟩
  | 110 => ⟨S1x17, .f32⟩
  | 111 => ⟨S17, .f32⟩
  | 112 => ⟨S17, .f32⟩
  | 113 => ⟨S_, .f32⟩
  | 114 => ⟨S_, .f32⟩
  | 115 => ⟨S17, .f32⟩
  | 116 => ⟨S17, .f32⟩
  | 117 => ⟨S_, .f32⟩
  | 118 => ⟨S_, .f32⟩
  | 119 => ⟨S17, .f32⟩
  | 120 => ⟨S_, .f32⟩
  | 121 => ⟨S4096x10x10, .f32⟩
  | 122 => ⟨S4096x10x10, .f32⟩
  | 123 => ⟨S4096x10x10, .i32⟩
  | 124 => ⟨S_, .f32⟩
  | 125 => ⟨S4096x10x10, .f32⟩
  | 126 => ⟨S4096x10x10, .i1⟩
  | 127 => ⟨S4096x10x10, .f32⟩
  | _ => ⟨S4096x4x100, .f32⟩

abbrev hbmTy0_2 (i : Nat) : BufTy := match i % 128 with
  | 0 => ⟨S4096x10x10, .f32⟩
  | 1 => ⟨S4096x10x10, .f32⟩
  | 2 => ⟨S4096x10x10, .f32⟩
  | 3 => ⟨S_, .i32⟩
  | 4 => ⟨S_, .i32⟩
  | 5 => ⟨S_, .i32⟩
  | 6 => ⟨S4096x10x10, .i32⟩
  | 7 => ⟨S4096x10x10, .i32⟩
  | 8 => ⟨S_, .i32⟩
  | 9 => ⟨S4096x10x10, .i32⟩
  | 10 => ⟨S4096x10x10, .i32⟩
  | 11 => ⟨S_, .i32⟩
  | 12 => ⟨S4096x10x10, .i32⟩
  | 13 => ⟨S4096x10x10, .i1⟩
  | 14 => ⟨S_, .i32⟩
  | 15 => ⟨S4096x10x10, .i32⟩
  | 16 => ⟨S4096x10x10, .i32⟩
  | 17 => ⟨S4096x10x10, .i32⟩
  | 18 => ⟨S4096x10x10x1, .i32⟩
  | 19 => ⟨S4096x10x10, .f32⟩
  | 20 => ⟨S_, .i32⟩
  | 21 => ⟨S4096x10x10, .i32⟩
  | 22 => ⟨S4096x10x10, .i32⟩
  | 23 => ⟨S_, .i32⟩
  | 24 => ⟨S_, .i32⟩
  | 25 => ⟨S_, .i32⟩
  | 26 => ⟨S4096x10x10, .i32⟩
  | 27 => ⟨S4096x10x10, .i32⟩
  | 28 => ⟨S_, .i32⟩
  | 29 => ⟨S4096x10x10, .i32⟩
  | 30 => ⟨S4096x10x10, .i32⟩
  | 31 => ⟨S_, .i32⟩
  | 32 => ⟨S4096x10x10, .i32⟩
  | 33 => ⟨S4096x10x10, .i1⟩
  | 34 => ⟨S_, .i32⟩
  | 35 => ⟨S4096x10x10, .i32⟩
  | 36 => ⟨S4096x10x10, .i32⟩
  | 37 => ⟨S4096x10x10, .i32⟩
  | 38 => ⟨S4096x10x10x1, .i32⟩
  | 39 => ⟨S4096x10x10, .f32⟩
  | 40 => ⟨S4096x10x10, .f32⟩
  | 41 => ⟨S4096x10x10, .f32⟩
  | 42 => ⟨S1x17, .f32⟩
  | 43 => ⟨S17, .f32⟩
  | 44 => ⟨S17, .f32⟩
  | 45 => ⟨S_, .f32⟩
  | 46 => ⟨S_, .f32⟩
  | 47 => ⟨S17, .f32⟩
  | 48 => ⟨S17, .f32⟩
  | 49 => ⟨S_, .f32⟩
  | 50 => ⟨S_, .f32⟩
  | 51 => ⟨S17, .f32⟩
  | 52 => ⟨S_, .f32⟩
  | 53 => ⟨S4096x10x10, .f32⟩
  | 54 => ⟨S4096x10x10, .f32⟩
  | 55 => ⟨S4096x10x10, .i32⟩
  | 56 => ⟨S_, .f32⟩
  | 57 => ⟨S4096x10x10, .f32⟩
  | 58 => ⟨S4096x10x10, .i1⟩
  | 59 => ⟨S4096x10x10, .f32⟩
  | 60 => ⟨S4096x10x10, .f32⟩
  | 61 => ⟨S4096x10x10, .f32⟩
  | 62 => ⟨S4096x10x10, .f32⟩
  | 63 => ⟨S_, .i32⟩
  | 64 => ⟨S_, .i32⟩
  | 65 => ⟨S_, .i32⟩
  | 66 => ⟨S4096x10x10, .i32⟩
  | 67 => ⟨S4096x10x10, .i32⟩
  | 68 => ⟨S_, .i32⟩
  | 69 => ⟨S4096x10x10, .i32⟩
  | 70 => ⟨S4096x10x10, .i32⟩
  | 71 => ⟨S_, .i32⟩
  | 72 => ⟨S4096x10x10, .i32⟩
  | 73 => ⟨S4096x10x10, .i1⟩
  | 74 => ⟨S_, .i32⟩
  | 75 => ⟨S4096x10x10, .i32⟩
  | 76 => ⟨S4096x10x10, .i32⟩
  | 77 => ⟨S4096x10x10, .i32⟩
  | 78 => ⟨S4096x10x10x1, .i32⟩
  | 79 => ⟨S4096x10x10, .f32⟩
  | 80 => ⟨S_, .i32⟩
  | 81 => ⟨S4096x10x10, .i32⟩
  | 82 => ⟨S4096x10x10, .i32⟩
  | 83 => ⟨S_, .i32⟩
  | 84 => ⟨S_, .i32⟩
  | 85 => ⟨S_, .i32⟩
  | 86 => ⟨S4096x10x10, .i32⟩
  | 87 => ⟨S4096x10x10, .i32⟩
  | 88 => ⟨S_, .i32⟩
  | 89 => ⟨S4096x10x10, .i32⟩
  | 90 => ⟨S4096x10x10, .i32⟩
  | 91 => ⟨S_, .i32⟩
  | 92 => ⟨S4096x10x10, .i32⟩
  | 93 => ⟨S4096x10x10, .i1⟩
  | 94 => ⟨S_, .i32⟩
  | 95 => ⟨S4096x10x10, .i32⟩
  | 96 => ⟨S4096x10x10, .i32⟩
  | 97 => ⟨S4096x10x10, .i32⟩
  | 98 => ⟨S4096x10x10x1, .i32⟩
  | 99 => ⟨S4096x10x10, .f32⟩
  | 100 => ⟨S4096x10x10, .f32⟩
  | 101 => ⟨S4096x10x10, .f32⟩
  | 102 => ⟨S4096x10x10, .f32⟩
  | 103 => ⟨S4096x10x1, .f32⟩
  | 104 => ⟨S4096x10x10, .f32⟩
  | 105 => ⟨S4096x1x10, .f32⟩
  | 106 => ⟨S4096x10x10, .f32⟩
  | 107 => ⟨S4096x10x10, .f32⟩
  | 108 => ⟨S4096x10x10, .f32⟩
  | 109 => ⟨S4096x10x1x10, .f32⟩
  | 110 => ⟨S4096x10x10x10, .f32⟩
  | 111 => ⟨S4096x10x1x10, .f32⟩
  | 112 => ⟨S4096x10x10x10, .f32⟩
  | 113 => ⟨S4096x10x10x10, .f32⟩
  | 114 => ⟨S4096x10x10x10, .f32⟩
  | 115 => ⟨S_, .f32⟩
  | 116 => ⟨S4096x10x10, .f32⟩
  | 117 => ⟨S4096x10x10, .f32⟩
  | 118 => ⟨S1x17, .f32⟩
  | 119 => ⟨S17, .f32⟩
  | 120 => ⟨S17, .f32⟩
  | 121 => ⟨S_, .f32⟩
  | 122 => ⟨S_, .f32⟩
  | 123 => ⟨S17, .f32⟩
  | 124 => ⟨S17, .f32⟩
  | 125 => ⟨S_, .f32⟩
  | 126 => ⟨S_, .f32⟩
  | 127 => ⟨S17, .f32⟩
  | _ => ⟨S4096x4x100, .f32⟩

abbrev hbmTy0_3 (i : Nat) : BufTy := match i % 128 with
  | 0 => ⟨S_, .f32⟩
  | 1 => ⟨S4096x10x10, .f32⟩
  | 2 => ⟨S4096x10x10, .f32⟩
  | 3 => ⟨S4096x10x10, .i32⟩
  | 4 => ⟨S_, .f32⟩
  | 5 => ⟨S4096x10x10, .f32⟩
  | 6 => ⟨S4096x10x10, .i1⟩
  | 7 => ⟨S4096x10x10, .f32⟩
  | 8 => ⟨S4096x10x10, .f32⟩
  | 9 => ⟨S4096x10x10, .f32⟩
  | 10 => ⟨S4096x10x10, .f32⟩
  | 11 => ⟨S_, .i32⟩
  | 12 => ⟨S_, .i32⟩
  | 13 => ⟨S_, .i32⟩
  | 14 => ⟨S4096x10x10, .i32⟩
  | 15 => ⟨S4096x10x10, .i32⟩
  | 16 => ⟨S_, .i32⟩
  | 17 => ⟨S4096x10x10, .i32⟩
  | 18 => ⟨S4096x10x10, .i32⟩
  | 19 => ⟨S_, .i32⟩
  | 20 => ⟨S4096x10x10, .i32⟩
  | 21 => ⟨S4096x10x10, .i1⟩
  | 22 => ⟨S_, .i32⟩
  | 23 => ⟨S4096x10x10, .i32⟩
  | 24 => ⟨S4096x10x10, .i32⟩
  | 25 => ⟨S4096x10x10, .i32⟩
  | 26 => ⟨S4096x10x10x1, .i32⟩
  | 27 => ⟨S4096x10x10, .f32⟩
  | 28 => ⟨S_, .i32⟩
  | 29 => ⟨S4096x10x10, .i32⟩
  | 30 => ⟨S4096x10x10, .i32⟩
  | 31 => ⟨S_, .i32⟩
  | 32 => ⟨S_, .i32⟩
  | 33 => ⟨S_, .i32⟩
  | 34 => ⟨S4096x10x10, .i32⟩
  | 35 => ⟨S4096x10x10, .i32⟩
  | 36 => ⟨S_, .i32⟩
  | 37 => ⟨S4096x10x10, .i32⟩
  | 38 => ⟨S4096x10x10, .i32⟩
  | 39 => ⟨S_, .i32⟩
  | 40 => ⟨S4096x10x10, .i32⟩
  | 41 => ⟨S4096x10x10, .i1⟩
  | 42 => ⟨S_, .i32⟩
  | 43 => ⟨S4096x10x10, .i32⟩
  | 44 => ⟨S4096x10x10, .i32⟩
  | 45 => ⟨S4096x10x10, .i32⟩
  | 46 => ⟨S4096x10x10x1, .i32⟩
  | 47 => ⟨S4096x10x10, .f32⟩
  | 48 => ⟨S4096x10x10, .f32⟩
  | 49 => ⟨S4096x10x10, .f32⟩
  | 50 => ⟨S_, .f32⟩
  | 51 => ⟨S4096x10x10x10, .f32⟩
  | 52 => ⟨S4096x10x10x10, .f32⟩
  | 53 => ⟨S1x17, .f32⟩
  | 54 => ⟨S17, .f32⟩
  | 55 => ⟨S17, .f32⟩
  | 56 => ⟨S_, .f32⟩
  | 57 => ⟨S_, .f32⟩
  | 58 => ⟨S17, .f32⟩
  | 59 => ⟨S17, .f32⟩
  | 60 => ⟨S_, .f32⟩
  | 61 => ⟨S_, .f32⟩
  | 62 => ⟨S17, .f32⟩
  | 63 => ⟨S_, .f32⟩
  | 64 => ⟨S4096x10x10x10, .f32⟩
  | 65 => ⟨S4096x10x10x10, .f32⟩
  | 66 => ⟨S4096x10x10x10, .i32⟩
  | 67 => ⟨S_, .f32⟩
  | 68 => ⟨S4096x10x10x10, .f32⟩
  | 69 => ⟨S4096x10x10x10, .i1⟩
  | 70 => ⟨S4096x10x10x10, .f32⟩
  | 71 => ⟨S4096x10x10x10, .f32⟩
  | 72 => ⟨S4096x10x10x10, .f32⟩
  | 73 => ⟨S4096x10x10x10, .f32⟩
  | 74 => ⟨S_, .i32⟩
  | 75 => ⟨S_, .i32⟩
  | 76 => ⟨S_, .i32⟩
  | 77 => ⟨S4096x10x10x10, .i32⟩
  | 78 => ⟨S4096x10x10x10, .i32⟩
  | 79 => ⟨S_, .i32⟩
  | 80 => ⟨S4096x10x10x10, .i32⟩
  | 81 => ⟨S4096x10x10x10, .i32⟩
  | 82 => ⟨S_, .i32⟩
  | 83 => ⟨S4096x10x10x10, .i32⟩
  | 84 => ⟨S4096x10x10x10, .i1⟩
  | 85 => ⟨S_, .i32⟩
  | 86 => ⟨S4096x10x10x10, .i32⟩
  | 87 => ⟨S4096x10x10x10, .i32⟩
  | 88 => ⟨S4096x10x10x10, .i32⟩
  | 89 => ⟨S4096x10x10x10x1, .i32⟩
  | 90 => ⟨S4096x10x10x10, .f32⟩
  | 91 => ⟨S_, .i32⟩
  | 92 => ⟨S4096x10x10x10, .i32⟩
  | 93 => ⟨S4096x10x10x10, .i32⟩
  | 94 => ⟨S_, .i32⟩
  | 95 => ⟨S_, .i32⟩
  | 96 => ⟨S_, .i32⟩
  | 97 => ⟨S4096x10x10x10, .i32⟩
  | 98 => ⟨S4096x10x10x10, .i32⟩
  | 99 => ⟨S_, .i32⟩
  | 100 => ⟨S4096x10x10x10, .i32⟩
  | 101 => ⟨S4096x10x10x10, .i32⟩
  | 102 => ⟨S_, .i32⟩
  | 103 => ⟨S4096x10x10x10, .i32⟩
  | 104 => ⟨S4096x10x10x10, .i1⟩
  | 105 => ⟨S_, .i32⟩
  | 106 => ⟨S4096x10x10x10, .i32⟩
  | 107 => ⟨S4096x10x10x10, .i32⟩
  | 108 => ⟨S4096x10x10x10, .i32⟩
  | 109 => ⟨S4096x10x10x10x1, .i32⟩
  | 110 => ⟨S4096x10x10x10, .f32⟩
  | 111 => ⟨S4096x10x10x10, .f32⟩
  | 112 => ⟨S4096x10x10x10, .f32⟩
  | 113 => ⟨S4096x1x10x10, .f32⟩
  | 114 => ⟨S4096x10x10, .f32⟩
  | 115 => ⟨S4096x1x10x10, .f32⟩
  | 116 => ⟨S4096x10x10, .f32⟩
  | 117 => ⟨S4096x10x10, .f32⟩
  | 118 => ⟨S4096x1x10x10, .f32⟩
  | 119 => ⟨S4096x10x10, .f32⟩
  | 120 => ⟨S4096x10x10, .f32⟩
  | 121 => ⟨S4096x1x10x10, .f32⟩
  | 122 => ⟨S4096x10x10, .f32⟩
  | 123 => ⟨S4096x10x10, .f32⟩
  | 124 => ⟨S4096x1x10x10, .f32⟩
  | 125 => ⟨S4096x10x10, .f32⟩
  | 126 => ⟨S4096x10x10, .f32⟩
  | 127 => ⟨S4096x1x10x10, .f32⟩
  | _ => ⟨S4096x4x100, .f32⟩

abbrev hbmTy0_4 (i : Nat) : BufTy := match i % 128 with
  | 0 => ⟨S4096x10x10, .f32⟩
  | 1 => ⟨S4096x10x10, .f32⟩
  | 2 => ⟨S4096x1x10x10, .f32⟩
  | 3 => ⟨S4096x10x10, .f32⟩
  | 4 => ⟨S4096x10x10, .f32⟩
  | 5 => ⟨S4096x1x10x10, .f32⟩
  | 6 => ⟨S4096x10x10, .f32⟩
  | 7 => ⟨S4096x10x10, .f32⟩
  | 8 => ⟨S4096x1x10x10, .f32⟩
  | 9 => ⟨S4096x10x10, .f32⟩
  | 10 => ⟨S4096x10x10, .f32⟩
  | 11 => ⟨S4096x1x10x10, .f32⟩
  | 12 => ⟨S4096x10x10, .f32⟩
  | 13 => ⟨S4096x10x10, .f32⟩
  | 14 => ⟨S4096x10x10, .f32⟩
  | 15 => ⟨S_, .f32⟩
  | 16 => ⟨S4096x10, .f32⟩
  | 17 => ⟨S4096x10x1, .f32⟩
  | 18 => ⟨S4096x1x10, .f32⟩
  | 19 => ⟨S4096x10x10, .f32⟩
  | 20 => ⟨S4096x10x10, .f32⟩
  | 21 => ⟨S4096x10x10, .f32⟩
  | 22 => ⟨S4096x10x10, .f32⟩
  | 23 => ⟨S4096x10, .f32⟩
  | 24 => ⟨S1x17, .f32⟩
  | 25 => ⟨S17, .f32⟩
  | 26 => ⟨S17, .f32⟩
  | 27 => ⟨S_, .f32⟩
  | 28 => ⟨S_, .f32⟩
  | 29 => ⟨S17, .f32⟩
  | 30 => ⟨S17, .f32⟩
  | 31 => ⟨S_, .f32⟩
  | 32 => ⟨S_, .f32⟩
  | 33 => ⟨S17, .f32⟩
  | 34 => ⟨S_, .f32⟩
  | 35 => ⟨S4096x10, .f32⟩
  | 36 => ⟨S4096x10, .f32⟩
  | 37 => ⟨S4096x10, .i32⟩
  | 38 => ⟨S_, .f32⟩
  | 39 => ⟨S4096x10, .f32⟩
  | 40 => ⟨S4096x10, .i1⟩
  | 41 => ⟨S4096x10, .f32⟩
  | 42 => ⟨S4096x10, .f32⟩
  | 43 => ⟨S4096x10, .f32⟩
  | 44 => ⟨S4096x10, .f32⟩
  | 45 => ⟨S_, .i32⟩
  | 46 => ⟨S_, .i32⟩
  | 47 => ⟨S_, .i32⟩
  | 48 => ⟨S4096x10, .i32⟩
  | 49 => ⟨S4096x10, .i32⟩
  | 50 => ⟨S_, .i32⟩
  | 51 => ⟨S4096x10, .i32⟩
  | 52 => ⟨S4096x10, .i32⟩
  | 53 => ⟨S_, .i32⟩
  | 54 => ⟨S4096x10, .i32⟩
  | 55 => ⟨S4096x10, .i1⟩
  | 56 => ⟨S_, .i32⟩
  | 57 => ⟨S4096x10, .i32⟩
  | 58 => ⟨S4096x10, .i32⟩
  | 59 => ⟨S4096x10, .i32⟩
  | 60 => ⟨S4096x10x1, .i32⟩
  | 61 => ⟨S4096x10, .f32⟩
  | 62 => ⟨S_, .i32⟩
  | 63 => ⟨S4096x10, .i32⟩
  | 64 => ⟨S4096x10, .i32⟩
  | 65 => ⟨S_, .i32⟩
  | 66 => ⟨S_, .i32⟩
  | 67 => ⟨S_, .i32⟩
  | 68 => ⟨S4096x10, .i32⟩
  | 69 => ⟨S4096x10, .i32⟩
  | 70 => ⟨S_, .i32⟩
  | 71 => ⟨S4096x10, .i32⟩
  | 72 => ⟨S4096x10, .i32⟩
  | 73 => ⟨S_, .i32⟩
  | 74 => ⟨S4096x10, .i32⟩
  | 75 => ⟨S4096x10, .i1⟩
  | 76 => ⟨S_, .i32⟩
  | 77 => ⟨S4096x10, .i32⟩
  | 78 => ⟨S4096x10, .i32⟩
  | 79 => ⟨S4096x10, .i32⟩
  | 80 => ⟨S4096x10x1, .i32⟩
  | 81 => ⟨S4096x10, .f32⟩
  | 82 => ⟨S4096x10, .f32⟩
  | 83 => ⟨S4096x10, .f32⟩
  | 84 => ⟨S4096x10, .f32⟩
  | 85 => ⟨S_, .f32⟩
  | 86 => ⟨S4096x10, .f32⟩
  | 87 => ⟨S_, .f32⟩
  | 88 => ⟨S4096, .f32⟩
  | 89 => ⟨S4096x1, .f32⟩
  | 90 => ⟨S_, .f32⟩
  | 91 => ⟨S4096, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x1, .f32⟩
  | 98 => ⟨S_, .i32⟩
  | 99 => ⟨S_, .i32⟩
  | 100 => ⟨S_, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x1, .i32⟩
  | 107 => ⟨S_, .f32⟩
  | 108 => ⟨S4096x1, .f32⟩
  | 109 => ⟨S4096x1, .i1⟩
  | 110 => ⟨S4096x1, .f32⟩
  | 111 => ⟨S4096x1, .f32⟩
  | 112 => ⟨S4096x1, .f32⟩
  | 113 => ⟨S4096x1, .f32⟩
  | 114 => ⟨S4096, .i32⟩
  | 115 => ⟨S4096x1, .i32⟩
  | 116 => ⟨S_, .f32⟩
  | 117 => ⟨S4096x11, .f32⟩
  | 118 => ⟨S_, .i32⟩
  | 119 => ⟨S_, .i32⟩
  | 120 => ⟨S_, .i32⟩
  | 121 => ⟨S4096x1, .i32⟩
  | 122 => ⟨S4096x1, .i32⟩
  | 123 => ⟨S_, .i32⟩
  | 124 => ⟨S4096x1, .i32⟩
  | 125 => ⟨S4096x1, .i32⟩
  | 126 => ⟨S_, .i32⟩
  | 127 => ⟨S4096x1, .i32⟩
  | _ => ⟨S4096x4x100, .f32⟩

abbrev hbmTy0_5 (i : Nat) : BufTy := match i % 128 with
  | 0 => ⟨S4096x1, .i1⟩
  | 1 => ⟨S_, .i32⟩
  | 2 => ⟨S4096x1, .i32⟩
  | 3 => ⟨S4096x1, .i32⟩
  | 4 => ⟨S4096x1, .i32⟩
  | 5 => ⟨S_, .i32⟩
  | 6 => ⟨S4096x1, .i32⟩
  | 7 => ⟨S4096x1, .i1⟩
  | 8 => ⟨S_, .i32⟩
  | 9 => ⟨S4096x1, .i32⟩
  | 10 => ⟨S4096x1, .i32⟩
  | 11 => ⟨S4096x1, .i32⟩
  | 12 => ⟨S4096x1x1, .i32⟩
  | 13 => ⟨S4096x1x1, .i32⟩
  | 14 => ⟨S4096x1x2, .i32⟩
  | 15 => ⟨S_, .f32⟩
  | 16 => ⟨S4096x1, .f32⟩
  | 17 => ⟨S4096x11, .f32⟩
  | 18 => ⟨S_, .f32⟩
  | 19 => ⟨S4096x11, .f32⟩
  | 20 => ⟨S_, .i32⟩
  | 21 => ⟨S4096x1, .i32⟩
  | 22 => ⟨S4096x1, .i32⟩
  | 23 => ⟨S_, .i32⟩
  | 24 => ⟨S_, .i32⟩
  | 25 => ⟨S_, .i32⟩
  | 26 => ⟨S4096x1, .i32⟩
  | 27 => ⟨S4096x1, .i32⟩
  | 28 => ⟨S_, .i32⟩
  | 29 => ⟨S4096x1, .i32⟩
  | 30 => ⟨S4096x1, .i32⟩
  | 31 => ⟨S_, .i32⟩
  | 32 => ⟨S4096x1, .i32⟩
  | 33 => ⟨S4096x1, .i1⟩
  | 34 => ⟨S_, .i32⟩
  | 35 => ⟨S4096x1, .i32⟩
  | 36 => ⟨S4096x1, .i32⟩
  | 37 => ⟨S4096x1, .i32⟩
  | 38 => ⟨S_, .i32⟩
  | 39 => ⟨S4096x1, .i32⟩
  | 40 => ⟨S4096x1, .i1⟩
  | 41 => ⟨S_, .i32⟩
  | 42 => ⟨S4096x1, .i32⟩
  | 43 => ⟨S4096x1, .i32⟩
  | 44 => ⟨S4096x1, .i32⟩
  | 45 => ⟨S4096x1x1, .i32⟩
  | 46 => ⟨S4096x1x1, .i32⟩
  | 47 => ⟨S4096x1x2, .i32⟩
  | 48 => ⟨S_, .f32⟩
  | 49 => ⟨S4096x1, .f32⟩
  | 50 => ⟨S4096x11, .f32⟩
  | 51 => ⟨S_, .f32⟩
  | 52 => ⟨S4096x1, .f32⟩
  | 53 => ⟨S4096x1, .f32⟩
  | 54 => ⟨S4096x11, .f32⟩
  | 55 => ⟨S4096x11, .f32⟩
  | 56 => ⟨S4096x11, .f32⟩
  | 57 => ⟨S4096x11, .f32⟩
  | 58 => ⟨S4096x11, .f32⟩
  | 59 => ⟨S1x17, .f32⟩
  | 60 => ⟨S17, .f32⟩
  | 61 => ⟨S17, .f32⟩
  | 62 => ⟨S_, .f32⟩
  | 63 => ⟨S_, .f32⟩
  | 64 => ⟨S17, .f32⟩
  | 65 => ⟨S17, .f32⟩
  | 66 => ⟨S_, .f32⟩
  | 67 => ⟨S_, .f32⟩
  | 68 => ⟨S17, .f32⟩
  | 69 => ⟨S_, .f32⟩
  | 70 => ⟨S4096x10, .f32⟩
  | 71 => ⟨S4096x10, .f32⟩
  | 72 => ⟨S4096x10, .i32⟩
  | 73 => ⟨S_, .f32⟩
  | 74 => ⟨S4096x10, .f32⟩
  | 75 => ⟨S4096x10, .i1⟩
  | 76 => ⟨S4096x10, .f32⟩
  | 77 => ⟨S4096x10, .f32⟩
  | 78 => ⟨S4096x10, .f32⟩
  | 79 => ⟨S4096x10, .f32⟩
  | 80 => ⟨S_, .i32⟩
  | 81 => ⟨S_, .i32⟩
  | 82 => ⟨S_, .i32⟩
  | 83 => ⟨S4096x10, .i32⟩
  | 84 => ⟨S4096x10, .i32⟩
  | 85 => ⟨S_, .i32⟩
  | 86 => ⟨S4096x10, .i32⟩
  | 87 => ⟨S4096x10, .i32⟩
  | 88 => ⟨S_, .i32⟩
  | 89 => ⟨S4096x10, .i32⟩
  | 90 => ⟨S4096x10, .i1⟩
  | 91 => ⟨S_, .i32⟩
  | 92 => ⟨S4096x10, .i32⟩
  | 93 => ⟨S4096x10, .i32⟩
  | 94 => ⟨S4096x10, .i32⟩
  | 95 => ⟨S4096x10x1, .i32⟩
  | 96 => ⟨S4096x10, .f32⟩
  | 97 => ⟨S_, .i32⟩
  | 98 => ⟨S4096x10, .i32⟩
  | 99 => ⟨S4096x10, .i32⟩
  | 100 => ⟨S_, .i32⟩
  | 101 => ⟨S_, .i32⟩
  | 102 => ⟨S_, .i32⟩
  | 103 => ⟨S4096x10, .i32⟩
  | 104 => ⟨S4096x10, .i32⟩
  | 105 => ⟨S_, .i32⟩
  | 106 => ⟨S4096x10, .i32⟩
  | 107 => ⟨S4096x10, .i32⟩
  | 108 => ⟨S_, .i32⟩
  | 109 => ⟨S4096x10, .i32⟩
  | 110 => ⟨S4096x10, .i1⟩
  | 111 => ⟨S_, .i32⟩
  | 112 => ⟨S4096x10, .i32⟩
  | 113 => ⟨S4096x10, .i32⟩
  | 114 => ⟨S4096x10, .i32⟩
  | 115 => ⟨S4096x10x1, .i32⟩
  | 116 => ⟨S4096x10, .f32⟩
  | 117 => ⟨S4096x10, .f32⟩
  | 118 => ⟨S4096x10, .f32⟩
  | 119 => ⟨S_, .f32⟩
  | 120 => ⟨S4096x10, .f32⟩
  | 121 => ⟨S4096x10, .f32⟩
  | 122 => ⟨S4096x10, .f32⟩
  | 123 => ⟨S1x17, .f32⟩
  | 124 => ⟨S17, .f32⟩
  | 125 => ⟨S17, .f32⟩
  | 126 => ⟨S_, .f32⟩
  | 127 => ⟨S_, .f32⟩
  | _ => ⟨S4096x4x100, .f32⟩

abbrev hbmTy0_6 (i : Nat) : BufTy := match i % 128 with
  | 0 => ⟨S17, .f32⟩
  | 1 => ⟨S17, .f32⟩
  | 2 => ⟨S_, .f32⟩
  | 3 => ⟨S_, .f32⟩
  | 4 => ⟨S17, .f32⟩
  | 5 => ⟨S_, .f32⟩
  | 6 => ⟨S4096x10x10, .f32⟩
  | 7 => ⟨S4096x10x10, .f32⟩
  | 8 => ⟨S4096x10x10, .i32⟩
  | 9 => ⟨S_, .f32⟩
  | 10 => ⟨S4096x10x10, .f32⟩
  | 11 => ⟨S4096x10x10, .i1⟩
  | 12 => ⟨S4096x10x10, .f32⟩
  | 13 => ⟨S4096x10x10, .f32⟩
  | 14 => ⟨S4096x10x10, .f32⟩
  | 15 => ⟨S4096x10x10, .f32⟩
  | 16 => ⟨S_, .i32⟩
  | 17 => ⟨S_, .i32⟩
  | 18 => ⟨S_, .i32⟩
  | 19 => ⟨S4096x10x10, .i32⟩
  | 20 => ⟨S4096x10x10, .i32⟩
  | 21 => ⟨S_, .i32⟩
  | 22 => ⟨S4096x10x10, .i32⟩
  | 23 => ⟨S4096x10x10, .i32⟩
  | 24 => ⟨S_, .i32⟩
  | 25 => ⟨S4096x10x10, .i32⟩
  | 26 => ⟨S4096x10x10, .i1⟩
  | 27 => ⟨S_, .i32⟩
  | 28 => ⟨S4096x10x10, .i32⟩
  | 29 => ⟨S4096x10x10, .i32⟩
  | 30 => ⟨S4096x10x10, .i32⟩
  | 31 => ⟨S4096x10x10x1, .i32⟩
  | 32 => ⟨S4096x10x10, .f32⟩
  | 33 => ⟨S_, .i32⟩
  | 34 => ⟨S4096x10x10, .i32⟩
  | 35 => ⟨S4096x10x10, .i32⟩
  | 36 => ⟨S_, .i32⟩
  | 37 => ⟨S_, .i32⟩
  | 38 => ⟨S_, .i32⟩
  | 39 => ⟨S4096x10x10, .i32⟩
  | 40 => ⟨S4096x10x10, .i32⟩
  | 41 => ⟨S_, .i32⟩
  | 42 => ⟨S4096x10x10, .i32⟩
  | 43 => ⟨S4096x10x10, .i32⟩
  | 44 => ⟨S_, .i32⟩
  | 45 => ⟨S4096x10x10, .i32⟩
  | 46 => ⟨S4096x10x10, .i1⟩
  | 47 => ⟨S_, .i32⟩
  | 48 => ⟨S4096x10x10, .i32⟩
  | 49 => ⟨S4096x10x10, .i32⟩
  | 50 => ⟨S4096x10x10, .i32⟩
  | 51 => ⟨S4096x10x10x1, .i32⟩
  | 52 => ⟨S4096x10x10, .f32⟩
  | 53 => ⟨S4096x10x10, .f32⟩
  | 54 => ⟨S4096x10x10, .f32⟩
  | 55 => ⟨S_, .f32⟩
  | 56 => ⟨S4096x10x10, .f32⟩
  | 57 => ⟨S4096x10x10, .f32⟩
  | 58 => ⟨S4096x10x10, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096x10, .f32⟩
  | 67 => ⟨S_, .f32⟩
  | 68 => ⟨S4096x10, .f32⟩
  | 69 => ⟨S4096x10, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S1x17, .f32⟩
  | 78 => ⟨S17, .f32⟩
  | 79 => ⟨S17, .f32⟩
  | 80 => ⟨S_, .f32⟩
  | 81 => ⟨S_, .f32⟩
  | 82 => ⟨S17, .f32⟩
  | 83 => ⟨S17, .f32⟩
  | 84 => ⟨S_, .f32⟩
  | 85 => ⟨S_, .f32⟩
  | 86 => ⟨S17, .f32⟩
  | 87 => ⟨S_, .f32⟩
  | 88 => ⟨S4096x1, .f32⟩
  | 89 => ⟨S4096x1, .f32⟩
  | 90 => ⟨S4096x1, .i32⟩
  | 91 => ⟨S_, .f32⟩
  | 92 => ⟨S4096x1, .f32⟩
  | 93 => ⟨S4096x1, .i1⟩
  | 94 => ⟨S4096x1, .f32⟩
  | 95 => ⟨S4096x1, .f32⟩
  | 96 => ⟨S4096x1, .f32⟩
  | 97 => ⟨S4096x1, .f32⟩
  | 98 => ⟨S_, .i32⟩
  | 99 => ⟨S_, .i32⟩
  | 100 => ⟨S_, .i32⟩
  | 101 => ⟨S4096x1, .i32⟩
  | 102 => ⟨S4096x1, .i32⟩
  | 103 => ⟨S_, .i32⟩
  | 104 => ⟨S4096x1, .i32⟩
  | 105 => ⟨S4096x1, .i32⟩
  | 106 => ⟨S_, .i32⟩
  | 107 => ⟨S4096x1, .i32⟩
  | 108 => ⟨S4096x1, .i1⟩
  | 109 => ⟨S_, .i32⟩
  | 110 => ⟨S4096x1, .i32⟩
  | 111 => ⟨S4096x1, .i32⟩
  | 112 => ⟨S4096x1, .i32⟩
  | 113 => ⟨S4096x1x1, .i32⟩
  | 114 => ⟨S4096x1, .f32⟩
  | 115 => ⟨S_, .i32⟩
  | 116 => ⟨S4096x1, .i32⟩
  | 117 => ⟨S4096x1, .i32⟩
  | 118 => ⟨S_, .i32⟩
  | 119 => ⟨S_, .i32⟩
  | 120 => ⟨S_, .i32⟩
  | 121 => ⟨S4096x1, .i32⟩
  | 122 => ⟨S4096x1, .i32⟩
  | 123 => ⟨S_, .i32⟩
  | 124 => ⟨S4096x1, .i32⟩
  | 125 => ⟨S4096x1, .i32⟩
  | 126 => ⟨S_, .i32⟩
  | 127 => ⟨S4096x1, .i32⟩
  | _ => ⟨S4096x4x100, .f32⟩

abbrev hbmTy0_7 (i : Nat) : BufTy := match i % 128 with
  | 0 => ⟨S4096x1, .i1⟩
  | 1 => ⟨S_, .i32⟩
  | 2 => ⟨S4096x1, .i32⟩
  | 3 => ⟨S4096x1, .i32⟩
  | 4 => ⟨S4096x1, .i32⟩
  | 5 => ⟨S4096x1x1, .i32⟩
  | 6 => ⟨S4096x1, .f32⟩
  | 7 => ⟨S4096x1, .f32⟩
  | 8 => ⟨S4096x1, .f32⟩
  | 9 => ⟨S4096x11, .f32⟩
  | 10 => ⟨S4096x11, .f32⟩
  | _ => ⟨S4096x4x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x4x100, .f32⟩

abbrev bufTy : (tb : Table) → Fin (tcTables nBuf tb) → BufTy
  | .hbm, ⟨i, _⟩ => hbmTy i
  | _, _ => ⟨S4096x4x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c : Ref sig .tc := ⟨.hbm, 57, rfl⟩
abbrev main_call1_v0 : Ref sig .tc := ⟨.hbm, 58, rfl⟩
abbrev main_call1_v1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_1 : Ref sig .tc := ⟨.hbm, 71, rfl⟩
abbrev main_call2_v0 : Ref sig .tc := ⟨.hbm, 72, rfl⟩
abbrev main_call2_v1 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_2 : Ref sig .tc := ⟨.hbm, 80, rfl⟩
abbrev main_call3_v0 : Ref sig .tc := ⟨.hbm, 81, rfl⟩
abbrev main_call3_v1 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_3 : Ref sig .tc := ⟨.hbm, 91, rfl⟩
abbrev main_call4_v0 : Ref sig .tc := ⟨.hbm, 92, rfl⟩
abbrev main_call4_v1 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_4 : Ref sig .tc := ⟨.hbm, 100, rfl⟩
abbrev main_call5_v0 : Ref sig .tc := ⟨.hbm, 101, rfl⟩
abbrev main_call5_v1 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_5 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_6 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_7 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call6_call0_cst : Ref sig .tc := ⟨.hbm, 124, rfl⟩
abbrev main_call6_call0_v0 : Ref sig .tc := ⟨.hbm, 125, rfl⟩
abbrev main_v77 : Ref sig .tc := ⟨.hbm, 126, rfl⟩
abbrev main_cst_8 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_call7_cst : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_v81 : Ref sig .tc := ⟨.hbm, 136, rfl⟩
abbrev main_v82 : Ref sig .tc := ⟨.hbm, 137, rfl⟩
abbrev main_c_9 : Ref sig .tc := ⟨.hbm, 138, rfl⟩
abbrev main_c_10 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_v83 : Ref sig .tc := ⟨.hbm, 145, rfl⟩
abbrev main_c_11 : Ref sig .tc := ⟨.hbm, 146, rfl⟩
abbrev main_v84 : Ref sig .tc := ⟨.hbm, 147, rfl⟩
abbrev main_v85 : Ref sig .tc := ⟨.hbm, 148, rfl⟩
abbrev main_c_12 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_c_13 : Ref sig .tc := ⟨.hbm, 155, rfl⟩
abbrev main_v91 : Ref sig .tc := ⟨.hbm, 156, rfl⟩
abbrev main_v92 : Ref sig .tc := ⟨.hbm, 157, rfl⟩
abbrev main_c_14 : Ref sig .tc := ⟨.hbm, 158, rfl⟩
abbrev main_c_15 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_call9_v3 : Ref sig .tc := ⟨.hbm, 163, rfl⟩
abbrev main_call9_v4 : Ref sig .tc := ⟨.hbm, 164, rfl⟩
abbrev main_v93 : Ref sig .tc := ⟨.hbm, 165, rfl⟩
abbrev main_c_16 : Ref sig .tc := ⟨.hbm, 166, rfl⟩
abbrev main_v94 : Ref sig .tc := ⟨.hbm, 167, rfl⟩
abbrev main_v95 : Ref sig .tc := ⟨.hbm, 168, rfl⟩
abbrev main_c_17 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_18 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_call10_call0_cst : Ref sig .tc := ⟨.hbm, 184, rfl⟩
abbrev main_call10_call0_v0 : Ref sig .tc := ⟨.hbm, 185, rfl⟩
abbrev main_v109 : Ref sig .tc := ⟨.hbm, 186, rfl⟩
abbrev main_cst_19 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_call11_cst : Ref sig .tc := ⟨.hbm, 191, rfl⟩
abbrev main_call11_v0 : Ref sig .tc := ⟨.hbm, 192, rfl⟩
abbrev main_call11_v1 : Ref sig .tc := ⟨.hbm, 193, rfl⟩
abbrev main_call11_v2 : Ref sig .tc := ⟨.hbm, 194, rfl⟩
abbrev main_call11_v3 : Ref sig .tc := ⟨.hbm, 195, rfl⟩
abbrev main_v113 : Ref sig .tc := ⟨.hbm, 196, rfl⟩
abbrev main_v114 : Ref sig .tc := ⟨.hbm, 197, rfl⟩
abbrev main_c_20 : Ref sig .tc := ⟨.hbm, 198, rfl⟩
abbrev main_c_21 : Ref sig .tc := ⟨.hbm, 199, rfl⟩
abbrev main_call12_v0 : Ref sig .tc := ⟨.hbm, 200, rfl⟩
abbrev main_call12_v1 : Ref sig .tc := ⟨.hbm, 201, rfl⟩
abbrev main_call12_v2 : Ref sig .tc := ⟨.hbm, 202, rfl⟩
abbrev main_call12_v3 : Ref sig .tc := ⟨.hbm, 203, rfl⟩
abbrev main_call12_v4 : Ref sig .tc := ⟨.hbm, 204, rfl⟩
abbrev main_v115 : Ref sig .tc := ⟨.hbm, 205, rfl⟩
abbrev main_c_22 : Ref sig .tc := ⟨.hbm, 206, rfl⟩
abbrev main_v116 : Ref sig .tc := ⟨.hbm, 207, rfl⟩
abbrev main_v117 : Ref sig .tc := ⟨.hbm, 208, rfl⟩
abbrev main_c_23 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_c_24 : Ref sig .tc := ⟨.hbm, 215, rfl⟩
abbrev main_v123 : Ref sig .tc := ⟨.hbm, 216, rfl⟩
abbrev main_v124 : Ref sig .tc := ⟨.hbm, 217, rfl⟩
abbrev main_c_25 : Ref sig .tc := ⟨.hbm, 218, rfl⟩
abbrev main_c_26 : Ref sig .tc := ⟨.hbm, 219, rfl⟩
abbrev main_call13_v0 : Ref sig .tc := ⟨.hbm, 220, rfl⟩
abbrev main_call13_v1 : Ref sig .tc := ⟨.hbm, 221, rfl⟩
abbrev main_call13_v2 : Ref sig .tc := ⟨.hbm, 222, rfl⟩
abbrev main_call13_v3 : Ref sig .tc := ⟨.hbm, 223, rfl⟩
abbrev main_call13_v4 : Ref sig .tc := ⟨.hbm, 224, rfl⟩
abbrev main_v125 : Ref sig .tc := ⟨.hbm, 225, rfl⟩
abbrev main_c_27 : Ref sig .tc := ⟨.hbm, 226, rfl⟩
abbrev main_v126 : Ref sig .tc := ⟨.hbm, 227, rfl⟩
abbrev main_v127 : Ref sig .tc := ⟨.hbm, 228, rfl⟩
abbrev main_c_28 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_cst_29 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_call14_call0_cst : Ref sig .tc := ⟨.hbm, 245, rfl⟩
abbrev main_call14_call0_v0 : Ref sig .tc := ⟨.hbm, 246, rfl⟩
abbrev main_v142 : Ref sig .tc := ⟨.hbm, 247, rfl⟩
abbrev main_cst_30 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_call15_cst : Ref sig .tc := ⟨.hbm, 252, rfl⟩
abbrev main_call15_v0 : Ref sig .tc := ⟨.hbm, 253, rfl⟩
abbrev main_call15_v1 : Ref sig .tc := ⟨.hbm, 254, rfl⟩
abbrev main_call15_v2 : Ref sig .tc := ⟨.hbm, 255, rfl⟩
abbrev main_call15_v3 : Ref sig .tc := ⟨.hbm, 256, rfl⟩
abbrev main_v146 : Ref sig .tc := ⟨.hbm, 257, rfl⟩
abbrev main_v147 : Ref sig .tc := ⟨.hbm, 258, rfl⟩
abbrev main_c_31 : Ref sig .tc := ⟨.hbm, 259, rfl⟩
abbrev main_c_32 : Ref sig .tc := ⟨.hbm, 260, rfl⟩
abbrev main_call16_v0 : Ref sig .tc := ⟨.hbm, 261, rfl⟩
abbrev main_call16_v1 : Ref sig .tc := ⟨.hbm, 262, rfl⟩
abbrev main_call16_v2 : Ref sig .tc := ⟨.hbm, 263, rfl⟩
abbrev main_call16_v3 : Ref sig .tc := ⟨.hbm, 264, rfl⟩
abbrev main_call16_v4 : Ref sig .tc := ⟨.hbm, 265, rfl⟩
abbrev main_v148 : Ref sig .tc := ⟨.hbm, 266, rfl⟩
abbrev main_c_33 : Ref sig .tc := ⟨.hbm, 267, rfl⟩
abbrev main_v149 : Ref sig .tc := ⟨.hbm, 268, rfl⟩
abbrev main_v150 : Ref sig .tc := ⟨.hbm, 269, rfl⟩
abbrev main_c_34 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_c_35 : Ref sig .tc := ⟨.hbm, 276, rfl⟩
abbrev main_v156 : Ref sig .tc := ⟨.hbm, 277, rfl⟩
abbrev main_v157 : Ref sig .tc := ⟨.hbm, 278, rfl⟩
abbrev main_c_36 : Ref sig .tc := ⟨.hbm, 279, rfl⟩
abbrev main_c_37 : Ref sig .tc := ⟨.hbm, 280, rfl⟩
abbrev main_call17_v0 : Ref sig .tc := ⟨.hbm, 281, rfl⟩
abbrev main_call17_v1 : Ref sig .tc := ⟨.hbm, 282, rfl⟩
abbrev main_call17_v2 : Ref sig .tc := ⟨.hbm, 283, rfl⟩
abbrev main_call17_v3 : Ref sig .tc := ⟨.hbm, 284, rfl⟩
abbrev main_call17_v4 : Ref sig .tc := ⟨.hbm, 285, rfl⟩
abbrev main_v158 : Ref sig .tc := ⟨.hbm, 286, rfl⟩
abbrev main_c_38 : Ref sig .tc := ⟨.hbm, 287, rfl⟩
abbrev main_v159 : Ref sig .tc := ⟨.hbm, 288, rfl⟩
abbrev main_v160 : Ref sig .tc := ⟨.hbm, 289, rfl⟩
abbrev main_c_39 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_cst_40 : Ref sig .tc := ⟨.hbm, 301, rfl⟩
abbrev main_v171 : Ref sig .tc := ⟨.hbm, 302, rfl⟩
abbrev main_v172 : Ref sig .tc := ⟨.hbm, 303, rfl⟩
abbrev main_v173 : Ref sig .tc := ⟨.hbm, 304, rfl⟩
abbrev main_call18_call0_cst : Ref sig .tc := ⟨.hbm, 305, rfl⟩
abbrev main_call18_call0_v0 : Ref sig .tc := ⟨.hbm, 306, rfl⟩
abbrev main_v174 : Ref sig .tc := ⟨.hbm, 307, rfl⟩
abbrev main_cst_41 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_call19_cst : Ref sig .tc := ⟨.hbm, 312, rfl⟩
abbrev main_call19_v0 : Ref sig .tc := ⟨.hbm, 313, rfl⟩
abbrev main_call19_v1 : Ref sig .tc := ⟨.hbm, 314, rfl⟩
abbrev main_call19_v2 : Ref sig .tc := ⟨.hbm, 315, rfl⟩
abbrev main_call19_v3 : Ref sig .tc := ⟨.hbm, 316, rfl⟩
abbrev main_v178 : Ref sig .tc := ⟨.hbm, 317, rfl⟩
abbrev main_v179 : Ref sig .tc := ⟨.hbm, 318, rfl⟩
abbrev main_c_42 : Ref sig .tc := ⟨.hbm, 319, rfl⟩
abbrev main_c_43 : Ref sig .tc := ⟨.hbm, 320, rfl⟩
abbrev main_call20_v0 : Ref sig .tc := ⟨.hbm, 321, rfl⟩
abbrev main_call20_v1 : Ref sig .tc := ⟨.hbm, 322, rfl⟩
abbrev main_call20_v2 : Ref sig .tc := ⟨.hbm, 323, rfl⟩
abbrev main_call20_v3 : Ref sig .tc := ⟨.hbm, 324, rfl⟩
abbrev main_call20_v4 : Ref sig .tc := ⟨.hbm, 325, rfl⟩
abbrev main_v180 : Ref sig .tc := ⟨.hbm, 326, rfl⟩
abbrev main_c_44 : Ref sig .tc := ⟨.hbm, 327, rfl⟩
abbrev main_v181 : Ref sig .tc := ⟨.hbm, 328, rfl⟩
abbrev main_v182 : Ref sig .tc := ⟨.hbm, 329, rfl⟩
abbrev main_c_45 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_c_46 : Ref sig .tc := ⟨.hbm, 336, rfl⟩
abbrev main_v188 : Ref sig .tc := ⟨.hbm, 337, rfl⟩
abbrev main_v189 : Ref sig .tc := ⟨.hbm, 338, rfl⟩
abbrev main_c_47 : Ref sig .tc := ⟨.hbm, 339, rfl⟩
abbrev main_c_48 : Ref sig .tc := ⟨.hbm, 340, rfl⟩
abbrev main_call21_v0 : Ref sig .tc := ⟨.hbm, 341, rfl⟩
abbrev main_call21_v1 : Ref sig .tc := ⟨.hbm, 342, rfl⟩
abbrev main_call21_v2 : Ref sig .tc := ⟨.hbm, 343, rfl⟩
abbrev main_call21_v3 : Ref sig .tc := ⟨.hbm, 344, rfl⟩
abbrev main_call21_v4 : Ref sig .tc := ⟨.hbm, 345, rfl⟩
abbrev main_v190 : Ref sig .tc := ⟨.hbm, 346, rfl⟩
abbrev main_c_49 : Ref sig .tc := ⟨.hbm, 347, rfl⟩
abbrev main_v191 : Ref sig .tc := ⟨.hbm, 348, rfl⟩
abbrev main_v192 : Ref sig .tc := ⟨.hbm, 349, rfl⟩
abbrev main_c_50 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_v207 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩
abbrev main_v211 : Ref sig .tc := ⟨.hbm, 369, rfl⟩
abbrev main_v212 : Ref sig .tc := ⟨.hbm, 370, rfl⟩
abbrev main_cst_51 : Ref sig .tc := ⟨.hbm, 371, rfl⟩
abbrev main_v213 : Ref sig .tc := ⟨.hbm, 372, rfl⟩
abbrev main_v214 : Ref sig .tc := ⟨.hbm, 373, rfl⟩
abbrev main_v215 : Ref sig .tc := ⟨.hbm, 374, rfl⟩
abbrev main_v216 : Ref sig .tc := ⟨.hbm, 375, rfl⟩
abbrev main_v217 : Ref sig .tc := ⟨.hbm, 376, rfl⟩
abbrev main_cst_52 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_call22_call0_cst : Ref sig .tc := ⟨.hbm, 381, rfl⟩
abbrev main_call22_call0_v0 : Ref sig .tc := ⟨.hbm, 382, rfl⟩
abbrev main_v221 : Ref sig .tc := ⟨.hbm, 383, rfl⟩
abbrev main_cst_53 : Ref sig .tc := ⟨.hbm, 384, rfl⟩
abbrev main_v222 : Ref sig .tc := ⟨.hbm, 385, rfl⟩
abbrev main_v223 : Ref sig .tc := ⟨.hbm, 386, rfl⟩
abbrev main_v224 : Ref sig .tc := ⟨.hbm, 387, rfl⟩
abbrev main_call23_cst : Ref sig .tc := ⟨.hbm, 388, rfl⟩
abbrev main_call23_v0 : Ref sig .tc := ⟨.hbm, 389, rfl⟩
abbrev main_call23_v1 : Ref sig .tc := ⟨.hbm, 390, rfl⟩
abbrev main_call23_v2 : Ref sig .tc := ⟨.hbm, 391, rfl⟩
abbrev main_call23_v3 : Ref sig .tc := ⟨.hbm, 392, rfl⟩
abbrev main_v225 : Ref sig .tc := ⟨.hbm, 393, rfl⟩
abbrev main_v226 : Ref sig .tc := ⟨.hbm, 394, rfl⟩
abbrev main_c_54 : Ref sig .tc := ⟨.hbm, 395, rfl⟩
abbrev main_c_55 : Ref sig .tc := ⟨.hbm, 396, rfl⟩
abbrev main_call24_v0 : Ref sig .tc := ⟨.hbm, 397, rfl⟩
abbrev main_call24_v1 : Ref sig .tc := ⟨.hbm, 398, rfl⟩
abbrev main_call24_v2 : Ref sig .tc := ⟨.hbm, 399, rfl⟩
abbrev main_call24_v3 : Ref sig .tc := ⟨.hbm, 400, rfl⟩
abbrev main_call24_v4 : Ref sig .tc := ⟨.hbm, 401, rfl⟩
abbrev main_v227 : Ref sig .tc := ⟨.hbm, 402, rfl⟩
abbrev main_c_56 : Ref sig .tc := ⟨.hbm, 403, rfl⟩
abbrev main_v228 : Ref sig .tc := ⟨.hbm, 404, rfl⟩
abbrev main_v229 : Ref sig .tc := ⟨.hbm, 405, rfl⟩
abbrev main_c_57 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_v233 : Ref sig .tc := ⟨.hbm, 410, rfl⟩
abbrev main_v234 : Ref sig .tc := ⟨.hbm, 411, rfl⟩
abbrev main_c_58 : Ref sig .tc := ⟨.hbm, 412, rfl⟩
abbrev main_v235 : Ref sig .tc := ⟨.hbm, 413, rfl⟩
abbrev main_v236 : Ref sig .tc := ⟨.hbm, 414, rfl⟩
abbrev main_c_59 : Ref sig .tc := ⟨.hbm, 415, rfl⟩
abbrev main_c_60 : Ref sig .tc := ⟨.hbm, 416, rfl⟩
abbrev main_call25_v0 : Ref sig .tc := ⟨.hbm, 417, rfl⟩
abbrev main_call25_v1 : Ref sig .tc := ⟨.hbm, 418, rfl⟩
abbrev main_call25_v2 : Ref sig .tc := ⟨.hbm, 419, rfl⟩
abbrev main_call25_v3 : Ref sig .tc := ⟨.hbm, 420, rfl⟩
abbrev main_call25_v4 : Ref sig .tc := ⟨.hbm, 421, rfl⟩
abbrev main_v237 : Ref sig .tc := ⟨.hbm, 422, rfl⟩
abbrev main_c_61 : Ref sig .tc := ⟨.hbm, 423, rfl⟩
abbrev main_v238 : Ref sig .tc := ⟨.hbm, 424, rfl⟩
abbrev main_v239 : Ref sig .tc := ⟨.hbm, 425, rfl⟩
abbrev main_c_62 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_cst_63 : Ref sig .tc := ⟨.hbm, 434, rfl⟩
abbrev main_v247 : Ref sig .tc := ⟨.hbm, 435, rfl⟩
abbrev main_v248 : Ref sig .tc := ⟨.hbm, 436, rfl⟩
abbrev main_v249 : Ref sig .tc := ⟨.hbm, 437, rfl⟩
abbrev main_v250 : Ref sig .tc := ⟨.hbm, 438, rfl⟩
abbrev main_v251 : Ref sig .tc := ⟨.hbm, 439, rfl⟩
abbrev main_cst_64 : Ref sig .tc := ⟨.hbm, 440, rfl⟩
abbrev main_v252 : Ref sig .tc := ⟨.hbm, 441, rfl⟩
abbrev main_v253 : Ref sig .tc := ⟨.hbm, 442, rfl⟩
abbrev main_v254 : Ref sig .tc := ⟨.hbm, 443, rfl⟩
abbrev main_call26_call0_cst : Ref sig .tc := ⟨.hbm, 444, rfl⟩
abbrev main_call26_call0_v0 : Ref sig .tc := ⟨.hbm, 445, rfl⟩
abbrev main_v255 : Ref sig .tc := ⟨.hbm, 446, rfl⟩
abbrev main_cst_65 : Ref sig .tc := ⟨.hbm, 447, rfl⟩
abbrev main_v256 : Ref sig .tc := ⟨.hbm, 448, rfl⟩
abbrev main_v257 : Ref sig .tc := ⟨.hbm, 449, rfl⟩
abbrev main_v258 : Ref sig .tc := ⟨.hbm, 450, rfl⟩
abbrev main_call27_cst : Ref sig .tc := ⟨.hbm, 451, rfl⟩
abbrev main_call27_v0 : Ref sig .tc := ⟨.hbm, 452, rfl⟩
abbrev main_call27_v1 : Ref sig .tc := ⟨.hbm, 453, rfl⟩
abbrev main_call27_v2 : Ref sig .tc := ⟨.hbm, 454, rfl⟩
abbrev main_call27_v3 : Ref sig .tc := ⟨.hbm, 455, rfl⟩
abbrev main_v259 : Ref sig .tc := ⟨.hbm, 456, rfl⟩
abbrev main_v260 : Ref sig .tc := ⟨.hbm, 457, rfl⟩
abbrev main_c_66 : Ref sig .tc := ⟨.hbm, 458, rfl⟩
abbrev main_c_67 : Ref sig .tc := ⟨.hbm, 459, rfl⟩
abbrev main_call28_v0 : Ref sig .tc := ⟨.hbm, 460, rfl⟩
abbrev main_call28_v1 : Ref sig .tc := ⟨.hbm, 461, rfl⟩
abbrev main_call28_v2 : Ref sig .tc := ⟨.hbm, 462, rfl⟩
abbrev main_call28_v3 : Ref sig .tc := ⟨.hbm, 463, rfl⟩
abbrev main_call28_v4 : Ref sig .tc := ⟨.hbm, 464, rfl⟩
abbrev main_v261 : Ref sig .tc := ⟨.hbm, 465, rfl⟩
abbrev main_c_68 : Ref sig .tc := ⟨.hbm, 466, rfl⟩
abbrev main_v262 : Ref sig .tc := ⟨.hbm, 467, rfl⟩
abbrev main_v263 : Ref sig .tc := ⟨.hbm, 468, rfl⟩
abbrev main_c_69 : Ref sig .tc := ⟨.hbm, 469, rfl⟩
abbrev main_v264 : Ref sig .tc := ⟨.hbm, 470, rfl⟩
abbrev main_v265 : Ref sig .tc := ⟨.hbm, 471, rfl⟩
abbrev main_v266 : Ref sig .tc := ⟨.hbm, 472, rfl⟩
abbrev main_v267 : Ref sig .tc := ⟨.hbm, 473, rfl⟩
abbrev main_v268 : Ref sig .tc := ⟨.hbm, 474, rfl⟩
abbrev main_c_70 : Ref sig .tc := ⟨.hbm, 475, rfl⟩
abbrev main_v269 : Ref sig .tc := ⟨.hbm, 476, rfl⟩
abbrev main_v270 : Ref sig .tc := ⟨.hbm, 477, rfl⟩
abbrev main_c_71 : Ref sig .tc := ⟨.hbm, 478, rfl⟩
abbrev main_c_72 : Ref sig .tc := ⟨.hbm, 479, rfl⟩
abbrev main_call29_v0 : Ref sig .tc := ⟨.hbm, 480, rfl⟩
abbrev main_call29_v1 : Ref sig .tc := ⟨.hbm, 481, rfl⟩
abbrev main_call29_v2 : Ref sig .tc := ⟨.hbm, 482, rfl⟩
abbrev main_call29_v3 : Ref sig .tc := ⟨.hbm, 483, rfl⟩
abbrev main_call29_v4 : Ref sig .tc := ⟨.hbm, 484, rfl⟩
abbrev main_v271 : Ref sig .tc := ⟨.hbm, 485, rfl⟩
abbrev main_c_73 : Ref sig .tc := ⟨.hbm, 486, rfl⟩
abbrev main_v272 : Ref sig .tc := ⟨.hbm, 487, rfl⟩
abbrev main_v273 : Ref sig .tc := ⟨.hbm, 488, rfl⟩
abbrev main_c_74 : Ref sig .tc := ⟨.hbm, 489, rfl⟩
abbrev main_v274 : Ref sig .tc := ⟨.hbm, 490, rfl⟩
abbrev main_v275 : Ref sig .tc := ⟨.hbm, 491, rfl⟩
abbrev main_v276 : Ref sig .tc := ⟨.hbm, 492, rfl⟩
abbrev main_v277 : Ref sig .tc := ⟨.hbm, 493, rfl⟩
abbrev main_v278 : Ref sig .tc := ⟨.hbm, 494, rfl⟩
abbrev main_v279 : Ref sig .tc := ⟨.hbm, 495, rfl⟩
abbrev main_v280 : Ref sig .tc := ⟨.hbm, 496, rfl⟩
abbrev main_v281 : Ref sig .tc := ⟨.hbm, 497, rfl⟩
abbrev main_v282 : Ref sig .tc := ⟨.hbm, 498, rfl⟩
abbrev main_v283 : Ref sig .tc := ⟨.hbm, 499, rfl⟩
abbrev main_v284 : Ref sig .tc := ⟨.hbm, 500, rfl⟩
abbrev main_v285 : Ref sig .tc := ⟨.hbm, 501, rfl⟩
abbrev main_v286 : Ref sig .tc := ⟨.hbm, 502, rfl⟩
abbrev main_v287 : Ref sig .tc := ⟨.hbm, 503, rfl⟩
abbrev main_v288 : Ref sig .tc := ⟨.hbm, 504, rfl⟩
abbrev main_v289 : Ref sig .tc := ⟨.hbm, 505, rfl⟩
abbrev main_v290 : Ref sig .tc := ⟨.hbm, 506, rfl⟩
abbrev main_v291 : Ref sig .tc := ⟨.hbm, 507, rfl⟩
abbrev main_v292 : Ref sig .tc := ⟨.hbm, 508, rfl⟩
abbrev main_v293 : Ref sig .tc := ⟨.hbm, 509, rfl⟩
abbrev main_v294 : Ref sig .tc := ⟨.hbm, 510, rfl⟩
abbrev main_v295 : Ref sig .tc := ⟨.hbm, 511, rfl⟩
abbrev main_v296 : Ref sig .tc := ⟨.hbm, 512, rfl⟩
abbrev main_v297 : Ref sig .tc := ⟨.hbm, 513, rfl⟩
abbrev main_v298 : Ref sig .tc := ⟨.hbm, 514, rfl⟩
abbrev main_v299 : Ref sig .tc := ⟨.hbm, 515, rfl⟩
abbrev main_v300 : Ref sig .tc := ⟨.hbm, 516, rfl⟩
abbrev main_v301 : Ref sig .tc := ⟨.hbm, 517, rfl⟩
abbrev main_v302 : Ref sig .tc := ⟨.hbm, 518, rfl⟩
abbrev main_v303 : Ref sig .tc := ⟨.hbm, 519, rfl⟩
abbrev main_v304 : Ref sig .tc := ⟨.hbm, 520, rfl⟩
abbrev main_v305 : Ref sig .tc := ⟨.hbm, 521, rfl⟩
abbrev main_v306 : Ref sig .tc := ⟨.hbm, 522, rfl⟩
abbrev main_v307 : Ref sig .tc := ⟨.hbm, 523, rfl⟩
abbrev main_v308 : Ref sig .tc := ⟨.hbm, 524, rfl⟩
abbrev main_v309 : Ref sig .tc := ⟨.hbm, 525, rfl⟩
abbrev main_v310 : Ref sig .tc := ⟨.hbm, 526, rfl⟩
abbrev main_cst_75 : Ref sig .tc := ⟨.hbm, 527, rfl⟩
abbrev main_v311 : Ref sig .tc := ⟨.hbm, 528, rfl⟩
abbrev main_v312 : Ref sig .tc := ⟨.hbm, 529, rfl⟩
abbrev main_v313 : Ref sig .tc := ⟨.hbm, 530, rfl⟩
abbrev main_v314 : Ref sig .tc := ⟨.hbm, 531, rfl⟩
abbrev main_v315 : Ref sig .tc := ⟨.hbm, 532, rfl⟩
abbrev main_v316 : Ref sig .tc := ⟨.hbm, 533, rfl⟩
abbrev main_v317 : Ref sig .tc := ⟨.hbm, 534, rfl⟩
abbrev main_v318 : Ref sig .tc := ⟨.hbm, 535, rfl⟩
abbrev main_v319 : Ref sig .tc := ⟨.hbm, 536, rfl⟩
abbrev main_v320 : Ref sig .tc := ⟨.hbm, 537, rfl⟩
abbrev main_v321 : Ref sig .tc := ⟨.hbm, 538, rfl⟩
abbrev main_cst_76 : Ref sig .tc := ⟨.hbm, 539, rfl⟩
abbrev main_v322 : Ref sig .tc := ⟨.hbm, 540, rfl⟩
abbrev main_v323 : Ref sig .tc := ⟨.hbm, 541, rfl⟩
abbrev main_v324 : Ref sig .tc := ⟨.hbm, 542, rfl⟩
abbrev main_call30_call0_cst : Ref sig .tc := ⟨.hbm, 543, rfl⟩
abbrev main_call30_call0_v0 : Ref sig .tc := ⟨.hbm, 544, rfl⟩
abbrev main_v325 : Ref sig .tc := ⟨.hbm, 545, rfl⟩
abbrev main_cst_77 : Ref sig .tc := ⟨.hbm, 546, rfl⟩
abbrev main_v326 : Ref sig .tc := ⟨.hbm, 547, rfl⟩
abbrev main_v327 : Ref sig .tc := ⟨.hbm, 548, rfl⟩
abbrev main_v328 : Ref sig .tc := ⟨.hbm, 549, rfl⟩
abbrev main_call31_cst : Ref sig .tc := ⟨.hbm, 550, rfl⟩
abbrev main_call31_v0 : Ref sig .tc := ⟨.hbm, 551, rfl⟩
abbrev main_call31_v1 : Ref sig .tc := ⟨.hbm, 552, rfl⟩
abbrev main_call31_v2 : Ref sig .tc := ⟨.hbm, 553, rfl⟩
abbrev main_call31_v3 : Ref sig .tc := ⟨.hbm, 554, rfl⟩
abbrev main_v329 : Ref sig .tc := ⟨.hbm, 555, rfl⟩
abbrev main_v330 : Ref sig .tc := ⟨.hbm, 556, rfl⟩
abbrev main_c_78 : Ref sig .tc := ⟨.hbm, 557, rfl⟩
abbrev main_c_79 : Ref sig .tc := ⟨.hbm, 558, rfl⟩
abbrev main_call32_v0 : Ref sig .tc := ⟨.hbm, 559, rfl⟩
abbrev main_call32_v1 : Ref sig .tc := ⟨.hbm, 560, rfl⟩
abbrev main_call32_v2 : Ref sig .tc := ⟨.hbm, 561, rfl⟩
abbrev main_call32_v3 : Ref sig .tc := ⟨.hbm, 562, rfl⟩
abbrev main_call32_v4 : Ref sig .tc := ⟨.hbm, 563, rfl⟩
abbrev main_v331 : Ref sig .tc := ⟨.hbm, 564, rfl⟩
abbrev main_c_80 : Ref sig .tc := ⟨.hbm, 565, rfl⟩
abbrev main_v332 : Ref sig .tc := ⟨.hbm, 566, rfl⟩
abbrev main_v333 : Ref sig .tc := ⟨.hbm, 567, rfl⟩
abbrev main_c_81 : Ref sig .tc := ⟨.hbm, 568, rfl⟩
abbrev main_v334 : Ref sig .tc := ⟨.hbm, 569, rfl⟩
abbrev main_v335 : Ref sig .tc := ⟨.hbm, 570, rfl⟩
abbrev main_v336 : Ref sig .tc := ⟨.hbm, 571, rfl⟩
abbrev main_v337 : Ref sig .tc := ⟨.hbm, 572, rfl⟩
abbrev main_v338 : Ref sig .tc := ⟨.hbm, 573, rfl⟩
abbrev main_c_82 : Ref sig .tc := ⟨.hbm, 574, rfl⟩
abbrev main_v339 : Ref sig .tc := ⟨.hbm, 575, rfl⟩
abbrev main_v340 : Ref sig .tc := ⟨.hbm, 576, rfl⟩
abbrev main_c_83 : Ref sig .tc := ⟨.hbm, 577, rfl⟩
abbrev main_c_84 : Ref sig .tc := ⟨.hbm, 578, rfl⟩
abbrev main_call33_v0 : Ref sig .tc := ⟨.hbm, 579, rfl⟩
abbrev main_call33_v1 : Ref sig .tc := ⟨.hbm, 580, rfl⟩
abbrev main_call33_v2 : Ref sig .tc := ⟨.hbm, 581, rfl⟩
abbrev main_call33_v3 : Ref sig .tc := ⟨.hbm, 582, rfl⟩
abbrev main_call33_v4 : Ref sig .tc := ⟨.hbm, 583, rfl⟩
abbrev main_v341 : Ref sig .tc := ⟨.hbm, 584, rfl⟩
abbrev main_c_85 : Ref sig .tc := ⟨.hbm, 585, rfl⟩
abbrev main_v342 : Ref sig .tc := ⟨.hbm, 586, rfl⟩
abbrev main_v343 : Ref sig .tc := ⟨.hbm, 587, rfl⟩
abbrev main_c_86 : Ref sig .tc := ⟨.hbm, 588, rfl⟩
abbrev main_v344 : Ref sig .tc := ⟨.hbm, 589, rfl⟩
abbrev main_v345 : Ref sig .tc := ⟨.hbm, 590, rfl⟩
abbrev main_v346 : Ref sig .tc := ⟨.hbm, 591, rfl⟩
abbrev main_v347 : Ref sig .tc := ⟨.hbm, 592, rfl⟩
abbrev main_v348 : Ref sig .tc := ⟨.hbm, 593, rfl⟩
abbrev main_v349 : Ref sig .tc := ⟨.hbm, 594, rfl⟩
abbrev main_v350 : Ref sig .tc := ⟨.hbm, 595, rfl⟩
abbrev main_v351 : Ref sig .tc := ⟨.hbm, 596, rfl⟩
abbrev main_cst_87 : Ref sig .tc := ⟨.hbm, 597, rfl⟩
abbrev main_v352 : Ref sig .tc := ⟨.hbm, 598, rfl⟩
abbrev main_cst_88 : Ref sig .tc := ⟨.hbm, 599, rfl⟩
abbrev main_v353 : Ref sig .tc := ⟨.hbm, 600, rfl⟩
abbrev main_v354 : Ref sig .tc := ⟨.hbm, 601, rfl⟩
abbrev main_cst_89 : Ref sig .tc := ⟨.hbm, 602, rfl⟩
abbrev main_v355 : Ref sig .tc := ⟨.hbm, 603, rfl⟩
abbrev main_v356 : Ref sig .tc := ⟨.hbm, 604, rfl⟩
abbrev main_v357 : Ref sig .tc := ⟨.hbm, 605, rfl⟩
abbrev main_cst_90 : Ref sig .tc := ⟨.hbm, 606, rfl⟩
abbrev main_v358 : Ref sig .tc := ⟨.hbm, 607, rfl⟩
abbrev main_v359 : Ref sig .tc := ⟨.hbm, 608, rfl⟩
abbrev main_v360 : Ref sig .tc := ⟨.hbm, 609, rfl⟩
abbrev main_c_91 : Ref sig .tc := ⟨.hbm, 610, rfl⟩
abbrev main_c_92 : Ref sig .tc := ⟨.hbm, 611, rfl⟩
abbrev main_call34_v0 : Ref sig .tc := ⟨.hbm, 612, rfl⟩
abbrev main_call34_v1 : Ref sig .tc := ⟨.hbm, 613, rfl⟩
abbrev main_call34_v2 : Ref sig .tc := ⟨.hbm, 614, rfl⟩
abbrev main_call34_v3 : Ref sig .tc := ⟨.hbm, 615, rfl⟩
abbrev main_call34_v4 : Ref sig .tc := ⟨.hbm, 616, rfl⟩
abbrev main_v361 : Ref sig .tc := ⟨.hbm, 617, rfl⟩
abbrev main_v362 : Ref sig .tc := ⟨.hbm, 618, rfl⟩
abbrev main_call35_cst : Ref sig .tc := ⟨.hbm, 619, rfl⟩
abbrev main_call35_v0 : Ref sig .tc := ⟨.hbm, 620, rfl⟩
abbrev main_call35_v1 : Ref sig .tc := ⟨.hbm, 621, rfl⟩
abbrev main_call35_v2 : Ref sig .tc := ⟨.hbm, 622, rfl⟩
abbrev main_call35_v3 : Ref sig .tc := ⟨.hbm, 623, rfl⟩
abbrev main_v363 : Ref sig .tc := ⟨.hbm, 624, rfl⟩
abbrev main_v364 : Ref sig .tc := ⟨.hbm, 625, rfl⟩
abbrev main_v365 : Ref sig .tc := ⟨.hbm, 626, rfl⟩
abbrev main_v366 : Ref sig .tc := ⟨.hbm, 627, rfl⟩
abbrev main_cst_93 : Ref sig .tc := ⟨.hbm, 628, rfl⟩
abbrev main_v367 : Ref sig .tc := ⟨.hbm, 629, rfl⟩
abbrev main_c_94 : Ref sig .tc := ⟨.hbm, 630, rfl⟩
abbrev main_c_95 : Ref sig .tc := ⟨.hbm, 631, rfl⟩
abbrev main_call36_v0 : Ref sig .tc := ⟨.hbm, 632, rfl⟩
abbrev main_call36_v1 : Ref sig .tc := ⟨.hbm, 633, rfl⟩
abbrev main_call36_v2 : Ref sig .tc := ⟨.hbm, 634, rfl⟩
abbrev main_call36_v3 : Ref sig .tc := ⟨.hbm, 635, rfl⟩
abbrev main_call36_v4 : Ref sig .tc := ⟨.hbm, 636, rfl⟩
abbrev main_v368 : Ref sig .tc := ⟨.hbm, 637, rfl⟩
abbrev main_c_96 : Ref sig .tc := ⟨.hbm, 638, rfl⟩
abbrev main_v369 : Ref sig .tc := ⟨.hbm, 639, rfl⟩
abbrev main_v370 : Ref sig .tc := ⟨.hbm, 640, rfl⟩
abbrev main_c_97 : Ref sig .tc := ⟨.hbm, 641, rfl⟩
abbrev main_v371 : Ref sig .tc := ⟨.hbm, 642, rfl⟩
abbrev main_v372 : Ref sig .tc := ⟨.hbm, 643, rfl⟩
abbrev main_v373 : Ref sig .tc := ⟨.hbm, 644, rfl⟩
abbrev main_c_98 : Ref sig .tc := ⟨.hbm, 645, rfl⟩
abbrev main_v374 : Ref sig .tc := ⟨.hbm, 646, rfl⟩
abbrev main_v375 : Ref sig .tc := ⟨.hbm, 647, rfl⟩
abbrev main_c_99 : Ref sig .tc := ⟨.hbm, 648, rfl⟩
abbrev main_v376 : Ref sig .tc := ⟨.hbm, 649, rfl⟩
abbrev main_v377 : Ref sig .tc := ⟨.hbm, 650, rfl⟩
abbrev main_v378 : Ref sig .tc := ⟨.hbm, 651, rfl⟩
abbrev main_v379 : Ref sig .tc := ⟨.hbm, 652, rfl⟩
abbrev main_v380 : Ref sig .tc := ⟨.hbm, 653, rfl⟩
abbrev main_v381 : Ref sig .tc := ⟨.hbm, 654, rfl⟩
abbrev main_cst_100 : Ref sig .tc := ⟨.hbm, 655, rfl⟩
abbrev main_v382 : Ref sig .tc := ⟨.hbm, 656, rfl⟩
abbrev main_v383 : Ref sig .tc := ⟨.hbm, 657, rfl⟩
abbrev main_cst_101 : Ref sig .tc := ⟨.hbm, 658, rfl⟩
abbrev main_v384 : Ref sig .tc := ⟨.hbm, 659, rfl⟩
abbrev main_c_102 : Ref sig .tc := ⟨.hbm, 660, rfl⟩
abbrev main_v385 : Ref sig .tc := ⟨.hbm, 661, rfl⟩
abbrev main_v386 : Ref sig .tc := ⟨.hbm, 662, rfl⟩
abbrev main_c_103 : Ref sig .tc := ⟨.hbm, 663, rfl⟩
abbrev main_c_104 : Ref sig .tc := ⟨.hbm, 664, rfl⟩
abbrev main_call37_v0 : Ref sig .tc := ⟨.hbm, 665, rfl⟩
abbrev main_call37_v1 : Ref sig .tc := ⟨.hbm, 666, rfl⟩
abbrev main_call37_v2 : Ref sig .tc := ⟨.hbm, 667, rfl⟩
abbrev main_call37_v3 : Ref sig .tc := ⟨.hbm, 668, rfl⟩
abbrev main_call37_v4 : Ref sig .tc := ⟨.hbm, 669, rfl⟩
abbrev main_v387 : Ref sig .tc := ⟨.hbm, 670, rfl⟩
abbrev main_c_105 : Ref sig .tc := ⟨.hbm, 671, rfl⟩
abbrev main_v388 : Ref sig .tc := ⟨.hbm, 672, rfl⟩
abbrev main_v389 : Ref sig .tc := ⟨.hbm, 673, rfl⟩
abbrev main_c_106 : Ref sig .tc := ⟨.hbm, 674, rfl⟩
abbrev main_v390 : Ref sig .tc := ⟨.hbm, 675, rfl⟩
abbrev main_v391 : Ref sig .tc := ⟨.hbm, 676, rfl⟩
abbrev main_v392 : Ref sig .tc := ⟨.hbm, 677, rfl⟩
abbrev main_c_107 : Ref sig .tc := ⟨.hbm, 678, rfl⟩
abbrev main_v393 : Ref sig .tc := ⟨.hbm, 679, rfl⟩
abbrev main_v394 : Ref sig .tc := ⟨.hbm, 680, rfl⟩
abbrev main_c_108 : Ref sig .tc := ⟨.hbm, 681, rfl⟩
abbrev main_v395 : Ref sig .tc := ⟨.hbm, 682, rfl⟩
abbrev main_v396 : Ref sig .tc := ⟨.hbm, 683, rfl⟩
abbrev main_v397 : Ref sig .tc := ⟨.hbm, 684, rfl⟩
abbrev main_v398 : Ref sig .tc := ⟨.hbm, 685, rfl⟩
abbrev main_v399 : Ref sig .tc := ⟨.hbm, 686, rfl⟩
abbrev main_v400 : Ref sig .tc := ⟨.hbm, 687, rfl⟩
abbrev main_cst_109 : Ref sig .tc := ⟨.hbm, 688, rfl⟩
abbrev main_v401 : Ref sig .tc := ⟨.hbm, 689, rfl⟩
abbrev main_v402 : Ref sig .tc := ⟨.hbm, 690, rfl⟩
abbrev main_cst_110 : Ref sig .tc := ⟨.hbm, 691, rfl⟩
abbrev main_v403 : Ref sig .tc := ⟨.hbm, 692, rfl⟩
abbrev main_v404 : Ref sig .tc := ⟨.hbm, 693, rfl⟩
abbrev main_v405 : Ref sig .tc := ⟨.hbm, 694, rfl⟩
abbrev main_v406 : Ref sig .tc := ⟨.hbm, 695, rfl⟩
abbrev main_v407 : Ref sig .tc := ⟨.hbm, 696, rfl⟩
abbrev main_v408 : Ref sig .tc := ⟨.hbm, 697, rfl⟩
abbrev main_v409 : Ref sig .tc := ⟨.hbm, 698, rfl⟩
abbrev main_v410 : Ref sig .tc := ⟨.hbm, 699, rfl⟩
abbrev main_v411 : Ref sig .tc := ⟨.hbm, 700, rfl⟩
abbrev main_v412 : Ref sig .tc := ⟨.hbm, 701, rfl⟩
abbrev main_cst_111 : Ref sig .tc := ⟨.hbm, 702, rfl⟩
abbrev main_v413 : Ref sig .tc := ⟨.hbm, 703, rfl⟩
abbrev main_v414 : Ref sig .tc := ⟨.hbm, 704, rfl⟩
abbrev main_v415 : Ref sig .tc := ⟨.hbm, 705, rfl⟩
abbrev main_call38_call0_cst : Ref sig .tc := ⟨.hbm, 706, rfl⟩
abbrev main_call38_call0_v0 : Ref sig .tc := ⟨.hbm, 707, rfl⟩
abbrev main_v416 : Ref sig .tc := ⟨.hbm, 708, rfl⟩
abbrev main_cst_112 : Ref sig .tc := ⟨.hbm, 709, rfl⟩
abbrev main_v417 : Ref sig .tc := ⟨.hbm, 710, rfl⟩
abbrev main_v418 : Ref sig .tc := ⟨.hbm, 711, rfl⟩
abbrev main_v419 : Ref sig .tc := ⟨.hbm, 712, rfl⟩
abbrev main_call39_cst : Ref sig .tc := ⟨.hbm, 713, rfl⟩
abbrev main_call39_v0 : Ref sig .tc := ⟨.hbm, 714, rfl⟩
abbrev main_call39_v1 : Ref sig .tc := ⟨.hbm, 715, rfl⟩
abbrev main_call39_v2 : Ref sig .tc := ⟨.hbm, 716, rfl⟩
abbrev main_call39_v3 : Ref sig .tc := ⟨.hbm, 717, rfl⟩
abbrev main_v420 : Ref sig .tc := ⟨.hbm, 718, rfl⟩
abbrev main_v421 : Ref sig .tc := ⟨.hbm, 719, rfl⟩
abbrev main_c_113 : Ref sig .tc := ⟨.hbm, 720, rfl⟩
abbrev main_c_114 : Ref sig .tc := ⟨.hbm, 721, rfl⟩
abbrev main_call40_v0 : Ref sig .tc := ⟨.hbm, 722, rfl⟩
abbrev main_call40_v1 : Ref sig .tc := ⟨.hbm, 723, rfl⟩
abbrev main_call40_v2 : Ref sig .tc := ⟨.hbm, 724, rfl⟩
abbrev main_call40_v3 : Ref sig .tc := ⟨.hbm, 725, rfl⟩
abbrev main_call40_v4 : Ref sig .tc := ⟨.hbm, 726, rfl⟩
abbrev main_v422 : Ref sig .tc := ⟨.hbm, 727, rfl⟩
abbrev main_c_115 : Ref sig .tc := ⟨.hbm, 728, rfl⟩
abbrev main_v423 : Ref sig .tc := ⟨.hbm, 729, rfl⟩
abbrev main_v424 : Ref sig .tc := ⟨.hbm, 730, rfl⟩
abbrev main_c_116 : Ref sig .tc := ⟨.hbm, 731, rfl⟩
abbrev main_v425 : Ref sig .tc := ⟨.hbm, 732, rfl⟩
abbrev main_v426 : Ref sig .tc := ⟨.hbm, 733, rfl⟩
abbrev main_v427 : Ref sig .tc := ⟨.hbm, 734, rfl⟩
abbrev main_v428 : Ref sig .tc := ⟨.hbm, 735, rfl⟩
abbrev main_v429 : Ref sig .tc := ⟨.hbm, 736, rfl⟩
abbrev main_c_117 : Ref sig .tc := ⟨.hbm, 737, rfl⟩
abbrev main_v430 : Ref sig .tc := ⟨.hbm, 738, rfl⟩
abbrev main_v431 : Ref sig .tc := ⟨.hbm, 739, rfl⟩
abbrev main_c_118 : Ref sig .tc := ⟨.hbm, 740, rfl⟩
abbrev main_c_119 : Ref sig .tc := ⟨.hbm, 741, rfl⟩
abbrev main_call41_v0 : Ref sig .tc := ⟨.hbm, 742, rfl⟩
abbrev main_call41_v1 : Ref sig .tc := ⟨.hbm, 743, rfl⟩
abbrev main_call41_v2 : Ref sig .tc := ⟨.hbm, 744, rfl⟩
abbrev main_call41_v3 : Ref sig .tc := ⟨.hbm, 745, rfl⟩
abbrev main_call41_v4 : Ref sig .tc := ⟨.hbm, 746, rfl⟩
abbrev main_v432 : Ref sig .tc := ⟨.hbm, 747, rfl⟩
abbrev main_c_120 : Ref sig .tc := ⟨.hbm, 748, rfl⟩
abbrev main_v433 : Ref sig .tc := ⟨.hbm, 749, rfl⟩
abbrev main_v434 : Ref sig .tc := ⟨.hbm, 750, rfl⟩
abbrev main_c_121 : Ref sig .tc := ⟨.hbm, 751, rfl⟩
abbrev main_v435 : Ref sig .tc := ⟨.hbm, 752, rfl⟩
abbrev main_v436 : Ref sig .tc := ⟨.hbm, 753, rfl⟩
abbrev main_v437 : Ref sig .tc := ⟨.hbm, 754, rfl⟩
abbrev main_v438 : Ref sig .tc := ⟨.hbm, 755, rfl⟩
abbrev main_v439 : Ref sig .tc := ⟨.hbm, 756, rfl⟩
abbrev main_v440 : Ref sig .tc := ⟨.hbm, 757, rfl⟩
abbrev main_v441 : Ref sig .tc := ⟨.hbm, 758, rfl⟩
abbrev main_cst_122 : Ref sig .tc := ⟨.hbm, 759, rfl⟩
abbrev main_v442 : Ref sig .tc := ⟨.hbm, 760, rfl⟩
abbrev main_v443 : Ref sig .tc := ⟨.hbm, 761, rfl⟩
abbrev main_v444 : Ref sig .tc := ⟨.hbm, 762, rfl⟩
abbrev main_v445 : Ref sig .tc := ⟨.hbm, 763, rfl⟩
abbrev main_v446 : Ref sig .tc := ⟨.hbm, 764, rfl⟩
abbrev main_v447 : Ref sig .tc := ⟨.hbm, 765, rfl⟩
abbrev main_cst_123 : Ref sig .tc := ⟨.hbm, 766, rfl⟩
abbrev main_v448 : Ref sig .tc := ⟨.hbm, 767, rfl⟩
abbrev main_v449 : Ref sig .tc := ⟨.hbm, 768, rfl⟩
abbrev main_v450 : Ref sig .tc := ⟨.hbm, 769, rfl⟩
abbrev main_call42_call0_cst : Ref sig .tc := ⟨.hbm, 770, rfl⟩
abbrev main_call42_call0_v0 : Ref sig .tc := ⟨.hbm, 771, rfl⟩
abbrev main_v451 : Ref sig .tc := ⟨.hbm, 772, rfl⟩
abbrev main_cst_124 : Ref sig .tc := ⟨.hbm, 773, rfl⟩
abbrev main_v452 : Ref sig .tc := ⟨.hbm, 774, rfl⟩
abbrev main_v453 : Ref sig .tc := ⟨.hbm, 775, rfl⟩
abbrev main_v454 : Ref sig .tc := ⟨.hbm, 776, rfl⟩
abbrev main_call43_cst : Ref sig .tc := ⟨.hbm, 777, rfl⟩
abbrev main_call43_v0 : Ref sig .tc := ⟨.hbm, 778, rfl⟩
abbrev main_call43_v1 : Ref sig .tc := ⟨.hbm, 779, rfl⟩
abbrev main_call43_v2 : Ref sig .tc := ⟨.hbm, 780, rfl⟩
abbrev main_call43_v3 : Ref sig .tc := ⟨.hbm, 781, rfl⟩
abbrev main_v455 : Ref sig .tc := ⟨.hbm, 782, rfl⟩
abbrev main_v456 : Ref sig .tc := ⟨.hbm, 783, rfl⟩
abbrev main_c_125 : Ref sig .tc := ⟨.hbm, 784, rfl⟩
abbrev main_c_126 : Ref sig .tc := ⟨.hbm, 785, rfl⟩
abbrev main_call44_v0 : Ref sig .tc := ⟨.hbm, 786, rfl⟩
abbrev main_call44_v1 : Ref sig .tc := ⟨.hbm, 787, rfl⟩
abbrev main_call44_v2 : Ref sig .tc := ⟨.hbm, 788, rfl⟩
abbrev main_call44_v3 : Ref sig .tc := ⟨.hbm, 789, rfl⟩
abbrev main_call44_v4 : Ref sig .tc := ⟨.hbm, 790, rfl⟩
abbrev main_v457 : Ref sig .tc := ⟨.hbm, 791, rfl⟩
abbrev main_c_127 : Ref sig .tc := ⟨.hbm, 792, rfl⟩
abbrev main_v458 : Ref sig .tc := ⟨.hbm, 793, rfl⟩
abbrev main_v459 : Ref sig .tc := ⟨.hbm, 794, rfl⟩
abbrev main_c_128 : Ref sig .tc := ⟨.hbm, 795, rfl⟩
abbrev main_v460 : Ref sig .tc := ⟨.hbm, 796, rfl⟩
abbrev main_v461 : Ref sig .tc := ⟨.hbm, 797, rfl⟩
abbrev main_v462 : Ref sig .tc := ⟨.hbm, 798, rfl⟩
abbrev main_v463 : Ref sig .tc := ⟨.hbm, 799, rfl⟩
abbrev main_v464 : Ref sig .tc := ⟨.hbm, 800, rfl⟩
abbrev main_c_129 : Ref sig .tc := ⟨.hbm, 801, rfl⟩
abbrev main_v465 : Ref sig .tc := ⟨.hbm, 802, rfl⟩
abbrev main_v466 : Ref sig .tc := ⟨.hbm, 803, rfl⟩
abbrev main_c_130 : Ref sig .tc := ⟨.hbm, 804, rfl⟩
abbrev main_c_131 : Ref sig .tc := ⟨.hbm, 805, rfl⟩
abbrev main_call45_v0 : Ref sig .tc := ⟨.hbm, 806, rfl⟩
abbrev main_call45_v1 : Ref sig .tc := ⟨.hbm, 807, rfl⟩
abbrev main_call45_v2 : Ref sig .tc := ⟨.hbm, 808, rfl⟩
abbrev main_call45_v3 : Ref sig .tc := ⟨.hbm, 809, rfl⟩
abbrev main_call45_v4 : Ref sig .tc := ⟨.hbm, 810, rfl⟩
abbrev main_v467 : Ref sig .tc := ⟨.hbm, 811, rfl⟩
abbrev main_c_132 : Ref sig .tc := ⟨.hbm, 812, rfl⟩
abbrev main_v468 : Ref sig .tc := ⟨.hbm, 813, rfl⟩
abbrev main_v469 : Ref sig .tc := ⟨.hbm, 814, rfl⟩
abbrev main_c_133 : Ref sig .tc := ⟨.hbm, 815, rfl⟩
abbrev main_v470 : Ref sig .tc := ⟨.hbm, 816, rfl⟩
abbrev main_v471 : Ref sig .tc := ⟨.hbm, 817, rfl⟩
abbrev main_v472 : Ref sig .tc := ⟨.hbm, 818, rfl⟩
abbrev main_v473 : Ref sig .tc := ⟨.hbm, 819, rfl⟩
abbrev main_v474 : Ref sig .tc := ⟨.hbm, 820, rfl⟩
abbrev main_v475 : Ref sig .tc := ⟨.hbm, 821, rfl⟩
abbrev main_v476 : Ref sig .tc := ⟨.hbm, 822, rfl⟩
abbrev main_cst_134 : Ref sig .tc := ⟨.hbm, 823, rfl⟩
abbrev main_v477 : Ref sig .tc := ⟨.hbm, 824, rfl⟩
abbrev main_v478 : Ref sig .tc := ⟨.hbm, 825, rfl⟩
abbrev main_v479 : Ref sig .tc := ⟨.hbm, 826, rfl⟩
abbrev main_cst_135 : Ref sig .tc := ⟨.hbm, 827, rfl⟩
abbrev main_v480 : Ref sig .tc := ⟨.hbm, 828, rfl⟩
abbrev main_v481 : Ref sig .tc := ⟨.hbm, 829, rfl⟩
abbrev main_cst_136 : Ref sig .tc := ⟨.hbm, 830, rfl⟩
abbrev main_v482 : Ref sig .tc := ⟨.hbm, 831, rfl⟩
abbrev main_v483 : Ref sig .tc := ⟨.hbm, 832, rfl⟩
abbrev main_cst_137 : Ref sig .tc := ⟨.hbm, 833, rfl⟩
abbrev main_v484 : Ref sig .tc := ⟨.hbm, 834, rfl⟩
abbrev main_cst_138 : Ref sig .tc := ⟨.hbm, 835, rfl⟩
abbrev main_v485 : Ref sig .tc := ⟨.hbm, 836, rfl⟩
abbrev main_v486 : Ref sig .tc := ⟨.hbm, 837, rfl⟩
abbrev main_cst_139 : Ref sig .tc := ⟨.hbm, 838, rfl⟩
abbrev main_v487 : Ref sig .tc := ⟨.hbm, 839, rfl⟩
abbrev main_v488 : Ref sig .tc := ⟨.hbm, 840, rfl⟩
abbrev main_cst_140 : Ref sig .tc := ⟨.hbm, 841, rfl⟩
abbrev main_v489 : Ref sig .tc := ⟨.hbm, 842, rfl⟩
abbrev main_v490 : Ref sig .tc := ⟨.hbm, 843, rfl⟩
abbrev main_v491 : Ref sig .tc := ⟨.hbm, 844, rfl⟩
abbrev main_v492 : Ref sig .tc := ⟨.hbm, 845, rfl⟩
abbrev main_v493 : Ref sig .tc := ⟨.hbm, 846, rfl⟩
abbrev main_v494 : Ref sig .tc := ⟨.hbm, 847, rfl⟩
abbrev main_cst_141 : Ref sig .tc := ⟨.hbm, 848, rfl⟩
abbrev main_v495 : Ref sig .tc := ⟨.hbm, 849, rfl⟩
abbrev main_v496 : Ref sig .tc := ⟨.hbm, 850, rfl⟩
abbrev main_v497 : Ref sig .tc := ⟨.hbm, 851, rfl⟩
abbrev main_call46_call0_cst : Ref sig .tc := ⟨.hbm, 852, rfl⟩
abbrev main_call46_call0_v0 : Ref sig .tc := ⟨.hbm, 853, rfl⟩
abbrev main_v498 : Ref sig .tc := ⟨.hbm, 854, rfl⟩
abbrev main_cst_142 : Ref sig .tc := ⟨.hbm, 855, rfl⟩
abbrev main_v499 : Ref sig .tc := ⟨.hbm, 856, rfl⟩
abbrev main_v500 : Ref sig .tc := ⟨.hbm, 857, rfl⟩
abbrev main_v501 : Ref sig .tc := ⟨.hbm, 858, rfl⟩
abbrev main_call47_cst : Ref sig .tc := ⟨.hbm, 859, rfl⟩
abbrev main_call47_v0 : Ref sig .tc := ⟨.hbm, 860, rfl⟩
abbrev main_call47_v1 : Ref sig .tc := ⟨.hbm, 861, rfl⟩
abbrev main_call47_v2 : Ref sig .tc := ⟨.hbm, 862, rfl⟩
abbrev main_call47_v3 : Ref sig .tc := ⟨.hbm, 863, rfl⟩
abbrev main_v502 : Ref sig .tc := ⟨.hbm, 864, rfl⟩
abbrev main_v503 : Ref sig .tc := ⟨.hbm, 865, rfl⟩
abbrev main_c_143 : Ref sig .tc := ⟨.hbm, 866, rfl⟩
abbrev main_c_144 : Ref sig .tc := ⟨.hbm, 867, rfl⟩
abbrev main_call48_v0 : Ref sig .tc := ⟨.hbm, 868, rfl⟩
abbrev main_call48_v1 : Ref sig .tc := ⟨.hbm, 869, rfl⟩
abbrev main_call48_v2 : Ref sig .tc := ⟨.hbm, 870, rfl⟩
abbrev main_call48_v3 : Ref sig .tc := ⟨.hbm, 871, rfl⟩
abbrev main_call48_v4 : Ref sig .tc := ⟨.hbm, 872, rfl⟩
abbrev main_v504 : Ref sig .tc := ⟨.hbm, 873, rfl⟩
abbrev main_c_145 : Ref sig .tc := ⟨.hbm, 874, rfl⟩
abbrev main_v505 : Ref sig .tc := ⟨.hbm, 875, rfl⟩
abbrev main_v506 : Ref sig .tc := ⟨.hbm, 876, rfl⟩
abbrev main_c_146 : Ref sig .tc := ⟨.hbm, 877, rfl⟩
abbrev main_v507 : Ref sig .tc := ⟨.hbm, 878, rfl⟩
abbrev main_v508 : Ref sig .tc := ⟨.hbm, 879, rfl⟩
abbrev main_v509 : Ref sig .tc := ⟨.hbm, 880, rfl⟩
abbrev main_v510 : Ref sig .tc := ⟨.hbm, 881, rfl⟩
abbrev main_v511 : Ref sig .tc := ⟨.hbm, 882, rfl⟩
abbrev main_c_147 : Ref sig .tc := ⟨.hbm, 883, rfl⟩
abbrev main_v512 : Ref sig .tc := ⟨.hbm, 884, rfl⟩
abbrev main_v513 : Ref sig .tc := ⟨.hbm, 885, rfl⟩
abbrev main_c_148 : Ref sig .tc := ⟨.hbm, 886, rfl⟩
abbrev main_c_149 : Ref sig .tc := ⟨.hbm, 887, rfl⟩
abbrev main_call49_v0 : Ref sig .tc := ⟨.hbm, 888, rfl⟩
abbrev main_call49_v1 : Ref sig .tc := ⟨.hbm, 889, rfl⟩
abbrev main_call49_v2 : Ref sig .tc := ⟨.hbm, 890, rfl⟩
abbrev main_call49_v3 : Ref sig .tc := ⟨.hbm, 891, rfl⟩
abbrev main_call49_v4 : Ref sig .tc := ⟨.hbm, 892, rfl⟩
abbrev main_v514 : Ref sig .tc := ⟨.hbm, 893, rfl⟩
abbrev main_c_150 : Ref sig .tc := ⟨.hbm, 894, rfl⟩
abbrev main_v515 : Ref sig .tc := ⟨.hbm, 895, rfl⟩
abbrev main_v516 : Ref sig .tc := ⟨.hbm, 896, rfl⟩
abbrev main_c_151 : Ref sig .tc := ⟨.hbm, 897, rfl⟩
abbrev main_v517 : Ref sig .tc := ⟨.hbm, 898, rfl⟩
abbrev main_v518 : Ref sig .tc := ⟨.hbm, 899, rfl⟩
abbrev main_v519 : Ref sig .tc := ⟨.hbm, 900, rfl⟩
abbrev main_v520 : Ref sig .tc := ⟨.hbm, 901, rfl⟩
abbrev main_v521 : Ref sig .tc := ⟨.hbm, 902, rfl⟩
abbrev main_v522 : Ref sig .tc := ⟨.hbm, 903, rfl⟩
abbrev main_v523 : Ref sig .tc := ⟨.hbm, 904, rfl⟩
abbrev main_v524 : Ref sig .tc := ⟨.hbm, 905, rfl⟩
abbrev main_v525 : Ref sig .tc := ⟨.hbm, 906, rfl⟩

abbrev nD : Nat := 1
abbrev τ : Topo := Topo.v7x

variable {F : FTy → Type} [FloatOps F]
-- ==== Proof.Compact.lean ====
/- The body of one group of sixteen rows, written with loops: the same effects, in the same order, at the same values as
   the printed body, whose text is the loops unrolled. `group_eq` says so. -/
module

public import proofs.«01_k».proof.KernelIdeal
public import Idealize.ShloMosaic.Lib.Tactic

@[expose] public section

noncomputable section

namespace Cert.Proof

open Idealize.ShloMosaic Idealize.SL.Sem Cert.KernelIdeal
open Cert.KernelIdeal.Facts₀ Cert.KernelIdeal.Facts

variable {F : FTy → Type} [FloatOps F] [Facts]

/-- Sixteen lanes of floats. -/
abbrev VF (F : FTy → Type) : Type := FVec F S16 .f32
/-- Sixteen lanes of words. -/
abbrev VI : Type := IVec S16 32

/-- The programs of the tile at grid point `i`. -/
abbrev TP (F : FTy → Type) [FloatOps F] [Facts] (i : grid0.Coords) (α : Type) : Type 1 :=
  Prog (TpuEff nD τ sig (Elt F) Λ₀ (.scVector ((i 0).castLE hcore0) ((i 1).castLE hsub0))) α

/-- The processor of grid point `i`. -/
abbrev procOf (i : grid0.Coords) : Proc τ := .scVector ((i 0).castLE hcore0) ((i 1).castLE hsub0)

/-- Sixteen elements of a float array gathered. -/
def gath {i : grid0.Coords} {s : Shape} (base : Memref sig .scVector .vmem s .f32) (idxs : Fin s.rank → IVec S16 32)
    (h : ∀ a x, (idxs a x).toNat < s.size a) (hl : base.view.Loads) : TP F i (VF F) :=
  SparseCore.vectorLoadIdx (p := procOf i) (t := S16) (e := .f32) base idxs h hl

/-- Sixteen floats scattered into a float array. -/
def scat {i : grid0.Coords} {s : Shape} (base : Memref sig .scVector .vmem s .f32) (idxs : Fin s.rank → IVec S16 32) (v : VF F)
    (h : ∀ a x, (idxs a x).toNat < s.size a) (hs : (base.access (.whole s)).Stores Finset.univ) : TP F i PUnit :=
  SparseCore.vectorStoreIdx (p := procOf i) (e := .f32) base idxs v (fun _ => 1#1) false h hs

/-- A loop over a list, carrying a state. -/
def each {i : grid0.Coords} {α σ : Type} : List α → (α → σ → TP F i σ) → σ → TP F i σ
  | [], _, s => Prog.ret s
  | a :: l, f, s => Prog.bind (f a s) (each l f)

def up : List (Fin 10) := [0, 1, 2, 3, 4, 5, 6, 7, 8, 9]
def up1 : List (Fin 10) := [1, 2, 3, 4, 5, 6, 7, 8, 9]
def down : List (Fin 10) := [9, 8, 7, 6, 5, 4, 3, 2, 1, 0]
def down8 : List (Fin 10) := [8, 7, 6, 5, 4, 3, 2, 1, 0]
/-- The indices from `i` on. -/
def from_ (i : Fin 10) : List (Fin 10) := up.filter fun j => decide (i.val ≤ j.val)

/-- A function changed at one point. -/
def upd {α : Type} (f : Fin 10 → α) (i : Fin 10) (v : α) : Fin 10 → α := fun k => if k = i then v else f k

/-- The word `n` in every lane. -/
def wi (n : Nat) : VI := broadcast S16 (BitVec.ofNat 32 n)
/-- The float of the bits `b` in every lane. -/
def wf (b : BitVec 32) : VF F := broadcast S16 (Scalar.ofBits .f32 b : F .f32)

def InAtt (l c : VI) : Prop := (∀ a x, ((![l, c] : Fin 2 → IVec S16 32) a x).toNat < S16x100.size a)
def InBox (l c : VI) : Prop := (∀ a x, ((![l, c] : Fin 2 → IVec S16 32) a x).toNat < S16x400.size a)
def InBoth (l c : VI) : Prop :=
  (∀ a x, ((![l, c] : Fin 2 → IVec S16 32) a x).toNat < S16x100.size a) ∧
    (∀ a x, ((![l, c] : Fin 2 → IVec S16 32) a x).toNat < S16x400.size a)
def InTab (c : VI) : Prop := (∀ a x, ((![c] : Fin 1 → IVec S16 32) a x).toNat < S272.size a)
def InOut (c : VI) : Prop := (∀ a x, ((![c] : Fin 1 → IVec S16 32) a x).toNat < S176.size a)

instance InAtt.dec (l c : VI) : Decidable (InAtt l c) := decidable_of_iff' _ (Iff.of_eq (InAtt.eq_1 l c))
instance InBox.dec (l c : VI) : Decidable (InBox l c) := decidable_of_iff' _ (Iff.of_eq (InBox.eq_1 l c))
instance InBoth.dec (l c : VI) : Decidable (InBoth l c) := decidable_of_iff' _ (Iff.of_eq (InBoth.eq_1 l c))
instance InTab.dec (c : VI) : Decidable (InTab c) := decidable_of_iff' _ (Iff.of_eq (InTab.eq_1 c))
instance InOut.dec (c : VI) : Decidable (InOut c) := decidable_of_iff' _ (Iff.of_eq (InOut.eq_1 c))

section
theorem idxAtt {l c : VI} (h : InAtt l c) : ∀ a x, ((![l, c] : Fin S16x100.rank → IVec S16 32) a x).toNat < S16x100.size a := h
theorem idxBox {l c : VI} (h : InBox l c) : ∀ a x, ((![l, c] : Fin S16x400.rank → IVec S16 32) a x).toNat < S16x400.size a := h
theorem idxTab {c : VI} (h : InTab c) : ∀ a x, ((![c] : Fin S272.rank → IVec S16 32) a x).toNat < S272.size a := h
theorem idxOut {c : VI} (h : InOut c) : ∀ a x, ((![c] : Fin S176.rank → IVec S16 32) a x).toNat < S176.size a := h
end

section
variable {i : grid0.Coords}
variable (att : Memref sig .scVector .vmem S16x100 .f32) (box : Memref sig .scVector .vmem S16x400 .f32)
variable (tab : Memref sig .scVector .vmem S272 .f32) (atv : Memref sig .scVector .vmem S56x16 .f32)
variable (out : Memref sig .scVector .vmem S176 .f32)

/-- The attentions of the lanes at the columns `c`. -/
def getAtt (l c : VI) : TP F i (VF F) :=
  Prog.bind (Prog.lift (TpuEff.assume (InAtt l c) (InAtt.dec l c))) fun h =>
    gath att ![l, c] (idxAtt h.down) (View.loads_vmem h_S16x100)

/-- The box words of the lanes at the columns `c`. -/
def getBox (l c : VI) : TP F i (VF F) :=
  Prog.bind (Prog.lift (TpuEff.assume (InBox l c) (InBox.dec l c))) fun h =>
    gath box ![l, c] (idxBox h.down) (View.loads_vmem h_S16x400)

/-- The table's words at `c`. -/
def getTab (c : VI) : TP F i (VF F) :=
  Prog.bind (Prog.lift (TpuEff.assume (InTab c) (InTab.dec c))) fun h =>
    gath tab ![c] (idxTab h.down) (View.loads_vmem h_S272)

/-- The maximum of column block `c` of the lanes' attentions. -/
def colMax (l : VI) (c : Fin 10) : TP F i (VF F) :=
  Prog.bind (getAtt att l (wi (10 * c.val))) fun m =>
    each up1 (fun r m => Prog.bind (getAtt att l (wi (10 * c.val + r.val))) fun x => Prog.ret (maximumf m x)) m

/-- What one round of the selection finds: the largest attention, and the column it stands in. -/
structure Sel (F : FTy → Type) (l : VI) where
  top : VF F
  pos : VI
  ok : InBoth l pos

/-- One round of the selection: the largest of the block maxima `cm`, its first column, that column overwritten by `-∞`,
    and the block's new maximum. -/
def round (l : VI) (ninf : VF F) (cm : Fin 10 → VF F) : TP F i (Sel F l × (Fin 10 → VF F)) :=
  let m := up1.foldl (fun m c => maximumf m (cm c)) (cm 0)
  let cs := down8.foldl (fun s c => select (cmpf .oeq (cm c) m) (wi c.val) s) (wi 9)
  let base := muli cs (wi 10)
  Prog.bind (each down (fun r (st : (Fin 10 → VF F) × VI) =>
      Prog.bind (getAtt att l (addi base (wi r.val))) fun x =>
        Prog.ret (upd st.1 r x, select (cmpf .oeq x m) (addi base (wi r.val)) st.2))
    ((fun _ => ninf), addi base (wi 9))) fun st =>
  Prog.bind (Prog.lift (TpuEff.assume (InBoth l st.2) (InBoth.dec l st.2))) fun h =>
  Prog.bind (scat att ![l, st.2] ninf (idxAtt h.down.1) (View.stores_vmem_bits_univ h_S16x100 rfl)) fun _ =>
    let nm := up.foldl (fun nm r => maximumf nm (select (cmpi .eq (addi base (wi r.val)) st.2) ninf (st.1 r))) ninf
    Prog.ret (⟨m, st.2, h.down⟩, fun c => select (cmpi .eq cs (wi c.val)) nm (cm c))

/-- A selected box: its corners, its area, and the sigmoid of its attention. -/
structure BoxV (F : FTy → Type) where
  y0 : VF F
  x0 : VF F
  y1 : VF F
  x1 : VF F
  area : VF F
  a : VF F

/-- The box of a selection. -/
def boxOf (l : VI) (s : Sel F l) : TP F i (BoxV F) :=
  Prog.bind (gath box ![l, s.pos] (idxBox s.ok.2) (View.loads_vmem h_S16x400)) fun y0 =>
  Prog.bind (getBox box l (addi s.pos (wi 100))) fun x0 =>
  Prog.bind (getBox box l (addi s.pos (wi 200))) fun y1 =>
  Prog.bind (getBox box l (addi s.pos (wi 300))) fun x1 =>
    let e := exp (subf (wf 0x00000000#32) (absf s.top))
    let r := divf (wf 0x3F800000#32) (addf (wf 0x3F800000#32) e)
    Prog.ret ⟨y0, x0, y1, x1,
      mulf (maximumf (subf y1 y0) (wf 0x00000000#32)) (maximumf (subf x1 x0) (wf 0x00000000#32)),
      select (cmpf .oge s.top (wf 0x00000000#32)) r (mulf e r)⟩

/-- The interval of `x` in sixteenths. -/
def ipOf (x : VF F) : VI := fptosi 32 (mulf x (wf 0x41800000#32))
/-- How far `x` stands in its interval. -/
def fpOf (x : VF F) : VF F := subf (mulf x (wf 0x41800000#32)) (sitofp .f32 (ipOf x))

/-- The piecewise linear function of table row `w` at interval `ip`, fraction `fp`. -/
def pw (ip : VI) (fp : VF F) (w : Nat) : TP F i (VF F) :=
  Prog.bind (getTab tab (addi (minsi ip (wi 16)) (wi (w * 17)))) fun c1 =>
  Prog.bind (getTab tab (addi (addi (minsi (addi ip (wi 1)) (wi 16)) (wi (w * 17))) (wi 136))) fun n2 =>
    Prog.ret (addf c1 (mulf fp n2))

/-- The number of the pair `(i, j)`. -/
def pid (a b : Fin 10) : Nat := a.val * (19 - a.val) / 2 + b.val

omit [FloatOps F] [Facts] in
theorem pid_lt (a b : Fin 10) (h : a.val ≤ b.val) : pid a b < 55 := by
  revert a b; decide

omit [FloatOps F] [Facts] in
theorem pid_lt' (a b : Fin 10) : pid a b < 56 := by
  revert a b; decide

omit [FloatOps F] [Facts] in
theorem inb_pid (a b : Fin 10) : ∀ k, (![pid a b, 0] : Fin 2 → Nat) k + S1x16.size k ≤ S56x16.size k := by
  intro k
  have := pid_lt' a b
  fin_cases k
  · show pid a b + 1 ≤ 56; omega
  · show 0 + 16 ≤ 16; omega

/-- The pairs' running sums: the similarities by box, and the distances. -/
structure Acc (F : FTy → Type) where
  s : Fin 10 → VF F
  pd : VF F

/-- One pair of boxes. -/
def pair (bx : Fin 10 → BoxV F) (a b : Fin 10) (t : Acc F) : TP F i (Acc F) :=
  let A := mulf (bx a).a (bx b).a
  let ia := mulf (maximumf (subf (minimumf (bx a).y1 (bx b).y1) (maximumf (bx a).y0 (bx b).y0)) (wf 0x00000000#32))
    (maximumf (subf (minimumf (bx a).x1 (bx b).x1) (maximumf (bx a).x0 (bx b).x0)) (wf 0x00000000#32))
  let D := subf (wf 0x3F800000#32) (divf ia (addf (subf (addf (bx a).area (bx b).area) ia) (wf 0x2B8CBCCC#32)))
  Prog.bind (pw tab (ipOf A) (fpOf A) 0) fun pA =>
  Prog.bind (pw tab (ipOf D) (fpOf D) 1) fun pD =>
  Prog.bind (pw tab (ipOf D) (fpOf D) 6) fun pD6 =>
  let ad := subf (wf 0x3F800000#32) (absf (subf (bx a).a (bx b).a))
  Prog.bind (pw tab (ipOf ad) (fpOf ad) 2) fun sim =>
  Prog.bind (Prog.lift (.load atv (Rect.unit (s := S56x16) ![pid a b, 0] S1x16.size (inb_pid a b)).toLoadRect (View.loadsAt_vmem h_S1x16))) fun _ =>
  Prog.bind (Prog.lift (.store atv (Rect.unit (s := S56x16) ![pid a b, 0] S1x16.size (inb_pid a b)) (shapeCast S1x16 (mulf pA pD) shapeCasts_S16_S1x16) Finset.univ
    (View.stores_vmem_bits_univ h_S1x16 rfl) (.inl rfl))) fun _ =>
  let d := absf (subf pD6 (wf 0x3F000000#32))
  Prog.ret { s := if a = b then upd t.s a (addf (t.s a) sim)
                  else upd (upd t.s a (addf (t.s a) sim)) b (addf (t.s b) sim),
             pd := addf t.pd (if a = b then d else addf d d) }

/-- One pair's part of the sum of scores. -/
def score (inv : Fin 10 → VF F) (a b : Fin 10) (t : VF F) : TP F i (VF F) :=
  Prog.bind (Prog.lift (.load atv (Rect.unit (s := S56x16) ![pid a b, 0] S1x16.size (inb_pid a b)).toLoadRect (View.loadsAt_vmem h_S1x16))) fun x =>
  let sc := mulf (shapeCast S16 x shapeCasts_S1x16_S16) (mulf (inv a) (inv b))
  Prog.ret (addf t (if a = b then sc else addf sc sc))

/-- Everything a group computes, its arrays in place. -/
def compute (l : VI) (ninf factor : VF F) : TP F i PUnit :=
  Prog.bind (each up (fun c cm => Prog.bind (colMax att l c) fun m => Prog.ret (upd cm c m)) (fun _ => ninf)) fun cm =>
  Prog.bind (each up (fun _ (st : List (Sel F l) × (Fin 10 → VF F)) =>
      Prog.bind (round att l ninf st.2) fun p => Prog.ret (st.1 ++ [p.1], p.2)) ([], cm)) fun sel =>
  Prog.bind (each sel.1 (fun s (bs : List (BoxV F)) => Prog.bind (boxOf box l s) fun b => Prog.ret (bs ++ [b])) []) fun bs =>
  let bx : Fin 10 → BoxV F := fun k => bs.getD k.val ⟨ninf, ninf, ninf, ninf, ninf, ninf⟩
  Prog.bind (each up (fun a => each (from_ a) fun b => pair tab atv bx a b) ⟨fun _ => wf 0x00000000#32, wf 0x00000000#32⟩) fun acc =>
  let inv : Fin 10 → VF F := fun k => divf (wf 0x3F800000#32) (mulf (acc.s k) factor)
  Prog.bind (each up (fun a => each (from_ a) fun b => score atv inv a b) (wf 0x00000000#32)) fun mE =>
  Prog.bind (each up (fun a mE => Prog.bind (pw tab (ipOf (mulf (bx a).a (bx a).a)) (fpOf (mulf (bx a).a (bx a).a)) 0) fun cn =>
      Prog.ret (addf mE (mulf cn (inv a)))) mE) fun mE =>
  let e := addf mE (wf 0x1E3CE508#32)
  let cc := minimumf (wf 0x41200000#32) (maximumf (wf 0x00000000#32) (mulf e (rsqrt e)))
  let ip := fptosi 32 cc
  let fp := subf cc (sitofp .f32 ip)
  let ip1 := minsi (addi ip (wi 1)) (wi 10)
  Prog.bind (each up (fun a pa => Prog.bind (pw tab (ipOf (bx a).a) (fpOf (bx a).a) 5) fun v =>
      Prog.ret (addf pa (absf (subf v (wf 0x3F000000#32))))) (wf 0x00000000#32)) fun pa =>
  let g := addf (divf pa (wf 0x41200000#32)) (divf acc.pd (wf 0x42C80000#32))
  Prog.bind (pw tab (ipOf g) (fpOf g) 7) fun gate =>
  each [0, 1, 2, 3, 4, 5, 6, 7, 8, 9, 10] (fun t _ =>
    let o := addf (select (cmpi .eq ip (wi t)) (subf (wf 0x3F800000#32) fp) (wf 0x00000000#32)) (select (cmpi .eq ip1 (wi t)) fp (wf 0x00000000#32))
    Prog.bind (Prog.lift (TpuEff.assume (InOut (addi (muli l (wi 11)) (wi t))) (InOut.dec _))) fun h =>
    scat out ![addi (muli l (wi 11)) (wi t)] (mulf gate o) (idxOut h.down) (View.stores_vmem_bits_univ h_S176 rfl)) ⟨⟩

end

section
variable (i : grid0.Coords) (arg2 : Memref sig .scVector .hbm S1536x100 .f32) (arg3 : Memref sig .scVector .hbm S1536x400 .f32)
  (arg4 : Memref sig .scVector .hbm S272 .f32) (harg4 : arg4.IsWhole) (arg5 : Memref sig .scVector .hbm S16 .f32) (harg5 : arg5.IsWhole)
  (arg6 : Memref sig .scVector .hbm S16896 .f32)
  (arg7 : Memref sig .scVector .vmem S16x100 .f32) (harg7 : arg7.IsWhole) (arg8 : Memref sig .scVector .vmem S16x400 .f32) (harg8 : arg8.IsWhole)
  (arg9 : Memref sig .scVector .vmem S272 .f32) (harg9 : arg9.IsWhole) (arg10 : Memref sig .scVector .vmem S16 .f32) (harg10 : arg10.IsWhole)
  (arg11 : Memref sig .scVector .vmem S56x16 .f32)
  (arg12 : Memref sig .scVector .vmem S176 .f32) (harg12 : arg12.IsWhole) (r0 r1 r2 r3 r4 : DmaSems sig S_)

/-- One group: its rows copied in, computed, its results copied out. -/
def group (k : Fin k0_t1_loop.trips) (l : VI) (ninf factor : VF F) : TP F i PUnit :=
  Prog.bind (Prog.lift (.enqueueDma (arg2.slice (Rect.unit (s := S1536x100) (k0_off1 i k) S16x100.size (k0_off1_inb i k)) (fun _ => rfl)) (.here arg7) (.dma r2.sem) (View.wordExact_bits rfl) harg7.wordExact ⟨Or.inl rfl, trivial⟩)) fun _ =>
  Prog.bind (Prog.lift (.waitDma2 r2.sem (arg2.slice (Rect.unit (s := S1536x100) (k0_off1 i k) S16x100.size (k0_off1_inb i k)) (fun _ => rfl)) arg7 (View.wordExact_bits rfl) harg7.wordExact)) fun _ =>
  Prog.bind (Prog.lift (.enqueueDma (arg3.slice (Rect.unit (s := S1536x400) (k0_off2 i k) S16x400.size (k0_off2_inb i k)) (fun _ => rfl)) (.here arg8) (.dma r3.sem) (View.wordExact_bits rfl) harg8.wordExact ⟨Or.inl rfl, trivial⟩)) fun _ =>
  Prog.bind (Prog.lift (.waitDma2 r3.sem (arg3.slice (Rect.unit (s := S1536x400) (k0_off2 i k) S16x400.size (k0_off2_inb i k)) (fun _ => rfl)) arg8 (View.wordExact_bits rfl) harg8.wordExact)) fun _ =>
  Prog.bind (compute arg7 arg8 arg9 arg11 arg12 l ninf factor) fun _ =>
  Prog.bind (Prog.lift (.enqueueDma arg12 (.here (arg6.slice (Rect.unit (s := S16896) (k0_off3 i k) S176.size (k0_off3_inb i k)) (fun _ => rfl))) (.dma r4.sem) harg12.wordExact (View.wordExact_bits rfl) ⟨Or.inl rfl, trivial⟩)) fun _ =>
  Prog.bind (Prog.lift (.waitDma2 r4.sem arg12 (arg6.slice (Rect.unit (s := S16896) (k0_off3 i k) S176.size (k0_off3_inb i k)) (fun _ => rfl)) harg12.wordExact (View.wordExact_bits rfl))) fun _ =>
  Prog.ret ⟨⟩

/-- The whole body of a tile. -/
def tileProg : TP F i PUnit :=
  Prog.bind (Prog.lift (.enqueueDma arg4 (.here arg9) (.dma r0.sem) harg4.wordExact harg9.wordExact ⟨Or.inl rfl, trivial⟩)) fun _ =>
  Prog.bind (Prog.lift (.waitDma2 r0.sem arg4 arg9 harg4.wordExact harg9.wordExact)) fun _ =>
  Prog.bind (Prog.lift (.enqueueDma arg5 (.here arg10) (.dma r1.sem) harg5.wordExact harg10.wordExact ⟨Or.inl rfl, trivial⟩)) fun _ =>
  Prog.bind (Prog.lift (.waitDma2 r1.sem arg5 arg10 harg5.wordExact harg10.wordExact)) fun _ =>
  Prog.bind (Prog.lift (TpuEff.load (p := procOf i) (e := .f32) arg10 (Rect.unit (s := S16) ![0] S16.size inb_S16_S16_0).toLoadRect (View.loadsAt_vmem h_S16))) fun (factor : VF F) =>
  Prog.bind (Scf.Loop.for k0_t1_loop k0_t1_ok ⟨⟩ fun k _ =>
    group i arg2 arg3 arg6 arg7 harg7 arg8 harg8 arg9 arg11 arg12 harg12 r2 r3 r4 k
      (iota .scVector S16 32 [0] iota_S16_d0_w32_scVector) (wf 0xFF800000#32) factor) fun _ => Prog.ret ⟨⟩

set_option maxRecDepth 100000 in
/-- The printed body is the loops' program. -/
theorem tile_eq (harg2 : arg2.IsWhole) (harg3 : arg3.IsWhole) (harg6 : arg6.IsWhole) (harg11 : arg11.IsWhole) :
    cc0__sc_body (F := F) i arg2 harg2 arg3 harg3 arg4 harg4 arg5 harg5 arg6 harg6 arg7 harg7 arg8 harg8 arg9 harg9 arg10 harg10
        arg11 harg11 arg12 harg12 r0 r1 r2 r3 r4
      = tileProg i arg2 arg3 arg4 harg4 arg5 harg5 arg6 arg7 harg7 arg8 harg8 arg9 harg9 arg10 harg10 arg11 arg12 harg12 r0 r1 r2 r3 r4 := by
  sl_kernel_rfl

end

end Cert.Proof

end
-- ==== Proof.Scalar.lean ====
/- The scalars of one row: what the reference's operations are on the extended reals, and the ranges they stay in. -/
module

public import Idealize.ShloMosaic.PureOps.Ideal.Laws
public import Idealize.ShloMosaic.Lib.IdealHost
public import Idealize.ShloMosaic.Lib.WordArith

@[expose] public section

noncomputable section

namespace Cert.Proof

open Idealize.ShloMosaic
open scoped BigOperators

/-- The magnitude. -/
def mag (x : EReal) : EReal := max x (-x)

theorem mag_coe (r : ℝ) : mag (r : EReal) = ((|r| : ℝ) : EReal) := by
  rw [mag, ← EReal.coe_neg]
  exact (EReal.coe_strictMono.monotone.map_max (a := r) (b := -r)).symm

theorem mag_neg_sub (x y : ℝ) : mag ((x : EReal) - y) = mag ((y : EReal) - x) := by
  rw [← EReal.coe_sub, ← EReal.coe_sub, mag_coe, mag_coe, abs_sub_comm]

/-- A real number between zero and one. -/
def Unit01 (x : EReal) : Prop := ∃ r : ℝ, x = r ∧ 0 ≤ r ∧ r ≤ 1

theorem Unit01.mul {x y : EReal} (hx : Unit01 x) (hy : Unit01 y) : Unit01 (x * y) := by
  obtain ⟨a, rfl, ha, ha'⟩ := hx
  obtain ⟨b, rfl, hb, hb'⟩ := hy
  exact ⟨a * b, (EReal.coe_mul a b).symm, mul_nonneg ha hb, mul_le_one₀ ha' hb hb'⟩

theorem Unit01.gap {x y : EReal} (hx : Unit01 x) (hy : Unit01 y) : Unit01 (1 - mag (x - y)) := by
  obtain ⟨a, rfl, ha, ha'⟩ := hx
  obtain ⟨b, rfl, hb, hb'⟩ := hy
  refine ⟨1 - |a - b|, ?_, ?_, ?_⟩
  · rw [← EReal.coe_sub, mag_coe, ← EReal.coe_one, ← EReal.coe_sub]
  · have : |a - b| ≤ 1 := abs_le.2 ⟨by linarith, by linarith⟩
    linarith
  · have := abs_nonneg (a - b); linarith

theorem Unit01.one : Unit01 1 := ⟨1, by simp, by norm_num, le_refl _⟩

/-- The sigmoid of a real number lies between zero and one. -/
theorem Unit01.logistic (r : ℝ) : Unit01 (Ideal.logistic (r : EReal)) := by
  rw [Ideal.logistic_coe]
  have h : (0 : ℝ) < Real.exp (-r) := Real.exp_pos _
  refine ⟨_, rfl, by positivity, ?_⟩
  exact inv_le_one_of_one_le₀ (by linarith)

/-- The sigmoid by the exponential of minus the magnitude. -/
theorem sigmoid_eq (r : ℝ) :
    (if 0 ≤ (r : EReal) then Ideal.div 1 (1 + Ideal.exp (0 - mag (r : EReal)))
      else Ideal.exp (0 - mag (r : EReal)) * Ideal.div 1 (1 + Ideal.exp (0 - mag (r : EReal)))) = Ideal.logistic (r : EReal) := by
  have h0 : (0 : EReal) - mag (r : EReal) = ((-|r| : ℝ) : EReal) := by
    rw [mag_coe, ← EReal.coe_zero, ← EReal.coe_sub, zero_sub]
  have hp : (0 : ℝ) < Real.exp (-|r|) := Real.exp_pos _
  have hd : Ideal.div 1 (1 + Ideal.exp ((-|r| : ℝ) : EReal)) = (((1 + Real.exp (-|r|))⁻¹ : ℝ) : EReal) := by
    rw [Ideal.exp_coe, ← EReal.coe_one, ← EReal.coe_add, Ideal.div_coe (by positivity), ← EReal.coe_mul, one_mul, one_div]
  rw [h0, hd, Ideal.logistic_coe, Ideal.exp_coe]
  by_cases hr : 0 ≤ r
  · rw [if_pos (by exact_mod_cast hr), abs_of_nonneg hr]
  · rw [if_neg (by exact_mod_cast hr), abs_of_neg (not_le.1 hr), neg_neg, ← EReal.coe_mul]
    congr 1
    rw [Real.exp_neg]
    have := Real.exp_pos r
    field_simp
    ring

/-! ### The piecewise linear function -/

/-- The number of whole sixteenths in `x`. -/
def seg (x : EReal) : ℕ := ⌊x.toReal * 16⌋₊

/-- The piecewise linear function of the heights `cs` and the increments `nw` at `x`. -/
def pl (cs nw : ℕ → EReal) (x : EReal) : EReal :=
  cs (min (seg x) 16) + (x * 16 - ((seg x : ℝ) : EReal)) * nw (min (seg x + 1) 16)

theorem seg_le {x : EReal} (hx : Unit01 x) : seg x ≤ 16 := by
  obtain ⟨r, rfl, h0, h1⟩ := hx
  rw [seg, EReal.toReal_coe]
  exact Nat.floor_le_of_le (by norm_num; linarith)

/-- A small nonnegative real converted to an integer word is the word of its floor. -/
theorem fptosi_nat {r : ℝ} (h0 : 0 ≤ r) (h1 : r ≤ 1000) : Ideal.fptosi 32 (r : EReal) = BitVec.ofNat 32 ⌊r⌋₊ := by
  rw [Ideal.fptosi, Ideal.toIntClamped_coe, if_pos h0]
  have hf : (⌊r⌋₊ : ℤ) = ⌊r⌋ := Int.natCast_floor_eq_floor h0
  have hle : ⌊r⌋₊ ≤ 1000 := Nat.floor_le_of_le (by exact_mod_cast h1)
  rw [← hf]
  have : max (-((2 ^ (32 - 1) : ℕ) : ℤ)) (min (((2 ^ (32 - 1) : ℕ) : ℤ) - 1) (⌊r⌋₊ : ℤ)) = (⌊r⌋₊ : ℤ) := by
    have h2 : ((2 ^ (32 - 1) : ℕ) : ℤ) = 2147483648 := by norm_num
    rw [h2]; omega
  rw [this, BitVec.ofInt_natCast]

theorem fptosi_unit {x : EReal} (hx : Unit01 x) : Ideal.fptosi 32 (x * 16) = BitVec.ofNat 32 (seg x) := by
  obtain ⟨r, rfl, h0, h1⟩ := hx
  have : ((r : EReal) * 16) = ((r * 16 : ℝ) : EReal) := by rw [EReal.coe_mul]; rfl
  rw [this, fptosi_nat (by linarith) (by linarith), seg, EReal.toReal_coe]

/-- Nonnegative increments whose sum is one, and the heights they add up to. -/
structure Table (cs nw : ℕ → EReal) : Prop where
  real : ∃ q : ℕ → ℝ, (∀ j, 0 ≤ q j) ∧ (∑ j ∈ Finset.range 17, q j = 1) ∧ (∀ j, nw j = q j) ∧
    ∀ j, cs j = ((∑ i ∈ Finset.range (j + 1), q i : ℝ) : EReal)

theorem coe_sum_range (q : ℕ → ℝ) (n : ℕ) :
    ((∑ i ∈ Finset.range n, q i : ℝ) : EReal) = ∑ i ∈ Finset.range n, (q i : EReal) := by
  induction n with
  | zero => simp
  | succ n ih => rw [Finset.sum_range_succ, Finset.sum_range_succ, EReal.coe_add, ih]

/-- The function of a number between zero and one is such a number. -/
theorem Table.unit {cs nw : ℕ → EReal} (h : Table cs nw) {x : EReal} (hx : Unit01 x) : Unit01 (pl cs nw x) := by
  obtain ⟨q, hq, hs, hn, hc⟩ := h.real
  have hle := seg_le hx
  obtain ⟨r, rfl, h0, h1⟩ := hx
  have hk0 : (seg (r : EReal) : ℝ) ≤ r * 16 := by
    rw [seg, EReal.toReal_coe]; exact Nat.floor_le (by linarith)
  have hk1 : r * 16 < seg (r : EReal) + 1 := by
    rw [seg, EReal.toReal_coe]; exact Nat.lt_floor_add_one _
  have h16 : (r : EReal) * 16 = ((r * 16 : ℝ) : EReal) := by rw [EReal.coe_mul]; rfl
  unfold pl
  rw [h16, hn, hc, ← EReal.coe_sub, ← EReal.coe_mul, ← EReal.coe_add]
  refine ⟨_, rfl, ?_, ?_⟩
  · exact add_nonneg (Finset.sum_nonneg fun i _ => hq i) (mul_nonneg (by linarith) (hq _))
  · generalize seg (r : EReal) = k at *
    have hmono : ∀ n, n ≤ 17 → ∑ j ∈ Finset.range n, q j ≤ 1 := fun n hn => by
      rw [← hs]; exact Finset.sum_le_sum_of_subset_of_nonneg (Finset.range_mono hn) fun i _ _ => hq i
    rcases Nat.lt_or_ge k 16 with hk | hk
    · have e1 : min k 16 = k := by omega
      have e2 : min (k + 1) 16 = k + 1 := by omega
      rw [e1, e2]
      have := hmono (k + 1 + 1) (by omega)
      rw [Finset.sum_range_succ] at this
      nlinarith [hq (k + 1)]
    · have hk' : k = 16 := by omega
      subst hk'
      have e3 : r * 16 - ((16 : ℕ) : ℝ) = 0 := by push_cast at *; linarith
      rw [e3, zero_mul, add_zero]
      exact hmono _ (by norm_num)

/-- The function of one is the whole height, one. -/
theorem Table.at_one {cs nw : ℕ → EReal} (h : Table cs nw) : pl cs nw 1 = 1 := by
  obtain ⟨q, hq, hs, hn, hc⟩ := h.real
  have hk : seg 1 = 16 := by
    rw [seg, ← EReal.coe_one, EReal.toReal_coe, one_mul]
    exact_mod_cast Nat.floor_natCast (R := ℝ) 16
  have e : (1 : EReal) * 16 - ((((16 : ℕ) : ℝ)) : EReal) = 0 := by
    rw [one_mul]
    have : (16 : EReal) = ((((16 : ℕ) : ℝ)) : EReal) := by norm_cast
    rw [this, ← EReal.coe_sub, sub_self, EReal.coe_zero]
  rw [pl, hk, e, zero_mul, add_zero, hc, min_self, hs, EReal.coe_one]

theorem Table.last {cs nw : ℕ → EReal} (h : Table cs nw) : cs 16 = 1 := by
  obtain ⟨q, hq, hs, hn, hc⟩ := h.real
  rw [hc, hs, EReal.coe_one]

/-! ### Two boxes -/

/-- The small number added to the area of the union. -/
def eps12 : EReal := Ideal.ofBits .f32 0x2B8CBCCC#32
/-- The small number added before the square root. -/
def eps20 : EReal := Ideal.ofBits .f32 0x1E3CE508#32

theorem eps12_pos : ∃ e : ℝ, eps12 = e ∧ 0 < e := by
  unfold eps12
  simp [Ideal.ofBits, Ideal.ieee]
  refine ⟨_, by norm_cast, by positivity⟩

theorem eps20_pos : ∃ e : ℝ, eps20 = e ∧ 0 < e := by
  unfold eps20
  simp [Ideal.ofBits, Ideal.ieee]
  refine ⟨_, by norm_cast, by positivity⟩

/-- The area of the box `(y0, x0, y1, x1)`. -/
def area (p : Fin 4 → EReal) : EReal := max (p 2 - p 0) 0 * max (p 3 - p 1) 0
/-- The area two boxes share. -/
def inter (p q : Fin 4 → EReal) : EReal :=
  max (min (p 2) (q 2) - max (p 0) (q 0)) 0 * max (min (p 3) (q 3) - max (p 1) (q 1)) 0
/-- One less the share of the two boxes' union that both hold. -/
def far (p q : Fin 4 → EReal) : EReal := 1 - Ideal.div (inter p q) (area p + area q - inter p q + eps12)

theorem inter_comm (p q : Fin 4 → EReal) : inter p q = inter q p := by
  unfold inter; rw [min_comm (p 2), max_comm (p 0), min_comm (p 3), max_comm (p 1)]

theorem far_comm (p q : Fin 4 → EReal) : far p q = far q p := by
  unfold far; rw [inter_comm, add_comm (area p)]

theorem inter_nonneg (p q : Fin 4 → EReal) : 0 ≤ inter p q := mul_nonneg (le_max_right _ _) (le_max_right _ _)

theorem inter_le (p q : Fin 4 → EReal) : inter p q ≤ area p := by
  unfold inter area
  have h1 : max (min (p 2) (q 2) - max (p 0) (q 0)) 0 ≤ max (p 2 - p 0) 0 :=
    max_le_max (EReal.sub_le_sub (min_le_left _ _) (le_max_left _ _)) le_rfl
  have h2 : max (min (p 3) (q 3) - max (p 1) (q 1)) 0 ≤ max (p 3 - p 1) 0 :=
    max_le_max (EReal.sub_le_sub (min_le_left _ _) (le_max_left _ _)) le_rfl
  exact mul_le_mul h1 h2 (le_max_right _ _) (le_max_right _ _)

/-- It lies between zero and one, whatever the corners. -/
theorem Unit01.far (p q : Fin 4 → EReal) : Unit01 (far p q) := by
  obtain ⟨e, he, hpos⟩ := eps12_pos
  have h0 := inter_nonneg p q
  have hp := inter_le p q
  have hq : inter p q ≤ area q := inter_comm p q ▸ inter_le q p
  unfold Cert.Proof.far
  rw [he]
  generalize inter p q = r at *
  generalize area p = A at *
  generalize area q = B at *
  have z1 : Unit01 (1 - 0) := ⟨1, by simp, by norm_num, le_refl _⟩
  induction r with
  | bot => simp at h0
  | top =>
    rw [top_le_iff] at hp hq
    subst hp hq
    simpa [Ideal.div] using z1
  | coe r =>
    have hr : 0 ≤ r := by exact_mod_cast h0
    induction A with
    | bot => simp at hp
    | top =>
      have hB : B ≠ ⊥ := by rintro rfl; simp at hq
      rw [EReal.top_add_of_ne_bot hB, EReal.top_sub_coe, EReal.top_add_coe]
      simpa [Ideal.div] using z1
    | coe A =>
      induction B with
      | bot => simp at hq
      | top =>
        rw [EReal.coe_add_top, EReal.top_sub_coe, EReal.top_add_coe]
        simpa [Ideal.div] using z1
      | coe B =>
        have hA : r ≤ A := by exact_mod_cast hp
        have hB : r ≤ B := by exact_mod_cast hq
        have hd : 0 < A + B - r + e := by linarith
        rw [← EReal.coe_add, ← EReal.coe_sub, ← EReal.coe_add, Ideal.div_coe hd.ne', ← EReal.coe_mul, ← EReal.coe_one,
          ← EReal.coe_sub]
        refine ⟨_, rfl, ?_, ?_⟩
        · have : r * (1 / (A + B - r + e)) ≤ 1 := by rw [mul_one_div, div_le_one hd]; linarith
          linarith
        · have : 0 ≤ r * (1 / (A + B - r + e)) := by positivity
          linarith

end Cert.Proof

end
-- ==== Proof.Row.lean ====
/- One row of the result as a function of the row's ten attentions, their boxes and the weights: the reference's formula,
   the numbers it passes through, and the forms of them that the other program computes. -/
module

public import proofs.«01_k».proof.Proof.Scalar

@[expose] public section

noncomputable section

namespace Cert.Proof

open Idealize.ShloMosaic
open scoped BigOperators

/-- The increments of a row of weights: each weight's share of the magnitudes. -/
def inc (w : Fin 17 → EReal) (i : ℕ) : EReal := if h : i < 17 then Ideal.div (mag (w ⟨i, h⟩)) (∑ k, mag (w k)) else 0
/-- The heights: the increments up to each. -/
def hgt (w : Fin 17 → EReal) (i : ℕ) : EReal := ∑ j ∈ Finset.range (i + 1), inc w j

theorem coe_sum_fin {n : ℕ} (q : Fin n → ℝ) : ((∑ i, q i : ℝ) : EReal) = ∑ i, (q i : EReal) := by
  induction n with
  | zero => simp
  | succ n ih => rw [Fin.sum_univ_succ, Fin.sum_univ_succ, EReal.coe_add, ih]

/-- Finite weights, not all zero, make a table. -/
theorem table (w : Fin 17 → EReal) (hw : ∀ i, ∃ r : ℝ, w i = r) (hpos : 0 < ∑ k, mag (w k)) : Table (hgt w) (inc w) := by
  choose r hr using hw
  have hs : ∑ k, mag (w k) = ((∑ k, |r k| : ℝ) : EReal) := by
    rw [coe_sum_fin]; exact Finset.sum_congr rfl fun k _ => by rw [hr, mag_coe]
  have h0 : 0 < ∑ k, |r k| := by rw [hs] at hpos; exact_mod_cast hpos
  let q : ℕ → ℝ := fun i => if h : i < 17 then |r ⟨i, h⟩| / ∑ k, |r k| else 0
  have hq : ∀ j, inc w j = q j := fun j => by
    unfold inc
    by_cases h : j < 17
    · rw [dif_pos h, hs, hr, mag_coe, Ideal.div_coe h0.ne', ← EReal.coe_mul, mul_one_div]
      simp only [q, dif_pos h]
    · rw [dif_neg h]; simp only [q, dif_neg h, EReal.coe_zero]
  refine ⟨q, fun j => ?_, ?_, hq, fun j => ?_⟩
  · simp only [q]; split
    · positivity
    · exact le_refl _
  · rw [Finset.sum_range]
    have : ∀ i : Fin 17, q i = |r i| / ∑ k, |r k| := fun i => by simp only [q, dif_pos i.isLt]
    rw [Finset.sum_congr rfl fun i _ => this i, ← Finset.sum_div, div_self h0.ne']
  · rw [hgt, coe_sum_range]; exact Finset.sum_congr rfl fun i _ => hq i

/-- What the rows' formula is of: the weights, a row's ten greatest attentions, and their boxes. -/
structure In where
  W : Fin 8 → Fin 17 → EReal
  top : Fin 10 → EReal
  bx : Fin 10 → Fin 4 → EReal

namespace In
variable (d : In)

/-- The piecewise linear function of weight row `w`. -/
def P (w : Fin 8) (x : EReal) : EReal := pl (hgt (d.W w)) (inc (d.W w)) x
def att (i : Fin 10) : EReal := Ideal.logistic (d.top i)
def gap (i j : Fin 10) : EReal := far (d.bx i) (d.bx j)
def near (i j : Fin 10) : EReal := d.P 2 (1 - mag (d.att i - d.att j))
def s (i : Fin 10) : EReal := ∑ j, d.near i j
def score (i j : Fin 10) : EReal := d.P 0 (d.att i * d.att j) * d.P 1 (d.gap i j)
def fix (i : Fin 10) : EReal := d.P 0 (d.att i * d.att i)
def edges : EReal := (∑ i, ∑ j, Ideal.div (d.score i j) (d.s i * d.s j)) + ∑ i, Ideal.div (d.fix i) (d.s i)
/-- The count before it is spread over the result. -/
def count : EReal := min 10 (max 0 (Ideal.sqrt (d.edges + eps20)))
def offA (i : Fin 10) : EReal := mag (d.P 5 (d.att i) - ((1 / 2 : ℝ) : EReal))
def offD (i j : Fin 10) : EReal := mag (d.P 6 (d.gap i j) - ((1 / 2 : ℝ) : EReal))
def sure : EReal := Ideal.div (∑ i, d.offA i) 10 + Ideal.div (∑ i, Ideal.div (∑ j, d.offD i j) 10) 10
/-- The whole part of the count. -/
def whole : ℕ := ⌊d.count.toReal⌋₊
/-- Its fraction. -/
def frac : EReal := d.count - ((d.whole : ℝ) : EReal)
/-- The result's entry `t`. -/
def out (t : ℕ) : EReal :=
  d.P 7 d.sure * ((1 - d.frac) * (if t = min d.whole 10 then 1 else 0) + d.frac * (if t = min (d.whole + 1) 10 then 1 else 0))

/-- Finite attentions, and tables. -/
structure Ok : Prop where
  tab : ∀ w, Table (hgt (d.W w)) (inc (d.W w))
  top : ∀ i, ∃ r : ℝ, d.top i = r

variable {d} (h : d.Ok)
include h

theorem Ok.P_unit (w : Fin 8) {x : EReal} (hx : Unit01 x) : Unit01 (d.P w x) := (h.tab w).unit hx
theorem Ok.att_unit (i : Fin 10) : Unit01 (d.att i) := by
  obtain ⟨r, hr⟩ := h.top i
  rw [att, hr]; exact .logistic r
omit h in
theorem gap_unit (i j : Fin 10) : Unit01 (d.gap i j) := .far _ _
theorem Ok.near_unit (i j : Fin 10) : Unit01 (d.near i j) := h.P_unit 2 ((h.att_unit i).gap (h.att_unit j))
theorem Ok.near_self (i : Fin 10) : d.near i i = 1 := by
  obtain ⟨r, hr, -⟩ := h.att_unit i
  rw [near, hr, ← EReal.coe_sub, mag_coe, sub_self, abs_zero, EReal.coe_zero, sub_zero]
  exact (h.tab 2).at_one
theorem Ok.near_comm (i j : Fin 10) : d.near i j = d.near j i := by
  obtain ⟨r, hr, -⟩ := h.att_unit i
  obtain ⟨q, hq, -⟩ := h.att_unit j
  rw [near, near, hr, hq, mag_neg_sub]
omit h in
theorem gap_comm (i j : Fin 10) : d.gap i j = d.gap j i := far_comm _ _
omit h in
theorem score_comm (i j : Fin 10) : d.score i j = d.score j i := by
  rw [score, score, mul_comm (d.att i), gap_comm i j]
omit h in
theorem offD_comm (i j : Fin 10) : d.offD i j = d.offD j i := by rw [offD, offD, gap_comm i j]
theorem Ok.score_unit (i j : Fin 10) : Unit01 (d.score i j) :=
  (h.P_unit 0 ((h.att_unit i).mul (h.att_unit j))).mul (h.P_unit 1 (gap_unit i j))
theorem Ok.fix_unit (i : Fin 10) : Unit01 (d.fix i) := h.P_unit 0 ((h.att_unit i).mul (h.att_unit i))

/-- The similarities of a box add up to a real number, at least one. -/
theorem Ok.s_ge (i : Fin 10) : ∃ r : ℝ, d.s i = r ∧ 1 ≤ r := by
  choose q hq h0 h1 using fun j => h.near_unit i j
  refine ⟨∑ j, q j, ?_, ?_⟩
  · rw [s, coe_sum_fin]; exact Finset.sum_congr rfl fun j _ => hq j
  · have : q i = 1 := by
      have := h.near_self i
      rw [hq i] at this; exact_mod_cast this
    rw [← this]
    exact Finset.single_le_sum (f := q) (fun j _ => h0 j) (Finset.mem_univ i)

theorem Ok.score_inv (i j : Fin 10) :
    d.score i j * (Ideal.div 1 (d.s i) * Ideal.div 1 (d.s j)) = Ideal.div (d.score i j) (d.s i * d.s j) := by
  obtain ⟨a, ha, ha1⟩ := h.s_ge i
  obtain ⟨b, hb, hb1⟩ := h.s_ge j
  rw [ha, hb, ← EReal.coe_mul, Ideal.div_coe (by positivity), Ideal.div_coe (by positivity), Ideal.div_coe (by positivity)]
  rw [one_mul, one_mul, ← EReal.coe_mul, one_div_mul_one_div]

theorem Ok.fix_inv (i : Fin 10) : d.fix i * Ideal.div 1 (d.s i) = Ideal.div (d.fix i) (d.s i) := by
  obtain ⟨a, ha, ha1⟩ := h.s_ge i
  have hne : d.s i ≠ 0 := by rw [ha]; exact_mod_cast (show a ≠ 0 by positivity)
  exact Idealize.ShloMosaic.Ideal.mul_one_div hne

theorem Ok.edges_nonneg : ∃ r : ℝ, d.edges = r ∧ 0 ≤ r := by
  choose a ha ha1 using h.s_ge
  choose q hq hq0 hq1 using h.score_unit
  choose f hf hf0 hf1 using h.fix_unit
  refine ⟨(∑ i, ∑ j, q i j / (a i * a j)) + ∑ i, f i / a i, ?_, ?_⟩
  · rw [edges, EReal.coe_add, coe_sum_fin, coe_sum_fin]
    congr 1
    · refine Finset.sum_congr rfl fun i _ => ?_
      rw [coe_sum_fin]
      refine Finset.sum_congr rfl fun j _ => ?_
      have h1 := ha1 i
      have h2 := ha1 j
      rw [hq, ha, ha, ← EReal.coe_mul, Ideal.div_coe (by positivity), ← EReal.coe_mul, mul_one_div]
    · refine Finset.sum_congr rfl fun i _ => ?_
      have h1 := ha1 i
      rw [hf, ha, Ideal.div_coe (by positivity), ← EReal.coe_mul, mul_one_div]
  · have h1 : ∀ i, 0 ≤ a i := fun i => by linarith [ha1 i]
    exact add_nonneg (Finset.sum_nonneg fun i _ => Finset.sum_nonneg fun j _ => div_nonneg (hq0 i j) (mul_nonneg (h1 i) (h1 j)))
      (Finset.sum_nonneg fun i _ => div_nonneg (hf0 i) (h1 i))

/-- A positive number times its reciprocal square root is its square root. -/
theorem Ok.root : (d.edges + eps20) * Ideal.rsqrt (d.edges + eps20) = Ideal.sqrt (d.edges + eps20) := by
  obtain ⟨r, hr, h0⟩ := h.edges_nonneg
  obtain ⟨e, he, hp⟩ := eps20_pos
  have hs : 0 < r + e := by linarith
  rw [hr, he, ← EReal.coe_add, Ideal.rsqrt_coe, Ideal.sqrt_coe, if_neg (not_lt.2 hs.le), if_neg (not_lt.2 hs.le), if_neg hs.ne',
    ← EReal.coe_mul]
  congr 1
  rw [← div_eq_mul_inv, Real.div_sqrt]

theorem Ok.count_real : ∃ r : ℝ, d.count = r ∧ 0 ≤ r ∧ r ≤ 10 := by
  obtain ⟨r, hr, h0⟩ := h.edges_nonneg
  obtain ⟨e, he, hp⟩ := eps20_pos
  have hs : 0 < r + e := by linarith
  refine ⟨min 10 (max 0 (Real.sqrt (r + e))), ?_, ?_, min_le_left _ _⟩
  · rw [count, hr, he, ← EReal.coe_add, Ideal.sqrt_coe, if_neg (not_lt.2 hs.le)]
    rw [EReal.coe_strictMono.monotone.map_min, EReal.coe_strictMono.monotone.map_max]; rfl
  · exact le_min (by norm_num) (le_max_left _ _)

theorem Ok.whole_le : d.whole ≤ 10 := by
  obtain ⟨r, hr, h0, h1⟩ := h.count_real
  rw [whole, hr, EReal.toReal_coe]
  exact Nat.floor_le_of_le (by exact_mod_cast h1)

theorem Ok.count_word : Ideal.fptosi 32 d.count = BitVec.ofNat 32 d.whole := by
  obtain ⟨r, hr, h0, h1⟩ := h.count_real
  rw [whole, hr, EReal.toReal_coe]
  exact fptosi_nat h0 (by linarith)

theorem half_off {x : EReal} (hx : Unit01 x) : ∃ r : ℝ, mag (x - ((1 / 2 : ℝ) : EReal)) = r ∧ 0 ≤ r ∧ r ≤ 1 / 2 := by
  obtain ⟨a, rfl, h0, h1⟩ := hx
  rw [← EReal.coe_sub, mag_coe]
  exact ⟨_, rfl, abs_nonneg _, abs_le.2 ⟨by linarith, by linarith⟩⟩

theorem div_ten (r : ℝ) : Ideal.div (r : EReal) 10 = ((r / 10 : ℝ) : EReal) := by
  have : (10 : EReal) = ((10 : ℝ) : EReal) := rfl
  rw [this, Ideal.div_coe (by norm_num), ← EReal.coe_mul, mul_one_div]

theorem div_hundred (r : ℝ) : Ideal.div (r : EReal) 100 = ((r / 100 : ℝ) : EReal) := by
  have : (100 : EReal) = ((100 : ℝ) : EReal) := rfl
  rw [this, Ideal.div_coe (by norm_num), ← EReal.coe_mul, mul_one_div]

/-- The two means of distances from one half, in the other program's form. -/
theorem Ok.sure_eq : Ideal.div (∑ i, d.offA i) 10 + Ideal.div (∑ i, ∑ j, d.offD i j) 100 = d.sure := by
  choose f hf hf0 hf1 using fun i => half_off h (h.P_unit 5 (h.att_unit i))
  choose q hq hq0 hq1 using fun i j => half_off h (h.P_unit 6 (gap_unit (d := d) i j))
  have e1 : ∀ i, d.offA i = f i := hf
  have e2 : ∀ i j, d.offD i j = q i j := hq
  simp only [sure, e1, e2, ← coe_sum_fin, div_ten h, div_hundred h]
  congr 2
  rw [← Finset.sum_div, div_div]; norm_num

theorem Ok.sure_unit : Unit01 d.sure := by
  rw [← h.sure_eq]
  choose f hf hf0 hf1 using fun i => half_off h (h.P_unit 5 (h.att_unit i))
  choose q hq hq0 hq1 using fun i j => half_off h (h.P_unit 6 (gap_unit (d := d) i j))
  have e1 : ∀ i, d.offA i = f i := hf
  have e2 : ∀ i j, d.offD i j = q i j := hq
  simp only [e1, e2, ← coe_sum_fin, div_ten h, div_hundred h, ← EReal.coe_add]
  refine ⟨_, rfl, ?_, ?_⟩
  · exact add_nonneg (div_nonneg (Finset.sum_nonneg fun i _ => hf0 i) (by norm_num))
      (div_nonneg (Finset.sum_nonneg fun i _ => Finset.sum_nonneg fun j _ => hq0 i j) (by norm_num))
  · have b1 : ∑ i, f i ≤ 5 := by
      refine (Finset.sum_le_sum fun i _ => hf1 i).trans ?_
      simp; norm_num
    have b2 : ∑ i, ∑ j, q i j ≤ 50 := by
      refine (Finset.sum_le_sum fun i _ => Finset.sum_le_sum fun j _ => hq1 i j).trans ?_
      simp; norm_num
    linarith

end In

/-! ### Sums over pairs `i ≤ j` -/

/-- A symmetric double sum is its diagonal and twice what lies above it. -/
theorem sum_pairs (f : Fin 10 → Fin 10 → EReal) (hf : ∀ i j, f i j = f j i) :
    (∑ i, ∑ j, if i ≤ j then (if i = j then f i j else f i j + f i j) else 0) = ∑ i, ∑ j, f i j := by
  have h1 : ∀ i j : Fin 10, f i j = (if i ≤ j then f i j else 0) + (if j < i then f i j else 0) := fun i j => by
    rcases le_or_gt i j with h | h
    · rw [if_pos h, if_neg (not_lt.2 h), add_zero]
    · rw [if_neg (not_le.2 h), if_pos h, zero_add]
  have h2 : (∑ i, ∑ j, f i j) = (∑ i, ∑ j, if i ≤ j then f i j else 0) + ∑ i, ∑ j, if i < j then f i j else 0 := by
    rw [Finset.sum_congr rfl fun i _ => Finset.sum_congr rfl fun j _ => h1 i j]
    simp only [Finset.sum_add_distrib]
    congr 1
    rw [Finset.sum_comm]
    exact Finset.sum_congr rfl fun i _ => Finset.sum_congr rfl fun j _ => by rw [hf j i]
  rw [h2]
  simp only [← Finset.sum_add_distrib]
  refine Finset.sum_congr rfl fun i _ => Finset.sum_congr rfl fun j _ => ?_
  rcases lt_trichotomy i j with h | h | h
  · simp [h, h.le, h.ne]
  · subst h; simp
  · simp [not_le.2 h, not_lt.2 h.le]

/-- A row of a symmetric array is summed by giving each pair `i ≤ j` to both its ends. -/
theorem sum_row (f : Fin 10 → Fin 10 → EReal) (hf : ∀ i j, f i j = f j i) (k : Fin 10) :
    (∑ i, ∑ j, if i ≤ j then (if i = k then f i j else if j = k then f i j else 0) else 0) = ∑ j, f k j := by
  have h1 : ∀ i j : Fin 10, (if i ≤ j then (if i = k then f i j else if j = k then f i j else 0) else 0)
      = (if i = k then (if k ≤ j then f k j else 0) else 0) + (if j = k then (if i < k then f k i else 0) else 0) := fun i j => by
    by_cases hi : i = k
    · subst hi
      by_cases hj : j = i <;> simp [hj]
    · by_cases hj : j = k
      · subst hj
        rcases lt_or_ge i j with h | h
        · simp [hi, h, h.le, hf i j]
        · have : ¬ i ≤ j := fun h' => hi (le_antisymm h' h)
          simp [hi, this, not_lt.2 h]
      · simp [hi, hj]
  simp only [h1, Finset.sum_add_distrib]
  rw [Finset.sum_comm]
  simp only [Finset.sum_ite_eq', Finset.mem_univ, if_true]
  rw [← Finset.sum_add_distrib]
  refine Finset.sum_congr rfl fun j _ => ?_
  rcases le_or_gt k j with h | h
  · simp [h, not_lt.2 h]
  · simp [not_le.2 h, h]

end Cert.Proof

end
-- ==== Proof.Runs.lean ====
/- What a tile's program does to the tile's arrays, as a relation between what they hold before and after: the rules for
   one operation after another, for loops, gathers and scatters. -/
module

public import proofs.«01_k».proof.Proof.Compact
public import proofs.«01_k».proof.Proof.Row
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

abbrev UH : Type := URounds (GSem nD τ sig) ℕ
abbrev UP : Type := URounds (GSem nD τ sig) Unit
abbrev UU : Type := UH × (UP × Counters)
local notation "𝕄" => MT nD τ sig (HIx 1) (Elt Ideal) ℕ UU ℕ
abbrev 𝒱₀ : Variants := Variants.none

abbrev sAtt : Memref sig .scVector .vmem S16x100 .f32 := Memref.whole cc0_scratch0
abbrev sBox : Memref sig .scVector .vmem S16x400 .f32 := Memref.whole cc0_scratch1
abbrev sTab : Memref sig .scVector .vmem S272 .f32 := Memref.whole cc0_scratch2
abbrev sAtv : Memref sig .scVector .vmem S56x16 .f32 := Memref.whole cc0_scratch4
abbrev sOut : Memref sig .scVector .vmem S176 .f32 := Memref.whole cc0_scratch5

/-- What a tile's arrays hold, by row and column. -/
structure Mem where
  att : ℕ → ℕ → EReal
  box : ℕ → ℕ → EReal
  tab : ℕ → EReal
  atv : ℕ → ℕ → EReal
  out : ℕ → EReal

/-- An array of the contents `f`. -/
def arr1 {n : ℕ} (f : ℕ → EReal) : FVec Ideal ⟨1, ![n]⟩ .f32 := fun j => f (j 0).val
def arr2 {n k : ℕ} (f : ℕ → ℕ → EReal) : FVec Ideal ⟨2, ![n, k]⟩ .f32 := fun j => f (j 0).val (j 1).val

variable (d : Dev nD) (i : grid0.Coords)

/-- The thread of grid point `i` on device `d`. -/
abbrev thr : Thread nD τ := (d, procOf i)

abbrev attPts (f : FVec Ideal S16x100 .f32) : sProp 𝕄 := (thr d i).loc cc0_scratch0 ↦{fullShare} (f : Buf (Elt Ideal) ((thr d i).loc cc0_scratch0))
abbrev boxPts (f : FVec Ideal S16x400 .f32) : sProp 𝕄 := (thr d i).loc cc0_scratch1 ↦{fullShare} (f : Buf (Elt Ideal) ((thr d i).loc cc0_scratch1))
abbrev tabPts (f : FVec Ideal S272 .f32) : sProp 𝕄 := (thr d i).loc cc0_scratch2 ↦{fullShare} (f : Buf (Elt Ideal) ((thr d i).loc cc0_scratch2))
abbrev atvPts (f : FVec Ideal S56x16 .f32) : sProp 𝕄 := (thr d i).loc cc0_scratch4 ↦{fullShare} (f : Buf (Elt Ideal) ((thr d i).loc cc0_scratch4))
abbrev outPts (f : FVec Ideal S176 .f32) : sProp 𝕄 := (thr d i).loc cc0_scratch5 ↦{fullShare} (f : Buf (Elt Ideal) ((thr d i).loc cc0_scratch5))

/-- The tile's arrays hold `m`. -/
def Tile (m : Mem) : sProp 𝕄 :=
  iprop(attPts d i (arr2 m.att) ∗ boxPts d i (arr2 m.box) ∗ tabPts d i (arr1 m.tab) ∗ atvPts d i (arr2 m.atv) ∗ outPts d i (arr1 m.out))

/-- From contents `m` the program gives a result and contents that `R` relates. -/
def Does {α : Type} (p : TP Ideal i α) (m : Mem) (R : α → Mem → Prop) : Prop :=
  ∃ a m', R a m' ∧ ∀ Q : α → sProp 𝕄, iprop(Tile d i m ∗ (Tile d i m' -∗ Q a))
    ⊢ wp frame (wpE (defs₀ (F := Ideal)) 𝒱₀ (thr d i) none) Set.univ p Q

variable {d i} {α β : Type}

theorem Does.ret {m : Mem} {R : α → Mem → Prop} {a : α} (h : R a m) : Does d i (Prog.ret a) m R := by
  refine ⟨a, m, h, fun Q => ?_⟩
  rw [wp_ret]
  iintro ⟨H, Hk⟩
  imodintro
  iapply Hk; iexact H

theorem Does.bind {p : TP Ideal i α} {k : α → TP Ideal i β} {m : Mem} {R : α → Mem → Prop} {S : β → Mem → Prop}
    (hp : Does d i p m R) (hk : ∀ a m', R a m' → Does d i (k a) m' S) : Does d i (Prog.bind p k) m S := by
  obtain ⟨a, m', hR, h⟩ := hp
  obtain ⟨b, m'', hS, h'⟩ := hk a m' hR
  refine ⟨b, m'', hS, fun Q => ?_⟩
  show _ ⊢ wp _ _ _ (p >>= k) Q
  rw [wp_bind]
  refine BIBase.Entails.trans ?_ (h _)
  iintro ⟨H, Hk⟩
  isplitl [H]; · iexact H
  iintro H'
  iapply (h' Q)
  isplitl [H']; · iexact H'
  iexact Hk

theorem Does.mono {p : TP Ideal i α} {m : Mem} {R S : α → Mem → Prop} (hp : Does d i p m R) (h : ∀ a m', R a m' → S a m') :
    Does d i p m S := by
  obtain ⟨a, m', hR, hw⟩ := hp
  exact ⟨a, m', h _ _ hR, hw⟩

/-- A loop, by what holds after each initial part of its list. -/
theorem Does.each {l : List α} {f : α → β → TP Ideal i β} (Inv : List α → β → Mem → Prop) {m : Mem} {s : β} (h0 : Inv [] s m)
    (hs : ∀ pre a post s m, l = pre ++ a :: post → Inv pre s m → Does d i (f a s) m (Inv (pre ++ [a]))) :
    Does d i (Cert.Proof.each l f s) m (Inv l) := by
  suffices H : ∀ post pre s m, l = pre ++ post → Inv pre s m → Does d i (Cert.Proof.each post f s) m (Inv l) from
    H l [] s m rfl h0
  intro post
  induction post with
  | nil => intro pre s m hl h; rw [List.append_nil] at hl; subst hl; exact Does.ret h
  | cons a post ih =>
    intro pre s m hl h
    refine Does.bind (hs pre a post s m hl h) fun s' m' h' => ?_
    exact ih (pre ++ [a]) s' m' (by rw [hl, List.append_assoc]; rfl) h'

theorem Does.assume {P : Prop} [D : Decidable P] {k : PLift P → TP Ideal i β} {m : Mem} {S : β → Mem → Prop} (hP : P)
    (hk : Does d i (k ⟨hP⟩) m S) : Does d i (Prog.bind (Prog.lift (TpuEff.assume P D)) k) m S := by
  obtain ⟨b, m', hS, h⟩ := hk
  refine ⟨b, m', hS, fun Q => (h Q).trans ?_⟩
  exact wp_assume 𝒱₀ (thr d i) none Set.univ hP

/-! ### Words and floats of the sixteen lanes -/

/-- The lanes of `c` are the numbers `k`. -/
def IsW (c : VI) (k : ℕ → ℕ) : Prop := ∀ x, c x = BitVec.ofNat 32 (k (x 0).val)
/-- The lanes of `v` are the values `f`. -/
def IsV (v : VF Ideal) (f : ℕ → EReal) : Prop := ∀ x, v x = f (x 0).val

theorem lane_lt (x : S16.Idx) : (x 0).val < 16 := (x 0).isLt

variable {a b : VI} {k l : ℕ → ℕ}

theorem IsW.wi (n : ℕ) : IsW (wi n) fun _ => n := fun _ => rfl
theorem IsW.add (ha : IsW a k) (hb : IsW b l) : IsW (addi a b) fun x => k x + l x := fun x => by
  show a x + b x = _
  rw [ha, hb, BitVec.ofNat_add]
theorem IsW.mul (ha : IsW a k) (hb : IsW b l) : IsW (muli a b) fun x => k x * l x := fun x => by
  show a x * b x = _
  rw [ha, hb, BitVec.ofNat_mul]
theorem IsW.congr (ha : IsW a k) (h : ∀ x < 16, k x = l x) : IsW a l := fun x => by rw [ha, h _ (lane_lt x)]
theorem IsV.congr {v : VF Ideal} {f g : ℕ → EReal} (ha : IsV v f) (h : ∀ x < 16, f x = g x) : IsV v g := fun x => by
  rw [ha, h _ (lane_lt x)]
theorem IsW.toNat (ha : IsW a k) {x : S16.Idx} (h : k (x 0).val < 2 ^ 31) : (a x).toNat = k (x 0).val := by
  rw [ha, BitVec.toNat_ofNat]; exact Nat.mod_eq_of_lt (by omega)
theorem IsW.mins (ha : IsW a k) (hb : IsW b l) (hk : ∀ x < 16, k x < 2 ^ 31) (hl : ∀ x < 16, l x < 2 ^ 31) :
    IsW (minsi a b) fun x => min (k x) (l x) := fun x => by
  have e1 : (BitVec.ofNat 32 (k (x 0).val)).toInt = k (x 0).val := Idealize.ShloMosaic.WordArith.toInt_ofNat_small _ (by have := hk _ (lane_lt x); omega)
  have e2 : (BitVec.ofNat 32 (l (x 0).val)).toInt = l (x 0).val := Idealize.ShloMosaic.WordArith.toInt_ofNat_small _ (by have := hl _ (lane_lt x); omega)
  show (if (a x).slt (b x) then a x else b x) = BitVec.ofNat 32 (min (k (x 0).val) (l (x 0).val))
  rw [ha, hb, BitVec.slt_eq_decide, e1, e2]
  by_cases h : k (x 0).val < l (x 0).val
  · rw [if_pos (by simpa using h), min_eq_left h.le]
  · rw [if_neg (by simpa using h), min_eq_right (not_lt.1 h)]
/-- Small words are equal just if their numbers are. -/
theorem IsW.eq_iff (ha : IsW a k) (hb : IsW b l) {x : S16.Idx} (hk : k (x 0).val < 2 ^ 31) (hl : l (x 0).val < 2 ^ 31) :
    cmpi .eq a b x = BitVec.ofBool (decide (k (x 0).val = l (x 0).val)) := by
  show BitVec.ofBool (a x == b x) = _
  congr 1
  rw [Bool.eq_iff_iff, beq_iff_eq, decide_eq_true_iff]
  constructor
  · intro h; have := congrArg BitVec.toNat h; rwa [ha.toNat hk, hb.toNat hl] at this
  · intro h; rw [ha, hb, h]

/-- The lanes' numbers. -/
abbrev lane : VI := iota .scVector S16 32 [0] iota_S16_d0_w32_scVector
theorem IsW.lane : IsW lane fun x => x := fun x => by
  show BitVec.ofNat 32 (0 * 16 + (x 0).val) = _
  rw [Nat.zero_mul, Nat.zero_add]

theorem sel_apply {α : Type} (c : IVec S16 1) (a b : S16.Idx → α) (x : S16.Idx) (P : Prop) [Decidable P] (h : c x = BitVec.ofBool (decide P)) :
    select c a b x = if P then a x else b x := by
  show (if c x = 1 then a x else b x) = _
  rw [h]; by_cases hp : P <;> simp [hp]

/-! ### Gathers and scatters -/

theorem gath_wp {s : Shape} (base : Memref sig .scVector .vmem s .f32) (idxs : Fin s.rank → IVec S16 32)
    (h : ∀ a x, (idxs a x).toNat < s.size a) (hl : base.view.Loads) (f : Buf (Elt Ideal) ((base.access (.whole s)).loc (thr d i)))
    (Q : VF Ideal → sProp 𝕄) :
    iprop(((base.access (.whole s)).loc (thr d i) ↦{fullShare} f)
        ∗ (((base.access (.whole s)).loc (thr d i) ↦{fullShare} f) -∗ Q (loadIdx ((base.access (.whole s)).read (Elt Ideal) f) idxs h)))
      ⊢ wp frame (wpE (defs₀ (F := Ideal)) 𝒱₀ (thr d i) none) Set.univ (gath (i := i) base idxs h hl) Q := by
  iintro ⟨H, Hk⟩
  iapply (wp_load_rect (defs := defs₀ (F := Ideal)) 𝒱₀ (thr d i) none Set.univ (Q := Q) (m := base) (r := Rect.whole s)
      (hl := View.loadsAt_whole hl) (k := fun f => Prog.ret (loadIdx f idxs h)) (q := fullShare) (S := Finset.univ)
      (f := f) (Finset.subset_univ _)) $$ H
  iintro H
  rw [wp_ret]
  imodintro
  iapply Hk; iexact H

theorem scat_wp {s : Shape} (base : Memref sig .scVector .vmem s .f32) (idxs : Fin s.rank → IVec S16 32) (v : VF Ideal)
    (h : ∀ a x, (idxs a x).toNat < s.size a) (hs : (base.access (.whole s)).Stores Finset.univ)
    (f : Buf (Elt Ideal) ((base.access (.whole s)).loc (thr d i))) (Q : PUnit → sProp 𝕄) :
    iprop(((base.access (.whole s)).loc (thr d i) ↦{fullShare} f)
        ∗ (((base.access (.whole s)).loc (thr d i) ↦{fullShare} (base.access (.whole s)).write (Elt Ideal) f
            (storeIdx ((base.access (.whole s)).read (Elt Ideal) f) idxs v (fun _ => 1#1) false h) Finset.univ) -∗ Q ⟨⟩))
      ⊢ wp frame (wpE (defs₀ (F := Ideal)) 𝒱₀ (thr d i) none) Set.univ (scat (i := i) base idxs v h hs) Q := by
  iintro ⟨H, Hk⟩
  iapply (wp_load_rect (defs := defs₀ (F := Ideal)) 𝒱₀ (thr d i) none Set.univ (Q := Q) (m := base) (r := Rect.whole s)
      (hl := View.loadsAt_rect hs.loads)
      (k := fun f => .op (.store base (.whole s) (storeIdx f idxs v (fun _ => 1#1) false h) Finset.univ hs (.inl rfl)) fun _ => .ret ⟨⟩)
      (q := fullShare) (S := Finset.univ) (f := f) (Finset.subset_univ _)) $$ H
  iintro H
  iapply (wp_store (defs := defs₀ (F := Ideal)) 𝒱₀ (thr d i) none Set.univ (Q := Q) (m := base) (r := Rect.whole s)
      (Mk := Finset.univ) (hx := hs) (k := fun _ => .ret ⟨⟩) (S := Finset.univ) (f := f) (Finset.subset_univ _)) $$ H
  iintro H
  rw [wp_ret]
  imodintro
  iapply Hk; iexact H

/-- A program of one part of the tile's arrays. -/
theorem Does.part {p : TP Ideal i α} {m : Mem} {R : α → Mem → Prop} {a : α} (m' : Mem) (X X' Rest : sProp 𝕄)
    (h1 : Tile d i m ⊢ iprop(X ∗ Rest)) (h2 : iprop(X' ∗ Rest) ⊢ Tile d i m')
    (hp : ∀ Q : α → sProp 𝕄, iprop(X ∗ (X' -∗ Q a)) ⊢ wp frame (wpE (defs₀ (F := Ideal)) 𝒱₀ (thr d i) none) Set.univ p Q)
    (hR : R a m') : Does d i p m R := by
  refine ⟨a, m', hR, fun Q => ?_⟩
  iintro ⟨H, Hk⟩
  ihave H' := h1 $$ H
  icases H' with ⟨HX, HR⟩
  iapply (hp Q)
  isplitl [HX]; · iexact HX
  iintro HX
  iapply Hk
  iapply h2
  isplitl [HX] <;> iassumption

theorem sAtt_read (f : FVec Ideal S16x100 .f32) : (sAtt.access (.whole S16x100)).read (Elt Ideal) f = f := Memref.read_access_whole (Elt Ideal) cc0_scratch0 f
theorem sBox_read (f : FVec Ideal S16x400 .f32) : (sBox.access (.whole S16x400)).read (Elt Ideal) f = f := Memref.read_access_whole (Elt Ideal) cc0_scratch1 f
theorem sTab_read (f : FVec Ideal S272 .f32) : (sTab.access (.whole S272)).read (Elt Ideal) f = f := Memref.read_access_whole (Elt Ideal) cc0_scratch2 f
theorem sOut_read (f : FVec Ideal S176 .f32) : (sOut.access (.whole S176)).read (Elt Ideal) f = f := Memref.read_access_whole (Elt Ideal) cc0_scratch5 f
theorem sAtt_write (f w : FVec Ideal S16x100 .f32) : (sAtt.access (.whole S16x100)).write (Elt Ideal) f w Finset.univ = w :=
  Memref.write_access_whole_univ (Elt Ideal) cc0_scratch0 f w
theorem sOut_write (f w : FVec Ideal S176 .f32) : (sOut.access (.whole S176)).write (Elt Ideal) f w Finset.univ = w :=
  Memref.write_access_whole_univ (Elt Ideal) cc0_scratch5 f w

/-- A gather of the attentions. -/
theorem Does.gathAtt {c : VI} {k : ℕ → ℕ} (hc : IsW c k) (hk : ∀ x < 16, k x < 100)
    (h : ∀ a x, ((![lane, c] : Fin S16x100.rank → IVec S16 32) a x).toNat < S16x100.size a) (hl : sAtt.view.Loads) {m : Mem}
    {R : VF Ideal → Mem → Prop} (hR : ∀ v : VF Ideal, IsV v (fun x => m.att x (k x)) → R v m) :
    Does d i (gath sAtt ![lane, c] h hl) m R := by
  refine Does.part m (attPts d i (arr2 m.att)) (attPts d i (arr2 m.att))
    iprop(boxPts d i (arr2 m.box) ∗ tabPts d i (arr1 m.tab) ∗ atvPts d i (arr2 m.atv) ∗ outPts d i (arr1 m.out))
    .rfl .rfl (gath_wp sAtt ![lane, c] h hl (arr2 m.att)) (hR _ fun x => ?_)
  rw [sAtt_read]
  show m.att (lane x).toNat (c x).toNat = _
  rw [IsW.lane.toNat (by have := lane_lt x; omega), hc.toNat (by have := hk _ (lane_lt x); omega)]

theorem Does.gathBox {c : VI} {k : ℕ → ℕ} (hc : IsW c k) (hk : ∀ x < 16, k x < 400)
    (h : ∀ a x, ((![lane, c] : Fin S16x400.rank → IVec S16 32) a x).toNat < S16x400.size a) (hl : sBox.view.Loads) {m : Mem}
    {R : VF Ideal → Mem → Prop} (hR : ∀ v : VF Ideal, IsV v (fun x => m.box x (k x)) → R v m) :
    Does d i (gath sBox ![lane, c] h hl) m R := by
  refine Does.part m (boxPts d i (arr2 m.box)) (boxPts d i (arr2 m.box))
    iprop(attPts d i (arr2 m.att) ∗ tabPts d i (arr1 m.tab) ∗ atvPts d i (arr2 m.atv) ∗ outPts d i (arr1 m.out))
    ?_ ?_ (gath_wp sBox ![lane, c] h hl (arr2 m.box)) (hR _ fun x => ?_)
  · unfold Tile; iintro ⟨H1, H2, H3⟩
    isplitl [H2]; · iexact H2
    isplitl [H1]; · iexact H1
    iexact H3
  · unfold Tile; iintro ⟨H1, H2, H3⟩
    isplitl [H2]; · iexact H2
    isplitl [H1]; · iexact H1
    iexact H3
  rw [sBox_read]
  show m.box (lane x).toNat (c x).toNat = _
  rw [IsW.lane.toNat (by have := lane_lt x; omega), hc.toNat (by have := hk _ (lane_lt x); omega)]

theorem Does.gathTab {c : VI} {k : ℕ → ℕ} (hc : IsW c k) (hk : ∀ x < 16, k x < 272)
    (h : ∀ a x, ((![c] : Fin S272.rank → IVec S16 32) a x).toNat < S272.size a) (hl : sTab.view.Loads) {m : Mem}
    {R : VF Ideal → Mem → Prop} (hR : ∀ v : VF Ideal, IsV v (fun x => m.tab (k x)) → R v m) :
    Does d i (gath sTab ![c] h hl) m R := by
  refine Does.part m (tabPts d i (arr1 m.tab)) (tabPts d i (arr1 m.tab))
    iprop(attPts d i (arr2 m.att) ∗ boxPts d i (arr2 m.box) ∗ atvPts d i (arr2 m.atv) ∗ outPts d i (arr1 m.out))
    ?_ ?_ (gath_wp sTab ![c] h hl (arr1 m.tab)) (hR _ fun x => ?_)
  · unfold Tile; iintro ⟨H1, H2, H3, H4⟩
    isplitl [H3]; · iexact H3
    isplitl [H1]; · iexact H1
    isplitl [H2]; · iexact H2
    iexact H4
  · unfold Tile; iintro ⟨H3, H1, H2, H4⟩
    isplitl [H1]; · iexact H1
    isplitl [H2]; · iexact H2
    isplitl [H3]; · iexact H3
    iexact H4
  rw [sTab_read]
  show m.tab (c x).toNat = _
  rw [hc.toNat (by have := hk _ (lane_lt x); omega)]

/-- A scatter: the elements that lanes name get the lanes' value `V`, the others stay. -/
theorem storeIdx_fold {s : Shape} (idxs : Fin s.rank → IVec S16 32) (v : VF Ideal) (h : ∀ a x, (idxs a x).toNat < s.size a)
    (j : s.Idx) (V : EReal) (l : List (Fin ((![16] : Fin 1 → ℕ) 0))) (f : FVec Ideal s .f32)
    (hV : ∀ k ∈ l, idxAt idxs h (Shape.ofLane k) = j → v (Shape.ofLane k) = V) :
    (l.foldl (fun g k => fun j => if (∀ a, (j a).val = (idxAt idxs h (Shape.ofLane k) a).val) then v (Shape.ofLane k) else g j) f) j
      = if ∃ k ∈ l, idxAt idxs h (Shape.ofLane k) = j then V else f j := by
  induction l generalizing f with
  | nil => rw [if_neg (by rintro ⟨k, hk, -⟩; cases hk)]; rfl
  | cons k l ih =>
    rw [List.foldl_cons, ih _ fun k' hk' => hV k' (List.mem_cons_of_mem _ hk')]
    have he : (∀ a, (j a).val = (idxAt idxs h (Shape.ofLane k) a).val) ↔ idxAt idxs h (Shape.ofLane k) = j :=
      ⟨fun H => funext fun a => Fin.ext (H a).symm, fun H a => by rw [H]⟩
    by_cases h1 : ∃ k ∈ l, idxAt idxs h (Shape.ofLane k) = j
    · obtain ⟨k', hk', e⟩ := h1
      rw [if_pos ⟨k', hk', e⟩, if_pos ⟨k', List.mem_cons_of_mem _ hk', e⟩]
    · rw [if_neg h1]
      by_cases h2 : idxAt idxs h (Shape.ofLane k) = j
      · rw [if_pos (he.2 h2), if_pos ⟨k, List.mem_cons_self, h2⟩]
        exact hV k List.mem_cons_self h2
      · rw [if_neg (mt he.1 h2), if_neg]
        rintro ⟨k', hk', e⟩
        rcases List.mem_cons.1 hk' with rfl | hk'
        · exact h2 e
        · exact h1 ⟨k', hk', e⟩

theorem storeIdx_at {s : Shape} (idxs : Fin s.rank → IVec S16 32) (v : VF Ideal) (h : ∀ a x, (idxs a x).toNat < s.size a)
    (j : s.Idx) (V : EReal) (f : FVec Ideal s .f32) (P : Prop) [Decidable P]
    (hV : ∀ q : Fin 16, idxAt idxs h (Shape.ofLane (d := ![16]) q) = j → v (Shape.ofLane (d := ![16]) q) = V)
    (hP : P ↔ ∃ q : Fin 16, idxAt idxs h (Shape.ofLane (d := ![16]) q) = j) :
    storeIdx (F := Ideal) (e := .f32) f idxs v (fun _ => 1#1) false h j = (if P then V else f j : EReal) := by
  have e : storeIdx (F := Ideal) (e := .f32) f idxs v (fun _ => 1#1) false h = (List.finRange ((![16] : Fin 1 → ℕ) 0)).foldl
      (fun g k => fun j => if (∀ a, (j a).val = (idxAt idxs h (Shape.ofLane k) a).val) then v (Shape.ofLane k) else g j) f := by
    unfold storeIdx
    congr 1
    funext g k j
    simp
  rw [e]
  refine (storeIdx_fold idxs v h j V (List.finRange _) f fun k _ => hV k).trans ?_
  by_cases hp : P
  · obtain ⟨q, hq⟩ := hP.1 hp
    rw [if_pos hp, if_pos ⟨q, List.mem_finRange q, hq⟩]
  · rw [if_neg hp, if_neg]
    rintro ⟨q, -, hq⟩
    exact hp (hP.2 ⟨q, hq⟩)

/-- A scatter into the attentions: lane `r` writes row `r` at column `k r`. -/
theorem Does.scatAtt {c : VI} {k : ℕ → ℕ} (hc : IsW c k) (hk : ∀ x < 16, k x < 100) {v : VF Ideal} {f : ℕ → EReal} (hv : IsV v f)
    (h : ∀ a x, ((![lane, c] : Fin S16x100.rank → IVec S16 32) a x).toNat < S16x100.size a)
    (hs : (sAtt.access (.whole S16x100)).Stores Finset.univ) {m : Mem}
    {R : PUnit → Mem → Prop} (hR : R ⟨⟩ { m with att := fun r n => if n = k r then f r else m.att r n }) :
    Does d i (scat sAtt ![lane, c] v h hs) m R := by
  refine Does.part { m with att := fun r n => if n = k r then f r else m.att r n } (attPts d i (arr2 m.att))
    (attPts d i (arr2 fun r n => if n = k r then f r else m.att r n))
    iprop(boxPts d i (arr2 m.box) ∗ tabPts d i (arr1 m.tab) ∗ atvPts d i (arr2 m.atv) ∗ outPts d i (arr1 m.out))
    .rfl .rfl ?_ hR
  have e : (sAtt.access (.whole S16x100)).write (Elt Ideal) (arr2 m.att : FVec Ideal S16x100 .f32)
        (storeIdx ((sAtt.access (.whole S16x100)).read (Elt Ideal) (arr2 m.att : FVec Ideal S16x100 .f32)) ![lane, c] v (fun _ => 1#1) false h) Finset.univ
      = (arr2 fun r n => if n = k r then f r else m.att r n : FVec Ideal S16x100 .f32) := by
    rw [sAtt_read]
    refine (sAtt_write _ _).trans ?_
    funext j
    have hx : ∀ q : Fin 16, idxAt ![lane, c] h (Shape.ofLane (d := ![16]) q) = j ↔ (q.val = (j 0).val ∧ k q.val = (j 1).val) := fun q => by
      have e0 : ((lane : VI) (Shape.ofLane (d := ![16]) q)).toNat = q.val := IsW.lane.toNat (by have := q.isLt; show q.val < _; omega)
      have e1 : (c (Shape.ofLane (d := ![16]) q)).toNat = k q.val := hc.toNat (by have := hk q.val q.isLt; show k q.val < _; omega)
      constructor
      · intro H
        exact ⟨e0.symm.trans (congrArg (fun z => (z 0).val) H), e1.symm.trans (congrArg (fun z => (z 1).val) H)⟩
      · rintro ⟨h0, h1⟩
        funext a
        match a with
        | 0 => exact Fin.ext (e0.trans h0)
        | 1 => exact Fin.ext (e1.trans h1)
    refine (storeIdx_at ![lane, c] v h j (f (j 0).val) _ ((j 1).val = k (j 0).val) (fun q hq => ?_) ⟨fun hj => ⟨j 0, (hx _).2 ⟨rfl, hj.symm⟩⟩, ?_⟩).trans rfl
    · rw [hv]; rw [hx] at hq; exact congrArg f hq.1
    · rintro ⟨q, hq⟩
      rw [hx] at hq
      rw [← hq.2, hq.1]
  intro Q
  rw [← e]
  exact scat_wp sAtt ![lane, c] v h hs (arr2 m.att) Q

/-- A scatter into the results: lane `r` writes entry `t` of its eleven. -/
theorem Does.scatOut {c : VI} {t : ℕ} (ht : t < 11) (hc : IsW c fun r => r * 11 + t) {v : VF Ideal} {f : ℕ → EReal} (hv : IsV v f)
    (h : ∀ a x, ((![c] : Fin S176.rank → IVec S16 32) a x).toNat < S176.size a)
    (hs : (sOut.access (.whole S176)).Stores Finset.univ) {m : Mem}
    {R : PUnit → Mem → Prop} (hR : R ⟨⟩ { m with out := fun n => if n % 11 = t then f (n / 11) else m.out n }) :
    Does d i (scat sOut ![c] v h hs) m R := by
  refine Does.part { m with out := fun n => if n % 11 = t then f (n / 11) else m.out n } (outPts d i (arr1 m.out))
    (outPts d i (arr1 fun n => if n % 11 = t then f (n / 11) else m.out n))
    iprop(attPts d i (arr2 m.att) ∗ boxPts d i (arr2 m.box) ∗ tabPts d i (arr1 m.tab) ∗ atvPts d i (arr2 m.atv))
    ?_ ?_ ?_ hR
  · unfold Tile; iintro ⟨H1, H2, H3, H4, H5⟩
    isplitl [H5]; · iexact H5
    isplitl [H1]; · iexact H1
    isplitl [H2]; · iexact H2
    isplitl [H3]; · iexact H3
    iexact H4
  · unfold Tile; iintro ⟨H5, H1, H2, H3, H4⟩
    isplitl [H1]; · iexact H1
    isplitl [H2]; · iexact H2
    isplitl [H3]; · iexact H3
    isplitl [H4]; · iexact H4
    iexact H5
  have e : (sOut.access (.whole S176)).write (Elt Ideal) (arr1 m.out : FVec Ideal S176 .f32)
        (storeIdx ((sOut.access (.whole S176)).read (Elt Ideal) (arr1 m.out : FVec Ideal S176 .f32)) ![c] v (fun _ => 1#1) false h) Finset.univ
      = (arr1 fun n => if n % 11 = t then f (n / 11) else m.out n : FVec Ideal S176 .f32) := by
    rw [sOut_read]
    refine (sOut_write _ _).trans ?_
    funext j
    have hx : ∀ q : Fin 16, idxAt ![c] h (Shape.ofLane (d := ![16]) q) = j ↔ (q.val * 11 + t = (j 0).val) := fun q => by
      have e1 : (c (Shape.ofLane (d := ![16]) q)).toNat = q.val * 11 + t := hc.toNat (by have := q.isLt; show q.val * 11 + t < _; omega)
      constructor
      · intro H
        exact e1.symm.trans (congrArg (fun z => (z 0).val) H)
      · intro h0
        funext a
        match a with
        | 0 => exact Fin.ext (e1.trans h0)
    have hj := (j 0).isLt
    have hj' : (j 0).val < 176 := hj
    refine (storeIdx_at ![c] v h j (f ((j 0).val / 11)) _ ((j 0).val % 11 = t) (fun q hq => ?_)
      ⟨fun hj => ⟨⟨(j 0).val / 11, by omega⟩, (hx _).2 (by show (j 0).val / 11 * 11 + t = _; omega)⟩, ?_⟩).trans rfl
    · rw [hv]; rw [hx] at hq
      refine congrArg f ?_
      show q.val = _
      omega
    · rintro ⟨q, hq⟩
      rw [hx] at hq
      omega
  intro Q
  rw [← e]
  exact scat_wp sOut ![c] v h hs (arr1 m.out) Q

/-! ### The pairs' array -/

abbrev pairRect (a b : Fin 10) : Rect S56x16 := Rect.unit (s := S56x16) ![pid a b, 0] S1x16.size (inb_pid a b)

theorem pair_emb (a b : Fin 10) (y : S1x16.Idx) : ((pairRect a b).emb y 0).val = pid a b ∧ ((pairRect a b).emb y 1).val = (y 1).val := by
  have : (y 0).val < 1 := (y 0).isLt
  constructor
  · show pid a b + 1 * (y 0).val = _; omega
  · show 0 + 1 * (y 1).val = _; omega

/-- A row of the pairs' array read. -/
theorem Does.loadAtv (a b : Fin 10) {hl} {m : Mem}
    {R : FVec Ideal S1x16 .f32 → Mem → Prop} (hR : ∀ v : FVec Ideal S1x16 .f32, (∀ y, v y = m.atv (pid a b) (y 1).val) → R v m) :
    Does d i (Prog.lift (.load sAtv (pairRect a b).toLoadRect hl)) m R := by
  refine Does.part m (atvPts d i (arr2 m.atv)) (atvPts d i (arr2 m.atv))
    iprop(attPts d i (arr2 m.att) ∗ boxPts d i (arr2 m.box) ∗ tabPts d i (arr1 m.tab) ∗ outPts d i (arr1 m.out))
    ?_ ?_ (a := (sAtv.access (pairRect a b)).read (Elt Ideal) (arr2 m.atv : FVec Ideal S56x16 .f32)) (fun Q => ?_) (hR _ fun y => ?_)
  · unfold Tile; iintro ⟨H1, H2, H3, H4, H5⟩
    isplitl [H4]; · iexact H4
    isplitl [H1]; · iexact H1
    isplitl [H2]; · iexact H2
    isplitl [H3]; · iexact H3
    iexact H5
  · unfold Tile; iintro ⟨H4, H1, H2, H3, H5⟩
    isplitl [H1]; · iexact H1
    isplitl [H2]; · iexact H2
    isplitl [H3]; · iexact H3
    isplitl [H4]; · iexact H4
    iexact H5
  · iintro ⟨H, Hk⟩
    iapply (wp_load_rect (defs := defs₀ (F := Ideal)) 𝒱₀ (thr d i) none Set.univ (Q := Q) (m := sAtv) (r := pairRect a b)
      (hl := hl) (k := Prog.ret) (q := fullShare) (S := Finset.univ) (f := (arr2 m.atv : FVec Ideal S56x16 .f32)) (Finset.subset_univ _)) $$ H
    iintro H
    rw [wp_ret]
    imodintro
    iapply Hk; iexact H
  · show m.atv ((pairRect a b).emb y 0).val ((pairRect a b).emb y 1).val = _
    rw [(pair_emb a b y).1, (pair_emb a b y).2]

/-- A row of the pairs' array written. -/
theorem Does.storeAtv (a b : Fin 10) {w : FVec Ideal S1x16 .f32} {f : ℕ → EReal} (hw : ∀ y, w y = f (y 1).val) {hx hm} {m : Mem}
    {R : PUnit → Mem → Prop} (hR : R ⟨⟩ { m with atv := fun p n => if p = pid a b then f n else m.atv p n }) :
    Does d i (Prog.lift (.store sAtv (pairRect a b) w Finset.univ hx hm)) m R := by
  refine Does.part { m with atv := fun p n => if p = pid a b then f n else m.atv p n } (atvPts d i (arr2 m.atv))
    (atvPts d i (arr2 fun p n => if p = pid a b then f n else m.atv p n))
    iprop(attPts d i (arr2 m.att) ∗ boxPts d i (arr2 m.box) ∗ tabPts d i (arr1 m.tab) ∗ outPts d i (arr1 m.out))
    ?_ ?_ (fun Q => ?_) hR
  · unfold Tile; iintro ⟨H1, H2, H3, H4, H5⟩
    isplitl [H4]; · iexact H4
    isplitl [H1]; · iexact H1
    isplitl [H2]; · iexact H2
    isplitl [H3]; · iexact H3
    iexact H5
  · unfold Tile; iintro ⟨H4, H1, H2, H3, H5⟩
    isplitl [H1]; · iexact H1
    isplitl [H2]; · iexact H2
    isplitl [H3]; · iexact H3
    isplitl [H4]; · iexact H4
    iexact H5
  · have e : (sAtv.access (pairRect a b)).write (Elt Ideal) (arr2 m.atv : FVec Ideal S56x16 .f32) w Finset.univ
        = (arr2 fun p n => if p = pid a b then f n else m.atv p n : FVec Ideal S56x16 .f32) := by
      funext j
      by_cases hj : (j 0).val = pid a b
      · have ej : (sAtv.access (pairRect a b)).emb (fun a => match a with | 0 => (0 : Fin 1) | 1 => (j 1 : Fin 16)) = j := by
          funext q
          match q with
          | 0 => exact Fin.ext (((pair_emb a b _).1).trans hj.symm)
          | 1 => exact Fin.ext ((pair_emb a b _).2)
        rw [← ej]
        refine (View.write_emb_of_mem _ _ (Finset.mem_univ _)).trans ?_
        rw [ej]
        show w _ = if (j 0).val = pid a b then f (j 1).val else _
        rw [if_pos hj, hw]
      · refine (View.write_of_not_mem _ _ _ fun hm => ?_).trans ?_
        · obtain ⟨y, -, rfl⟩ := Finset.mem_map.1 hm
          exact hj (pair_emb a b y).1
        · show _ = if (j 0).val = pid a b then f (j 1).val else m.atv (j 0).val (j 1).val
          rw [if_neg hj]; rfl
    rw [← e]
    iintro ⟨H, Hk⟩
    iapply (wp_store (defs := defs₀ (F := Ideal)) 𝒱₀ (thr d i) none Set.univ (Q := Q) (m := sAtv) (r := pairRect a b)
      (Mk := Finset.univ) (hx := hx) (k := Prog.ret) (S := Finset.univ) (f := (arr2 m.atv : FVec Ideal S56x16 .f32)) (Finset.subset_univ _)) $$ H
    iintro H
    rw [wp_ret]
    imodintro
    iapply Hk; iexact H

end Cert.Proof

end
-- ==== Proof.Select.lean ====
/- The ten greatest of a row of one hundred numbers, taken one after another: each the first column that holds the
   maximum, which is then overwritten by `-∞`. -/
module

public import proofs.«01_k».proof.Proof.Row

@[expose] public section

noncomputable section

namespace Cert.Proof

open scoped BigOperators

/-- The greatest entry of a row. -/
def best (a : ℕ → EReal) : EReal := (Finset.range 100).sup a

theorem exists_best (a : ℕ → EReal) : ∃ n, n < 100 ∧ a n = best a := by
  obtain ⟨n, hn, h⟩ := Finset.exists_mem_eq_sup (Finset.range 100) ⟨0, by simp⟩ a
  exact ⟨n, Finset.mem_range.1 hn, h.symm⟩

/-- The first column of the greatest entry. -/
def first (a : ℕ → EReal) : ℕ := Nat.find (exists_best a)

theorem first_lt (a : ℕ → EReal) : first a < 100 := (Nat.find_spec (exists_best a)).1
theorem at_first (a : ℕ → EReal) : a (first a) = best a := (Nat.find_spec (exists_best a)).2
theorem le_best {a : ℕ → EReal} {n : ℕ} (h : n < 100) : a n ≤ best a := Finset.le_sup (f := a) (Finset.mem_range.2 h)
theorem ne_best {a : ℕ → EReal} {n : ℕ} (h : n < first a) : a n ≠ best a := fun e =>
  Nat.find_min (exists_best a) h ⟨h.trans (first_lt a), e⟩

/-- The row with its greatest entry overwritten. -/
def step (a : ℕ → EReal) : ℕ → EReal := fun n => if n = first a then ⊥ else a n

/-- The columns found, and the entries. -/
def pos (a : ℕ → EReal) (k : ℕ) : ℕ := first (step^[k] a)
def topv (a : ℕ → EReal) (k : ℕ) : EReal := best (step^[k] a)

theorem pos_lt (a : ℕ → EReal) (k : ℕ) : pos a k < 100 := first_lt _

/-- After `k` rounds the columns found hold `-∞`, the others what they held. -/
theorem iter_step (a : ℕ → EReal) (k n : ℕ) : step^[k] a n = if ∃ j < k, pos a j = n then ⊥ else a n := by
  induction k with
  | zero => simp
  | succ k ih =>
    rw [Function.iterate_succ_apply']
    show (if n = pos a k then ⊥ else step^[k] a n) = _
    rw [ih]
    by_cases h1 : n = pos a k
    · rw [if_pos h1, if_pos ⟨k, by omega, h1.symm⟩]
    · rw [if_neg h1]
      by_cases h2 : ∃ j < k, pos a j = n
      · obtain ⟨j, hj, e⟩ := h2
        rw [if_pos ⟨j, hj, e⟩, if_pos ⟨j, by omega, e⟩]
      · rw [if_neg h2, if_neg]
        rintro ⟨j, hj, e⟩
        rcases Nat.lt_or_ge j k with h | h
        · exact h2 ⟨j, h, e⟩
        · exact h1 (by rw [← e, show j = k by omega])

/-- Fewer than one hundred columns leave one out. -/
theorem exists_new (a : ℕ → EReal) {k : ℕ} (hk : k < 100) : ∃ n < 100, ¬ ∃ j < k, pos a j = n := by
  by_contra H
  push Not at H
  have : Finset.range 100 ⊆ (Finset.range k).image (pos a) := fun n hn => by
    obtain ⟨j, hj, e⟩ := H n (Finset.mem_range.1 hn)
    exact Finset.mem_image.2 ⟨j, Finset.mem_range.2 hj, e⟩
  have h1 := Finset.card_le_card this
  have h2 := Finset.card_image_le (s := Finset.range k) (f := pos a)
  simp at h1 h2
  omega

variable {a : ℕ → EReal} (ha : ∀ n < 100, ∃ r : ℝ, a n = r)
include ha

/-- The columns found differ, and the entries are the row's there. -/
theorem topv_eq {k : ℕ} (hk : k < 100) : topv a k = a (pos a k) ∧ ∀ j < k, pos a j ≠ pos a k := by
  obtain ⟨n, hn, hnew⟩ := exists_new a hk
  have h1 : step^[k] a n ≤ topv a k := le_best hn
  obtain ⟨r, hr⟩ := ha n hn
  rw [iter_step, if_neg hnew, hr] at h1
  have h2 : step^[k] a (pos a k) = topv a k := at_first _
  rw [iter_step] at h2
  by_cases h : ∃ j < k, pos a j = pos a k
  · rw [if_pos h] at h2
    rw [← h2] at h1
    simp at h1
  · rw [if_neg h] at h2
    exact ⟨h2.symm, fun j hj e => h ⟨j, hj, e⟩⟩

theorem topv_real {k : ℕ} (hk : k < 100) : ∃ r : ℝ, topv a k = r := by
  rw [(topv_eq ha hk).1]; exact ha _ (pos_lt a k)

/-- Columns in the order of their entries, the lower column first among equals, are those found. -/
theorem pos_unique {idx : ℕ → ℕ} {K : ℕ} (hK : K ≤ 100) (hlt : ∀ k < K, idx k < 100) (hinj : ∀ j < K, ∀ k < K, idx j = idx k → j = k)
    (hord : ∀ k < K, ∀ n < 100, (¬ ∃ j < k, idx j = n) → n = idx k ∨ a n < a (idx k) ∨ (a n = a (idx k) ∧ idx k < n)) :
    ∀ k < K, idx k = pos a k := by
  intro k
  induction k using Nat.strong_induction_on with
  | _ k ih =>
    intro hk
    have hdone : ∀ n, (∃ j < k, pos a j = n) ↔ ∃ j < k, idx j = n := fun n =>
      ⟨fun ⟨j, hj, e⟩ => ⟨j, hj, (ih j hj (by omega)).trans e⟩, fun ⟨j, hj, e⟩ => ⟨j, hj, (ih j hj (by omega)).symm.trans e⟩⟩
    obtain ⟨h1, h2⟩ := topv_eq ha (show k < 100 by omega)
    have hnew : ¬ ∃ j < k, idx j = pos a k := fun h => by
      obtain ⟨j, hj, e⟩ := (hdone _).2 h
      exact h2 j hj e
    have hself : ¬ ∃ j < k, pos a j = idx k := fun h => by
      obtain ⟨j, hj, e⟩ := (hdone _).1 h
      exact absurd (hinj j (by omega) k hk e) (by omega)
    have hle : a (idx k) ≤ topv a k := by
      have := le_best (a := step^[k] a) (hlt k hk)
      rwa [iter_step, if_neg hself] at this
    rcases hord k hk _ (pos_lt a k) hnew with h | h | ⟨he, h⟩
    · exact h.symm
    · rw [h1] at hle; exact absurd h (not_lt.2 hle)
    · exfalso
      refine ne_best (a := step^[k] a) (n := idx k) h ?_
      rw [iter_step, if_neg hself, ← he, ← h1]; rfl
omit ha

/-! ### Ten blocks of ten -/

/-- The greatest entry of block `c`. -/
def blk (a : ℕ → EReal) (c : ℕ) : EReal := (Finset.range 10).sup fun r => a (10 * c + r)

theorem exists_blk (a : ℕ → EReal) (c : ℕ) : ∃ r < 10, a (10 * c + r) = blk a c := by
  obtain ⟨n, hn, h⟩ := Finset.exists_mem_eq_sup (Finset.range 10) ⟨0, by simp⟩ (fun r => a (10 * c + r))
  exact ⟨n, Finset.mem_range.1 hn, h.symm⟩

theorem sup_blk (a : ℕ → EReal) : (Finset.range 10).sup (blk a) = best a := by
  refine le_antisymm (Finset.sup_le fun c hc => Finset.sup_le fun r hr => ?_) (Finset.sup_le fun n hn => ?_)
  · rw [Finset.mem_range] at hc hr
    exact le_best (by omega)
  · rw [Finset.mem_range] at hn
    have h1 : a n ≤ blk a (n / 10) := by
      have := Finset.le_sup (f := fun r => a (10 * (n / 10) + r)) (Finset.mem_range.2 (show n % 10 < 10 by omega))
      rwa [show 10 * (n / 10) + n % 10 = n by omega] at this
    exact h1.trans (Finset.le_sup (f := blk a) (Finset.mem_range.2 (show n / 10 < 10 by omega)))

theorem blk_first (a : ℕ → EReal) : blk a (first a / 10) = best a := by
  refine le_antisymm (Finset.sup_le fun r hr => ?_) ?_
  · rw [Finset.mem_range] at hr
    exact le_best (by have := first_lt a; omega)
  · rw [← at_first a]
    have := Finset.le_sup (f := fun r => a (10 * (first a / 10) + r)) (Finset.mem_range.2 (show first a % 10 < 10 by omega))
    rwa [show 10 * (first a / 10) + first a % 10 = first a by omega] at this

theorem blk_ne (a : ℕ → EReal) {c : ℕ} (hc : c < first a / 10) : blk a c ≠ best a := fun e => by
  obtain ⟨r, hr, h⟩ := exists_blk a c
  exact ne_best (a := a) (n := 10 * c + r) (by omega) (h.trans e)

theorem blk_step (a : ℕ → EReal) {c : ℕ} (hc : c ≠ first a / 10) : blk (step a) c = blk a c := by
  refine Finset.sup_congr rfl fun r hr => ?_
  rw [Finset.mem_range] at hr
  show (if _ then _ else _) = _
  rw [if_neg (by omega)]

/-! ### Loops over ten -/

theorem sup_ten (f : ℕ → EReal) : (Finset.range 10).sup f
    = max (max (max (max (max (max (max (max (max (f 0) (f 1)) (f 2)) (f 3)) (f 4)) (f 5)) (f 6)) (f 7)) (f 8)) (f 9) := by
  simp only [Finset.range_add_one, Finset.sup_insert, Finset.range_zero, Finset.sup_empty, sup_bot_eq]
  ac_rfl

/-- The first of ten that holds, looked for from the last to the first. -/
theorem find_down {p : Fin 10 → Prop} [DecidablePred p] {c : ℕ} (hc : c < 10) (h : ∀ b : Fin 10, b.val = c → p b) (hn : ∀ b : Fin 10, b.val < c → ¬ p b) :
    (if p 0 then 0 else if p 1 then 1 else if p 2 then 2 else if p 3 then 3 else if p 4 then 4 else if p 5 then 5 else if p 6 then 6
      else if p 7 then 7 else if p 8 then 8 else 9) = c := by
  interval_cases c
  · rw [if_pos (h 0 (by decide))]
  · rw [if_neg (hn 0 (by decide)), if_pos (h 1 (by decide))]
  · rw [if_neg (hn 0 (by decide)), if_neg (hn 1 (by decide)), if_pos (h 2 (by decide))]
  · rw [if_neg (hn 0 (by decide)), if_neg (hn 1 (by decide)), if_neg (hn 2 (by decide)), if_pos (h 3 (by decide))]
  · rw [if_neg (hn 0 (by decide)), if_neg (hn 1 (by decide)), if_neg (hn 2 (by decide)), if_neg (hn 3 (by decide)), if_pos (h 4 (by decide))]
  · rw [if_neg (hn 0 (by decide)), if_neg (hn 1 (by decide)), if_neg (hn 2 (by decide)), if_neg (hn 3 (by decide)), if_neg (hn 4 (by decide)), if_pos (h 5 (by decide))]
  · rw [if_neg (hn 0 (by decide)), if_neg (hn 1 (by decide)), if_neg (hn 2 (by decide)), if_neg (hn 3 (by decide)), if_neg (hn 4 (by decide)), if_neg (hn 5 (by decide)), if_pos (h 6 (by decide))]
  · rw [if_neg (hn 0 (by decide)), if_neg (hn 1 (by decide)), if_neg (hn 2 (by decide)), if_neg (hn 3 (by decide)), if_neg (hn 4 (by decide)), if_neg (hn 5 (by decide)), if_neg (hn 6 (by decide)), if_pos (h 7 (by decide))]
  · rw [if_neg (hn 0 (by decide)), if_neg (hn 1 (by decide)), if_neg (hn 2 (by decide)), if_neg (hn 3 (by decide)), if_neg (hn 4 (by decide)), if_neg (hn 5 (by decide)), if_neg (hn 6 (by decide)), if_neg (hn 7 (by decide)), if_pos (h 8 (by decide))]
  · rw [if_neg (hn 0 (by decide)), if_neg (hn 1 (by decide)), if_neg (hn 2 (by decide)), if_neg (hn 3 (by decide)), if_neg (hn 4 (by decide)), if_neg (hn 5 (by decide)), if_neg (hn 6 (by decide)), if_neg (hn 7 (by decide)), if_neg (hn 8 (by decide))]

end Cert.Proof

end
-- ==== Proof.Lanes.lean ====
/- The parts of a group's program, lane by lane: the selection of the ten greatest, the boxes, the piecewise linear
   functions. -/
module

public import proofs.«01_k».proof.Proof.Runs
public import proofs.«01_k».proof.Proof.Select

@[expose] public section

noncomputable section

namespace Cert.Proof

open Cert.KernelIdeal Cert.KernelIdeal.Gen
open Idealize.ShloMosaic
open scoped BigOperators

variable {d : Dev nD} {i : grid0.Coords}

/-! ### Floats, lane by lane -/

theorem IsV.wf {b : BitVec 32} {r : EReal} (h : Ideal.ofBits .f32 b = r) : IsV (wf b) fun _ => r := fun _ => h
theorem ofBits_16 : Ideal.ofBits .f32 0x41800000#32 = 16 := by
  simp [Ideal.ofBits, Ideal.ieee, EReal.coe_eq_coe_iff]; norm_cast; norm_num; rfl
theorem ofBits_half : Ideal.ofBits .f32 0x3F000000#32 = ((1 / 2 : ℝ) : EReal) := by
  simp [Ideal.ofBits, Ideal.ieee]; norm_cast; norm_num
theorem ofBits_10 : Ideal.ofBits .f32 0x41200000#32 = 10 := by
  simp [Ideal.ofBits, Ideal.ieee, EReal.coe_eq_coe_iff]; norm_cast; norm_num; rfl
theorem ofBits_100 : Ideal.ofBits .f32 0x42C80000#32 = 100 := by
  simp [Ideal.ofBits, Ideal.ieee, EReal.coe_eq_coe_iff]; norm_cast; norm_num; rfl
theorem ofBits_1 : Ideal.ofBits .f32 0x3F800000#32 = 1 := by
  simp [Ideal.ofBits, Ideal.ieee]; norm_cast; norm_num
theorem ofBits_0 : Ideal.ofBits .f32 0x00000000#32 = 0 := by
  simp [Ideal.ofBits, Ideal.ieee]
theorem ofBits_bot : Ideal.ofBits .f32 0xFF800000#32 = ⊥ := by
  simp [Ideal.ofBits, Ideal.ieee]

section
variable {v w : VF Ideal} {f g : ℕ → EReal}

theorem IsV.add (hv : IsV v f) (hw : IsV w g) : IsV (addf v w) fun r => f r + g r := fun x => by
  show v x + w x = _; rw [hv, hw]
theorem IsV.sub (hv : IsV v f) (hw : IsV w g) : IsV (subf v w) fun r => f r - g r := fun x => by
  show v x - w x = _; rw [hv, hw]
theorem IsV.mul (hv : IsV v f) (hw : IsV w g) : IsV (mulf v w) fun r => f r * g r := fun x => by
  show v x * w x = _; rw [hv, hw]
theorem IsV.maxi (hv : IsV v f) (hw : IsV w g) : IsV (maximumf v w) fun r => max (f r) (g r) := fun x => by
  show max (v x) (w x) = _; rw [hv, hw]
theorem IsV.mini (hv : IsV v f) (hw : IsV w g) : IsV (minimumf v w) fun r => min (f r) (g r) := fun x => by
  show min (v x) (w x) = _; rw [hv, hw]
theorem IsV.div (hv : IsV v f) (hw : IsV w g) : IsV (divf v w) fun r => Ideal.div (f r) (g r) := fun x => by
  show Ideal.div (v x) (w x) = _; rw [hv, hw]
theorem IsV.abs (hv : IsV v f) : IsV (absf v) fun r => mag (f r) := fun x => by
  show max (v x) (-v x) = _; rw [hv]; rfl
theorem IsV.exp (hv : IsV v f) : IsV (exp v) fun r => Ideal.exp (f r) := fun x => by
  show Ideal.exp (v x) = _; rw [hv]
theorem IsV.rsqrt (hv : IsV v f) : IsV (rsqrt v) fun r => Ideal.rsqrt (f r) := fun x => by
  show Ideal.rsqrt (v x) = _; rw [hv]
theorem IsV.sel {c : IVec S16 1} (P : ℕ → Prop) [DecidablePred P] (hc : ∀ x : S16.Idx, c x = BitVec.ofBool (decide (P (x 0).val)))
    (hv : IsV v f) (hw : IsV w g) : IsV (select c v w) fun r => if P r then f r else g r := fun x => by
  rw [sel_apply c v w x (P (x 0).val) (hc x), hv, hw]
theorem IsV.oeq (hv : IsV v f) (hw : IsV w g) (x : S16.Idx) :
    cmpf .oeq v w x = BitVec.ofBool (decide (f (x 0).val = g (x 0).val)) := by
  show BitVec.ofBool (decide (v x = w x)) = _; congr 1; rw [decide_eq_decide, hv, hw]
theorem IsV.oge (hv : IsV v f) (hw : IsV w g) (x : S16.Idx) :
    cmpf .oge v w x = BitVec.ofBool (decide (g (x 0).val ≤ f (x 0).val)) := by
  show BitVec.ofBool (decide (w x ≤ v x)) = _; congr 1; rw [decide_eq_decide, hv, hw]
/-- A small word converted to a float is its number. -/
theorem IsV.ofWord {c : VI} {k : ℕ → ℕ} (hc : IsW c k) (hk : ∀ r < 16, k r < 2 ^ 31) : IsV (sitofp .f32 c) fun r => ((k r : ℝ) : EReal) :=
  fun x => by
    show (((c x).toInt : ℝ) : EReal) = _
    rw [hc, WordArith.toInt_ofNat_small _ (by have := hk _ (lane_lt x); omega)]
    push_cast; rfl
end

theorem IsW.sel {c : IVec S16 1} {a b : VI} {k l : ℕ → ℕ} (P : ℕ → Prop) [DecidablePred P]
    (hc : ∀ x : S16.Idx, c x = BitVec.ofBool (decide (P (x 0).val)))
    (ha : IsW a k) (hb : IsW b l) : IsW (select c a b) fun r => if P r then k r else l r := fun x => by
  rw [sel_apply c a b x (P (x 0).val) (hc x), ha, hb]
  show (if _ then _ else _) = BitVec.ofNat 32 (if _ then _ else _)
  split <;> rfl

/-! ### Gathers with their bounds -/

theorem IsW.inAtt {c : VI} {k : ℕ → ℕ} (hc : IsW c k) (hk : ∀ x < 16, k x < 100) : InAtt Cert.Proof.lane c := fun a x => by
  have hx := lane_lt x
  match a with
  | 0 => show (Cert.Proof.lane x).toNat < 16; rw [IsW.lane.toNat (x := x) (by omega)]; exact hx
  | 1 => show (c x).toNat < 100; have := hk _ hx; rw [hc.toNat (by omega)]; exact this
theorem IsW.inBox {c : VI} {k : ℕ → ℕ} (hc : IsW c k) (hk : ∀ x < 16, k x < 400) : InBox Cert.Proof.lane c := fun a x => by
  have hx := lane_lt x
  match a with
  | 0 => show (Cert.Proof.lane x).toNat < 16; rw [IsW.lane.toNat (x := x) (by omega)]; exact hx
  | 1 => show (c x).toNat < 400; have := hk _ hx; rw [hc.toNat (by omega)]; exact this
theorem IsW.inTab {c : VI} {k : ℕ → ℕ} (hc : IsW c k) (hk : ∀ x < 16, k x < 272) : InTab c := fun a x => by
  match a with
  | 0 => show (c x).toNat < 272; have := hk _ (lane_lt x); rw [hc.toNat (by omega)]; exact this
theorem IsW.inOut {c : VI} {k : ℕ → ℕ} (hc : IsW c k) (hk : ∀ x < 16, k x < 176) : InOut c := fun a x => by
  match a with
  | 0 => show (c x).toNat < 176; have := hk _ (lane_lt x); rw [hc.toNat (by omega)]; exact this

theorem Does.getAtt {c : VI} {k : ℕ → ℕ} (hc : IsW c k) (hk : ∀ x < 16, k x < 100) {m : Mem}
    {R : VF Ideal → Mem → Prop} (hR : ∀ v : VF Ideal, IsV v (fun x => m.att x (k x)) → R v m) :
    Does d i (getAtt sAtt lane c) m R := Does.assume (hc.inAtt hk) (Does.gathAtt hc hk _ _ hR)
theorem Does.getBox {c : VI} {k : ℕ → ℕ} (hc : IsW c k) (hk : ∀ x < 16, k x < 400) {m : Mem}
    {R : VF Ideal → Mem → Prop} (hR : ∀ v : VF Ideal, IsV v (fun x => m.box x (k x)) → R v m) :
    Does d i (getBox sBox lane c) m R := Does.assume (hc.inBox hk) (Does.gathBox hc hk _ _ hR)
theorem Does.getTab {c : VI} {k : ℕ → ℕ} (hc : IsW c k) (hk : ∀ x < 16, k x < 272) {m : Mem}
    {R : VF Ideal → Mem → Prop} (hR : ∀ v : VF Ideal, IsV v (fun x => m.tab (k x)) → R v m) :
    Does d i (getTab sTab c) m R := Does.assume (hc.inTab hk) (Does.gathTab hc hk _ _ hR)

/-! ### The piecewise linear functions -/

/-- The table holds the heights and the increments of the weights `W`. -/
def HasTab (W : Fin 8 → Fin 17 → EReal) (t : ℕ → EReal) : Prop :=
  ∀ (w : Fin 8) (n : ℕ), n ≤ 16 → t (n + w.val * 17) = hgt (W w) n ∧ t (n + w.val * 17 + 136) = inc (W w) n

theorem IsV.ip {v : VF Ideal} {f : ℕ → EReal} (hv : IsV v f) (hf : ∀ r < 16, Unit01 (f r)) : IsW (ipOf v) fun r => seg (f r) := fun x => by
  show Ideal.fptosi 32 (v x * Ideal.ofBits .f32 0x41800000#32) = _
  rw [hv, ofBits_16, fptosi_unit (hf _ (lane_lt x))]

theorem Does.pw {W : Fin 8 → Fin 17 → EReal} {m : Mem} (htab : HasTab W m.tab) (w : Fin 8) {v : VF Ideal} {f : ℕ → EReal} (hv : IsV v f)
    (hf : ∀ r < 16, Unit01 (f r)) {R : VF Ideal → Mem → Prop}
    (hR : ∀ u, IsV u (fun r => pl (hgt (W w)) (inc (W w)) (f r)) → R u m) :
    Does d i (pw sTab (ipOf v) (fpOf v) w.val) m R := by
  have hip := hv.ip hf
  have hs : ∀ r < 16, seg (f r) ≤ 16 := fun r hr => seg_le (hf r hr)
  have hw : w.val < 8 := w.isLt
  have h1 := (hip.mins (IsW.wi 16) (fun r hr => by have := hs r hr; omega) (fun _ _ => by norm_num)).add (IsW.wi (w.val * 17))
  have h2 := (((hip.add (IsW.wi 1)).mins (IsW.wi 16) (fun r hr => by have := hs r hr; omega) (fun _ _ => by norm_num)).add
    (IsW.wi (w.val * 17))).add (IsW.wi 136)
  refine Does.bind (Does.getTab (R := fun u m' => m = m' ∧ IsV u fun r => m.tab (min (seg (f r)) 16 + w.val * 17)) h1
    (fun r hr => by have := hs r hr; omega) fun u hu => ⟨rfl, hu⟩) ?_
  rintro u _ ⟨rfl, hu⟩
  refine Does.bind (Does.getTab (R := fun u m' => m = m' ∧ IsV u fun r => m.tab (min (seg (f r) + 1) 16 + w.val * 17 + 136)) h2
    (fun r hr => by have := hs r hr; omega) fun u hu => ⟨rfl, hu⟩) ?_
  rintro t _ ⟨rfl, ht⟩
  refine Does.ret (hR _ ?_)
  have hfp : IsV (fpOf v) fun r => f r * 16 - ((seg (f r) : ℝ) : EReal) :=
    (hv.mul (IsV.wf ofBits_16)).sub (IsV.ofWord hip fun r hr => by have := hs r hr; omega)
  refine (hu.add (hfp.mul ht)).congr fun r _ => ?_
  show _ = pl _ _ _
  rw [pl, (htab w _ (min_le_right _ _)).1, (htab w _ (min_le_right _ _)).2]

/-! ### The selection -/

theorem Does.colMax (c : Fin 10) {m : Mem} {R : VF Ideal → Mem → Prop} (hR : ∀ v, IsV v (fun r => blk (m.att r) c.val) → R v m) :
    Does d i (colMax sAtt lane c) m R := by
  have hc : c.val < 10 := c.isLt
  refine Does.bind (Does.getAtt (R := fun u m' => m = m' ∧ IsV u fun r => m.att r (10 * c.val)) (IsW.wi _) (fun _ _ => by omega)
    fun u hu => ⟨rfl, hu⟩) ?_
  rintro u _ ⟨rfl, hu⟩
  refine (Does.each (fun pre v m' => m = m' ∧ IsV v fun r => pre.foldl (fun z (q : Fin 10) => max z (m.att r (10 * c.val + q.val))) (m.att r (10 * c.val)))
    ⟨rfl, hu⟩ ?_).mono ?_
  · rintro pre q post s _ - ⟨rfl, hs⟩
    have hq : q.val < 10 := q.isLt
    refine Does.bind (Does.getAtt (R := fun u m' => m = m' ∧ IsV u fun r => m.att r (10 * c.val + q.val)) (IsW.wi _) (fun _ _ => by omega)
      fun u hu => ⟨rfl, hu⟩) ?_
    rintro v _ ⟨rfl, hv⟩
    refine Does.ret ⟨rfl, (hs.maxi hv).congr fun r _ => ?_⟩
    rw [List.foldl_append]; rfl
  · rintro v _ ⟨rfl, hv⟩
    refine hR v (hv.congr fun r _ => ?_)
    rw [blk, sup_ten]; rfl

theorem down_sorted : down.Pairwise (fun a b => b < a) := by decide

/-- One round finds the greatest attention and its first column, and overwrites it. -/
theorem Does.round {ninf : VF Ideal} (hninf : IsV ninf fun _ => ⊥) {cm : Fin 10 → VF Ideal} {m : Mem}
    (hcm : ∀ c : Fin 10, IsV (cm c) fun r => blk (m.att r) c.val) {R : Sel Ideal lane × (Fin 10 → VF Ideal) → Mem → Prop}
    (hR : ∀ p, IsV p.1.top (fun r => best (m.att r)) → IsW p.1.pos (fun r => first (m.att r)) →
      (∀ c : Fin 10, IsV (p.2 c) fun r => blk (step (m.att r)) c.val) → R p { m with att := fun r => step (m.att r) }) :
    Does d i (round sAtt lane ninf cm) m R := by
  have hfl : ∀ r, first (m.att r) < 100 := fun r => first_lt _
  have hM : IsV (up1.foldl (fun m c => maximumf m (cm c)) (cm 0)) fun r => best (m.att r) := fun x => by
    show max (max (max (max (max (max (max (max (max (cm 0 x) (cm 1 x)) (cm 2 x)) (cm 3 x)) (cm 4 x)) (cm 5 x)) (cm 6 x)) (cm 7 x)) (cm 8 x)) (cm 9 x) = best (m.att (x 0).val)
    rw [← sup_blk, sup_ten]
    simp only [hcm _ x]; rfl
  unfold Cert.Proof.round
  dsimp only
  generalize up1.foldl (fun m c => maximumf m (cm c)) (cm 0) = M at hM ⊢
  have hcs : IsW (down8.foldl (fun s c => select (cmpf .oeq (cm c) M) (wi c.val) s) (wi 9)) fun r => first (m.att r) / 10 := by
    have key : ∀ (c : Fin 10) {s : VI} {n : ℕ → ℕ}, IsW s n →
        IsW (select (cmpf .oeq (cm c) M) (wi c.val) s) fun r => if blk (m.att r) c.val = best (m.att r) then c.val else n r := fun c s n hs =>
      IsW.sel (fun r => blk (m.att r) c.val = best (m.att r)) (fun x => (hcm c).oeq hM x) (IsW.wi _) hs
    refine (key 0 (key 1 (key 2 (key 3 (key 4 (key 5 (key 6 (key 7 (key 8 (IsW.wi 9)))))))))).congr fun r _ => ?_
    exact find_down (p := fun c => blk (m.att r) c.val = best (m.att r)) (by have := hfl r; omega)
      (fun b hb => by rw [hb]; exact blk_first _) (fun b hb => blk_ne _ hb)
  generalize down8.foldl (fun s c => select (cmpf .oeq (cm c) M) (wi c.val) s) (wi 9) = cs at hcs ⊢
  have hbase := hcs.mul (IsW.wi 10)
  generalize muli cs (wi 10) = base at hbase ⊢
  refine Does.bind (Does.each (fun pre (st : (Fin 10 → VF Ideal) × VI) m' => m = m'
      ∧ (∀ q ∈ pre, IsV (st.1 q) fun r => m.att r (10 * (first (m.att r) / 10) + q.val))
      ∧ ∀ x : S16.Idx, (∃ q ∈ pre, q.val = first (m.att (x 0).val) % 10) → st.2 x = BitVec.ofNat 32 (first (m.att (x 0).val)))
    ⟨rfl, fun q hq => by simp at hq, fun x ⟨q, hq, _⟩ => by simp at hq⟩ ?_) ?_
  · rintro pre q post st _ hl ⟨rfl, hxs, hps⟩
    have hq : q.val < 10 := q.isLt
    have hidx := hbase.add (IsW.wi q.val)
    refine Does.bind (Does.getAtt (R := fun u m' => m = m' ∧ IsV u fun r => m.att r (10 * (first (m.att r) / 10) + q.val)) hidx
      (fun r _ => by have := hfl r; omega) fun u hu => ⟨rfl, hu.congr fun r _ => by rw [Nat.mul_comm 10]⟩) ?_
    rintro v _ ⟨rfl, hv⟩
    refine Does.ret ⟨rfl, fun p hp => ?_, fun x hx => ?_⟩
    · show IsV (if p = q then v else st.1 p) _
      by_cases e : p = q
      · rw [if_pos e, e]; exact hv
      · rw [if_neg e]
        rcases List.mem_append.1 hp with h | h
        · exact hxs p h
        · exact absurd (List.mem_singleton.1 h) e
    · show select (cmpf .oeq v M) (addi base (wi q.val)) st.2 x = _
      rw [sel_apply _ _ _ x _ (hv.oeq hM x)]
      have hf := hfl (x 0).val
      by_cases e : q.val = first (m.att (x 0).val) % 10
      · have e1 : 10 * (first (m.att (x 0).val) / 10) + q.val = first (m.att (x 0).val) := by omega
        rw [if_pos (by rw [e1]; exact at_first _), hidx]
        show BitVec.ofNat 32 (first (m.att (x 0).val) / 10 * 10 + q.val) = _
        congr 1; omega
      · obtain ⟨p, hp, hpe⟩ := hx
        rcases List.mem_append.1 hp with h | h
        · have hlt : q < p := by
            have := down_sorted
            rw [hl] at this
            exact (List.pairwise_append.1 this).2.2 p h q List.mem_cons_self
          have hlt' : q.val < p.val := hlt
          rw [if_neg (ne_best (by omega))]
          exact hps x ⟨p, h, hpe⟩
        · exact absurd (by rw [← List.mem_singleton.1 h]; exact hpe) e
  rintro ⟨xs, ps⟩ _ ⟨rfl, hxs, hps⟩
  have hxs : ∀ q : Fin 10, IsV (xs q) fun r => m.att r (10 * (first (m.att r) / 10) + q.val) := fun q => hxs q (by revert q; decide)
  have hps : IsW ps fun r => first (m.att r) := fun x => hps x ⟨⟨first (m.att (x 0).val) % 10, by omega⟩, by
    generalize (⟨first (m.att (x 0).val) % 10, _⟩ : Fin 10) = q; revert q; decide, rfl⟩
  have hb : InBoth lane ps := ⟨hps.inAtt fun r _ => hfl r, hps.inBox fun r _ => by have := hfl r; omega⟩
  refine Does.assume hb (Does.bind (R := fun _ m' => m' = { m with att := fun r => step (m.att r) })
    (Does.scatAtt hps (fun r _ => hfl r) hninf _ _ rfl) ?_)
  rintro _ _ rfl
  refine Does.ret (hR _ hM hps fun c => ?_)
  have hnm : IsV (up.foldl (fun nm r => maximumf nm (select (cmpi .eq (addi base (wi r.val)) ps) ninf (xs r))) ninf)
      fun r => blk (step (m.att r)) (first (m.att r) / 10) := by
    have key : ∀ (q : Fin 10), IsV (select (cmpi .eq (addi base (wi q.val)) ps) ninf (xs q))
        fun r => step (m.att r) (10 * (first (m.att r) / 10) + q.val) := fun q => by
      have hq : q.val < 10 := q.isLt
      refine (IsV.sel (fun r => first (m.att r) / 10 * 10 + q.val = first (m.att r)) (fun x => ?_) hninf (hxs q)).congr fun r _ => ?_
      · have hf := hfl (x 0).val
        exact (hbase.add (IsW.wi q.val)).eq_iff hps (by omega) (by omega)
      · show _ = if _ then _ else _
        simp only [Nat.mul_comm 10]
    have key2 : ∀ (q : Fin 10) {s : VF Ideal} {n : ℕ → EReal}, IsV s n →
        IsV (maximumf s (select (cmpi .eq (addi base (wi q.val)) ps) ninf (xs q))) fun r => max (n r) (step (m.att r) (10 * (first (m.att r) / 10) + q.val)) :=
      fun q s n hs => hs.maxi (key q)
    refine (key2 9 (key2 8 (key2 7 (key2 6 (key2 5 (key2 4 (key2 3 (key2 2 (key2 1 (key2 0 hninf)))))))))).congr fun r _ => ?_
    rw [blk, sup_ten, max_eq_right (bot_le (a := step (m.att r) _))]; rfl
  refine (IsV.sel (fun r => first (m.att r) / 10 = c.val) (fun x => ?_) hnm (hcm c)).congr fun r _ => ?_
  · have hf := hfl (x 0).val
    have hc : c.val < 10 := c.isLt
    exact hcs.eq_iff (IsW.wi c.val) (by omega) (by omega)
  · by_cases e : first (m.att r) / 10 = c.val
    · rw [if_pos e, e]
    · rw [if_neg e, blk_step _ (Ne.symm e)]

end Cert.Proof

end
-- ==== Proof.Group.lean ====
/- A group of sixteen rows: its results are the rows' formula. -/
module

public import proofs.«01_k».proof.Proof.Lanes
public import Idealize.ShloMosaic.Lib.ValueLayout

@[expose] public section

noncomputable section

namespace Cert.Proof

open Cert.KernelIdeal Cert.KernelIdeal.Gen
open Idealize.ShloMosaic Idealize.ShloMosaic.ValueIdx Idealize.SL.Sem
open scoped BigOperators

variable {d : Dev nD} {i : grid0.Coords}

/-! ### Loops as sums -/

theorem sum_filter {α : Type} (p : α → Bool) (f : α → EReal) (l : List α) :
    ((l.filter p).map f).sum = (l.map fun a => if p a then f a else 0).sum := by
  induction l with
  | nil => rfl
  | cons a l ih =>
    rw [List.map_cons, List.sum_cons, ← ih]
    by_cases h : p a
    · rw [List.filter_cons_of_pos h, if_pos h, List.map_cons, List.sum_cons]
    · rw [List.filter_cons_of_neg h, if_neg h, zero_add]

theorem sum_up (f : Fin 10 → EReal) : (up.map f).sum = ∑ a, f a := by
  rw [show up = List.finRange 10 by decide, Fin.sum_univ_def]

theorem sum_from (f : Fin 10 → EReal) (a : Fin 10) : ((from_ a).map f).sum = ∑ b, if a ≤ b then f b else 0 := by
  rw [from_, sum_filter, sum_up]
  refine Finset.sum_congr rfl fun b _ => ?_
  by_cases h : a ≤ b
  · rw [if_pos h, if_pos (by simpa using h)]
  · rw [if_neg h, if_neg (by simpa using h)]

/-- What a double loop over the pairs adds up to. -/
theorem sum_both (f : Fin 10 → Fin 10 → EReal) :
    (up.map fun a => ((from_ a).map (f a)).sum).sum = ∑ a, ∑ b, if a ≤ b then f a b else 0 := by
  rw [sum_up]; exact Finset.sum_congr rfl fun a _ => sum_from _ a

theorem mem_up (a : Fin 10) : a ∈ up := by revert a; decide
theorem mem_from {a b : Fin 10} : b ∈ from_ a ↔ a ≤ b := by
  rw [from_, List.mem_filter, decide_eq_true_iff]
  exact ⟨fun h => h.2, fun h => ⟨mem_up b, h⟩⟩

theorem pid_inj : ∀ a b c e : Fin 10, a ≤ b → c ≤ e → pid a b = pid c e → a = c ∧ b = e := by decide +kernel

/-! ### The boxes -/

/-- The lanes' box `k`. -/
structure IsBox (D : ℕ → In) (k : Fin 10) (b : BoxV Ideal) : Prop where
  y0 : IsV b.y0 fun r => (D r).bx k 0
  x0 : IsV b.x0 fun r => (D r).bx k 1
  y1 : IsV b.y1 fun r => (D r).bx k 2
  x1 : IsV b.x1 fun r => (D r).bx k 3
  area : IsV b.area fun r => area ((D r).bx k)
  a : IsV b.a fun r => (D r).att k

theorem Does.boxOf {D : ℕ → In} {k : Fin 10} {s : Sel Ideal lane} {N : ℕ → ℕ} (hN : ∀ r < 16, N r < 100)
    (htop : IsV s.top fun r => (D r).top k) (hreal : ∀ r < 16, ∃ x : ℝ, (D r).top k = x) (hpos : IsW s.pos N) {m : Mem}
    (hb : ∀ r < 16, ∀ q : Fin 4, (D r).bx k q = m.box r (N r + q.val * 100))
    {R : BoxV Ideal → Mem → Prop} (hR : ∀ b, IsBox D k b → R b m) : Does d i (boxOf sBox lane s) m R := by
  refine Does.bind (Does.gathBox (R := fun u m' => m = m' ∧ IsV u fun r => (D r).bx k 0) hpos (fun r hr => by have := hN r hr; omega) _ _
    fun u hu => ⟨rfl, hu.congr fun r hr => by rw [hb r hr]; rfl⟩) ?_
  rintro y0 _ ⟨rfl, hy0⟩
  refine Does.bind (Does.getBox (R := fun u m' => m = m' ∧ IsV u fun r => (D r).bx k 1) (hpos.add (IsW.wi 100)) (fun r hr => by have := hN r hr; omega)
    fun u hu => ⟨rfl, hu.congr fun r hr => by rw [hb r hr]; rfl⟩) ?_
  rintro x0 _ ⟨rfl, hx0⟩
  refine Does.bind (Does.getBox (R := fun u m' => m = m' ∧ IsV u fun r => (D r).bx k 2) (hpos.add (IsW.wi 200)) (fun r hr => by have := hN r hr; omega)
    fun u hu => ⟨rfl, hu.congr fun r hr => by rw [hb r hr]; rfl⟩) ?_
  rintro y1 _ ⟨rfl, hy1⟩
  refine Does.bind (Does.getBox (R := fun u m' => m = m' ∧ IsV u fun r => (D r).bx k 3) (hpos.add (IsW.wi 300)) (fun r hr => by have := hN r hr; omega)
    fun u hu => ⟨rfl, hu.congr fun r hr => by rw [hb r hr]; rfl⟩) ?_
  rintro x1 _ ⟨rfl, hx1⟩
  have h0 := IsV.wf ofBits_0
  have h1 := IsV.wf ofBits_1
  have he := (h0.sub htop.abs).exp
  have hr := h1.div (h1.add he)
  refine Does.ret (hR _ ⟨hy0, hx0, hy1, hx1, ((hy1.sub hy0).maxi h0).mul ((hx1.sub hx0).maxi h0), ?_⟩)
  refine (IsV.sel (fun r => 0 ≤ (D r).top k) (fun x => htop.oge h0 x) hr (he.mul hr)).congr fun r hr => ?_
  obtain ⟨x, hx⟩ := hreal r hr
  rw [In.att, hx]
  exact sigmoid_eq x

/-! ### The pairs -/

variable {W : Fin 8 → Fin 17 → EReal} {D : ℕ → In}

theorem Does.pwD (hW : ∀ r, (D r).W = W) {m : Mem} (htab : HasTab W m.tab) (w : Fin 8) {v : VF Ideal} {f : ℕ → EReal} (hv : IsV v f)
    (hf : ∀ r < 16, Unit01 (f r)) {R : VF Ideal → Mem → Prop}
    (hR : ∀ u, IsV u (fun r => (D r).P w (f r)) → R u m) :
    Does d i (Cert.Proof.pw sTab (ipOf v) (fpOf v) w.val) m R :=
  Does.pw htab w hv hf fun u hu => hR u (hu.congr fun r _ => by rw [In.P, hW])

/-- What a pair adds to the similarities of box `k`. -/
def sPart (D : ℕ → In) (k a b : Fin 10) (r : ℕ) : EReal := if a = k then (D r).near a b else if b = k then (D r).near a b else 0
/-- What a pair adds to the distances. -/
def dPart (D : ℕ → In) (a b : Fin 10) (r : ℕ) : EReal := if a = b then (D r).offD a b else (D r).offD a b + (D r).offD a b

theorem Does.pair (hW : ∀ r, (D r).W = W) (hD : ∀ r < 16, (D r).Ok) {m : Mem} (htab : HasTab W m.tab) {bx : Fin 10 → BoxV Ideal}
    (hbx : ∀ k, IsBox D k (bx k)) (a b : Fin 10) {t : Acc Ideal} {S : Fin 10 → ℕ → EReal} {P : ℕ → EReal}
    (hS : ∀ k, IsV (t.s k) (S k)) (hP : IsV t.pd P) {R : Acc Ideal → Mem → Prop}
    (hR : ∀ t' : Acc Ideal, (∀ k, IsV (t'.s k) fun r => S k r + sPart D k a b r) → IsV t'.pd (fun r => P r + dPart D a b r) →
      R t' { m with atv := fun p n => if p = pid a b then (D n).score a b else m.atv p n }) :
    Does d i (pair sTab sAtv bx a b t) m R := by
  have h0 := IsV.wf ofBits_0
  have h1 := IsV.wf ofBits_1
  have A := (hbx a).a.mul (hbx b).a
  have ia := ((((hbx a).y1.mini (hbx b).y1).sub ((hbx a).y0.maxi (hbx b).y0)).maxi h0).mul
    ((((hbx a).x1.mini (hbx b).x1).sub ((hbx a).x0.maxi (hbx b).x0)).maxi h0)
  have G : IsV _ fun r => (D r).gap a b :=
    h1.sub (ia.div (((((hbx a).area.add (hbx b).area).sub ia).add (IsV.wf (r := eps12) rfl))))
  have uA : ∀ r < 16, Unit01 ((D r).att a * (D r).att b) := fun r hr => ((hD r hr).att_unit a).mul ((hD r hr).att_unit b)
  have uG : ∀ r < 16, Unit01 ((D r).gap a b) := fun r _ => In.gap_unit a b
  have ad := h1.sub ((hbx a).a.sub (hbx b).a).abs
  refine Does.bind (Does.pwD (R := fun u m' => m = m' ∧ IsV u _) hW htab 0 A uA fun u hu => ⟨rfl, hu⟩) ?_
  rintro pA _ ⟨rfl, hpA⟩
  refine Does.bind (Does.pwD (R := fun u m' => m = m' ∧ IsV u _) hW htab 1 G uG fun u hu => ⟨rfl, hu⟩) ?_
  rintro pD _ ⟨rfl, hpD⟩
  refine Does.bind (Does.pwD (R := fun u m' => m = m' ∧ IsV u _) hW htab 6 G uG fun u hu => ⟨rfl, hu⟩) ?_
  rintro pD6 _ ⟨rfl, hpD6⟩
  refine Does.bind (Does.pwD (R := fun u m' => m = m' ∧ IsV u fun r => (D r).near a b) hW htab 2 ad
    (fun r hr => ((hD r hr).att_unit a).gap ((hD r hr).att_unit b)) fun u hu => ⟨rfl, hu⟩) ?_
  rintro sim _ ⟨rfl, hsim⟩
  refine Does.bind (Does.loadAtv (R := fun _ m' => m = m') a b fun _ _ => rfl) ?_
  rintro _ _ rfl
  refine Does.bind (Does.storeAtv (R := fun _ m' => m' = _) a b (f := fun n => (D n).score a b) (fun y => ?_) rfl) ?_
  · rw [show y = ix2 (y 0) (y 1) from eq_ix2 y]
    exact (shapeCast_a_1a_apply _ _ _ _).trans ((hpA.mul hpD) (ix1 (y 1)))
  rintro _ _ rfl
  have hd := (hpD6.sub (IsV.wf ofBits_half)).abs
  refine Does.ret (hR _ (fun k => ?_) (hP.add ?_))
  · show IsV ((if a = b then upd t.s a (addf (t.s a) sim) else upd (upd t.s a (addf (t.s a) sim)) b (addf (t.s b) sim)) k) _
    have hsame : IsV (t.s k) fun r => S k r + 0 := (hS k).congr fun r _ => (add_zero _).symm
    unfold sPart
    by_cases hab : a = b
    · subst hab
      rw [if_pos rfl]
      show IsV (if k = a then _ else _) _
      by_cases hk : a = k
      · subst hk; simp only [if_true]; exact (hS a).add hsim
      · simp only [if_neg hk, if_neg (Ne.symm hk)]; exact hsame
    · rw [if_neg hab]
      show IsV (if k = b then _ else if k = a then _ else _) _
      by_cases hk : a = k
      · subst hk; simp only [if_neg hab, if_true]; exact (hS a).add hsim
      · simp only [if_neg hk, if_neg (Ne.symm hk)]
        by_cases hk' : b = k
        · subst hk'; simp only [if_true]; exact (hS b).add hsim
        · simp only [if_neg hk', if_neg (Ne.symm hk')]; exact hsame
  · unfold dPart
    by_cases hab : a = b
    · simp only [if_pos hab]; exact hd
    · simp only [if_neg hab]; exact hd.add hd

/-- What a pair adds to the sum of scores. -/
def ePart (D : ℕ → In) (a b : Fin 10) (r : ℕ) : EReal :=
  if a = b then Ideal.div ((D r).score a b) ((D r).s a * (D r).s b)
  else Ideal.div ((D r).score a b) ((D r).s a * (D r).s b) + Ideal.div ((D r).score a b) ((D r).s a * (D r).s b)

theorem Does.score (hD : ∀ r < 16, (D r).Ok) {m : Mem} {inv : Fin 10 → VF Ideal} (hinv : ∀ k, IsV (inv k) fun r => Ideal.div 1 ((D r).s k))
    (a b : Fin 10) (hm : ∀ r < 16, m.atv (pid a b) r = (D r).score a b) {t : VF Ideal} {P : ℕ → EReal} (hP : IsV t P)
    {R : VF Ideal → Mem → Prop} (hR : ∀ t', IsV t' (fun r => P r + ePart D a b r) → R t' m) :
    Does d i (score sAtv inv a b t) m R := by
  refine Does.bind (Does.loadAtv (R := fun v m' => m = m' ∧ ∀ y, v y = m.atv (pid a b) (y 1).val) a b fun _ h => ⟨rfl, h⟩) ?_
  rintro v _ ⟨rfl, hv⟩
  have hx : IsV (shapeCast S16 v shapeCasts_S1x16_S16) fun r => (D r).score a b := fun x => by
    rw [show x = ix1 (x 0) from eq_ix1 x]
    refine (shapeCast_1a_a_apply _ _ _).trans ?_
    rw [hv]; exact hm _ (x 0).isLt
  have hsc := (hx.mul ((hinv a).mul (hinv b))).congr fun r hr => (hD r hr).score_inv a b
  refine Does.ret (hR _ (hP.add ?_))
  unfold ePart
  by_cases hab : a = b
  · simp only [if_pos hab]; exact hsc
  · simp only [if_neg hab]; exact hsc.add hsc

/-! ### The whole group -/

/-- The formula's arguments for row `r` of a tile's arrays. -/
def rowIn (W : Fin 8 → Fin 17 → EReal) (m : Mem) (r : ℕ) : In where
  W := W
  top := fun k => topv (m.att r) k.val
  bx := fun k q => m.box r (pos (m.att r) k.val + q.val * 100)

theorem rowIn_ok {W : Fin 8 → Fin 17 → EReal} (hT : ∀ w, Table (hgt (W w)) (inc (W w))) {m : Mem} {r : ℕ}
    (ha : ∀ n < 100, ∃ x : ℝ, m.att r n = x) : (rowIn W m r).Ok :=
  ⟨hT, fun k => topv_real ha (by have := k.isLt; omega)⟩

/-- What a group computes from its ten boxes and the pairs' sums. -/
def rest2 (i : grid0.Coords) (bx : Fin 10 → BoxV Ideal) (inv : Fin 10 → VF Ideal) (pd : VF Ideal) : TP Ideal i PUnit :=
  Prog.bind (each up (fun a => each (from_ a) fun b => Cert.Proof.score sAtv inv a b) (wf 0x00000000#32)) fun mE =>
  Prog.bind (each up (fun a mE => Prog.bind (Cert.Proof.pw sTab (ipOf (mulf (bx a).a (bx a).a)) (fpOf (mulf (bx a).a (bx a).a)) 0) fun cn =>
      Prog.ret (addf mE (mulf cn (inv a)))) mE) fun mE =>
  let e := addf mE (wf 0x1E3CE508#32)
  let cc := minimumf (wf 0x41200000#32) (maximumf (wf 0x00000000#32) (mulf e (rsqrt e)))
  let ip := fptosi 32 cc
  let fp := subf cc (sitofp .f32 ip)
  let ip1 := minsi (addi ip (wi 1)) (wi 10)
  Prog.bind (each up (fun a pa => Prog.bind (Cert.Proof.pw sTab (ipOf (bx a).a) (fpOf (bx a).a) 5) fun v =>
      Prog.ret (addf pa (absf (subf v (wf 0x3F000000#32))))) (wf 0x00000000#32)) fun pa =>
  let g := addf (divf pa (wf 0x41200000#32)) (divf pd (wf 0x42C80000#32))
  Prog.bind (Cert.Proof.pw sTab (ipOf g) (fpOf g) 7) fun gate =>
  each [0, 1, 2, 3, 4, 5, 6, 7, 8, 9, 10] (fun t _ =>
    let o := addf (select (cmpi .eq ip (wi t)) (subf (wf 0x3F800000#32) fp) (wf 0x00000000#32)) (select (cmpi .eq ip1 (wi t)) fp (wf 0x00000000#32))
    Prog.bind (Prog.lift (TpuEff.assume (InOut (addi (muli lane (wi 11)) (wi t))) (InOut.dec _))) fun h =>
    scat sOut ![addi (muli lane (wi 11)) (wi t)] (mulf gate o) (idxOut h.down) (View.stores_vmem_bits_univ h_S176 rfl)) ⟨⟩

/-- What a group computes from its ten boxes. -/
def rest (i : grid0.Coords) (factor : VF Ideal) (bx : Fin 10 → BoxV Ideal) : TP Ideal i PUnit :=
  Prog.bind (each up (fun a => each (from_ a) fun b => Cert.Proof.pair sTab sAtv bx a b) ⟨fun _ => wf 0x00000000#32, wf 0x00000000#32⟩) fun acc =>
  rest2 i bx (fun k => divf (wf 0x3F800000#32) (mulf (acc.s k) factor)) acc.pd

set_option maxHeartbeats 1000000 in
theorem Does.rest2 (hW : ∀ r, (D r).W = W) (hD : ∀ r < 16, (D r).Ok) {m m2 : Mem} (htab : HasTab W m.tab) (ht2 : m2.tab = m.tab)
    {bx : Fin 10 → BoxV Ideal} (hbx : ∀ k, IsBox D k (bx k)) {inv : Fin 10 → VF Ideal} (hinv : ∀ k, IsV (inv k) fun r => Ideal.div 1 ((D r).s k))
    {pd : VF Ideal} (hP : IsV pd fun r => ∑ a, ∑ b, (D r).offD a b)
    (hA : ∀ a b, a ≤ b → ∀ r < 16, m2.atv (pid a b) r = (D r).score a b) :
    Does d i (Cert.Proof.rest2 i bx inv pd) m2 fun _ m' =>
      m'.tab = m.tab ∧ ∀ r < 16, ∀ t < 11, m'.out (r * 11 + t) = (D r).out t := by
  have h0 := IsV.wf ofBits_0
  have h1 := IsV.wf ofBits_1
  have htab2 : HasTab W m2.tab := by rw [ht2]; exact htab
  unfold Cert.Proof.rest2
  dsimp only
  -- the scores
  refine Does.bind (Does.each (fun pre (t : VF Ideal) m' => m2 = m'
      ∧ IsV t fun r => (pre.map fun a => ((from_ a).map fun b => ePart D a b r).sum).sum) ⟨rfl, h0⟩ ?_) ?_
  · rintro pre a post t _ - ⟨rfl, hP⟩
    refine (Does.each (fun pre' (t : VF Ideal) m' => m2 = m'
        ∧ IsV t fun r => (pre.map fun a => ((from_ a).map fun b => ePart D a b r).sum).sum + (pre'.map fun b => ePart D a b r).sum)
      ⟨rfl, hP.congr fun r _ => (add_zero _).symm⟩ ?_).mono ?_
    · rintro pre' b post' t _ hl ⟨rfl, hP⟩
      have hab : a ≤ b := mem_from.1 (by rw [hl]; simp)
      refine Does.score hD hinv a b (hA a b hab) hP fun t' ht' => ⟨rfl, ht'.congr fun r _ => ?_⟩
      rw [List.map_append, List.sum_append, List.map_singleton, List.sum_singleton, add_assoc]
    · rintro t' _ ⟨rfl, hP⟩
      refine ⟨rfl, hP.congr fun r _ => ?_⟩
      rw [List.map_append, List.sum_append, List.map_singleton, List.sum_singleton]
  rintro mE _ ⟨rfl, hE⟩
  have hE : IsV mE fun r => ∑ a, ∑ b, Ideal.div ((D r).score a b) ((D r).s a * (D r).s b) := hE.congr fun r hr => by
    rw [sum_both fun a b => ePart D a b r]
    exact sum_pairs (fun a b => Ideal.div ((D r).score a b) ((D r).s a * (D r).s b)) fun a b => by rw [In.score_comm, mul_comm]
  refine Does.bind (Does.each (fun pre (t : VF Ideal) m' => m2 = m'
      ∧ IsV t fun r => (∑ a, ∑ b, Ideal.div ((D r).score a b) ((D r).s a * (D r).s b)) + (pre.map fun a => Ideal.div ((D r).fix a) ((D r).s a)).sum)
    ⟨rfl, hE.congr fun r _ => (add_zero _).symm⟩ ?_) ?_
  · rintro pre a post t _ - ⟨rfl, hP⟩
    refine Does.bind (Does.pwD (R := fun u m' => m2 = m' ∧ IsV u fun r => (D r).fix a) hW htab2 0 ((hbx a).a.mul (hbx a).a)
      (fun r hr => ((hD r hr).att_unit a).mul ((hD r hr).att_unit a)) fun u hu => ⟨rfl, hu⟩) ?_
    rintro u _ ⟨rfl, hu⟩
    refine Does.ret ⟨rfl, (hP.add ((hu.mul (hinv a)).congr fun r hr => (hD r hr).fix_inv a)).congr fun r _ => ?_⟩
    rw [List.map_append, List.sum_append, List.map_singleton, List.sum_singleton, add_assoc]
  rintro mE' _ ⟨rfl, hE'⟩
  have hE' : IsV mE' fun r => (D r).edges := hE'.congr fun r _ => by rw [sum_up]; rfl
  have he := hE'.add (IsV.wf (r := eps20) rfl)
  have hcc : IsV (minimumf (wf 0x41200000#32) (maximumf (wf 0x00000000#32) (mulf (addf mE' (wf 0x1E3CE508#32)) (rsqrt (addf mE' (wf 0x1E3CE508#32))))))
      fun r => (D r).count :=
    ((IsV.wf ofBits_10).mini (h0.maxi (he.mul he.rsqrt))).congr fun r hr => by rw [(hD r hr).root]; rfl
  generalize minimumf (wf 0x41200000#32) (maximumf (wf 0x00000000#32) (mulf (addf mE' (wf 0x1E3CE508#32)) (rsqrt (addf mE' (wf 0x1E3CE508#32))))) = cc at hcc ⊢
  have hip : IsW (fptosi 32 cc) fun r => (D r).whole := fun x => by
    show Ideal.fptosi 32 (cc x) = _
    rw [hcc, (hD _ (lane_lt x)).count_word]
  have hwl : ∀ r < 16, (D r).whole ≤ 10 := fun r hr => (hD r hr).whole_le
  have hfp : IsV (subf cc (sitofp .f32 (fptosi 32 cc))) fun r => (D r).frac :=
    hcc.sub (IsV.ofWord hip fun r hr => by have := hwl r hr; omega)
  have hip1 := (hip.add (IsW.wi 1)).mins (IsW.wi 10) (fun r hr => by have := hwl r hr; omega) (fun _ _ => by norm_num)
  generalize subf cc (sitofp .f32 (fptosi 32 cc)) = fp at hfp ⊢
  generalize fptosi 32 cc = ip at hip hip1 ⊢
  generalize minsi (addi ip (wi 1)) (wi 10) = ip1 at hip1 ⊢
  -- the gate
  refine Does.bind (Does.each (fun pre (t : VF Ideal) m' => m2 = m' ∧ IsV t fun r => (pre.map fun a => (D r).offA a).sum) ⟨rfl, h0⟩ ?_) ?_
  · rintro pre a post t _ - ⟨rfl, hP⟩
    refine Does.bind (Does.pwD (R := fun u m' => m2 = m' ∧ IsV u fun r => (D r).P 5 ((D r).att a)) hW htab2 5 (hbx a).a
      (fun r hr => (hD r hr).att_unit a) fun u hu => ⟨rfl, hu⟩) ?_
    rintro u _ ⟨rfl, hu⟩
    refine Does.ret ⟨rfl, (hP.add (hu.sub (IsV.wf ofBits_half)).abs).congr fun r _ => ?_⟩
    rw [List.map_append, List.sum_append, List.map_singleton, List.sum_singleton]; rfl
  rintro pa _ ⟨rfl, hpa⟩
  have hg : IsV (addf (divf pa (wf 0x41200000#32)) (divf pd (wf 0x42C80000#32))) fun r => (D r).sure :=
    (((hpa.congr fun r _ => sum_up _).div (IsV.wf ofBits_10)).add (hP.div (IsV.wf ofBits_100))).congr fun r hr => (hD r hr).sure_eq
  refine Does.bind (Does.pwD (R := fun u m' => m2 = m' ∧ IsV u fun r => (D r).P 7 (D r).sure) hW htab2 7 hg
    (fun r hr => (hD r hr).sure_unit) fun u hu => ⟨rfl, hu⟩) ?_
  rintro gate _ ⟨rfl, hgate⟩
  -- the results
  refine (Does.each (fun pre _ m' => m'.tab = m.tab ∧ ∀ r < 16, ∀ t ∈ pre, m'.out (r * 11 + t) = (D r).out t) ⟨ht2, fun r _ t ht => by simp at ht⟩ ?_).mono ?_
  · rintro pre t post _ m3 hl ⟨ht, ho⟩
    have hlt : ∀ q ∈ pre ++ [t], q < 11 := fun q hq => by
      have : q ∈ [0, 1, 2, 3, 4, 5, 6, 7, 8, 9, 10] := by
        rw [hl]; rcases List.mem_append.1 hq with h | h
        · exact List.mem_append_left _ h
        · rw [List.mem_singleton.1 h]; simp
      simp only [List.mem_cons, List.not_mem_nil, or_false] at this; omega
    have htlt : t < 11 := hlt t (by simp)
    have hidx : IsW (addi (muli lane (wi 11)) (wi t)) fun r => r * 11 + t := (IsW.lane.mul (IsW.wi 11)).add (IsW.wi t)
    have hv : IsV (mulf gate (addf (select (cmpi .eq ip (wi t)) (subf (wf 0x3F800000#32) fp) (wf 0x00000000#32)) (select (cmpi .eq ip1 (wi t)) fp (wf 0x00000000#32))))
        fun r => (D r).out t := by
      refine (hgate.mul ((IsV.sel (fun r => (D r).whole = t) (fun x => ?_) (h1.sub hfp) h0).add
        (IsV.sel (fun r => min ((D r).whole + 1) 10 = t) (fun x => ?_) hfp h0))).congr fun r hr => ?_
      · have := hwl _ (lane_lt x); exact hip.eq_iff (IsW.wi t) (by omega) (by omega)
      · exact hip1.eq_iff (IsW.wi t) (by omega) (by omega)
      · have hw := hwl r hr
        have e : min (D r).whole 10 = (D r).whole := by omega
        rw [In.out, e]
        congr 2
        · by_cases h : (D r).whole = t
          · rw [if_pos h, if_pos h.symm, mul_one]
          · rw [if_neg h, if_neg (Ne.symm h), mul_zero]
        · by_cases h : min ((D r).whole + 1) 10 = t
          · rw [if_pos h, if_pos h.symm, mul_one]
          · rw [if_neg h, if_neg (Ne.symm h), mul_zero]
    refine Does.assume (hidx.inOut fun r hr => by omega) (Does.scatOut htlt hidx hv _ _ ⟨ht, fun r hr q hq => ?_⟩)
    have hq11 := hlt q hq
    show (if (r * 11 + q) % 11 = t then (D ((r * 11 + q) / 11)).out t else m3.out (r * 11 + q)) = _
    rw [show (r * 11 + q) % 11 = q by omega, show (r * 11 + q) / 11 = r by omega]
    by_cases e : q = t
    · rw [if_pos e, e]
    · rw [if_neg e]
      rcases List.mem_append.1 hq with h | h
      · exact ho r hr q h
      · exact absurd (List.mem_singleton.1 h) e
  · rintro _ m3 ⟨ht, ho⟩
    refine ⟨ht, fun r hr t htt => ho r hr t ?_⟩
    have : t ∈ List.range 11 := List.mem_range.2 htt
    exact this

set_option maxHeartbeats 1000000 in
theorem Does.rest {factor : VF Ideal} (hfac : IsV factor fun _ => 1) (hW : ∀ r, (D r).W = W) (hD : ∀ r < 16, (D r).Ok)
    {m m1 : Mem} (htab : HasTab W m.tab) (htab1 : m1.tab = m.tab) {bx : Fin 10 → BoxV Ideal} (hbx : ∀ k, IsBox D k (bx k)) :
    Does d i (Cert.Proof.rest i factor bx) m1 fun _ m' =>
      m'.tab = m.tab ∧ ∀ r < 16, ∀ t < 11, m'.out (r * 11 + t) = (D r).out t := by
  have h0 := IsV.wf ofBits_0
  have h1 := IsV.wf ofBits_1
  unfold Cert.Proof.rest
  -- the pairs
  refine Does.bind (Does.each (fun pre (t : Acc Ideal) m' => m'.tab = m.tab
      ∧ (∀ k, IsV (t.s k) fun r => (pre.map fun a => ((from_ a).map fun b => sPart D k a b r).sum).sum)
      ∧ IsV t.pd (fun r => (pre.map fun a => ((from_ a).map fun b => dPart D a b r).sum).sum)
      ∧ ∀ a ∈ pre, ∀ b, a ≤ b → ∀ r < 16, m'.atv (pid a b) r = (D r).score a b)
    ⟨htab1, fun _ => h0, h0, fun a ha => by simp at ha⟩ ?_) ?_
  · rintro pre a post t m2 - ⟨ht, hS, hP, hA⟩
    refine (Does.each (fun pre' (t : Acc Ideal) m' => m'.tab = m.tab
        ∧ (∀ k, IsV (t.s k) fun r => (pre.map fun a => ((from_ a).map fun b => sPart D k a b r).sum).sum + (pre'.map fun b => sPart D k a b r).sum)
        ∧ IsV t.pd (fun r => (pre.map fun a => ((from_ a).map fun b => dPart D a b r).sum).sum + (pre'.map fun b => dPart D a b r).sum)
        ∧ (∀ a ∈ pre, ∀ b, a ≤ b → ∀ r < 16, m'.atv (pid a b) r = (D r).score a b)
        ∧ ∀ b ∈ pre', ∀ r < 16, m'.atv (pid a b) r = (D r).score a b)
      ⟨ht, fun k => (hS k).congr fun r _ => (add_zero _).symm, hP.congr fun r _ => (add_zero _).symm, hA, fun a ha => by simp at ha⟩ ?_).mono ?_
    · rintro pre' b post' t m3 hl ⟨ht, hS, hP, hA, hB⟩
      have hab : a ≤ b := mem_from.1 (by rw [hl]; simp)
      refine Does.pair hW hD (by rw [ht]; exact htab) hbx a b hS hP fun t' hs' hp' =>
        ⟨ht, fun k => (hs' k).congr fun r _ => ?_, hp'.congr fun r _ => ?_, fun a' ha' b' hab' r hr => ?_, fun b' hb' r hr => ?_⟩
      · rw [List.map_append, List.sum_append, List.map_singleton, List.sum_singleton, add_assoc]
      · rw [List.map_append, List.sum_append, List.map_singleton, List.sum_singleton, add_assoc]
      · show (if pid a' b' = pid a b then _ else _) = _
        by_cases e : pid a' b' = pid a b
        · obtain ⟨rfl, rfl⟩ := pid_inj _ _ _ _ hab' hab e
          rw [if_pos rfl]
        · rw [if_neg e]; exact hA a' ha' b' hab' r hr
      · show (if pid a b' = pid a b then _ else _) = _
        by_cases e : b' = b
        · rw [e, if_pos rfl]
        · have hb' : b' ∈ pre' := by
            rcases List.mem_append.1 hb' with h | h
            · exact h
            · exact absurd (List.mem_singleton.1 h) e
          have hab' : a ≤ b' := mem_from.1 (by rw [hl]; exact List.mem_append_left _ hb')
          rw [if_neg fun h => e (pid_inj _ _ _ _ hab' hab h).2]
          exact hB b' hb' r hr
    · rintro t' m3 ⟨ht, hS, hP, hA, hB⟩
      refine ⟨ht, fun k => (hS k).congr fun r _ => ?_, hP.congr fun r _ => ?_, fun a' ha' b' hab' r hr => ?_⟩
      · rw [List.map_append, List.sum_append, List.map_singleton, List.sum_singleton]
      · rw [List.map_append, List.sum_append, List.map_singleton, List.sum_singleton]
      · rcases List.mem_append.1 ha' with h | h
        · exact hA a' h b' hab' r hr
        · rw [List.mem_singleton.1 h] at hab' ⊢
          exact hB b' (mem_from.2 hab') r hr
  rintro acc m2 ⟨ht2, hS, hP, hA⟩
  have hS : ∀ k, IsV (acc.s k) fun r => (D r).s k := fun k => (hS k).congr fun r hr => by
    rw [sum_both fun a b => sPart D k a b r]
    exact sum_row _ (hD r hr).near_comm k
  have hP : IsV acc.pd fun r => ∑ a, ∑ b, (D r).offD a b := hP.congr fun r hr => by
    rw [sum_both fun a b => dPart D a b r]
    exact sum_pairs _ In.offD_comm
  have hA : ∀ a b, a ≤ b → ∀ r < 16, m2.atv (pid a b) r = (D r).score a b := fun a => hA a (mem_up a)
  exact Does.rest2 hW hD htab ht2 hbx (fun k => (h1.div ((hS k).mul hfac)).congr fun r _ => by rw [mul_one]) hP hA

/-- A group's results are the rows' formula of what its arrays held. -/
theorem Does.compute {ninf factor : VF Ideal} (hninf : IsV ninf fun _ => ⊥) (hfac : IsV factor fun _ => 1)
    (hT : ∀ w, Table (hgt (W w)) (inc (W w))) {m : Mem} (htab : HasTab W m.tab) (ha : ∀ r < 16, ∀ n < 100, ∃ x : ℝ, m.att r n = x) :
    Does d i (compute sAtt sBox sTab sAtv sOut lane ninf factor) m fun _ m' =>
      m'.tab = m.tab ∧ ∀ r < 16, ∀ t < 11, m'.out (r * 11 + t) = (rowIn W m r).out t := by
  have hD : ∀ r < 16, (rowIn W m r).Ok := fun r hr => rowIn_ok hT (ha r hr)
  have hW : ∀ r, (rowIn W m r).W = W := fun _ => rfl
  have htop : ∀ r (k : Fin 10), (rowIn W m r).top k = topv (m.att r) k.val := fun _ _ => rfl
  have hbxq : ∀ r (k : Fin 10) (q : Fin 4), (rowIn W m r).bx k q = m.box r (pos (m.att r) k.val + q.val * 100) := fun _ _ _ => rfl
  generalize rowIn W m = D at hD hW htop hbxq ⊢
  -- the block maxima
  refine Does.bind (Does.each (fun pre cm m' => m = m' ∧ ∀ c ∈ pre, IsV (cm c) fun r => blk (m.att r) c.val)
    ⟨rfl, fun c hc => by simp at hc⟩ ?_) ?_
  · rintro pre c post cm _ - ⟨rfl, hcm⟩
    refine Does.bind (Does.colMax (R := fun v m' => m = m' ∧ IsV v _) c fun v hv => ⟨rfl, hv⟩) ?_
    rintro v _ ⟨rfl, hv⟩
    refine Does.ret ⟨rfl, fun q hq => ?_⟩
    show IsV (if q = c then v else cm q) _
    by_cases e : q = c
    · rw [if_pos e, e]; exact hv
    · rw [if_neg e]
      rcases List.mem_append.1 hq with h | h
      · exact hcm q h
      · exact absurd (List.mem_singleton.1 h) e
  rintro cm _ ⟨rfl, hcm⟩
  have hcm : ∀ c : Fin 10, IsV (cm c) fun r => blk (m.att r) c.val := fun c => hcm c (mem_up c)
  -- the selection
  refine Does.bind (Does.each (fun pre (st : List (Sel Ideal lane) × (Fin 10 → VF Ideal)) m' =>
      m' = { m with att := fun r => step^[pre.length] (m.att r) }
      ∧ (∀ c : Fin 10, IsV (st.2 c) fun r => blk (step^[pre.length] (m.att r)) c.val)
      ∧ st.1.length = pre.length
      ∧ ∀ k s, st.1[k]? = some s → IsV s.top (fun r => topv (m.att r) k) ∧ IsW s.pos (fun r => pos (m.att r) k))
    ⟨rfl, hcm, rfl, fun k s h => by simp at h⟩ ?_) ?_
  · rintro pre c post ⟨l, cm⟩ _ - ⟨rfl, hcm, hlen, hsel⟩
    refine Does.bind (Does.round (R := fun p m' => m' = { m with att := fun r => step^[pre.length + 1] (m.att r) }
      ∧ (∀ c : Fin 10, IsV (p.2 c) fun r => blk (step^[pre.length + 1] (m.att r)) c.val)
      ∧ IsV p.1.top (fun r => topv (m.att r) pre.length) ∧ IsW p.1.pos (fun r => pos (m.att r) pre.length))
      hninf hcm fun p ht hp hc => ⟨?_, ?_, ht, hp⟩) ?_
    · simp only [Function.iterate_succ_apply']
    · simp only [Function.iterate_succ_apply']; exact hc
    rintro p _ ⟨rfl, hc, ht, hp⟩
    have hl1 : (pre ++ [c]).length = pre.length + 1 := by simp
    refine Does.ret ⟨by rw [hl1], by rw [hl1]; exact hc, by rw [hl1]; show (l ++ [p.1]).length = _; rw [List.length_append]; simp only [List.length_singleton]; rw [hlen], ?_⟩
    intro k s hk
    have hk : (l ++ [p.1])[k]? = some s := hk
    rcases Nat.lt_or_ge k l.length with h | h
    · rw [List.getElem?_append_left h] at hk; exact hsel k s hk
    · rw [List.getElem?_append_right h] at hk
      rcases Nat.eq_zero_or_pos (k - l.length) with e | e
      · rw [e] at hk
        have : p.1 = s := by simpa using hk
        have ek : k = pre.length := by have : l.length = pre.length := hlen; omega
        subst this ek
        exact ⟨ht, hp⟩
      · rw [List.getElem?_eq_none (by rw [List.length_singleton]; exact e)] at hk; cases hk
  rintro ⟨sel, cm'⟩ m1 ⟨hm1, -, hlen, hsel⟩
  have hlen : sel.length = 10 := hlen
  have hbox1 : m1.box = m.box := by rw [hm1]
  have htab1 : m1.tab = m.tab := by rw [hm1]
  -- the boxes
  refine Does.bind (Does.each (fun pre (bs : List (BoxV Ideal)) m' => m1 = m' ∧ bs.length = pre.length
      ∧ ∀ (k : Fin 10) b, bs[k.val]? = some b → IsBox D k b)
    ⟨rfl, rfl, fun k s h => by simp at h⟩ ?_) ?_
  · rintro pre s post l _ hl ⟨rfl, hlen', hbs⟩
    have hl : sel = pre ++ s :: post := hl
    have hpl : pre.length < 10 := by rw [← hlen, hl]; simp
    have hget : sel[pre.length]? = some s := by rw [hl, List.getElem?_append_right (Nat.le_refl _)]; simp
    obtain ⟨ht, hp⟩ := hsel _ _ hget
    refine Does.bind (Does.boxOf (R := fun b m' => m1 = m' ∧ IsBox D ⟨pre.length, hpl⟩ b) (fun r _ => pos_lt (m.att r) pre.length)
      (ht.congr fun r hr => (htop r ⟨pre.length, hpl⟩).symm) (fun r hr => (hD r hr).top _) hp
      (fun r hr q => by rw [hbxq, hbox1]) fun b hb => ⟨rfl, hb⟩) ?_
    rintro b _ ⟨rfl, hb⟩
    refine Does.ret ⟨rfl, by rw [List.length_append, List.length_append, hlen']; rfl, ?_⟩
    intro k b' hk
    rcases Nat.lt_or_ge k.val l.length with h | h
    · rw [List.getElem?_append_left h] at hk; exact hbs k b' hk
    · rw [List.getElem?_append_right h] at hk
      rcases Nat.eq_zero_or_pos (k.val - l.length) with e | e
      · rw [e] at hk
        have : b = b' := by simpa using hk
        have ek : k = ⟨pre.length, hpl⟩ := Fin.ext (by show k.val = pre.length; omega)
        subst this ek
        exact hb
      · rw [List.getElem?_eq_none (by rw [List.length_singleton]; exact e)] at hk; cases hk
  rintro bs _ ⟨rfl, hblen, hbs⟩
  refine Does.rest hfac hW hD htab htab1 fun k => ?_
  have hk : k.val < bs.length := by have : bs.length = 10 := hblen.trans hlen; have := k.isLt; omega
  show IsBox D k (bs.getD k.val ⟨ninf, ninf, ninf, ninf, ninf, ninf⟩)
  rw [List.getD_eq_getElem?_getD, List.getElem?_eq_getElem hk]
  exact hbs k _ (List.getElem?_eq_getElem hk)

end Cert.Proof

end
-- ==== Proof.Tile.lean ====
/- A tile's whole program: the copies in and out around three groups of sixteen rows, from the four arrays it reads and its
   own share of the result to that share filled in. -/
module

public import proofs.«01_k».proof.Proof.Group
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

local notation "𝕄" => MT nD τ sig (HIx 1) (Elt Ideal) ℕ UU ℕ

abbrev EC : UEmb Counters (MT nD τ sig (HIx 1) (Elt Ideal) ℕ UU ℕ) := countersEmb

/-- An array of one axis as a function of the position. -/
def ext1 {n : ℕ} (f : FVec Ideal ⟨1, ![n]⟩ .f32) : ℕ → EReal := fun j => if h : j < n then f (ix1 ⟨j, h⟩) else 0
/-- An array of two axes as a function of row and column. -/
def ext2 {n k : ℕ} (f : FVec Ideal ⟨2, ![n, k]⟩ .f32) : ℕ → ℕ → EReal := fun r j => if h : r < n ∧ j < k then f (ix2 ⟨r, h.1⟩ ⟨j, h.2⟩) else 0
theorem arr1_ext1 {n : ℕ} (f : FVec Ideal ⟨1, ![n]⟩ .f32) : arr1 (ext1 f) = f := by
  funext x
  obtain ⟨j, rfl⟩ : ∃ j, x = ix1 j := ⟨_, eq_ix1 x⟩
  show ext1 f j.val = _
  unfold ext1; rw [dif_pos j.isLt]
theorem arr2_ext2 {n k : ℕ} (f : FVec Ideal ⟨2, ![n, k]⟩ .f32) : arr2 (ext2 f) = f := by
  funext x
  obtain ⟨r, j, rfl⟩ : ∃ r j, x = ix2 r j := ⟨_, _, eq_ix2 x⟩
  show ext2 f r.val j.val = _
  unfold ext2; rw [dif_pos ⟨r.isLt, j.isLt⟩]

variable (d : Dev nD) (i : grid0.Coords)

/-- One program and then another. -/
theorem then_wp {α β : Type} (p : TP Ideal i α) (k : α → TP Ideal i β) (Q : β → sProp 𝕄) :
    wp frame (wpE (defs₀ (F := Ideal)) 𝒱₀ (thr d i) none) Set.univ p
        (fun a => wp frame (wpE (defs₀ (F := Ideal)) 𝒱₀ (thr d i) none) Set.univ (k a) Q)
      ⊢ wp frame (wpE (defs₀ (F := Ideal)) 𝒱₀ (thr d i) none) Set.univ (Prog.bind p k) Q := by
  show _ ⊢ wp _ _ _ (p >>= k) Q
  rw [wp_bind]

/-- A copy and the wait for it. -/
theorem copy_wp {α : Type} {sp sp' : Space} {s : Shape} {e : EltTy} (src : Memref sig (procOf i).kind sp s e) (dst : Memref sig (procOf i).kind sp' s e)
    (sem : DmaSem sig) {hs : src.view.WordExact} {hd : dst.view.WordExact}
    {hsem : DmaTarget.Typed (nD := nD) (p := procOf i) sp (.dma sem) (.here dst)} {k : PUnit → TP Ideal i α} {Q : α → sProp 𝕄}
    {q : PosShare TreeShare} {fs : Buf (Elt Ideal) (src.view.loc (thr d i))} {Ss : Finset (Idx (src.view.loc (thr d i)))}
    (hSs : src.view.set ⊆ Ss)
    {Sd : Finset (Idx (dst.view.loc (thr d i)))} {fd : Buf (Elt Ideal) (dst.view.loc (thr d i))}
    (g : Buf (Elt Ideal) (dst.view.loc (thr d i))) (hg : dst.view.write (Elt Ideal) fd (src.view.read (Elt Ideal) fs) Finset.univ = g) (hSd : dst.view.set ⊆ Sd)
    (hN0 : 0 < dst.view.amount (.dma sem)) {O : CellTallies nD τ sig (HIx 1)} {W : Waits sig (HIx 1)} :
    iprop((src.view.loc (thr d i) ↦[Ss]{q} fs) ∗ (dst.view.loc (thr d i) ↦[Sd]{fullShare} fd) ∗ semVal (thr d i, .dma sem) 0
        ∗ owes (thr d i) O W ∗ Transfers.MayWaits (thr d i) (default : HIx 1) O)
      ⊢ iprop((∀ W', iprop((src.view.loc (thr d i) ↦[Ss]{q} fs)
            ∗ (dst.view.loc (thr d i) ↦[Sd]{fullShare} g)
            ∗ semVal (thr d i, .dma sem) 0 ∗ owes (thr d i) O W')
            -∗ wp frame (wpE (defs₀ (F := Ideal)) 𝒱₀ (thr d i) none) Set.univ (k ⟨⟩) Q)
        -∗ wp frame (wpE (defs₀ (F := Ideal)) 𝒱₀ (thr d i) none) Set.univ
          (Prog.bind (Prog.lift (.enqueueDma src (.here dst) (.dma sem) hs hd hsem)) fun _ =>
            Prog.bind (Prog.lift (.waitDma2 sem src dst hs hd)) k) Q) := by
  subst hg
  simp only [Prog.lift, Prog.bind]
  iintro ⟨Hs, Hd, Hv, HO, Hm⟩ Hk
  ihave Hs' := (pointsTo_split_subset hSs).1 $$ Hs
  icases Hs' with ⟨Hs, Hr⟩
  iapply (Transfers.wp_dmaLocal EC 𝒱₀ (thr d i) none (src := src) (dst := dst) (default : HIx 1) _ rfl hN0 hSd) $$ [Hs Hd Hv]
  · isplitl [Hs]; · iexact Hs
    isplitl [Hd]; · iexact Hd
    iexact Hv
  iintro Hf
  ihave Hm' := (Transfers.MayWaits.elim (.dma sem)) $$ Hm
  iapply (Transfers.wp_waitLocalO EC 𝒱₀ (thr d i) none (srcw := src) (dstw := dst) (default : HIx 1) rfl) $$ [Hf HO Hm']
  · isplitl [Hf]; · iexact Hf
    isplitl [HO]; · iexact HO
    iexact Hm'
  iintro ⟨⟨Hd, Hs⟩, Hv, HO⟩
  iapply Hk
  isplitl [Hs Hr]
  · iapply (pointsTo_split_subset hSs).2
    isplitl [Hs]; · iexact Hs
    iexact Hr
  isplitl [Hd]; · iexact Hd
  isplitl [Hv]; · iexact Hv
  iexact HO

/-! ### One group of sixteen rows -/

abbrev hAtt : Memref sig .scVector .hbm S1536x100 .f32 := Memref.whole main_v18_scv
abbrev hBox : Memref sig .scVector .hbm S1536x400 .f32 := Memref.whole main_v13_scv
abbrev hTab : Memref sig .scVector .hbm S272 .f32 := Memref.whole main_v16_scv
abbrev hPar : Memref sig .scVector .hbm S16 .f32 := Memref.whole main_v17_scv
abbrev hOut : Memref sig .scVector .hbm S16896 .f32 := Memref.whole main_v19_scv
abbrev sPar : Memref sig .scVector .vmem S16 .f32 := Memref.whole cc0_scratch3

/-- The row of numbers that row `n` of the two arrays determines. -/
def rowOf (W : Fin 8 → Fin 17 → EReal) (A B : ℕ → ℕ → EReal) (n : ℕ) : In where
  W := W
  top := fun k => topv (A n) k.val
  bx := fun k q => B n (pos (A n) k.val + q.val * 100)

/-- The result, flat. -/
def result (W : Fin 8 → Fin 17 → EReal) (A B : ℕ → ℕ → EReal) : FVec Ideal S16896 .f32 :=
  fun j => (rowOf W A B ((j 0).val / 11)).out ((j 0).val % 11)

/-- The first row of the tile. -/
def row0 (i : grid0.Coords) : ℕ := 96 * (i 1).val + 48 * (i 0).val
/-- The tile's share of the result. -/
def mine (i : grid0.Coords) : Finset S16896.Idx := Finset.univ.filter fun j => 11 * row0 i ≤ (j 0).val ∧ (j 0).val < 11 * row0 i + 528

theorem read_att (A : ℕ → ℕ → EReal) (k : Fin k0_t1_loop.trips) :
    (hAtt.slice (Rect.unit (s := S1536x100) (k0_off1 i k) S16x100.size (k0_off1_inb i k)) (fun _ => rfl)).view.read (Elt Ideal) (arr2 A)
      = arr2 (n := 16) (k := 100) fun r n => A (row0 i + 16 * k.val + r) n := by
  funext x
  show A _ _ = A _ _
  congr 1
  · have e : k0_off1 i k 0 = row0 i + 16 * k.val := by rw [k0_off1_eq]; rfl
    show k0_off1 i k 0 + 1 * (x 0).val = _
    rw [Nat.one_mul]; exact congrArg (· + (x 0).val) e
  · have e : k0_off1 i k 1 = 0 := by rw [k0_off1_eq]; rfl
    show k0_off1 i k 1 + 1 * (x 1).val = _
    rw [Nat.one_mul]; exact (congrArg (· + (x 1).val) e).trans (Nat.zero_add _)
theorem read_box (A : ℕ → ℕ → EReal) (k : Fin k0_t1_loop.trips) :
    (hBox.slice (Rect.unit (s := S1536x400) (k0_off2 i k) S16x400.size (k0_off2_inb i k)) (fun _ => rfl)).view.read (Elt Ideal) (arr2 A)
      = arr2 (n := 16) (k := 400) fun r n => A (row0 i + 16 * k.val + r) n := by
  funext x
  show A _ _ = A _ _
  congr 1
  · have e : k0_off2 i k 0 = row0 i + 16 * k.val := by rw [k0_off2_eq]; rfl
    show k0_off2 i k 0 + 1 * (x 0).val = _
    rw [Nat.one_mul]; exact congrArg (· + (x 0).val) e
  · have e : k0_off2 i k 1 = 0 := by rw [k0_off2_eq]; rfl
    show k0_off2 i k 1 + 1 * (x 1).val = _
    rw [Nat.one_mul]; exact (congrArg (· + (x 1).val) e).trans (Nat.zero_add _)

abbrev outK (k : Fin k0_t1_loop.trips) : Memref sig .scVector .hbm S176 .f32 :=
  hOut.slice (Rect.unit (s := S16896) (k0_off3 i k) S176.size (k0_off3_inb i k)) (fun _ => rfl)

theorem outK_emb (k : Fin k0_t1_loop.trips) (x : S176.Idx) : ((outK i k).view.emb x 0).val = 11 * (row0 i + 16 * k.val) + (x 0).val := by
  have e : k0_off3 i k 0 = 11 * (row0 i + 16 * k.val) := by
    rw [k0_off3_eq]; unfold row0; show 1056 * (i 1).val + 528 * (i 0).val + 176 * k.val = _; omega
  show k0_off3 i k 0 + 1 * (x 0).val = _
  rw [Nat.one_mul]; exact congrArg (· + (x 0).val) e

theorem trips3 : k0_t1_loop.trips = 3 := by decide

theorem outK_sub (k : Fin k0_t1_loop.trips) : (outK i k).view.set ⊆ mine i := by
  intro j hj
  obtain ⟨x, -, rfl⟩ := Finset.mem_map.mp hj
  have hk : k.val < 3 := trips3 ▸ k.isLt
  have hx : (x 0).val < 176 := (x 0).isLt
  unfold mine
  rw [Finset.mem_filter]
  refine ⟨Finset.mem_univ _, ?_⟩
  rw [outK_emb]
  omega

/-- The first `k` groups of the tile's share are the result's. -/
def Upto (R f : FVec Ideal S16896 .f32) (k : ℕ) : Prop :=
  ∀ j : S16896.Idx, 11 * row0 i ≤ (j 0).val → (j 0).val < 11 * (row0 i + 16 * k) → f j = R j

theorem Upto.next {R f : FVec Ideal S16896 .f32} {k : Fin k0_t1_loop.trips} (h : Upto i R f k.val) {w : FVec Ideal S176 .f32}
    (hw : ∀ x : S176.Idx, w x = R ((outK i k).view.emb x)) : Upto i R ((outK i k).view.write (Elt Ideal) f w Finset.univ) (k.val + 1) := by
  intro j h1 h2
  by_cases hj : j ∈ (outK i k).view.set
  · obtain ⟨x, -, rfl⟩ := Finset.mem_map.mp hj
    rw [View.write_emb_of_mem _ _ (Finset.mem_univ x)]
    exact hw x
  · rw [View.write_of_not_mem _ _ _ hj]
    refine h j h1 ?_
    by_contra hlt
    apply hj
    have hk : k.val < 3 := trips3 ▸ k.isLt
    refine Finset.mem_map.mpr ⟨ix1 ⟨(j 0).val - 11 * (row0 i + 16 * k.val), by omega⟩, Finset.mem_univ _, ?_⟩
    funext a
    match a with
    | 0 => apply Fin.ext; rw [outK_emb]; show _ + ((j 0).val - _) = _; omega

abbrev hbmPts {s : Shape} (b : Ref sig .scVector) (h : b.ty = ⟨s, .f32⟩) (q : PosShare TreeShare) (f : Buf (Elt Ideal) ((thr d i).loc b)) : sProp 𝕄 :=
  (thr d i).loc b ↦{q} f

variable (W : Fin 8 → Fin 17 → EReal) (A B : ℕ → ℕ → EReal) (Tb : ℕ → EReal) (q : PosShare TreeShare)

abbrev vAtt : sProp 𝕄 := (thr d i).loc main_v18_scv ↦{q} (arr2 A : FVec Ideal S1536x100 .f32)
abbrev vBox : sProp 𝕄 := (thr d i).loc main_v13_scv ↦{q} (arr2 B : FVec Ideal S1536x400 .f32)
abbrev vTab : sProp 𝕄 := (thr d i).loc main_v16_scv ↦{q} (arr1 Tb : FVec Ideal S272 .f32)
abbrev vPar : sProp 𝕄 := (thr d i).loc main_v17_scv ↦{q} (fun _ => 1 : FVec Ideal S16 .f32)
abbrev vOut (f : FVec Ideal S16896 .f32) : sProp 𝕄 := (thr d i).loc main_v19_scv ↦[mine i]{fullShare} f

/-- What holds before group `k`. -/
def Before (O : CellTallies nD τ sig (HIx 1)) (k : ℕ) : sProp 𝕄 :=
  iprop(∃ m f W', ⌜m.tab = Tb ∧ Upto i (result W A B) f k⌝ ∗ Tile d i m ∗ vAtt d i A q ∗ vBox d i B q ∗ vOut d i f
    ∗ semVal (thr d i, .dma cc0_scoped2.sem) 0 ∗ semVal (thr d i, .dma cc0_scoped3.sem) 0 ∗ semVal (thr d i, .dma cc0_scoped4.sem) 0
    ∗ owes (thr d i) O W')

variable {W A B Tb}

set_option maxHeartbeats 1000000 in
theorem group_wp {X : sProp 𝕄} [Persistent X] {O : CellTallies nD τ sig (HIx 1)} (hX : X ⊢ Transfers.MayWaits (thr d i) (default : HIx 1) O)
    (hT : ∀ w, Table (hgt (W w)) (inc (W w))) (htab : HasTab W Tb) (hA : ∀ r < 1536, ∀ n < 100, ∃ x : ℝ, A r n = x)
    {ninf factor : VF Ideal} (hninf : IsV ninf fun _ => ⊥) (hfac : IsV factor fun _ => 1) (k : Fin k0_t1_loop.trips) :
    iprop(X ∗ Before d i W A B Tb q O k.val)
      ⊢ wp frame (wpE (defs₀ (F := Ideal)) 𝒱₀ (thr d i) none) Set.univ
        (group i hAtt hBox hOut sAtt (Memref.isWhole_whole _) sBox (Memref.isWhole_whole _) sTab sAtv sOut (Memref.isWhole_whole _)
          cc0_scoped2 cc0_scoped3 cc0_scoped4 k lane ninf factor)
        fun _ => Before d i W A B Tb q O (k.val + 1) := by
  unfold Before group
  iintro ⟨#HX, %m, %f, %W', %hm, Ht, Hva, Hvb, Hvo, Hs2, Hs3, Hs4, HO⟩
  obtain ⟨rfl, hf⟩ := hm
  have hk3 : k.val < 3 := trips3 ▸ k.isLt
  have hr : row0 i < 1536 - 47 := by unfold row0; have h1 : (i 1).val < 16 := (i 1).isLt; have h0 : (i 0).val < 2 := (i 0).isLt; omega
  obtain ⟨⟨⟩, m', ⟨htab', hout⟩, hc⟩ := Does.compute (d := d) (i := i) hninf hfac hT
    (m := ⟨fun r n => A (row0 i + 16 * k.val + r) n, fun r n => B (row0 i + 16 * k.val + r) n, m.tab, m.atv, m.out⟩) htab
    (fun r hr' n hn => hA _ (by omega) n hn)
  have hw : ∀ x : S176.Idx, (arr1 m'.out : FVec Ideal S176 .f32) x = result W A B ((outK i k).view.emb x) := by
    intro x
    have hx : (x 0).val < 176 := (x 0).isLt
    have e := hout ((x 0).val / 11) (by omega) ((x 0).val % 11) (by omega)
    rw [show (x 0).val / 11 * 11 + (x 0).val % 11 = (x 0).val by omega] at e
    refine Eq.trans e ?_
    unfold result
    rw [outK_emb, show (11 * (row0 i + 16 * k.val) + (x 0).val) / 11 = row0 i + 16 * k.val + (x 0).val / 11 by omega,
      show (11 * (row0 i + 16 * k.val) + (x 0).val) % 11 = (x 0).val % 11 by omega]
    rfl
  unfold Tile
  icases Ht with ⟨Ha, Hb, Htab, Hatv, Hout⟩
  ihave Hm := hX $$ HX
  iapply (copy_wp d i _ _ _ (Finset.subset_univ _) (arr2 fun r n => A (row0 i + 16 * k.val + r) n)
    ((View.write_whole_univ _ _ _).trans (read_att i A k)) (Finset.subset_univ _)
    (View.amount_pos _ _ (show 0 < S16x100.numel by decide))) $$ [Hva Ha Hs2 HO Hm]
  · isplitl [Hva]; · iexact Hva
    isplitl [Ha]; · iexact Ha
    isplitl [Hs2]; · iexact Hs2
    isplitl [HO]; · iexact HO
    iexact Hm
  iintro %W1 ⟨Hva, Ha, Hs2, HO⟩
  ihave Hm := hX $$ HX
  iapply (copy_wp d i _ _ _ (Finset.subset_univ _) (arr2 fun r n => B (row0 i + 16 * k.val + r) n)
    ((View.write_whole_univ _ _ _).trans (read_box i B k)) (Finset.subset_univ _)
    (View.amount_pos _ _ (show 0 < S16x400.numel by decide))) $$ [Hvb Hb Hs3 HO Hm]
  · isplitl [Hvb]; · iexact Hvb
    isplitl [Hb]; · iexact Hb
    isplitl [Hs3]; · iexact Hs3
    isplitl [HO]; · iexact HO
    iexact Hm
  iintro %W2 ⟨Hvb, Hb, Hs3, HO⟩
  iapply (then_wp d i _ _ _)
  iapply (hc _)
  unfold Tile
  isplitl [Ha Hb Htab Hatv Hout]
  · isplitl [Ha]; · iexact Ha
    isplitl [Hb]; · iexact Hb
    isplitl [Htab]; · iexact Htab
    isplitl [Hatv]; · iexact Hatv
    iexact Hout
  iintro ⟨Ha, Hb, Htab, Hatv, Hout⟩
  ihave Hm := hX $$ HX
  iapply (copy_wp d i sOut (outK i k) _ (Finset.subset_univ _) _ rfl (outK_sub i k)
    (View.amount_pos _ _ (show 0 < S176.numel by decide))) $$ [Hvo Hout Hs4 HO Hm]
  · isplitl [Hout]; · iexact Hout
    isplitl [Hvo]; · iexact Hvo
    isplitl [Hs4]; · iexact Hs4
    isplitl [HO]; · iexact HO
    iexact Hm
  iintro %W3 ⟨Hout, Hvo, Hs4, HO⟩
  rw [wp_ret]
  imodintro
  iexists m', _, W3
  isplitr
  swap
  · isplitl [Ha Hb Htab Hatv Hout]
    · isplitl [Ha]; · iexact Ha
      isplitl [Hb]; · iexact Hb
      isplitl [Htab]; · iexact Htab
      isplitl [Hatv]; · iexact Hatv
      iexact Hout
    isplitl [Hva]; · iexact Hva
    isplitl [Hvb]; · iexact Hvb
    isplitl [Hvo]; · iexact Hvo
    isplitl [Hs2]; · iexact Hs2
    isplitl [Hs3]; · iexact Hs3
    isplitl [Hs4]; · iexact Hs4
    iexact HO
  ipureintro
  exact ⟨htab', hf.next i hw⟩

/-- The tile's own arrays, at any contents. -/
abbrev scr (b : Ref sig .scVector) : sProp 𝕄 := iprop(∃ f, (thr d i).loc b ↦{fullShare} f)

/-- A tile's program fills its share of the result in. -/
theorem tile_wp {X : sProp 𝕄} [Persistent X] {O : CellTallies nD τ sig (HIx 1)} {Ws : Waits sig (HIx 1)}
    (hX : X ⊢ Transfers.MayWaits (thr d i) (default : HIx 1) O)
    (hT : ∀ w, Table (hgt (W w)) (inc (W w))) (htab : HasTab W Tb) (hA : ∀ r < 1536, ∀ n < 100, ∃ x : ℝ, A r n = x)
    (f : FVec Ideal S16896 .f32) :
    iprop(X ∗ (vAtt d i A q ∗ vBox d i B q ∗ vTab d i Tb q ∗ vPar d i q ∗ vOut d i f)
        ∗ (scr d i cc0_scratch0 ∗ scr d i cc0_scratch1 ∗ scr d i cc0_scratch2 ∗ scr d i cc0_scratch3 ∗ scr d i cc0_scratch4 ∗ scr d i cc0_scratch5)
        ∗ (semVal (thr d i, .dma cc0_scoped0.sem) 0 ∗ semVal (thr d i, .dma cc0_scoped1.sem) 0 ∗ semVal (thr d i, .dma cc0_scoped2.sem) 0
          ∗ semVal (thr d i, .dma cc0_scoped3.sem) 0 ∗ semVal (thr d i, .dma cc0_scoped4.sem) 0)
        ∗ owes (thr d i) O Ws)
      ⊢ wp frame (wpE (defs₀ (F := Ideal)) 𝒱₀ (thr d i) none) Set.univ
        (tileProg i hAtt hBox hTab (Memref.isWhole_whole _) hPar (Memref.isWhole_whole _) hOut sAtt (Memref.isWhole_whole _) sBox (Memref.isWhole_whole _)
          sTab (Memref.isWhole_whole _) sPar (Memref.isWhole_whole _) sAtv sOut (Memref.isWhole_whole _)
          cc0_scoped0 cc0_scoped1 cc0_scoped2 cc0_scoped3 cc0_scoped4)
        fun _ => iprop((vAtt d i A q ∗ vBox d i B q ∗ vTab d i Tb q ∗ vPar d i q ∗ vOut d i (result W A B))
        ∗ (scr d i cc0_scratch0 ∗ scr d i cc0_scratch1 ∗ scr d i cc0_scratch2 ∗ scr d i cc0_scratch3 ∗ scr d i cc0_scratch4 ∗ scr d i cc0_scratch5)
        ∗ (semVal (thr d i, .dma cc0_scoped0.sem) 0 ∗ semVal (thr d i, .dma cc0_scoped1.sem) 0 ∗ semVal (thr d i, .dma cc0_scoped2.sem) 0
          ∗ semVal (thr d i, .dma cc0_scoped3.sem) 0 ∗ semVal (thr d i, .dma cc0_scoped4.sem) 0)
        ∗ ∃ W', owes (thr d i) O W') := by
  unfold tileProg scr
  iintro ⟨#HX, ⟨Hva, Hvb, Hvt, Hvp, Hvo⟩, ⟨⟨%fa, Ha⟩, ⟨%fb, Hb⟩, ⟨%ft, Ht⟩, ⟨%fp, Hp⟩, ⟨%fv, Hv⟩, ⟨%fo, Ho⟩⟩, ⟨Hs0, Hs1, Hs2, Hs3, Hs4⟩, HO⟩
  ihave Hm := hX $$ HX
  iapply (copy_wp d i _ _ _ (fs := (arr1 Tb : FVec Ideal S272 .f32)) (fd := ft) (Finset.subset_univ _) (arr1 Tb) (View.write_whole_univ cc0_scratch2 _ _) (Finset.subset_univ _)
    (View.amount_pos _ _ (show 0 < S272.numel by decide))) $$ [Hvt Ht Hs0 HO Hm]
  · isplitl [Hvt]; · iexact Hvt
    isplitl [Ht]; · iexact Ht
    isplitl [Hs0]; · iexact Hs0
    isplitl [HO]; · iexact HO
    iexact Hm
  iintro %W1 ⟨Hvt, Ht, Hs0, HO⟩
  ihave Hm := hX $$ HX
  iapply (copy_wp d i _ _ _ (fs := (fun _ => 1 : FVec Ideal S16 .f32)) (fd := fp) (Finset.subset_univ _) (fun _ => 1 : FVec Ideal S16 .f32) (View.write_whole_univ cc0_scratch3 _ _) (Finset.subset_univ _)
    (View.amount_pos _ _ (show 0 < S16.numel by decide))) $$ [Hvp Hp Hs1 HO Hm]
  · isplitl [Hvp]; · iexact Hvp
    isplitl [Hp]; · iexact Hp
    isplitl [Hs1]; · iexact Hs1
    isplitl [HO]; · iexact HO
    iexact Hm
  iintro %W2 ⟨Hvp, Hp, Hs1, HO⟩
  iapply (wp_load_rect (defs := defs₀ (F := Ideal)) 𝒱₀ (thr d i) none Set.univ (m := sPar)
      (r := Rect.unit (s := S16) ![0] S16.size inb_S16_S16_0) (q := fullShare) (S := Finset.univ) (Finset.subset_univ _)) $$ Hp
  iintro Hp
  iapply (then_wp d i _ _ _)
  rw [wp_ret]
  imodintro
  iapply (then_wp d i _ _ _)
  iapply (Scf.wp_for frame (wpE (defs₀ (F := Ideal)) 𝒱₀ (thr d i) none) Set.univ _ _ _ k0_t1_ok PUnit.unit _
    (fun k _ => iprop(X ∗ Before d i W A B Tb q O k))
    (fun k _ => by
      iintro ⟨#HX, H⟩
      iapply (wp_wand_r _ _ _)
      isplitl
      · iapply (group_wp d i q hX hT htab hA (IsV.wf ofBits_bot) (fun _ => rfl) k)
        isplitr; · iexact HX
        iexact H
      · iintro %u H
        isplitr; · iexact HX
        iexact H))
  isplitl [Hva Hvb Hvo Ha Hb Ht Hv Ho Hs2 Hs3 Hs4 HO]
  · isplitr; · iexact HX
    unfold Before
    iexists ⟨ext2 fa, ext2 fb, Tb, ext2 fv, ext1 fo⟩, f, W2
    isplitr
    · ipureintro
      exact ⟨rfl, fun j h1 h2 => absurd h1 (by omega)⟩
    unfold Tile
    rw [arr2_ext2, arr2_ext2, arr2_ext2, arr1_ext1]
    isplitl [Ha Hb Ht Hv Ho]
    · isplitl [Ha]; · iexact Ha
      isplitl [Hb]; · iexact Hb
      isplitl [Ht]; · iexact Ht
      isplitl [Hv]; · iexact Hv
      iexact Ho
    isplitl [Hva]; · iexact Hva
    isplitl [Hvb]; · iexact Hvb
    isplitl [Hvo]; · iexact Hvo
    isplitl [Hs2]; · iexact Hs2
    isplitl [Hs3]; · iexact Hs3
    isplitl [Hs4]; · iexact Hs4
    iexact HO
  iintro %u ⟨-, H⟩
  unfold Before
  icases H with ⟨%m, %g, %W', %hm, H, Hva, Hvb, Hvo, Hs2, Hs3, Hs4, HO⟩
  obtain ⟨rfl, hg⟩ := hm
  unfold Tile
  icases H with ⟨Ha, Hb, Ht, Hv, Ho⟩
  rw [wp_ret]
  imodintro
  isplitl [Hva Hvb Hvt Hvp Hvo]
  · isplitl [Hva]; · iexact Hva
    isplitl [Hvb]; · iexact Hvb
    isplitl [Hvt]; · iexact Hvt
    isplitl [Hvp]; · iexact Hvp
    iapply (Entails.of_eq (pointsTo_congr (ℓ := (thr d i).loc main_v19_scv) (I := mine i) (q := fullShare) (f := g) (g := result W A B) fun j hj => by
      have := (Finset.mem_filter.mp hj).2
      exact hg j this.1 (by have e : Scf.trips k0_t1_loop.lb k0_t1_loop.ub k0_t1_loop.st = 3 := trips3; rw [e]; omega)))
    iexact Hvo
  isplitl [Ha Hb Ht Hp Hv Ho]
  · isplitl [Ha]; · iexists _; iexact Ha
    isplitl [Hb]; · iexists _; iexact Hb
    isplitl [Ht]; · iexists _; iexact Ht
    isplitl [Hp]; · iexists _; iexact Hp
    isplitl [Hv]; · iexists _; iexact Hv
    iexists _; iexact Ho
  isplitl [Hs0 Hs1 Hs2 Hs3 Hs4]
  · isplitl [Hs0]; · iexact Hs0
    isplitl [Hs1]; · iexact Hs1
    isplitl [Hs2]; · iexact Hs2
    isplitl [Hs3]; · iexact Hs3
    iexact Hs4
  iexists W'; iexact HO

end Cert.Proof

end
-- ==== Proof.TcBody.lean ====
/- The block kernel's body. -/
module

public import proofs.«01_k».proof.Proof.Runs
public import proofs.«01_k».proof.Proof.Gen.KernelIdeal.Launch
public import proofs.«01_k».proof.Proof.Gen.KernelIdeal.Points

@[expose] public section

noncomputable section

namespace Cert.Proof.Block

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The body's run: from the four arrays it reads and whatever the fifth holds, it ends with the four as they were and the fifth
    overwritten by one array of values, which the run names. -/
def bodyRun (d : Dev nD) (i : grid1.Coords)
    (arg1 : Memref sig .tc .vmem S100x128 .f32) (harg1 : arg1.IsWhole) (arg2 : Memref sig .tc .vmem S4x100x128 .f32) (harg2 : arg2.IsWhole) (arg3 : Memref sig .tc .smem S8x17 .f32) (harg3 : arg3.IsWhole) (arg4 : Memref sig .tc .smem S1x1 .f32) (harg4 : arg4.IsWhole) (arg5 : Memref sig .tc .vmem S11x128 .f32) (harg5 : arg5.IsWhole)
    (f0 : BufTy.Contents (Elt F) arg1.view.ty) (f1 : BufTy.Contents (Elt F) arg2.view.ty) (f2 : BufTy.Contents (Elt F) arg3.view.ty) (f3 : BufTy.Contents (Elt F) arg4.view.ty) :
    { x : FVec F S11x128 .f32 // ∀ (𝒱 : Variants) (E : Set ℕ) (f4 : BufTy.Contents (Elt F) arg5.view.ty) (K : PUnit → sProp 𝕄),
      iprop((arg1.view.loc (d : Thread nD τ) ↦[arg1.view.set]{fullShare} f0) ∗ (arg2.view.loc (d : Thread nD τ) ↦[arg2.view.set]{fullShare} f1)
          ∗ (arg3.view.loc (d : Thread nD τ) ↦[arg3.view.set]{fullShare} f2) ∗ (arg4.view.loc (d : Thread nD τ) ↦[arg4.view.set]{fullShare} f3)
          ∗ (arg5.view.loc (d : Thread nD τ) ↦[arg5.view.set]{fullShare} f4)
          ∗ (iprop((arg1.view.loc (d : Thread nD τ) ↦[arg1.view.set]{fullShare} f0) ∗ (arg2.view.loc (d : Thread nD τ) ↦[arg2.view.set]{fullShare} f1)
              ∗ (arg3.view.loc (d : Thread nD τ) ↦[arg3.view.set]{fullShare} f2) ∗ (arg4.view.loc (d : Thread nD τ) ↦[arg4.view.set]{fullShare} f3)
              ∗ (arg5.view.loc (d : Thread nD τ) ↦[arg5.view.set]{fullShare} arg5.view.writes (Elt F) f4
                  [⟨Rect.unit (s := S11x128) ![0, 0] S11x128.size inb_S11x128_S11x128_0_0, x⟩])) -∗ K ⟨⟩))
        ⊢ wp frame (wpE (defs₀ (F := F)) 𝒱 d none) E (cc1__tc_block i arg1 harg1 arg2 harg2 arg3 harg3 arg4 harg4 arg5 harg5) K } := by
  refine ⟨?_, fun 𝒱 E f4 K => ?run⟩
  case run =>
    unfold cc1__tc_block
    iintro ⟨H0, H1, H2, H3, H4, Hk⟩
    sl_exec
    sl_step
    iapply Hk
    isplitl [H0]; · iexact H0
    isplitl [H1]; · iexact H1
    isplitl [H2]; · iexact H2
    isplitl [H3]; · iexact H3
    iexact H4

end Cert.Proof.Block
end
-- ==== Proof.TcVal.lean ====
/- The values the block kernel's body passes through: ten rounds of a maximum taken and overwritten, and the piecewise linear function
   as a sum of ramps. -/
module

public import proofs.«01_k».proof.Proof.TcBody

@[expose] public section

noncomputable section

namespace Cert.Proof.Block

open Cert.KernelIdeal Cert.KernelIdeal.Gen
open Idealize.ShloMosaic Idealize.ShloMosaic.TcCoe

variable {F : FTy → Type} [FloatOps F]

/-! ### One round -/

/-- Each column's greatest entry. -/
def mx (w : FVec F S100x128 .f32) : FVec F S1x128 .f32 :=
  shapeCast S1x128 (multiReduction .maximumf [0] S128 w 0xFF800000#32 reduces_S100x128_S128 (.inl rfl) rfl) shapeCasts_S128_S1x128
/-- The row numbers. -/
def rows : IVec S100x128 32 := iota .tc S100x128 32 [0] iota_S100x128_d0_w32
/-- Each column's first row that holds the greatest entry. -/
def at0 (w : FVec F S100x128 .f32) : IVec S1x128 32 :=
  shapeCast S1x128 (multiReductionI .minsi [0] S128 (select (cmpf .oeq w (broadcastTo S100x128 (mx w) broadcasts_S1x128_S100x128)) rows (broadcast S100x128 100#32))
    2147483647#32 reduces_S100x128_S128 rfl) shapeCasts_S128_S1x128
/-- Where that row is. -/
def mask (w : FVec F S100x128 .f32) : IVec S100x128 1 := cmpi .eq rows (broadcastTo S100x128 (at0 w) broadcasts_S1x128_S100x128)
/-- The array with those entries overwritten. -/
def next (w : FVec F S100x128 .f32) : FVec F S100x128 .f32 := select (mask w) (broadcast S100x128 (Scalar.ofBits .f32 0xFF800000#32)) w
/-- Another array's entries there. -/
def pick (b w : FVec F S100x128 .f32) : FVec F S1x128 .f32 :=
  shapeCast S1x128 (multiReduction .add [0] S128 (mulf b (sitofp .f32 (extui 32 (mask w) natLt_1_32))) 0x00000000#32 reduces_S100x128_S128 (.inl rfl) rfl)
    shapeCasts_S128_S1x128

/-! ### The sum of ramps -/

theorem inb (r : Fin 8) (s : Fin 17) : ∀ a, (![r.val, s.val] : Fin 2 → ℕ) a + S1x1.size a ≤ S8x17.size a := by
  intro a
  match a with
  | ⟨0, _⟩ => exact r.isLt
  | ⟨1, _⟩ => exact s.isLt

/-- Row `r` of the ramps' slopes, as the body loads it. -/
def co (arg3 : Memref sig .tc .smem S8x17 .f32) (f2 : BufTy.Contents (Elt F) arg3.view.ty) (r : Fin 8) (s : Fin 17) : F .f32 :=
  View.readAt (Elt F) arg3.view (Rect.unit (s := S8x17) ![r.val, s.val] S1x1.size (inb r s)).toLoadRect f2 (Shape.Idx.first (numel1_S1x1.symm ▸ Nat.one_pos))

/-- The ramps at `y`, each by its slope, added up. -/
def ramps (c : Fin 17 → F .f32) (y : F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.mulf (c 0) (FloatOps.addf y (Scalar.ofBits .f32 0x3F800000#32)))
    (FloatOps.mulf (c 1) y))
    (FloatOps.mulf (c 2) (FloatOps.maximumf (FloatOps.subf y (Scalar.ofBits .f32 0x3F800000#32)) (Scalar.ofBits .f32 0x00000000#32))))
    (FloatOps.mulf (c 3) (FloatOps.maximumf (FloatOps.subf y (Scalar.ofBits .f32 0x40000000#32)) (Scalar.ofBits .f32 0x00000000#32))))
    (FloatOps.mulf (c 4) (FloatOps.maximumf (FloatOps.subf y (Scalar.ofBits .f32 0x40400000#32)) (Scalar.ofBits .f32 0x00000000#32))))
    (FloatOps.mulf (c 5) (FloatOps.maximumf (FloatOps.subf y (Scalar.ofBits .f32 0x40800000#32)) (Scalar.ofBits .f32 0x00000000#32))))
    (FloatOps.mulf (c 6) (FloatOps.maximumf (FloatOps.subf y (Scalar.ofBits .f32 0x40A00000#32)) (Scalar.ofBits .f32 0x00000000#32))))
    (FloatOps.mulf (c 7) (FloatOps.maximumf (FloatOps.subf y (Scalar.ofBits .f32 0x40C00000#32)) (Scalar.ofBits .f32 0x00000000#32))))
    (FloatOps.mulf (c 8) (FloatOps.maximumf (FloatOps.subf y (Scalar.ofBits .f32 0x40E00000#32)) (Scalar.ofBits .f32 0x00000000#32))))
    (FloatOps.mulf (c 9) (FloatOps.maximumf (FloatOps.subf y (Scalar.ofBits .f32 0x41000000#32)) (Scalar.ofBits .f32 0x00000000#32))))
    (FloatOps.mulf (c 10) (FloatOps.maximumf (FloatOps.subf y (Scalar.ofBits .f32 0x41100000#32)) (Scalar.ofBits .f32 0x00000000#32))))
    (FloatOps.mulf (c 11) (FloatOps.maximumf (FloatOps.subf y (Scalar.ofBits .f32 0x41200000#32)) (Scalar.ofBits .f32 0x00000000#32))))
    (FloatOps.mulf (c 12) (FloatOps.maximumf (FloatOps.subf y (Scalar.ofBits .f32 0x41300000#32)) (Scalar.ofBits .f32 0x00000000#32))))
    (FloatOps.mulf (c 13) (FloatOps.maximumf (FloatOps.subf y (Scalar.ofBits .f32 0x41400000#32)) (Scalar.ofBits .f32 0x00000000#32))))
    (FloatOps.mulf (c 14) (FloatOps.maximumf (FloatOps.subf y (Scalar.ofBits .f32 0x41500000#32)) (Scalar.ofBits .f32 0x00000000#32))))
    (FloatOps.mulf (c 15) (FloatOps.maximumf (FloatOps.subf y (Scalar.ofBits .f32 0x41600000#32)) (Scalar.ofBits .f32 0x00000000#32))))
    (FloatOps.mulf (c 16) (FloatOps.maximumf (FloatOps.subf y (Scalar.ofBits .f32 0x41700000#32)) (Scalar.ofBits .f32 0x00000000#32)))

variable (arg1 : Memref sig .tc .vmem S100x128 .f32) (arg2 : Memref sig .tc .vmem S4x100x128 .f32) (arg3 : Memref sig .tc .smem S8x17 .f32)
  (arg4 : Memref sig .tc .smem S1x1 .f32) (f0 : BufTy.Contents (Elt F) arg1.view.ty) (f1 : BufTy.Contents (Elt F) arg2.view.ty)
  (f2 : BufTy.Contents (Elt F) arg3.view.ty) (f3 : BufTy.Contents (Elt F) arg4.view.ty)

theorem v540_at (x : S10x10x128.Idx) : bodyRun.sl.v540 arg1 arg3 f0 f2 x = ramps (co arg3 f2 0) (bodyRun.sl.v411 arg1 f0 x) := rfl
theorem v736_at (x : S10x10x128.Idx) : bodyRun.sl.v736 arg1 arg2 arg3 f0 f1 f2 x = ramps (co arg3 f2 1) (bodyRun.sl.v542 arg1 arg2 f0 f1 x) := rfl
theorem v740_at (x : S10x10x128.Idx) : bodyRun.sl.v740 arg1 arg2 arg3 f0 f1 f2 x = ramps (co arg3 f2 6) (bodyRun.sl.v542 arg1 arg2 f0 f1 x) := rfl
theorem v877_at (x : S10x10x128.Idx) : bodyRun.sl.v877 arg1 arg3 f0 f2 x = ramps (co arg3 f2 2) (bodyRun.sl.v748 arg1 f0 x) := rfl
theorem v1020_at (x : S10x128.Idx) : bodyRun.sl.v1020 arg1 arg3 f0 f2 x = ramps (co arg3 f2 0) (bodyRun.sl.v891 arg1 f0 x) := rfl
theorem v1192_at (x : S10x128.Idx) : bodyRun.sl.v1192 arg1 arg3 f0 f2 x = ramps (co arg3 f2 5) (bodyRun.sl.v1063 arg1 f0 x) := rfl
theorem v1341_at (x : S1x128.Idx) : bodyRun.sl.v1341 arg1 arg2 arg3 f0 f1 f2 x = ramps (co arg3 f2 7) (bodyRun.sl.v1212 arg1 arg2 arg3 f0 f1 f2 x) := rfl

theorem v36_eq : bodyRun.sl.v36 arg1 f0 = next (bodyRun.sl.v1 arg1 f0) := rfl
theorem v70_eq : bodyRun.sl.v70 arg1 f0 = next (bodyRun.sl.v36 arg1 f0) := rfl
theorem v104_eq : bodyRun.sl.v104 arg1 f0 = next (bodyRun.sl.v70 arg1 f0) := rfl
theorem v138_eq : bodyRun.sl.v138 arg1 f0 = next (bodyRun.sl.v104 arg1 f0) := rfl
theorem v172_eq : bodyRun.sl.v172 arg1 f0 = next (bodyRun.sl.v138 arg1 f0) := rfl
theorem v206_eq : bodyRun.sl.v206 arg1 f0 = next (bodyRun.sl.v172 arg1 f0) := rfl
theorem v240_eq : bodyRun.sl.v240 arg1 f0 = next (bodyRun.sl.v206 arg1 f0) := rfl
theorem v274_eq : bodyRun.sl.v274 arg1 f0 = next (bodyRun.sl.v240 arg1 f0) := rfl
theorem v308_eq : bodyRun.sl.v308 arg1 f0 = next (bodyRun.sl.v274 arg1 f0) := rfl
theorem v4_eq : bodyRun.sl.v4 arg1 f0 = mx (bodyRun.sl.v1 arg1 f0) := rfl
theorem v38_eq : bodyRun.sl.v38 arg1 f0 = mx (bodyRun.sl.v36 arg1 f0) := rfl
theorem v72_eq : bodyRun.sl.v72 arg1 f0 = mx (bodyRun.sl.v70 arg1 f0) := rfl
theorem v106_eq : bodyRun.sl.v106 arg1 f0 = mx (bodyRun.sl.v104 arg1 f0) := rfl
theorem v140_eq : bodyRun.sl.v140 arg1 f0 = mx (bodyRun.sl.v138 arg1 f0) := rfl
theorem v174_eq : bodyRun.sl.v174 arg1 f0 = mx (bodyRun.sl.v172 arg1 f0) := rfl
theorem v208_eq : bodyRun.sl.v208 arg1 f0 = mx (bodyRun.sl.v206 arg1 f0) := rfl
theorem v242_eq : bodyRun.sl.v242 arg1 f0 = mx (bodyRun.sl.v240 arg1 f0) := rfl
theorem v276_eq : bodyRun.sl.v276 arg1 f0 = mx (bodyRun.sl.v274 arg1 f0) := rfl
theorem v310_eq : bodyRun.sl.v310 arg1 f0 = mx (bodyRun.sl.v308 arg1 f0) := rfl
theorem v19_eq : bodyRun.sl.v19 arg1 arg2 f0 f1 = pick (bodyRun.sl.v16 arg2 f1) (bodyRun.sl.v1 arg1 f0) := rfl
theorem v24_eq : bodyRun.sl.v24 arg1 arg2 f0 f1 = pick (bodyRun.sl.v21 arg2 f1) (bodyRun.sl.v1 arg1 f0) := rfl
theorem v29_eq : bodyRun.sl.v29 arg1 arg2 f0 f1 = pick (bodyRun.sl.v26 arg2 f1) (bodyRun.sl.v1 arg1 f0) := rfl
theorem v34_eq : bodyRun.sl.v34 arg1 arg2 f0 f1 = pick (bodyRun.sl.v31 arg2 f1) (bodyRun.sl.v1 arg1 f0) := rfl
theorem v53_eq : bodyRun.sl.v53 arg1 arg2 f0 f1 = pick (bodyRun.sl.v16 arg2 f1) (bodyRun.sl.v36 arg1 f0) := rfl
theorem v58_eq : bodyRun.sl.v58 arg1 arg2 f0 f1 = pick (bodyRun.sl.v21 arg2 f1) (bodyRun.sl.v36 arg1 f0) := rfl
theorem v63_eq : bodyRun.sl.v63 arg1 arg2 f0 f1 = pick (bodyRun.sl.v26 arg2 f1) (bodyRun.sl.v36 arg1 f0) := rfl
theorem v68_eq : bodyRun.sl.v68 arg1 arg2 f0 f1 = pick (bodyRun.sl.v31 arg2 f1) (bodyRun.sl.v36 arg1 f0) := rfl
theorem v87_eq : bodyRun.sl.v87 arg1 arg2 f0 f1 = pick (bodyRun.sl.v16 arg2 f1) (bodyRun.sl.v70 arg1 f0) := rfl
theorem v92_eq : bodyRun.sl.v92 arg1 arg2 f0 f1 = pick (bodyRun.sl.v21 arg2 f1) (bodyRun.sl.v70 arg1 f0) := rfl
theorem v97_eq : bodyRun.sl.v97 arg1 arg2 f0 f1 = pick (bodyRun.sl.v26 arg2 f1) (bodyRun.sl.v70 arg1 f0) := rfl
theorem v102_eq : bodyRun.sl.v102 arg1 arg2 f0 f1 = pick (bodyRun.sl.v31 arg2 f1) (bodyRun.sl.v70 arg1 f0) := rfl
theorem v121_eq : bodyRun.sl.v121 arg1 arg2 f0 f1 = pick (bodyRun.sl.v16 arg2 f1) (bodyRun.sl.v104 arg1 f0) := rfl
theorem v126_eq : bodyRun.sl.v126 arg1 arg2 f0 f1 = pick (bodyRun.sl.v21 arg2 f1) (bodyRun.sl.v104 arg1 f0) := rfl
theorem v131_eq : bodyRun.sl.v131 arg1 arg2 f0 f1 = pick (bodyRun.sl.v26 arg2 f1) (bodyRun.sl.v104 arg1 f0) := rfl
theorem v136_eq : bodyRun.sl.v136 arg1 arg2 f0 f1 = pick (bodyRun.sl.v31 arg2 f1) (bodyRun.sl.v104 arg1 f0) := rfl
theorem v155_eq : bodyRun.sl.v155 arg1 arg2 f0 f1 = pick (bodyRun.sl.v16 arg2 f1) (bodyRun.sl.v138 arg1 f0) := rfl
theorem v160_eq : bodyRun.sl.v160 arg1 arg2 f0 f1 = pick (bodyRun.sl.v21 arg2 f1) (bodyRun.sl.v138 arg1 f0) := rfl
theorem v165_eq : bodyRun.sl.v165 arg1 arg2 f0 f1 = pick (bodyRun.sl.v26 arg2 f1) (bodyRun.sl.v138 arg1 f0) := rfl
theorem v170_eq : bodyRun.sl.v170 arg1 arg2 f0 f1 = pick (bodyRun.sl.v31 arg2 f1) (bodyRun.sl.v138 arg1 f0) := rfl
theorem v189_eq : bodyRun.sl.v189 arg1 arg2 f0 f1 = pick (bodyRun.sl.v16 arg2 f1) (bodyRun.sl.v172 arg1 f0) := rfl
theorem v194_eq : bodyRun.sl.v194 arg1 arg2 f0 f1 = pick (bodyRun.sl.v21 arg2 f1) (bodyRun.sl.v172 arg1 f0) := rfl
theorem v199_eq : bodyRun.sl.v199 arg1 arg2 f0 f1 = pick (bodyRun.sl.v26 arg2 f1) (bodyRun.sl.v172 arg1 f0) := rfl
theorem v204_eq : bodyRun.sl.v204 arg1 arg2 f0 f1 = pick (bodyRun.sl.v31 arg2 f1) (bodyRun.sl.v172 arg1 f0) := rfl
theorem v223_eq : bodyRun.sl.v223 arg1 arg2 f0 f1 = pick (bodyRun.sl.v16 arg2 f1) (bodyRun.sl.v206 arg1 f0) := rfl
theorem v228_eq : bodyRun.sl.v228 arg1 arg2 f0 f1 = pick (bodyRun.sl.v21 arg2 f1) (bodyRun.sl.v206 arg1 f0) := rfl
theorem v233_eq : bodyRun.sl.v233 arg1 arg2 f0 f1 = pick (bodyRun.sl.v26 arg2 f1) (bodyRun.sl.v206 arg1 f0) := rfl
theorem v238_eq : bodyRun.sl.v238 arg1 arg2 f0 f1 = pick (bodyRun.sl.v31 arg2 f1) (bodyRun.sl.v206 arg1 f0) := rfl
theorem v257_eq : bodyRun.sl.v257 arg1 arg2 f0 f1 = pick (bodyRun.sl.v16 arg2 f1) (bodyRun.sl.v240 arg1 f0) := rfl
theorem v262_eq : bodyRun.sl.v262 arg1 arg2 f0 f1 = pick (bodyRun.sl.v21 arg2 f1) (bodyRun.sl.v240 arg1 f0) := rfl
theorem v267_eq : bodyRun.sl.v267 arg1 arg2 f0 f1 = pick (bodyRun.sl.v26 arg2 f1) (bodyRun.sl.v240 arg1 f0) := rfl
theorem v272_eq : bodyRun.sl.v272 arg1 arg2 f0 f1 = pick (bodyRun.sl.v31 arg2 f1) (bodyRun.sl.v240 arg1 f0) := rfl
theorem v291_eq : bodyRun.sl.v291 arg1 arg2 f0 f1 = pick (bodyRun.sl.v16 arg2 f1) (bodyRun.sl.v274 arg1 f0) := rfl
theorem v296_eq : bodyRun.sl.v296 arg1 arg2 f0 f1 = pick (bodyRun.sl.v21 arg2 f1) (bodyRun.sl.v274 arg1 f0) := rfl
theorem v301_eq : bodyRun.sl.v301 arg1 arg2 f0 f1 = pick (bodyRun.sl.v26 arg2 f1) (bodyRun.sl.v274 arg1 f0) := rfl
theorem v306_eq : bodyRun.sl.v306 arg1 arg2 f0 f1 = pick (bodyRun.sl.v31 arg2 f1) (bodyRun.sl.v274 arg1 f0) := rfl
theorem v325_eq : bodyRun.sl.v325 arg1 arg2 f0 f1 = pick (bodyRun.sl.v16 arg2 f1) (bodyRun.sl.v308 arg1 f0) := rfl
theorem v330_eq : bodyRun.sl.v330 arg1 arg2 f0 f1 = pick (bodyRun.sl.v21 arg2 f1) (bodyRun.sl.v308 arg1 f0) := rfl
theorem v335_eq : bodyRun.sl.v335 arg1 arg2 f0 f1 = pick (bodyRun.sl.v26 arg2 f1) (bodyRun.sl.v308 arg1 f0) := rfl
theorem v340_eq : bodyRun.sl.v340 arg1 arg2 f0 f1 = pick (bodyRun.sl.v31 arg2 f1) (bodyRun.sl.v308 arg1 f0) := rfl

end Cert.Proof.Block

end
-- ==== Proof.TcRound.lean ====
/- One round of the block kernel on a column: the greatest entry, the first row that holds it, the column with that entry overwritten, and
   another array's entry there. -/
module

public import proofs.«01_k».proof.Proof.TcVal
public import proofs.«01_k».proof.Proof.Lanes
public import Idealize.ShloMosaic.Lib.Pointwise
public import Idealize.ShloMosaic.Lib.SortNet.Extract

@[expose] public section

noncomputable section

namespace Cert.Proof.Block

open Cert.KernelIdeal Cert.KernelIdeal.Gen
open Idealize.ShloMosaic Idealize.ShloMosaic.TcCoe
open scoped BigOperators

/-- Column `l` of the array holds the row of numbers `a`. -/
def Holds (w : FVec Ideal S100x128 .f32) (l : Fin 128) (a : ℕ → EReal) : Prop := ∀ n : Fin 100, w (ix2 n l) = a n.val

theorem fold_best (a : ℕ → EReal) (f : Fin 100 → EReal) (hf : ∀ n, f n = a n.val) : Finset.univ.fold max ⊥ f = best a := by
  have h : Finset.univ.fold max ⊥ f = Finset.univ.sup f := rfl
  rw [h]
  refine le_antisymm (Finset.sup_le fun n _ => ?_) (Finset.sup_le fun n hn => ?_)
  · rw [hf]; exact le_best n.isLt
  · have := Finset.le_sup (f := f) (Finset.mem_univ ⟨n, Finset.mem_range.1 hn⟩)
    rwa [hf] at this

theorem mx_at {w : FVec Ideal S100x128 .f32} {l : Fin 128} {a : ℕ → EReal} (h : Holds w l a) : mx w (ix2 0 l) = best a := by
  unfold mx
  pointwise
  rw [ofBits_bot]
  exact fold_best a _ h

theorem fold_first (a : ℕ → EReal) (f : Fin 100 → BitVec 32) (hf : ∀ n : Fin 100, f n = if a n.val = best a then BitVec.ofNat 32 n.val else 100#32) :
    Finset.univ.fold IntOp.minsi 2147483647#32 f = BitVec.ofNat 32 (first a) := by
  refine BitVec.eq_of_toInt_eq ?_
  rw [← Finset.fold_hom (op' := min) (m := BitVec.toInt) fun x y => SortNet.toInt_minsi x y]
  have hi : ∀ n : ℕ, n < 1000 → (BitVec.ofNat 32 n).toInt = n := fun n hn => by
    rw [BitVec.toInt_eq_toNat_of_lt] <;> rw [BitVec.toNat_ofNat] <;> omega
  have h100 : (100#32 : BitVec 32).toInt = 100 := by decide
  have hmax : (2147483647#32 : BitVec 32).toInt = 2147483647 := by decide
  have hl := first_lt a
  rw [hmax, hi (first a) (by omega)]
  refine le_antisymm ((Finset.fold_min_le _).2 (.inr ⟨⟨first a, hl⟩, Finset.mem_univ _, ?_⟩)) ((Finset.le_fold_min _).2 ⟨by omega, fun n _ => ?_⟩)
  · rw [hf, if_pos (at_first a), hi _ (by omega)]
  · rw [hf]
    by_cases h : a n.val = best a
    · rw [if_pos h, hi _ (by omega)]
      by_contra hc
      exact ne_best (a := a) (n := n.val) (by omega) h
    · rw [if_neg h, h100]; omega

theorem at0_at {w : FVec Ideal S100x128 .f32} {l : Fin 128} {a : ℕ → EReal} (h : Holds w l a) : at0 w (ix2 0 l) = BitVec.ofNat 32 (first a) := by
  unfold at0 rows
  pointwise [mx_at h, h _]
  exact fold_first a _ fun n => rfl

theorem mask_at {w : FVec Ideal S100x128 .f32} {l : Fin 128} {a : ℕ → EReal} (h : Holds w l a) (n : Fin 100) :
    mask w (ix2 n l) = if n.val = first a then 1#1 else 0#1 := by
  unfold mask rows
  pointwise [at0_at h]
  have hl := first_lt a
  by_cases hn : n.val = first a
  · rw [if_pos hn, hn]; simp [IntOp.cmpi]
  · rw [if_neg hn]
    have : BitVec.ofNat 32 n.val ≠ BitVec.ofNat 32 (first a) := fun e => hn (by
      have := congrArg BitVec.toNat e
      simp only [BitVec.toNat_ofNat] at this
      omega)
    show BitVec.ofBool (BitVec.ofNat 32 n.val == BitVec.ofNat 32 (first a)) = _
    rw [beq_eq_false_iff_ne.2 this]; rfl

theorem next_at {w : FVec Ideal S100x128 .f32} {l : Fin 128} {a : ℕ → EReal} (h : Holds w l a) : Holds (next w) l (step a) := by
  intro n
  unfold next
  pointwise [mask_at h]
  show _ = if n.val = first a then ⊥ else a n.val
  by_cases hn : n.val = first a
  · rw [if_pos hn, if_pos hn, ofBits_bot]; rfl
  · rw [if_neg hn, if_neg hn]; exact h n

theorem pick_at {w b : FVec Ideal S100x128 .f32} {l : Fin 128} {a : ℕ → EReal} (h : Holds w l a) :
    pick b w (ix2 0 l) = b (ix2 ⟨first a, first_lt a⟩ l) := by
  unfold pick
  pointwise [mask_at h]
  rw [Finset.sum_eq_single ⟨first a, first_lt a⟩]
  · rw [if_pos rfl]
    show b _ * ((((1#1 : BitVec 1).setWidth 32).toInt : ℝ) : EReal) = _
    rw [show ((1#1 : BitVec 1).setWidth 32).toInt = 1 by decide]
    simp
  · intro x _ hx
    rw [if_neg fun e => hx (Fin.ext e)]
    show b _ * ((((0#1 : BitVec 1).setWidth 32).toInt : ℝ) : EReal) = _
    rw [show ((0#1 : BitVec 1).setWidth 32).toInt = 0 by decide]
    simp
  · exact fun h => absurd (Finset.mem_univ _) h

end Cert.Proof.Block

end
-- ==== Proof.TcRamp.lean ====
/- The sum of ramps is the piecewise linear function. -/
module

public import proofs.«01_k».proof.Proof.TcRound

@[expose] public section

noncomputable section

namespace Cert.Proof.Block

open Idealize.ShloMosaic
open scoped BigOperators

/-- The ramps' slopes: the first increment, then what each adds to the one before it. -/
def slope (nw : ℕ → EReal) : ℕ → EReal
  | 0 => nw 0
  | s + 1 => nw (s + 1) - nw s

/-- The first `n` ramps after the first two, in real numbers. -/
def ramp (q : ℕ → ℝ) (n : ℕ) (y : ℝ) : ℝ :=
  q 0 * (y + 1) + (q 1 - q 0) * y + ∑ s ∈ Finset.range n, (q (s + 2) - q (s + 1)) * max (y - (s + 1 : ℕ)) 0

theorem ramp_low (q : ℕ → ℝ) (n : ℕ) {y : ℝ} (h : (n : ℝ) ≤ y) :
    ramp q n y = ∑ i ∈ Finset.range (n + 1), q i + (y - n) * q (n + 1) := by
  induction n with
  | zero => simp [ramp]; ring
  | succ n ih =>
    have hn : (n : ℝ) ≤ y := by push_cast at h; linarith
    have e := ih hn
    rw [ramp, Finset.sum_range_succ, ← add_assoc, ← ramp, e, max_eq_left (by linarith), Finset.sum_range_succ _ (n + 1)]
    push_cast
    ring

theorem ramp_high (q : ℕ → ℝ) (n j : ℕ) {y : ℝ} (h : y ≤ n + 1) : ramp q (n + j) y = ramp q n y := by
  induction j with
  | zero => rfl
  | succ j ih =>
    rw [← add_assoc, ramp, Finset.sum_range_succ, ← add_assoc, ← ramp, ih, max_eq_right, mul_zero, add_zero]
    push_cast
    have : (0 : ℝ) ≤ j := Nat.cast_nonneg j
    linarith

theorem bits_1 : Ideal.ofBits .f32 0x3F800000#32 = ((1 : ℝ) : EReal) := by
  simp [Ideal.ofBits, Ideal.ieee, EReal.coe_eq_coe_iff]; norm_cast; norm_num
theorem bits_2 : Ideal.ofBits .f32 0x40000000#32 = ((2 : ℝ) : EReal) := by
  simp [Ideal.ofBits, Ideal.ieee, EReal.coe_eq_coe_iff]; norm_cast; norm_num
theorem bits_3 : Ideal.ofBits .f32 0x40400000#32 = ((3 : ℝ) : EReal) := by
  simp [Ideal.ofBits, Ideal.ieee, EReal.coe_eq_coe_iff]; norm_cast; norm_num
theorem bits_4 : Ideal.ofBits .f32 0x40800000#32 = ((4 : ℝ) : EReal) := by
  simp [Ideal.ofBits, Ideal.ieee, EReal.coe_eq_coe_iff]; norm_cast; norm_num
theorem bits_5 : Ideal.ofBits .f32 0x40A00000#32 = ((5 : ℝ) : EReal) := by
  simp [Ideal.ofBits, Ideal.ieee, EReal.coe_eq_coe_iff]; norm_cast; norm_num
theorem bits_6 : Ideal.ofBits .f32 0x40C00000#32 = ((6 : ℝ) : EReal) := by
  simp [Ideal.ofBits, Ideal.ieee, EReal.coe_eq_coe_iff]; norm_cast; norm_num
theorem bits_7 : Ideal.ofBits .f32 0x40E00000#32 = ((7 : ℝ) : EReal) := by
  simp [Ideal.ofBits, Ideal.ieee, EReal.coe_eq_coe_iff]; norm_cast; norm_num
theorem bits_8 : Ideal.ofBits .f32 0x41000000#32 = ((8 : ℝ) : EReal) := by
  simp [Ideal.ofBits, Ideal.ieee, EReal.coe_eq_coe_iff]; norm_cast; norm_num
theorem bits_9 : Ideal.ofBits .f32 0x41100000#32 = ((9 : ℝ) : EReal) := by
  simp [Ideal.ofBits, Ideal.ieee, EReal.coe_eq_coe_iff]; norm_cast; norm_num
theorem bits_10 : Ideal.ofBits .f32 0x41200000#32 = ((10 : ℝ) : EReal) := by
  simp [Ideal.ofBits, Ideal.ieee, EReal.coe_eq_coe_iff]; norm_cast; norm_num
theorem bits_11 : Ideal.ofBits .f32 0x41300000#32 = ((11 : ℝ) : EReal) := by
  simp [Ideal.ofBits, Ideal.ieee, EReal.coe_eq_coe_iff]; norm_cast; norm_num
theorem bits_12 : Ideal.ofBits .f32 0x41400000#32 = ((12 : ℝ) : EReal) := by
  simp [Ideal.ofBits, Ideal.ieee, EReal.coe_eq_coe_iff]; norm_cast; norm_num
theorem bits_13 : Ideal.ofBits .f32 0x41500000#32 = ((13 : ℝ) : EReal) := by
  simp [Ideal.ofBits, Ideal.ieee, EReal.coe_eq_coe_iff]; norm_cast; norm_num
theorem bits_14 : Ideal.ofBits .f32 0x41600000#32 = ((14 : ℝ) : EReal) := by
  simp [Ideal.ofBits, Ideal.ieee, EReal.coe_eq_coe_iff]; norm_cast; norm_num
theorem bits_15 : Ideal.ofBits .f32 0x41700000#32 = ((15 : ℝ) : EReal) := by
  simp [Ideal.ofBits, Ideal.ieee, EReal.coe_eq_coe_iff]; norm_cast; norm_num
theorem bits_0 : Ideal.ofBits .f32 0x00000000#32 = ((0 : ℝ) : EReal) := ofBits_0.trans EReal.coe_zero.symm

theorem coe_max (x y : ℝ) : max (x : EReal) (y : EReal) = ((max x y : ℝ) : EReal) :=
  (EReal.coe_strictMono.monotone.map_max (a := x) (b := y)).symm

theorem ramps_real (q : ℕ → ℝ) (c : Fin 17 → EReal) (h0 : c 0 = q 0) (hc : ∀ s : Fin 16, c s.succ = ((q (s.val + 1) - q s.val : ℝ) : EReal)) (y : ℝ) :
    ramps (F := Ideal) c (y : EReal) = ((ramp q 15 y : ℝ) : EReal) := by
  have c1 : c 1 = ((q 1 - q 0 : ℝ) : EReal) := hc 0
  have c2 : c 2 = ((q 2 - q 1 : ℝ) : EReal) := hc 1
  have c3 : c 3 = ((q 3 - q 2 : ℝ) : EReal) := hc 2
  have c4 : c 4 = ((q 4 - q 3 : ℝ) : EReal) := hc 3
  have c5 : c 5 = ((q 5 - q 4 : ℝ) : EReal) := hc 4
  have c6 : c 6 = ((q 6 - q 5 : ℝ) : EReal) := hc 5
  have c7 : c 7 = ((q 7 - q 6 : ℝ) : EReal) := hc 6
  have c8 : c 8 = ((q 8 - q 7 : ℝ) : EReal) := hc 7
  have c9 : c 9 = ((q 9 - q 8 : ℝ) : EReal) := hc 8
  have c10 : c 10 = ((q 10 - q 9 : ℝ) : EReal) := hc 9
  have c11 : c 11 = ((q 11 - q 10 : ℝ) : EReal) := hc 10
  have c12 : c 12 = ((q 12 - q 11 : ℝ) : EReal) := hc 11
  have c13 : c 13 = ((q 13 - q 12 : ℝ) : EReal) := hc 12
  have c14 : c 14 = ((q 14 - q 13 : ℝ) : EReal) := hc 13
  have c15 : c 15 = ((q 15 - q 14 : ℝ) : EReal) := hc 14
  have c16 : c 16 = ((q 16 - q 15 : ℝ) : EReal) := hc 15
  show (c 0 * ((y : EReal) + Ideal.ofBits .f32 0x3F800000#32) + c 1 * (y : EReal) + c 2 * max ((y : EReal) - Ideal.ofBits .f32 0x3F800000#32) (Ideal.ofBits .f32 0x00000000#32) + c 3 * max ((y : EReal) - Ideal.ofBits .f32 0x40000000#32) (Ideal.ofBits .f32 0x00000000#32) + c 4 * max ((y : EReal) - Ideal.ofBits .f32 0x40400000#32) (Ideal.ofBits .f32 0x00000000#32) + c 5 * max ((y : EReal) - Ideal.ofBits .f32 0x40800000#32) (Ideal.ofBits .f32 0x00000000#32) + c 6 * max ((y : EReal) - Ideal.ofBits .f32 0x40A00000#32) (Ideal.ofBits .f32 0x00000000#32) + c 7 * max ((y : EReal) - Ideal.ofBits .f32 0x40C00000#32) (Ideal.ofBits .f32 0x00000000#32) + c 8 * max ((y : EReal) - Ideal.ofBits .f32 0x40E00000#32) (Ideal.ofBits .f32 0x00000000#32) + c 9 * max ((y : EReal) - Ideal.ofBits .f32 0x41000000#32) (Ideal.ofBits .f32 0x00000000#32) + c 10 * max ((y : EReal) - Ideal.ofBits .f32 0x41100000#32) (Ideal.ofBits .f32 0x00000000#32) + c 11 * max ((y : EReal) - Ideal.ofBits .f32 0x41200000#32) (Ideal.ofBits .f32 0x00000000#32) + c 12 * max ((y : EReal) - Ideal.ofBits .f32 0x41300000#32) (Ideal.ofBits .f32 0x00000000#32) + c 13 * max ((y : EReal) - Ideal.ofBits .f32 0x41400000#32) (Ideal.ofBits .f32 0x00000000#32) + c 14 * max ((y : EReal) - Ideal.ofBits .f32 0x41500000#32) (Ideal.ofBits .f32 0x00000000#32) + c 15 * max ((y : EReal) - Ideal.ofBits .f32 0x41600000#32) (Ideal.ofBits .f32 0x00000000#32) + c 16 * max ((y : EReal) - Ideal.ofBits .f32 0x41700000#32) (Ideal.ofBits .f32 0x00000000#32) : EReal) = _
  rw [h0, c1, c2, c3, c4, c5, c6, c7, c8, c9, c10, c11, c12, c13, c14, c15, c16, bits_0, bits_1, bits_2, bits_3, bits_4, bits_5, bits_6, bits_7, bits_8, bits_9, bits_10, bits_11, bits_12, bits_13, bits_14, bits_15]
  simp only [← EReal.coe_add, ← EReal.coe_sub, ← EReal.coe_mul, coe_max]
  congr 1
  simp only [ramp, Finset.sum_range_succ, Finset.sum_range_zero]
  push_cast
  ring_nf

/-- The sum of ramps at a number between zero and one, sixteen times. -/
theorem ramps_eq {cs nw : ℕ → EReal} (h : Table cs nw) (c : Fin 17 → EReal) (hc : ∀ s, c s = slope nw s.val) {x : EReal} (hx : Unit01 x) :
    ramps (F := Ideal) c (x * 16) = pl cs nw x := by
  obtain ⟨q, hq, hs, hn, hcs⟩ := h.real
  have hle := seg_le hx
  obtain ⟨r, rfl, h0, h1⟩ := hx
  have h16 : (r : EReal) * 16 = ((r * 16 : ℝ) : EReal) := by rw [EReal.coe_mul]; rfl
  have hk0 : (seg (r : EReal) : ℝ) ≤ r * 16 := by
    rw [seg, EReal.toReal_coe]; exact Nat.floor_le (by linarith)
  have hk1 : r * 16 < seg (r : EReal) + 1 := by
    rw [seg, EReal.toReal_coe]; exact Nat.lt_floor_add_one _
  rw [h16, ramps_real q c ((hc 0).trans (hn 0)) fun s => by
    rw [hc]; show nw (s.val + 1) - nw s.val = _
    rw [hn, hn, EReal.coe_sub]]
  unfold pl
  rw [h16, hn, hcs, ← EReal.coe_sub, ← EReal.coe_mul, ← EReal.coe_add]
  congr 1
  generalize seg (r : EReal) = k at *
  rcases Nat.lt_or_ge k 16 with hk | hk
  · have e1 : min k 16 = k := by omega
    have e2 : min (k + 1) 16 = k + 1 := by omega
    obtain ⟨j, hj⟩ := Nat.exists_eq_add_of_le (show k ≤ 15 by omega)
    have e3 : ramp q 15 (r * 16) = ramp q k (r * 16) := (congrArg (fun n => ramp q n (r * 16)) hj).trans (ramp_high q k j hk1.le)
    rw [e1, e2, e3, ramp_low q k hk0]
  · obtain rfl : k = 16 := by omega
    have hy : r * 16 = 16 := by push_cast at *; linarith
    rw [hy, ramp_low q 15 (by norm_num), show min 16 16 + 1 = 15 + 1 + 1 from rfl, show min (16 + 1) 16 = 16 from rfl, Finset.sum_range_succ _ (15 + 1)]
    push_cast
    ring

end Cert.Proof.Block

end
-- ==== Proof.TcAt.lean ====
/- The block kernel's value, entry by entry: each column's histogram. -/
module

public import proofs.«01_k».proof.Proof.TcRamp

@[expose] public section

noncomputable section

namespace Cert.Proof.Block

open Cert.KernelIdeal Cert.KernelIdeal.Gen
open Idealize.ShloMosaic Idealize.ShloMosaic.TcCoe
open scoped BigOperators

/-- The one number of the last argument, as the body loads it. -/
def at1 {F : FTy → Type} [FloatOps F] (arg4 : Memref sig .tc .smem S1x1 .f32) (f3 : BufTy.Contents (Elt F) arg4.view.ty) : F .f32 :=
  View.readAt (Elt F) arg4.view (Rect.unit (s := S1x1) ![0, 0] S1x1.size inb_S1x1_S1x1_0_0).toLoadRect f3 (Shape.Idx.first (numel1_S1x1.symm ▸ Nat.one_pos))

/-! ### The vectors between the rounds and the sums -/

section
variable {F : FTy → Type} [FloatOps F]
variable (arg1 : Memref sig .tc .vmem S100x128 .f32) (arg2 : Memref sig .tc .vmem S4x100x128 .f32) (arg3 : Memref sig .tc .smem S8x17 .f32)
  (arg4 : Memref sig .tc .smem S1x1 .f32) (f0 : BufTy.Contents (Elt F) arg1.view.ty) (f1 : BufTy.Contents (Elt F) arg2.view.ty)
  (f2 : BufTy.Contents (Elt F) arg3.view.ty) (f3 : BufTy.Contents (Elt F) arg4.view.ty)

theorem v341_eq : bodyRun.sl.v341 arg1 f0 = concatenate S10x128 0 [⟨S1x128, (bodyRun.sl.v4 arg1 f0)⟩, ⟨S1x128, (bodyRun.sl.v38 arg1 f0)⟩, ⟨S1x128, (bodyRun.sl.v72 arg1 f0)⟩, ⟨S1x128, (bodyRun.sl.v106 arg1 f0)⟩, ⟨S1x128, (bodyRun.sl.v140 arg1 f0)⟩, ⟨S1x128, (bodyRun.sl.v174 arg1 f0)⟩, ⟨S1x128, (bodyRun.sl.v208 arg1 f0)⟩, ⟨S1x128, (bodyRun.sl.v242 arg1 f0)⟩, ⟨S1x128, (bodyRun.sl.v276 arg1 f0)⟩, ⟨S1x128, (bodyRun.sl.v310 arg1 f0)⟩] concatenates_S1x128_S1x128_S1x128_S1x128_S1x128_S1x128_S1x128_S1x128_S1x128_S1x128_S10x128_d0 := rfl
theorem v342_eq : bodyRun.sl.v342 arg1 arg2 f0 f1 = concatenate S10x128 0 [⟨S1x128, (bodyRun.sl.v19 arg1 arg2 f0 f1)⟩, ⟨S1x128, (bodyRun.sl.v53 arg1 arg2 f0 f1)⟩, ⟨S1x128, (bodyRun.sl.v87 arg1 arg2 f0 f1)⟩, ⟨S1x128, (bodyRun.sl.v121 arg1 arg2 f0 f1)⟩, ⟨S1x128, (bodyRun.sl.v155 arg1 arg2 f0 f1)⟩, ⟨S1x128, (bodyRun.sl.v189 arg1 arg2 f0 f1)⟩, ⟨S1x128, (bodyRun.sl.v223 arg1 arg2 f0 f1)⟩, ⟨S1x128, (bodyRun.sl.v257 arg1 arg2 f0 f1)⟩, ⟨S1x128, (bodyRun.sl.v291 arg1 arg2 f0 f1)⟩, ⟨S1x128, (bodyRun.sl.v325 arg1 arg2 f0 f1)⟩] concatenates_S1x128_S1x128_S1x128_S1x128_S1x128_S1x128_S1x128_S1x128_S1x128_S1x128_S10x128_d0 := rfl
theorem v343_eq : bodyRun.sl.v343 arg1 arg2 f0 f1 = concatenate S10x128 0 [⟨S1x128, (bodyRun.sl.v24 arg1 arg2 f0 f1)⟩, ⟨S1x128, (bodyRun.sl.v58 arg1 arg2 f0 f1)⟩, ⟨S1x128, (bodyRun.sl.v92 arg1 arg2 f0 f1)⟩, ⟨S1x128, (bodyRun.sl.v126 arg1 arg2 f0 f1)⟩, ⟨S1x128, (bodyRun.sl.v160 arg1 arg2 f0 f1)⟩, ⟨S1x128, (bodyRun.sl.v194 arg1 arg2 f0 f1)⟩, ⟨S1x128, (bodyRun.sl.v228 arg1 arg2 f0 f1)⟩, ⟨S1x128, (bodyRun.sl.v262 arg1 arg2 f0 f1)⟩, ⟨S1x128, (bodyRun.sl.v296 arg1 arg2 f0 f1)⟩, ⟨S1x128, (bodyRun.sl.v330 arg1 arg2 f0 f1)⟩] concatenates_S1x128_S1x128_S1x128_S1x128_S1x128_S1x128_S1x128_S1x128_S1x128_S1x128_S10x128_d0 := rfl
theorem v344_eq : bodyRun.sl.v344 arg1 arg2 f0 f1 = concatenate S10x128 0 [⟨S1x128, (bodyRun.sl.v29 arg1 arg2 f0 f1)⟩, ⟨S1x128, (bodyRun.sl.v63 arg1 arg2 f0 f1)⟩, ⟨S1x128, (bodyRun.sl.v97 arg1 arg2 f0 f1)⟩, ⟨S1x128, (bodyRun.sl.v131 arg1 arg2 f0 f1)⟩, ⟨S1x128, (bodyRun.sl.v165 arg1 arg2 f0 f1)⟩, ⟨S1x128, (bodyRun.sl.v199 arg1 arg2 f0 f1)⟩, ⟨S1x128, (bodyRun.sl.v233 arg1 arg2 f0 f1)⟩, ⟨S1x128, (bodyRun.sl.v267 arg1 arg2 f0 f1)⟩, ⟨S1x128, (bodyRun.sl.v301 arg1 arg2 f0 f1)⟩, ⟨S1x128, (bodyRun.sl.v335 arg1 arg2 f0 f1)⟩] concatenates_S1x128_S1x128_S1x128_S1x128_S1x128_S1x128_S1x128_S1x128_S1x128_S1x128_S10x128_d0 := rfl
theorem v345_eq : bodyRun.sl.v345 arg1 arg2 f0 f1 = concatenate S10x128 0 [⟨S1x128, (bodyRun.sl.v34 arg1 arg2 f0 f1)⟩, ⟨S1x128, (bodyRun.sl.v68 arg1 arg2 f0 f1)⟩, ⟨S1x128, (bodyRun.sl.v102 arg1 arg2 f0 f1)⟩, ⟨S1x128, (bodyRun.sl.v136 arg1 arg2 f0 f1)⟩, ⟨S1x128, (bodyRun.sl.v170 arg1 arg2 f0 f1)⟩, ⟨S1x128, (bodyRun.sl.v204 arg1 arg2 f0 f1)⟩, ⟨S1x128, (bodyRun.sl.v238 arg1 arg2 f0 f1)⟩, ⟨S1x128, (bodyRun.sl.v272 arg1 arg2 f0 f1)⟩, ⟨S1x128, (bodyRun.sl.v306 arg1 arg2 f0 f1)⟩, ⟨S1x128, (bodyRun.sl.v340 arg1 arg2 f0 f1)⟩] concatenates_S1x128_S1x128_S1x128_S1x128_S1x128_S1x128_S1x128_S1x128_S1x128_S1x128_S10x128_d0 := rfl
theorem v359_eq : bodyRun.sl.v359 arg1 f0 = select (cmpf .oge (bodyRun.sl.v341 arg1 f0) (broadcast S10x128 (Scalar.ofBits .f32 0x00000000#32))) (divf (broadcast S10x128 (Scalar.ofBits .f32 0x3F800000#32)) (addf (broadcast S10x128 (Scalar.ofBits .f32 0x3F800000#32)) (exp (subf (broadcast S10x128 (Scalar.ofBits .f32 0x00000000#32)) (absf (bodyRun.sl.v341 arg1 f0)))))) (divf (exp (subf (broadcast S10x128 (Scalar.ofBits .f32 0x00000000#32)) (absf (bodyRun.sl.v341 arg1 f0)))) (addf (broadcast S10x128 (Scalar.ofBits .f32 0x3F800000#32)) (exp (subf (broadcast S10x128 (Scalar.ofBits .f32 0x00000000#32)) (absf (bodyRun.sl.v341 arg1 f0)))))) := rfl
theorem v371_eq : bodyRun.sl.v371 arg1 arg2 f0 f1 = mulf (maximumf (subf (bodyRun.sl.v344 arg1 arg2 f0 f1) (bodyRun.sl.v342 arg1 arg2 f0 f1)) (broadcast S10x128 (Scalar.ofBits .f32 0x00000000#32))) (maximumf (subf (bodyRun.sl.v345 arg1 arg2 f0 f1) (bodyRun.sl.v343 arg1 arg2 f0 f1)) (broadcast S10x128 (Scalar.ofBits .f32 0x00000000#32))) := rfl
theorem v398_eq : bodyRun.sl.v398 arg1 arg2 f0 f1 = mulf (maximumf (subf (minimumf (broadcastTo S10x10x128 (shapeCast S10x1x128 (bodyRun.sl.v344 arg1 arg2 f0 f1) shapeCasts_S10x128_S10x1x128) broadcasts_S10x1x128_S10x10x128) (broadcastTo S10x10x128 (shapeCast S1x10x128 (bodyRun.sl.v344 arg1 arg2 f0 f1) shapeCasts_S10x128_S1x10x128) broadcasts_S1x10x128_S10x10x128)) (maximumf (broadcastTo S10x10x128 (shapeCast S10x1x128 (bodyRun.sl.v342 arg1 arg2 f0 f1) shapeCasts_S10x128_S10x1x128) broadcasts_S10x1x128_S10x10x128) (broadcastTo S10x10x128 (shapeCast S1x10x128 (bodyRun.sl.v342 arg1 arg2 f0 f1) shapeCasts_S10x128_S1x10x128) broadcasts_S1x10x128_S10x10x128))) (broadcast S10x10x128 (Scalar.ofBits .f32 0x00000000#32))) (maximumf (subf (minimumf (broadcastTo S10x10x128 (shapeCast S10x1x128 (bodyRun.sl.v345 arg1 arg2 f0 f1) shapeCasts_S10x128_S10x1x128) broadcasts_S10x1x128_S10x10x128) (broadcastTo S10x10x128 (shapeCast S1x10x128 (bodyRun.sl.v345 arg1 arg2 f0 f1) shapeCasts_S10x128_S1x10x128) broadcasts_S1x10x128_S10x10x128)) (maximumf (broadcastTo S10x10x128 (shapeCast S10x1x128 (bodyRun.sl.v343 arg1 arg2 f0 f1) shapeCasts_S10x128_S10x1x128) broadcasts_S10x1x128_S10x10x128) (broadcastTo S10x10x128 (shapeCast S1x10x128 (bodyRun.sl.v343 arg1 arg2 f0 f1) shapeCasts_S10x128_S1x10x128) broadcasts_S1x10x128_S10x10x128))) (broadcast S10x10x128 (Scalar.ofBits .f32 0x00000000#32))) := rfl
theorem v409_eq : bodyRun.sl.v409 arg1 arg2 f0 f1 = subf (broadcast S10x10x128 (Scalar.ofBits .f32 0x3F800000#32)) (divf (bodyRun.sl.v398 arg1 arg2 f0 f1) (addf (subf (addf (broadcastTo S10x10x128 (shapeCast S10x1x128 (bodyRun.sl.v371 arg1 arg2 f0 f1) shapeCasts_S10x128_S10x1x128) broadcasts_S10x1x128_S10x10x128) (broadcastTo S10x10x128 (shapeCast S1x10x128 (bodyRun.sl.v371 arg1 arg2 f0 f1) shapeCasts_S10x128_S1x10x128) broadcasts_S1x10x128_S10x10x128)) (bodyRun.sl.v398 arg1 arg2 f0 f1)) (broadcast S10x10x128 (Scalar.ofBits .f32 0x2B8CBCCC#32)))) := rfl
theorem v411_eq : bodyRun.sl.v411 arg1 f0 = mulf (mulf (broadcastTo S10x10x128 (shapeCast S10x1x128 (bodyRun.sl.v359 arg1 f0) shapeCasts_S10x128_S10x1x128) broadcasts_S10x1x128_S10x10x128) (broadcastTo S10x10x128 (shapeCast S1x10x128 (bodyRun.sl.v359 arg1 f0) shapeCasts_S10x128_S1x10x128) broadcasts_S1x10x128_S10x10x128)) (broadcast S10x10x128 (Scalar.ofBits .f32 0x41800000#32)) := rfl
theorem v542_eq : bodyRun.sl.v542 arg1 arg2 f0 f1 = mulf (bodyRun.sl.v409 arg1 arg2 f0 f1) (broadcast S10x10x128 (Scalar.ofBits .f32 0x41800000#32)) := rfl
theorem v748_eq : bodyRun.sl.v748 arg1 f0 = mulf (subf (broadcast S10x10x128 (Scalar.ofBits .f32 0x3F800000#32)) (absf (subf (broadcastTo S10x10x128 (shapeCast S10x1x128 (bodyRun.sl.v359 arg1 f0) shapeCasts_S10x128_S10x1x128) broadcasts_S10x1x128_S10x10x128) (broadcastTo S10x10x128 (shapeCast S1x10x128 (bodyRun.sl.v359 arg1 f0) shapeCasts_S10x128_S1x10x128) broadcasts_S1x10x128_S10x10x128)))) (broadcast S10x10x128 (Scalar.ofBits .f32 0x41800000#32)) := rfl
theorem v882_eq : bodyRun.sl.v882 arg1 arg3 arg4 f0 f2 f3 = mulf (broadcast S10x128 (at1 arg4 f3)) (multiReduction .add [1] S10x128 (bodyRun.sl.v877 arg1 arg3 f0 f2) 0x00000000#32 reduces_S10x10x128_S10x128 (.inl rfl) rfl) := rfl
theorem v888_eq : bodyRun.sl.v888 arg1 arg2 arg3 arg4 f0 f1 f2 f3 = divf (mulf (bodyRun.sl.v540 arg1 arg3 f0 f2) (bodyRun.sl.v736 arg1 arg2 arg3 f0 f1 f2)) (mulf (broadcastTo S10x10x128 (shapeCast S10x1x128 (bodyRun.sl.v882 arg1 arg3 arg4 f0 f2 f3) shapeCasts_S10x128_S10x1x128) broadcasts_S10x1x128_S10x10x128) (broadcastTo S10x10x128 (shapeCast S1x10x128 (bodyRun.sl.v882 arg1 arg3 arg4 f0 f2 f3) shapeCasts_S10x128_S1x10x128) broadcasts_S1x10x128_S10x10x128)) := rfl
theorem v891_eq : bodyRun.sl.v891 arg1 f0 = mulf (mulf (bodyRun.sl.v359 arg1 f0) (bodyRun.sl.v359 arg1 f0)) (broadcast S10x128 (Scalar.ofBits .f32 0x41800000#32)) := rfl
theorem v1021_eq : bodyRun.sl.v1021 arg1 arg3 arg4 f0 f2 f3 = divf (bodyRun.sl.v1020 arg1 arg3 f0 f2) (bodyRun.sl.v882 arg1 arg3 arg4 f0 f2 f3) := rfl
theorem v1034_eq : bodyRun.sl.v1034 arg1 arg2 arg3 arg4 f0 f1 f2 f3 = minimumf (broadcast S1x128 (Scalar.ofBits .f32 0x41200000#32)) (maximumf (broadcast S1x128 (Scalar.ofBits .f32 0x00000000#32)) (sqrt (addf (addf (shapeCast S1x128 (multiReduction .add [0] S128 (multiReduction .add [1] S10x128 (bodyRun.sl.v888 arg1 arg2 arg3 arg4 f0 f1 f2 f3) 0x00000000#32 reduces_S10x10x128_S10x128 (.inl rfl) rfl) 0x00000000#32 reduces_S10x128_S128 (.inl rfl) rfl) shapeCasts_S128_S1x128) (shapeCast S1x128 (multiReduction .add [0] S128 (bodyRun.sl.v1021 arg1 arg3 arg4 f0 f2 f3) 0x00000000#32 reduces_S10x128_S128 (.inl rfl) rfl) shapeCasts_S128_S1x128)) (broadcast S1x128 (Scalar.ofBits .f32 0x1E3CE508#32))))) := rfl
theorem v1061_eq : bodyRun.sl.v1061 arg1 arg2 arg3 arg4 f0 f1 f2 f3 = addf (mulf (broadcastTo S11x128 (subf (broadcast S1x128 (Scalar.ofBits .f32 0x3F800000#32)) (subf (bodyRun.sl.v1034 arg1 arg2 arg3 arg4 f0 f1 f2 f3) (select (cmpf .olt (bodyRun.sl.v1034 arg1 arg2 arg3 arg4 f0 f1 f2 f3) (broadcast S1x128 (Scalar.ofBits .f32 0x00000000#32))) (ceil (bodyRun.sl.v1034 arg1 arg2 arg3 arg4 f0 f1 f2 f3)) (floor (bodyRun.sl.v1034 arg1 arg2 arg3 arg4 f0 f1 f2 f3))))) broadcasts_S1x128_S11x128) (sitofp .f32 (extui 32 (cmpi .eq (iota .tc S11x128 32 [0] iota_S11x128_d0_w32) (broadcastTo S11x128 (fptosi 32 (bodyRun.sl.v1034 arg1 arg2 arg3 arg4 f0 f1 f2 f3)) broadcasts_S1x128_S11x128)) natLt_1_32))) (mulf (broadcastTo S11x128 (subf (bodyRun.sl.v1034 arg1 arg2 arg3 arg4 f0 f1 f2 f3) (select (cmpf .olt (bodyRun.sl.v1034 arg1 arg2 arg3 arg4 f0 f1 f2 f3) (broadcast S1x128 (Scalar.ofBits .f32 0x00000000#32))) (ceil (bodyRun.sl.v1034 arg1 arg2 arg3 arg4 f0 f1 f2 f3)) (floor (bodyRun.sl.v1034 arg1 arg2 arg3 arg4 f0 f1 f2 f3)))) broadcasts_S1x128_S11x128) (sitofp .f32 (extui 32 (cmpi .eq (iota .tc S11x128 32 [0] iota_S11x128_d0_w32) (broadcastTo S11x128 (minsi (addi (fptosi 32 (bodyRun.sl.v1034 arg1 arg2 arg3 arg4 f0 f1 f2 f3)) (broadcast S1x128 (1#32))) (broadcast S1x128 (10#32))) broadcasts_S1x128_S11x128)) natLt_1_32))) := rfl
theorem v1063_eq : bodyRun.sl.v1063 arg1 f0 = mulf (bodyRun.sl.v359 arg1 f0) (broadcast S10x128 (Scalar.ofBits .f32 0x41800000#32)) := rfl
theorem v1212_eq : bodyRun.sl.v1212 arg1 arg2 arg3 f0 f1 f2 = mulf (addf (divf (shapeCast S1x128 (multiReduction .add [0] S128 (absf (subf (bodyRun.sl.v1192 arg1 arg3 f0 f2) (broadcast S10x128 (Scalar.ofBits .f32 0x3F000000#32)))) 0x00000000#32 reduces_S10x128_S128 (.inl rfl) rfl) shapeCasts_S128_S1x128) (broadcast S1x128 (Scalar.ofBits .f32 0x41200000#32))) (divf (shapeCast S1x128 (multiReduction .add [0] S128 (divf (multiReduction .add [1] S10x128 (absf (subf (bodyRun.sl.v740 arg1 arg2 arg3 f0 f1 f2) (broadcast S10x10x128 (Scalar.ofBits .f32 0x3F000000#32)))) 0x00000000#32 reduces_S10x10x128_S10x128 (.inl rfl) rfl) (broadcast S10x128 (Scalar.ofBits .f32 0x41200000#32))) 0x00000000#32 reduces_S10x128_S128 (.inl rfl) rfl) shapeCasts_S128_S1x128) (broadcast S1x128 (Scalar.ofBits .f32 0x41200000#32)))) (broadcast S1x128 (Scalar.ofBits .f32 0x41800000#32)) := rfl
theorem v1343_eq : bodyRun.sl.v1343 arg1 arg2 arg3 arg4 f0 f1 f2 f3 = mulf (broadcastTo S11x128 (bodyRun.sl.v1341 arg1 arg2 arg3 f0 f1 f2) broadcasts_S1x128_S11x128) (bodyRun.sl.v1061 arg1 arg2 arg3 arg4 f0 f1 f2 f3) := rfl

end

/-! ### Ten rows put together -/

theorem cat_at (x0 x1 x2 x3 x4 x5 x6 x7 x8 x9 : FVec Ideal S1x128 .f32) (k : Fin 10) (l : Fin 128) :
    concatenate S10x128 0 [⟨S1x128, x0⟩, ⟨S1x128, x1⟩, ⟨S1x128, x2⟩, ⟨S1x128, x3⟩, ⟨S1x128, x4⟩, ⟨S1x128, x5⟩, ⟨S1x128, x6⟩, ⟨S1x128, x7⟩, ⟨S1x128, x8⟩, ⟨S1x128, x9⟩]
      concatenates_S1x128_S1x128_S1x128_S1x128_S1x128_S1x128_S1x128_S1x128_S1x128_S1x128_S10x128_d0 (ix2 k l)
    = (![x0, x1, x2, x3, x4, x5, x6, x7, x8, x9] k) (ix2 0 l) := by
  fin_cases k <;> pointwise <;> rfl

theorem cat_val (x0 x1 x2 x3 x4 x5 x6 x7 x8 x9 : FVec Ideal S1x128 .f32) (g : ℕ → EReal) (l : Fin 128) (h0 : x0 (ix2 0 l) = g 0) (h1 : x1 (ix2 0 l) = g 1) (h2 : x2 (ix2 0 l) = g 2) (h3 : x3 (ix2 0 l) = g 3) (h4 : x4 (ix2 0 l) = g 4) (h5 : x5 (ix2 0 l) = g 5) (h6 : x6 (ix2 0 l) = g 6) (h7 : x7 (ix2 0 l) = g 7) (h8 : x8 (ix2 0 l) = g 8) (h9 : x9 (ix2 0 l) = g 9) (k : Fin 10) :
    concatenate S10x128 0 [⟨S1x128, x0⟩, ⟨S1x128, x1⟩, ⟨S1x128, x2⟩, ⟨S1x128, x3⟩, ⟨S1x128, x4⟩, ⟨S1x128, x5⟩, ⟨S1x128, x6⟩, ⟨S1x128, x7⟩, ⟨S1x128, x8⟩, ⟨S1x128, x9⟩]
      concatenates_S1x128_S1x128_S1x128_S1x128_S1x128_S1x128_S1x128_S1x128_S1x128_S1x128_S10x128_d0 (ix2 k l) = g k.val := by
  rw [cat_at]
  fin_cases k
  · exact h0
  · exact h1
  · exact h2
  · exact h3
  · exact h4
  · exact h5
  · exact h6
  · exact h7
  · exact h8
  · exact h9

variable (arg1 : Memref sig .tc .vmem S100x128 .f32) (arg2 : Memref sig .tc .vmem S4x100x128 .f32) (arg3 : Memref sig .tc .smem S8x17 .f32)
  (arg4 : Memref sig .tc .smem S1x1 .f32) (f0 : BufTy.Contents (Elt Ideal) arg1.view.ty) (f1 : BufTy.Contents (Elt Ideal) arg2.view.ty)
  (f2 : BufTy.Contents (Elt Ideal) arg3.view.ty) (f3 : BufTy.Contents (Elt Ideal) arg4.view.ty)
  (l : Fin 128) (a : ℕ → EReal) (b : Fin 4 → ℕ → EReal) (d : In)

/-! ### The ten greatest entries and their boxes -/

section
variable (h0 : Holds (bodyRun.sl.v1 arg1 f0) l a)
include h0

theorem w1 : Holds (bodyRun.sl.v36 arg1 f0) l (step^[1] a) := v36_eq arg1 f0 ▸ next_at h0
theorem w2 : Holds (bodyRun.sl.v70 arg1 f0) l (step^[2] a) := v70_eq arg1 f0 ▸ next_at (w1 _ _ _ _ h0)
theorem w3 : Holds (bodyRun.sl.v104 arg1 f0) l (step^[3] a) := v104_eq arg1 f0 ▸ next_at (w2 _ _ _ _ h0)
theorem w4 : Holds (bodyRun.sl.v138 arg1 f0) l (step^[4] a) := v138_eq arg1 f0 ▸ next_at (w3 _ _ _ _ h0)
theorem w5 : Holds (bodyRun.sl.v172 arg1 f0) l (step^[5] a) := v172_eq arg1 f0 ▸ next_at (w4 _ _ _ _ h0)
theorem w6 : Holds (bodyRun.sl.v206 arg1 f0) l (step^[6] a) := v206_eq arg1 f0 ▸ next_at (w5 _ _ _ _ h0)
theorem w7 : Holds (bodyRun.sl.v240 arg1 f0) l (step^[7] a) := v240_eq arg1 f0 ▸ next_at (w6 _ _ _ _ h0)
theorem w8 : Holds (bodyRun.sl.v274 arg1 f0) l (step^[8] a) := v274_eq arg1 f0 ▸ next_at (w7 _ _ _ _ h0)
theorem w9 : Holds (bodyRun.sl.v308 arg1 f0) l (step^[9] a) := v308_eq arg1 f0 ▸ next_at (w8 _ _ _ _ h0)

omit h0 in
theorem topv_def (k : ℕ) : topv a k = best (step^[k] a) := rfl
theorem m0 : bodyRun.sl.v4 arg1 f0 (ix2 0 l) = topv a 0 := by
  rw [v4_eq, mx_at h0, topv_def]; rfl
theorem m1 : bodyRun.sl.v38 arg1 f0 (ix2 0 l) = topv a 1 := by
  rw [v38_eq, mx_at (w1 _ _ _ _ h0), topv_def]
theorem m2 : bodyRun.sl.v72 arg1 f0 (ix2 0 l) = topv a 2 := by
  rw [v72_eq, mx_at (w2 _ _ _ _ h0), topv_def]
theorem m3 : bodyRun.sl.v106 arg1 f0 (ix2 0 l) = topv a 3 := by
  rw [v106_eq, mx_at (w3 _ _ _ _ h0), topv_def]
theorem m4 : bodyRun.sl.v140 arg1 f0 (ix2 0 l) = topv a 4 := by
  rw [v140_eq, mx_at (w4 _ _ _ _ h0), topv_def]
theorem m5 : bodyRun.sl.v174 arg1 f0 (ix2 0 l) = topv a 5 := by
  rw [v174_eq, mx_at (w5 _ _ _ _ h0), topv_def]
theorem m6 : bodyRun.sl.v208 arg1 f0 (ix2 0 l) = topv a 6 := by
  rw [v208_eq, mx_at (w6 _ _ _ _ h0), topv_def]
theorem m7 : bodyRun.sl.v242 arg1 f0 (ix2 0 l) = topv a 7 := by
  rw [v242_eq, mx_at (w7 _ _ _ _ h0), topv_def]
theorem m8 : bodyRun.sl.v276 arg1 f0 (ix2 0 l) = topv a 8 := by
  rw [v276_eq, mx_at (w8 _ _ _ _ h0), topv_def]
theorem m9 : bodyRun.sl.v310 arg1 f0 (ix2 0 l) = topv a 9 := by
  rw [v310_eq, mx_at (w9 _ _ _ _ h0), topv_def]

theorem tops (k : Fin 10) : bodyRun.sl.v341 arg1 f0 (ix2 k l) = topv a k.val := by
  rw [v341_eq]
  exact cat_val _ _ _ _ _ _ _ _ _ _ (topv a) l (m0 _ _ _ _ h0) (m1 _ _ _ _ h0) (m2 _ _ _ _ h0) (m3 _ _ _ _ h0) (m4 _ _ _ _ h0) (m5 _ _ _ _ h0) (m6 _ _ _ _ h0) (m7 _ _ _ _ h0) (m8 _ _ _ _ h0) (m9 _ _ _ _ h0) k

theorem corner0 (hb : Holds (bodyRun.sl.v16 arg2 f1) l (b 0)) (k : Fin 10) : bodyRun.sl.v342 arg1 arg2 f0 f1 (ix2 k l) = b 0 (pos a k.val) := by
  rw [v342_eq, cat_at]
  fin_cases k
  · exact (congrFun (v19_eq arg1 arg2 f0 f1) _).trans ((pick_at h0).trans (hb _))
  · exact (congrFun (v53_eq arg1 arg2 f0 f1) _).trans ((pick_at (w1 _ _ _ _ h0)).trans (hb _))
  · exact (congrFun (v87_eq arg1 arg2 f0 f1) _).trans ((pick_at (w2 _ _ _ _ h0)).trans (hb _))
  · exact (congrFun (v121_eq arg1 arg2 f0 f1) _).trans ((pick_at (w3 _ _ _ _ h0)).trans (hb _))
  · exact (congrFun (v155_eq arg1 arg2 f0 f1) _).trans ((pick_at (w4 _ _ _ _ h0)).trans (hb _))
  · exact (congrFun (v189_eq arg1 arg2 f0 f1) _).trans ((pick_at (w5 _ _ _ _ h0)).trans (hb _))
  · exact (congrFun (v223_eq arg1 arg2 f0 f1) _).trans ((pick_at (w6 _ _ _ _ h0)).trans (hb _))
  · exact (congrFun (v257_eq arg1 arg2 f0 f1) _).trans ((pick_at (w7 _ _ _ _ h0)).trans (hb _))
  · exact (congrFun (v291_eq arg1 arg2 f0 f1) _).trans ((pick_at (w8 _ _ _ _ h0)).trans (hb _))
  · exact (congrFun (v325_eq arg1 arg2 f0 f1) _).trans ((pick_at (w9 _ _ _ _ h0)).trans (hb _))

theorem corner1 (hb : Holds (bodyRun.sl.v21 arg2 f1) l (b 1)) (k : Fin 10) : bodyRun.sl.v343 arg1 arg2 f0 f1 (ix2 k l) = b 1 (pos a k.val) := by
  rw [v343_eq, cat_at]
  fin_cases k
  · exact (congrFun (v24_eq arg1 arg2 f0 f1) _).trans ((pick_at h0).trans (hb _))
  · exact (congrFun (v58_eq arg1 arg2 f0 f1) _).trans ((pick_at (w1 _ _ _ _ h0)).trans (hb _))
  · exact (congrFun (v92_eq arg1 arg2 f0 f1) _).trans ((pick_at (w2 _ _ _ _ h0)).trans (hb _))
  · exact (congrFun (v126_eq arg1 arg2 f0 f1) _).trans ((pick_at (w3 _ _ _ _ h0)).trans (hb _))
  · exact (congrFun (v160_eq arg1 arg2 f0 f1) _).trans ((pick_at (w4 _ _ _ _ h0)).trans (hb _))
  · exact (congrFun (v194_eq arg1 arg2 f0 f1) _).trans ((pick_at (w5 _ _ _ _ h0)).trans (hb _))
  · exact (congrFun (v228_eq arg1 arg2 f0 f1) _).trans ((pick_at (w6 _ _ _ _ h0)).trans (hb _))
  · exact (congrFun (v262_eq arg1 arg2 f0 f1) _).trans ((pick_at (w7 _ _ _ _ h0)).trans (hb _))
  · exact (congrFun (v296_eq arg1 arg2 f0 f1) _).trans ((pick_at (w8 _ _ _ _ h0)).trans (hb _))
  · exact (congrFun (v330_eq arg1 arg2 f0 f1) _).trans ((pick_at (w9 _ _ _ _ h0)).trans (hb _))

theorem corner2 (hb : Holds (bodyRun.sl.v26 arg2 f1) l (b 2)) (k : Fin 10) : bodyRun.sl.v344 arg1 arg2 f0 f1 (ix2 k l) = b 2 (pos a k.val) := by
  rw [v344_eq, cat_at]
  fin_cases k
  · exact (congrFun (v29_eq arg1 arg2 f0 f1) _).trans ((pick_at h0).trans (hb _))
  · exact (congrFun (v63_eq arg1 arg2 f0 f1) _).trans ((pick_at (w1 _ _ _ _ h0)).trans (hb _))
  · exact (congrFun (v97_eq arg1 arg2 f0 f1) _).trans ((pick_at (w2 _ _ _ _ h0)).trans (hb _))
  · exact (congrFun (v131_eq arg1 arg2 f0 f1) _).trans ((pick_at (w3 _ _ _ _ h0)).trans (hb _))
  · exact (congrFun (v165_eq arg1 arg2 f0 f1) _).trans ((pick_at (w4 _ _ _ _ h0)).trans (hb _))
  · exact (congrFun (v199_eq arg1 arg2 f0 f1) _).trans ((pick_at (w5 _ _ _ _ h0)).trans (hb _))
  · exact (congrFun (v233_eq arg1 arg2 f0 f1) _).trans ((pick_at (w6 _ _ _ _ h0)).trans (hb _))
  · exact (congrFun (v267_eq arg1 arg2 f0 f1) _).trans ((pick_at (w7 _ _ _ _ h0)).trans (hb _))
  · exact (congrFun (v301_eq arg1 arg2 f0 f1) _).trans ((pick_at (w8 _ _ _ _ h0)).trans (hb _))
  · exact (congrFun (v335_eq arg1 arg2 f0 f1) _).trans ((pick_at (w9 _ _ _ _ h0)).trans (hb _))

theorem corner3 (hb : Holds (bodyRun.sl.v31 arg2 f1) l (b 3)) (k : Fin 10) : bodyRun.sl.v345 arg1 arg2 f0 f1 (ix2 k l) = b 3 (pos a k.val) := by
  rw [v345_eq, cat_at]
  fin_cases k
  · exact (congrFun (v34_eq arg1 arg2 f0 f1) _).trans ((pick_at h0).trans (hb _))
  · exact (congrFun (v68_eq arg1 arg2 f0 f1) _).trans ((pick_at (w1 _ _ _ _ h0)).trans (hb _))
  · exact (congrFun (v102_eq arg1 arg2 f0 f1) _).trans ((pick_at (w2 _ _ _ _ h0)).trans (hb _))
  · exact (congrFun (v136_eq arg1 arg2 f0 f1) _).trans ((pick_at (w3 _ _ _ _ h0)).trans (hb _))
  · exact (congrFun (v170_eq arg1 arg2 f0 f1) _).trans ((pick_at (w4 _ _ _ _ h0)).trans (hb _))
  · exact (congrFun (v204_eq arg1 arg2 f0 f1) _).trans ((pick_at (w5 _ _ _ _ h0)).trans (hb _))
  · exact (congrFun (v238_eq arg1 arg2 f0 f1) _).trans ((pick_at (w6 _ _ _ _ h0)).trans (hb _))
  · exact (congrFun (v272_eq arg1 arg2 f0 f1) _).trans ((pick_at (w7 _ _ _ _ h0)).trans (hb _))
  · exact (congrFun (v306_eq arg1 arg2 f0 f1) _).trans ((pick_at (w8 _ _ _ _ h0)).trans (hb _))
  · exact (congrFun (v340_eq arg1 arg2 f0 f1) _).trans ((pick_at (w9 _ _ _ _ h0)).trans (hb _))

end

/-! ### The numbers of a column -/

/-- Whether two small words are equal, as a number. -/
theorem one_word (n : ℕ) (hn : n < 1000) (k : ℕ) (hk : k < 1000) :
    (FloatOps.sitofp (F := Ideal) .f32 (BitVec.setWidth 32 (IntOp.cmpi CmpIPredicate.eq (BitVec.ofNat 32 n) (BitVec.ofNat 32 k))) : EReal) = if n = k then 1 else 0 := by
  by_cases h : n = k
  · rw [if_pos h, h, show IntOp.cmpi CmpIPredicate.eq (BitVec.ofNat 32 k) (BitVec.ofNat 32 k) = 1#1 by simp [IntOp.cmpi]]
    show ((((1#1 : BitVec 1).setWidth 32).toInt : ℝ) : EReal) = 1
    rw [show ((1#1 : BitVec 1).setWidth 32).toInt = 1 by decide]
    simp
  · have hne : BitVec.ofNat 32 n ≠ BitVec.ofNat 32 k := fun e => h (by
      have := congrArg BitVec.toNat e
      simp only [BitVec.toNat_ofNat] at this
      omega)
    have hc : IntOp.cmpi CmpIPredicate.eq (BitVec.ofNat 32 n) (BitVec.ofNat 32 k) = 0#1 := by
      show BitVec.ofBool (BitVec.ofNat 32 n == BitVec.ofNat 32 k) = _
      rw [beq_eq_false_iff_ne.2 hne]; rfl
    rw [if_neg h, hc]
    show ((((0#1 : BitVec 1).setWidth 32).toInt : ℝ) : EReal) = 0
    rw [show ((0#1 : BitVec 1).setWidth 32).toInt = 0 by decide]
    simp

/-- The next word, at most ten. -/
theorem next_word (n : ℕ) (hn : n ≤ 10) : IntOp.minsi (IntOp.addi (BitVec.ofNat 32 n) 1#32) 10#32 = BitVec.ofNat 32 (min (n + 1) 10) := by
  interval_cases n <;> decide

/-- The sigmoid, the exponential of minus the magnitude divided by one more than itself for negative numbers. -/
theorem sigmoid_div (r : ℝ) :
    (if 0 ≤ (r : EReal) then Ideal.div 1 (1 + Ideal.exp (0 - mag (r : EReal)))
      else Ideal.div (Ideal.exp (0 - mag (r : EReal))) (1 + Ideal.exp (0 - mag (r : EReal)))) = Ideal.logistic (r : EReal) := by
  rw [← sigmoid_eq]
  split
  · rfl
  · have h0 : (0 : EReal) - mag (r : EReal) = ((-|r| : ℝ) : EReal) := by
      rw [mag_coe, ← EReal.coe_zero, ← EReal.coe_sub, zero_sub]
    have hp : (0 : ℝ) < Real.exp (-|r|) := Real.exp_pos _
    have hs : (1 : EReal) + ((Real.exp (-|r|) : ℝ) : EReal) ≠ 0 := by
      rw [← EReal.coe_one, ← EReal.coe_add]
      exact_mod_cast (show (1 + Real.exp (-|r|) : ℝ) ≠ 0 by positivity)
    rw [h0, Ideal.exp_coe]
    exact (Ideal.mul_one_div hs).symm

/-- What the block holds of the column. -/
structure Column : Prop where
  h0 : Holds (bodyRun.sl.v1 arg1 f0) l a
  b0 : Holds (bodyRun.sl.v16 arg2 f1) l (b 0)
  b1 : Holds (bodyRun.sl.v21 arg2 f1) l (b 1)
  b2 : Holds (bodyRun.sl.v26 arg2 f1) l (b 2)
  b3 : Holds (bodyRun.sl.v31 arg2 f1) l (b 3)
  co : ∀ r s, co arg3 f2 r s = slope (inc (d.W r)) s.val
  one : at1 arg4 f3 = (1 : EReal)
  top : ∀ k, d.top k = topv a k.val
  bx : ∀ k q, d.bx k q = b q (pos a k.val)
  ok : d.Ok

variable {arg1 arg2 arg3 arg4 f0 f1 f2 f3 l a b d}
variable (h : Column arg1 arg2 arg3 arg4 f0 f1 f2 f3 l a b d)
include h

theorem top_at (k : Fin 10) : bodyRun.sl.v341 arg1 f0 (ix2 k l) = d.top k := (tops _ _ _ _ h.h0 k).trans (h.top k).symm
theorem y0_at (k : Fin 10) : bodyRun.sl.v342 arg1 arg2 f0 f1 (ix2 k l) = d.bx k 0 := (corner0 _ _ _ _ _ _ _ h.h0 h.b0 k).trans (h.bx k 0).symm
theorem x0_at (k : Fin 10) : bodyRun.sl.v343 arg1 arg2 f0 f1 (ix2 k l) = d.bx k 1 := (corner1 _ _ _ _ _ _ _ h.h0 h.b1 k).trans (h.bx k 1).symm
theorem y1_at (k : Fin 10) : bodyRun.sl.v344 arg1 arg2 f0 f1 (ix2 k l) = d.bx k 2 := (corner2 _ _ _ _ _ _ _ h.h0 h.b2 k).trans (h.bx k 2).symm
theorem x1_at (k : Fin 10) : bodyRun.sl.v345 arg1 arg2 f0 f1 (ix2 k l) = d.bx k 3 := (corner3 _ _ _ _ _ _ _ h.h0 h.b3 k).trans (h.bx k 3).symm

theorem P_at (w : Fin 8) {x : EReal} (hx : Unit01 x) : ramps (F := Ideal) (Cert.Proof.Block.co arg3 f2 w) (x * 16) = d.P w x :=
  ramps_eq (h.ok.tab w) _ (h.co w) hx

theorem v359_at (k : Fin 10) : bodyRun.sl.v359 arg1 f0 (ix2 k l) = d.att k := by
  rw [v359_eq]
  pointwise [top_at h]
  obtain ⟨y, hy⟩ := h.ok.top k
  rw [In.att, hy]
  exact sigmoid_div y

theorem v371_at (k : Fin 10) : bodyRun.sl.v371 arg1 arg2 f0 f1 (ix2 k l) = area (d.bx k) := by
  rw [v371_eq]
  pointwise [y0_at h, x0_at h, y1_at h, x1_at h]
  rfl

theorem v398_at (i j : Fin 10) : bodyRun.sl.v398 arg1 arg2 f0 f1 (ix3 i j l) = inter (d.bx i) (d.bx j) := by
  rw [v398_eq]
  pointwise [y0_at h, x0_at h, y1_at h, x1_at h]
  rfl

theorem v409_at (i j : Fin 10) : bodyRun.sl.v409 arg1 arg2 f0 f1 (ix3 i j l) = d.gap i j := by
  rw [v409_eq]
  pointwise [v371_at h, v398_at h]
  rfl

theorem v411_at (i j : Fin 10) : bodyRun.sl.v411 arg1 f0 (ix3 i j l) = d.att i * d.att j * 16 := by
  rw [v411_eq]
  pointwise [v359_at h]
  rw [ofBits_16]

theorem v542_at (i j : Fin 10) : bodyRun.sl.v542 arg1 arg2 f0 f1 (ix3 i j l) = d.gap i j * 16 := by
  rw [v542_eq]
  pointwise [v409_at h]
  rw [ofBits_16]

theorem v748_at (i j : Fin 10) : bodyRun.sl.v748 arg1 f0 (ix3 i j l) = (1 - mag (d.att i - d.att j)) * 16 := by
  rw [v748_eq]
  pointwise [v359_at h]
  rw [ofBits_16]
  rfl

theorem v891_val (i : Fin 10) : bodyRun.sl.v891 arg1 f0 (ix2 i l) = d.att i * d.att i * 16 := by
  rw [v891_eq]
  pointwise [v359_at h]
  rw [ofBits_16]

theorem v1063_val (i : Fin 10) : bodyRun.sl.v1063 arg1 f0 (ix2 i l) = d.att i * 16 := by
  rw [v1063_eq]
  pointwise [v359_at h]
  rw [ofBits_16]

theorem v540_val (i j : Fin 10) : bodyRun.sl.v540 arg1 arg3 f0 f2 (ix3 i j l) = d.P 0 (d.att i * d.att j) := by
  rw [v540_at, v411_at h, P_at h 0 ((h.ok.att_unit i).mul (h.ok.att_unit j))]
theorem v736_val (i j : Fin 10) : bodyRun.sl.v736 arg1 arg2 arg3 f0 f1 f2 (ix3 i j l) = d.P 1 (d.gap i j) := by
  rw [v736_at, v542_at h, P_at h 1 (In.gap_unit i j)]
theorem v740_val (i j : Fin 10) : bodyRun.sl.v740 arg1 arg2 arg3 f0 f1 f2 (ix3 i j l) = d.P 6 (d.gap i j) := by
  rw [v740_at, v542_at h, P_at h 6 (In.gap_unit i j)]
theorem v877_val (i j : Fin 10) : bodyRun.sl.v877 arg1 arg3 f0 f2 (ix3 i j l) = d.near i j := by
  rw [v877_at, v748_at h, P_at h 2 ((h.ok.att_unit i).gap (h.ok.att_unit j))]; rfl
theorem v1020_val (i : Fin 10) : bodyRun.sl.v1020 arg1 arg3 f0 f2 (ix2 i l) = d.fix i := by
  rw [v1020_at, v891_val h, P_at h 0 ((h.ok.att_unit i).mul (h.ok.att_unit i))]; rfl
theorem v1192_val (i : Fin 10) : bodyRun.sl.v1192 arg1 arg3 f0 f2 (ix2 i l) = d.P 5 (d.att i) := by
  rw [v1192_at, v1063_val h, P_at h 5 (h.ok.att_unit i)]

theorem v882_val (i : Fin 10) : bodyRun.sl.v882 arg1 arg3 arg4 f0 f2 f3 (ix2 i l) = d.s i := by
  rw [v882_eq]
  pointwise [v877_val h, h.one]
  rfl

theorem v888_val (i j : Fin 10) : bodyRun.sl.v888 arg1 arg2 arg3 arg4 f0 f1 f2 f3 (ix3 i j l) = Ideal.div (d.score i j) (d.s i * d.s j) := by
  rw [v888_eq]
  pointwise [v540_val h, v736_val h, v882_val h]
  rfl

theorem v1021_val (i : Fin 10) : bodyRun.sl.v1021 arg1 arg3 arg4 f0 f2 f3 (ix2 i l) = Ideal.div (d.fix i) (d.s i) := by
  rw [v1021_eq]
  pointwise [v1020_val h, v882_val h]

theorem v1034_val : bodyRun.sl.v1034 arg1 arg2 arg3 arg4 f0 f1 f2 f3 (ix2 0 l) = d.count := by
  rw [v1034_eq]
  pointwise [v888_val h, v1021_val h]
  rw [ofBits_10]
  rfl

theorem v1212_val : bodyRun.sl.v1212 arg1 arg2 arg3 f0 f1 f2 (ix2 0 l) = d.sure * 16 := by
  rw [v1212_eq]
  pointwise [v1192_val h, v740_val h]
  rw [ofBits_16, ofBits_10, ofBits_half]
  rfl

theorem v1341_val : bodyRun.sl.v1341 arg1 arg2 arg3 f0 f1 f2 (ix2 0 l) = d.P 7 d.sure := by
  rw [v1341_at, v1212_val h, P_at h 7 h.ok.sure_unit]

theorem v1061_val (t : Fin 11) : bodyRun.sl.v1061 arg1 arg2 arg3 arg4 f0 f1 f2 f3 (ix2 t l)
    = (1 - d.frac) * (if t.val = min d.whole 10 then 1 else 0) + d.frac * (if t.val = min (d.whole + 1) 10 then 1 else 0) := by
  rw [v1061_eq]
  pointwise [v1034_val h]
  obtain ⟨y, hy, y0, y1⟩ := h.ok.count_real
  have hf : d.count - (if d.count < 0 then Ideal.liftRound Int.ceil d.count else Ideal.liftRound Int.floor d.count) = d.frac := by
    rw [In.frac, In.whole, hy, if_neg (not_lt.2 (by exact_mod_cast y0)), EReal.toReal_coe]
    show (y : EReal) - (((⌊y⌋ : ℤ) : ℝ) : EReal) = _
    rw [← Int.natCast_floor_eq_floor y0, Int.cast_natCast]
  have hw : FloatOps.fptosi (F := Ideal) (φ := .f32) 32 d.count = BitVec.ofNat 32 d.whole := h.ok.count_word
  have hle := h.ok.whole_le
  have ht := t.isLt
  rw [hf, hw]
  rw [one_word t.val (by omega) d.whole (by omega), next_word d.whole hle, one_word t.val (by omega) (min (d.whole + 1) 10) (by omega), min_eq_left hle]

/-- The value written at a column is that column's histogram. -/
theorem value (t : Fin 11) : bodyRun.sl.v1343 arg1 arg2 arg3 arg4 f0 f1 f2 f3 (ix2 t l) = d.out t.val := by
  rw [v1343_eq]
  pointwise [v1341_val h, v1061_val h]
  rfl

end Cert.Proof.Block

end
-- ==== Proof.TcCol.lean ====
/- The block kernel's blocks: what one run of the body makes of one block of each array, column by column. -/
module

public import proofs.«01_k».proof.Proof.TcAt

@[expose] public section

noncomputable section

namespace Cert.Proof.Block

open Cert.KernelIdeal Cert.KernelIdeal.Gen
open Idealize.ShloMosaic Idealize.ShloMosaic.TcCoe Idealize.ShloMosaic.Tactic

/-! ### What the body loads, read off the arrays -/

section
variable {F : FTy → Type} [FloatOps F]
variable (arg1 : Memref sig .tc .vmem S100x128 .f32) (arg2 : Memref sig .tc .vmem S4x100x128 .f32) (arg3 : Memref sig .tc .smem S8x17 .f32)
  (arg4 : Memref sig .tc .smem S1x1 .f32) (f0 : BufTy.Contents (Elt F) arg1.view.ty) (f1 : BufTy.Contents (Elt F) arg2.view.ty)
  (f2 : BufTy.Contents (Elt F) arg3.view.ty) (f3 : BufTy.Contents (Elt F) arg4.view.ty)

theorem v1_read (n : Fin 100) (l : Fin 128) : bodyRun.sl.v1 arg1 f0 (ix2 n l) = arg1.view.read (Elt F) f0 (ix2 n l) := by
  unfold bodyRun.sl.v1
  pointwise
  show arg1.view.read (Elt F) f0 _ = _
  congr 1; funext a; apply Fin.ext
  fin_cases a <;> simp

theorem v16_read (n : Fin 100) (l : Fin 128) : bodyRun.sl.v16 arg2 f1 (ix2 n l) = arg2.view.read (Elt F) f1 (ix3 0 n l) := by
  unfold bodyRun.sl.v16
  pointwise
  show arg2.view.read (Elt F) f1 _ = _
  congr 1; funext a; apply Fin.ext
  fin_cases a <;> simp

theorem v21_read (n : Fin 100) (l : Fin 128) : bodyRun.sl.v21 arg2 f1 (ix2 n l) = arg2.view.read (Elt F) f1 (ix3 1 n l) := by
  unfold bodyRun.sl.v21
  pointwise
  show arg2.view.read (Elt F) f1 _ = _
  congr 1; funext a; apply Fin.ext
  fin_cases a <;> simp

theorem v26_read (n : Fin 100) (l : Fin 128) : bodyRun.sl.v26 arg2 f1 (ix2 n l) = arg2.view.read (Elt F) f1 (ix3 2 n l) := by
  unfold bodyRun.sl.v26
  pointwise
  show arg2.view.read (Elt F) f1 _ = _
  congr 1; funext a; apply Fin.ext
  fin_cases a <;> simp

theorem v31_read (n : Fin 100) (l : Fin 128) : bodyRun.sl.v31 arg2 f1 (ix2 n l) = arg2.view.read (Elt F) f1 (ix3 3 n l) := by
  unfold bodyRun.sl.v31
  pointwise
  show arg2.view.read (Elt F) f1 _ = _
  congr 1; funext a; apply Fin.ext
  fin_cases a <;> simp

theorem co_read (r : Fin 8) (s : Fin 17) : co arg3 f2 r s = arg3.view.read (Elt F) f2 (ix2 r s) := by
  show arg3.view.read (Elt F) f2 _ = _
  congr 1; funext a; apply Fin.ext
  fin_cases a <;> simp <;> rfl

theorem at1_read : at1 arg4 f3 = arg4.view.read (Elt F) f3 (ix2 0 0) := by
  show arg4.view.read (Elt F) f3 _ = _
  congr 1; funext a; apply Fin.ext
  fin_cases a <;> rfl

end

/-- What the arrays hold of one column: the scores `a`, the corners `b`, the slopes and the factor, for the inputs `d` of one
    histogram. -/
structure Feeds {n : ℕ} (X0 : FVec Ideal ⟨2, ![100, n]⟩ .f32) (X1 : FVec Ideal ⟨3, ![4, 100, n]⟩ .f32) (X2 : FVec Ideal S8x17 .f32) (X3 : FVec Ideal S1x1 .f32)
    (j : Fin n) (a : ℕ → EReal) (b : Fin 4 → ℕ → EReal) (d : In) : Prop where
  sc : ∀ k : Fin 100, X0 (ix2 k j) = a k.val
  bo : ∀ (q : Fin 4) (k : Fin 100), X1 (ix3 q k j) = b q k.val
  co : ∀ (r : Fin 8) (s : Fin 17), X2 (ix2 r s) = slope (inc (d.W r)) s.val
  one : X3 (ix2 0 0) = (1 : EReal)
  top : ∀ k, d.top k = topv a k.val
  bx : ∀ k q, d.bx k q = b q (pos a k.val)
  ok : d.Ok

theorem value_read {arg1 : Memref sig .tc .vmem S100x128 .f32} {arg2 : Memref sig .tc .vmem S4x100x128 .f32} {arg3 : Memref sig .tc .smem S8x17 .f32}
    {arg4 : Memref sig .tc .smem S1x1 .f32} {f0 : BufTy.Contents (Elt Ideal) arg1.view.ty} {f1 : BufTy.Contents (Elt Ideal) arg2.view.ty}
    {f2 : BufTy.Contents (Elt Ideal) arg3.view.ty} {f3 : BufTy.Contents (Elt Ideal) arg4.view.ty} {l : Fin 128} {a : ℕ → EReal} {b : Fin 4 → ℕ → EReal} {d : In}
    (h : Feeds (arg1.view.read (Elt Ideal) f0) (arg2.view.read (Elt Ideal) f1) (arg3.view.read (Elt Ideal) f2) (arg4.view.read (Elt Ideal) f3) l a b d) (t : Fin 11) :
    bodyRun.sl.v1343 arg1 arg2 arg3 arg4 f0 f1 f2 f3 (ix2 t l) = d.out t.val :=
  value (a := a) (b := b) (d := d)
    { h0 := fun n => (v1_read _ _ _ _).trans (h.sc n)
      b0 := fun n => (v16_read _ _ _ _).trans (h.bo 0 n)
      b1 := fun n => (v21_read _ _ _ _).trans (h.bo 1 n)
      b2 := fun n => (v26_read _ _ _ _).trans (h.bo 2 n)
      b3 := fun n => (v31_read _ _ _ _).trans (h.bo 3 n)
      co := fun r s => (co_read _ _ _ _).trans (h.co r s)
      one := (at1_read _ _).trans h.one
      top := h.top
      bx := h.bx
      ok := h.ok } t

end Cert.Proof.Block

end
-- ==== Proof.TcRegion.lean ====
/- The block kernel's call: block after block of the four arrays it reads, to an array of the results. -/
module

public import proofs.«01_k».proof.Proof.TcCol
public import Idealize.ShloMosaic.Lib.Pipeline.FrameBody
public import Idealize.ShloMosaic.Lib.Pipeline.Value
public import Idealize.ShloMosaic.Lib.Pipeline.ValueKit
public import Idealize.ShloMosaic.Lib.SparseCore.Quiescent

@[expose] public section

noncomputable section

namespace Cert.Proof.Block

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig (HIx 1) (Elt Ideal) ℕ UU ℕ

variable (V : (c : Dev nD) → (b : Ref sig .tc) → Buf (Elt Ideal) ((c : Thread nD τ).loc b)) (ins : Dev nD → ℕ → In)
  (B : Dev nD → Set (SemLoc sig × HIx 1))

/-- An input's block at a point. -/
abbrev blk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The results' block at a point. -/
def outBlk (c : Dev nD) (t : Fin cfg1.N) : FVec Ideal S11x128 .f32 := fun y => (ins c (t.val * 128 + (y 1).val)).out (y 0).val
/-- The results. -/
def outs (c : Dev nD) : FVec Ideal S11x2560 .f32 := fun y => (ins c (y 1).val).out (y 0).val

/-- What the call's windows hold around the body at each point. -/
def dat (c : Dev nD) : Dat τ (Elt Ideal) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => outBlk ins c t
  Φ _ := iprop(emp)
  q _ := fullShare
  owed _ := 0
  recorded _ := B c

theorem A_eq (c : Dev nD) (w : Fin cfg1.W) : (dat V ins B c).A w = V c (Pipeline.arrRef spec1 w) := by dsimp only [dat]
theorem after0 (c : Dev nD) (t : Fin cfg1.N) : (dat V ins B c).after 0 t = blk V c 0 t := by dsimp only [dat]
theorem after1 (c : Dev nD) (t : Fin cfg1.N) : (dat V ins B c).after 1 t = blk V c 1 t := by dsimp only [dat]
theorem after2 (c : Dev nD) (t : Fin cfg1.N) : (dat V ins B c).after 2 t = blk V c 2 t := by dsimp only [dat]
theorem after3 (c : Dev nD) (t : Fin cfg1.N) : (dat V ins B c).after 3 t = blk V c 3 t := by dsimp only [dat]
theorem after4 (c : Dev nD) (t : Fin cfg1.N) : (dat V ins B c).after 4 t = outBlk ins c t := by dsimp only [dat]

theorem before0 (c : Dev nD) (t : Fin cfg1.N) (d) : (dat V ins B c).before 0 t d = blk V c 0 t :=
  (dat V ins B c).before_in_eq_fetched 0 rfl (fun _ => rfl) (fun _ _ _ => rfl) (fun t => by rw [after0]; rfl) t d
theorem before1 (c : Dev nD) (t : Fin cfg1.N) (d) : (dat V ins B c).before 1 t d = blk V c 1 t :=
  (dat V ins B c).before_in_eq_fetched 1 rfl (fun _ => rfl) (fun _ _ _ => rfl) (fun t => by rw [after1]; rfl) t d
theorem before2 (c : Dev nD) (t : Fin cfg1.N) (d) : (dat V ins B c).before 2 t d = blk V c 2 t :=
  (dat V ins B c).before_in_eq_fetched 2 rfl (fun _ => rfl) (fun _ _ _ => rfl) (fun t => by rw [after2]; rfl) t d
theorem before3 (c : Dev nD) (t : Fin cfg1.N) (d) : (dat V ins B c).before 3 t d = blk V c 3 t :=
  (dat V ins B c).before_in_eq_fetched 3 rfl (fun _ => rfl) (fun _ _ _ => rfl) (fun t => by rw [after3]; rfl) t d

/-! ### The blocks of the whole arrays -/

theorem idx0 : ∀ t : Fin cfg1.N, win1_0.index t = ![0, t.val] := (by decide +kernel : ∀ t : Fin grid1.N, win1_0.index t = ![0, t.val])
theorem idx1 : ∀ t : Fin cfg1.N, win1_1.index t = ![0, 0, t.val] := (by decide +kernel : ∀ t : Fin grid1.N, win1_1.index t = ![0, 0, t.val])
theorem idx2 : ∀ t : Fin cfg1.N, win1_2.index t = ![0, 0] := (by decide +kernel : ∀ t : Fin grid1.N, win1_2.index t = ![0, 0])
theorem idx3 : ∀ t : Fin cfg1.N, win1_3.index t = ![0, 0] := (by decide +kernel : ∀ t : Fin grid1.N, win1_3.index t = ![0, 0])
theorem idx4 : ∀ t : Fin cfg1.N, win1_4.index t = ![0, t.val] := (by decide +kernel : ∀ t : Fin grid1.N, win1_4.index t = ![0, t.val])

theorem col_lt (t : Fin cfg1.N) (l : Fin 128) : t.val * 128 + l.val < 2560 := by
  have h : t.val < 20 := t.isLt
  omega

theorem blk0 (c : Dev nD) (t : Fin cfg1.N) (k : Fin 100) (l : Fin 128) :
    (blk V c 0 t : FVec Ideal S100x128 .f32) (ix2 k l) = (V c main_v21 : FVec Ideal S100x2560 .f32) (ix2 k ⟨t.val * 128 + l.val, col_lt t l⟩) := by
  show V c main_v21 ((win1_0.blk t).view.emb (ix2 k l)) = _
  congr 1; funext a; apply Fin.ext
  fin_cases a <;> blk_simp [idx0 t] <;> simp

theorem blk1 (c : Dev nD) (t : Fin cfg1.N) (q : Fin 4) (k : Fin 100) (l : Fin 128) :
    (blk V c 1 t : FVec Ideal S4x100x128 .f32) (ix3 q k l) = (V c main_v23 : FVec Ideal S4x100x2560 .f32) (ix3 q k ⟨t.val * 128 + l.val, col_lt t l⟩) := by
  show V c main_v23 ((win1_1.blk t).view.emb (ix3 q k l)) = _
  congr 1; funext a; apply Fin.ext
  fin_cases a <;> blk_simp [idx1 t] <;> simp

theorem blk2 (c : Dev nD) (t : Fin cfg1.N) (r : Fin 8) (s : Fin 17) :
    (blk V c 2 t : FVec Ideal S8x17 .f32) (ix2 r s) = (V c main_v28 : FVec Ideal S8x17 .f32) (ix2 r s) := by
  show V c main_v28 ((win1_2.blk t).view.emb (ix2 r s)) = _
  congr 1; funext a; apply Fin.ext
  fin_cases a <;> blk_simp [idx2 t] <;> simp

theorem blk3 (c : Dev nD) (t : Fin cfg1.N) :
    (blk V c 3 t : FVec Ideal S1x1 .f32) (ix2 0 0) = (V c main_v29 : FVec Ideal S1x1 .f32) (ix2 0 0) := by
  show V c main_v29 ((win1_3.blk t).view.emb (ix2 0 0)) = _
  congr 1; funext a; apply Fin.ext
  fin_cases a <;> blk_simp [idx3 t] <;> simp

variable {V ins}

/-- What the arrays hold when the call starts: each column's numbers. -/
def Fed (V : (c : Dev nD) → (b : Ref sig .tc) → Buf (Elt Ideal) ((c : Thread nD τ).loc b)) (ins : Dev nD → ℕ → In) : Prop :=
  ∀ c, ∀ j : Fin 2560, ∃ a b, Feeds (n := 2560) (V c main_v21) (V c main_v23) (V c main_v28) (V c main_v29) j a b (ins c j.val)

theorem feeds_blk (h : Fed V ins) (c : Dev nD) (t : Fin cfg1.N) (l : Fin 128) :
    ∃ a b, Feeds (n := 128) (blk V c 0 t) (blk V c 1 t) (blk V c 2 t) (blk V c 3 t) l a b (ins c (t.val * 128 + l.val)) := by
  obtain ⟨a, b, hf⟩ := h c ⟨t.val * 128 + l.val, col_lt t l⟩
  exact ⟨a, b, { sc := fun k => (blk0 V c t k l).trans (hf.sc k), bo := fun q k => (blk1 V c t q k l).trans (hf.bo q k)
                 co := fun r s => (blk2 V c t r s).trans (hf.co r s), one := (blk3 V c t).trans hf.one, top := hf.top, bx := hf.bx, ok := hf.ok }⟩

/-! ### The body at a point -/

theorem read_whole (arg5 : Memref sig .tc .vmem S11x128 .f32) (f4 : BufTy.Contents (Elt Ideal) arg5.view.ty) (x : FVec Ideal S11x128 .f32) :
    arg5.view.read (Elt Ideal) (arg5.view.writes (Elt Ideal) f4 [⟨Rect.unit (s := S11x128) ![0, 0] S11x128.size inb_S11x128_S11x128_0_0, x⟩]) = x := by
  funext y
  have he : (Rect.unit (s := S11x128) ![0, 0] S11x128.size inb_S11x128_S11x128_0_0).emb y = y := by
    funext a; apply Fin.ext
    show (![0, 0] : Fin 2 → ℕ) a + 1 * (y a).val = (y a).val
    fin_cases a <;> simp
  have hr := View.read_writes_cons_emb (Val := Elt Ideal) arg5.view f4 (Rect.unit (s := S11x128) ![0, 0] S11x128.size inb_S11x128_S11x128_0_0) x [] y
  rwa [he] at hr

theorem run_value (d : Dev nD) (i : grid1.Coords)
    (arg1 : Memref sig .tc .vmem S100x128 .f32) (harg1 : arg1.IsWhole) (arg2 : Memref sig .tc .vmem S4x100x128 .f32) (harg2 : arg2.IsWhole) (arg3 : Memref sig .tc .smem S8x17 .f32) (harg3 : arg3.IsWhole) (arg4 : Memref sig .tc .smem S1x1 .f32) (harg4 : arg4.IsWhole) (arg5 : Memref sig .tc .vmem S11x128 .f32) (harg5 : arg5.IsWhole)
    (f0 : BufTy.Contents (Elt Ideal) arg1.view.ty) (f1 : BufTy.Contents (Elt Ideal) arg2.view.ty) (f2 : BufTy.Contents (Elt Ideal) arg3.view.ty) (f3 : BufTy.Contents (Elt Ideal) arg4.view.ty) :
    (bodyRun d i arg1 harg1 arg2 harg2 arg3 harg3 arg4 harg4 arg5 harg5 f0 f1 f2 f3).1 = bodyRun.sl.v1343 arg1 arg2 arg3 arg4 f0 f1 f2 f3 := rfl

theorem sound (h : Fed V ins) (c : Dev nD) (t : Fin cfg1.N) (i : grid1.Coords)
    (arg1 : Memref sig .tc .vmem S100x128 .f32) (harg1 : arg1.IsWhole) (arg2 : Memref sig .tc .vmem S4x100x128 .f32) (harg2 : arg2.IsWhole) (arg3 : Memref sig .tc .smem S8x17 .f32) (harg3 : arg3.IsWhole) (arg4 : Memref sig .tc .smem S1x1 .f32) (harg4 : arg4.IsWhole) (arg5 : Memref sig .tc .vmem S11x128 .f32) (harg5 : arg5.IsWhole)
    (K : PUnit → sProp 𝕄) :
    iprop(owns (c : Thread nD τ) arg1 fullShare (blk V c 0 t) ∗ owns (c : Thread nD τ) arg2 fullShare (blk V c 1 t)
        ∗ owns (c : Thread nD τ) arg3 fullShare (blk V c 2 t) ∗ owns (c : Thread nD τ) arg4 fullShare (blk V c 3 t) ∗ (∃ d, owns (c : Thread nD τ) arg5 fullShare d)
        ∗ (iprop(owns (c : Thread nD τ) arg1 fullShare (blk V c 0 t) ∗ owns (c : Thread nD τ) arg2 fullShare (blk V c 1 t)
        ∗ owns (c : Thread nD τ) arg3 fullShare (blk V c 2 t) ∗ owns (c : Thread nD τ) arg4 fullShare (blk V c 3 t)
        ∗ owns (c : Thread nD τ) arg5 fullShare (outBlk ins c t)) -∗ K ⟨⟩))
      ⊢ wp frame (wpE (defs₀ (F := Ideal)) Variants.none c none) Set.univ (cc1__tc_block i arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%d4, %f4, -, H4⟩, Hk⟩
  have hx : (bodyRun c i arg1 harg1 arg2 harg2 arg3 harg3 arg4 harg4 arg5 harg5 f0 f1 f2 f3).1 = outBlk ins c t := by
    rw [run_value]
    funext y
    obtain ⟨a, b, hF⟩ := feeds_blk h c t (y 1)
    rw [← hf0, ← hf1, ← hf2, ← hf3] at hF
    have hy : y = ix2 (y 0) (y 1) := ValueIdx.eq_ix2 y
    exact (congrArg _ hy).trans (value_read hF (y 0))
  generalize bodyRun c i arg1 harg1 arg2 harg2 arg3 harg3 arg4 harg4 arg5 harg5 f0 f1 f2 f3 = R at hx
  obtain ⟨x, hR⟩ := R
  subst hx
  iapply (hR Variants.none Set.univ f4 K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  exact read_whole _ _ _

theorem defs₀_row (t : Fin cfg1.N) : defs₀ (F := Ideal) .tc cfg1.body (cfg1.bodyArgs t (cfg1.slots t)) = bodyAt1 t := rfl

abbrev ι₀ : HIx 1 := none

def bodyPre (V : (c : Dev nD) → (b : Ref sig .tc) → Buf (Elt Ideal) ((c : Thread nD τ).loc b)) (ins : Dev nD → ℕ → In) (c : Dev nD) (t : Fin cfg1.N) : sProp 𝕄 :=
  iprop((dat V ins B c).Φ t.castSucc ∗ (dat V ins B c).owesAt ι₀ t.castSucc
    ∗ (∃ d, owns (c : Thread nD τ) (st1_0 t) fullShare ((dat V ins B c).before 0 t d))
    ∗ (∃ d, owns (c : Thread nD τ) (st1_1 t) fullShare ((dat V ins B c).before 1 t d))
    ∗ (∃ d, owns (c : Thread nD τ) (st1_2 t) fullShare ((dat V ins B c).before 2 t d))
    ∗ (∃ d, owns (c : Thread nD τ) (st1_3 t) fullShare ((dat V ins B c).before 3 t d))
    ∗ (∃ d, owns (c : Thread nD τ) (st1_4 t) fullShare ((dat V ins B c).before 4 t d)))

def bodyPost (V : (c : Dev nD) → (b : Ref sig .tc) → Buf (Elt Ideal) ((c : Thread nD τ).loc b)) (ins : Dev nD → ℕ → In) (c : Dev nD) (t : Fin cfg1.N) : sProp 𝕄 :=
  iprop((dat V ins B c).Φ t.succ ∗ (dat V ins B c).owesAt ι₀ t.succ
    ∗ owns (c : Thread nD τ) (st1_0 t) fullShare ((dat V ins B c).after 0 t)
    ∗ owns (c : Thread nD τ) (st1_1 t) fullShare ((dat V ins B c).after 1 t)
    ∗ owns (c : Thread nD τ) (st1_2 t) fullShare ((dat V ins B c).after 2 t)
    ∗ owns (c : Thread nD τ) (st1_3 t) fullShare ((dat V ins B c).after 3 t)
    ∗ owns (c : Thread nD τ) (st1_4 t) fullShare ((dat V ins B c).after 4 t))

theorem sound_body (h : Fed V ins) (c : Dev nD) (t : Fin cfg1.N) :
    bodyPre B V ins c t ⊢ wp frame (wpE (defs₀ (F := Ideal)) Variants.none c none) Set.univ (bodyAt1 t) (fun _ => bodyPost B V ins c t) := by
  unfold bodyPre bodyPost bodyAt1
  simp only [before0, before1, before2, before3]
  rw [show (dat V ins B c).Φ t.succ = (dat V ins B c).Φ t.castSucc from rfl,
    show (dat V ins B c).owesAt ι₀ t.succ = (dat V ins B c).owesAt ι₀ t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound h c t _ _ _ _ _ _ _ _ _ _ _ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (h : Fed V ins) (c : Dev nD) : BodyObligation (dat V ins B c) (defs₀ (F := Ideal)) Variants.none ι₀ Set.univ := fun t => by
  rw [bigSep_W1, bigSep_W1, defs₀_row]
  exact triple_restated (sound_body B h c t) rfl .rfl fun _ => .rfl

/-! ### The results' array -/

theorem final (c : Dev nD) : (dat V ins B c).arrAt 4 cfg1.N = outs ins c := by
  refine (dat V ins B c).arrAt_eq_of_covers 4 _ (by decide +kernel) fun t hf y => ?_
  rw [after4]
  show (ins c (t.val * 128 + (y 1).val)).out (y 0).val = (ins c ((win1_4.blk t).view.emb y 1).val).out ((win1_4.blk t).view.emb y 0).val
  blk_simp [idx4 t]

end Cert.Proof.Block

end
-- ==== Proof.TcSeg.lean ====
/- The block kernel's call as a step of the host's program. -/
module

public import proofs.«01_k».proof.Proof.TcRegion
public import Idealize.ShloMosaic.Lib.Pipeline.RegionsLoop

@[expose] public section

noncomputable section

namespace Cert.Proof.Block

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig (HIx 1) (Elt Ideal) ℕ UU ℕ

/-- No call has a prefetched table. -/
def adm : (p : Fin 1) → (pcfgs (F := Ideal) p).Adm := fun p => ((cfgs p).toPCfg_adm)

variable (V : (c : Dev nD) → (b : Ref sig .tc) → Buf (Elt Ideal) ((c : Thread nD τ).loc b)) (ins : Dev nD → ℕ → In)
  (B : Dev nD → Set (SemLoc sig × HIx 1))

def pdats : (p : Fin 1) → (c : Dev nD) → Dat τ (Elt Ideal) (HIx 1) ℕ UU ℕ (Pipeline.pin (pcfgs (F := Ideal)) adm p) c
  | ⟨0, _⟩ => fun c => dat V ins B c

variable (L : GSem nD τ sig → Finset (HIx 1)) (lv : GSem nD τ sig → HIx 1 → ℕ)
variable (Vp : (c : Dev nD) → (b : Ref sig .tc) → Buf (Elt Ideal) ((c : Thread nD τ).loc b))

set_option backward.isDefEq.respectTransparency.types false in
/-- The call: from the host's arrays at `V` to the host's arrays at `Vp`, which differ by the results' array. -/
def reg (hF : Fed V ins) (hB : ∀ c, cfg1.waitPairs ι₀ ⊆ B c) (hVp_out : ∀ c, Vp c main_v30 = outs ins c)
    (hVp_ne : ∀ c (b : Ref sig .tc), b ≠ main_v30 → Vp c b = V c b) :
    Pipeline.RegionSeg (pcfgs (F := Ideal)) adm (pdats V ins B) ι₀ defs₀ Variants.none L lv 0 where
  win := launch1.win.to₀
  block_pos := launch1.block_pos
  stage_whole := launch1.stage_whole
  K := PEmpty
  osem k := k.elim
  ho := Pipeline.OwnSemFacts.none _
  hbody c := (body_obligation B hF c).loose
  hwaits := Pipeline.hwaits_of_owed_zero _ _ _ _ L lv 0 fun _ _ => rfl
  pre c := iprop(unscopedBufs c (V c) ∗ ∃ W : Waits sig (HIx 1), ⌜(↑W : Set (SemLoc sig × HIx 1)) ⊆ B c⌝ ∗ owes (c : Thread nD τ) (0 : CellTallies nD τ sig (HIx 1)) W)
  post c := iprop(unscopedBufs c (Vp c) ∗ ∃ W : Waits sig (HIx 1), ⌜(↑W : Set (SemLoc sig × HIx 1)) ⊆ B c⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := Ideal)) adm (pdats V ins B) launch1.win launch1.arr_whole c
      ((pdats V ins B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats V ins B 0 c).Φ 0 = iprop(emp) from rfl]
    iintro ⟨-, -, -⟩; iempintro
  hout c := by
    rw [Pipeline.ownSems0_none, show (pdats V ins B 0 c).Φ (Fin.last _) = iprop(emp) from rfl]
    iintro -
    isplitr; · iempintro
    isplitr; · iempintro
    iapply (Entails.of_eq (scopedRest1_eq (Ix := HIx 1) (Val := Elt Ideal) (Name := ℕ) (U := UU) (Lvl := ℕ) c).symm)
    iempintro
  hexit c := by
    have hjoin := Pipeline.unscopedBufs_of_arrays (p := 0) (pcfgs (F := Ideal)) adm (Ix := HIx 1) (Name := ℕ) (U := UU) (Lvl := ℕ) launch1.win launch1.arr_whole c
      (pdats V ins B) ((pdats V ins B 0 c).share_full fun _ => rfl) (V c) (Vp c) ((pdats V ins B 0 c).arrAt · cfg1.N)
      (fun w => by
        fin_cases w
        · exact ((pdats V ins B 0 c).arrAt_in 0 rfl _).trans (hVp_ne c main_v21 (by decide)).symm
        · exact ((pdats V ins B 0 c).arrAt_in 1 rfl _).trans (hVp_ne c main_v23 (by decide)).symm
        · exact ((pdats V ins B 0 c).arrAt_in 2 rfl _).trans (hVp_ne c main_v28 (by decide)).symm
        · exact ((pdats V ins B 0 c).arrAt_in 3 rfl _).trans (hVp_ne c main_v29 (by decide)).symm
        · exact (final B c).trans (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact fun p h => (hW h).elim id fun h' => hB c h'
    iexact HO

end Cert.Proof.Block

end
-- ==== Proof.TcCall.lean ====
/- The block kernel's call inside the whole program, whose calls also include the tiles'. -/
module

public import proofs.«01_k».proof.Proof.TcSeg

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

abbrev ΛP : Labels := Pipeline.Sig Λ₀ (Fin 1) fun p => (pcfgs (F := Ideal) p).Adm
abbrev K : SparseCore.Cfg τ sig ΛP 1 := sc (F := Ideal)
abbrev D : Defs nD τ sig (Elt Ideal) ΛP := Pipeline.defs pcfgs defs₀
abbrev 𝒱 : Variants := 𝒱₀.lift

/-- Where the block kernel's rounds live. -/
def EP : Emb UP (MT nD τ sig (HIx 1) (Elt Ideal) ℕ UU ℕ) :=
  ((Emb.inl : Emb UP (UP × Counters)).trans (Emb.inr : Emb (UP × Counters) UU)).trans
    (uEmb (nD := nD) (sig := sig) (Ix := HIx 1) (Val := Elt Ideal) (Name := ℕ) (U := UU) (Lvl := ℕ)).toEmb

instance : EP.LandsIn (upEmb : UEmb _ 𝕄) := by unfold EP; infer_instance

/-- The ghost state of the block kernel's call. -/
def G (d : Dev nD) : sProp 𝕄 :=
  iprop(Pipeline.cellsGhost (Pipeline.pin (pcfgs (F := Ideal)) Block.adm) EP 0 d ∗ Pipeline.toksInit (Pipeline.pin (pcfgs (F := Ideal)) Block.adm) EP 0 d)

theorem phinj : Function.Injective (Pipeline.cellOf (nD := nD) (τ := τ) (Pipeline.pin (pcfgs (F := Ideal)) Block.adm)) := cellOf_inj

/-- The waits allowed at the call. -/
def BW (c : Dev nD) : Set (SemLoc sig × HIx 1) := {p | K.lev (SparseCore.T c, p.1) p.2 ≤ 8 * 1}

theorem waits_low (c : Dev nD) : cfg1.waitPairs Block.ι₀ ⊆ BW c := by
  intro p hp
  have h : p.2 = none := by
    obtain ⟨_, _, rfl⟩ := hp
    rfl
  unfold BW
  rw [Set.mem_setOf_eq, h]
  exact (le_of_eq (K.lev_none (N := 1) _)).trans (Nat.zero_le _)

variable (V Vp : (c : Dev nD) → (b : Ref sig .tc) → Buf (Elt Ideal) ((c : Thread nD τ).loc b)) (ins : Dev nD → ℕ → In)

/-- The call, as its program. -/
def callP : Prog (TpuEff nD τ sig (Elt Ideal) ΛP .tc) PUnit := .op (.customCall (Pipeline.entry 0) ()) .ret

theorem lift_call : SparseCore.liftProg (Q := 1) callP
    = (Prog.lift (.customCall (SparseCore.inner (Pipeline.entry 0)) ()) : Prog (TpuEff nD τ sig (Elt Ideal) (SparseCore.Sig ΛP 1) .tc) PUnit) := rfl

/-- What the call is given and gives back: the host's arrays, and the waits it may have done. -/
def held2 (W : (c : Dev nD) → (b : Ref sig .tc) → Buf (Elt Ideal) ((c : Thread nD τ).loc b)) (c : Dev nD) : sProp 𝕄 :=
  iprop(unscopedBufs c (W c) ∗ ∃ X : Waits sig (HIx 1), ⌜(↑X : Set (SemLoc sig × HIx 1)) ⊆ BW c⌝ ∗ owes (c : Thread nD τ) (0 : CellTallies nD τ sig (HIx 1)) X)

theorem wp_callP (hF : Block.Fed V ins) (hVp_out : ∀ c, Vp c main_v30 = Block.outs ins c)
    (hVp_ne : ∀ c (b : Ref sig .tc), b ≠ main_v30 → Vp c b = V c b) (d : Dev nD) (Φ : PUnit → sProp 𝕄) :
    iprop((iprop(boundary (d.tc : Thread nD τ) ∗ held2 Vp d) -∗ Φ ⟨⟩) ∗ boundary (d.tc : Thread nD τ) ∗ held2 V d ∗ levAts K.L K.lev ∗ G d)
      ⊢ wp frame (wpE D 𝒱 (d.tc : Thread nD τ) none) Set.univ callP Φ := by
  have h := Pipeline.RegionSeg.wp (pcfgs (F := Ideal)) Block.adm _ Block.ι₀ phinj EP defs₀ Variants.none K.L K.lev
    (Block.reg V ins BW K.L K.lev Vp hF waits_low hVp_out hVp_ne) d none (fun _ h => nomatch h) .ret Φ
  have hpre : (Block.reg V ins BW K.L K.lev Vp hF waits_low hVp_out hVp_ne).pre d = held2 V d := rfl
  have hpost : (Block.reg V ins BW K.L K.lev Vp hF waits_low hVp_out hVp_ne).post d = held2 Vp d := rfl
  rw [hpre, hpost] at h
  refine BI.Entails.trans ?_ h
  change (_ : sProp 𝕄) ⊢ (_ : sProp 𝕄)
  unfold G
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

theorem wp_block (hF : Block.Fed V ins) (hVp_out : ∀ c, Vp c main_v30 = Block.outs ins c)
    (hVp_ne : ∀ c (b : Ref sig .tc), b ≠ main_v30 → Vp c b = V c b) (d : Dev nD) (Φ : PUnit → sProp 𝕄) :
    iprop((iprop(boundary (d.tc : Thread nD τ) ∗ held2 Vp d) -∗ Φ ⟨⟩) ∗ boundary (d.tc : Thread nD τ) ∗ held2 V d ∗ levAts K.L K.lev ∗ G d)
      ⊢ wp frame (wpE (K.defs D) 𝒱 (d.tc : Thread nD τ) none) Set.univ (Prog.lift (.customCall (SparseCore.inner (Pipeline.entry 0)) ())) Φ := by
  rw [← lift_call]
  exact BI.Entails.trans (wp_callP V Vp ins hF hVp_out hVp_ne d Φ) (K.wp_liftProg D 𝒱 (d.tc : Thread nD τ) Set.univ none callP Φ)

end Cert.Proof

end
-- ==== Proof.Launch.lean ====
/- The kernel's whole run: the arrays the host prepares go to the thirty-two tiles, each returns its share of the result filled
   in, the other rows go through the block kernel, and the host joins the two into the table it returns. -/
module

public import proofs.«01_k».proof.Proof.Tile
public import proofs.«01_k».proof.Proof.TcCall
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Transfers (dealOf)

local notation "𝕄" => MT nD τ sig (HIx 1) (Elt Ideal) ℕ UU ℕ

theorem nCore_zero : K.nCore 0 = 2 := rfl
theorem nSub_zero : K.nSub 0 = 16 := rfl
abbrev v₀ : 𝒱.V := Sum.inl none

theorem kFacts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt Ideal) ℕ UU ℕ) := embL

variable (m : (ℓ : Loc nD τ sig) → Buf (Elt Ideal) ℓ) (ρ : Dev nD → PrngReg)

/-! ## The host's operations before the call -/

/-- The host's operations before the call, in order. -/
def hostOps {F : FTy → Type} [FloatOps F] : List (HloOp τ sig (Elt F)) :=
  [StableHlo.unary main_arg2 main_v0 (Host.absf : (⟨S8x17, .f32⟩ : BufTy).Contents (Elt F) → (⟨S8x17, .f32⟩ : BufTy).Contents (Elt F)),
   StableHlo.nullary main_cst (constant S_ .f32 0x00000000#32),
   StableHlo.binary main_v0 main_cst main_v1 ((fun x v => Host.reduceAdd x v reducesTo_S8x17_S8_d1 h_S_) : (⟨S8x17, .f32⟩ : BufTy).Contents (Elt F) → (⟨S_, .f32⟩ : BufTy).Contents (Elt F) → (⟨S8, .f32⟩ : BufTy).Contents (Elt F)),
   StableHlo.unary main_v1 main_v2 (broadcastInDim S8x1 ![0] bcast_S8_S8x1_0 : (⟨S8, .f32⟩ : BufTy).Contents (Elt F) → (⟨S8x1, .f32⟩ : BufTy).Contents (Elt F)),
   StableHlo.unary main_v2 main_v3 (broadcastInDim S8x17 ![0, 1] bcast_S8x1_S8x17_0_1 : (⟨S8x1, .f32⟩ : BufTy).Contents (Elt F) → (⟨S8x17, .f32⟩ : BufTy).Contents (Elt F)),
   StableHlo.binary main_v0 main_v3 main_v4 (Host.divf : (⟨S8x17, .f32⟩ : BufTy).Contents (Elt F) → (⟨S8x17, .f32⟩ : BufTy).Contents (Elt F) → (⟨S8x17, .f32⟩ : BufTy).Contents (Elt F)),
   StableHlo.TRef.nullary (StableHlo.TRef.of (T := ⟨S_, .f32⟩) main_call0_call0_cst) (constant S_ .f32 0x00000000#32),
   StableHlo.TRef.unary (StableHlo.TRef.of (T := ⟨S_, .f32⟩) main_call0_call0_cst) (StableHlo.TRef.of (T := ⟨S_, .f32⟩) main_call0_call0_v0) (broadcastInDim S_ ![] bcast_S_S_),
   StableHlo.TRef.binary (StableHlo.TRef.of (T := ⟨S8x17, .f32⟩) main_v4) (StableHlo.TRef.of (T := ⟨S_, .f32⟩) main_call0_call0_v0) (StableHlo.TRef.of (T := ⟨S8x17, .f32⟩) main_v5)
     (fun x v => Host.reduceWindowAdd ![1, 17] ![1, 1] ![0, 16] ![0, 0] x v reduceWindows_S8x17_S8x17_w1s1p0_0_w17s1p16_0 h_S_),
   StableHlo.unary main_v5 main_v6 ((extractStridedSlice S1x1 ![2, 16] · slices_S8x17_S1x1_2_16) : (⟨S8x17, .f32⟩ : BufTy).Contents (Elt F) → (⟨S1x1, .f32⟩ : BufTy).Contents (Elt F)),
   StableHlo.reshape main_v6 main_v7 (rfl : (.f32 : EltTy) = .f32) shapeCasts_S1x1_S_,
   StableHlo.binary main_v7 main_v7 main_v8 (mulf : (⟨S_, .f32⟩ : BufTy).Contents (Elt F) → (⟨S_, .f32⟩ : BufTy).Contents (Elt F) → (⟨S_, .f32⟩ : BufTy).Contents (Elt F)),
   StableHlo.binary main_v8 main_v8 main_v9 (mulf : (⟨S_, .f32⟩ : BufTy).Contents (Elt F) → (⟨S_, .f32⟩ : BufTy).Contents (Elt F) → (⟨S_, .f32⟩ : BufTy).Contents (Elt F)),
   StableHlo.binary main_v9 main_v9 main_v10 (mulf : (⟨S_, .f32⟩ : BufTy).Contents (Elt F) → (⟨S_, .f32⟩ : BufTy).Contents (Elt F) → (⟨S_, .f32⟩ : BufTy).Contents (Elt F)),
   StableHlo.binary main_v8 main_v10 main_v11 (mulf : (⟨S_, .f32⟩ : BufTy).Contents (Elt F) → (⟨S_, .f32⟩ : BufTy).Contents (Elt F) → (⟨S_, .f32⟩ : BufTy).Contents (Elt F)),
   StableHlo.unary main_arg0 main_v12 ((extractStridedSlice S1536x4x100 ![0, 0, 0] · slices_S4096x4x100_S1536x4x100_0_0_0) : (⟨S4096x4x100, .f32⟩ : BufTy).Contents (Elt F) → (⟨S1536x4x100, .f32⟩ : BufTy).Contents (Elt F)),
   StableHlo.reshape main_v12 main_v13 (rfl : (.f32 : EltTy) = .f32) shapeCasts_S1536x4x100_S1536x400,
   StableHlo.reshape main_v5 main_v14 (rfl : (.f32 : EltTy) = .f32) shapeCasts_S8x17_S136,
   StableHlo.reshape main_v4 main_v15 (rfl : (.f32 : EltTy) = .f32) shapeCasts_S8x17_S136,
   StableHlo.binary main_v14 main_v15 main_v16 ((fun a b => concatenate S272 0 [⟨S136, a⟩, ⟨S136, b⟩] concatenates_S136_S136_S272_d0) : (⟨S136, .f32⟩ : BufTy).Contents (Elt F) → (⟨S136, .f32⟩ : BufTy).Contents (Elt F) → (⟨S272, .f32⟩ : BufTy).Contents (Elt F)),
   StableHlo.unary main_v11 main_v17 (broadcastInDim S16 ![] bcast_S_S16 : (⟨S_, .f32⟩ : BufTy).Contents (Elt F) → (⟨S16, .f32⟩ : BufTy).Contents (Elt F)),
   StableHlo.unary main_arg1 main_v18 ((extractStridedSlice S1536x100 ![0, 0] · slices_S4096x100_S1536x100_0_0) : (⟨S4096x100, .f32⟩ : BufTy).Contents (Elt F) → (⟨S1536x100, .f32⟩ : BufTy).Contents (Elt F))]

/-- The host's operations between the two calls, in order. -/
def midOps {F : FTy → Type} [FloatOps F] : List (HloOp τ sig (Elt F)) :=
  [StableHlo.unary main_arg1 main_v20 ((extractStridedSlice S2560x100 ![1536, 0] · slices_S4096x100_S2560x100_1536_0) : (⟨S4096x100, .f32⟩ : BufTy).Contents (Elt F) → (⟨S2560x100, .f32⟩ : BufTy).Contents (Elt F)),
   StableHlo.unary main_v20 main_v21 ((transpose S100x2560 [1, 0] · transposes_S2560x100_S100x2560_1_0) : (⟨S2560x100, .f32⟩ : BufTy).Contents (Elt F) → (⟨S100x2560, .f32⟩ : BufTy).Contents (Elt F)),
   StableHlo.unary main_arg0 main_v22 ((extractStridedSlice S2560x4x100 ![1536, 0, 0] · slices_S4096x4x100_S2560x4x100_1536_0_0) : (⟨S4096x4x100, .f32⟩ : BufTy).Contents (Elt F) → (⟨S2560x4x100, .f32⟩ : BufTy).Contents (Elt F)),
   StableHlo.unary main_v22 main_v23 ((transpose S4x100x2560 [1, 2, 0] · transposes_S2560x4x100_S4x100x2560_1_2_0) : (⟨S2560x4x100, .f32⟩ : BufTy).Contents (Elt F) → (⟨S4x100x2560, .f32⟩ : BufTy).Contents (Elt F)),
   StableHlo.unary main_v4 main_v24 ((extractStridedSlice S8x1 ![0, 0] · slices_S8x17_S8x1_0_0) : (⟨S8x17, .f32⟩ : BufTy).Contents (Elt F) → (⟨S8x1, .f32⟩ : BufTy).Contents (Elt F)),
   StableHlo.unary main_v4 main_v25 ((extractStridedSlice S8x16 ![0, 1] · slices_S8x17_S8x16_0_1) : (⟨S8x17, .f32⟩ : BufTy).Contents (Elt F) → (⟨S8x16, .f32⟩ : BufTy).Contents (Elt F)),
   StableHlo.unary main_v4 main_v26 ((extractStridedSlice S8x16 ![0, 0] · slices_S8x17_S8x16_0_0) : (⟨S8x17, .f32⟩ : BufTy).Contents (Elt F) → (⟨S8x16, .f32⟩ : BufTy).Contents (Elt F)),
   StableHlo.binary main_v25 main_v26 main_v27 (subf : (⟨S8x16, .f32⟩ : BufTy).Contents (Elt F) → (⟨S8x16, .f32⟩ : BufTy).Contents (Elt F) → (⟨S8x16, .f32⟩ : BufTy).Contents (Elt F)),
   StableHlo.binary main_v24 main_v27 main_v28 ((fun a b => concatenate S8x17 1 [⟨S8x1, a⟩, ⟨S8x16, b⟩] concatenates_S8x1_S8x16_S8x17_d1) : (⟨S8x1, .f32⟩ : BufTy).Contents (Elt F) → (⟨S8x16, .f32⟩ : BufTy).Contents (Elt F) → (⟨S8x17, .f32⟩ : BufTy).Contents (Elt F)),
   StableHlo.reshape main_v11 main_v29 (rfl : (.f32 : EltTy) = .f32) shapeCasts_S_S1x1]

/-- The host's operations after both calls, in order. -/
def lastOps {F : FTy → Type} [FloatOps F] : List (HloOp τ sig (Elt F)) :=
  [StableHlo.reshape main_v19 main_v31 (rfl : (.f32 : EltTy) = .f32) shapeCasts_S16896_S1536x11,
   StableHlo.unary main_v30 main_v32 ((transpose S2560x11 [1, 0] · transposes_S11x2560_S2560x11_1_0) : (⟨S11x2560, .f32⟩ : BufTy).Contents (Elt F) → (⟨S2560x11, .f32⟩ : BufTy).Contents (Elt F)),
   StableHlo.binary main_v31 main_v32 main_v33 ((fun a b => concatenate S4096x11 0 [⟨S1536x11, a⟩, ⟨S2560x11, b⟩] concatenates_S1536x11_S2560x11_S4096x11_d0) : (⟨S1536x11, .f32⟩ : BufTy).Contents (Elt F) → (⟨S2560x11, .f32⟩ : BufTy).Contents (Elt F) → (⟨S4096x11, .f32⟩ : BufTy).Contents (Elt F))]

theorem main_eq {F : FTy → Type} [FloatOps F] (d : Dev nD) :
    main (F := F) d = seq hostOps >>= fun _ => ((sc (F := F)).run d 0 >>= fun _ => (seq midOps >>= fun _ =>
      (Prog.lift (.customCall (SparseCore.inner (Pipeline.entry 0)) ()) >>= fun _ => (seq lastOps >>= fun _ => Prog.ret ⟨⟩)))) := rfl

abbrev dr (b : Ref sig .tc) : DevRef τ sig := Proc.devRef .tc b

/-- The buffers at launch, before the call, after it and at the end. -/
def V0 (d : Dev nD) : Valuation τ sig (Elt Ideal) := fun b => m (d, b)
def V1 (d : Dev nD) : Valuation τ sig (Elt Ideal) := after hostOps (V0 m d)

/-- The arrays the call reads, and the weights. -/
def dA (d : Dev nD) : ℕ → ℕ → EReal := ext2 (n := 1536) (k := 100) (V1 m d (dr main_v18))
def dB (d : Dev nD) : ℕ → ℕ → EReal := ext2 (n := 1536) (k := 400) (V1 m d (dr main_v13))
def dT (d : Dev nD) : ℕ → EReal := ext1 (n := 272) (V1 m d (dr main_v16))
def dW (d : Dev nD) : Fin 8 → Fin 17 → EReal := fun w n => (m ((SparseCore.T d).loc main_arg2) : FVec Ideal S8x17 .f32) (ValueIdx.ix2 w n)

/-- What the run asks of the arrays: each function's heights rise to one, the table holds them, the scores are numbers and
    the parameter array holds ones. -/
structure Good (d : Dev nD) : Prop where
  tab : ∀ w, Table (hgt (dW m d w)) (inc (dW m d w))
  has : HasTab (dW m d) (dT m d)
  num : ∀ r < 1536, ∀ n < 100, ∃ x : ℝ, dA m d r n = x
  par : V1 m d (dr main_v17) = (fun _ => 1 : FVec Ideal S16 .f32)

/-- The result of the call. -/
abbrev res (d : Dev nD) : FVec Ideal S16896 .f32 := result (dW m d) (dA m d) (dB m d)
def V2 (d : Dev nD) : Valuation τ sig (Elt Ideal) := Function.update (V1 m d) (dr main_v19) (res m d)

/-! ## What the call passes to the tiles -/

def coordsV (c : Fin (grid0.bound 0)) (s : Fin (grid0.bound 1)) : grid0.Coords :=
  fun | 0 => c | 1 => s | ⟨_ + 2, h⟩ => absurd h (Nat.not_lt.2 (Nat.le_add_left _ _))

/-- The share of each array read that the tile of core `c` and subcore `i` holds. -/
def shr (c : Fin 2) (i : Fin 16) : PosShare TreeShare := dealOf (dealOf fullShare Finset.univ c) Finset.univ i

/-- What a tile is handed, and hands back. -/
def part (d : Dev nD) (f : FVec Ideal S16896 .f32) (c : Fin 2) (i : Fin 16) : sProp 𝕄 :=
  iprop(vAtt d (coordsV c i) (dA m d) (shr c i) ∗ vBox d (coordsV c i) (dB m d) (shr c i) ∗ vTab d (coordsV c i) (dT m d) (shr c i)
    ∗ vPar d (coordsV c i) (shr c i) ∗ vOut d (coordsV c i) f)

instance (d : Dev nD) (f : FVec Ideal S16896 .f32) (c : Fin 2) (i : Fin 16) : BI.Storable (upEmb : UEmb _ 𝕄) (part m d f c i) := by
  unfold part; infer_instance

abbrev goRes (d : Dev nD) (c : Fin 2) (i : Fin 16) : sProp 𝕄 := part m d (V1 m d (dr main_v19)) c i
abbrev tdRes (d : Dev nD) (c : Fin 2) (i : Fin 16) : sProp 𝕄 := part m d (res m d) c i

def P : K.Pay (nD := nD) (Val := Elt Ideal) (Name := ℕ) (U := UU) where
  st := fun q d c => match q with | 0 => bigSep Finset.univ fun i : Fin (K.nSub 0) => goRes m d (Fin.cast nCore_zero c) (Fin.cast nSub_zero i)
  dn := fun q d c => match q with | 0 => bigSep Finset.univ fun i : Fin (K.nSub 0) => tdRes m d (Fin.cast nCore_zero c) (Fin.cast nSub_zero i)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P m).IsStorable where
  st q d c := match q with
    | 0 => (inferInstance : BI.Storable (upEmb : UEmb _ 𝕄) (bigSep Finset.univ fun i : Fin (K.nSub 0) => goRes m d (Fin.cast nCore_zero c) (Fin.cast nSub_zero i)))
  dn q d c := match q with
    | 0 => (inferInstance : BI.Storable (upEmb : UEmb _ 𝕄) (bigSep Finset.univ fun i : Fin (K.nSub 0) => tdRes m d (Fin.cast nCore_zero c) (Fin.cast nSub_zero i)))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

set_option maxHeartbeats 2000000 in
theorem vecSplit : K.VecSplit' (P m) 0 := by
  intro d c
  show (bigSep Finset.univ fun i : Fin (K.nSub 0) => goRes m d (Fin.cast nCore_zero c) (Fin.cast nSub_zero i)) ⊢ |={Set.univ}=> iprop(
      (bigSep Finset.univ fun i : Fin (K.nSub 0) => goRes m d (Fin.cast nCore_zero c) (Fin.cast nSub_zero i))
      ∗ ((bigSep Finset.univ fun i : Fin (K.nSub 0) => tdRes m d (Fin.cast nCore_zero c) (Fin.cast nSub_zero i))
        -∗ (bigSep Finset.univ fun i : Fin (K.nSub 0) => tdRes m d (Fin.cast nCore_zero c) (Fin.cast nSub_zero i))))
  iintro H; imodintro
  isplitl [H]; · iexact H
  iintro H; iexact H

/-! ## The task -/

section Task

variable (d : Dev nD) (L : grid0.Coords)

abbrev semC (s : DmaSem sig) : GSem nD τ sig := (thr d L, .dma s)

theorem ownSems0_V :
    (ownSems0 (thr d L) : sProp 𝕄)
      = iprop(semVal (semC d L cc0_scoped0.sem) 0 ∗ semVal (semC d L cc0_scoped1.sem) 0 ∗ semVal (semC d L cc0_scoped2.sem) 0
          ∗ semVal (semC d L cc0_scoped3.sem) 0 ∗ semVal (semC d L cc0_scoped4.sem) 0
          ∗ bigSep ((((((ownCells (thr d L)).erase (semC d L cc0_scoped0.sem)).erase (semC d L cc0_scoped1.sem)).erase (semC d L cc0_scoped2.sem)).erase
              (semC d L cc0_scoped3.sem)).erase (semC d L cc0_scoped4.sem)) fun g => semVal g 0) := by
  have ne : ∀ {a b : DmaSem sig}, a ≠ b → semC d L a ≠ semC d L b := fun h e => h (by simpa [semC] using e)
  unfold SparseCore.Cfg.ownSems0
  rw [SparseCore.bigSep_erase' ((mem_ownCells (g := semC d L cc0_scoped0.sem)).mpr ⟨rfl, by
      show (SemLoc.dma cc0_scoped0.sem : SemLoc sig).isScoped .scVector = true; decide⟩),
    SparseCore.bigSep_erase' (Finset.mem_erase.mpr ⟨ne (by decide), (mem_ownCells (g := semC d L cc0_scoped1.sem)).mpr ⟨rfl, by
      show (SemLoc.dma cc0_scoped1.sem : SemLoc sig).isScoped .scVector = true; decide⟩⟩),
    SparseCore.bigSep_erase' (Finset.mem_erase.mpr ⟨ne (by decide), Finset.mem_erase.mpr ⟨ne (by decide),
      (mem_ownCells (g := semC d L cc0_scoped2.sem)).mpr ⟨rfl, by show (SemLoc.dma cc0_scoped2.sem : SemLoc sig).isScoped .scVector = true; decide⟩⟩⟩),
    SparseCore.bigSep_erase' (Finset.mem_erase.mpr ⟨ne (by decide), Finset.mem_erase.mpr ⟨ne (by decide), Finset.mem_erase.mpr ⟨ne (by decide),
      (mem_ownCells (g := semC d L cc0_scoped3.sem)).mpr ⟨rfl, by show (SemLoc.dma cc0_scoped3.sem : SemLoc sig).isScoped .scVector = true; decide⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide),
      (mem_ownCells (g := semC d L cc0_scoped4.sem)).mpr ⟨rfl, by show (SemLoc.dma cc0_scoped4.sem : SemLoc sig).isScoped .scVector = true; decide⟩⟩⟩⟩⟩)]

abbrev lr (b : Ref sig .scVector) : DevRef τ sig := (procOf L).devRef b

theorem ownBufs_V :
    (ownBufs (thr d L) : sProp 𝕄)
      = iprop(scr d L cc0_scratch0 ∗ scr d L cc0_scratch1 ∗ scr d L cc0_scratch2 ∗ scr d L cc0_scratch3 ∗ scr d L cc0_scratch4 ∗ scr d L cc0_scratch5
          ∗ bigSep (((((((ownRefs (τ := τ) (procOf L)).erase (lr L cc0_scratch0)).erase (lr L cc0_scratch1)).erase (lr L cc0_scratch2)).erase (lr L cc0_scratch3)).erase
              (lr L cc0_scratch4)).erase (lr L cc0_scratch5)) fun b => iprop(∃ f, ((d, b) : Loc nD τ sig) ↦{fullShare} f)) := by
  have ne : ∀ {a b : Ref sig .scVector}, a ≠ b → lr L a ≠ lr L b := fun h e => h (Proc.devRef_injective _ e)
  have me : ∀ b : Ref sig .scVector, (lr L b).owner = .proc (procOf L) → lr L b ∈ ownRefs (τ := τ) (procOf L) := fun b h =>
    SparseCore.Cfg.mem_ownRefs_of_owner (p := procOf L) (b := lr L b) h
  unfold SparseCore.Cfg.ownBufs
  refine (SparseCore.bigSep_erase' (me cc0_scratch0 rfl)).trans ?_
  rw [SparseCore.bigSep_erase' (Finset.mem_erase.mpr ⟨ne (by decide), me cc0_scratch1 rfl⟩),
    SparseCore.bigSep_erase' (Finset.mem_erase.mpr ⟨ne (by decide), Finset.mem_erase.mpr ⟨ne (by decide), me cc0_scratch2 rfl⟩⟩),
    SparseCore.bigSep_erase' (Finset.mem_erase.mpr ⟨ne (by decide), Finset.mem_erase.mpr ⟨ne (by decide), Finset.mem_erase.mpr ⟨ne (by decide), me cc0_scratch3 rfl⟩⟩⟩),
    SparseCore.bigSep_erase' (Finset.mem_erase.mpr ⟨ne (by decide), Finset.mem_erase.mpr ⟨ne (by decide), Finset.mem_erase.mpr ⟨ne (by decide), Finset.mem_erase.mpr ⟨ne (by decide), me cc0_scratch4 rfl⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), me cc0_scratch5 rfl⟩⟩⟩⟩⟩)]

set_option maxHeartbeats 1000000 in
/-- The task of a grid point: its share of the result filled in. -/
theorem tile_body (hg : Good m d) (c : Fin 2) (i : Fin 16) (O : CellTallies nD τ sig (HIx 1)) (W : Waits sig (HIx 1)) (hO : ∀ g, O g none = 0) :
    iprop(levAts K.L K.lev ∗ emp ∗ goRes m d c i
        ∗ scopedBufs (thr d (coordsV c i)) ∗ scopedSems0 (thr d (coordsV c i)) ∗ owes (thr d (coordsV c i)) O W)
      ⊢ wp frame (wpE (defs₀ (F := Ideal)) 𝒱₀ (thr d (coordsV c i)) none) Set.univ
          (cc0__sc_body (coordsV c i) hAtt (Memref.isWhole_whole _) hBox (Memref.isWhole_whole _) hTab (Memref.isWhole_whole _) hPar (Memref.isWhole_whole _) hOut (Memref.isWhole_whole _)
            sAtt (Memref.isWhole_whole _) sBox (Memref.isWhole_whole _) sTab (Memref.isWhole_whole _) sPar (Memref.isWhole_whole _) sAtv (Memref.isWhole_whole _) sOut (Memref.isWhole_whole _)
            cc0_scoped0 cc0_scoped1 cc0_scoped2 cc0_scoped3 cc0_scoped4)
          fun _ => iprop(tdRes m d c i
            ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  rw [tile_eq]
  rw [K.scopedBufs_V kFacts d _ _, SparseCore.Cfg.scopedSems0_V (Val := Elt Ideal) d _ _, ownSems0_V, ownBufs_V]
  unfold goRes tdRes part
  iintro ⟨#Hlv, -, Hp, ⟨Hb0, Hb1, Hb2, Hb3, Hb4, Hb5, Hbufs⟩, ⟨Hs0, Hs1, Hs2, Hs3, Hs4, Hsems⟩, HO⟩
  iapply (wp_wand frame (wpE (defs₀ (F := Ideal)) 𝒱₀ (thr d (coordsV c i)) none) Set.univ) $$ [Hp Hb0 Hb1 Hb2 Hb3 Hb4 Hb5 Hs0 Hs1 Hs2 Hs3 Hs4 HO]
  · iapply (tile_wp d (coordsV c i) (shr c i) (show levAts K.L K.lev ⊢ Transfers.MayWaits (thr d (coordsV c i)) (default : HIx 1) O from
      K.mayWaits_none (thr := thr d (coordsV c i)) hO) hg.tab hg.has hg.num _)
    isplitr; · iexact Hlv
    isplitl [Hp]; · iexact Hp
    isplitl [Hb0 Hb1 Hb2 Hb3 Hb4 Hb5]
    · isplitl [Hb0]; · iexact Hb0
      isplitl [Hb1]; · iexact Hb1
      isplitl [Hb2]; · iexact Hb2
      isplitl [Hb3]; · iexact Hb3
      isplitl [Hb4]; · iexact Hb4
      iexact Hb5
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact HO
  iintro %_ ⟨Hp, ⟨Hb0, Hb1, Hb2, Hb3, Hb4, Hb5⟩, ⟨Hs0, Hs1, Hs2, Hs3, Hs4⟩, ⟨%W', HO⟩⟩
  isplitl [Hp]; · iexact Hp
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists W'; isplitr
  swap; · iexact HO
  ipureintro; intro p _
  rcases p.2 with _ | q
  · exact .inr (.inl rfl)
  · exact .inr (.inr (congrArg some (Subsingleton.elim q 0)))

end Task

theorem defs₀_vector (c : Fin τ.nSC) (s : Fin τ.nSub) :
    defs₀ (F := Ideal) (.scVector c s) 0 ()
      = SparseCore.onTile hcore0 hsub0 (fun c s => cc0__sc_body (coordsV c s)
          hAtt (Memref.isWhole_whole _) hBox (Memref.isWhole_whole _) hTab (Memref.isWhole_whole _) hPar (Memref.isWhole_whole _) hOut (Memref.isWhole_whole _)
            sAtt (Memref.isWhole_whole _) sBox (Memref.isWhole_whole _) sTab (Memref.isWhole_whole _) sPar (Memref.isWhole_whole _) sAtv (Memref.isWhole_whole _) sOut (Memref.isWhole_whole _)
            cc0_scoped0 cc0_scoped1 cc0_scoped2 cc0_scoped3 cc0_scoped4) ⟨⟩ c s := rfl

theorem tileObl (hg : ∀ d, Good m d) : K.TileObl D 𝒱 (P m) v₀ 0 := by
  intro d c i O W hO _ _
  simp only [show (P m).ox = fun _ _ => 0 from rfl, add_zero]
  have hci : (K.core 0 c).val < grid0.bound 0 ∧ (K.sub 0 i).val < grid0.bound 1 := ⟨c.isLt, i.isLt⟩
  change _ ⊢ wp _ _ _ (Pipeline.liftProg (defs₀ (F := Ideal) (.scVector (K.core 0 c) (K.sub 0 i)) 0 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  exact tile_body m d (hg d) ⟨_, hci.1⟩ ⟨_, hci.2⟩ O W hO

/-! ## The arrays split among the tiles -/

theorem pts_tiles (ℓ : Loc nD τ sig) (f : Buf (Elt Ideal) ℓ) :
    (ℓ ↦{fullShare} f : sProp 𝕄) = bigSep Finset.univ fun c : Fin 2 => bigSep Finset.univ fun i : Fin 16 => ℓ ↦{shr c i} f := by
  rw [Transfers.pointsTo_deal (Finset.univ : Finset (Fin 2)) Finset.univ_nonempty fullShare]
  exact bigSep_congr fun c _ => Transfers.pointsTo_deal (Finset.univ : Finset (Fin 16)) Finset.univ_nonempty _

theorem mem_mine (c : Fin 2) (i : Fin 16) (j : S16896.Idx) :
    j ∈ mine (coordsV c i) ↔ 11 * (96 * i.val + 48 * c.val) ≤ (j 0).val ∧ (j 0).val < 11 * (96 * i.val + 48 * c.val) + 528 := by
  unfold mine row0
  rw [Finset.mem_filter]
  exact ⟨fun h => h.2, fun h => ⟨Finset.mem_univ _, h⟩⟩

abbrev oLoc (d : Dev nD) : Loc nD τ sig := (SparseCore.T d).loc main_v19

theorem out_tiles (d : Dev nD) (f : Buf (Elt Ideal) (oLoc d)) :
    (oLoc d ↦{fullShare} f : sProp 𝕄)
      = bigSep Finset.univ fun c : Fin 2 => bigSep Finset.univ fun i : Fin 16 => oLoc d ↦[mine (coordsV c i)]{fullShare} f := by
  have h2 : ∀ c : Fin 2, (bigSep Finset.univ fun i : Fin 16 => (oLoc d ↦[mine (coordsV c i)]{fullShare} f : sProp 𝕄))
      = oLoc d ↦[Finset.univ.biUnion fun i : Fin 16 => mine (coordsV c i)]{fullShare} f := fun c => by
    rw [← pointsTo_biUnion Finset.univ (ℓ := oLoc d) (fun i : Fin 16 => mine (coordsV c i))]
    intro i _ i' _ h
    rw [Finset.disjoint_left]
    intro j hj hj'
    rw [mem_mine] at hj hj'
    exact h (Fin.ext (by omega))
  have hU : (Finset.univ.biUnion fun c : Fin 2 => Finset.univ.biUnion fun i : Fin 16 => mine (coordsV c i)) = Finset.univ := by
    rw [Finset.eq_univ_iff_forall]
    intro j
    have hj : (j (0 : Fin 1)).val < 16896 := (j (0 : Fin 1)).isLt
    rw [Finset.mem_biUnion]
    refine ⟨⟨((j (0 : Fin 1)).val / 528) % 2, Nat.mod_lt _ (by omega)⟩, Finset.mem_univ _, ?_⟩
    rw [Finset.mem_biUnion]
    refine ⟨⟨(j (0 : Fin 1)).val / 1056, by omega⟩, Finset.mem_univ _, ?_⟩
    rw [mem_mine]
    show 11 * (96 * ((j (0 : Fin 1)).val / 1056) + 48 * (((j (0 : Fin 1)).val / 528) % 2)) ≤ (j (0 : Fin 1)).val ∧ (j (0 : Fin 1)).val < 11 * (96 * ((j (0 : Fin 1)).val / 1056) + 48 * (((j (0 : Fin 1)).val / 528) % 2)) + 528
    omega
  have hD : ∀ c ∈ (Finset.univ : Finset (Fin 2)), ∀ c' ∈ (Finset.univ : Finset (Fin 2)), c ≠ c' →
      Disjoint (Finset.univ.biUnion fun i : Fin 16 => mine (coordsV c i)) (Finset.univ.biUnion fun i : Fin 16 => mine (coordsV c' i)) := by
    intro c _ c' _ h
    rw [Finset.disjoint_left]
    intro j hj hj'
    rw [Finset.mem_biUnion] at hj hj'
    obtain ⟨i, -, hj⟩ := hj
    obtain ⟨i', -, hj'⟩ := hj'
    rw [mem_mine] at hj hj'
    exact h (Fin.ext (by omega))
  rw [bigSep_congr fun c _ => h2 c, ← pointsTo_biUnion Finset.univ (ℓ := oLoc d) (fun c : Fin 2 => Finset.univ.biUnion fun i : Fin 16 => mine (coordsV c i)) hD, hU]
  try rfl

theorem all_tiles (d : Dev nD) (f : FVec Ideal S16896 .f32) (hg : Good m d) :
    iprop(((SparseCore.T d).loc main_v18 ↦{fullShare} V1 m d (dr main_v18)) ∗ ((SparseCore.T d).loc main_v13 ↦{fullShare} V1 m d (dr main_v13))
        ∗ ((SparseCore.T d).loc main_v16 ↦{fullShare} V1 m d (dr main_v16)) ∗ ((SparseCore.T d).loc main_v17 ↦{fullShare} V1 m d (dr main_v17)) ∗ (oLoc d ↦{fullShare} f))
      = (bigSep Finset.univ fun c : Fin 2 => bigSep Finset.univ fun i : Fin 16 => part m d f c i : sProp 𝕄) := by
  unfold part
  rw [hg.par]
  simp only [bigSep_sep']
  unfold vAtt vBox vTab vPar vOut dA dB dT
  rw [arr2_ext2, arr2_ext2, arr1_ext1]
  rw [pts_tiles, pts_tiles, pts_tiles, pts_tiles, out_tiles]

/-! ## The host's program -/

theorem uc (b : Ref sig .tc) (hb : b.isScoped = false := by rfl) : dr b ∈ Pipeline.ucRefs τ sig :=
  Finset.mem_filter.mpr ⟨StableHlo.devRef_mem_tcRefs b, by rw [Proc.isScoped_devRef, hb]; exact Bool.false_ne_true⟩

theorem dr_ne {a b : Ref sig .tc} (h : a ≠ b) : dr a ≠ dr b := fun e => h (Proc.devRef_injective _ e)

/-- The buffers the call does not touch. -/
def others : Finset (DevRef τ sig) :=
  (((((Pipeline.ucRefs τ sig).erase (dr main_v18)).erase (dr main_v13)).erase (dr main_v16)).erase (dr main_v17)).erase (dr main_v19)

theorem assoc (P Q R : sProp 𝕄) : iprop((P ∗ Q) ∗ R) = iprop(P ∗ Q ∗ R) := equiv_iff.mp ⟨BI.sep_assoc, BI.sep_assoc'⟩

theorem held_call (d : Dev nD) (W : Valuation τ sig (Elt Ideal)) :
    (held (SparseCore.T d) (Pipeline.ucRefs τ sig) W : sProp 𝕄)
      = iprop((((SparseCore.T d).loc main_v18 ↦{fullShare} W (dr main_v18)) ∗ ((SparseCore.T d).loc main_v13 ↦{fullShare} W (dr main_v13))
        ∗ ((SparseCore.T d).loc main_v16 ↦{fullShare} W (dr main_v16)) ∗ ((SparseCore.T d).loc main_v17 ↦{fullShare} W (dr main_v17)) ∗ (oLoc d ↦{fullShare} W (dr main_v19)))
        ∗ held (SparseCore.T d) others W) := by
  unfold held others
  rw [SparseCore.bigSep_erase' (uc main_v18),
    SparseCore.bigSep_erase' (Finset.mem_erase.mpr ⟨dr_ne (by decide), uc main_v13⟩),
    SparseCore.bigSep_erase' (Finset.mem_erase.mpr ⟨dr_ne (by decide), Finset.mem_erase.mpr ⟨dr_ne (by decide), uc main_v16⟩⟩),
    SparseCore.bigSep_erase' (Finset.mem_erase.mpr ⟨dr_ne (by decide), Finset.mem_erase.mpr ⟨dr_ne (by decide), Finset.mem_erase.mpr ⟨dr_ne (by decide), uc main_v17⟩⟩⟩),
    SparseCore.bigSep_erase' (Finset.mem_erase.mpr ⟨dr_ne (by decide), Finset.mem_erase.mpr ⟨dr_ne (by decide), Finset.mem_erase.mpr ⟨dr_ne (by decide), Finset.mem_erase.mpr ⟨dr_ne (by decide), uc main_v19⟩⟩⟩⟩)]
  rw [assoc, assoc, assoc, assoc]

theorem held_call2 (d : Dev nD) :
    (held (SparseCore.T d) (Pipeline.ucRefs τ sig) (V2 m d) : sProp 𝕄)
      = iprop((((SparseCore.T d).loc main_v18 ↦{fullShare} V1 m d (dr main_v18)) ∗ ((SparseCore.T d).loc main_v13 ↦{fullShare} V1 m d (dr main_v13))
        ∗ ((SparseCore.T d).loc main_v16 ↦{fullShare} V1 m d (dr main_v16)) ∗ ((SparseCore.T d).loc main_v17 ↦{fullShare} V1 m d (dr main_v17)) ∗ (oLoc d ↦{fullShare} res m d))
        ∗ held (SparseCore.T d) others (V1 m d)) := by
  have h : (held (SparseCore.T d) others (V2 m d) : sProp 𝕄) = held (SparseCore.T d) others (V1 m d) := by
    unfold held
    refine bigSep_congr fun b hb => ?_
    rw [show V2 m d b = V1 m d b from Function.update_of_ne (Finset.ne_of_mem_erase hb) _ _]
  rw [held_call, h, show V2 m d (dr main_v19) = res m d from Function.update_self _ _ _,
    show V2 m d (dr main_v18) = V1 m d (dr main_v18) from Function.update_of_ne (dr_ne (by decide)) _ _,
    show V2 m d (dr main_v13) = V1 m d (dr main_v13) from Function.update_of_ne (dr_ne (by decide)) _ _,
    show V2 m d (dr main_v16) = V1 m d (dr main_v16) from Function.update_of_ne (dr_ne (by decide)) _ _,
    show V2 m d (dr main_v17) = V1 m d (dr main_v17) from Function.update_of_ne (dr_ne (by decide)) _ _]

set_option maxRecDepth 8192 in
theorem hostOps_sub : (hostOps : List (HloOp τ sig (Elt Ideal))).Forall fun op => op.bufs ⊆ StableHlo.tcRefs τ sig :=
  ⟨StableHlo.unary_bufs_sub .., StableHlo.nullary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.reshape_bufs_sub ..,
    StableHlo.binary_bufs_sub .., StableHlo.binary_bufs_sub .., StableHlo.binary_bufs_sub .., StableHlo.binary_bufs_sub .., StableHlo.unary_bufs_sub ..,
    StableHlo.reshape_bufs_sub .., StableHlo.reshape_bufs_sub .., StableHlo.reshape_bufs_sub .., StableHlo.binary_bufs_sub .., StableHlo.unary_bufs_sub .., StableHlo.unary_bufs_sub ..⟩
set_option maxRecDepth 8192 in
theorem hostOps_fresh : (hostOps : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem midOps_sub : (midOps : List (HloOp τ sig (Elt Ideal))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..,
    StableHlo.unary_bufs_sub .., StableHlo.binary_bufs_sub .., StableHlo.binary_bufs_sub .., StableHlo.reshape_bufs_sub ..⟩
theorem midOps_fresh : (midOps : List (HloOp τ sig (Elt Ideal))).Forall fun op => op.fresh = ∅ :=
  ⟨rfl, rfl, rfl, rfl, rfl, rfl, rfl, rfl, rfl, rfl⟩
theorem lastOps_sub : (lastOps : List (HloOp τ sig (Elt Ideal))).Forall fun op => op.bufs ⊆ StableHlo.tcRefs τ sig :=
  ⟨StableHlo.reshape_bufs_sub .., StableHlo.unary_bufs_sub .., StableHlo.binary_bufs_sub ..⟩
theorem lastOps_fresh : (lastOps : List (HloOp τ sig (Elt Ideal))).Forall fun op => op.fresh = ∅ := ⟨rfl, rfl, rfl⟩

variable (ins : Dev nD → ℕ → In)

/-- The table the run returns: the tiles' rows, then the block kernel's. -/
def fin (d : Dev nD) : FVec Ideal S4096x11 .f32 :=
  concatenate S4096x11 0 [⟨S1536x11, shapeCast S1536x11 (res m d) shapeCasts_S16896_S1536x11⟩,
    ⟨S2560x11, transpose S2560x11 [1, 0] (Block.outs ins d) transposes_S11x2560_S2560x11_1_0⟩] concatenates_S1536x11_S2560x11_S4096x11_d0

/-- The buffers before the block kernel's call, after it and at the end. -/
def Vm (d : Dev nD) : Valuation τ sig (Elt Ideal) := after midOps (V2 m d)
def Vr (d : Dev nD) : Valuation τ sig (Elt Ideal) := Function.update (Vm m d) (dr main_v30) (Block.outs ins d)
def V3 (d : Dev nD) : Valuation τ sig (Elt Ideal) := after lastOps (Vr m ins d)

set_option maxHeartbeats 1000000 in
theorem V1_arg0 (d : Dev nD) : V1 m d (dr main_arg0) = m ((SparseCore.T d).loc main_arg0) := by
  unfold V1 hostOps; after_results; rfl
set_option maxHeartbeats 1000000 in
theorem V1_arg1 (d : Dev nD) : V1 m d (dr main_arg1) = m ((SparseCore.T d).loc main_arg1) := by
  unfold V1 hostOps; after_results; rfl
set_option maxHeartbeats 1000000 in
theorem V1_arg2 (d : Dev nD) : V1 m d (dr main_arg2) = m ((SparseCore.T d).loc main_arg2) := by
  unfold V1 hostOps; after_results; rfl

theorem V2_of_ne (d : Dev nD) (b : Ref sig .tc) (h : b ≠ main_v19) : V2 m d (dr b) = V1 m d (dr b) := Function.update_of_ne (dr_ne h) _ _
theorem V2_v19 (d : Dev nD) : V2 m d (dr main_v19) = res m d := Function.update_self _ _ _
theorem Vr_of_ne (d : Dev nD) (b : Ref sig .tc) (h : b ≠ main_v30) : Vr m ins d (dr b) = Vm m d (dr b) := Function.update_of_ne (dr_ne h) _ _
theorem Vr_v30 (d : Dev nD) : Vr m ins d (dr main_v30) = Block.outs ins d := Function.update_self _ _ _

theorem Vm_v19 (d : Dev nD) : Vm m d (dr main_v19) = res m d := by
  rw [← V2_v19 m d]; unfold Vm midOps; after_results
theorem Vm_arg0 (d : Dev nD) : Vm m d (dr main_arg0) = m ((SparseCore.T d).loc main_arg0) := by
  rw [← V1_arg0 m d, ← V2_of_ne m d main_arg0 (by decide)]; unfold Vm midOps; after_results
theorem Vm_arg1 (d : Dev nD) : Vm m d (dr main_arg1) = m ((SparseCore.T d).loc main_arg1) := by
  rw [← V1_arg1 m d, ← V2_of_ne m d main_arg1 (by decide)]; unfold Vm midOps; after_results
theorem Vm_arg2 (d : Dev nD) : Vm m d (dr main_arg2) = m ((SparseCore.T d).loc main_arg2) := by
  rw [← V1_arg2 m d, ← V2_of_ne m d main_arg2 (by decide)]; unfold Vm midOps; after_results

theorem V3_arg0 (d : Dev nD) : V3 m ins d (dr main_arg0) = m ((SparseCore.T d).loc main_arg0) := by
  rw [← Vm_arg0 m d, ← Vr_of_ne m ins d main_arg0 (by decide)]; unfold V3 lastOps; after_results
theorem V3_arg1 (d : Dev nD) : V3 m ins d (dr main_arg1) = m ((SparseCore.T d).loc main_arg1) := by
  rw [← Vm_arg1 m d, ← Vr_of_ne m ins d main_arg1 (by decide)]; unfold V3 lastOps; after_results
theorem V3_arg2 (d : Dev nD) : V3 m ins d (dr main_arg2) = m ((SparseCore.T d).loc main_arg2) := by
  rw [← Vm_arg2 m d, ← Vr_of_ne m ins d main_arg2 (by decide)]; unfold V3 lastOps; after_results
theorem V3_v33 (d : Dev nD) : V3 m ins d (dr main_v33) = fin m ins d := by
  unfold fin
  rw [← Vr_v30 m ins d, ← Vm_v19 m d, ← Vr_of_ne m ins d main_v19 (by decide)]
  unfold V3 lastOps; after_results; rfl

theorem st0_eq (d : Dev nD) : (bigSep Finset.univ fun c : Fin (K.nCore 0) => (P m).st 0 d c)
    = bigSep Finset.univ fun c : Fin 2 => bigSep Finset.univ fun i : Fin 16 => goRes m d c i := rfl
theorem dn0_eq (d : Dev nD) : (bigSep Finset.univ fun c : Fin (K.nCore 0) => (P m).dn 0 d c)
    = bigSep Finset.univ fun c : Fin 2 => bigSep Finset.univ fun i : Fin 16 => tdRes m d c i := rfl

/-- What the run leaves: the result and the three arguments. -/
abbrev FIN (d : Dev nD) : sProp 𝕄 :=
  iprop(((SparseCore.T d).loc main_v33 ↦{fullShare} fin m ins d) ∗ ((SparseCore.T d).loc main_arg0 ↦{fullShare} m ((SparseCore.T d).loc main_arg0))
    ∗ ((SparseCore.T d).loc main_arg1 ↦{fullShare} m ((SparseCore.T d).loc main_arg1)) ∗ ((SparseCore.T d).loc main_arg2 ↦{fullShare} m ((SparseCore.T d).loc main_arg2)))

theorem held_fin (d : Dev nD) : (held (SparseCore.T d) (Pipeline.ucRefs τ sig) (V3 m ins d) : sProp 𝕄) ⊢ FIN m ins d := by
  unfold held
  rw [SparseCore.bigSep_erase' (uc main_v33),
    SparseCore.bigSep_erase' (Finset.mem_erase.mpr ⟨dr_ne (by decide), uc main_arg0⟩),
    SparseCore.bigSep_erase' (Finset.mem_erase.mpr ⟨dr_ne (by decide), Finset.mem_erase.mpr ⟨dr_ne (by decide), uc main_arg1⟩⟩),
    SparseCore.bigSep_erase' (Finset.mem_erase.mpr ⟨dr_ne (by decide), Finset.mem_erase.mpr ⟨dr_ne (by decide), Finset.mem_erase.mpr ⟨dr_ne (by decide), uc main_arg2⟩⟩⟩),
    V3_v33, V3_arg0, V3_arg1, V3_arg2]
  iintro ⟨H, H0, H1, H2, -⟩
  isplitl [H]; · iexact H
  isplitl [H0]; · iexact H0
  isplitl [H1]; · iexact H1
  iexact H2

def u₁ : UP := initOf (Pipeline.cells (Pipeline.pin (pcfgs (F := Ideal)) Block.adm) phinj) (Pipeline.launchToks (Pipeline.pin (pcfgs (F := Ideal)) Block.adm) phinj)
def u₀ : UU := (initOf K.hsCells K.hsToks, (u₁, 1))

theorem bigSep_emp' {I : Type} (s : Finset I) : (bigSep s fun _ => iprop(emp)) = (iprop(emp) : sProp 𝕄) := bigSep_emp_const s

theorem ownU_split (a : UH) (b : UP) : (ownU ((a, (b, (1 : Counters))) : UU) : sProp 𝕄) ⊢ iprop(BI.own (EH a) ∗ BI.own (EP b)) :=
  BI.own_op_elim ((uEmb (nD := nD) (sig := sig) (Ix := HIx 1) (Val := Elt Ideal) (Name := ℕ) (U := UU) (Lvl := ℕ)).toEmb.op_of_mem
    (Prod.mk_mem_op (URA.mem_op_one a) (URA.mem_one_op (b, (1 : Counters)))))

theorem ghost : (BI.own (EP u₁) : sProp 𝕄) ⊢ iprop(|==> bigSep Finset.univ G) := by
  unfold u₁
  iintro H
  imod (Pipeline.fund_ghost (Pipeline.pin (pcfgs (F := Ideal)) Block.adm) EP phinj) $$ H with ⟨Hg, Ht⟩
  imodintro
  rw [show (bigSep Finset.univ G : sProp 𝕄) = iprop((bigSep Finset.univ fun c : Dev nD => Pipeline.cellsGhost (Pipeline.pin (pcfgs (F := Ideal)) Block.adm) EP 0 c)
    ∗ bigSep Finset.univ fun c : Dev nD => Pipeline.toksInit (Pipeline.pin (pcfgs (F := Ideal)) Block.adm) EP 0 c) from bigSep_sep' _ _ _]
  isplitl [Hg]
  · iapply (Entails.of_eq (show (bigSep Finset.univ fun c : Dev nD => bigSep Finset.univ fun p => Pipeline.cellsGhost (Pipeline.pin (pcfgs (F := Ideal)) Block.adm) EP p c : sProp 𝕄)
      = bigSep Finset.univ fun c : Dev nD => Pipeline.cellsGhost (Pipeline.pin (pcfgs (F := Ideal)) Block.adm) EP 0 c from
      bigSep_congr fun _ _ => bigSep_univ_of_subsingleton (0 : Fin 1))) $$ Hg
  · iapply (Entails.of_eq (show (bigSep Finset.univ fun c : Dev nD => bigSep Finset.univ fun p => Pipeline.toksInit (Pipeline.pin (pcfgs (F := Ideal)) Block.adm) EP p c : sProp 𝕄)
      = bigSep Finset.univ fun c : Dev nD => Pipeline.toksInit (Pipeline.pin (pcfgs (F := Ideal)) Block.adm) EP 0 c from
      bigSep_congr fun _ _ => bigSep_univ_of_subsingleton (0 : Fin 1))) $$ Ht

theorem hu₀ : (ownU u₀ : sProp 𝕄)
    ⊢ |={Set.univ}=> iprop(BI.own (EH (initOf K.hsCells K.hsToks)) ∗ (bigSep Finset.univ G)
        ∗ bigSep Finset.univ fun thr : Thread nD τ => bigSep Finset.univ fun q : Fin 1 => (P m).x q thr) := by
  unfold u₀
  iintro Hu
  ihave H := (ownU_split (initOf K.hsCells K.hsToks) u₁) $$ Hu
  icases H with ⟨HH, HP⟩
  imod ghost $$ HP with HG
  imodintro
  isplitl [HH]; · iexact HH
  isplitl [HG]; · iexact HG
  rw [show (bigSep Finset.univ fun thr : Thread nD τ => bigSep Finset.univ fun q : Fin 1 => (P m).x q thr) = bigSep Finset.univ fun _ => iprop(emp) from
    bigSep_congr fun _ _ => bigSep_univ_of_subsingleton (0 : Fin 1), bigSep_emp']
  iempintro

/-! ## The block kernel's call -/

/-- The host's arrays before and after the block kernel's call. -/
def VB (c : Dev nD) (b : Ref sig .tc) : Buf (Elt Ideal) ((c.tc : Thread nD τ).loc b) := Vm m c (dr b)
def VA (c : Dev nD) (b : Ref sig .tc) : Buf (Elt Ideal) ((c.tc : Thread nD τ).loc b) := Vr m ins c (dr b)

theorem hmain (hg : ∀ d, Good m d) (hF : Block.Fed (VB m) ins) (κ : GSem nD τ sig → ℕ) (d : Dev nD) :
    iprop(K.ctx EH (P m) κ ∗ K.tcSt EH d 0 ∗ K.tcRes m ρ d ∗ G d)
      ⊢ wp frame (wpE (K.defs D) 𝒱 (SparseCore.T d) none) Set.univ (main (F := Ideal) d)
          fun _ => iprop(K.tcSt EH d 1 ∗ FIN m ins d ∗ K.tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d)
    from Pipeline.unscopedBufs_held d (V0 m d), main_eq]
  iintro ⟨#Hctx, Hst, ⟨Hb, Hheld, Hts, -⟩, HG⟩
  iapply (StableHlo.wp_seq 𝒱 none Set.univ d (Pipeline.ucRefs τ sig) _ hostOps
    (fun op h => Pipeline.sub_ucRefs op (List.forall_iff_forall_mem.mp hostOps_sub op h)) (List.forall_iff_forall_mem.mp hostOps_fresh) (V0 m d)) $$ [Hb Hheld]
  · isplitl [Hb] <;> iassumption
  iintro ⟨Hb, Hheld⟩
  rw [wp_bind]
  ihave Hh := (Entails.of_eq (show (held d.tc (Pipeline.ucRefs τ sig) (after hostOps (V0 m d)) : sProp 𝕄) = _ from held_call d (V1 m d))) $$ Hheld
  icases Hh with ⟨Hc, Hr⟩
  ihave Hc := (Entails.of_eq (all_tiles m d (V1 m d (dr main_v19)) (hg d))) $$ Hc
  iapply (K.wp_run D 𝒱 (EH := EH) (P := P m) κ d 0) $$ [Hst Hc Hb Hr Hts HG]
  isplitr; · iexact Hctx
  isplitl [Hst]; · iexact Hst
  isplitl [Hc]; · rw [st0_eq]; iexact Hc
  iintro ⟨Hst, Hdn⟩
  ihave Hdn := (Entails.of_eq (dn0_eq m d)) $$ Hdn
  ihave Hdn := (Entails.of_eq (all_tiles m d (res m d) (hg d)).symm) $$ Hdn
  iapply (StableHlo.wp_seq 𝒱 none Set.univ d (Pipeline.ucRefs τ sig) _ midOps
    (fun op h => Pipeline.sub_ucRefs op (List.forall_iff_forall_mem.mp midOps_sub op h)) (List.forall_iff_forall_mem.mp midOps_fresh) (V2 m d)) $$ [Hb Hdn Hr]
  · isplitl [Hb]; · iexact Hb
    iapply (Entails.of_eq (held_call2 m d).symm)
    isplitl [Hdn]; · iexact Hdn
    iexact Hr
  iintro ⟨Hb, Hheld⟩
  rw [wp_bind]
  ihave Hheld := (Entails.of_eq (show (held d.tc (Pipeline.ucRefs τ sig) (after midOps (V2 m d)) : sProp 𝕄) = unscopedBufs d (VB m d) from (Pipeline.unscopedBufs_held d (Vm m d)).symm)) $$ Hheld
  unfold SparseCore.Cfg.tcSt
  icases Hst with ⟨⟨%W, %hW, HO⟩, Hst⟩
  rw [show K.Otc d ((0 : Fin 1).val + 1) = 0 from K.Otc_end d (le_refl 1)]
  iapply (wp_block (VB m) (VA m ins) ins hF (fun c => Vr_v30 m ins c) (fun c b h => Vr_of_ne m ins c b h) d _)
  unfold held2
  isplitr [Hb Hheld HO HG]
  · iintro ⟨Hb, Hp⟩
    icases Hp with ⟨Hheld, ⟨%W', %hW', HO⟩⟩
    ihave Hheld := (Entails.of_eq (show (unscopedBufs d (VA m ins d) : sProp 𝕄) = _ from Pipeline.unscopedBufs_held d (Vr m ins d))) $$ Hheld
    iapply (StableHlo.wp_seq 𝒱 none Set.univ d (Pipeline.ucRefs τ sig) _ lastOps
      (fun op h => Pipeline.sub_ucRefs op (List.forall_iff_forall_mem.mp lastOps_sub op h)) (List.forall_iff_forall_mem.mp lastOps_fresh) (Vr m ins d)) $$ [Hb Hheld]
    · isplitl [Hb] <;> iassumption
    iintro ⟨Hb, Hheld⟩
    rw [wp_ret]; imodintro
    isplitl [Hst HO]
    · isplitl [HO]
      · iexists W'
        isplitr; · ipureintro; exact fun p hp => hW' hp
        rw [show K.Otc d 1 = 0 from K.Otc_end d (le_refl 1)]
        iexact HO
      iexact Hst
    isplitr [Hb Hts]
    · iapply (held_fin m ins d); iexact Hheld
    isplitl [Hb] <;> iassumption
  isplitl [Hb]; · iexact Hb
  isplitl [Hheld HO]
  · isplitl [Hheld]; · iexact Hheld
    iexists W
    isplitr; · ipureintro; exact fun p hp => hW p hp
    iexact HO
  isplitr; · iapply (SparseCore.Cfg.ctx_levAts κ); iexact Hctx
  iexact HG

/-- What a final memory holds. -/
def fq (d : Dev nD) (s' : Phys nD τ sig (Elt Ideal)) : Prop :=
  s'.mem.mem ((SparseCore.T d).loc main_v33) = fin m ins d ∧ s'.mem.mem ((SparseCore.T d).loc main_arg0) = m ((SparseCore.T d).loc main_arg0)
    ∧ s'.mem.mem ((SparseCore.T d).loc main_arg1) = m ((SparseCore.T d).loc main_arg1) ∧ s'.mem.mem ((SparseCore.T d).loc main_arg2) = m ((SparseCore.T d).loc main_arg2)

theorem hfin (d : Dev nD) (s' : Phys nD τ sig (Elt Ideal)) : iprop(FIN m ins d ∗ SI s') ⊢ (⌜fq m ins d s'⌝ : sProp 𝕄) := by
  iintro ⟨⟨Hv, H0, H1, H2⟩, HSI⟩
  ihave H := (persistent_entails_right (SI_pointsTo_agree (st := s') (ℓ := (SparseCore.T d).loc main_v33) (I := Finset.univ) (q := fullShare) (f := fin m ins d))) $$ [HSI Hv]
  · isplitl [HSI] <;> iassumption
  icases H with ⟨%hv, HSI, -⟩
  ihave H := (persistent_entails_right (SI_pointsTo_agree (st := s') (ℓ := (SparseCore.T d).loc main_arg0) (I := Finset.univ) (q := fullShare) (f := m _))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m _))) $$ [HSI H1]
  · isplitl [HSI] <;> iassumption
  icases H with ⟨%h1, HSI, -⟩
  ihave H := (SI_pointsTo_agree (st := s') (ℓ := (SparseCore.T d).loc main_arg2) (I := Finset.univ) (q := fullShare) (f := m _)) $$ [HSI H2]
  · isplitl [HSI] <;> iassumption
  icases H with %h2
  ipureintro
  exact ⟨funext fun i => hv i (Finset.mem_univ i), funext fun i => h0 i (Finset.mem_univ i), funext fun i => h1 i (Finset.mem_univ i), funext fun i => h2 i (Finset.mem_univ i)⟩

def QC : PUnit × MemSt nD τ sig (Elt Ideal) → Prop := fun r => (∀ c : Dev nD,
  r.2.mem ((SparseCore.T c).loc main_v33) = fin m ins c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2))
  ∧ r.2.sem = fun _ => 0

/-- The whole program runs from good arrays, ends with the table `fin` in its result and its arguments as they were, and every
    counter at zero. -/
theorem run_main (hg : ∀ d, Good m d) (hF : Block.Fed (VB m) ins) : θ_run (Cert.KernelIdeal.defs (F := Ideal)) (Cert.KernelIdeal.threads (F := Ideal)) ⟨m, fun _ => 0, ρ⟩ (QC m ins) :=
  SparseCore.Cfg.θ_run_sc_quiescent (K := K) (D := D) (𝒱 := 𝒱) (EH := EH) (P := P m) (A := ∅) kFacts v₀
    (fun q hq => match q with | 0 => nomatch hq)
    (fun q _ => match q with | 0 => tileObl m hg)
    (fun q _ => match q with | 0 => SparseCore.Cfg.VecSplit.of_plain (vecSplit m))
    m ρ main G (FIN m ins) u₀ (sep_elim_left.trans (hu₀ m)) (hmain m ρ ins hg hF) (fq m ins) (hfin m ins) (QC m ins) (fun _ h hz => ⟨h, hz⟩)

end Cert.Proof

end
-- ==== Proof.Cumul.lean ====
/- Running sums: a window as wide as the row, padded to its width less one, adds up the entries at and before each position. -/
module

public import proofs.«01_k».proof.Proof.Scalar
public import Idealize.ShloMosaic.Lib.Pointwise

@[expose] public section

noncomputable section

namespace Cert.Proof

open Idealize.ShloMosaic
open scoped BigOperators

theorem foldl_add_fin {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The entries a window of seventeen meets, ending at position `j`. -/
theorem window_sum (g : ℕ → EReal) {j : ℕ} (hj : j < 17) :
    (∑ n : Fin 17, if 16 ≤ j + n.val then g (j + n.val - 16) else 0) = ∑ i ∈ Finset.range (j + 1), g i := by
  rw [Fin.sum_univ_eq_sum_range (fun n => if 16 ≤ j + n then g (j + n - 16) else 0) 17]
  obtain ⟨k, hk⟩ : ∃ k, k + (j + 1) = 17 := ⟨16 - j, by omega⟩
  rw [← hk, Finset.sum_range_add]
  rw [Finset.sum_eq_zero (fun i hi => if_neg (by have := Finset.mem_range.1 hi; omega)), zero_add]
  refine Finset.sum_congr rfl fun i _ => ?_
  rw [if_pos (by omega)]
  congr 1; omega

/-- A fold over the places of a window of seventeen. -/
theorem fold_window {N : ℕ} (hN : N = 17) (f : Fin N → EReal) (g : ℕ → EReal) {j : ℕ} (hj : j < 17)
    (hf : ∀ n : Fin N, f n = if 16 ≤ j + n.val then g (j + n.val - 16) else 0) :
    (List.finRange N).foldl (fun r n => r + f n) 0 = ∑ i ∈ Finset.range (j + 1), g i := by
  subst hN
  rw [foldl_add_fin, zero_add, ← window_sum g hj, ← Fin.sum_univ_def]
  exact Finset.sum_congr rfl fun n _ => hf n

/-- Running sums of one row of seventeen. -/
theorem cumul1 {u : Shape} (h : (⟨1, ![17]⟩ : Shape).ReduceWindows ![17] ![1] ![16] ![0] ⟨1, ![17]⟩) (hu : 0 < u.numel)
    (x : FVec Ideal ⟨1, ![17]⟩ .f32) (v : FVec Ideal u .f32) (hv : ∀ i, v i = 0) (j : Fin 17) :
    Host.reduceWindowAdd (F := Ideal) ![17] ![1] ![16] ![0] x v h hu (ix1 j)
      = ∑ i ∈ Finset.range (j.val + 1), (if h : i < 17 then x (ix1 ⟨i, h⟩) else 0) := by
  rw [Host.reduceWindowAdd, Ideal.hostReduceWindowAdd_def, Ideal.hostReduceWindowAdd, Host.reduceWindow, hv]
  refine fold_window (by decide) _ _ j.isLt fun n => ?_
  have h0 : ∀ a : Fin 1, (((⟨1, ![17]⟩ : Shape).rowMajor.symm n) a).val = n.val := fun a => by
    obtain rfl : a = 0 := Subsingleton.elim _ _
    rw [← rowMajor_val1, Equiv.apply_symm_apply]
  have hn : n.val < 17 := n.isLt
  dsimp only
  by_cases hc : 16 ≤ j.val + n.val
  · rw [if_pos hc, dif_pos, dif_pos (by omega)]
    · congr 1
      funext a
      obtain rfl : a = 0 := Subsingleton.elim _ _
      apply Fin.ext
      show j.val * 1 + (((⟨1, ![17]⟩ : Shape).rowMajor.symm n) 0).val - 16 = j.val + n.val - 16
      rw [h0, mul_one]
    · intro a
      obtain rfl : a = 0 := Subsingleton.elim _ _
      show 16 ≤ j.val * 1 + (((⟨1, ![17]⟩ : Shape).rowMajor.symm n) 0).val ∧ j.val * 1 + (((⟨1, ![17]⟩ : Shape).rowMajor.symm n) 0).val - 16 < 17
      rw [h0]; omega
  · rw [if_neg hc, dif_neg]
    intro hh
    have := (hh 0).1
    change 16 ≤ j.val * 1 + (((⟨1, ![17]⟩ : Shape).rowMajor.symm n) 0).val at this
    rw [h0] at this; omega

/-- Running sums along each of eight rows of seventeen. -/
theorem cumul2 {u : Shape} (h : (⟨2, ![8, 17]⟩ : Shape).ReduceWindows ![1, 17] ![1, 1] ![0, 16] ![0, 0] ⟨2, ![8, 17]⟩) (hu : 0 < u.numel)
    (x : FVec Ideal ⟨2, ![8, 17]⟩ .f32) (v : FVec Ideal u .f32) (hv : ∀ i, v i = 0) (w : Fin 8) (j : Fin 17) :
    Host.reduceWindowAdd (F := Ideal) ![1, 17] ![1, 1] ![0, 16] ![0, 0] x v h hu (ix2 w j)
      = ∑ i ∈ Finset.range (j.val + 1), (if h : i < 17 then x (ix2 w ⟨i, h⟩) else 0) := by
  rw [Host.reduceWindowAdd, Ideal.hostReduceWindowAdd_def, Ideal.hostReduceWindowAdd, Host.reduceWindow, hv]
  refine fold_window (by decide) _ _ j.isLt fun n => ?_
  have h0 : (((⟨2, ![1, 17]⟩ : Shape).rowMajor.symm n) 0).val = 0 := by
    have : (((⟨2, ![1, 17]⟩ : Shape).rowMajor.symm n) 0).val < 1 := (((⟨2, ![1, 17]⟩ : Shape).rowMajor.symm n) 0).isLt
    omega
  have h1 : (((⟨2, ![1, 17]⟩ : Shape).rowMajor.symm n) 1).val = n.val := by
    have := rowMajor_val2 ((⟨2, ![1, 17]⟩ : Shape).rowMajor.symm n) 17 rfl
    rw [Equiv.apply_symm_apply, h0] at this; omega
  have hn : n.val < 17 := n.isLt
  dsimp only
  by_cases hc : 16 ≤ j.val + n.val
  · rw [if_pos hc, dif_pos, dif_pos (by omega)]
    · congr 1
      funext a
      match a with
      | ⟨0, _⟩ =>
        apply Fin.ext
        show w.val * 1 + (((⟨2, ![1, 17]⟩ : Shape).rowMajor.symm n) 0).val - 0 = w.val
        rw [h0]; omega
      | ⟨1, _⟩ =>
        apply Fin.ext
        show j.val * 1 + (((⟨2, ![1, 17]⟩ : Shape).rowMajor.symm n) 1).val - 16 = j.val + n.val - 16
        rw [h1]; omega
    · intro a
      match a with
      | ⟨0, _⟩ =>
        show 0 ≤ _ ∧ w.val * 1 + (((⟨2, ![1, 17]⟩ : Shape).rowMajor.symm n) 0).val - 0 < 8
        rw [h0]; omega
      | ⟨1, _⟩ =>
        show 16 ≤ j.val * 1 + (((⟨2, ![1, 17]⟩ : Shape).rowMajor.symm n) 1).val ∧ j.val * 1 + (((⟨2, ![1, 17]⟩ : Shape).rowMajor.symm n) 1).val - 16 < 17
        rw [h1]; omega
  · rw [if_neg hc, dif_neg]
    intro hh
    have := (hh 1).1
    change 16 ≤ j.val * 1 + (((⟨2, ![1, 17]⟩ : Shape).rowMajor.symm n) 1).val at this
    rw [h1] at this; omega

end Cert.Proof

end
-- ==== Proof.Host.lean ====
/- What the host's operations leave for the call, under the precondition: the weights' tables, the scores and the boxes of the first
   1536 rows, the parameter array of ones, and for the block kernel the slopes of the functions and the other rows' columns. -/
module

public import proofs.«01_k».proof.Proof.Launch
public import proofs.«01_k».proof.Proof.Cumul
public import proofs.«01_k».proof.Pre_finite_and_nonzero
public import Idealize.ShloMosaic.Lib.ReduceAll
public import Idealize.ShloMosaic.Lib.Pointwise

@[expose] public section

noncomputable section

namespace Cert.Proof

open Cert.KernelIdeal Cert.KernelIdeal.Gen
open Idealize.ShloMosaic
open Idealize.ShloMosaic.StableHlo (seq after)
open scoped BigOperators

/-- The increments of the eight rows of weights, as the host computes them. -/
def hInc (x : FVec Ideal S8x17 .f32) : FVec Ideal S8x17 .f32 :=
  Host.divf (Host.absf x) (broadcastInDim S8x17 ![0, 1] bcast_S8x1_S8x17_0_1 (broadcastInDim S8x1 ![0] bcast_S8_S8x1_0
    (Host.reduceAdd (Host.absf x) (constant S_ .f32 0x00000000#32) reducesTo_S8x17_S8_d1 h_S_)))
/-- Their running sums. -/
def hHgt (x : FVec Ideal S8x17 .f32) : FVec Ideal S8x17 .f32 :=
  Host.reduceWindowAdd ![1, 17] ![1, 1] ![0, 16] ![0, 0] (hInc x) (broadcastInDim S_ ![] bcast_S_S_ (constant S_ .f32 0x00000000#32))
    reduceWindows_S8x17_S8x17_w1s1p0_0_w17s1p16_0 h_S_

theorem hInc_at (x : FVec Ideal S8x17 .f32) (w : Fin 8) (i : Fin 17) : hInc x (ix2 w i) = inc (fun n => x (ix2 w n)) i := by
  unfold hInc inc
  rw [dif_pos i.isLt]
  pointwise
  rfl

theorem hHgt_at (x : FVec Ideal S8x17 .f32) (w : Fin 8) (i : Fin 17) : hHgt x (ix2 w i) = hgt (fun n => x (ix2 w n)) i := by
  unfold hHgt
  rw [cumul2 _ _ _ _ (fun i => by pointwise)]
  refine Finset.sum_congr rfl fun j hj => ?_
  have : j < 17 := by have := Finset.mem_range.1 hj; omega
  rw [dif_pos this, hInc_at]

variable (m : (ℓ : Loc nD τ sig) → Buf (Elt Ideal) ℓ)

abbrev aB (d : Dev nD) : FVec Ideal S4096x4x100 .f32 := m ((SparseCore.T d).loc main_arg0)
abbrev aA (d : Dev nD) : FVec Ideal S4096x100 .f32 := m ((SparseCore.T d).loc main_arg1)
abbrev aW (d : Dev nD) : FVec Ideal S8x17 .f32 := m ((SparseCore.T d).loc main_arg2)

set_option maxHeartbeats 1000000 in
theorem V1_v16 (d : Dev nD) : V1 m d (dr main_v16) = (concatenate S272 0 [⟨S136, shapeCast S136 (hHgt (aW m d)) shapeCasts_S8x17_S136⟩,
    ⟨S136, shapeCast S136 (hInc (aW m d)) shapeCasts_S8x17_S136⟩] concatenates_S136_S136_S272_d0 : FVec Ideal S272 .f32) := by
  unfold V1 hostOps; after_results; rfl

set_option maxHeartbeats 1000000 in
theorem V1_v18 (d : Dev nD) : V1 m d (dr main_v18) = (extractStridedSlice S1536x100 ![0, 0] (aA m d) slices_S4096x100_S1536x100_0_0 : FVec Ideal S1536x100 .f32) := by
  unfold V1 hostOps; after_results; rfl

set_option maxHeartbeats 1000000 in
theorem V1_v13 (d : Dev nD) : V1 m d (dr main_v13) = (shapeCast S1536x400 (extractStridedSlice S1536x4x100 ![0, 0, 0] (aB m d) slices_S4096x4x100_S1536x4x100_0_0_0) shapeCasts_S1536x4x100_S1536x400 : FVec Ideal S1536x400 .f32) := by
  unfold V1 hostOps; after_results; rfl

/-- The tenth power of the last height of the row of weights numbered two. -/
def hTen (x : FVec Ideal S8x17 .f32) : FVec Ideal S_ .f32 :=
  let y := shapeCast S_ (extractStridedSlice S1x1 ![2, 16] (hHgt x) slices_S8x17_S1x1_2_16) shapeCasts_S1x1_S_
  mulf (mulf y y) (mulf (mulf (mulf y y) (mulf y y)) (mulf (mulf y y) (mulf y y)))

set_option maxHeartbeats 1000000 in
theorem V1_v17 (d : Dev nD) : V1 m d (dr main_v17) = (broadcastInDim S16 ![] bcast_S_S16 (hTen (aW m d)) : FVec Ideal S16 .f32) := by
  unfold V1 hostOps; after_results; rfl

theorem dA_at (d : Dev nD) (r : Fin 1536) (n : Fin 100) : dA m d r n = aA m d (ix2 ⟨r, by omega⟩ n) := by
  unfold dA ext2
  rw [dif_pos ⟨r.isLt, n.isLt⟩, V1_v18, ← ix2_eq_valueIdx]
  pointwise

theorem dB_at (d : Dev nD) (r : Fin 1536) (n : Fin 100) (q : Fin 4) : dB m d r (n + q * 100) = aB m d (ix3 ⟨r, by omega⟩ q n) := by
  unfold dB ext2
  rw [dif_pos ⟨r.isLt, by omega⟩, V1_v13, ← ix2_eq_valueIdx]
  pointwise

theorem dW_eq (d : Dev nD) (w : Fin 8) : dW m d w = fun n => aW m d (ix2 w n) := by
  funext n; rw [ix2_eq_valueIdx]; rfl

theorem dT_hgt (d : Dev nD) (w : Fin 8) (n : Fin 17) : dT m d (n + w * 17) = hgt (dW m d w) n := by
  unfold dT ext1
  rw [dif_pos (by omega), V1_v16, ← ix1_eq_valueIdx, dW_eq]
  pointwise
  rw [dif_pos (by omega), hHgt_at]

theorem dT_inc (d : Dev nD) (w : Fin 8) (n : Fin 17) : dT m d (n + w * 17 + 136) = inc (dW m d w) n := by
  unfold dT ext1
  rw [dif_pos (by omega), V1_v16, ← ix1_eq_valueIdx, dW_eq]
  pointwise
  rw [dif_neg (by omega), ← hInc_at]
  congr 2 <;> apply Fin.ext <;> dsimp only <;> omega

/-- A number whose magnitude is below another is real. -/
theorem real_of_mag_lt {x y : EReal} (h : mag x < y) : ∃ r : ℝ, x = r := by
  have h1 : mag x < ⊤ := lt_of_lt_of_le h le_top
  have h2 : x ≠ ⊤ := fun e => by rw [e] at h1; simp [mag] at h1
  have h3 : x ≠ ⊥ := fun e => by rw [e] at h1; simp [mag] at h1
  exact ⟨x.toReal, (EReal.coe_toReal h2 h3).symm⟩

theorem lt_of_olt {x y : EReal} (h : Ideal.cmp .olt x y = 1#1) : x < y := by
  by_contra hc
  simp [Ideal.cmp, hc] at h
theorem gt_of_ogt {x y : EReal} (h : Ideal.cmp .ogt x y = 1#1) : y < x := by
  by_contra hc
  simp [Ideal.cmp, hc] at h

instance : Subsingleton Cert.Pre_finite_and_nonzero.S_.Idx := ⟨fun a b => funext fun i => i.elim0⟩

/-- What the precondition says: the scores and the weights are real, and no row of weights is zero. -/
theorem pre_out [Cert.Pre_finite_and_nonzero.Facts] (b : FVec Ideal S4096x4x100 .f32) (a : FVec Ideal S4096x100 .f32) (w : FVec Ideal S8x17 .f32)
    (h : Cert.Pre_finite_and_nonzero.fn (F := Ideal) b a w = fun _ => 1#1) :
    (∀ i, ∃ r : ℝ, a i = r) ∧ (∀ i, ∃ r : ℝ, w i = r) ∧ ∀ k : Fin 8, 0 < ∑ n : Fin 17, mag (w (ix2 k n)) := by
  have h := congrFun h ix0
  unfold Cert.Pre_finite_and_nonzero.fn at h
  dsimp only at h
  obtain ⟨h, h3⟩ := IntOp.andi_eq_one.1 h
  obtain ⟨h1, h2⟩ := IntOp.andi_eq_one.1 h
  refine ⟨fun i => ?_, fun i => ?_, fun k => ?_⟩
  · exact real_of_mag_lt (lt_of_olt (Host.reduce_andi_all _ _ _ _ _ h1 i))
  · exact real_of_mag_lt (lt_of_olt (Host.reduce_andi_all _ _ _ _ _ h2 i))
  · have := gt_of_ogt (Host.reduce_andi_all _ _ _ _ _ h3 (ix1 k))
    revert this
    pointwise
    exact fun h => h

theorem hTen_one (x : FVec Ideal S8x17 .f32) (h : hgt (fun n => x (ix2 2 n)) 16 = 1) (i : S_.Idx) : hTen x i = 1 := by
  unfold hTen
  have h0 : hHgt x (ix2 2 16) = 1 := by rw [hHgt_at]; exact h
  pointwise [h0]

/-- Under the precondition the host leaves the arrays as the run asks. -/
theorem good [Cert.Pre_finite_and_nonzero.Facts] (d : Dev nD)
    (h : Cert.Pre_finite_and_nonzero.fn (F := Ideal) (aB m d) (aA m d) (aW m d) = fun _ => 1#1) : Good m d := by
  obtain ⟨h1, h2, h3⟩ := pre_out _ _ _ h
  have htab : ∀ w, Table (hgt (dW m d w)) (inc (dW m d w)) := fun w => by
    rw [dW_eq]
    exact table _ (fun i => h2 _) (h3 w)
  refine ⟨htab, fun w n hn => ⟨dT_hgt m d w ⟨n, by omega⟩, dT_inc m d w ⟨n, by omega⟩⟩, fun r hr n hn => ?_, ?_⟩
  · rw [dA_at m d ⟨r, hr⟩ ⟨n, hn⟩]; exact h1 _
  · rw [V1_v17]
    funext i
    have := (htab 2).last
    rw [dW_eq] at this
    pointwise [hTen_one _ this]

/-! ### The arrays of the block kernel's call -/

set_option maxHeartbeats 1000000 in
theorem V1_v4 (d : Dev nD) : V1 m d (dr main_v4) = hInc (aW m d) := by
  unfold V1 hostOps; after_results; rfl
set_option maxHeartbeats 1000000 in
theorem V1_v11 (d : Dev nD) : V1 m d (dr main_v11) = hTen (aW m d) := by
  unfold V1 hostOps; after_results; rfl

theorem Vm_v21 (d : Dev nD) : Vm m d (dr main_v21) = (transpose S100x2560 [1, 0]
    (extractStridedSlice S2560x100 ![1536, 0] (aA m d) slices_S4096x100_S2560x100_1536_0) transposes_S2560x100_S100x2560_1_0 : FVec Ideal S100x2560 .f32) := by
  rw [show aA m d = V2 m d (dr main_arg1) from ((V2_of_ne m d main_arg1 (by decide)).trans (V1_arg1 m d)).symm]
  unfold Vm midOps; after_results
theorem Vm_v23 (d : Dev nD) : Vm m d (dr main_v23) = (transpose S4x100x2560 [1, 2, 0]
    (extractStridedSlice S2560x4x100 ![1536, 0, 0] (aB m d) slices_S4096x4x100_S2560x4x100_1536_0_0) transposes_S2560x4x100_S4x100x2560_1_2_0 : FVec Ideal S4x100x2560 .f32) := by
  rw [show aB m d = V2 m d (dr main_arg0) from ((V2_of_ne m d main_arg0 (by decide)).trans (V1_arg0 m d)).symm]
  unfold Vm midOps; after_results
/-- The slopes of the eight functions, as the host computes them. -/
def hSlope (x : FVec Ideal S8x17 .f32) : FVec Ideal S8x17 .f32 :=
  concatenate S8x17 1 [⟨S8x1, extractStridedSlice S8x1 ![0, 0] (hInc x) slices_S8x17_S8x1_0_0⟩,
    ⟨S8x16, subf (extractStridedSlice S8x16 ![0, 1] (hInc x) slices_S8x17_S8x16_0_1) (extractStridedSlice S8x16 ![0, 0] (hInc x) slices_S8x17_S8x16_0_0)⟩]
    concatenates_S8x1_S8x16_S8x17_d1
theorem Vm_v28 (d : Dev nD) : Vm m d (dr main_v28) = hSlope (aW m d) := by
  unfold hSlope
  rw [show hInc (aW m d) = V2 m d (dr main_v4) from ((V2_of_ne m d main_v4 (by decide)).trans (V1_v4 m d)).symm]
  unfold Vm midOps; after_results
theorem Vm_v29 (d : Dev nD) : Vm m d (dr main_v29) = (shapeCast S1x1 (hTen (aW m d)) shapeCasts_S_S1x1 : FVec Ideal S1x1 .f32) := by
  rw [show hTen (aW m d) = V2 m d (dr main_v11) from ((V2_of_ne m d main_v11 (by decide)).trans (V1_v11 m d)).symm]
  unfold Vm midOps; after_results; rfl

/-- A row's scores and boxes, by column. -/
def rowA (d : Dev nD) (r : Fin 4096) (n : ℕ) : EReal := if h : n < 100 then aA m d (ix2 r ⟨n, h⟩) else 0
def rowB (d : Dev nD) (r : Fin 4096) (q : Fin 4) (n : ℕ) : EReal := if h : n < 100 then aB m d (ix3 r q ⟨n, h⟩) else 0
/-- What a row of the result depends on. -/
def hostRow (d : Dev nD) (r : Fin 4096) : In where
  W := fun w n => aW m d (ix2 w n)
  top := fun k => topv (rowA m d r) k.val
  bx := fun k q => rowB m d r q (pos (rowA m d r) k.val)
/-- The block kernel's rows. -/
def rows (d : Dev nD) (j : ℕ) : In := hostRow m d (if h : j < 2560 then ⟨1536 + j, by omega⟩ else 0)

theorem hSlope_at (x : FVec Ideal S8x17 .f32) (w : Fin 8) (i : Fin 17) : hSlope x (ix2 w i) = Block.slope (inc fun n => x (ix2 w n)) i.val := by
  unfold hSlope
  refine Fin.cases ?_ (fun s => ?_) i
  · pointwise [hInc_at]
    rfl
  · pointwise [hInc_at]
    rw [dif_neg (by rw [Fin.val_succ]; omega), Fin.val_succ, Nat.add_sub_cancel, Nat.add_comm 1 s.val]
    rfl

theorem hostRow_ok [Cert.Pre_finite_and_nonzero.Facts] (d : Dev nD)
    (h : Cert.Pre_finite_and_nonzero.fn (F := Ideal) (aB m d) (aA m d) (aW m d) = fun _ => 1#1) (r : Fin 4096) : (hostRow m d r).Ok := by
  obtain ⟨h1, h2, h3⟩ := pre_out _ _ _ h
  refine ⟨fun w => table _ (fun i => h2 _) (h3 w), fun k => topv_real (fun n hn => ?_) (by omega)⟩
  unfold rowA
  rw [dif_pos hn]
  exact h1 _

attribute [local irreducible] pos topv

/-- Under the precondition the host leaves the block kernel's arrays as its run asks. -/
theorem fed [Cert.Pre_finite_and_nonzero.Facts]
    (h : ∀ d, Cert.Pre_finite_and_nonzero.fn (F := Ideal) (aB m d) (aA m d) (aW m d) = fun _ => 1#1) : Block.Fed (VB m) (rows m) := by
  intro d j
  have hr : rows m d j.val = hostRow m d ⟨1536 + j.val, by omega⟩ := by unfold rows; rw [dif_pos j.isLt]
  refine ⟨rowA m d ⟨1536 + j.val, by omega⟩, rowB m d ⟨1536 + j.val, by omega⟩, ?_⟩
  rw [hr]
  refine ⟨fun k => ?_, fun q k => ?_, fun w s => ?_, ?_, fun k => rfl, fun k q => rfl, hostRow_ok m d (h d) _⟩
  · show Vm m d (dr main_v21) (ix2 k j) = _
    rw [Vm_v21]
    unfold rowA
    rw [dif_pos k.isLt]
    pointwise
  · show Vm m d (dr main_v23) (ix3 q k j) = _
    rw [Vm_v23]
    unfold rowB
    rw [dif_pos k.isLt]
    pointwise
  · show Vm m d (dr main_v28) (ix2 w s) = _
    rw [Vm_v28, hSlope_at]
    rfl
  · show Vm m d (dr main_v29) (ix2 0 0) = _
    rw [Vm_v29]
    obtain ⟨h1, h2, h3⟩ := pre_out _ _ _ (h d)
    have := (table (fun n => aW m d (ix2 2 n)) (fun i => h2 _) (h3 2)).last
    pointwise [hTen_one _ this]

end Cert.Proof

end
-- ==== Proof.RefTop.lean ====
/- The ten greatest entries of a row and where they stand, as the reference's selection returns them. -/
module

public import proofs.«01_k».proof.Proof.Select
public import proofs.«01_k».proof.Proof.Gen.ReferenceIdeal.Run
public import Idealize.ShloMosaic.Lib.PlanTiles.StableSort
public import Idealize.ShloMosaic.Lib.Pointwise

@[expose] public section

noncomputable section

namespace Cert.Proof

open Cert.ReferenceIdeal Cert.ReferenceIdeal.Gen
open Idealize.ShloMosaic
open scoped BigOperators

/-- How many entries lie below an entry. -/
def below {n : ℕ} (a : Fin n → EReal) (i : Fin n) : ℕ := (Finset.univ.filter fun k => a k < a i).card

theorem below_lt {n : ℕ} (a : Fin n → EReal) (i j : Fin n) : below a i < below a j ↔ a i < a j := by
  have up : ∀ i j, a i < a j → below a i < below a j := fun i j h => Finset.card_lt_card (Finset.ssubset_iff_subset_ne.2
    ⟨fun k hn => by rw [Finset.mem_filter] at hn ⊢; exact ⟨hn.1, hn.2.trans h⟩, fun e => by
      have : i ∈ Finset.univ.filter fun k => a k < a j := Finset.mem_filter.2 ⟨Finset.mem_univ _, h⟩
      rw [← e, Finset.mem_filter] at this
      exact lt_irrefl _ this.2⟩)
  refine ⟨fun h => ?_, up i j⟩
  rcases lt_trichotomy (a i) (a j) with h' | h' | h'
  · exact h'
  · unfold below at h; rw [h'] at h; exact absurd h (lt_irrefl _)
  · exact absurd (up j i h') (by omega)

/-- A stable sort by a key, greatest first, keeps equals in their order. -/
theorem sorted_lex {n : ℕ} (G : Fin n → ℕ) (i j : Fin n) (hij : i < j) :
    PlanTiles.Lex G (· < ·) (sortedFrom (fun i j => decide (G j < G i)) i) (sortedFrom (fun i j => decide (G j < G i)) j) := by
  have h : (sortPositions n fun i j => decide (G j < G i)).Pairwise (PlanTiles.Lex G (· < ·)) := by
    unfold sortPositions
    exact PlanTiles.pairwise_stableSort_lex _ _ _ (List.pairwise_lt_finRange n)
  unfold sortedFrom
  exact List.pairwise_iff_get.1 h _ _ hij

/-- The same for a key of extended reals. -/
theorem sorted_order {n : ℕ} (a : Fin n → EReal) (i j : Fin n) (hij : i < j) :
    a (sortedFrom (fun i j => decide (a j < a i)) j) < a (sortedFrom (fun i j => decide (a j < a i)) i)
      ∨ a (sortedFrom (fun i j => decide (a j < a i)) j) = a (sortedFrom (fun i j => decide (a j < a i)) i)
        ∧ sortedFrom (fun i j => decide (a j < a i)) i < sortedFrom (fun i j => decide (a j < a i)) j := by
  have hB : (fun i j => decide (a j < a i)) = fun i j => decide (below a j < below a i) := by
    funext i j; exact decide_eq_decide.2 (below_lt a j i).symm
  have h := sorted_lex (below a) i j hij
  rw [← hB] at h
  rcases h with h | ⟨h, h'⟩
  · exact Or.inl ((below_lt _ _ _).1 h)
  · refine Or.inr ⟨le_antisymm (not_lt.1 fun q => ?_) (not_lt.1 fun q => ?_), h'⟩
    · have := (below_lt a _ _).2 q; omega
    · have := (below_lt a _ _).2 q; omega

attribute [local irreducible] sortedFrom

/-- The stable sort of a row, greatest first, begins with the columns of the ten greatest. -/
theorem sorted_pos (A : ℕ → EReal) (hA : ∀ n < 100, ∃ r : ℝ, A n = r) (k : Fin 10) :
    (sortedFrom (fun i j : Fin 100 => decide (A j.val < A i.val)) (k.castLE (by norm_num))).val = pos A k.val := by
  set B : Fin 100 → Fin 100 → Bool := fun i j => decide (A j.val < A i.val) with hB
  have hlex : ∀ i j : Fin 100, i < j → A (sortedFrom B j).val < A (sortedFrom B i).val
      ∨ A (sortedFrom B j).val = A (sortedFrom B i).val ∧ (sortedFrom B i).val < (sortedFrom B j).val :=
    fun i j hij => sorted_order (fun n : Fin 100 => A n.val) i j hij
  let idx : ℕ → ℕ := fun k => if h : k < 100 then (sortedFrom B ⟨k, h⟩).val else 0
  have e : ∀ k (h : k < 100), idx k = (sortedFrom B ⟨k, h⟩).val := fun k h => dif_pos h
  have key : ∀ k < 10, idx k = pos A k := by
    refine pos_unique hA (by norm_num) (fun k hk => ?_) (fun j hj k hk h => ?_) fun k hk n hn h => ?_
    · rw [e k (by omega)]; exact Fin.isLt _
    · rw [e j (by omega), e k (by omega)] at h
      exact congrArg Fin.val (sortedFrom_injective B (Fin.ext h))
    · obtain ⟨p, hpn⟩ := sortedFrom_surjective B ⟨n, hn⟩
      have hpv : (sortedFrom B p).val = n := congrArg Fin.val hpn
      rcases lt_trichotomy p.val k with hlt | heq | hgt
      · exact (h ⟨p.val, hlt, by rw [e _ p.isLt]; exact hpv⟩).elim
      · left; subst heq; rw [e _ p.isLt]; exact hpv.symm
      · right
        have := hlex ⟨k, by omega⟩ p hgt
        rw [hpv, ← e k (by omega)] at this
        exact this
  rw [← key k.val k.isLt, e k.val (by omega)]
  rfl

theorem cmp_gt (a b : EReal) : ((FloatOps.cmpfTotal (F := Ideal) (φ := .f32) .gt a b : BitVec 1) == 1#1) = decide (b < a) := by
  show (BitVec.ofBool (decide (b < a)) == 1#1) = _
  cases decide (b < a) <;> rfl

/-- A row's entries, through the index that runs along it. -/
theorem along_row (x : FVec Ideal S4096x100 .f32) (r : Fin 4096) (A : ℕ → EReal) (hx : ∀ n : Fin 100, x (ix2 r n) = A n.val)
    (n : Fin 100) (j : S4096x100.Idx) (h0 : (j 0).val = r.val) : x (j.along 1 n) = A n.val := by
  rw [← hx]; congr 1; funext a
  match a with
  | ⟨0, _⟩ => exact Fin.ext h0
  | ⟨1, _⟩ => rfl

/-- A sort of pairs along the second of two axes. -/
theorem sort2_rows {α β : Type} (cmp : α × β → α × β → BitVec 1) (x : S4096x100.Idx → α) (y : S4096x100.Idx → β) :
    Host.sort2 S4096x100 1 cmp x y
      = (fun j => x (j.along 1 (sortedFrom (fun k k' => cmp (x (j.along 1 k), y (j.along 1 k)) (x (j.along 1 k'), y (j.along 1 k')) == 1#1) (j 1))),
         fun j => y (j.along 1 (sortedFrom (fun k k' => cmp (x (j.along 1 k), y (j.along 1 k)) (x (j.along 1 k'), y (j.along 1 k')) == 1#1) (j 1)))) := by
  unfold Host.sort2
  exact dif_pos (show 1 < 2 by decide)

/-- The ten greatest of a row: their columns and their values. -/
theorem topK_at (x : FVec Ideal S4096x100 .f32) (r : Fin 4096) (A : ℕ → EReal) (hx : ∀ n : Fin 100, x (ix2 r n) = A n.val)
    (hA : ∀ n < 100, ∃ y : ℝ, A n = y) (k : Fin 10) :
    (Host.topK S4096x10 1 (FloatOps.cmpfTotal (F := Ideal) (φ := .f32) .gt) x sliceFits_S4096x100_S4096x10).2 (ix2 r k) = BitVec.ofNat 32 (pos A k.val)
    ∧ (Host.topK S4096x10 1 (FloatOps.cmpfTotal (F := Ideal) (φ := .f32) .gt) x sliceFits_S4096x100_S4096x10).1 (ix2 r k) = topv A k.val := by
  have hs := sorted_pos A hA k
  have hc : ∀ j : S4096x100.Idx, (j 0).val = r.val →
      (fun k k' : Fin 100 => (FloatOps.cmpfTotal (F := Ideal) (φ := .f32) .gt (x (j.along 1 k)) (x (j.along 1 k')) == 1#1))
      = fun i j : Fin 100 => decide (A j.val < A i.val) := fun j hj => by
    funext i i'
    rw [cmp_gt, along_row x r A hx i j hj, along_row x r A hx i' j hj]
  have hv := (topv_eq hA (k := k.val) (by omega)).1
  unfold Host.topK
  dsimp only
  rw [sort2_rows]
  have hcut : ∀ (h : S4096x100.Slices (fun _ => 0) S4096x10) {α : Type} (f : S4096x100.Idx → α),
      extractStridedSlice S4096x10 (fun _ => 0) f h (ix2 r k) = f (ix2 r (k.castLE (by norm_num : 10 ≤ 100))) := fun h α f => by
    unfold extractStridedSlice
    congr 1; funext a
    match a with
    | ⟨0, _⟩ => exact Fin.ext (Nat.zero_add _)
    | ⟨1, _⟩ => exact Fin.ext (Nat.zero_add _)
  have hcr := hc (ix2 r (k.castLE (by norm_num : 10 ≤ 100))) rfl
  rw [hcut, hcut]
  have hq := congrArg (fun B : Fin 100 → Fin 100 → Bool => sortedFrom B (k.castLE (by norm_num : 10 ≤ 100))) hcr
  refine ⟨(congrArg (fun q : Fin 100 => iotaInDim S4096x100 32 1 ((ix2 r (k.castLE (by norm_num : 10 ≤ 100))).along 1 q)) hq).trans ?_,
    (congrArg (fun q : Fin 100 => x ((ix2 r (k.castLE (by norm_num : 10 ≤ 100))).along 1 q)) hq).trans ?_⟩
  · exact congrArg (BitVec.ofNat 32) hs
  · exact ((along_row x r A hx _ _ rfl).trans (congrArg A hs)).trans hv.symm

end Cert.Proof

end
-- ==== Proof.RefLin.lean ====
/- The reference's piecewise linear functions: the clipped words, the two lookups in a table of seventeen numbers and the fraction
   between them, at any shape. -/
module

public import proofs.«01_k».proof.Proof.Cumul
public import proofs.«01_k».proof.Proof.Row
public import proofs.«01_k».proof.Proof.Gen.ReferenceIdeal.Run
public import Idealize.ShloMosaic.Lib.Pointwise
public import Idealize.ShloMosaic.Lib.WordCmp

@[expose] public section

noncomputable section

namespace Cert.Proof

open Cert.ReferenceIdeal Cert.ReferenceIdeal.Gen
open Idealize.ShloMosaic
open scoped BigOperators

/-- A lookup in a table of seventeen entries whose indices' last axis, of extent one, holds the index: the entry at the index read
    signed and clamped. -/
theorem lookup {α : Type} {si t : Shape} (G : GatherDims S17 si t) (hm : G.startIndexMap = [0]) (hc : G.collapsedSliceDims = [0])
    (hb : G.operandBatchingDims = []) (hs : G.sliceSizes = ![1]) (x : S17.Idx → α) (idx : IVec si 32) (j : t.Idx) (e : si.Idx)
    (he : ∀ c, G.siIdx j c = e) : Host.gather G x idx j = x (ix1 ⟨min (idx e).toInt.toNat 16, by omega⟩) := by
  unfold Host.gather
  congr 1
  funext a
  obtain rfl : a = 0 := Subsingleton.elim _ _
  have ha : (0 : Fin S17.rank) ∈ G.startIndexMap := by rw [hm]; exact List.mem_singleton.2 rfl
  refine Fin.ext ?_
  show G.start j idx 0 + G.batchCoord j 0 + G.offCoord j 0 = min (idx e).toInt.toNat 16
  rw [G.batchCoord_eq_zero _ _ (by rw [hb]; exact List.not_mem_nil),
    G.offCoord_eq_zero _ _ fun h => ((G.mem_sKept _).1 h).1 (by rw [hc]; exact List.mem_singleton.2 rfl)]
  unfold GatherDims.start
  rw [dif_pos ha, he, hs]
  rfl

/-- The index wrapped: seventeen more when negative. -/
def wrap {s : Shape} (b0 : S_.BroadcastsInDim s ![]) (c : IVec s 32) : IVec s 32 :=
  select (cmpi .slt c (broadcastInDim s ![] b0 (constantI S_ 32 0#32))) (addi c (broadcastInDim s ![] b0 (constantI S_ 32 17#32))) c

/-- A word clipped to the table. -/
def clip {s : Shape} (b0 : S_.BroadcastsInDim s ![]) (c : IVec s 32) : IVec s 32 :=
  minsi (broadcastInDim s ![] b0 (id (constantI S_ 32 16#32))) (maxsi (broadcastInDim s ![] b0 (id (constantI S_ 32 0#32))) c)

/-- The function of the increments `nw` at numbers already multiplied by sixteen. -/
def lin {s s1 : Shape} (b0 : S_.BroadcastsInDim s ![]) (dims : Fin s.rank → Fin s1.rank) (b1 : s.BroadcastsInDim s1 dims)
    (G : GatherDims S17 s1 s) (nw : FVec Ideal S17 .f32) (xp : FVec Ideal s .f32) : FVec Ideal s .f32 :=
  addf (Host.gather G (Host.reduceWindowAdd ![17] ![1] ![16] ![0] nw (broadcastInDim S_ ![] bcast_S_S_ (constant S_ .f32 0x00000000#32)) reduceWindows_S17_S17_w17s1p16_0 h_S_)
      (broadcastInDim s1 dims b1 (wrap b0 (clip b0 (fptosi 32 xp)))))
    (mulf (subf xp (select (cmpf .olt xp (broadcastInDim s ![] b0 (constant S_ .f32 0x00000000#32))) (Host.ceil xp) (Host.floor xp)))
      (Host.gather G nw (broadcastInDim s1 dims b1 (wrap b0 (clip b0 (addi (fptosi 32 xp) (broadcastInDim s ![] b0 (constantI S_ 32 1#32))))))))

theorem clip_word : ∀ n < 18, (IntOp.minsi 16#32 (IntOp.maxsi 0#32 (BitVec.ofNat 32 n))) = BitVec.ofNat 32 (min n 16) := by decide
theorem wrap_word : ∀ n < 17, Scalar.select (IntOp.cmpi .slt (BitVec.ofNat 32 n) 0#32) (IntOp.addi (BitVec.ofNat 32 n) 17#32) (BitVec.ofNat 32 n) = BitVec.ofNat 32 n := by decide
theorem int_word : ∀ n < 17, (BitVec.ofNat 32 n).toInt.toNat = n := by decide
theorem add_word : ∀ n < 17, IntOp.addi (BitVec.ofNat 32 n) 1#32 = BitVec.ofNat 32 (n + 1) := by decide

theorem not_olt_zero {r : ℝ} (h : 0 ≤ r) : Ideal.cmp .olt (r : EReal) 0 = 0#1 := by
  have : ¬ ((r : EReal) < 0) := not_lt.2 (by exact_mod_cast h)
  simp [Ideal.cmp, this]

/-- The words that the two lookups read. -/
theorem low_at {s : Shape} (b0 : S_.BroadcastsInDim s ![]) (xp : FVec Ideal s .f32) (j : s.Idx) {n : ℕ} (hn : n ≤ 16)
    (h : Ideal.fptosi 32 (xp j) = BitVec.ofNat 32 n) : wrap b0 (clip b0 (fptosi 32 xp)) j = BitVec.ofNat 32 (min n 16) := by
  show Scalar.select (IntOp.cmpi .slt (IntOp.minsi 16#32 (IntOp.maxsi 0#32 (Ideal.fptosi 32 (xp j)))) 0#32)
    (IntOp.addi (IntOp.minsi 16#32 (IntOp.maxsi 0#32 (Ideal.fptosi 32 (xp j)))) 17#32) (IntOp.minsi 16#32 (IntOp.maxsi 0#32 (Ideal.fptosi 32 (xp j)))) = _
  rw [h, clip_word _ (by omega), wrap_word _ (by omega)]

theorem high_at {s : Shape} (b0 : S_.BroadcastsInDim s ![]) (xp : FVec Ideal s .f32) (j : s.Idx) {n : ℕ} (hn : n ≤ 16)
    (h : Ideal.fptosi 32 (xp j) = BitVec.ofNat 32 n) :
    wrap b0 (clip b0 (addi (fptosi 32 xp) (broadcastInDim s ![] b0 (constantI S_ 32 1#32)))) j = BitVec.ofNat 32 (min (n + 1) 16) := by
  show Scalar.select (IntOp.cmpi .slt (IntOp.minsi 16#32 (IntOp.maxsi 0#32 (IntOp.addi (Ideal.fptosi 32 (xp j)) 1#32))) 0#32)
    (IntOp.addi (IntOp.minsi 16#32 (IntOp.maxsi 0#32 (IntOp.addi (Ideal.fptosi 32 (xp j)) 1#32))) 17#32)
    (IntOp.minsi 16#32 (IntOp.maxsi 0#32 (IntOp.addi (Ideal.fptosi 32 (xp j)) 1#32))) = _
  rw [h, add_word _ (by omega), clip_word _ (by omega), wrap_word _ (by omega)]

/-- What is left of a number once its whole part is taken away. -/
theorem frac_at {s : Shape} (b0 : S_.BroadcastsInDim s ![]) (xp : FVec Ideal s .f32) (j : s.Idx) {r : ℝ} (h0 : 0 ≤ r) (h : xp j = r) :
    subf xp (select (cmpf .olt xp (broadcastInDim s ![] b0 (constant (F := Ideal) S_ .f32 0x00000000#32))) (Host.ceil xp) (Host.floor xp)) j
      = (r : EReal) - ((⌊r⌋₊ : ℝ) : EReal) := by
  show xp j - Scalar.select (Ideal.cmp .olt (xp j) (Ideal.ofBits .f32 0x00000000#32)) (FloatOps.hostUnary (F := Ideal) (φ := .f32) .ceil (xp j))
    (FloatOps.hostUnary (F := Ideal) (φ := .f32) .floor (xp j)) = _
  rw [h, Ideal.ofBits_zero_f32, not_olt_zero h0, Scalar.select, if_neg (by decide), Ideal.hostUnary_floor_def]
  show (r : EReal) - (((⌊r⌋ : ℤ) : ℝ) : EReal) = _
  rw [← Int.natCast_floor_eq_floor h0, Int.cast_natCast]

set_option maxHeartbeats 1000000 in
theorem lin_at {s s1 : Shape} (b0 : S_.BroadcastsInDim s ![]) (dims : Fin s.rank → Fin s1.rank) (b1 : s.BroadcastsInDim s1 dims)
    (G : GatherDims S17 s1 s) (hm : G.startIndexMap = [0]) (hc : G.collapsedSliceDims = [0])
    (hb : G.operandBatchingDims = []) (hs : G.sliceSizes = ![1])
    (nw : FVec Ideal S17 .f32) (w : Fin 17 → EReal) (hn : ∀ k : Fin 17, nw (ix1 k) = inc w k.val)
    (xp : FVec Ideal s .f32) (j : s.Idx) (e : s1.Idx) (he : ∀ c, G.siIdx j c = e)
    (hbc : ∀ v : IVec s 32, broadcastInDim s1 dims b1 v e = v j) {x : EReal} (hx : Unit01 x) (hj : xp j = x * 16) :
    lin b0 dims b1 G nw xp j = pl (hgt w) (inc w) x := by
  have hk := seg_le hx
  have hw := fptosi_unit hx
  rw [← hj] at hw
  have e0 := low_at b0 xp j hk hw
  have e1 := high_at b0 xp j hk hw
  have e2 : subf xp (select (cmpf .olt xp (broadcastInDim s ![] b0 (constant (F := Ideal) S_ .f32 0x00000000#32))) (Host.ceil xp) (Host.floor xp)) j
      = x * 16 - ((seg x : ℝ) : EReal) := by
    obtain ⟨r, rfl, h0, h1⟩ := hx
    have h16 : ((r : EReal) * 16) = ((r * 16 : ℝ) : EReal) := by rw [EReal.coe_mul]; rfl
    rw [h16] at hj ⊢
    rw [frac_at b0 xp j (by linarith) hj, seg, EReal.toReal_coe]
  unfold lin
  rw [addf_apply, mulf_apply, e2, lookup G hm hc hb hs _ _ j e he, lookup G hm hc hb hs _ _ j e he, hn, cumul1 _ _ _ _ (fun i => by pointwise)]
  simp only [hbc, e0, e1, int_word _ (show min (seg x) 16 < 17 by omega), int_word _ (show min (seg x + 1) 16 < 17 by omega)]
  unfold pl hgt
  rw [min_assoc, min_assoc, min_self]
  show _ + _ * _ = _
  congr 1
  refine Finset.sum_congr rfl fun i hi => ?_
  have : i < 17 := by have := Finset.mem_range.1 hi; omega
  rw [dif_pos this, hn]

end Cert.Proof

end
-- ==== Proof.RefRow.lean ====
/- The reference's ten boxes of a row, their attentions and the distances between them. -/
module

public import proofs.«01_k».proof.Proof.RefTop
public import proofs.«01_k».proof.Proof.RefLin
public import proofs.«01_k».proof.Proof.Lanes

@[expose] public section

noncomputable section

namespace Cert.Proof

open Cert.ReferenceIdeal Cert.ReferenceIdeal.Gen Cert.ReferenceIdeal.Value
open Idealize.ShloMosaic
open scoped BigOperators

/-- One slice of each box is read at the index its start names. -/
theorem box_at {α : Type} (x : S4096x4x100.Idx → α) (idx : IVec S4096x10x1 32) (r : Fin 4096) (q : Fin 4) (k : Fin 10) :
    Host.gather gather_S4096x4x100_S4096x10x1_S4096x4x10_1_2_0_0_2_2_141 x idx (ix3 r q k)
      = x (ix3 r q ⟨min (idx (ix3 r k 0)).toInt.toNat 99, by omega⟩) := by
  unfold Host.gather
  congr 1
  have hsi : ∀ c, gather_S4096x4x100_S4096x10x1_S4096x4x10_1_2_0_0_2_2_141.siIdx (ix3 r q k) c = ix3 r k 0 := fun c => by
    obtain rfl : c = ⟨0, by decide⟩ := Subsingleton.elim (α := Fin 1) _ _
    funext b
    match b with
    | ⟨0, _⟩ => rfl
    | ⟨1, _⟩ => rfl
    | ⟨2, _⟩ => rfl
  funext a
  refine Fin.ext ?_
  show gather_S4096x4x100_S4096x10x1_S4096x4x10_1_2_0_0_2_2_141.start (ix3 r q k) idx a + gather_S4096x4x100_S4096x10x1_S4096x4x10_1_2_0_0_2_2_141.batchCoord (ix3 r q k) a
    + gather_S4096x4x100_S4096x10x1_S4096x4x10_1_2_0_0_2_2_141.offCoord (ix3 r q k) a = _
  match a with
  | ⟨0, _⟩ => exact Nat.zero_add _
  | ⟨1, _⟩ => exact Nat.zero_add _
  | ⟨2, _⟩ =>
    unfold GatherDims.start
    rw [dif_pos (show (⟨2, by decide⟩ : Fin S4096x4x100.rank) ∈ gather_S4096x4x100_S4096x10x1_S4096x4x10_1_2_0_0_2_2_141.startIndexMap by decide), hsi]
    rfl

theorem word_zero : (FloatOps.sitofp (F := Ideal) .f32 (0#32) : EReal) = 0 := by
  show (((0#32 : BitVec 32).toInt : ℝ) : EReal) = 0
  simp

theorem fold_and {ι : Type} [DecidableEq ι] (S : Finset ι) (f : ι → BitVec 1) (h : ∀ x, f x = 1#1) : S.fold IntOp.andi 1#1 f = 1#1 := by
  induction S using Finset.induction_on with
  | empty => rfl
  | insert x S hx ih => rw [Finset.fold_insert hx, h, ih]; rfl

theorem div_exp (y : ℝ) : Ideal.div 1 (1 + Ideal.exp (-(y : EReal))) = Ideal.logistic (y : EReal) := by
  have hp := Real.exp_pos (-y)
  rw [← EReal.coe_neg, Ideal.exp_coe, Ideal.logistic_coe, ← EReal.coe_one, ← EReal.coe_add, Ideal.div_coe (by positivity), ← EReal.coe_mul,
    one_mul, one_div]

theorem wrap100_word : ∀ n < 100, Scalar.select (IntOp.cmpi .slt (BitVec.ofNat 32 n) 0#32) (IntOp.addi (BitVec.ofNat 32 n) 100#32) (BitVec.ofNat 32 n) = BitVec.ofNat 32 n := by decide
theorem int100_word : ∀ n < 100, min (BitVec.ofNat 32 n).toInt.toNat 99 = n := by decide
theorem in100_word : ∀ n < 100, IntOp.andi (IntOp.cmpi .sge (BitVec.ofNat 32 n) 0#32) (IntOp.cmpi .sle (BitVec.ofNat 32 n) 99#32) = 1#1 := by decide

variable (V0 : Valuation τ sig (Elt Ideal))

abbrev rB : FVec Ideal S4096x4x100 .f32 := V0 (Proc.devRef .tc main_arg0)
abbrev rA : FVec Ideal S4096x100 .f32 := V0 (Proc.devRef .tc main_arg1)
abbrev rW : FVec Ideal S8x17 .f32 := V0 (Proc.devRef .tc main_arg2)

/-- The entries of a row of scores. -/
def entries (r : Fin 4096) (n : ℕ) : EReal := if h : n < 100 then rA V0 (ix2 r ⟨n, h⟩) else 0
theorem entries_at (r : Fin 4096) (n : Fin 100) : rA V0 (ix2 r n) = entries V0 r n.val := by
  rw [entries, dif_pos n.isLt]

/-- What a row of the result depends on. -/
def refRow (r : Fin 4096) : In where
  W := fun w n => rW V0 (ix2 w n)
  top := fun k => topv (entries V0 r) k.val
  bx := fun k q => rB V0 (ix3 r q ⟨pos (entries V0 r) k.val, pos_lt _ _⟩)

attribute [local irreducible] pos topv

variable (hA : ∀ i, ∃ y : ℝ, rA V0 i = y)
include hA

theorem entries_real (r : Fin 4096) : ∀ n < 100, ∃ y : ℝ, entries V0 r n = y := fun n h => by
  rw [entries, dif_pos h]; exact hA _

theorem ref_v0 (r : Fin 4096) (k : Fin 10) : res_main_v0 V0 (ix3 r 0 k) = BitVec.ofNat 32 (pos (entries V0 r) k.val) := by
  have h := (topK_at (rA V0) r (entries V0 r) (entries_at V0 r) (entries_real V0 hA r) k).1
  unfold res_main_v0
  pointwise [h]

theorem ref_v5 (r : Fin 4096) (k : Fin 10) : res_main_call0_v5 V0 (ix3 r k 0) = BitVec.ofNat 32 (pos (entries V0 r) k.val) := by
  have h := ref_v0 V0 hA r k
  unfold res_main_call0_v5
  pointwise [h]
  exact wrap100_word _ (pos_lt _ _)

theorem ref_v1 (r : Fin 4096) (q : Fin 4) (k : Fin 10) : res_main_v1 V0 (ix3 r q k) = (refRow V0 r).bx k q := by
  have h := ref_v5 V0 hA r k
  unfold res_main_v1
  pointwise [h, box_at]
  rw [fold_and _ _ fun x => ?_, Scalar.select, if_pos (by decide)]
  · exact congrArg (fun n : Fin 100 => rB V0 (ix3 r q n)) (Fin.ext (int100_word _ (pos_lt _ _)))
  · obtain ⟨a, b, c, rfl⟩ : ∃ (a : Fin 4096) (b : Fin 10) (c : Fin 1), x = ix3 a b c := ⟨x 0, x 1, x 2, by
      funext d
      match d with
      | ⟨0, _⟩ => rfl
      | ⟨1, _⟩ => rfl
      | ⟨2, _⟩ => rfl⟩
    obtain rfl : c = 0 := Subsingleton.elim _ _
    rw [ref_v5 V0 hA]
    exact in100_word _ (pos_lt _ _)

theorem ref_v7 (r : Fin 4096) (k : Fin 10) : res_main_v7 V0 (ix2 r k) = (refRow V0 r).att k := by
  have h := (topK_at (rA V0) r (entries V0 r) (entries_at V0 r) (entries_real V0 hA r) k).2
  unfold res_main_v7
  pointwise [h]
  obtain ⟨y, hy⟩ := topv_real (entries_real V0 hA r) (k := k.val) (by omega)
  have ht : (refRow V0 r).top k = y := hy
  rw [In.att, ht, hy]
  exact div_exp y

theorem ref_v12 (r : Fin 4096) (i j : Fin 10) : res_main_v12 V0 (ix3 r i j) = (refRow V0 r).att i * (refRow V0 r).att j := by
  unfold res_main_v12
  pointwise [ref_v7 V0 hA]

theorem ref_v28 (r : Fin 4096) (q : Fin 2) (i j : Fin 10) : res_main_v28 V0 (ix4 r q i j)
    = max 0 (min ((refRow V0 r).bx i ⟨q.val + 2, by omega⟩) ((refRow V0 r).bx j ⟨q.val + 2, by omega⟩) - max ((refRow V0 r).bx i ⟨q.val, by omega⟩) ((refRow V0 r).bx j ⟨q.val, by omega⟩)) := by
  unfold res_main_v28
  pointwise [ref_v1 V0 hA]
  rw [word_zero]
  simp only [Nat.add_comm 2]

theorem ref_v33 (r : Fin 4096) (i j : Fin 10) : res_main_v33 V0 (ix3 r i j) = inter ((refRow V0 r).bx i) ((refRow V0 r).bx j) := by
  unfold res_main_v33
  pointwise [ref_v28 V0 hA]
  unfold inter
  rw [max_comm (0 : EReal), max_comm (0 : EReal)]

theorem ref_v70 (r : Fin 4096) (i j : Fin 10) : res_main_v70 V0 (ix3 r i j) = (refRow V0 r).gap i j := by
  unfold res_main_v70
  pointwise [ref_v1 V0 hA, ref_v33 V0 hA]
  rw [word_zero]
  simp only [max_comm (0 : EReal)]
  rfl

end Cert.Proof

end
-- ==== Proof.RefScore.lean ====
/- The reference's functions of a row: the similarities, the sums and the count. -/
module

public import proofs.«01_k».proof.Proof.RefRow

@[expose] public section

noncomputable section

namespace Cert.Proof

open Cert.ReferenceIdeal Cert.ReferenceIdeal.Gen Cert.ReferenceIdeal.Value
open Idealize.ShloMosaic
open scoped BigOperators

theorem ten_coe : ((10 : ℝ) : EReal) = 10 := rfl

theorem word_ten : (FloatOps.sitofp (F := Ideal) .f32 (10#32) : EReal) = 10 := by
  show (((10#32 : BitVec 32).toInt : ℝ) : EReal) = 10
  rw [show (10#32 : BitVec 32).toInt = 10 by decide]
  exact (congrArg (fun y : ℝ => (y : EReal)) (by norm_num)).trans ten_coe

theorem one_less_self (y : ℝ) : (1 : EReal) - mag ((y : EReal) - (y : EReal)) = 1 := by
  rw [← EReal.coe_sub, sub_self]
  simp [mag]

variable (V0 : Valuation τ sig (Elt Ideal))

/-! ### The increments -/

theorem ref_nw (r : Fin 4096) (k : Fin 17) :
    (res_main_v76 V0 (ix1 k) = inc ((refRow V0 r).W 0) k.val ∧ res_main_v324 V0 (ix1 k) = inc ((refRow V0 r).W 0) k.val)
    ∧ res_main_v108 V0 (ix1 k) = inc ((refRow V0 r).W 1) k.val
    ∧ (res_main_v220 V0 (ix1 k) = inc ((refRow V0 r).W 2) k.val ∧ res_main_v254 V0 (ix1 k) = inc ((refRow V0 r).W 2) k.val)
    ∧ res_main_v141 V0 (ix1 k) = inc ((refRow V0 r).W 3) k.val
    ∧ res_main_v173 V0 (ix1 k) = inc ((refRow V0 r).W 4) k.val
    ∧ res_main_v415 V0 (ix1 k) = inc ((refRow V0 r).W 5) k.val
    ∧ res_main_v450 V0 (ix1 k) = inc ((refRow V0 r).W 6) k.val
    ∧ res_main_v497 V0 (ix1 k) = inc ((refRow V0 r).W 7) k.val := by
  refine ⟨⟨?_, ?_⟩, ?_, ⟨?_, ?_⟩, ?_, ?_, ?_, ?_, ?_⟩
  · unfold res_main_v76 res_main_v73 inc
    rw [dif_pos k.isLt]
    pointwise
    rfl
  · unfold res_main_v324 res_main_v321 inc
    rw [dif_pos k.isLt]
    pointwise
    rfl
  · unfold res_main_v108 res_main_v105 inc
    rw [dif_pos k.isLt]
    pointwise
    rfl
  · unfold res_main_v220 res_main_v217 inc
    rw [dif_pos k.isLt]
    pointwise
    rfl
  · unfold res_main_v254 res_main_v251 inc
    rw [dif_pos k.isLt]
    pointwise
    rfl
  · unfold res_main_v141 res_main_v138 inc
    rw [dif_pos k.isLt]
    pointwise
    rfl
  · unfold res_main_v173 res_main_v170 inc
    rw [dif_pos k.isLt]
    pointwise
    rfl
  · unfold res_main_v415 res_main_v412 inc
    rw [dif_pos k.isLt]
    pointwise
    rfl
  · unfold res_main_v450 res_main_v447 inc
    rw [dif_pos k.isLt]
    pointwise
    rfl
  · unfold res_main_v497 res_main_v494 inc
    rw [dif_pos k.isLt]
    pointwise
    rfl

/-! ### The functions at the four shapes -/

abbrev lin3 := lin bcast_S_S4096x10x10 ![0, 1, 2] bcast_S4096x10x10_S4096x10x10x1_0_1_2 gather_S17_S4096x10x10x1_S4096x10x10_n_0_n_n_0_3_1
abbrev lin2 := lin bcast_S_S4096x10 ![0, 1] bcast_S4096x10_S4096x10x1_0_1 gather_S17_S4096x10x1_S4096x10_n_0_n_n_0_2_1
abbrev lin4 := lin bcast_S_S4096x10x10x10 ![0, 1, 2, 3] bcast_S4096x10x10x10_S4096x10x10x10x1_0_1_2_3 gather_S17_S4096x10x10x10x1_S4096x10x10x10_n_0_n_n_0_4_1
abbrev lin1 := lin bcast_S_S4096x1 ![0, 1] bcast_S4096x1_S4096x1x1_0_1 gather_S17_S4096x1x1_S4096x1_n_0_n_n_0_2_1

theorem lin3_at (nw : FVec Ideal S17 .f32) (w : Fin 17 → EReal) (hn : ∀ k : Fin 17, nw (ix1 k) = inc w k.val) (xp : FVec Ideal S4096x10x10 .f32)
    (r : Fin 4096) (i j : Fin 10) {x : EReal} (hx : Unit01 x) (hj : xp (ix3 r i j) = x * 16) : lin3 nw xp (ix3 r i j) = pl (hgt w) (inc w) x := by
  refine lin_at _ _ _ _ rfl rfl rfl rfl nw w hn xp _ (ix4 r i j 0) (fun c => ?_) (fun v => by pointwise) hx hj
  obtain rfl : c = ⟨0, by decide⟩ := Subsingleton.elim (α := Fin 1) _ _
  funext b
  match b with
  | ⟨0, _⟩ => rfl
  | ⟨1, _⟩ => rfl
  | ⟨2, _⟩ => rfl
  | ⟨3, _⟩ => rfl

theorem lin2_at (nw : FVec Ideal S17 .f32) (w : Fin 17 → EReal) (hn : ∀ k : Fin 17, nw (ix1 k) = inc w k.val) (xp : FVec Ideal S4096x10 .f32)
    (r : Fin 4096) (i : Fin 10) {x : EReal} (hx : Unit01 x) (hj : xp (ix2 r i) = x * 16) : lin2 nw xp (ix2 r i) = pl (hgt w) (inc w) x := by
  refine lin_at _ _ _ _ rfl rfl rfl rfl nw w hn xp _ (ix3 r i 0) (fun c => ?_) (fun v => by pointwise) hx hj
  obtain rfl : c = ⟨0, by decide⟩ := Subsingleton.elim (α := Fin 1) _ _
  funext b
  match b with
  | ⟨0, _⟩ => rfl
  | ⟨1, _⟩ => rfl
  | ⟨2, _⟩ => rfl

theorem lin4_at (nw : FVec Ideal S17 .f32) (w : Fin 17 → EReal) (hn : ∀ k : Fin 17, nw (ix1 k) = inc w k.val) (xp : FVec Ideal S4096x10x10x10 .f32)
    (r : Fin 4096) (l i j : Fin 10) {x : EReal} (hx : Unit01 x) (hj : xp (ix4 r l i j) = x * 16) : lin4 nw xp (ix4 r l i j) = pl (hgt w) (inc w) x := by
  refine lin_at _ _ _ _ rfl rfl rfl rfl nw w hn xp _ (ix5 r l i j 0) (fun c => ?_) (fun v => by pointwise) hx hj
  obtain rfl : c = ⟨0, by decide⟩ := Subsingleton.elim (α := Fin 1) _ _
  funext b
  match b with
  | ⟨0, _⟩ => rfl
  | ⟨1, _⟩ => rfl
  | ⟨2, _⟩ => rfl
  | ⟨3, _⟩ => rfl
  | ⟨4, _⟩ => rfl

theorem lin1_at (nw : FVec Ideal S17 .f32) (w : Fin 17 → EReal) (hn : ∀ k : Fin 17, nw (ix1 k) = inc w k.val) (xp : FVec Ideal S4096x1 .f32)
    (r : Fin 4096) {x : EReal} (hx : Unit01 x) (hj : xp (ix2 r 0) = x * 16) : lin1 nw xp (ix2 r 0) = pl (hgt w) (inc w) x := by
  refine lin_at _ _ _ _ rfl rfl rfl rfl nw w hn xp _ (ix3 r 0 0) (fun c => ?_) (fun v => by pointwise) hx hj
  obtain rfl : c = ⟨0, by decide⟩ := Subsingleton.elim (α := Fin 1) _ _
  funext b
  match b with
  | ⟨0, _⟩ => rfl
  | ⟨1, _⟩ => rfl
  | ⟨2, _⟩ => rfl

variable (hA : ∀ i, ∃ y : ℝ, rA V0 i = y) (hok : ∀ r, (refRow V0 r).Ok)
include hA hok

/-! ### The similarities -/

theorem v200_eq : res_main_v200 V0 = mulf (lin3 (res_main_v141 V0) (res_main_v144 V0)) (lin3 (res_main_v173 V0) (res_main_v176 V0)) := rfl

theorem ref_v200 (r : Fin 4096) (i j : Fin 10) : Unit01 (res_main_v200 V0 (ix3 r i j)) := by
  have hd := hok r
  have e1 : res_main_v144 V0 (ix3 r i j) = (refRow V0 r).att i * (refRow V0 r).att j * 16 := by
    unfold res_main_v144
    pointwise [ref_v12 V0 hA]
    rw [ofBits_16]
  have e2 : res_main_v176 V0 (ix3 r i j) = (refRow V0 r).gap i j * 16 := by
    unfold res_main_v176
    pointwise [ref_v70 V0 hA]
    rw [ofBits_16]
  rw [v200_eq V0 hA hok]
  pointwise [lin3_at _ _ (fun k => (ref_nw V0 r k).2.2.2.1) _ r i j ((hd.att_unit i).mul (hd.att_unit j)) e1, lin3_at _ _ (fun k => (ref_nw V0 r k).2.2.2.2.1) _ r i j (In.gap_unit i j) e2]
  exact (hd.P_unit 3 ((hd.att_unit i).mul (hd.att_unit j))).mul (hd.P_unit 4 (In.gap_unit i j))

theorem v280_eq : res_main_v280 V0 = lin4 (res_main_v254 V0) (res_main_v257 V0) := rfl

/-- A row's similarity to itself is one. -/
theorem ref_v280 (r : Fin 4096) (l i j : Fin 10) : res_main_v280 V0 (ix4 r l i j) = (1 : EReal) := by
  have hd := hok r
  have e1 : res_main_v257 V0 (ix4 r l i j) = (1 : EReal) * 16 := by
    obtain ⟨y, hy, -⟩ := ref_v200 V0 hA hok r l j
    unfold res_main_v257
    pointwise [hy]
    rw [ofBits_16]
    exact (congrArg (fun z : EReal => z * 16) (one_less_self y)).trans (one_mul _)
  rw [v280_eq V0 hA hok, lin4_at _ _ (fun k => (ref_nw V0 r k).2.2.1.2) _ r l i j Unit01.one e1]
  exact (hd.tab 2).at_one

theorem v311_eq : res_main_v311 V0 = Host.reduceAdd (mulf (lin3 (res_main_v220 V0) (res_main_v223 V0)) (mulf (mulf (mulf (mulf (mulf (mulf (mulf (mulf (mulf
    (shapeCast _ (extractStridedSlice S4096x1x10x10 ![0, 0, 0, 0] (res_main_v280 V0) slices_S4096x10x10x10_S4096x1x10x10_0_0_0_0) shapeCasts_S4096x1x10x10_S4096x10x10)
    (shapeCast _ (extractStridedSlice S4096x1x10x10 ![0, 1, 0, 0] (res_main_v280 V0) slices_S4096x10x10x10_S4096x1x10x10_0_1_0_0) shapeCasts_S4096x1x10x10_S4096x10x10))
    (shapeCast _ (extractStridedSlice S4096x1x10x10 ![0, 2, 0, 0] (res_main_v280 V0) slices_S4096x10x10x10_S4096x1x10x10_0_2_0_0) shapeCasts_S4096x1x10x10_S4096x10x10))
    (shapeCast _ (extractStridedSlice S4096x1x10x10 ![0, 3, 0, 0] (res_main_v280 V0) slices_S4096x10x10x10_S4096x1x10x10_0_3_0_0) shapeCasts_S4096x1x10x10_S4096x10x10))
    (shapeCast _ (extractStridedSlice S4096x1x10x10 ![0, 4, 0, 0] (res_main_v280 V0) slices_S4096x10x10x10_S4096x1x10x10_0_4_0_0) shapeCasts_S4096x1x10x10_S4096x10x10))
    (shapeCast _ (extractStridedSlice S4096x1x10x10 ![0, 5, 0, 0] (res_main_v280 V0) slices_S4096x10x10x10_S4096x1x10x10_0_5_0_0) shapeCasts_S4096x1x10x10_S4096x10x10))
    (shapeCast _ (extractStridedSlice S4096x1x10x10 ![0, 6, 0, 0] (res_main_v280 V0) slices_S4096x10x10x10_S4096x1x10x10_0_6_0_0) shapeCasts_S4096x1x10x10_S4096x10x10))
    (shapeCast _ (extractStridedSlice S4096x1x10x10 ![0, 7, 0, 0] (res_main_v280 V0) slices_S4096x10x10x10_S4096x1x10x10_0_7_0_0) shapeCasts_S4096x1x10x10_S4096x10x10))
    (shapeCast _ (extractStridedSlice S4096x1x10x10 ![0, 8, 0, 0] (res_main_v280 V0) slices_S4096x10x10x10_S4096x1x10x10_0_8_0_0) shapeCasts_S4096x1x10x10_S4096x10x10))
    (shapeCast _ (extractStridedSlice S4096x1x10x10 ![0, 9, 0, 0] (res_main_v280 V0) slices_S4096x10x10x10_S4096x1x10x10_0_9_0_0) shapeCasts_S4096x1x10x10_S4096x10x10)))
    (constant S_ .f32 0x00000000#32) reducesTo_S4096x10x10_S4096x10_d2 h_S_ := rfl

theorem ref_near (r : Fin 4096) (i j : Fin 10) : lin3 (res_main_v220 V0) (res_main_v223 V0) (ix3 r i j) = (refRow V0 r).near i j := by
  have hd := hok r
  refine lin3_at _ _ (fun k => (ref_nw V0 r k).2.2.1.1) _ r i j ((hd.att_unit i).gap (hd.att_unit j)) ?_
  unfold res_main_v223
  pointwise [ref_v7 V0 hA]
  rw [ofBits_16]
  rfl

theorem ref_v311 (r : Fin 4096) (i : Fin 10) : res_main_v311 V0 (ix2 r i) = (refRow V0 r).s i := by
  rw [v311_eq V0 hA hok]
  pointwise [ref_near V0 hA hok, ref_v280 V0 hA hok]
  rfl

/-! ### The count -/

theorem ref_score0 (r : Fin 4096) (i j : Fin 10) : lin3 (res_main_v76 V0) (res_main_v79 V0) (ix3 r i j)
    = (refRow V0 r).P 0 ((refRow V0 r).att i * (refRow V0 r).att j) := by
  have hd := hok r
  refine lin3_at _ _ (fun k => (ref_nw V0 r k).1.1) _ r i j ((hd.att_unit i).mul (hd.att_unit j)) ?_
  unfold res_main_v79
  pointwise [ref_v12 V0 hA]
  rw [ofBits_16]

theorem ref_score1 (r : Fin 4096) (i j : Fin 10) : lin3 (res_main_v108 V0) (res_main_v111 V0) (ix3 r i j)
    = (refRow V0 r).P 1 ((refRow V0 r).gap i j) := by
  refine lin3_at _ _ (fun k => (ref_nw V0 r k).2.1) _ r i j (In.gap_unit i j) ?_
  unfold res_main_v111
  pointwise [ref_v70 V0 hA]
  rw [ofBits_16]

theorem ref_fix (r : Fin 4096) (i : Fin 10) : lin2 (res_main_v324 V0) (res_main_v327 V0) (ix2 r i) = (refRow V0 r).fix i := by
  have hd := hok r
  refine lin2_at _ _ (fun k => (ref_nw V0 r k).1.2) _ r i ((hd.att_unit i).mul (hd.att_unit i)) ?_
  unfold res_main_v327
  pointwise [ref_v7 V0 hA]
  rw [ofBits_16]

theorem v357_eq : res_main_v357 V0 = addf (broadcastInDim S4096x1 ![0] bcast_S4096_S4096x1_0 (Host.reduceAdd (Host.reduceAdd
      (Host.divf (mulf (lin3 (res_main_v76 V0) (res_main_v79 V0)) (lin3 (res_main_v108 V0) (res_main_v111 V0)))
        (mulf (broadcastInDim S4096x10x10 ![0, 1, 2] bcast_S4096x10x1_S4096x10x10_0_1_2 (broadcastInDim S4096x10x1 ![0, 1] bcast_S4096x10_S4096x10x1_0_1 (res_main_v311 V0)))
          (broadcastInDim S4096x10x10 ![0, 1, 2] bcast_S4096x1x10_S4096x10x10_0_1_2 (broadcastInDim S4096x1x10 ![0, 2] bcast_S4096x10_S4096x1x10_0_2 (res_main_v311 V0)))))
      (constant S_ .f32 0x00000000#32) reducesTo_S4096x10x10_S4096x10_d2 h_S_) (constant S_ .f32 0x00000000#32) reducesTo_S4096x10_S4096_d1 h_S_))
    (broadcastInDim S4096x1 ![0] bcast_S4096_S4096x1_0 (Host.reduceAdd (Host.divf (lin2 (res_main_v324 V0) (res_main_v327 V0)) (res_main_v311 V0))
      (constant S_ .f32 0x00000000#32) reducesTo_S4096x10_S4096_d1 h_S_)) := rfl

theorem ref_v357 (r : Fin 4096) : res_main_v357 V0 (ix2 r 0) = (refRow V0 r).edges := by
  rw [v357_eq V0 hA hok]
  pointwise [ref_v311 V0 hA hok, ref_score0 V0 hA hok, ref_score1 V0 hA hok, ref_fix V0 hA hok]
  rfl

theorem ref_v361 (r : Fin 4096) : res_main_v361 V0 (ix2 r 0) = (refRow V0 r).count := by
  unfold res_main_v361
  pointwise [ref_v357 V0 hA hok]
  rw [word_zero, word_ten]
  rfl

end Cert.Proof

end
-- ==== Proof.RefOut.lean ====
/- The reference's result, entry by entry. -/
module

public import proofs.«01_k».proof.Proof.RefScore
public import Idealize.ShloMosaic.Lib.Routing.OpsSet

@[expose] public section

noncomputable section

namespace Cert.Proof

open Cert.ReferenceIdeal Cert.ReferenceIdeal.Gen Cert.ReferenceIdeal.Value
open Idealize.ShloMosaic
open scoped BigOperators

/-! ### A row with a single one -/

/-- Ones written into zeros at the places the two index arrays name. -/
abbrev hot (a b : IVec S4096x1 32) : FVec Ideal S4096x11 .f32 :=
  Host.scatter scatter_S4096x11_S4096x1x2_S4096x1_n_01_01_2 (fun _ b => b) (broadcastInDim S4096x11 ![] bcast_S_S4096x11 (constant S_ .f32 0x00000000#32))
    (concatenate S4096x1x2 2 [⟨S4096x1x1, (broadcastInDim S4096x1x1 ![0, 1] bcast_S4096x1_S4096x1x1_0_1 (select (cmpi .slt a (broadcastInDim S4096x1 ![] bcast_S_S4096x1 (constantI S_ 32 0#32))) (addi a (broadcastInDim S4096x1 ![] bcast_S_S4096x1 (constantI S_ 32 4096#32))) a))⟩,
      ⟨S4096x1x1, (broadcastInDim S4096x1x1 ![0, 1] bcast_S4096x1_S4096x1x1_0_1 (select (cmpi .slt b (broadcastInDim S4096x1 ![] bcast_S_S4096x1 (constantI S_ 32 0#32))) (addi b (broadcastInDim S4096x1 ![] bcast_S_S4096x1 (constantI S_ 32 11#32))) b))⟩] concatenates_S4096x1x1_S4096x1x1_S4096x1x2_d2)
    (broadcastInDim S4096x1 ![] bcast_S_S4096x1 (constant S_ .f32 0x3F800000#32))

/-- A small word is not negative, so no length is added to it. -/
theorem kept_word (n : ℕ) (hn : n < 4096) (c : BitVec 32) :
    (Scalar.select (IntOp.cmpi .slt (BitVec.ofNat 32 n) 0#32) (BitVec.ofNat 32 n + c) (BitVec.ofNat 32 n)).toInt = n := by
  have h : (BitVec.ofNat 32 n).toInt = n := by
    rw [BitVec.toInt_eq_toNat_of_lt] <;> rw [BitVec.toNat_ofNat] <;> omega
  have : IntOp.cmpi .slt (BitVec.ofNat 32 n) 0#32 = 0#1 := by
    simp only [IntOp.cmpi, BitVec.slt, h, BitVec.toInt_zero]
    rw [decide_eq_false (by omega)]
    rfl
  rw [this, Scalar.select, if_neg (by decide), h]

/-- Each row's one stands where the second index says. -/
theorem hot_at (a b : IVec S4096x1 32) (n : Fin 4096 → ℕ) (hn : ∀ r, n r ≤ 10) (ha : ∀ r : Fin 4096, a (ix2 r 0) = BitVec.ofNat 32 r.val)
    (hb : ∀ r : Fin 4096, b (ix2 r 0) = BitVec.ofNat 32 (n r)) (r : Fin 4096) (t : Fin 11) :
    hot a b (ix2 r t) = if t.val = n r then (1 : EReal) else 0 := by
  have key : ∀ (q : Fin 4096) (z : Fin 1) (r : Fin 4096) (t : Fin 11), (scatter_S4096x11_S4096x1x2_S4096x1_n_01_01_2).resultIdx? (ValueIdx.ix2 q z)
      (concatenate S4096x1x2 2 [⟨S4096x1x1, (broadcastInDim S4096x1x1 ![0, 1] bcast_S4096x1_S4096x1x1_0_1 (select (cmpi .slt a (broadcastInDim S4096x1 ![] bcast_S_S4096x1 (constantI S_ 32 0#32))) (addi a (broadcastInDim S4096x1 ![] bcast_S_S4096x1 (constantI S_ 32 4096#32))) a))⟩,
      ⟨S4096x1x1, (broadcastInDim S4096x1x1 ![0, 1] bcast_S4096x1_S4096x1x1_0_1 (select (cmpi .slt b (broadcastInDim S4096x1 ![] bcast_S_S4096x1 (constantI S_ 32 0#32))) (addi b (broadcastInDim S4096x1 ![] bcast_S_S4096x1 (constantI S_ 32 11#32))) b))⟩] concatenates_S4096x1x1_S4096x1x1_S4096x1x2_d2)
      = some (ValueIdx.ix2 r t) ↔ q.val = r.val ∧ n q = t.val := by
    intro q z r t
    obtain rfl : z = 0 := Subsingleton.elim _ _
    rw [Routing.scatter_lands2 (R := 4096) (C := 11) (A := 4096) (B := 1) _ rfl rfl rfl]
    have e0 := kept_word q.val q.isLt 4096#32
    have e1 := kept_word (n q) (by have := hn q; omega) 11#32
    rw [← ha q] at e0
    rw [← hb q] at e1
    rw [← ix3_eq_valueIdx, ← ix3_eq_valueIdx]
    have f0 : ∀ y z : IVec S4096x1x1 32, concatenate S4096x1x2 2 [⟨S4096x1x1, y⟩, ⟨S4096x1x1, z⟩] concatenates_S4096x1x1_S4096x1x1_S4096x1x2_d2 (ix3 q 0 0) = y (ix3 q 0 0) := by
      intro y z
      pointwise
    have f1 : ∀ y z : IVec S4096x1x1 32, concatenate S4096x1x2 2 [⟨S4096x1x1, y⟩, ⟨S4096x1x1, z⟩] concatenates_S4096x1x1_S4096x1x1_S4096x1x2_d2 (ix3 q 0 1) = z (ix3 q 0 0) := by
      intro y z
      pointwise
    rw [f0, f1]
    pointwise
    have g0 : ∀ x y : ℤ, x = q.val → y = n q → ((x = r.val ∧ y = t.val) ↔ (q.val = r.val ∧ n q = t.val)) := by
      intro x y hx hy
      omega
    exact g0 _ _ e0 e1
  rw [ix2_eq_valueIdx]
  split
  · next h =>
    refine Routing.scatter_set_hit _ _ _ _ _ _ (fun k _ => ?_) (ValueIdx.ix2 r 0) ((key r 0 r t).2 ⟨rfl, h.symm⟩)
    exact ofBits_1
  · next h =>
    refine (Routing.scatter_set_miss _ _ _ _ _ fun k hk => ?_).trans ofBits_0
    obtain ⟨q, z, rfl⟩ : ∃ (q : Fin 4096) (z : Fin 1), k = ValueIdx.ix2 q z := ⟨k 0, k 1, ValueIdx.eq_ix2 k⟩
    obtain ⟨h1, h2⟩ := (key q z r t).1 hk
    obtain rfl : q = r := Fin.ext h1
    exact h h2.symm

/-- The clip to ten, at a small word. -/
theorem ten_word (n : ℕ) (hn : n ≤ 11) : IntOp.minsi 10#32 (IntOp.maxsi 0#32 (BitVec.ofNat 32 n)) = BitVec.ofNat 32 (min n 10) := by
  interval_cases n <;> decide

variable (V0 : Valuation τ sig (Elt Ideal)) (hA : ∀ i, ∃ y : ℝ, rA V0 i = y) (hok : ∀ r, (refRow V0 r).Ok)
include hA hok

theorem ref_v362 (r : Fin 4096) : res_main_v362 V0 (ix2 r 0) = BitVec.ofNat 32 (refRow V0 r).whole := by
  unfold res_main_v362
  show Ideal.fptosi 32 (res_main_v361 V0 (ix2 r 0)) = _
  rw [ref_v361 V0 hA hok]
  exact (hok r).count_word

theorem ref_v364 (r : Fin 4096) : res_main_v364 V0 (ix2 r 0) = (refRow V0 r).frac := by
  obtain ⟨y, hy, h0, -⟩ := (hok r).count_real
  unfold res_main_v364
  rw [frac_at _ _ _ h0 ((ref_v361 V0 hA hok r).trans hy), In.frac, In.whole, hy, EReal.toReal_coe]

theorem ref_v366 (r : Fin 4096) : res_main_v366 V0 (ix2 r 0) = BitVec.ofNat 32 r.val := by
  unfold res_main_v366
  pointwise

theorem ref_v368 (r : Fin 4096) : res_main_v368 V0 (ix2 r 0) = BitVec.ofNat 32 (min (refRow V0 r).whole 10) := by
  rw [← ten_word _ ((hok r).whole_le.trans (by decide)), ← ref_v362 V0 hA hok]
  rfl

theorem ref_v387 (r : Fin 4096) : res_main_v387 V0 (ix2 r 0) = BitVec.ofNat 32 (min ((refRow V0 r).whole + 1) 10) := by
  rw [← ten_word ((refRow V0 r).whole + 1) (Nat.succ_le_succ (hok r).whole_le), BitVec.ofNat_add, ← ref_v362 V0 hA hok]
  rfl

/-! ### How sure the row is -/

theorem ref_off2 (r : Fin 4096) (i : Fin 10) : lin2 (res_main_v415 V0) (res_main_v418 V0) (ix2 r i) = (refRow V0 r).P 5 ((refRow V0 r).att i) := by
  refine lin2_at _ _ (fun k => (ref_nw V0 r k).2.2.2.2.2.1) _ r i ((hok r).att_unit i) ?_
  unfold res_main_v418
  pointwise [ref_v7 V0 hA]
  rw [ofBits_16]

theorem ref_off3 (r : Fin 4096) (i j : Fin 10) : lin3 (res_main_v450 V0) (res_main_v453 V0) (ix3 r i j) = (refRow V0 r).P 6 ((refRow V0 r).gap i j) := by
  refine lin3_at _ _ (fun k => (ref_nw V0 r k).2.2.2.2.2.2.1) _ r i j (In.gap_unit i j) ?_
  unfold res_main_v453
  pointwise [ref_v70 V0 hA]
  rw [ofBits_16]

theorem v500_eq : res_main_v500 V0 = mulf (addf
    (Host.divf (broadcastInDim S4096x1 ![0] bcast_S4096_S4096x1_0 (Host.reduceAdd (Host.absf (subf (lin2 (res_main_v415 V0) (res_main_v418 V0))
      (broadcastInDim S4096x10 ![] bcast_S_S4096x10 (constant S_ .f32 0x3F000000#32)))) (constant S_ .f32 0x00000000#32) reducesTo_S4096x10_S4096_d1 h_S_)) (broadcastInDim S4096x1 ![] bcast_S_S4096x1 (constant S_ .f32 0x41200000#32)))
    (Host.divf (broadcastInDim S4096x1 ![0] bcast_S4096_S4096x1_0 (Host.reduceAdd (Host.divf (Host.reduceAdd (Host.absf (subf (lin3 (res_main_v450 V0) (res_main_v453 V0))
      (broadcastInDim S4096x10x10 ![] bcast_S_S4096x10x10 (constant S_ .f32 0x3F000000#32)))) (constant S_ .f32 0x00000000#32) reducesTo_S4096x10x10_S4096x10_d2 h_S_) (broadcastInDim S4096x10 ![] bcast_S_S4096x10 (constant S_ .f32 0x41200000#32)))
      (constant S_ .f32 0x00000000#32) reducesTo_S4096x10_S4096_d1 h_S_)) (broadcastInDim S4096x1 ![] bcast_S_S4096x1 (constant S_ .f32 0x41200000#32))))
    (broadcastInDim S4096x1 ![] bcast_S_S4096x1 (constant S_ .f32 0x41800000#32)) := rfl

theorem ref_v500 (r : Fin 4096) : res_main_v500 V0 (ix2 r 0) = (refRow V0 r).sure * 16 := by
  rw [v500_eq V0 hA hok]
  pointwise [ref_off2 V0 hA hok, ref_off3 V0 hA hok]
  rw [ofBits_16, ofBits_10, ofBits_half]
  rfl

/-- The reference's result as a function of the launch's arrays. -/
abbrev refTerm : FVec Ideal S4096x11 .f32 := mulf (broadcastInDim S4096x11 ![0, 1] bcast_S4096x1_S4096x11_0_1 (lin1 (res_main_v497 V0) (res_main_v500 V0)))
    (addf (mulf (broadcastInDim S4096x11 ![0, 1] bcast_S4096x1_S4096x11_0_1 (subf (broadcastInDim S4096x1 ![] bcast_S_S4096x1 (constant S_ .f32 0x3F800000#32)) (res_main_v364 V0))) (hot (res_main_v366 V0) (res_main_v368 V0)))
      (mulf (broadcastInDim S4096x11 ![0, 1] bcast_S4096x1_S4096x11_0_1 (res_main_v364 V0)) (hot (res_main_v366 V0) (res_main_v387 V0))))

theorem ref_last (r : Fin 4096) : lin1 (res_main_v497 V0) (res_main_v500 V0) (ix2 r 0) = (refRow V0 r).P 7 (refRow V0 r).sure :=
  lin1_at _ _ (fun k => (ref_nw V0 r k).2.2.2.2.2.2.2) _ r (hok r).sure_unit (ref_v500 V0 hA hok r)

/-- The reference's result is each row's histogram. -/
theorem ref_out (r : Fin 4096) (t : Fin 11) : refTerm V0 (ix2 r t) = (refRow V0 r).out t.val := by
  have h1 := hot_at _ _ (fun r => min (refRow V0 r).whole 10) (fun _ => min_le_right _ _) (ref_v366 V0 hA hok) (ref_v368 V0 hA hok)
  have h2 := hot_at _ _ (fun r => min ((refRow V0 r).whole + 1) 10) (fun _ => min_le_right _ _) (ref_v366 V0 hA hok) (ref_v387 V0 hA hok)
  pointwise [ref_last V0 hA hok, ref_v364 V0 hA hok, h1, h2]
  rfl

end Cert.Proof

end
-- ==== Proof.Equal.lean ====
/- The table the kernel returns is the reference's. -/
module

public import proofs.«01_k».proof.Proof.RefOut
public import proofs.«01_k».proof.Proof.Host

@[expose] public section

noncomputable section

namespace Cert.Proof

open Cert.ReferenceIdeal.Value
open Idealize.ShloMosaic
open scoped BigOperators

/-! ### Rows that agree on their hundred columns -/

theorem best_congr {a b : ℕ → EReal} (h : ∀ n < 100, a n = b n) : best a = best b :=
  Finset.sup_congr rfl fun n hn => h n (Finset.mem_range.1 hn)

theorem first_le {a b : ℕ → EReal} (h : ∀ n < 100, a n = b n) : first a ≤ first b :=
  Nat.find_min' _ ⟨first_lt b, (h _ (first_lt b)).trans ((at_first b).trans (best_congr h).symm)⟩

theorem first_congr {a b : ℕ → EReal} (h : ∀ n < 100, a n = b n) : first a = first b :=
  le_antisymm (first_le h) (first_le fun n hn => (h n hn).symm)

theorem step_congr {a b : ℕ → EReal} (h : ∀ n < 100, a n = b n) (k : ℕ) : ∀ n < 100, step^[k] a n = step^[k] b n := by
  induction k with
  | zero => exact h
  | succ k ih =>
    intro n hn
    rw [Function.iterate_succ_apply', Function.iterate_succ_apply', step, step, first_congr ih, ih n hn]

theorem pos_congr {a b : ℕ → EReal} (h : ∀ n < 100, a n = b n) (k : ℕ) : pos a k = pos b k := first_congr (step_congr h k)
theorem topv_congr {a b : ℕ → EReal} (h : ∀ n < 100, a n = b n) (k : ℕ) : topv a k = topv b k := best_congr (step_congr h k)

attribute [local irreducible] pos topv

variable (m : (ℓ : Loc Cert.KernelIdeal.nD Cert.KernelIdeal.τ Cert.KernelIdeal.sig) → Buf (Elt Ideal) ℓ) (d : Dev Cert.KernelIdeal.nD)
  (V0 : Valuation Cert.ReferenceIdeal.τ Cert.ReferenceIdeal.sig (Elt Ideal))

/-- On equal arrays the two programs' rows are the same. -/
theorem same_row (hB : rB V0 = aB m d) (hA : rA V0 = aA m d) (hW : rW V0 = aW m d) (r : Fin 1536) :
    rowOf (dW m d) (dA m d) (dB m d) r.val = refRow V0 ⟨r.val, by omega⟩ := by
  have he : ∀ n < 100, dA m d r.val n = entries V0 ⟨r.val, by omega⟩ n := fun n hn => by
    rw [entries, dif_pos hn, hA]
    exact dA_at m d r ⟨n, hn⟩
  unfold rowOf refRow
  rw [In.mk.injEq]
  refine ⟨?_, ?_, ?_⟩
  · funext w n
    rw [dW_eq, hW]
  · funext k
    exact topv_congr he _
  · funext k q
    rw [hB]
    refine (dB_at m d r ⟨pos (dA m d r.val) k.val, pos_lt _ _⟩ q).trans ?_
    exact congrArg (fun n : Fin 100 => aB m d (ix3 ⟨r.val, by omega⟩ q n)) (Fin.ext (pos_congr he _))

/-- The same for the rows as the block kernel's arrays give them. -/
theorem same_row' (hB : rB V0 = aB m d) (hA : rA V0 = aA m d) (hW : rW V0 = aW m d) (r : Fin 4096) : hostRow m d r = refRow V0 r := by
  have he : rowA m d r = entries V0 r := by
    funext n
    unfold rowA entries
    rw [hA]
  unfold hostRow refRow
  rw [In.mk.injEq]
  refine ⟨?_, ?_, ?_⟩
  · funext w n
    rw [hW]
  · funext k
    rw [he]
  · funext k q
    rw [hB, he]
    unfold rowB
    rw [dif_pos (pos_lt _ _)]

/-- Every row has finite scores and proper tables. -/
theorem rows_ok (ha : ∀ i, ∃ y : ℝ, rA V0 i = y) (hw : ∀ i, ∃ y : ℝ, rW V0 i = y) (hp : ∀ k : Fin 8, 0 < ∑ n : Fin 17, mag (rW V0 (ix2 k n)))
    (r : Fin 4096) : (refRow V0 r).Ok where
  tab w := table _ (fun i => hw _) (hp w)
  top k := topv_real (entries_real V0 ha r) (by omega)

/-- On equal arrays that the precondition allows, the two results are equal. -/
theorem same (hB : rB V0 = aB m d) (hA : rA V0 = aA m d) (hW : rW V0 = aW m d) (ha : ∀ i, ∃ y : ℝ, aA m d i = y)
    (hw : ∀ i, ∃ y : ℝ, aW m d i = y) (hp : ∀ k : Fin 8, 0 < ∑ n : Fin 17, mag (aW m d (ix2 k n))) : refTerm V0 = fin m (rows m) d := by
  have ha' : ∀ i, ∃ y : ℝ, rA V0 i = y := fun i => by rw [hA]; exact ha i
  have hw' : ∀ i, ∃ y : ℝ, rW V0 i = y := fun i => by rw [hW]; exact hw i
  have hp' : ∀ k : Fin 8, 0 < ∑ n : Fin 17, mag (rW V0 (ix2 k n)) := fun k => by rw [hW]; exact hp k
  funext i
  obtain ⟨r, t, rfl⟩ : ∃ (r : Fin 4096) (t : Fin 11), i = ix2 r t := ⟨i 0, i 1, ValueIdx.eq_ix2 i⟩
  rw [ref_out V0 ha' (rows_ok V0 ha' hw' hp') r t]
  by_cases hr : r.val < 1536
  · have h1 : fin m (rows m) d (ix2 r t) = res m d (ix1 ⟨r.val * 11 + t.val, by omega⟩) := by
      unfold fin
      pointwise
      rw [dif_pos hr]
    have h2 := same_row m d V0 hB hA hW ⟨r.val, hr⟩
    rw [h1, ← show rowOf (dW m d) (dA m d) (dB m d) r.val = refRow V0 r from h2]
    show _ = (rowOf (dW m d) (dA m d) (dB m d) ((r.val * 11 + t.val) / 11)).out ((r.val * 11 + t.val) % 11)
    rw [show (r.val * 11 + t.val) / 11 = r.val by omega, show (r.val * 11 + t.val) % 11 = t.val by omega]
  · have h1 : fin m (rows m) d (ix2 r t) = (rows m d (r.val - 1536)).out t.val := by
      unfold fin
      pointwise
      rw [dif_neg hr]
      rfl
    have h2 : rows m d (r.val - 1536) = hostRow m d r := by
      unfold rows
      rw [dif_pos (by omega)]
      exact congrArg (hostRow m d) (Fin.ext (by show 1536 + (r.val - 1536) = r.val; omega))
    rw [h1, h2, same_row' m d V0 hB hA hW]

end Cert.Proof

end
-- ==== Proof.lean ====
/- The proof of the claims about the kernel and the reference: the programs' runs, and that they return the same table. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_and_nonzero
public import proofs.«01_k».proof.Proof.Host
public import proofs.«01_k».proof.Proof.Equal
public import Idealize.ShloMosaic.Adequacy
public import Idealize.ShloMosaic.Init
public import Idealize.ShloMosaic.Lib.StableHlo.RunHlo
public import Idealize.ShloMosaic.Lib.Claim

@[expose] public section

noncomputable section

namespace Cert.Proof

open Idealize.ShloMosaic Idealize.SL.Sem

/-- The kernel runs, and leaves its arguments and its semaphores as they were. -/
theorem kernel_frame : Cert.quiescent_KernelIdeal := by
  intro m g hp
  refine θ_run_mono (run_main m g (rows m) (fun d => good m d (hp d)) (fed m hp)) fun r hr => ?_
  exact ⟨fun c => (hr.1 c).2, hr.2⟩

/-- The reference runs, and leaves its arguments and its semaphores as they were. -/
theorem reference_frame : Cert.quiescent_ReferenceIdeal := by
  intro m g _
  exact θ_run_mono (Cert.ReferenceIdeal.Value.run (F := Ideal) m g) fun r hr => ⟨fun c => (hr c).2, funext fun x => nomatch x.2⟩

/-- The reference runs as well where the precondition holds. -/
theorem reference_frame_pre : Cert.quiescent_ReferenceIdeal_pre_finite_and_nonzero := by
  intro m g _
  exact θ_run_mono (Cert.ReferenceIdeal.Value.run (F := Ideal) m g) fun r hr => ⟨fun c => (hr c).2, funext fun x => nomatch x.2⟩

/-- From equal arguments the two programs return equal tables. -/
theorem equal : Cert.algebraic_KernelIdeal_ReferenceIdeal := by
  intro m g m' g' hp he
  refine ⟨fun c => fin m (rows m) c, ?_, ?_⟩
  · exact θ_run_mono (run_main m g (rows m) (fun d => good m d (hp d)) (fed m hp)) fun r hr => hr.1
  · refine θ_run_mono (Cert.ReferenceIdeal.Value.run (F := Ideal) m' g') fun r hr c => ⟨(hr c).1.trans ?_, (hr c).2⟩
    obtain ⟨h1, h2, h3⟩ := pre_out _ _ _ (hp c)
    have hB : rB (StableHlo.launchContents m' c) = aB m c := (he c).1
    have hA : rA (StableHlo.launchContents m' c) = aA m c := (he c).2.1
    have hW : rW (StableHlo.launchContents m' c) = aW m c := (he c).2.2
    exact same m c (StableHlo.launchContents m' c) hB hA hW h1 h2 h3

/-- Everything claimed. -/
theorem claim : Cert.Claim :=
  ⟨inferInstance, inferInstance, inferInstance, kernel_frame, reference_frame, reference_frame_pre, equal⟩

end Cert.Proof

end
